-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def Pre_DownX (m : (ℓ : Loc Cert.DownX.nD Cert.DownX.τ Cert.DownX.sig) → Buf (Elt Bits) ℓ) : Prop :=
  True

def Pre_DownXIdeal (m : (ℓ : Loc Cert.DownXIdeal.nD Cert.DownXIdeal.τ Cert.DownXIdeal.sig) → Buf (Elt Ideal) ℓ) : Prop :=
  True

def Pre_DownXReferenceIdeal (m : (ℓ : Loc Cert.DownXReferenceIdeal.nD Cert.DownXReferenceIdeal.τ Cert.DownXReferenceIdeal.sig) → Buf (Elt Ideal) ℓ) : Prop :=
  True

def Pre_DownW (m : (ℓ : Loc Cert.DownW.nD Cert.DownW.τ Cert.DownW.sig) → Buf (Elt Bits) ℓ) : Prop :=
  True

def Pre_DownWIdeal (m : (ℓ : Loc Cert.DownWIdeal.nD Cert.DownWIdeal.τ Cert.DownWIdeal.sig) → Buf (Elt Ideal) ℓ) : Prop :=
  True

def Pre_DownWReferenceIdeal (m : (ℓ : Loc Cert.DownWReferenceIdeal.nD Cert.DownWReferenceIdeal.τ Cert.DownWReferenceIdeal.sig) → Buf (Elt Ideal) ℓ) : Prop :=
  True

def Pre_UpX (m : (ℓ : Loc Cert.UpX.nD Cert.UpX.τ Cert.UpX.sig) → Buf (Elt Bits) ℓ) : Prop :=
  True

def Pre_UpXIdeal (m : (ℓ : Loc Cert.UpXIdeal.nD Cert.UpXIdeal.τ Cert.UpXIdeal.sig) → Buf (Elt Ideal) ℓ) : Prop :=
  True

def Pre_UpXReferenceIdeal (m : (ℓ : Loc Cert.UpXReferenceIdeal.nD Cert.UpXReferenceIdeal.τ Cert.UpXReferenceIdeal.sig) → Buf (Elt Ideal) ℓ) : Prop :=
  True

def Pre_UpW (m : (ℓ : Loc Cert.UpW.nD Cert.UpW.τ Cert.UpW.sig) → Buf (Elt Bits) ℓ) : Prop :=
  True

def Pre_UpWIdeal (m : (ℓ : Loc Cert.UpWIdeal.nD Cert.UpWIdeal.τ Cert.UpWIdeal.sig) → Buf (Elt Ideal) ℓ) : Prop :=
  True

def Pre_UpWReferenceIdeal (m : (ℓ : Loc Cert.UpWReferenceIdeal.nD Cert.UpWReferenceIdeal.τ Cert.UpWReferenceIdeal.sig) → Buf (Elt Ideal) ℓ) : Prop :=
  True

def Pre_Up (m : (ℓ : Loc Cert.Up.nD Cert.Up.τ Cert.Up.sig) → Buf (Elt Bits) ℓ) : Prop :=
  True

def Pre_UpIdeal (m : (ℓ : Loc Cert.UpIdeal.nD Cert.UpIdeal.τ Cert.UpIdeal.sig) → Buf (Elt Ideal) ℓ) : Prop :=
  True

def Pre_UpReferenceIdeal (m : (ℓ : Loc Cert.UpReferenceIdeal.nD Cert.UpReferenceIdeal.τ Cert.UpReferenceIdeal.sig) → Buf (Elt Ideal) ℓ) : Prop :=
  True

def Pre_Down (m : (ℓ : Loc Cert.Down.nD Cert.Down.τ Cert.Down.sig) → Buf (Elt Bits) ℓ) : Prop :=
  True

def Pre_DownIdeal (m : (ℓ : Loc Cert.DownIdeal.nD Cert.DownIdeal.τ Cert.DownIdeal.sig) → Buf (Elt Ideal) ℓ) : Prop :=
  True

def Pre_DownReferenceIdeal (m : (ℓ : Loc Cert.DownReferenceIdeal.nD Cert.DownReferenceIdeal.τ Cert.DownReferenceIdeal.sig) → Buf (Elt Ideal) ℓ) : Prop :=
  True

def Pre_GdnW (m : (ℓ : Loc Cert.GdnW.nD Cert.GdnW.τ Cert.GdnW.sig) → Buf (Elt Bits) ℓ) : Prop :=
  True

def Pre_GdnWIdeal (m : (ℓ : Loc Cert.GdnWIdeal.nD Cert.GdnWIdeal.τ Cert.GdnWIdeal.sig) → Buf (Elt Ideal) ℓ) : Prop :=
  True

def Pre_GdnWReferenceIdeal (m : (ℓ : Loc Cert.GdnWReferenceIdeal.nD Cert.GdnWReferenceIdeal.τ Cert.GdnWReferenceIdeal.sig) → Buf (Elt Ideal) ℓ) : Prop :=
  True

def Pre_SsdW (m : (ℓ : Loc Cert.SsdW.nD Cert.SsdW.τ Cert.SsdW.sig) → Buf (Elt Bits) ℓ) : Prop :=
  True

def Pre_SsdWIdeal (m : (ℓ : Loc Cert.SsdWIdeal.nD Cert.SsdWIdeal.τ Cert.SsdWIdeal.sig) → Buf (Elt Ideal) ℓ) : Prop :=
  True

def Pre_SsdWReferenceIdeal (m : (ℓ : Loc Cert.SsdWReferenceIdeal.nD Cert.SsdWReferenceIdeal.τ Cert.SsdWReferenceIdeal.sig) → Buf (Elt Ideal) ℓ) : Prop :=
  True

def Pre_LruW (m : (ℓ : Loc Cert.LruW.nD Cert.LruW.τ Cert.LruW.sig) → Buf (Elt Bits) ℓ) : Prop :=
  True

def Pre_LruWIdeal (m : (ℓ : Loc Cert.LruWIdeal.nD Cert.LruWIdeal.τ Cert.LruWIdeal.sig) → Buf (Elt Ideal) ℓ) : Prop :=
  True

def Pre_LruWReferenceIdeal (m : (ℓ : Loc Cert.LruWReferenceIdeal.nD Cert.LruWReferenceIdeal.τ Cert.LruWReferenceIdeal.sig) → Buf (Elt Ideal) ℓ) : Prop :=
  True

def Pre_GateW (m : (ℓ : Loc Cert.GateW.nD Cert.GateW.τ Cert.GateW.sig) → Buf (Elt Bits) ℓ) : Prop :=
  True

def Pre_GateWIdeal (m : (ℓ : Loc Cert.GateWIdeal.nD Cert.GateWIdeal.τ Cert.GateWIdeal.sig) → Buf (Elt Ideal) ℓ) : Prop :=
  True

def Pre_GateWReferenceIdeal (m : (ℓ : Loc Cert.GateWReferenceIdeal.nD Cert.GateWReferenceIdeal.τ Cert.GateWReferenceIdeal.sig) → Buf (Elt Ideal) ℓ) : Prop :=
  True

def Pre_GdnX (m : (ℓ : Loc Cert.GdnX.nD Cert.GdnX.τ Cert.GdnX.sig) → Buf (Elt Bits) ℓ) : Prop :=
  True

def Pre_GdnXIdeal (m : (ℓ : Loc Cert.GdnXIdeal.nD Cert.GdnXIdeal.τ Cert.GdnXIdeal.sig) → Buf (Elt Ideal) ℓ) : Prop :=
  True

def Pre_GdnXReferenceIdeal (m : (ℓ : Loc Cert.GdnXReferenceIdeal.nD Cert.GdnXReferenceIdeal.τ Cert.GdnXReferenceIdeal.sig) → Buf (Elt Ideal) ℓ) : Prop :=
  True

def Pre_GdnBiasX (m : (ℓ : Loc Cert.GdnBiasX.nD Cert.GdnBiasX.τ Cert.GdnBiasX.sig) → Buf (Elt Bits) ℓ) : Prop :=
  True

def Pre_GdnBiasXIdeal (m : (ℓ : Loc Cert.GdnBiasXIdeal.nD Cert.GdnBiasXIdeal.τ Cert.GdnBiasXIdeal.sig) → Buf (Elt Ideal) ℓ) : Prop :=
  True

def Pre_GdnBiasXReferenceIdeal (m : (ℓ : Loc Cert.GdnBiasXReferenceIdeal.nD Cert.GdnBiasXReferenceIdeal.τ Cert.GdnBiasXReferenceIdeal.sig) → Buf (Elt Ideal) ℓ) : Prop :=
  True

def Pre_SsdX (m : (ℓ : Loc Cert.SsdX.nD Cert.SsdX.τ Cert.SsdX.sig) → Buf (Elt Bits) ℓ) : Prop :=
  True

def Pre_SsdXIdeal (m : (ℓ : Loc Cert.SsdXIdeal.nD Cert.SsdXIdeal.τ Cert.SsdXIdeal.sig) → Buf (Elt Ideal) ℓ) : Prop :=
  True

def Pre_SsdXReferenceIdeal (m : (ℓ : Loc Cert.SsdXReferenceIdeal.nD Cert.SsdXReferenceIdeal.τ Cert.SsdXReferenceIdeal.sig) → Buf (Elt Ideal) ℓ) : Prop :=
  True

def Pre_LruX (m : (ℓ : Loc Cert.LruX.nD Cert.LruX.τ Cert.LruX.sig) → Buf (Elt Bits) ℓ) : Prop :=
  True

def Pre_LruXIdeal (m : (ℓ : Loc Cert.LruXIdeal.nD Cert.LruXIdeal.τ Cert.LruXIdeal.sig) → Buf (Elt Ideal) ℓ) : Prop :=
  True

def Pre_LruXReferenceIdeal (m : (ℓ : Loc Cert.LruXReferenceIdeal.nD Cert.LruXReferenceIdeal.τ Cert.LruXReferenceIdeal.sig) → Buf (Elt Ideal) ℓ) : Prop :=
  True

def Pre_GateX (m : (ℓ : Loc Cert.GateX.nD Cert.GateX.τ Cert.GateX.sig) → Buf (Elt Bits) ℓ) : Prop :=
  True

def Pre_GateXIdeal (m : (ℓ : Loc Cert.GateXIdeal.nD Cert.GateXIdeal.τ Cert.GateXIdeal.sig) → Buf (Elt Ideal) ℓ) : Prop :=
  True

def Pre_GateXReferenceIdeal (m : (ℓ : Loc Cert.GateXReferenceIdeal.nD Cert.GateXReferenceIdeal.τ Cert.GateXReferenceIdeal.sig) → Buf (Elt Ideal) ℓ) : Prop :=
  True

def Pre_GdnIn (m : (ℓ : Loc Cert.GdnIn.nD Cert.GdnIn.τ Cert.GdnIn.sig) → Buf (Elt Bits) ℓ) : Prop :=
  True

def Pre_GdnInIdeal (m : (ℓ : Loc Cert.GdnInIdeal.nD Cert.GdnInIdeal.τ Cert.GdnInIdeal.sig) → Buf (Elt Ideal) ℓ) : Prop :=
  True

def Pre_GdnInReferenceIdeal (m : (ℓ : Loc Cert.GdnInReferenceIdeal.nD Cert.GdnInReferenceIdeal.τ Cert.GdnInReferenceIdeal.sig) → Buf (Elt Ideal) ℓ) : Prop :=
  True

def Pre_SsdIn (m : (ℓ : Loc Cert.SsdIn.nD Cert.SsdIn.τ Cert.SsdIn.sig) → Buf (Elt Bits) ℓ) : Prop :=
  True

def Pre_SsdInIdeal (m : (ℓ : Loc Cert.SsdInIdeal.nD Cert.SsdInIdeal.τ Cert.SsdInIdeal.sig) → Buf (Elt Ideal) ℓ) : Prop :=
  True

def Pre_SsdInReferenceIdeal (m : (ℓ : Loc Cert.SsdInReferenceIdeal.nD Cert.SsdInReferenceIdeal.τ Cert.SsdInReferenceIdeal.sig) → Buf (Elt Ideal) ℓ) : Prop :=
  True

def Pre_LruIn (m : (ℓ : Loc Cert.LruIn.nD Cert.LruIn.τ Cert.LruIn.sig) → Buf (Elt Bits) ℓ) : Prop :=
  True

def Pre_LruInIdeal (m : (ℓ : Loc Cert.LruInIdeal.nD Cert.LruInIdeal.τ Cert.LruInIdeal.sig) → Buf (Elt Ideal) ℓ) : Prop :=
  True

def Pre_LruInReferenceIdeal (m : (ℓ : Loc Cert.LruInReferenceIdeal.nD Cert.LruInReferenceIdeal.τ Cert.LruInReferenceIdeal.sig) → Buf (Elt Ideal) ℓ) : Prop :=
  True

def Pre_GateIn (m : (ℓ : Loc Cert.GateIn.nD Cert.GateIn.τ Cert.GateIn.sig) → Buf (Elt Bits) ℓ) : Prop :=
  True

def Pre_GateInIdeal (m : (ℓ : Loc Cert.GateInIdeal.nD Cert.GateInIdeal.τ Cert.GateInIdeal.sig) → Buf (Elt Ideal) ℓ) : Prop :=
  True

def Pre_GateInReferenceIdeal (m : (ℓ : Loc Cert.GateInReferenceIdeal.nD Cert.GateInReferenceIdeal.τ Cert.GateInReferenceIdeal.sig) → Buf (Elt Ideal) ℓ) : Prop :=
  True

def Pre_OutX (m : (ℓ : Loc Cert.OutX.nD Cert.OutX.τ Cert.OutX.sig) → Buf (Elt Bits) ℓ) : Prop :=
  True

def Pre_OutXIdeal (m : (ℓ : Loc Cert.OutXIdeal.nD Cert.OutXIdeal.τ Cert.OutXIdeal.sig) → Buf (Elt Ideal) ℓ) : Prop :=
  True

def Pre_OutXReferenceIdeal (m : (ℓ : Loc Cert.OutXReferenceIdeal.nD Cert.OutXReferenceIdeal.τ Cert.OutXReferenceIdeal.sig) → Buf (Elt Ideal) ℓ) : Prop :=
  True

def Pre_OutW (m : (ℓ : Loc Cert.OutW.nD Cert.OutW.τ Cert.OutW.sig) → Buf (Elt Bits) ℓ) : Prop :=
  True

def Pre_OutWIdeal (m : (ℓ : Loc Cert.OutWIdeal.nD Cert.OutWIdeal.τ Cert.OutWIdeal.sig) → Buf (Elt Ideal) ℓ) : Prop :=
  True

def Pre_OutWReferenceIdeal (m : (ℓ : Loc Cert.OutWReferenceIdeal.nD Cert.OutWReferenceIdeal.τ Cert.OutWReferenceIdeal.sig) → Buf (Elt Ideal) ℓ) : Prop :=
  True

def Pre_Out (m : (ℓ : Loc Cert.Out.nD Cert.Out.τ Cert.Out.sig) → Buf (Elt Bits) ℓ) : Prop :=
  True

def Pre_OutIdeal (m : (ℓ : Loc Cert.OutIdeal.nD Cert.OutIdeal.τ Cert.OutIdeal.sig) → Buf (Elt Ideal) ℓ) : Prop :=
  True

def Pre_OutReferenceIdeal (m : (ℓ : Loc Cert.OutReferenceIdeal.nD Cert.OutReferenceIdeal.τ Cert.OutReferenceIdeal.sig) → Buf (Elt Ideal) ℓ) : Prop :=
  True

def Pre_MergeX (m : (ℓ : Loc Cert.MergeX.nD Cert.MergeX.τ Cert.MergeX.sig) → Buf (Elt Bits) ℓ) : Prop :=
  True

def Pre_MergeXIdeal (m : (ℓ : Loc Cert.MergeXIdeal.nD Cert.MergeXIdeal.τ Cert.MergeXIdeal.sig) → Buf (Elt Ideal) ℓ) : Prop :=
  True

def Pre_MergeXReferenceIdeal (m : (ℓ : Loc Cert.MergeXReferenceIdeal.nD Cert.MergeXReferenceIdeal.τ Cert.MergeXReferenceIdeal.sig) → Buf (Elt Ideal) ℓ) : Prop :=
  True

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeReferenceIdeal (m : (ℓ : Loc Cert.MergeReferenceIdeal.nD Cert.MergeReferenceIdeal.τ Cert.MergeReferenceIdeal.sig) → Buf (Elt Ideal) ℓ) : Prop :=
  True

def Pre_AdaW (m : (ℓ : Loc Cert.AdaW.nD Cert.AdaW.τ Cert.AdaW.sig) → Buf (Elt Bits) ℓ) : Prop :=
  True

def Pre_AdaWIdeal (m : (ℓ : Loc Cert.AdaWIdeal.nD Cert.AdaWIdeal.τ Cert.AdaWIdeal.sig) → Buf (Elt Ideal) ℓ) : Prop :=
  True

def Pre_AdaWReferenceIdeal (m : (ℓ : Loc Cert.AdaWReferenceIdeal.nD Cert.AdaWReferenceIdeal.τ Cert.AdaWReferenceIdeal.sig) → Buf (Elt Ideal) ℓ) : Prop :=
  True

def Pre_Mod (m : (ℓ : Loc Cert.Mod.nD Cert.Mod.τ Cert.Mod.sig) → Buf (Elt Bits) ℓ) : Prop :=
  True

def Pre_ModIdeal (m : (ℓ : Loc Cert.ModIdeal.nD Cert.ModIdeal.τ Cert.ModIdeal.sig) → Buf (Elt Ideal) ℓ) : Prop :=
  True

def Pre_ModReferenceIdeal (m : (ℓ : Loc Cert.ModReferenceIdeal.nD Cert.ModReferenceIdeal.τ Cert.ModReferenceIdeal.sig) → Buf (Elt Ideal) ℓ) : Prop :=
  True

def Pre_AdamAda (m : (ℓ : Loc Cert.AdamAda.nD Cert.AdamAda.τ Cert.AdamAda.sig) → Buf (Elt Bits) ℓ) : Prop :=
  True

def Pre_AdamAdaIdeal (m : (ℓ : Loc Cert.AdamAdaIdeal.nD Cert.AdamAdaIdeal.τ Cert.AdamAdaIdeal.sig) → Buf (Elt Ideal) ℓ) : Prop :=
  True

def Pre_AdamAdaReferenceIdeal (m : (ℓ : Loc Cert.AdamAdaReferenceIdeal.nD Cert.AdamAdaReferenceIdeal.τ Cert.AdamAdaReferenceIdeal.sig) → Buf (Elt Ideal) ℓ) : Prop :=
  True

def Pre_AdamIn (m : (ℓ : Loc Cert.AdamIn.nD Cert.AdamIn.τ Cert.AdamIn.sig) → Buf (Elt Bits) ℓ) : Prop :=
  True

def Pre_AdamInIdeal (m : (ℓ : Loc Cert.AdamInIdeal.nD Cert.AdamInIdeal.τ Cert.AdamInIdeal.sig) → Buf (Elt Ideal) ℓ) : Prop :=
  True

def Pre_AdamInReferenceIdeal (m : (ℓ : Loc Cert.AdamInReferenceIdeal.nD Cert.AdamInReferenceIdeal.τ Cert.AdamInReferenceIdeal.sig) → Buf (Elt Ideal) ℓ) : Prop :=
  True

def Pre_AdamBranch (m : (ℓ : Loc Cert.AdamBranch.nD Cert.AdamBranch.τ Cert.AdamBranch.sig) → Buf (Elt Bits) ℓ) : Prop :=
  True

def Pre_AdamBranchIdeal (m : (ℓ : Loc Cert.AdamBranchIdeal.nD Cert.AdamBranchIdeal.τ Cert.AdamBranchIdeal.sig) → Buf (Elt Ideal) ℓ) : Prop :=
  True

def Pre_AdamBranchReferenceIdeal (m : (ℓ : Loc Cert.AdamBranchReferenceIdeal.nD Cert.AdamBranchReferenceIdeal.τ Cert.AdamBranchReferenceIdeal.sig) → Buf (Elt Ideal) ℓ) : Prop :=
  True

def Pre_AdamOut (m : (ℓ : Loc Cert.AdamOut.nD Cert.AdamOut.τ Cert.AdamOut.sig) → Buf (Elt Bits) ℓ) : Prop :=
  True

def Pre_AdamOutIdeal (m : (ℓ : Loc Cert.AdamOutIdeal.nD Cert.AdamOutIdeal.τ Cert.AdamOutIdeal.sig) → Buf (Elt Ideal) ℓ) : Prop :=
  True

def Pre_AdamOutReferenceIdeal (m : (ℓ : Loc Cert.AdamOutReferenceIdeal.nD Cert.AdamOutReferenceIdeal.τ Cert.AdamOutReferenceIdeal.sig) → Buf (Elt Ideal) ℓ) : Prop :=
  True

def Pre_AdamUp (m : (ℓ : Loc Cert.AdamUp.nD Cert.AdamUp.τ Cert.AdamUp.sig) → Buf (Elt Bits) ℓ) : Prop :=
  True

def Pre_AdamUpIdeal (m : (ℓ : Loc Cert.AdamUpIdeal.nD Cert.AdamUpIdeal.τ Cert.AdamUpIdeal.sig) → Buf (Elt Ideal) ℓ) : Prop :=
  True

def Pre_AdamUpReferenceIdeal (m : (ℓ : Loc Cert.AdamUpReferenceIdeal.nD Cert.AdamUpReferenceIdeal.τ Cert.AdamUpReferenceIdeal.sig) → Buf (Elt Ideal) ℓ) : Prop :=
  True

def Pre_AdamSmall (m : (ℓ : Loc Cert.AdamSmall.nD Cert.AdamSmall.τ Cert.AdamSmall.sig) → Buf (Elt Bits) ℓ) : Prop :=
  True

def Pre_AdamSmallIdeal (m : (ℓ : Loc Cert.AdamSmallIdeal.nD Cert.AdamSmallIdeal.τ Cert.AdamSmallIdeal.sig) → Buf (Elt Ideal) ℓ) : Prop :=
  True

def Pre_AdamSmallReferenceIdeal (m : (ℓ : Loc Cert.AdamSmallReferenceIdeal.nD Cert.AdamSmallReferenceIdeal.τ Cert.AdamSmallReferenceIdeal.sig) → Buf (Elt Ideal) ℓ) : Prop :=
  True

def Pre_AdamConv (m : (ℓ : Loc Cert.AdamConv.nD Cert.AdamConv.τ Cert.AdamConv.sig) → Buf (Elt Bits) ℓ) : Prop :=
  True

def Pre_AdamConvIdeal (m : (ℓ : Loc Cert.AdamConvIdeal.nD Cert.AdamConvIdeal.τ Cert.AdamConvIdeal.sig) → Buf (Elt Ideal) ℓ) : Prop :=
  True

def Pre_AdamConvReferenceIdeal (m : (ℓ : Loc Cert.AdamConvReferenceIdeal.nD Cert.AdamConvReferenceIdeal.τ Cert.AdamConvReferenceIdeal.sig) → Buf (Elt Ideal) ℓ) : Prop :=
  True

def Pre_Norm1X (m : (ℓ : Loc Cert.Norm1X.nD Cert.Norm1X.τ Cert.Norm1X.sig) → Buf (Elt Bits) ℓ) : Prop :=
  True

def Pre_Norm1XIdeal (m : (ℓ : Loc Cert.Norm1XIdeal.nD Cert.Norm1XIdeal.τ Cert.Norm1XIdeal.sig) → Buf (Elt Ideal) ℓ) : Prop :=
  True

def Pre_Norm1XReferenceIdeal (m : (ℓ : Loc Cert.Norm1XReferenceIdeal.nD Cert.Norm1XReferenceIdeal.τ Cert.Norm1XReferenceIdeal.sig) → Buf (Elt Ideal) ℓ) : Prop :=
  True

def Pre_Norm2X (m : (ℓ : Loc Cert.Norm2X.nD Cert.Norm2X.τ Cert.Norm2X.sig) → Buf (Elt Bits) ℓ) : Prop :=
  True

def Pre_Norm2XIdeal (m : (ℓ : Loc Cert.Norm2XIdeal.nD Cert.Norm2XIdeal.τ Cert.Norm2XIdeal.sig) → Buf (Elt Ideal) ℓ) : Prop :=
  True

def Pre_Norm2XReferenceIdeal (m : (ℓ : Loc Cert.Norm2XReferenceIdeal.nD Cert.Norm2XReferenceIdeal.τ Cert.Norm2XReferenceIdeal.sig) → Buf (Elt Ideal) ℓ) : Prop :=
  True

def Pre_ResidX (m : (ℓ : Loc Cert.ResidX.nD Cert.ResidX.τ Cert.ResidX.sig) → Buf (Elt Bits) ℓ) : Prop :=
  True

def Pre_ResidXIdeal (m : (ℓ : Loc Cert.ResidXIdeal.nD Cert.ResidXIdeal.τ Cert.ResidXIdeal.sig) → Buf (Elt Ideal) ℓ) : Prop :=
  True

def Pre_ResidXReferenceIdeal (m : (ℓ : Loc Cert.ResidXReferenceIdeal.nD Cert.ResidXReferenceIdeal.τ Cert.ResidXReferenceIdeal.sig) → Buf (Elt Ideal) ℓ) : Prop :=
  True

def Pre_Norm1 (m : (ℓ : Loc Cert.Norm1.nD Cert.Norm1.τ Cert.Norm1.sig) → Buf (Elt Bits) ℓ) : Prop :=
  True

def Pre_Norm1Ideal (m : (ℓ : Loc Cert.Norm1Ideal.nD Cert.Norm1Ideal.τ Cert.Norm1Ideal.sig) → Buf (Elt Ideal) ℓ) : Prop :=
  True

def Pre_Norm1ReferenceIdeal (m : (ℓ : Loc Cert.Norm1ReferenceIdeal.nD Cert.Norm1ReferenceIdeal.τ Cert.Norm1ReferenceIdeal.sig) → Buf (Elt Ideal) ℓ) : Prop :=
  True

def Pre_Norm2 (m : (ℓ : Loc Cert.Norm2.nD Cert.Norm2.τ Cert.Norm2.sig) → Buf (Elt Bits) ℓ) : Prop :=
  True

def Pre_Norm2Ideal (m : (ℓ : Loc Cert.Norm2Ideal.nD Cert.Norm2Ideal.τ Cert.Norm2Ideal.sig) → Buf (Elt Ideal) ℓ) : Prop :=
  True

def Pre_Norm2ReferenceIdeal (m : (ℓ : Loc Cert.Norm2ReferenceIdeal.nD Cert.Norm2ReferenceIdeal.τ Cert.Norm2ReferenceIdeal.sig) → Buf (Elt Ideal) ℓ) : Prop :=
  True

def Pre_Resid (m : (ℓ : Loc Cert.Resid.nD Cert.Resid.τ Cert.Resid.sig) → Buf (Elt Bits) ℓ) : Prop :=
  True

def Pre_ResidIdeal (m : (ℓ : Loc Cert.ResidIdeal.nD Cert.ResidIdeal.τ Cert.ResidIdeal.sig) → Buf (Elt Ideal) ℓ) : Prop :=
  True

def Pre_ResidReferenceIdeal (m : (ℓ : Loc Cert.ResidReferenceIdeal.nD Cert.ResidReferenceIdeal.τ Cert.ResidReferenceIdeal.sig) → Buf (Elt Ideal) ℓ) : Prop :=
  True

def Pre_LossHead (m : (ℓ : Loc Cert.LossHead.nD Cert.LossHead.τ Cert.LossHead.sig) → Buf (Elt Bits) ℓ) : Prop :=
  True

def Pre_LossHeadIdeal (m : (ℓ : Loc Cert.LossHeadIdeal.nD Cert.LossHeadIdeal.τ Cert.LossHeadIdeal.sig) → Buf (Elt Ideal) ℓ) : Prop :=
  True

def Pre_LossHeadReferenceIdeal (m : (ℓ : Loc Cert.LossHeadReferenceIdeal.nD Cert.LossHeadReferenceIdeal.τ Cert.LossHeadReferenceIdeal.sig) → Buf (Elt Ideal) ℓ) : Prop :=
  True

def Pre_LruOut (m : (ℓ : Loc Cert.LruOut.nD Cert.LruOut.τ Cert.LruOut.sig) → Buf (Elt Bits) ℓ) : Prop :=
  True

def Pre_LruOutIdeal (m : (ℓ : Loc Cert.LruOutIdeal.nD Cert.LruOutIdeal.τ Cert.LruOutIdeal.sig) → Buf (Elt Ideal) ℓ) : Prop :=
  True

def Pre_LruOutReferenceIdeal (m : (ℓ : Loc Cert.LruOutReferenceIdeal.nD Cert.LruOutReferenceIdeal.τ Cert.LruOutReferenceIdeal.sig) → Buf (Elt Ideal) ℓ) : Prop :=
  True

def Pre_Silu (m : (ℓ : Loc Cert.Silu.nD Cert.Silu.τ Cert.Silu.sig) → Buf (Elt Bits) ℓ) : Prop :=
  True

def Pre_SiluIdeal (m : (ℓ : Loc Cert.SiluIdeal.nD Cert.SiluIdeal.τ Cert.SiluIdeal.sig) → Buf (Elt Ideal) ℓ) : Prop :=
  True

def Pre_SiluReferenceIdeal (m : (ℓ : Loc Cert.SiluReferenceIdeal.nD Cert.SiluReferenceIdeal.τ Cert.SiluReferenceIdeal.sig) → Buf (Elt Ideal) ℓ) : Prop :=
  True

def Pre_AddSmall (m : (ℓ : Loc Cert.AddSmall.nD Cert.AddSmall.τ Cert.AddSmall.sig) → Buf (Elt Bits) ℓ) : Prop :=
  True

def Pre_AddSmallIdeal (m : (ℓ : Loc Cert.AddSmallIdeal.nD Cert.AddSmallIdeal.τ Cert.AddSmallIdeal.sig) → Buf (Elt Ideal) ℓ) : Prop :=
  True

def Pre_AddSmallReferenceIdeal (m : (ℓ : Loc Cert.AddSmallReferenceIdeal.nD Cert.AddSmallReferenceIdeal.τ Cert.AddSmallReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_DownX [hDownX : Cert.DownX.Facts] : Prop :=
  ∀ (m : (ℓ : Loc Cert.DownX.nD Cert.DownX.τ Cert.DownX.sig) → Buf (Elt Bits) ℓ) (g : Dev Cert.DownX.nD → PrngReg), Pre_DownX m →
    θ_run (Cert.DownX.defs (F := Bits)) (onTc (τ := Cert.DownX.τ) (Cert.DownX.main (F := Bits))) ⟨m, fun _ => 0, g⟩ (fun r => (∀ c : Dev Cert.DownX.nD,
      r.2.mem ((c.tc : Thread Cert.DownX.nD Cert.DownX.τ).loc Cert.DownX.main_arg0) = m ((c.tc : Thread Cert.DownX.nD Cert.DownX.τ).loc Cert.DownX.main_arg0)
      ∧ r.2.mem ((c.tc : Thread Cert.DownX.nD Cert.DownX.τ).loc Cert.DownX.main_arg1) = m ((c.tc : Thread Cert.DownX.nD Cert.DownX.τ).loc Cert.DownX.main_arg1)
      ∧ r.2.mem ((c.tc : Thread Cert.DownX.nD Cert.DownX.τ).loc Cert.DownX.main_arg2) = m ((c.tc : Thread Cert.DownX.nD Cert.DownX.τ).loc Cert.DownX.main_arg2))
      ∧ r.2.sem = fun _ => 0)

def quiescent_DownXIdeal [hDownXIdeal : Cert.DownXIdeal.Facts] : Prop :=
  ∀ (m : (ℓ : Loc Cert.DownXIdeal.nD Cert.DownXIdeal.τ Cert.DownXIdeal.sig) → Buf (Elt Ideal) ℓ) (g : Dev Cert.DownXIdeal.nD → PrngReg), Pre_DownXIdeal m →
    θ_run (Cert.DownXIdeal.defs (F := Ideal)) (onTc (τ := Cert.DownXIdeal.τ) (Cert.DownXIdeal.main (F := Ideal))) ⟨m, fun _ => 0, g⟩ (fun r => (∀ c : Dev Cert.DownXIdeal.nD,
      r.2.mem ((c.tc : Thread Cert.DownXIdeal.nD Cert.DownXIdeal.τ).loc Cert.DownXIdeal.main_arg0) = m ((c.tc : Thread Cert.DownXIdeal.nD Cert.DownXIdeal.τ).loc Cert.DownXIdeal.main_arg0)
      ∧ r.2.mem ((c.tc : Thread Cert.DownXIdeal.nD Cert.DownXIdeal.τ).loc Cert.DownXIdeal.main_arg1) = m ((c.tc : Thread Cert.DownXIdeal.nD Cert.DownXIdeal.τ).loc Cert.DownXIdeal.main_arg1)
      ∧ r.2.mem ((c.tc : Thread Cert.DownXIdeal.nD Cert.DownXIdeal.τ).loc Cert.DownXIdeal.main_arg2) = m ((c.tc : Thread Cert.DownXIdeal.nD Cert.DownXIdeal.τ).loc Cert.DownXIdeal.main_arg2))
      ∧ r.2.sem = fun _ => 0)

def quiescent_DownXReferenceIdeal [hDownXReferenceIdeal : Cert.DownXReferenceIdeal.Facts] : Prop :=
  ∀ (m : (ℓ : Loc Cert.DownXReferenceIdeal.nD Cert.DownXReferenceIdeal.τ Cert.DownXReferenceIdeal.sig) → Buf (Elt Ideal) ℓ) (g : Dev Cert.DownXReferenceIdeal.nD → PrngReg), Pre_DownXReferenceIdeal m →
    θ_run (Cert.DownXReferenceIdeal.defs (F := Ideal)) (onTc (τ := Cert.DownXReferenceIdeal.τ) (Cert.DownXReferenceIdeal.main (F := Ideal))) ⟨m, fun _ => 0, g⟩ (fun r => (∀ c : Dev Cert.DownXReferenceIdeal.nD,
      r.2.mem ((c.tc : Thread Cert.DownXReferenceIdeal.nD Cert.DownXReferenceIdeal.τ).loc Cert.DownXReferenceIdeal.main_arg0) = m ((c.tc : Thread Cert.DownXReferenceIdeal.nD Cert.DownXReferenceIdeal.τ).loc Cert.DownXReferenceIdeal.main_arg0)
      ∧ r.2.mem ((c.tc : Thread Cert.DownXReferenceIdeal.nD Cert.DownXReferenceIdeal.τ).loc Cert.DownXReferenceIdeal.main_arg1) = m ((c.tc : Thread Cert.DownXReferenceIdeal.nD Cert.DownXReferenceIdeal.τ).loc Cert.DownXReferenceIdeal.main_arg1)
      ∧ r.2.mem ((c.tc : Thread Cert.DownXReferenceIdeal.nD Cert.DownXReferenceIdeal.τ).loc Cert.DownXReferenceIdeal.main_arg2) = m ((c.tc : Thread Cert.DownXReferenceIdeal.nD Cert.DownXReferenceIdeal.τ).loc Cert.DownXReferenceIdeal.main_arg2))
      ∧ r.2.sem = fun _ => 0)

def quiescent_DownW [hDownW : Cert.DownW.Facts] : Prop :=
  ∀ (m : (ℓ : Loc Cert.DownW.nD Cert.DownW.τ Cert.DownW.sig) → Buf (Elt Bits) ℓ) (g : Dev Cert.DownW.nD → PrngReg), Pre_DownW m →
    θ_run (Cert.DownW.defs (F := Bits)) (onTc (τ := Cert.DownW.τ) (Cert.DownW.main (F := Bits))) ⟨m, fun _ => 0, g⟩ (fun r => (∀ c : Dev Cert.DownW.nD,
      r.2.mem ((c.tc : Thread Cert.DownW.nD Cert.DownW.τ).loc Cert.DownW.main_arg0) = m ((c.tc : Thread Cert.DownW.nD Cert.DownW.τ).loc Cert.DownW.main_arg0)
      ∧ r.2.mem ((c.tc : Thread Cert.DownW.nD Cert.DownW.τ).loc Cert.DownW.main_arg1) = m ((c.tc : Thread Cert.DownW.nD Cert.DownW.τ).loc Cert.DownW.main_arg1))
      ∧ r.2.sem = fun _ => 0)

def quiescent_DownWIdeal [hDownWIdeal : Cert.DownWIdeal.Facts] : Prop :=
  ∀ (m : (ℓ : Loc Cert.DownWIdeal.nD Cert.DownWIdeal.τ Cert.DownWIdeal.sig) → Buf (Elt Ideal) ℓ) (g : Dev Cert.DownWIdeal.nD → PrngReg), Pre_DownWIdeal m →
    θ_run (Cert.DownWIdeal.defs (F := Ideal)) (onTc (τ := Cert.DownWIdeal.τ) (Cert.DownWIdeal.main (F := Ideal))) ⟨m, fun _ => 0, g⟩ (fun r => (∀ c : Dev Cert.DownWIdeal.nD,
      r.2.mem ((c.tc : Thread Cert.DownWIdeal.nD Cert.DownWIdeal.τ).loc Cert.DownWIdeal.main_arg0) = m ((c.tc : Thread Cert.DownWIdeal.nD Cert.DownWIdeal.τ).loc Cert.DownWIdeal.main_arg0)
      ∧ r.2.mem ((c.tc : Thread Cert.DownWIdeal.nD Cert.DownWIdeal.τ).loc Cert.DownWIdeal.main_arg1) = m ((c.tc : Thread Cert.DownWIdeal.nD Cert.DownWIdeal.τ).loc Cert.DownWIdeal.main_arg1))
      ∧ r.2.sem = fun _ => 0)

def quiescent_DownWReferenceIdeal [hDownWReferenceIdeal : Cert.DownWReferenceIdeal.Facts] : Prop :=
  ∀ (m : (ℓ : Loc Cert.DownWReferenceIdeal.nD Cert.DownWReferenceIdeal.τ Cert.DownWReferenceIdeal.sig) → Buf (Elt Ideal) ℓ) (g : Dev Cert.DownWReferenceIdeal.nD → PrngReg), Pre_DownWReferenceIdeal m →
    θ_run (Cert.DownWReferenceIdeal.defs (F := Ideal)) (onTc (τ := Cert.DownWReferenceIdeal.τ) (Cert.DownWReferenceIdeal.main (F := Ideal))) ⟨m, fun _ => 0, g⟩ (fun r => (∀ c : Dev Cert.DownWReferenceIdeal.nD,
      r.2.mem ((c.tc : Thread Cert.DownWReferenceIdeal.nD Cert.DownWReferenceIdeal.τ).loc Cert.DownWReferenceIdeal.main_arg0) = m ((c.tc : Thread Cert.DownWReferenceIdeal.nD Cert.DownWReferenceIdeal.τ).loc Cert.DownWReferenceIdeal.main_arg0)
      ∧ r.2.mem ((c.tc : Thread Cert.DownWReferenceIdeal.nD Cert.DownWReferenceIdeal.τ).loc Cert.DownWReferenceIdeal.main_arg1) = m ((c.tc : Thread Cert.DownWReferenceIdeal.nD Cert.DownWReferenceIdeal.τ).loc Cert.DownWReferenceIdeal.main_arg1))
      ∧ r.2.sem = fun _ => 0)

def quiescent_UpX [hUpX : Cert.UpX.Facts] : Prop :=
  ∀ (m : (ℓ : Loc Cert.UpX.nD Cert.UpX.τ Cert.UpX.sig) → Buf (Elt Bits) ℓ) (g : Dev Cert.UpX.nD → PrngReg), Pre_UpX m →
    θ_run (Cert.UpX.defs (F := Bits)) (onTc (τ := Cert.UpX.τ) (Cert.UpX.main (F := Bits))) ⟨m, fun _ => 0, g⟩ (fun r => (∀ c : Dev Cert.UpX.nD,
      r.2.mem ((c.tc : Thread Cert.UpX.nD Cert.UpX.τ).loc Cert.UpX.main_arg0) = m ((c.tc : Thread Cert.UpX.nD Cert.UpX.τ).loc Cert.UpX.main_arg0)
      ∧ r.2.mem ((c.tc : Thread Cert.UpX.nD Cert.UpX.τ).loc Cert.UpX.main_arg1) = m ((c.tc : Thread Cert.UpX.nD Cert.UpX.τ).loc Cert.UpX.main_arg1))
      ∧ r.2.sem = fun _ => 0)

def quiescent_UpXIdeal [hUpXIdeal : Cert.UpXIdeal.Facts] : Prop :=
  ∀ (m : (ℓ : Loc Cert.UpXIdeal.nD Cert.UpXIdeal.τ Cert.UpXIdeal.sig) → Buf (Elt Ideal) ℓ) (g : Dev Cert.UpXIdeal.nD → PrngReg), Pre_UpXIdeal m →
    θ_run (Cert.UpXIdeal.defs (F := Ideal)) (onTc (τ := Cert.UpXIdeal.τ) (Cert.UpXIdeal.main (F := Ideal))) ⟨m, fun _ => 0, g⟩ (fun r => (∀ c : Dev Cert.UpXIdeal.nD,
      r.2.mem ((c.tc : Thread Cert.UpXIdeal.nD Cert.UpXIdeal.τ).loc Cert.UpXIdeal.main_arg0) = m ((c.tc : Thread Cert.UpXIdeal.nD Cert.UpXIdeal.τ).loc Cert.UpXIdeal.main_arg0)
      ∧ r.2.mem ((c.tc : Thread Cert.UpXIdeal.nD Cert.UpXIdeal.τ).loc Cert.UpXIdeal.main_arg1) = m ((c.tc : Thread Cert.UpXIdeal.nD Cert.UpXIdeal.τ).loc Cert.UpXIdeal.main_arg1))
      ∧ r.2.sem = fun _ => 0)

def quiescent_UpXReferenceIdeal [hUpXReferenceIdeal : Cert.UpXReferenceIdeal.Facts] : Prop :=
  ∀ (m : (ℓ : Loc Cert.UpXReferenceIdeal.nD Cert.UpXReferenceIdeal.τ Cert.UpXReferenceIdeal.sig) → Buf (Elt Ideal) ℓ) (g : Dev Cert.UpXReferenceIdeal.nD → PrngReg), Pre_UpXReferenceIdeal m →
    θ_run (Cert.UpXReferenceIdeal.defs (F := Ideal)) (onTc (τ := Cert.UpXReferenceIdeal.τ) (Cert.UpXReferenceIdeal.main (F := Ideal))) ⟨m, fun _ => 0, g⟩ (fun r => (∀ c : Dev Cert.UpXReferenceIdeal.nD,
      r.2.mem ((c.tc : Thread Cert.UpXReferenceIdeal.nD Cert.UpXReferenceIdeal.τ).loc Cert.UpXReferenceIdeal.main_arg0) = m ((c.tc : Thread Cert.UpXReferenceIdeal.nD Cert.UpXReferenceIdeal.τ).loc Cert.UpXReferenceIdeal.main_arg0)
      ∧ r.2.mem ((c.tc : Thread Cert.UpXReferenceIdeal.nD Cert.UpXReferenceIdeal.τ).loc Cert.UpXReferenceIdeal.main_arg1) = m ((c.tc : Thread Cert.UpXReferenceIdeal.nD Cert.UpXReferenceIdeal.τ).loc Cert.UpXReferenceIdeal.main_arg1))
      ∧ r.2.sem = fun _ => 0)

def quiescent_UpW [hUpW : Cert.UpW.Facts] : Prop :=
  ∀ (m : (ℓ : Loc Cert.UpW.nD Cert.UpW.τ Cert.UpW.sig) → Buf (Elt Bits) ℓ) (g : Dev Cert.UpW.nD → PrngReg), Pre_UpW m →
    θ_run (Cert.UpW.defs (F := Bits)) (onTc (τ := Cert.UpW.τ) (Cert.UpW.main (F := Bits))) ⟨m, fun _ => 0, g⟩ (fun r => (∀ c : Dev Cert.UpW.nD,
      r.2.mem ((c.tc : Thread Cert.UpW.nD Cert.UpW.τ).loc Cert.UpW.main_arg0) = m ((c.tc : Thread Cert.UpW.nD Cert.UpW.τ).loc Cert.UpW.main_arg0)
      ∧ r.2.mem ((c.tc : Thread Cert.UpW.nD Cert.UpW.τ).loc Cert.UpW.main_arg1) = m ((c.tc : Thread Cert.UpW.nD Cert.UpW.τ).loc Cert.UpW.main_arg1))
      ∧ r.2.sem = fun _ => 0)

def quiescent_UpWIdeal [hUpWIdeal : Cert.UpWIdeal.Facts] : Prop :=
  ∀ (m : (ℓ : Loc Cert.UpWIdeal.nD Cert.UpWIdeal.τ Cert.UpWIdeal.sig) → Buf (Elt Ideal) ℓ) (g : Dev Cert.UpWIdeal.nD → PrngReg), Pre_UpWIdeal m →
    θ_run (Cert.UpWIdeal.defs (F := Ideal)) (onTc (τ := Cert.UpWIdeal.τ) (Cert.UpWIdeal.main (F := Ideal))) ⟨m, fun _ => 0, g⟩ (fun r => (∀ c : Dev Cert.UpWIdeal.nD,
      r.2.mem ((c.tc : Thread Cert.UpWIdeal.nD Cert.UpWIdeal.τ).loc Cert.UpWIdeal.main_arg0) = m ((c.tc : Thread Cert.UpWIdeal.nD Cert.UpWIdeal.τ).loc Cert.UpWIdeal.main_arg0)
      ∧ r.2.mem ((c.tc : Thread Cert.UpWIdeal.nD Cert.UpWIdeal.τ).loc Cert.UpWIdeal.main_arg1) = m ((c.tc : Thread Cert.UpWIdeal.nD Cert.UpWIdeal.τ).loc Cert.UpWIdeal.main_arg1))
      ∧ r.2.sem = fun _ => 0)

def quiescent_UpWReferenceIdeal [hUpWReferenceIdeal : Cert.UpWReferenceIdeal.Facts] : Prop :=
  ∀ (m : (ℓ : Loc Cert.UpWReferenceIdeal.nD Cert.UpWReferenceIdeal.τ Cert.UpWReferenceIdeal.sig) → Buf (Elt Ideal) ℓ) (g : Dev Cert.UpWReferenceIdeal.nD → PrngReg), Pre_UpWReferenceIdeal m →
    θ_run (Cert.UpWReferenceIdeal.defs (F := Ideal)) (onTc (τ := Cert.UpWReferenceIdeal.τ) (Cert.UpWReferenceIdeal.main (F := Ideal))) ⟨m, fun _ => 0, g⟩ (fun r => (∀ c : Dev Cert.UpWReferenceIdeal.nD,
      r.2.mem ((c.tc : Thread Cert.UpWReferenceIdeal.nD Cert.UpWReferenceIdeal.τ).loc Cert.UpWReferenceIdeal.main_arg0) = m ((c.tc : Thread Cert.UpWReferenceIdeal.nD Cert.UpWReferenceIdeal.τ).loc Cert.UpWReferenceIdeal.main_arg0)
      ∧ r.2.mem ((c.tc : Thread Cert.UpWReferenceIdeal.nD Cert.UpWReferenceIdeal.τ).loc Cert.UpWReferenceIdeal.main_arg1) = m ((c.tc : Thread Cert.UpWReferenceIdeal.nD Cert.UpWReferenceIdeal.τ).loc Cert.UpWReferenceIdeal.main_arg1))
      ∧ r.2.sem = fun _ => 0)

def quiescent_Up [hUp : Cert.Up.Facts] : Prop :=
  ∀ (m : (ℓ : Loc Cert.Up.nD Cert.Up.τ Cert.Up.sig) → Buf (Elt Bits) ℓ) (g : Dev Cert.Up.nD → PrngReg), Pre_Up m →
    θ_run (Cert.Up.defs (F := Bits)) (onTc (τ := Cert.Up.τ) (Cert.Up.main (F := Bits))) ⟨m, fun _ => 0, g⟩ (fun r => (∀ c : Dev Cert.Up.nD,
      r.2.mem ((c.tc : Thread Cert.Up.nD Cert.Up.τ).loc Cert.Up.main_arg0) = m ((c.tc : Thread Cert.Up.nD Cert.Up.τ).loc Cert.Up.main_arg0)
      ∧ r.2.mem ((c.tc : Thread Cert.Up.nD Cert.Up.τ).loc Cert.Up.main_arg1) = m ((c.tc : Thread Cert.Up.nD Cert.Up.τ).loc Cert.Up.main_arg1))
      ∧ r.2.sem = fun _ => 0)

def quiescent_UpIdeal [hUpIdeal : Cert.UpIdeal.Facts] : Prop :=
  ∀ (m : (ℓ : Loc Cert.UpIdeal.nD Cert.UpIdeal.τ Cert.UpIdeal.sig) → Buf (Elt Ideal) ℓ) (g : Dev Cert.UpIdeal.nD → PrngReg), Pre_UpIdeal m →
    θ_run (Cert.UpIdeal.defs (F := Ideal)) (onTc (τ := Cert.UpIdeal.τ) (Cert.UpIdeal.main (F := Ideal))) ⟨m, fun _ => 0, g⟩ (fun r => (∀ c : Dev Cert.UpIdeal.nD,
      r.2.mem ((c.tc : Thread Cert.UpIdeal.nD Cert.UpIdeal.τ).loc Cert.UpIdeal.main_arg0) = m ((c.tc : Thread Cert.UpIdeal.nD Cert.UpIdeal.τ).loc Cert.UpIdeal.main_arg0)
      ∧ r.2.mem ((c.tc : Thread Cert.UpIdeal.nD Cert.UpIdeal.τ).loc Cert.UpIdeal.main_arg1) = m ((c.tc : Thread Cert.UpIdeal.nD Cert.UpIdeal.τ).loc Cert.UpIdeal.main_arg1))
      ∧ r.2.sem = fun _ => 0)

def quiescent_UpReferenceIdeal [hUpReferenceIdeal : Cert.UpReferenceIdeal.Facts] : Prop :=
  ∀ (m : (ℓ : Loc Cert.UpReferenceIdeal.nD Cert.UpReferenceIdeal.τ Cert.UpReferenceIdeal.sig) → Buf (Elt Ideal) ℓ) (g : Dev Cert.UpReferenceIdeal.nD → PrngReg), Pre_UpReferenceIdeal m →
    θ_run (Cert.UpReferenceIdeal.defs (F := Ideal)) (onTc (τ := Cert.UpReferenceIdeal.τ) (Cert.UpReferenceIdeal.main (F := Ideal))) ⟨m, fun _ => 0, g⟩ (fun r => (∀ c : Dev Cert.UpReferenceIdeal.nD,
      r.2.mem ((c.tc : Thread Cert.UpReferenceIdeal.nD Cert.UpReferenceIdeal.τ).loc Cert.UpReferenceIdeal.main_arg0) = m ((c.tc : Thread Cert.UpReferenceIdeal.nD Cert.UpReferenceIdeal.τ).loc Cert.UpReferenceIdeal.main_arg0)
      ∧ r.2.mem ((c.tc : Thread Cert.UpReferenceIdeal.nD Cert.UpReferenceIdeal.τ).loc Cert.UpReferenceIdeal.main_arg1) = m ((c.tc : Thread Cert.UpReferenceIdeal.nD Cert.UpReferenceIdeal.τ).loc Cert.UpReferenceIdeal.main_arg1))
      ∧ r.2.sem = fun _ => 0)

def quiescent_Down [hDown : Cert.Down.Facts] : Prop :=
  ∀ (m : (ℓ : Loc Cert.Down.nD Cert.Down.τ Cert.Down.sig) → Buf (Elt Bits) ℓ) (g : Dev Cert.Down.nD → PrngReg), Pre_Down m →
    θ_run (Cert.Down.defs (F := Bits)) (onTc (τ := Cert.Down.τ) (Cert.Down.main (F := Bits))) ⟨m, fun _ => 0, g⟩ (fun r => (∀ c : Dev Cert.Down.nD,
      r.2.mem ((c.tc : Thread Cert.Down.nD Cert.Down.τ).loc Cert.Down.main_arg0) = m ((c.tc : Thread Cert.Down.nD Cert.Down.τ).loc Cert.Down.main_arg0)
      ∧ r.2.mem ((c.tc : Thread Cert.Down.nD Cert.Down.τ).loc Cert.Down.main_arg1) = m ((c.tc : Thread Cert.Down.nD Cert.Down.τ).loc Cert.Down.main_arg1))
      ∧ r.2.sem = fun _ => 0)

def quiescent_DownIdeal [hDownIdeal : Cert.DownIdeal.Facts] : Prop :=
  ∀ (m : (ℓ : Loc Cert.DownIdeal.nD Cert.DownIdeal.τ Cert.DownIdeal.sig) → Buf (Elt Ideal) ℓ) (g : Dev Cert.DownIdeal.nD → PrngReg), Pre_DownIdeal m →
    θ_run (Cert.DownIdeal.defs (F := Ideal)) (onTc (τ := Cert.DownIdeal.τ) (Cert.DownIdeal.main (F := Ideal))) ⟨m, fun _ => 0, g⟩ (fun r => (∀ c : Dev Cert.DownIdeal.nD,
      r.2.mem ((c.tc : Thread Cert.DownIdeal.nD Cert.DownIdeal.τ).loc Cert.DownIdeal.main_arg0) = m ((c.tc : Thread Cert.DownIdeal.nD Cert.DownIdeal.τ).loc Cert.DownIdeal.main_arg0)
      ∧ r.2.mem ((c.tc : Thread Cert.DownIdeal.nD Cert.DownIdeal.τ).loc Cert.DownIdeal.main_arg1) = m ((c.tc : Thread Cert.DownIdeal.nD Cert.DownIdeal.τ).loc Cert.DownIdeal.main_arg1))
      ∧ r.2.sem = fun _ => 0)

def quiescent_DownReferenceIdeal [hDownReferenceIdeal : Cert.DownReferenceIdeal.Facts] : Prop :=
  ∀ (m : (ℓ : Loc Cert.DownReferenceIdeal.nD Cert.DownReferenceIdeal.τ Cert.DownReferenceIdeal.sig) → Buf (Elt Ideal) ℓ) (g : Dev Cert.DownReferenceIdeal.nD → PrngReg), Pre_DownReferenceIdeal m →
    θ_run (Cert.DownReferenceIdeal.defs (F := Ideal)) (onTc (τ := Cert.DownReferenceIdeal.τ) (Cert.DownReferenceIdeal.main (F := Ideal))) ⟨m, fun _ => 0, g⟩ (fun r => (∀ c : Dev Cert.DownReferenceIdeal.nD,
      r.2.mem ((c.tc : Thread Cert.DownReferenceIdeal.nD Cert.DownReferenceIdeal.τ).loc Cert.DownReferenceIdeal.main_arg0) = m ((c.tc : Thread Cert.DownReferenceIdeal.nD Cert.DownReferenceIdeal.τ).loc Cert.DownReferenceIdeal.main_arg0)
      ∧ r.2.mem ((c.tc : Thread Cert.DownReferenceIdeal.nD Cert.DownReferenceIdeal.τ).loc Cert.DownReferenceIdeal.main_arg1) = m ((c.tc : Thread Cert.DownReferenceIdeal.nD Cert.DownReferenceIdeal.τ).loc Cert.DownReferenceIdeal.main_arg1))
      ∧ r.2.sem = fun _ => 0)

def quiescent_GdnW [hGdnW : Cert.GdnW.Facts] : Prop :=
  ∀ (m : (ℓ : Loc Cert.GdnW.nD Cert.GdnW.τ Cert.GdnW.sig) → Buf (Elt Bits) ℓ) (g : Dev Cert.GdnW.nD → PrngReg), Pre_GdnW m →
    θ_run (Cert.GdnW.defs (F := Bits)) (onTc (τ := Cert.GdnW.τ) (Cert.GdnW.main (F := Bits))) ⟨m, fun _ => 0, g⟩ (fun r => (∀ c : Dev Cert.GdnW.nD,
      r.2.mem ((c.tc : Thread Cert.GdnW.nD Cert.GdnW.τ).loc Cert.GdnW.main_arg0) = m ((c.tc : Thread Cert.GdnW.nD Cert.GdnW.τ).loc Cert.GdnW.main_arg0)
      ∧ r.2.mem ((c.tc : Thread Cert.GdnW.nD Cert.GdnW.τ).loc Cert.GdnW.main_arg1) = m ((c.tc : Thread Cert.GdnW.nD Cert.GdnW.τ).loc Cert.GdnW.main_arg1))
      ∧ r.2.sem = fun _ => 0)

def quiescent_GdnWIdeal [hGdnWIdeal : Cert.GdnWIdeal.Facts] : Prop :=
  ∀ (m : (ℓ : Loc Cert.GdnWIdeal.nD Cert.GdnWIdeal.τ Cert.GdnWIdeal.sig) → Buf (Elt Ideal) ℓ) (g : Dev Cert.GdnWIdeal.nD → PrngReg), Pre_GdnWIdeal m →
    θ_run (Cert.GdnWIdeal.defs (F := Ideal)) (onTc (τ := Cert.GdnWIdeal.τ) (Cert.GdnWIdeal.main (F := Ideal))) ⟨m, fun _ => 0, g⟩ (fun r => (∀ c : Dev Cert.GdnWIdeal.nD,
      r.2.mem ((c.tc : Thread Cert.GdnWIdeal.nD Cert.GdnWIdeal.τ).loc Cert.GdnWIdeal.main_arg0) = m ((c.tc : Thread Cert.GdnWIdeal.nD Cert.GdnWIdeal.τ).loc Cert.GdnWIdeal.main_arg0)
      ∧ r.2.mem ((c.tc : Thread Cert.GdnWIdeal.nD Cert.GdnWIdeal.τ).loc Cert.GdnWIdeal.main_arg1) = m ((c.tc : Thread Cert.GdnWIdeal.nD Cert.GdnWIdeal.τ).loc Cert.GdnWIdeal.main_arg1))
      ∧ r.2.sem = fun _ => 0)

def quiescent_GdnWReferenceIdeal [hGdnWReferenceIdeal : Cert.GdnWReferenceIdeal.Facts] : Prop :=
  ∀ (m : (ℓ : Loc Cert.GdnWReferenceIdeal.nD Cert.GdnWReferenceIdeal.τ Cert.GdnWReferenceIdeal.sig) → Buf (Elt Ideal) ℓ) (g : Dev Cert.GdnWReferenceIdeal.nD → PrngReg), Pre_GdnWReferenceIdeal m →
    θ_run (Cert.GdnWReferenceIdeal.defs (F := Ideal)) (onTc (τ := Cert.GdnWReferenceIdeal.τ) (Cert.GdnWReferenceIdeal.main (F := Ideal))) ⟨m, fun _ => 0, g⟩ (fun r => (∀ c : Dev Cert.GdnWReferenceIdeal.nD,
      r.2.mem ((c.tc : Thread Cert.GdnWReferenceIdeal.nD Cert.GdnWReferenceIdeal.τ).loc Cert.GdnWReferenceIdeal.main_arg0) = m ((c.tc : Thread Cert.GdnWReferenceIdeal.nD Cert.GdnWReferenceIdeal.τ).loc Cert.GdnWReferenceIdeal.main_arg0)
      ∧ r.2.mem ((c.tc : Thread Cert.GdnWReferenceIdeal.nD Cert.GdnWReferenceIdeal.τ).loc Cert.GdnWReferenceIdeal.main_arg1) = m ((c.tc : Thread Cert.GdnWReferenceIdeal.nD Cert.GdnWReferenceIdeal.τ).loc Cert.GdnWReferenceIdeal.main_arg1))
      ∧ r.2.sem = fun _ => 0)

def quiescent_SsdW [hSsdW : Cert.SsdW.Facts] : Prop :=
  ∀ (m : (ℓ : Loc Cert.SsdW.nD Cert.SsdW.τ Cert.SsdW.sig) → Buf (Elt Bits) ℓ) (g : Dev Cert.SsdW.nD → PrngReg), Pre_SsdW m →
    θ_run (Cert.SsdW.defs (F := Bits)) (onTc (τ := Cert.SsdW.τ) (Cert.SsdW.main (F := Bits))) ⟨m, fun _ => 0, g⟩ (fun r => (∀ c : Dev Cert.SsdW.nD,
      r.2.mem ((c.tc : Thread Cert.SsdW.nD Cert.SsdW.τ).loc Cert.SsdW.main_arg0) = m ((c.tc : Thread Cert.SsdW.nD Cert.SsdW.τ).loc Cert.SsdW.main_arg0)
      ∧ r.2.mem ((c.tc : Thread Cert.SsdW.nD Cert.SsdW.τ).loc Cert.SsdW.main_arg1) = m ((c.tc : Thread Cert.SsdW.nD Cert.SsdW.τ).loc Cert.SsdW.main_arg1))
      ∧ r.2.sem = fun _ => 0)

def quiescent_SsdWIdeal [hSsdWIdeal : Cert.SsdWIdeal.Facts] : Prop :=
  ∀ (m : (ℓ : Loc Cert.SsdWIdeal.nD Cert.SsdWIdeal.τ Cert.SsdWIdeal.sig) → Buf (Elt Ideal) ℓ) (g : Dev Cert.SsdWIdeal.nD → PrngReg), Pre_SsdWIdeal m →
    θ_run (Cert.SsdWIdeal.defs (F := Ideal)) (onTc (τ := Cert.SsdWIdeal.τ) (Cert.SsdWIdeal.main (F := Ideal))) ⟨m, fun _ => 0, g⟩ (fun r => (∀ c : Dev Cert.SsdWIdeal.nD,
      r.2.mem ((c.tc : Thread Cert.SsdWIdeal.nD Cert.SsdWIdeal.τ).loc Cert.SsdWIdeal.main_arg0) = m ((c.tc : Thread Cert.SsdWIdeal.nD Cert.SsdWIdeal.τ).loc Cert.SsdWIdeal.main_arg0)
      ∧ r.2.mem ((c.tc : Thread Cert.SsdWIdeal.nD Cert.SsdWIdeal.τ).loc Cert.SsdWIdeal.main_arg1) = m ((c.tc : Thread Cert.SsdWIdeal.nD Cert.SsdWIdeal.τ).loc Cert.SsdWIdeal.main_arg1))
      ∧ r.2.sem = fun _ => 0)

def quiescent_SsdWReferenceIdeal [hSsdWReferenceIdeal : Cert.SsdWReferenceIdeal.Facts] : Prop :=
  ∀ (m : (ℓ : Loc Cert.SsdWReferenceIdeal.nD Cert.SsdWReferenceIdeal.τ Cert.SsdWReferenceIdeal.sig) → Buf (Elt Ideal) ℓ) (g : Dev Cert.SsdWReferenceIdeal.nD → PrngReg), Pre_SsdWReferenceIdeal m →
    θ_run (Cert.SsdWReferenceIdeal.defs (F := Ideal)) (onTc (τ := Cert.SsdWReferenceIdeal.τ) (Cert.SsdWReferenceIdeal.main (F := Ideal))) ⟨m, fun _ => 0, g⟩ (fun r => (∀ c : Dev Cert.SsdWReferenceIdeal.nD,
      r.2.mem ((c.tc : Thread Cert.SsdWReferenceIdeal.nD Cert.SsdWReferenceIdeal.τ).loc Cert.SsdWReferenceIdeal.main_arg0) = m ((c.tc : Thread Cert.SsdWReferenceIdeal.nD Cert.SsdWReferenceIdeal.τ).loc Cert.SsdWReferenceIdeal.main_arg0)
      ∧ r.2.mem ((c.tc : Thread Cert.SsdWReferenceIdeal.nD Cert.SsdWReferenceIdeal.τ).loc Cert.SsdWReferenceIdeal.main_arg1) = m ((c.tc : Thread Cert.SsdWReferenceIdeal.nD Cert.SsdWReferenceIdeal.τ).loc Cert.SsdWReferenceIdeal.main_arg1))
      ∧ r.2.sem = fun _ => 0)

def quiescent_LruW [hLruW : Cert.LruW.Facts] : Prop :=
  ∀ (m : (ℓ : Loc Cert.LruW.nD Cert.LruW.τ Cert.LruW.sig) → Buf (Elt Bits) ℓ) (g : Dev Cert.LruW.nD → PrngReg), Pre_LruW m →
    θ_run (Cert.LruW.defs (F := Bits)) (onTc (τ := Cert.LruW.τ) (Cert.LruW.main (F := Bits))) ⟨m, fun _ => 0, g⟩ (fun r => (∀ c : Dev Cert.LruW.nD,
      r.2.mem ((c.tc : Thread Cert.LruW.nD Cert.LruW.τ).loc Cert.LruW.main_arg0) = m ((c.tc : Thread Cert.LruW.nD Cert.LruW.τ).loc Cert.LruW.main_arg0)
      ∧ r.2.mem ((c.tc : Thread Cert.LruW.nD Cert.LruW.τ).loc Cert.LruW.main_arg1) = m ((c.tc : Thread Cert.LruW.nD Cert.LruW.τ).loc Cert.LruW.main_arg1))
      ∧ r.2.sem = fun _ => 0)

def quiescent_LruWIdeal [hLruWIdeal : Cert.LruWIdeal.Facts] : Prop :=
  ∀ (m : (ℓ : Loc Cert.LruWIdeal.nD Cert.LruWIdeal.τ Cert.LruWIdeal.sig) → Buf (Elt Ideal) ℓ) (g : Dev Cert.LruWIdeal.nD → PrngReg), Pre_LruWIdeal m →
    θ_run (Cert.LruWIdeal.defs (F := Ideal)) (onTc (τ := Cert.LruWIdeal.τ) (Cert.LruWIdeal.main (F := Ideal))) ⟨m, fun _ => 0, g⟩ (fun r => (∀ c : Dev Cert.LruWIdeal.nD,
      r.2.mem ((c.tc : Thread Cert.LruWIdeal.nD Cert.LruWIdeal.τ).loc Cert.LruWIdeal.main_arg0) = m ((c.tc : Thread Cert.LruWIdeal.nD Cert.LruWIdeal.τ).loc Cert.LruWIdeal.main_arg0)
      ∧ r.2.mem ((c.tc : Thread Cert.LruWIdeal.nD Cert.LruWIdeal.τ).loc Cert.LruWIdeal.main_arg1) = m ((c.tc : Thread Cert.LruWIdeal.nD Cert.LruWIdeal.τ).loc Cert.LruWIdeal.main_arg1))
      ∧ r.2.sem = fun _ => 0)

def quiescent_LruWReferenceIdeal [hLruWReferenceIdeal : Cert.LruWReferenceIdeal.Facts] : Prop :=
  ∀ (m : (ℓ : Loc Cert.LruWReferenceIdeal.nD Cert.LruWReferenceIdeal.τ Cert.LruWReferenceIdeal.sig) → Buf (Elt Ideal) ℓ) (g : Dev Cert.LruWReferenceIdeal.nD → PrngReg), Pre_LruWReferenceIdeal m →
    θ_run (Cert.LruWReferenceIdeal.defs (F := Ideal)) (onTc (τ := Cert.LruWReferenceIdeal.τ) (Cert.LruWReferenceIdeal.main (F := Ideal))) ⟨m, fun _ => 0, g⟩ (fun r => (∀ c : Dev Cert.LruWReferenceIdeal.nD,
      r.2.mem ((c.tc : Thread Cert.LruWReferenceIdeal.nD Cert.LruWReferenceIdeal.τ).loc Cert.LruWReferenceIdeal.main_arg0) = m ((c.tc : Thread Cert.LruWReferenceIdeal.nD Cert.LruWReferenceIdeal.τ).loc Cert.LruWReferenceIdeal.main_arg0)
      ∧ r.2.mem ((c.tc : Thread Cert.LruWReferenceIdeal.nD Cert.LruWReferenceIdeal.τ).loc Cert.LruWReferenceIdeal.main_arg1) = m ((c.tc : Thread Cert.LruWReferenceIdeal.nD Cert.LruWReferenceIdeal.τ).loc Cert.LruWReferenceIdeal.main_arg1))
      ∧ r.2.sem = fun _ => 0)

def quiescent_GateW [hGateW : Cert.GateW.Facts] : Prop :=
  ∀ (m : (ℓ : Loc Cert.GateW.nD Cert.GateW.τ Cert.GateW.sig) → Buf (Elt Bits) ℓ) (g : Dev Cert.GateW.nD → PrngReg), Pre_GateW m →
    θ_run (Cert.GateW.defs (F := Bits)) (onTc (τ := Cert.GateW.τ) (Cert.GateW.main (F := Bits))) ⟨m, fun _ => 0, g⟩ (fun r => (∀ c : Dev Cert.GateW.nD,
      r.2.mem ((c.tc : Thread Cert.GateW.nD Cert.GateW.τ).loc Cert.GateW.main_arg0) = m ((c.tc : Thread Cert.GateW.nD Cert.GateW.τ).loc Cert.GateW.main_arg0)
      ∧ r.2.mem ((c.tc : Thread Cert.GateW.nD Cert.GateW.τ).loc Cert.GateW.main_arg1) = m ((c.tc : Thread Cert.GateW.nD Cert.GateW.τ).loc Cert.GateW.main_arg1))
      ∧ r.2.sem = fun _ => 0)

def quiescent_GateWIdeal [hGateWIdeal : Cert.GateWIdeal.Facts] : Prop :=
  ∀ (m : (ℓ : Loc Cert.GateWIdeal.nD Cert.GateWIdeal.τ Cert.GateWIdeal.sig) → Buf (Elt Ideal) ℓ) (g : Dev Cert.GateWIdeal.nD → PrngReg), Pre_GateWIdeal m →
    θ_run (Cert.GateWIdeal.defs (F := Ideal)) (onTc (τ := Cert.GateWIdeal.τ) (Cert.GateWIdeal.main (F := Ideal))) ⟨m, fun _ => 0, g⟩ (fun r => (∀ c : Dev Cert.GateWIdeal.nD,
      r.2.mem ((c.tc : Thread Cert.GateWIdeal.nD Cert.GateWIdeal.τ).loc Cert.GateWIdeal.main_arg0) = m ((c.tc : Thread Cert.GateWIdeal.nD Cert.GateWIdeal.τ).loc Cert.GateWIdeal.main_arg0)
      ∧ r.2.mem ((c.tc : Thread Cert.GateWIdeal.nD Cert.GateWIdeal.τ).loc Cert.GateWIdeal.main_arg1) = m ((c.tc : Thread Cert.GateWIdeal.nD Cert.GateWIdeal.τ).loc Cert.GateWIdeal.main_arg1))
      ∧ r.2.sem = fun _ => 0)

def quiescent_GateWReferenceIdeal [hGateWReferenceIdeal : Cert.GateWReferenceIdeal.Facts] : Prop :=
  ∀ (m : (ℓ : Loc Cert.GateWReferenceIdeal.nD Cert.GateWReferenceIdeal.τ Cert.GateWReferenceIdeal.sig) → Buf (Elt Ideal) ℓ) (g : Dev Cert.GateWReferenceIdeal.nD → PrngReg), Pre_GateWReferenceIdeal m →
    θ_run (Cert.GateWReferenceIdeal.defs (F := Ideal)) (onTc (τ := Cert.GateWReferenceIdeal.τ) (Cert.GateWReferenceIdeal.main (F := Ideal))) ⟨m, fun _ => 0, g⟩ (fun r => (∀ c : Dev Cert.GateWReferenceIdeal.nD,
      r.2.mem ((c.tc : Thread Cert.GateWReferenceIdeal.nD Cert.GateWReferenceIdeal.τ).loc Cert.GateWReferenceIdeal.main_arg0) = m ((c.tc : Thread Cert.GateWReferenceIdeal.nD Cert.GateWReferenceIdeal.τ).loc Cert.GateWReferenceIdeal.main_arg0)
      ∧ r.2.mem ((c.tc : Thread Cert.GateWReferenceIdeal.nD Cert.GateWReferenceIdeal.τ).loc Cert.GateWReferenceIdeal.main_arg1) = m ((c.tc : Thread Cert.GateWReferenceIdeal.nD Cert.GateWReferenceIdeal.τ).loc Cert.GateWReferenceIdeal.main_arg1))
      ∧ r.2.sem = fun _ => 0)

def quiescent_GdnX [hGdnX : Cert.GdnX.Facts] : Prop :=
  ∀ (m : (ℓ : Loc Cert.GdnX.nD Cert.GdnX.τ Cert.GdnX.sig) → Buf (Elt Bits) ℓ) (g : Dev Cert.GdnX.nD → PrngReg), Pre_GdnX m →
    θ_run (Cert.GdnX.defs (F := Bits)) (onTc (τ := Cert.GdnX.τ) (Cert.GdnX.main (F := Bits))) ⟨m, fun _ => 0, g⟩ (fun r => (∀ c : Dev Cert.GdnX.nD,
      r.2.mem ((c.tc : Thread Cert.GdnX.nD Cert.GdnX.τ).loc Cert.GdnX.main_arg0) = m ((c.tc : Thread Cert.GdnX.nD Cert.GdnX.τ).loc Cert.GdnX.main_arg0)
      ∧ r.2.mem ((c.tc : Thread Cert.GdnX.nD Cert.GdnX.τ).loc Cert.GdnX.main_arg1) = m ((c.tc : Thread Cert.GdnX.nD Cert.GdnX.τ).loc Cert.GdnX.main_arg1))
      ∧ r.2.sem = fun _ => 0)

def quiescent_GdnXIdeal [hGdnXIdeal : Cert.GdnXIdeal.Facts] : Prop :=
  ∀ (m : (ℓ : Loc Cert.GdnXIdeal.nD Cert.GdnXIdeal.τ Cert.GdnXIdeal.sig) → Buf (Elt Ideal) ℓ) (g : Dev Cert.GdnXIdeal.nD → PrngReg), Pre_GdnXIdeal m →
    θ_run (Cert.GdnXIdeal.defs (F := Ideal)) (onTc (τ := Cert.GdnXIdeal.τ) (Cert.GdnXIdeal.main (F := Ideal))) ⟨m, fun _ => 0, g⟩ (fun r => (∀ c : Dev Cert.GdnXIdeal.nD,
      r.2.mem ((c.tc : Thread Cert.GdnXIdeal.nD Cert.GdnXIdeal.τ).loc Cert.GdnXIdeal.main_arg0) = m ((c.tc : Thread Cert.GdnXIdeal.nD Cert.GdnXIdeal.τ).loc Cert.GdnXIdeal.main_arg0)
      ∧ r.2.mem ((c.tc : Thread Cert.GdnXIdeal.nD Cert.GdnXIdeal.τ).loc Cert.GdnXIdeal.main_arg1) = m ((c.tc : Thread Cert.GdnXIdeal.nD Cert.GdnXIdeal.τ).loc Cert.GdnXIdeal.main_arg1))
      ∧ r.2.sem = fun _ => 0)

def quiescent_GdnXReferenceIdeal [hGdnXReferenceIdeal : Cert.GdnXReferenceIdeal.Facts] : Prop :=
  ∀ (m : (ℓ : Loc Cert.GdnXReferenceIdeal.nD Cert.GdnXReferenceIdeal.τ Cert.GdnXReferenceIdeal.sig) → Buf (Elt Ideal) ℓ) (g : Dev Cert.GdnXReferenceIdeal.nD → PrngReg), Pre_GdnXReferenceIdeal m →
    θ_run (Cert.GdnXReferenceIdeal.defs (F := Ideal)) (onTc (τ := Cert.GdnXReferenceIdeal.τ) (Cert.GdnXReferenceIdeal.main (F := Ideal))) ⟨m, fun _ => 0, g⟩ (fun r => (∀ c : Dev Cert.GdnXReferenceIdeal.nD,
      r.2.mem ((c.tc : Thread Cert.GdnXReferenceIdeal.nD Cert.GdnXReferenceIdeal.τ).loc Cert.GdnXReferenceIdeal.main_arg0) = m ((c.tc : Thread Cert.GdnXReferenceIdeal.nD Cert.GdnXReferenceIdeal.τ).loc Cert.GdnXReferenceIdeal.main_arg0)
      ∧ r.2.mem ((c.tc : Thread Cert.GdnXReferenceIdeal.nD Cert.GdnXReferenceIdeal.τ).loc Cert.GdnXReferenceIdeal.main_arg1) = m ((c.tc : Thread Cert.GdnXReferenceIdeal.nD Cert.GdnXReferenceIdeal.τ).loc Cert.GdnXReferenceIdeal.main_arg1))
      ∧ r.2.sem = fun _ => 0)

def quiescent_GdnBiasX [hGdnBiasX : Cert.GdnBiasX.Facts] : Prop :=
  ∀ (m : (ℓ : Loc Cert.GdnBiasX.nD Cert.GdnBiasX.τ Cert.GdnBiasX.sig) → Buf (Elt Bits) ℓ) (g : Dev Cert.GdnBiasX.nD → PrngReg), Pre_GdnBiasX m →
    θ_run (Cert.GdnBiasX.defs (F := Bits)) (onTc (τ := Cert.GdnBiasX.τ) (Cert.GdnBiasX.main (F := Bits))) ⟨m, fun _ => 0, g⟩ (fun r => (∀ c : Dev Cert.GdnBiasX.nD,
      r.2.mem ((c.tc : Thread Cert.GdnBiasX.nD Cert.GdnBiasX.τ).loc Cert.GdnBiasX.main_arg0) = m ((c.tc : Thread Cert.GdnBiasX.nD Cert.GdnBiasX.τ).loc Cert.GdnBiasX.main_arg0)
      ∧ r.2.mem ((c.tc : Thread Cert.GdnBiasX.nD Cert.GdnBiasX.τ).loc Cert.GdnBiasX.main_arg1) = m ((c.tc : Thread Cert.GdnBiasX.nD Cert.GdnBiasX.τ).loc Cert.GdnBiasX.main_arg1)
      ∧ r.2.mem ((c.tc : Thread Cert.GdnBiasX.nD Cert.GdnBiasX.τ).loc Cert.GdnBiasX.main_arg2) = m ((c.tc : Thread Cert.GdnBiasX.nD Cert.GdnBiasX.τ).loc Cert.GdnBiasX.main_arg2))
      ∧ r.2.sem = fun _ => 0)

def quiescent_GdnBiasXIdeal [hGdnBiasXIdeal : Cert.GdnBiasXIdeal.Facts] : Prop :=
  ∀ (m : (ℓ : Loc Cert.GdnBiasXIdeal.nD Cert.GdnBiasXIdeal.τ Cert.GdnBiasXIdeal.sig) → Buf (Elt Ideal) ℓ) (g : Dev Cert.GdnBiasXIdeal.nD → PrngReg), Pre_GdnBiasXIdeal m →
    θ_run (Cert.GdnBiasXIdeal.defs (F := Ideal)) (onTc (τ := Cert.GdnBiasXIdeal.τ) (Cert.GdnBiasXIdeal.main (F := Ideal))) ⟨m, fun _ => 0, g⟩ (fun r => (∀ c : Dev Cert.GdnBiasXIdeal.nD,
      r.2.mem ((c.tc : Thread Cert.GdnBiasXIdeal.nD Cert.GdnBiasXIdeal.τ).loc Cert.GdnBiasXIdeal.main_arg0) = m ((c.tc : Thread Cert.GdnBiasXIdeal.nD Cert.GdnBiasXIdeal.τ).loc Cert.GdnBiasXIdeal.main_arg0)
      ∧ r.2.mem ((c.tc : Thread Cert.GdnBiasXIdeal.nD Cert.GdnBiasXIdeal.τ).loc Cert.GdnBiasXIdeal.main_arg1) = m ((c.tc : Thread Cert.GdnBiasXIdeal.nD Cert.GdnBiasXIdeal.τ).loc Cert.GdnBiasXIdeal.main_arg1)
      ∧ r.2.mem ((c.tc : Thread Cert.GdnBiasXIdeal.nD Cert.GdnBiasXIdeal.τ).loc Cert.GdnBiasXIdeal.main_arg2) = m ((c.tc : Thread Cert.GdnBiasXIdeal.nD Cert.GdnBiasXIdeal.τ).loc Cert.GdnBiasXIdeal.main_arg2))
      ∧ r.2.sem = fun _ => 0)

def quiescent_GdnBiasXReferenceIdeal [hGdnBiasXReferenceIdeal : Cert.GdnBiasXReferenceIdeal.Facts] : Prop :=
  ∀ (m : (ℓ : Loc Cert.GdnBiasXReferenceIdeal.nD Cert.GdnBiasXReferenceIdeal.τ Cert.GdnBiasXReferenceIdeal.sig) → Buf (Elt Ideal) ℓ) (g : Dev Cert.GdnBiasXReferenceIdeal.nD → PrngReg), Pre_GdnBiasXReferenceIdeal m →
    θ_run (Cert.GdnBiasXReferenceIdeal.defs (F := Ideal)) (onTc (τ := Cert.GdnBiasXReferenceIdeal.τ) (Cert.GdnBiasXReferenceIdeal.main (F := Ideal))) ⟨m, fun _ => 0, g⟩ (fun r => (∀ c : Dev Cert.GdnBiasXReferenceIdeal.nD,
      r.2.mem ((c.tc : Thread Cert.GdnBiasXReferenceIdeal.nD Cert.GdnBiasXReferenceIdeal.τ).loc Cert.GdnBiasXReferenceIdeal.main_arg0) = m ((c.tc : Thread Cert.GdnBiasXReferenceIdeal.nD Cert.GdnBiasXReferenceIdeal.τ).loc Cert.GdnBiasXReferenceIdeal.main_arg0)
      ∧ r.2.mem ((c.tc : Thread Cert.GdnBiasXReferenceIdeal.nD Cert.GdnBiasXReferenceIdeal.τ).loc Cert.GdnBiasXReferenceIdeal.main_arg1) = m ((c.tc : Thread Cert.GdnBiasXReferenceIdeal.nD Cert.GdnBiasXReferenceIdeal.τ).loc Cert.GdnBiasXReferenceIdeal.main_arg1)
      ∧ r.2.mem ((c.tc : Thread Cert.GdnBiasXReferenceIdeal.nD Cert.GdnBiasXReferenceIdeal.τ).loc Cert.GdnBiasXReferenceIdeal.main_arg2) = m ((c.tc : Thread Cert.GdnBiasXReferenceIdeal.nD Cert.GdnBiasXReferenceIdeal.τ).loc Cert.GdnBiasXReferenceIdeal.main_arg2))
      ∧ r.2.sem = fun _ => 0)

def quiescent_SsdX [hSsdX : Cert.SsdX.Facts] : Prop :=
  ∀ (m : (ℓ : Loc Cert.SsdX.nD Cert.SsdX.τ Cert.SsdX.sig) → Buf (Elt Bits) ℓ) (g : Dev Cert.SsdX.nD → PrngReg), Pre_SsdX m →
    θ_run (Cert.SsdX.defs (F := Bits)) (onTc (τ := Cert.SsdX.τ) (Cert.SsdX.main (F := Bits))) ⟨m, fun _ => 0, g⟩ (fun r => (∀ c : Dev Cert.SsdX.nD,
      r.2.mem ((c.tc : Thread Cert.SsdX.nD Cert.SsdX.τ).loc Cert.SsdX.main_arg0) = m ((c.tc : Thread Cert.SsdX.nD Cert.SsdX.τ).loc Cert.SsdX.main_arg0)
      ∧ r.2.mem ((c.tc : Thread Cert.SsdX.nD Cert.SsdX.τ).loc Cert.SsdX.main_arg1) = m ((c.tc : Thread Cert.SsdX.nD Cert.SsdX.τ).loc Cert.SsdX.main_arg1)
      ∧ r.2.mem ((c.tc : Thread Cert.SsdX.nD Cert.SsdX.τ).loc Cert.SsdX.main_arg2) = m ((c.tc : Thread Cert.SsdX.nD Cert.SsdX.τ).loc Cert.SsdX.main_arg2))
      ∧ r.2.sem = fun _ => 0)

def quiescent_SsdXIdeal [hSsdXIdeal : Cert.SsdXIdeal.Facts] : Prop :=
  ∀ (m : (ℓ : Loc Cert.SsdXIdeal.nD Cert.SsdXIdeal.τ Cert.SsdXIdeal.sig) → Buf (Elt Ideal) ℓ) (g : Dev Cert.SsdXIdeal.nD → PrngReg), Pre_SsdXIdeal m →
    θ_run (Cert.SsdXIdeal.defs (F := Ideal)) (onTc (τ := Cert.SsdXIdeal.τ) (Cert.SsdXIdeal.main (F := Ideal))) ⟨m, fun _ => 0, g⟩ (fun r => (∀ c : Dev Cert.SsdXIdeal.nD,
      r.2.mem ((c.tc : Thread Cert.SsdXIdeal.nD Cert.SsdXIdeal.τ).loc Cert.SsdXIdeal.main_arg0) = m ((c.tc : Thread Cert.SsdXIdeal.nD Cert.SsdXIdeal.τ).loc Cert.SsdXIdeal.main_arg0)
      ∧ r.2.mem ((c.tc : Thread Cert.SsdXIdeal.nD Cert.SsdXIdeal.τ).loc Cert.SsdXIdeal.main_arg1) = m ((c.tc : Thread Cert.SsdXIdeal.nD Cert.SsdXIdeal.τ).loc Cert.SsdXIdeal.main_arg1)
      ∧ r.2.mem ((c.tc : Thread Cert.SsdXIdeal.nD Cert.SsdXIdeal.τ).loc Cert.SsdXIdeal.main_arg2) = m ((c.tc : Thread Cert.SsdXIdeal.nD Cert.SsdXIdeal.τ).loc Cert.SsdXIdeal.main_arg2))
      ∧ r.2.sem = fun _ => 0)

def quiescent_SsdXReferenceIdeal [hSsdXReferenceIdeal : Cert.SsdXReferenceIdeal.Facts] : Prop :=
  ∀ (m : (ℓ : Loc Cert.SsdXReferenceIdeal.nD Cert.SsdXReferenceIdeal.τ Cert.SsdXReferenceIdeal.sig) → Buf (Elt Ideal) ℓ) (g : Dev Cert.SsdXReferenceIdeal.nD → PrngReg), Pre_SsdXReferenceIdeal m →
    θ_run (Cert.SsdXReferenceIdeal.defs (F := Ideal)) (onTc (τ := Cert.SsdXReferenceIdeal.τ) (Cert.SsdXReferenceIdeal.main (F := Ideal))) ⟨m, fun _ => 0, g⟩ (fun r => (∀ c : Dev Cert.SsdXReferenceIdeal.nD,
      r.2.mem ((c.tc : Thread Cert.SsdXReferenceIdeal.nD Cert.SsdXReferenceIdeal.τ).loc Cert.SsdXReferenceIdeal.main_arg0) = m ((c.tc : Thread Cert.SsdXReferenceIdeal.nD Cert.SsdXReferenceIdeal.τ).loc Cert.SsdXReferenceIdeal.main_arg0)
      ∧ r.2.mem ((c.tc : Thread Cert.SsdXReferenceIdeal.nD Cert.SsdXReferenceIdeal.τ).loc Cert.SsdXReferenceIdeal.main_arg1) = m ((c.tc : Thread Cert.SsdXReferenceIdeal.nD Cert.SsdXReferenceIdeal.τ).loc Cert.SsdXReferenceIdeal.main_arg1)
      ∧ r.2.mem ((c.tc : Thread Cert.SsdXReferenceIdeal.nD Cert.SsdXReferenceIdeal.τ).loc Cert.SsdXReferenceIdeal.main_arg2) = m ((c.tc : Thread Cert.SsdXReferenceIdeal.nD Cert.SsdXReferenceIdeal.τ).loc Cert.SsdXReferenceIdeal.main_arg2))
      ∧ r.2.sem = fun _ => 0)

def quiescent_LruX [hLruX : Cert.LruX.Facts] : Prop :=
  ∀ (m : (ℓ : Loc Cert.LruX.nD Cert.LruX.τ Cert.LruX.sig) → Buf (Elt Bits) ℓ) (g : Dev Cert.LruX.nD → PrngReg), Pre_LruX m →
    θ_run (Cert.LruX.defs (F := Bits)) (onTc (τ := Cert.LruX.τ) (Cert.LruX.main (F := Bits))) ⟨m, fun _ => 0, g⟩ (fun r => (∀ c : Dev Cert.LruX.nD,
      r.2.mem ((c.tc : Thread Cert.LruX.nD Cert.LruX.τ).loc Cert.LruX.main_arg0) = m ((c.tc : Thread Cert.LruX.nD Cert.LruX.τ).loc Cert.LruX.main_arg0)
      ∧ r.2.mem ((c.tc : Thread Cert.LruX.nD Cert.LruX.τ).loc Cert.LruX.main_arg1) = m ((c.tc : Thread Cert.LruX.nD Cert.LruX.τ).loc Cert.LruX.main_arg1)
      ∧ r.2.mem ((c.tc : Thread Cert.LruX.nD Cert.LruX.τ).loc Cert.LruX.main_arg2) = m ((c.tc : Thread Cert.LruX.nD Cert.LruX.τ).loc Cert.LruX.main_arg2))
      ∧ r.2.sem = fun _ => 0)

def quiescent_LruXIdeal [hLruXIdeal : Cert.LruXIdeal.Facts] : Prop :=
  ∀ (m : (ℓ : Loc Cert.LruXIdeal.nD Cert.LruXIdeal.τ Cert.LruXIdeal.sig) → Buf (Elt Ideal) ℓ) (g : Dev Cert.LruXIdeal.nD → PrngReg), Pre_LruXIdeal m →
    θ_run (Cert.LruXIdeal.defs (F := Ideal)) (onTc (τ := Cert.LruXIdeal.τ) (Cert.LruXIdeal.main (F := Ideal))) ⟨m, fun _ => 0, g⟩ (fun r => (∀ c : Dev Cert.LruXIdeal.nD,
      r.2.mem ((c.tc : Thread Cert.LruXIdeal.nD Cert.LruXIdeal.τ).loc Cert.LruXIdeal.main_arg0) = m ((c.tc : Thread Cert.LruXIdeal.nD Cert.LruXIdeal.τ).loc Cert.LruXIdeal.main_arg0)
      ∧ r.2.mem ((c.tc : Thread Cert.LruXIdeal.nD Cert.LruXIdeal.τ).loc Cert.LruXIdeal.main_arg1) = m ((c.tc : Thread Cert.LruXIdeal.nD Cert.LruXIdeal.τ).loc Cert.LruXIdeal.main_arg1)
      ∧ r.2.mem ((c.tc : Thread Cert.LruXIdeal.nD Cert.LruXIdeal.τ).loc Cert.LruXIdeal.main_arg2) = m ((c.tc : Thread Cert.LruXIdeal.nD Cert.LruXIdeal.τ).loc Cert.LruXIdeal.main_arg2))
      ∧ r.2.sem = fun _ => 0)

def quiescent_LruXReferenceIdeal [hLruXReferenceIdeal : Cert.LruXReferenceIdeal.Facts] : Prop :=
  ∀ (m : (ℓ : Loc Cert.LruXReferenceIdeal.nD Cert.LruXReferenceIdeal.τ Cert.LruXReferenceIdeal.sig) → Buf (Elt Ideal) ℓ) (g : Dev Cert.LruXReferenceIdeal.nD → PrngReg), Pre_LruXReferenceIdeal m →
    θ_run (Cert.LruXReferenceIdeal.defs (F := Ideal)) (onTc (τ := Cert.LruXReferenceIdeal.τ) (Cert.LruXReferenceIdeal.main (F := Ideal))) ⟨m, fun _ => 0, g⟩ (fun r => (∀ c : Dev Cert.LruXReferenceIdeal.nD,
      r.2.mem ((c.tc : Thread Cert.LruXReferenceIdeal.nD Cert.LruXReferenceIdeal.τ).loc Cert.LruXReferenceIdeal.main_arg0) = m ((c.tc : Thread Cert.LruXReferenceIdeal.nD Cert.LruXReferenceIdeal.τ).loc Cert.LruXReferenceIdeal.main_arg0)
      ∧ r.2.mem ((c.tc : Thread Cert.LruXReferenceIdeal.nD Cert.LruXReferenceIdeal.τ).loc Cert.LruXReferenceIdeal.main_arg1) = m ((c.tc : Thread Cert.LruXReferenceIdeal.nD Cert.LruXReferenceIdeal.τ).loc Cert.LruXReferenceIdeal.main_arg1)
      ∧ r.2.mem ((c.tc : Thread Cert.LruXReferenceIdeal.nD Cert.LruXReferenceIdeal.τ).loc Cert.LruXReferenceIdeal.main_arg2) = m ((c.tc : Thread Cert.LruXReferenceIdeal.nD Cert.LruXReferenceIdeal.τ).loc Cert.LruXReferenceIdeal.main_arg2))
      ∧ r.2.sem = fun _ => 0)

def quiescent_GateX [hGateX : Cert.GateX.Facts] : Prop :=
  ∀ (m : (ℓ : Loc Cert.GateX.nD Cert.GateX.τ Cert.GateX.sig) → Buf (Elt Bits) ℓ) (g : Dev Cert.GateX.nD → PrngReg), Pre_GateX m →
    θ_run (Cert.GateX.defs (F := Bits)) (onTc (τ := Cert.GateX.τ) (Cert.GateX.main (F := Bits))) ⟨m, fun _ => 0, g⟩ (fun r => (∀ c : Dev Cert.GateX.nD,
      r.2.mem ((c.tc : Thread Cert.GateX.nD Cert.GateX.τ).loc Cert.GateX.main_arg0) = m ((c.tc : Thread Cert.GateX.nD Cert.GateX.τ).loc Cert.GateX.main_arg0)
      ∧ r.2.mem ((c.tc : Thread Cert.GateX.nD Cert.GateX.τ).loc Cert.GateX.main_arg1) = m ((c.tc : Thread Cert.GateX.nD Cert.GateX.τ).loc Cert.GateX.main_arg1)
      ∧ r.2.mem ((c.tc : Thread Cert.GateX.nD Cert.GateX.τ).loc Cert.GateX.main_arg2) = m ((c.tc : Thread Cert.GateX.nD Cert.GateX.τ).loc Cert.GateX.main_arg2))
      ∧ r.2.sem = fun _ => 0)

def quiescent_GateXIdeal [hGateXIdeal : Cert.GateXIdeal.Facts] : Prop :=
  ∀ (m : (ℓ : Loc Cert.GateXIdeal.nD Cert.GateXIdeal.τ Cert.GateXIdeal.sig) → Buf (Elt Ideal) ℓ) (g : Dev Cert.GateXIdeal.nD → PrngReg), Pre_GateXIdeal m →
    θ_run (Cert.GateXIdeal.defs (F := Ideal)) (onTc (τ := Cert.GateXIdeal.τ) (Cert.GateXIdeal.main (F := Ideal))) ⟨m, fun _ => 0, g⟩ (fun r => (∀ c : Dev Cert.GateXIdeal.nD,
      r.2.mem ((c.tc : Thread Cert.GateXIdeal.nD Cert.GateXIdeal.τ).loc Cert.GateXIdeal.main_arg0) = m ((c.tc : Thread Cert.GateXIdeal.nD Cert.GateXIdeal.τ).loc Cert.GateXIdeal.main_arg0)
      ∧ r.2.mem ((c.tc : Thread Cert.GateXIdeal.nD Cert.GateXIdeal.τ).loc Cert.GateXIdeal.main_arg1) = m ((c.tc : Thread Cert.GateXIdeal.nD Cert.GateXIdeal.τ).loc Cert.GateXIdeal.main_arg1)
      ∧ r.2.mem ((c.tc : Thread Cert.GateXIdeal.nD Cert.GateXIdeal.τ).loc Cert.GateXIdeal.main_arg2) = m ((c.tc : Thread Cert.GateXIdeal.nD Cert.GateXIdeal.τ).loc Cert.GateXIdeal.main_arg2))
      ∧ r.2.sem = fun _ => 0)

def quiescent_GateXReferenceIdeal [hGateXReferenceIdeal : Cert.GateXReferenceIdeal.Facts] : Prop :=
  ∀ (m : (ℓ : Loc Cert.GateXReferenceIdeal.nD Cert.GateXReferenceIdeal.τ Cert.GateXReferenceIdeal.sig) → Buf (Elt Ideal) ℓ) (g : Dev Cert.GateXReferenceIdeal.nD → PrngReg), Pre_GateXReferenceIdeal m →
    θ_run (Cert.GateXReferenceIdeal.defs (F := Ideal)) (onTc (τ := Cert.GateXReferenceIdeal.τ) (Cert.GateXReferenceIdeal.main (F := Ideal))) ⟨m, fun _ => 0, g⟩ (fun r => (∀ c : Dev Cert.GateXReferenceIdeal.nD,
      r.2.mem ((c.tc : Thread Cert.GateXReferenceIdeal.nD Cert.GateXReferenceIdeal.τ).loc Cert.GateXReferenceIdeal.main_arg0) = m ((c.tc : Thread Cert.GateXReferenceIdeal.nD Cert.GateXReferenceIdeal.τ).loc Cert.GateXReferenceIdeal.main_arg0)
      ∧ r.2.mem ((c.tc : Thread Cert.GateXReferenceIdeal.nD Cert.GateXReferenceIdeal.τ).loc Cert.GateXReferenceIdeal.main_arg1) = m ((c.tc : Thread Cert.GateXReferenceIdeal.nD Cert.GateXReferenceIdeal.τ).loc Cert.GateXReferenceIdeal.main_arg1)
      ∧ r.2.mem ((c.tc : Thread Cert.GateXReferenceIdeal.nD Cert.GateXReferenceIdeal.τ).loc Cert.GateXReferenceIdeal.main_arg2) = m ((c.tc : Thread Cert.GateXReferenceIdeal.nD Cert.GateXReferenceIdeal.τ).loc Cert.GateXReferenceIdeal.main_arg2))
      ∧ r.2.sem = fun _ => 0)

def quiescent_GdnIn [hGdnIn : Cert.GdnIn.Facts] : Prop :=
  ∀ (m : (ℓ : Loc Cert.GdnIn.nD Cert.GdnIn.τ Cert.GdnIn.sig) → Buf (Elt Bits) ℓ) (g : Dev Cert.GdnIn.nD → PrngReg), Pre_GdnIn m →
    θ_run (Cert.GdnIn.defs (F := Bits)) (onTc (τ := Cert.GdnIn.τ) (Cert.GdnIn.main (F := Bits))) ⟨m, fun _ => 0, g⟩ (fun r => (∀ c : Dev Cert.GdnIn.nD,
      r.2.mem ((c.tc : Thread Cert.GdnIn.nD Cert.GdnIn.τ).loc Cert.GdnIn.main_arg0) = m ((c.tc : Thread Cert.GdnIn.nD Cert.GdnIn.τ).loc Cert.GdnIn.main_arg0)
      ∧ r.2.mem ((c.tc : Thread Cert.GdnIn.nD Cert.GdnIn.τ).loc Cert.GdnIn.main_arg1) = m ((c.tc : Thread Cert.GdnIn.nD Cert.GdnIn.τ).loc Cert.GdnIn.main_arg1))
      ∧ r.2.sem = fun _ => 0)

def quiescent_GdnInIdeal [hGdnInIdeal : Cert.GdnInIdeal.Facts] : Prop :=
  ∀ (m : (ℓ : Loc Cert.GdnInIdeal.nD Cert.GdnInIdeal.τ Cert.GdnInIdeal.sig) → Buf (Elt Ideal) ℓ) (g : Dev Cert.GdnInIdeal.nD → PrngReg), Pre_GdnInIdeal m →
    θ_run (Cert.GdnInIdeal.defs (F := Ideal)) (onTc (τ := Cert.GdnInIdeal.τ) (Cert.GdnInIdeal.main (F := Ideal))) ⟨m, fun _ => 0, g⟩ (fun r => (∀ c : Dev Cert.GdnInIdeal.nD,
      r.2.mem ((c.tc : Thread Cert.GdnInIdeal.nD Cert.GdnInIdeal.τ).loc Cert.GdnInIdeal.main_arg0) = m ((c.tc : Thread Cert.GdnInIdeal.nD Cert.GdnInIdeal.τ).loc Cert.GdnInIdeal.main_arg0)
      ∧ r.2.mem ((c.tc : Thread Cert.GdnInIdeal.nD Cert.GdnInIdeal.τ).loc Cert.GdnInIdeal.main_arg1) = m ((c.tc : Thread Cert.GdnInIdeal.nD Cert.GdnInIdeal.τ).loc Cert.GdnInIdeal.main_arg1))
      ∧ r.2.sem = fun _ => 0)

def quiescent_GdnInReferenceIdeal [hGdnInReferenceIdeal : Cert.GdnInReferenceIdeal.Facts] : Prop :=
  ∀ (m : (ℓ : Loc Cert.GdnInReferenceIdeal.nD Cert.GdnInReferenceIdeal.τ Cert.GdnInReferenceIdeal.sig) → Buf (Elt Ideal) ℓ) (g : Dev Cert.GdnInReferenceIdeal.nD → PrngReg), Pre_GdnInReferenceIdeal m →
    θ_run (Cert.GdnInReferenceIdeal.defs (F := Ideal)) (onTc (τ := Cert.GdnInReferenceIdeal.τ) (Cert.GdnInReferenceIdeal.main (F := Ideal))) ⟨m, fun _ => 0, g⟩ (fun r => (∀ c : Dev Cert.GdnInReferenceIdeal.nD,
      r.2.mem ((c.tc : Thread Cert.GdnInReferenceIdeal.nD Cert.GdnInReferenceIdeal.τ).loc Cert.GdnInReferenceIdeal.main_arg0) = m ((c.tc : Thread Cert.GdnInReferenceIdeal.nD Cert.GdnInReferenceIdeal.τ).loc Cert.GdnInReferenceIdeal.main_arg0)
      ∧ r.2.mem ((c.tc : Thread Cert.GdnInReferenceIdeal.nD Cert.GdnInReferenceIdeal.τ).loc Cert.GdnInReferenceIdeal.main_arg1) = m ((c.tc : Thread Cert.GdnInReferenceIdeal.nD Cert.GdnInReferenceIdeal.τ).loc Cert.GdnInReferenceIdeal.main_arg1))
      ∧ r.2.sem = fun _ => 0)

def quiescent_SsdIn [hSsdIn : Cert.SsdIn.Facts] : Prop :=
  ∀ (m : (ℓ : Loc Cert.SsdIn.nD Cert.SsdIn.τ Cert.SsdIn.sig) → Buf (Elt Bits) ℓ) (g : Dev Cert.SsdIn.nD → PrngReg), Pre_SsdIn m →
    θ_run (Cert.SsdIn.defs (F := Bits)) (onTc (τ := Cert.SsdIn.τ) (Cert.SsdIn.main (F := Bits))) ⟨m, fun _ => 0, g⟩ (fun r => (∀ c : Dev Cert.SsdIn.nD,
      r.2.mem ((c.tc : Thread Cert.SsdIn.nD Cert.SsdIn.τ).loc Cert.SsdIn.main_arg0) = m ((c.tc : Thread Cert.SsdIn.nD Cert.SsdIn.τ).loc Cert.SsdIn.main_arg0)
      ∧ r.2.mem ((c.tc : Thread Cert.SsdIn.nD Cert.SsdIn.τ).loc Cert.SsdIn.main_arg1) = m ((c.tc : Thread Cert.SsdIn.nD Cert.SsdIn.τ).loc Cert.SsdIn.main_arg1))
      ∧ r.2.sem = fun _ => 0)

def quiescent_SsdInIdeal [hSsdInIdeal : Cert.SsdInIdeal.Facts] : Prop :=
  ∀ (m : (ℓ : Loc Cert.SsdInIdeal.nD Cert.SsdInIdeal.τ Cert.SsdInIdeal.sig) → Buf (Elt Ideal) ℓ) (g : Dev Cert.SsdInIdeal.nD → PrngReg), Pre_SsdInIdeal m →
    θ_run (Cert.SsdInIdeal.defs (F := Ideal)) (onTc (τ := Cert.SsdInIdeal.τ) (Cert.SsdInIdeal.main (F := Ideal))) ⟨m, fun _ => 0, g⟩ (fun r => (∀ c : Dev Cert.SsdInIdeal.nD,
      r.2.mem ((c.tc : Thread Cert.SsdInIdeal.nD Cert.SsdInIdeal.τ).loc Cert.SsdInIdeal.main_arg0) = m ((c.tc : Thread Cert.SsdInIdeal.nD Cert.SsdInIdeal.τ).loc Cert.SsdInIdeal.main_arg0)
      ∧ r.2.mem ((c.tc : Thread Cert.SsdInIdeal.nD Cert.SsdInIdeal.τ).loc Cert.SsdInIdeal.main_arg1) = m ((c.tc : Thread Cert.SsdInIdeal.nD Cert.SsdInIdeal.τ).loc Cert.SsdInIdeal.main_arg1))
      ∧ r.2.sem = fun _ => 0)

def quiescent_SsdInReferenceIdeal [hSsdInReferenceIdeal : Cert.SsdInReferenceIdeal.Facts] : Prop :=
  ∀ (m : (ℓ : Loc Cert.SsdInReferenceIdeal.nD Cert.SsdInReferenceIdeal.τ Cert.SsdInReferenceIdeal.sig) → Buf (Elt Ideal) ℓ) (g : Dev Cert.SsdInReferenceIdeal.nD → PrngReg), Pre_SsdInReferenceIdeal m →
    θ_run (Cert.SsdInReferenceIdeal.defs (F := Ideal)) (onTc (τ := Cert.SsdInReferenceIdeal.τ) (Cert.SsdInReferenceIdeal.main (F := Ideal))) ⟨m, fun _ => 0, g⟩ (fun r => (∀ c : Dev Cert.SsdInReferenceIdeal.nD,
      r.2.mem ((c.tc : Thread Cert.SsdInReferenceIdeal.nD Cert.SsdInReferenceIdeal.τ).loc Cert.SsdInReferenceIdeal.main_arg0) = m ((c.tc : Thread Cert.SsdInReferenceIdeal.nD Cert.SsdInReferenceIdeal.τ).loc Cert.SsdInReferenceIdeal.main_arg0)
      ∧ r.2.mem ((c.tc : Thread Cert.SsdInReferenceIdeal.nD Cert.SsdInReferenceIdeal.τ).loc Cert.SsdInReferenceIdeal.main_arg1) = m ((c.tc : Thread Cert.SsdInReferenceIdeal.nD Cert.SsdInReferenceIdeal.τ).loc Cert.SsdInReferenceIdeal.main_arg1))
      ∧ r.2.sem = fun _ => 0)

def quiescent_LruIn [hLruIn : Cert.LruIn.Facts] : Prop :=
  ∀ (m : (ℓ : Loc Cert.LruIn.nD Cert.LruIn.τ Cert.LruIn.sig) → Buf (Elt Bits) ℓ) (g : Dev Cert.LruIn.nD → PrngReg), Pre_LruIn m →
    θ_run (Cert.LruIn.defs (F := Bits)) (onTc (τ := Cert.LruIn.τ) (Cert.LruIn.main (F := Bits))) ⟨m, fun _ => 0, g⟩ (fun r => (∀ c : Dev Cert.LruIn.nD,
      r.2.mem ((c.tc : Thread Cert.LruIn.nD Cert.LruIn.τ).loc Cert.LruIn.main_arg0) = m ((c.tc : Thread Cert.LruIn.nD Cert.LruIn.τ).loc Cert.LruIn.main_arg0)
      ∧ r.2.mem ((c.tc : Thread Cert.LruIn.nD Cert.LruIn.τ).loc Cert.LruIn.main_arg1) = m ((c.tc : Thread Cert.LruIn.nD Cert.LruIn.τ).loc Cert.LruIn.main_arg1))
      ∧ r.2.sem = fun _ => 0)

def quiescent_LruInIdeal [hLruInIdeal : Cert.LruInIdeal.Facts] : Prop :=
  ∀ (m : (ℓ : Loc Cert.LruInIdeal.nD Cert.LruInIdeal.τ Cert.LruInIdeal.sig) → Buf (Elt Ideal) ℓ) (g : Dev Cert.LruInIdeal.nD → PrngReg), Pre_LruInIdeal m →
    θ_run (Cert.LruInIdeal.defs (F := Ideal)) (onTc (τ := Cert.LruInIdeal.τ) (Cert.LruInIdeal.main (F := Ideal))) ⟨m, fun _ => 0, g⟩ (fun r => (∀ c : Dev Cert.LruInIdeal.nD,
      r.2.mem ((c.tc : Thread Cert.LruInIdeal.nD Cert.LruInIdeal.τ).loc Cert.LruInIdeal.main_arg0) = m ((c.tc : Thread Cert.LruInIdeal.nD Cert.LruInIdeal.τ).loc Cert.LruInIdeal.main_arg0)
      ∧ r.2.mem ((c.tc : Thread Cert.LruInIdeal.nD Cert.LruInIdeal.τ).loc Cert.LruInIdeal.main_arg1) = m ((c.tc : Thread Cert.LruInIdeal.nD Cert.LruInIdeal.τ).loc Cert.LruInIdeal.main_arg1))
      ∧ r.2.sem = fun _ => 0)

def quiescent_LruInReferenceIdeal [hLruInReferenceIdeal : Cert.LruInReferenceIdeal.Facts] : Prop :=
  ∀ (m : (ℓ : Loc Cert.LruInReferenceIdeal.nD Cert.LruInReferenceIdeal.τ Cert.LruInReferenceIdeal.sig) → Buf (Elt Ideal) ℓ) (g : Dev Cert.LruInReferenceIdeal.nD → PrngReg), Pre_LruInReferenceIdeal m →
    θ_run (Cert.LruInReferenceIdeal.defs (F := Ideal)) (onTc (τ := Cert.LruInReferenceIdeal.τ) (Cert.LruInReferenceIdeal.main (F := Ideal))) ⟨m, fun _ => 0, g⟩ (fun r => (∀ c : Dev Cert.LruInReferenceIdeal.nD,
      r.2.mem ((c.tc : Thread Cert.LruInReferenceIdeal.nD Cert.LruInReferenceIdeal.τ).loc Cert.LruInReferenceIdeal.main_arg0) = m ((c.tc : Thread Cert.LruInReferenceIdeal.nD Cert.LruInReferenceIdeal.τ).loc Cert.LruInReferenceIdeal.main_arg0)
      ∧ r.2.mem ((c.tc : Thread Cert.LruInReferenceIdeal.nD Cert.LruInReferenceIdeal.τ).loc Cert.LruInReferenceIdeal.main_arg1) = m ((c.tc : Thread Cert.LruInReferenceIdeal.nD Cert.LruInReferenceIdeal.τ).loc Cert.LruInReferenceIdeal.main_arg1))
      ∧ r.2.sem = fun _ => 0)

def quiescent_GateIn [hGateIn : Cert.GateIn.Facts] : Prop :=
  ∀ (m : (ℓ : Loc Cert.GateIn.nD Cert.GateIn.τ Cert.GateIn.sig) → Buf (Elt Bits) ℓ) (g : Dev Cert.GateIn.nD → PrngReg), Pre_GateIn m →
    θ_run (Cert.GateIn.defs (F := Bits)) (onTc (τ := Cert.GateIn.τ) (Cert.GateIn.main (F := Bits))) ⟨m, fun _ => 0, g⟩ (fun r => (∀ c : Dev Cert.GateIn.nD,
      r.2.mem ((c.tc : Thread Cert.GateIn.nD Cert.GateIn.τ).loc Cert.GateIn.main_arg0) = m ((c.tc : Thread Cert.GateIn.nD Cert.GateIn.τ).loc Cert.GateIn.main_arg0)
      ∧ r.2.mem ((c.tc : Thread Cert.GateIn.nD Cert.GateIn.τ).loc Cert.GateIn.main_arg1) = m ((c.tc : Thread Cert.GateIn.nD Cert.GateIn.τ).loc Cert.GateIn.main_arg1))
      ∧ r.2.sem = fun _ => 0)

def quiescent_GateInIdeal [hGateInIdeal : Cert.GateInIdeal.Facts] : Prop :=
  ∀ (m : (ℓ : Loc Cert.GateInIdeal.nD Cert.GateInIdeal.τ Cert.GateInIdeal.sig) → Buf (Elt Ideal) ℓ) (g : Dev Cert.GateInIdeal.nD → PrngReg), Pre_GateInIdeal m →
    θ_run (Cert.GateInIdeal.defs (F := Ideal)) (onTc (τ := Cert.GateInIdeal.τ) (Cert.GateInIdeal.main (F := Ideal))) ⟨m, fun _ => 0, g⟩ (fun r => (∀ c : Dev Cert.GateInIdeal.nD,
      r.2.mem ((c.tc : Thread Cert.GateInIdeal.nD Cert.GateInIdeal.τ).loc Cert.GateInIdeal.main_arg0) = m ((c.tc : Thread Cert.GateInIdeal.nD Cert.GateInIdeal.τ).loc Cert.GateInIdeal.main_arg0)
      ∧ r.2.mem ((c.tc : Thread Cert.GateInIdeal.nD Cert.GateInIdeal.τ).loc Cert.GateInIdeal.main_arg1) = m ((c.tc : Thread Cert.GateInIdeal.nD Cert.GateInIdeal.τ).loc Cert.GateInIdeal.main_arg1))
      ∧ r.2.sem = fun _ => 0)

def quiescent_GateInReferenceIdeal [hGateInReferenceIdeal : Cert.GateInReferenceIdeal.Facts] : Prop :=
  ∀ (m : (ℓ : Loc Cert.GateInReferenceIdeal.nD Cert.GateInReferenceIdeal.τ Cert.GateInReferenceIdeal.sig) → Buf (Elt Ideal) ℓ) (g : Dev Cert.GateInReferenceIdeal.nD → PrngReg), Pre_GateInReferenceIdeal m →
    θ_run (Cert.GateInReferenceIdeal.defs (F := Ideal)) (onTc (τ := Cert.GateInReferenceIdeal.τ) (Cert.GateInReferenceIdeal.main (F := Ideal))) ⟨m, fun _ => 0, g⟩ (fun r => (∀ c : Dev Cert.GateInReferenceIdeal.nD,
      r.2.mem ((c.tc : Thread Cert.GateInReferenceIdeal.nD Cert.GateInReferenceIdeal.τ).loc Cert.GateInReferenceIdeal.main_arg0) = m ((c.tc : Thread Cert.GateInReferenceIdeal.nD Cert.GateInReferenceIdeal.τ).loc Cert.GateInReferenceIdeal.main_arg0)
      ∧ r.2.mem ((c.tc : Thread Cert.GateInReferenceIdeal.nD Cert.GateInReferenceIdeal.τ).loc Cert.GateInReferenceIdeal.main_arg1) = m ((c.tc : Thread Cert.GateInReferenceIdeal.nD Cert.GateInReferenceIdeal.τ).loc Cert.GateInReferenceIdeal.main_arg1))
      ∧ r.2.sem = fun _ => 0)

def quiescent_OutX [hOutX : Cert.OutX.Facts] : Prop :=
  ∀ (m : (ℓ : Loc Cert.OutX.nD Cert.OutX.τ Cert.OutX.sig) → Buf (Elt Bits) ℓ) (g : Dev Cert.OutX.nD → PrngReg), Pre_OutX m →
    θ_run (Cert.OutX.defs (F := Bits)) (onTc (τ := Cert.OutX.τ) (Cert.OutX.main (F := Bits))) ⟨m, fun _ => 0, g⟩ (fun r => (∀ c : Dev Cert.OutX.nD,
      r.2.mem ((c.tc : Thread Cert.OutX.nD Cert.OutX.τ).loc Cert.OutX.main_arg0) = m ((c.tc : Thread Cert.OutX.nD Cert.OutX.τ).loc Cert.OutX.main_arg0)
      ∧ r.2.mem ((c.tc : Thread Cert.OutX.nD Cert.OutX.τ).loc Cert.OutX.main_arg1) = m ((c.tc : Thread Cert.OutX.nD Cert.OutX.τ).loc Cert.OutX.main_arg1))
      ∧ r.2.sem = fun _ => 0)

def quiescent_OutXIdeal [hOutXIdeal : Cert.OutXIdeal.Facts] : Prop :=
  ∀ (m : (ℓ : Loc Cert.OutXIdeal.nD Cert.OutXIdeal.τ Cert.OutXIdeal.sig) → Buf (Elt Ideal) ℓ) (g : Dev Cert.OutXIdeal.nD → PrngReg), Pre_OutXIdeal m →
    θ_run (Cert.OutXIdeal.defs (F := Ideal)) (onTc (τ := Cert.OutXIdeal.τ) (Cert.OutXIdeal.main (F := Ideal))) ⟨m, fun _ => 0, g⟩ (fun r => (∀ c : Dev Cert.OutXIdeal.nD,
      r.2.mem ((c.tc : Thread Cert.OutXIdeal.nD Cert.OutXIdeal.τ).loc Cert.OutXIdeal.main_arg0) = m ((c.tc : Thread Cert.OutXIdeal.nD Cert.OutXIdeal.τ).loc Cert.OutXIdeal.main_arg0)
      ∧ r.2.mem ((c.tc : Thread Cert.OutXIdeal.nD Cert.OutXIdeal.τ).loc Cert.OutXIdeal.main_arg1) = m ((c.tc : Thread Cert.OutXIdeal.nD Cert.OutXIdeal.τ).loc Cert.OutXIdeal.main_arg1))
      ∧ r.2.sem = fun _ => 0)

def quiescent_OutXReferenceIdeal [hOutXReferenceIdeal : Cert.OutXReferenceIdeal.Facts] : Prop :=
  ∀ (m : (ℓ : Loc Cert.OutXReferenceIdeal.nD Cert.OutXReferenceIdeal.τ Cert.OutXReferenceIdeal.sig) → Buf (Elt Ideal) ℓ) (g : Dev Cert.OutXReferenceIdeal.nD → PrngReg), Pre_OutXReferenceIdeal m →
    θ_run (Cert.OutXReferenceIdeal.defs (F := Ideal)) (onTc (τ := Cert.OutXReferenceIdeal.τ) (Cert.OutXReferenceIdeal.main (F := Ideal))) ⟨m, fun _ => 0, g⟩ (fun r => (∀ c : Dev Cert.OutXReferenceIdeal.nD,
      r.2.mem ((c.tc : Thread Cert.OutXReferenceIdeal.nD Cert.OutXReferenceIdeal.τ).loc Cert.OutXReferenceIdeal.main_arg0) = m ((c.tc : Thread Cert.OutXReferenceIdeal.nD Cert.OutXReferenceIdeal.τ).loc Cert.OutXReferenceIdeal.main_arg0)
      ∧ r.2.mem ((c.tc : Thread Cert.OutXReferenceIdeal.nD Cert.OutXReferenceIdeal.τ).loc Cert.OutXReferenceIdeal.main_arg1) = m ((c.tc : Thread Cert.OutXReferenceIdeal.nD Cert.OutXReferenceIdeal.τ).loc Cert.OutXReferenceIdeal.main_arg1))
      ∧ r.2.sem = fun _ => 0)

def quiescent_OutW [hOutW : Cert.OutW.Facts] : Prop :=
  ∀ (m : (ℓ : Loc Cert.OutW.nD Cert.OutW.τ Cert.OutW.sig) → Buf (Elt Bits) ℓ) (g : Dev Cert.OutW.nD → PrngReg), Pre_OutW m →
    θ_run (Cert.OutW.defs (F := Bits)) (onTc (τ := Cert.OutW.τ) (Cert.OutW.main (F := Bits))) ⟨m, fun _ => 0, g⟩ (fun r => (∀ c : Dev Cert.OutW.nD,
      r.2.mem ((c.tc : Thread Cert.OutW.nD Cert.OutW.τ).loc Cert.OutW.main_arg0) = m ((c.tc : Thread Cert.OutW.nD Cert.OutW.τ).loc Cert.OutW.main_arg0)
      ∧ r.2.mem ((c.tc : Thread Cert.OutW.nD Cert.OutW.τ).loc Cert.OutW.main_arg1) = m ((c.tc : Thread Cert.OutW.nD Cert.OutW.τ).loc Cert.OutW.main_arg1))
      ∧ r.2.sem = fun _ => 0)

def quiescent_OutWIdeal [hOutWIdeal : Cert.OutWIdeal.Facts] : Prop :=
  ∀ (m : (ℓ : Loc Cert.OutWIdeal.nD Cert.OutWIdeal.τ Cert.OutWIdeal.sig) → Buf (Elt Ideal) ℓ) (g : Dev Cert.OutWIdeal.nD → PrngReg), Pre_OutWIdeal m →
    θ_run (Cert.OutWIdeal.defs (F := Ideal)) (onTc (τ := Cert.OutWIdeal.τ) (Cert.OutWIdeal.main (F := Ideal))) ⟨m, fun _ => 0, g⟩ (fun r => (∀ c : Dev Cert.OutWIdeal.nD,
      r.2.mem ((c.tc : Thread Cert.OutWIdeal.nD Cert.OutWIdeal.τ).loc Cert.OutWIdeal.main_arg0) = m ((c.tc : Thread Cert.OutWIdeal.nD Cert.OutWIdeal.τ).loc Cert.OutWIdeal.main_arg0)
      ∧ r.2.mem ((c.tc : Thread Cert.OutWIdeal.nD Cert.OutWIdeal.τ).loc Cert.OutWIdeal.main_arg1) = m ((c.tc : Thread Cert.OutWIdeal.nD Cert.OutWIdeal.τ).loc Cert.OutWIdeal.main_arg1))
      ∧ r.2.sem = fun _ => 0)

def quiescent_OutWReferenceIdeal [hOutWReferenceIdeal : Cert.OutWReferenceIdeal.Facts] : Prop :=
  ∀ (m : (ℓ : Loc Cert.OutWReferenceIdeal.nD Cert.OutWReferenceIdeal.τ Cert.OutWReferenceIdeal.sig) → Buf (Elt Ideal) ℓ) (g : Dev Cert.OutWReferenceIdeal.nD → PrngReg), Pre_OutWReferenceIdeal m →
    θ_run (Cert.OutWReferenceIdeal.defs (F := Ideal)) (onTc (τ := Cert.OutWReferenceIdeal.τ) (Cert.OutWReferenceIdeal.main (F := Ideal))) ⟨m, fun _ => 0, g⟩ (fun r => (∀ c : Dev Cert.OutWReferenceIdeal.nD,
      r.2.mem ((c.tc : Thread Cert.OutWReferenceIdeal.nD Cert.OutWReferenceIdeal.τ).loc Cert.OutWReferenceIdeal.main_arg0) = m ((c.tc : Thread Cert.OutWReferenceIdeal.nD Cert.OutWReferenceIdeal.τ).loc Cert.OutWReferenceIdeal.main_arg0)
      ∧ r.2.mem ((c.tc : Thread Cert.OutWReferenceIdeal.nD Cert.OutWReferenceIdeal.τ).loc Cert.OutWReferenceIdeal.main_arg1) = m ((c.tc : Thread Cert.OutWReferenceIdeal.nD Cert.OutWReferenceIdeal.τ).loc Cert.OutWReferenceIdeal.main_arg1))
      ∧ r.2.sem = fun _ => 0)

def quiescent_Out [hOut : Cert.Out.Facts] : Prop :=
  ∀ (m : (ℓ : Loc Cert.Out.nD Cert.Out.τ Cert.Out.sig) → Buf (Elt Bits) ℓ) (g : Dev Cert.Out.nD → PrngReg), Pre_Out m →
    θ_run (Cert.Out.defs (F := Bits)) (onTc (τ := Cert.Out.τ) (Cert.Out.main (F := Bits))) ⟨m, fun _ => 0, g⟩ (fun r => (∀ c : Dev Cert.Out.nD,
      r.2.mem ((c.tc : Thread Cert.Out.nD Cert.Out.τ).loc Cert.Out.main_arg0) = m ((c.tc : Thread Cert.Out.nD Cert.Out.τ).loc Cert.Out.main_arg0)
      ∧ r.2.mem ((c.tc : Thread Cert.Out.nD Cert.Out.τ).loc Cert.Out.main_arg1) = m ((c.tc : Thread Cert.Out.nD Cert.Out.τ).loc Cert.Out.main_arg1))
      ∧ r.2.sem = fun _ => 0)

def quiescent_OutIdeal [hOutIdeal : Cert.OutIdeal.Facts] : Prop :=
  ∀ (m : (ℓ : Loc Cert.OutIdeal.nD Cert.OutIdeal.τ Cert.OutIdeal.sig) → Buf (Elt Ideal) ℓ) (g : Dev Cert.OutIdeal.nD → PrngReg), Pre_OutIdeal m →
    θ_run (Cert.OutIdeal.defs (F := Ideal)) (onTc (τ := Cert.OutIdeal.τ) (Cert.OutIdeal.main (F := Ideal))) ⟨m, fun _ => 0, g⟩ (fun r => (∀ c : Dev Cert.OutIdeal.nD,
      r.2.mem ((c.tc : Thread Cert.OutIdeal.nD Cert.OutIdeal.τ).loc Cert.OutIdeal.main_arg0) = m ((c.tc : Thread Cert.OutIdeal.nD Cert.OutIdeal.τ).loc Cert.OutIdeal.main_arg0)
      ∧ r.2.mem ((c.tc : Thread Cert.OutIdeal.nD Cert.OutIdeal.τ).loc Cert.OutIdeal.main_arg1) = m ((c.tc : Thread Cert.OutIdeal.nD Cert.OutIdeal.τ).loc Cert.OutIdeal.main_arg1))
      ∧ r.2.sem = fun _ => 0)

def quiescent_OutReferenceIdeal [hOutReferenceIdeal : Cert.OutReferenceIdeal.Facts] : Prop :=
  ∀ (m : (ℓ : Loc Cert.OutReferenceIdeal.nD Cert.OutReferenceIdeal.τ Cert.OutReferenceIdeal.sig) → Buf (Elt Ideal) ℓ) (g : Dev Cert.OutReferenceIdeal.nD → PrngReg), Pre_OutReferenceIdeal m →
    θ_run (Cert.OutReferenceIdeal.defs (F := Ideal)) (onTc (τ := Cert.OutReferenceIdeal.τ) (Cert.OutReferenceIdeal.main (F := Ideal))) ⟨m, fun _ => 0, g⟩ (fun r => (∀ c : Dev Cert.OutReferenceIdeal.nD,
      r.2.mem ((c.tc : Thread Cert.OutReferenceIdeal.nD Cert.OutReferenceIdeal.τ).loc Cert.OutReferenceIdeal.main_arg0) = m ((c.tc : Thread Cert.OutReferenceIdeal.nD Cert.OutReferenceIdeal.τ).loc Cert.OutReferenceIdeal.main_arg0)
      ∧ r.2.mem ((c.tc : Thread Cert.OutReferenceIdeal.nD Cert.OutReferenceIdeal.τ).loc Cert.OutReferenceIdeal.main_arg1) = m ((c.tc : Thread Cert.OutReferenceIdeal.nD Cert.OutReferenceIdeal.τ).loc Cert.OutReferenceIdeal.main_arg1))
      ∧ r.2.sem = fun _ => 0)

def quiescent_MergeX [hMergeX : Cert.MergeX.Facts] : Prop :=
  ∀ (m : (ℓ : Loc Cert.MergeX.nD Cert.MergeX.τ Cert.MergeX.sig) → Buf (Elt Bits) ℓ) (g : Dev Cert.MergeX.nD → PrngReg), Pre_MergeX m →
    θ_run (Cert.MergeX.defs (F := Bits)) (onTc (τ := Cert.MergeX.τ) (Cert.MergeX.main (F := Bits))) ⟨m, fun _ => 0, g⟩ (fun r => (∀ c : Dev Cert.MergeX.nD,
      r.2.mem ((c.tc : Thread Cert.MergeX.nD Cert.MergeX.τ).loc Cert.MergeX.main_arg0) = m ((c.tc : Thread Cert.MergeX.nD Cert.MergeX.τ).loc Cert.MergeX.main_arg0)
      ∧ r.2.mem ((c.tc : Thread Cert.MergeX.nD Cert.MergeX.τ).loc Cert.MergeX.main_arg1) = m ((c.tc : Thread Cert.MergeX.nD Cert.MergeX.τ).loc Cert.MergeX.main_arg1)
      ∧ r.2.mem ((c.tc : Thread Cert.MergeX.nD Cert.MergeX.τ).loc Cert.MergeX.main_arg2) = m ((c.tc : Thread Cert.MergeX.nD Cert.MergeX.τ).loc Cert.MergeX.main_arg2)
      ∧ r.2.mem ((c.tc : Thread Cert.MergeX.nD Cert.MergeX.τ).loc Cert.MergeX.main_arg3) = m ((c.tc : Thread Cert.MergeX.nD Cert.MergeX.τ).loc Cert.MergeX.main_arg3)
      ∧ r.2.mem ((c.tc : Thread Cert.MergeX.nD Cert.MergeX.τ).loc Cert.MergeX.main_arg4) = m ((c.tc : Thread Cert.MergeX.nD Cert.MergeX.τ).loc Cert.MergeX.main_arg4)
      ∧ r.2.mem ((c.tc : Thread Cert.MergeX.nD Cert.MergeX.τ).loc Cert.MergeX.main_arg5) = m ((c.tc : Thread Cert.MergeX.nD Cert.MergeX.τ).loc Cert.MergeX.main_arg5)
      ∧ r.2.mem ((c.tc : Thread Cert.MergeX.nD Cert.MergeX.τ).loc Cert.MergeX.main_arg6) = m ((c.tc : Thread Cert.MergeX.nD Cert.MergeX.τ).loc Cert.MergeX.main_arg6)
      ∧ r.2.mem ((c.tc : Thread Cert.MergeX.nD Cert.MergeX.τ).loc Cert.MergeX.main_arg7) = m ((c.tc : Thread Cert.MergeX.nD Cert.MergeX.τ).loc Cert.MergeX.main_arg7))
      ∧ r.2.sem = fun _ => 0)

def quiescent_MergeXIdeal [hMergeXIdeal : Cert.MergeXIdeal.Facts] : Prop :=
  ∀ (m : (ℓ : Loc Cert.MergeXIdeal.nD Cert.MergeXIdeal.τ Cert.MergeXIdeal.sig) → Buf (Elt Ideal) ℓ) (g : Dev Cert.MergeXIdeal.nD → PrngReg), Pre_MergeXIdeal m →
    θ_run (Cert.MergeXIdeal.defs (F := Ideal)) (onTc (τ := Cert.MergeXIdeal.τ) (Cert.MergeXIdeal.main (F := Ideal))) ⟨m, fun _ => 0, g⟩ (fun r => (∀ c : Dev Cert.MergeXIdeal.nD,
      r.2.mem ((c.tc : Thread Cert.MergeXIdeal.nD Cert.MergeXIdeal.τ).loc Cert.MergeXIdeal.main_arg0) = m ((c.tc : Thread Cert.MergeXIdeal.nD Cert.MergeXIdeal.τ).loc Cert.MergeXIdeal.main_arg0)
      ∧ r.2.mem ((c.tc : Thread Cert.MergeXIdeal.nD Cert.MergeXIdeal.τ).loc Cert.MergeXIdeal.main_arg1) = m ((c.tc : Thread Cert.MergeXIdeal.nD Cert.MergeXIdeal.τ).loc Cert.MergeXIdeal.main_arg1)
      ∧ r.2.mem ((c.tc : Thread Cert.MergeXIdeal.nD Cert.MergeXIdeal.τ).loc Cert.MergeXIdeal.main_arg2) = m ((c.tc : Thread Cert.MergeXIdeal.nD Cert.MergeXIdeal.τ).loc Cert.MergeXIdeal.main_arg2)
      ∧ r.2.mem ((c.tc : Thread Cert.MergeXIdeal.nD Cert.MergeXIdeal.τ).loc Cert.MergeXIdeal.main_arg3) = m ((c.tc : Thread Cert.MergeXIdeal.nD Cert.MergeXIdeal.τ).loc Cert.MergeXIdeal.main_arg3)
      ∧ r.2.mem ((c.tc : Thread Cert.MergeXIdeal.nD Cert.MergeXIdeal.τ).loc Cert.MergeXIdeal.main_arg4) = m ((c.tc : Thread Cert.MergeXIdeal.nD Cert.MergeXIdeal.τ).loc Cert.MergeXIdeal.main_arg4)
      ∧ r.2.mem ((c.tc : Thread Cert.MergeXIdeal.nD Cert.MergeXIdeal.τ).loc Cert.MergeXIdeal.main_arg5) = m ((c.tc : Thread Cert.MergeXIdeal.nD Cert.MergeXIdeal.τ).loc Cert.MergeXIdeal.main_arg5)
      ∧ r.2.mem ((c.tc : Thread Cert.MergeXIdeal.nD Cert.MergeXIdeal.τ).loc Cert.MergeXIdeal.main_arg6) = m ((c.tc : Thread Cert.MergeXIdeal.nD Cert.MergeXIdeal.τ).loc Cert.MergeXIdeal.main_arg6)
      ∧ r.2.mem ((c.tc : Thread Cert.MergeXIdeal.nD Cert.MergeXIdeal.τ).loc Cert.MergeXIdeal.main_arg7) = m ((c.tc : Thread Cert.MergeXIdeal.nD Cert.MergeXIdeal.τ).loc Cert.MergeXIdeal.main_arg7))
      ∧ r.2.sem = fun _ => 0)

def quiescent_MergeXReferenceIdeal [hMergeXReferenceIdeal : Cert.MergeXReferenceIdeal.Facts] : Prop :=
  ∀ (m : (ℓ : Loc Cert.MergeXReferenceIdeal.nD Cert.MergeXReferenceIdeal.τ Cert.MergeXReferenceIdeal.sig) → Buf (Elt Ideal) ℓ) (g : Dev Cert.MergeXReferenceIdeal.nD → PrngReg), Pre_MergeXReferenceIdeal m →
    θ_run (Cert.MergeXReferenceIdeal.defs (F := Ideal)) (onTc (τ := Cert.MergeXReferenceIdeal.τ) (Cert.MergeXReferenceIdeal.main (F := Ideal))) ⟨m, fun _ => 0, g⟩ (fun r => (∀ c : Dev Cert.MergeXReferenceIdeal.nD,
      r.2.mem ((c.tc : Thread Cert.MergeXReferenceIdeal.nD Cert.MergeXReferenceIdeal.τ).loc Cert.MergeXReferenceIdeal.main_arg0) = m ((c.tc : Thread Cert.MergeXReferenceIdeal.nD Cert.MergeXReferenceIdeal.τ).loc Cert.MergeXReferenceIdeal.main_arg0)
      ∧ r.2.mem ((c.tc : Thread Cert.MergeXReferenceIdeal.nD Cert.MergeXReferenceIdeal.τ).loc Cert.MergeXReferenceIdeal.main_arg1) = m ((c.tc : Thread Cert.MergeXReferenceIdeal.nD Cert.MergeXReferenceIdeal.τ).loc Cert.MergeXReferenceIdeal.main_arg1)
      ∧ r.2.mem ((c.tc : Thread Cert.MergeXReferenceIdeal.nD Cert.MergeXReferenceIdeal.τ).loc Cert.MergeXReferenceIdeal.main_arg2) = m ((c.tc : Thread Cert.MergeXReferenceIdeal.nD Cert.MergeXReferenceIdeal.τ).loc Cert.MergeXReferenceIdeal.main_arg2)
      ∧ r.2.mem ((c.tc : Thread Cert.MergeXReferenceIdeal.nD Cert.MergeXReferenceIdeal.τ).loc Cert.MergeXReferenceIdeal.main_arg3) = m ((c.tc : Thread Cert.MergeXReferenceIdeal.nD Cert.MergeXReferenceIdeal.τ).loc Cert.MergeXReferenceIdeal.main_arg3)
      ∧ r.2.mem ((c.tc : Thread Cert.MergeXReferenceIdeal.nD Cert.MergeXReferenceIdeal.τ).loc Cert.MergeXReferenceIdeal.main_arg4) = m ((c.tc : Thread Cert.MergeXReferenceIdeal.nD Cert.MergeXReferenceIdeal.τ).loc Cert.MergeXReferenceIdeal.main_arg4)
      ∧ r.2.mem ((c.tc : Thread Cert.MergeXReferenceIdeal.nD Cert.MergeXReferenceIdeal.τ).loc Cert.MergeXReferenceIdeal.main_arg5) = m ((c.tc : Thread Cert.MergeXReferenceIdeal.nD Cert.MergeXReferenceIdeal.τ).loc Cert.MergeXReferenceIdeal.main_arg5)
      ∧ r.2.mem ((c.tc : Thread Cert.MergeXReferenceIdeal.nD Cert.MergeXReferenceIdeal.τ).loc Cert.MergeXReferenceIdeal.main_arg6) = m ((c.tc : Thread Cert.MergeXReferenceIdeal.nD Cert.MergeXReferenceIdeal.τ).loc Cert.MergeXReferenceIdeal.main_arg6)
      ∧ r.2.mem ((c.tc : Thread Cert.MergeXReferenceIdeal.nD Cert.MergeXReferenceIdeal.τ).loc Cert.MergeXReferenceIdeal.main_arg7) = m ((c.tc : Thread Cert.MergeXReferenceIdeal.nD Cert.MergeXReferenceIdeal.τ).loc Cert.MergeXReferenceIdeal.main_arg7))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4)
      ∧ r.2.mem ((c.tc : Thread Cert.Merge.nD Cert.Merge.τ).loc Cert.Merge.main_arg5) = m ((c.tc : Thread Cert.Merge.nD Cert.Merge.τ).loc Cert.Merge.main_arg5)
      ∧ r.2.mem ((c.tc : Thread Cert.Merge.nD Cert.Merge.τ).loc Cert.Merge.main_arg6) = m ((c.tc : Thread Cert.Merge.nD Cert.Merge.τ).loc Cert.Merge.main_arg6))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
      ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6))
      ∧ r.2.sem = fun _ => 0)

def quiescent_MergeReferenceIdeal [hMergeReferenceIdeal : Cert.MergeReferenceIdeal.Facts] : Prop :=
  ∀ (m : (ℓ : Loc Cert.MergeReferenceIdeal.nD Cert.MergeReferenceIdeal.τ Cert.MergeReferenceIdeal.sig) → Buf (Elt Ideal) ℓ) (g : Dev Cert.MergeReferenceIdeal.nD → PrngReg), Pre_MergeReferenceIdeal m →
    θ_run (Cert.MergeReferenceIdeal.defs (F := Ideal)) (onTc (τ := Cert.MergeReferenceIdeal.τ) (Cert.MergeReferenceIdeal.main (F := Ideal))) ⟨m, fun _ => 0, g⟩ (fun r => (∀ c : Dev Cert.MergeReferenceIdeal.nD,
      r.2.mem ((c.tc : Thread Cert.MergeReferenceIdeal.nD Cert.MergeReferenceIdeal.τ).loc Cert.MergeReferenceIdeal.main_arg0) = m ((c.tc : Thread Cert.MergeReferenceIdeal.nD Cert.MergeReferenceIdeal.τ).loc Cert.MergeReferenceIdeal.main_arg0)
      ∧ r.2.mem ((c.tc : Thread Cert.MergeReferenceIdeal.nD Cert.MergeReferenceIdeal.τ).loc Cert.MergeReferenceIdeal.main_arg1) = m ((c.tc : Thread Cert.MergeReferenceIdeal.nD Cert.MergeReferenceIdeal.τ).loc Cert.MergeReferenceIdeal.main_arg1)
      ∧ r.2.mem ((c.tc : Thread Cert.MergeReferenceIdeal.nD Cert.MergeReferenceIdeal.τ).loc Cert.MergeReferenceIdeal.main_arg2) = m ((c.tc : Thread Cert.MergeReferenceIdeal.nD Cert.MergeReferenceIdeal.τ).loc Cert.MergeReferenceIdeal.main_arg2)
      ∧ r.2.mem ((c.tc : Thread Cert.MergeReferenceIdeal.nD Cert.MergeReferenceIdeal.τ).loc Cert.MergeReferenceIdeal.main_arg3) = m ((c.tc : Thread Cert.MergeReferenceIdeal.nD Cert.MergeReferenceIdeal.τ).loc Cert.MergeReferenceIdeal.main_arg3)
      ∧ r.2.mem ((c.tc : Thread Cert.MergeReferenceIdeal.nD Cert.MergeReferenceIdeal.τ).loc Cert.MergeReferenceIdeal.main_arg4) = m ((c.tc : Thread Cert.MergeReferenceIdeal.nD Cert.MergeReferenceIdeal.τ).loc Cert.MergeReferenceIdeal.main_arg4)
      ∧ r.2.mem ((c.tc : Thread Cert.MergeReferenceIdeal.nD Cert.MergeReferenceIdeal.τ).loc Cert.MergeReferenceIdeal.main_arg5) = m ((c.tc : Thread Cert.MergeReferenceIdeal.nD Cert.MergeReferenceIdeal.τ).loc Cert.MergeReferenceIdeal.main_arg5)
      ∧ r.2.mem ((c.tc : Thread Cert.MergeReferenceIdeal.nD Cert.MergeReferenceIdeal.τ).loc Cert.MergeReferenceIdeal.main_arg6) = m ((c.tc : Thread Cert.MergeReferenceIdeal.nD Cert.MergeReferenceIdeal.τ).loc Cert.MergeReferenceIdeal.main_arg6))
      ∧ r.2.sem = fun _ => 0)

def quiescent_AdaW [hAdaW : Cert.AdaW.Facts] : Prop :=
  ∀ (m : (ℓ : Loc Cert.AdaW.nD Cert.AdaW.τ Cert.AdaW.sig) → Buf (Elt Bits) ℓ) (g : Dev Cert.AdaW.nD → PrngReg), Pre_AdaW m →
    θ_run (Cert.AdaW.defs (F := Bits)) (onTc (τ := Cert.AdaW.τ) (Cert.AdaW.main (F := Bits))) ⟨m, fun _ => 0, g⟩ (fun r => (∀ c : Dev Cert.AdaW.nD,
      r.2.mem ((c.tc : Thread Cert.AdaW.nD Cert.AdaW.τ).loc Cert.AdaW.main_arg0) = m ((c.tc : Thread Cert.AdaW.nD Cert.AdaW.τ).loc Cert.AdaW.main_arg0)
      ∧ r.2.mem ((c.tc : Thread Cert.AdaW.nD Cert.AdaW.τ).loc Cert.AdaW.main_arg1) = m ((c.tc : Thread Cert.AdaW.nD Cert.AdaW.τ).loc Cert.AdaW.main_arg1))
      ∧ r.2.sem = fun _ => 0)

def quiescent_AdaWIdeal [hAdaWIdeal : Cert.AdaWIdeal.Facts] : Prop :=
  ∀ (m : (ℓ : Loc Cert.AdaWIdeal.nD Cert.AdaWIdeal.τ Cert.AdaWIdeal.sig) → Buf (Elt Ideal) ℓ) (g : Dev Cert.AdaWIdeal.nD → PrngReg), Pre_AdaWIdeal m →
    θ_run (Cert.AdaWIdeal.defs (F := Ideal)) (onTc (τ := Cert.AdaWIdeal.τ) (Cert.AdaWIdeal.main (F := Ideal))) ⟨m, fun _ => 0, g⟩ (fun r => (∀ c : Dev Cert.AdaWIdeal.nD,
      r.2.mem ((c.tc : Thread Cert.AdaWIdeal.nD Cert.AdaWIdeal.τ).loc Cert.AdaWIdeal.main_arg0) = m ((c.tc : Thread Cert.AdaWIdeal.nD Cert.AdaWIdeal.τ).loc Cert.AdaWIdeal.main_arg0)
      ∧ r.2.mem ((c.tc : Thread Cert.AdaWIdeal.nD Cert.AdaWIdeal.τ).loc Cert.AdaWIdeal.main_arg1) = m ((c.tc : Thread Cert.AdaWIdeal.nD Cert.AdaWIdeal.τ).loc Cert.AdaWIdeal.main_arg1))
      ∧ r.2.sem = fun _ => 0)

def quiescent_AdaWReferenceIdeal [hAdaWReferenceIdeal : Cert.AdaWReferenceIdeal.Facts] : Prop :=
  ∀ (m : (ℓ : Loc Cert.AdaWReferenceIdeal.nD Cert.AdaWReferenceIdeal.τ Cert.AdaWReferenceIdeal.sig) → Buf (Elt Ideal) ℓ) (g : Dev Cert.AdaWReferenceIdeal.nD → PrngReg), Pre_AdaWReferenceIdeal m →
    θ_run (Cert.AdaWReferenceIdeal.defs (F := Ideal)) (onTc (τ := Cert.AdaWReferenceIdeal.τ) (Cert.AdaWReferenceIdeal.main (F := Ideal))) ⟨m, fun _ => 0, g⟩ (fun r => (∀ c : Dev Cert.AdaWReferenceIdeal.nD,
      r.2.mem ((c.tc : Thread Cert.AdaWReferenceIdeal.nD Cert.AdaWReferenceIdeal.τ).loc Cert.AdaWReferenceIdeal.main_arg0) = m ((c.tc : Thread Cert.AdaWReferenceIdeal.nD Cert.AdaWReferenceIdeal.τ).loc Cert.AdaWReferenceIdeal.main_arg0)
      ∧ r.2.mem ((c.tc : Thread Cert.AdaWReferenceIdeal.nD Cert.AdaWReferenceIdeal.τ).loc Cert.AdaWReferenceIdeal.main_arg1) = m ((c.tc : Thread Cert.AdaWReferenceIdeal.nD Cert.AdaWReferenceIdeal.τ).loc Cert.AdaWReferenceIdeal.main_arg1))
      ∧ r.2.sem = fun _ => 0)

def quiescent_Mod [hMod : Cert.Mod.Facts] : Prop :=
  ∀ (m : (ℓ : Loc Cert.Mod.nD Cert.Mod.τ Cert.Mod.sig) → Buf (Elt Bits) ℓ) (g : Dev Cert.Mod.nD → PrngReg), Pre_Mod m →
    θ_run (Cert.Mod.defs (F := Bits)) (onTc (τ := Cert.Mod.τ) (Cert.Mod.main (F := Bits))) ⟨m, fun _ => 0, g⟩ (fun r => (∀ c : Dev Cert.Mod.nD,
      r.2.mem ((c.tc : Thread Cert.Mod.nD Cert.Mod.τ).loc Cert.Mod.main_arg0) = m ((c.tc : Thread Cert.Mod.nD Cert.Mod.τ).loc Cert.Mod.main_arg0)
      ∧ r.2.mem ((c.tc : Thread Cert.Mod.nD Cert.Mod.τ).loc Cert.Mod.main_arg1) = m ((c.tc : Thread Cert.Mod.nD Cert.Mod.τ).loc Cert.Mod.main_arg1)
      ∧ r.2.mem ((c.tc : Thread Cert.Mod.nD Cert.Mod.τ).loc Cert.Mod.main_arg2) = m ((c.tc : Thread Cert.Mod.nD Cert.Mod.τ).loc Cert.Mod.main_arg2))
      ∧ r.2.sem = fun _ => 0)

def quiescent_ModIdeal [hModIdeal : Cert.ModIdeal.Facts] : Prop :=
  ∀ (m : (ℓ : Loc Cert.ModIdeal.nD Cert.ModIdeal.τ Cert.ModIdeal.sig) → Buf (Elt Ideal) ℓ) (g : Dev Cert.ModIdeal.nD → PrngReg), Pre_ModIdeal m →
    θ_run (Cert.ModIdeal.defs (F := Ideal)) (onTc (τ := Cert.ModIdeal.τ) (Cert.ModIdeal.main (F := Ideal))) ⟨m, fun _ => 0, g⟩ (fun r => (∀ c : Dev Cert.ModIdeal.nD,
      r.2.mem ((c.tc : Thread Cert.ModIdeal.nD Cert.ModIdeal.τ).loc Cert.ModIdeal.main_arg0) = m ((c.tc : Thread Cert.ModIdeal.nD Cert.ModIdeal.τ).loc Cert.ModIdeal.main_arg0)
      ∧ r.2.mem ((c.tc : Thread Cert.ModIdeal.nD Cert.ModIdeal.τ).loc Cert.ModIdeal.main_arg1) = m ((c.tc : Thread Cert.ModIdeal.nD Cert.ModIdeal.τ).loc Cert.ModIdeal.main_arg1)
      ∧ r.2.mem ((c.tc : Thread Cert.ModIdeal.nD Cert.ModIdeal.τ).loc Cert.ModIdeal.main_arg2) = m ((c.tc : Thread Cert.ModIdeal.nD Cert.ModIdeal.τ).loc Cert.ModIdeal.main_arg2))
      ∧ r.2.sem = fun _ => 0)

def quiescent_ModReferenceIdeal [hModReferenceIdeal : Cert.ModReferenceIdeal.Facts] : Prop :=
  ∀ (m : (ℓ : Loc Cert.ModReferenceIdeal.nD Cert.ModReferenceIdeal.τ Cert.ModReferenceIdeal.sig) → Buf (Elt Ideal) ℓ) (g : Dev Cert.ModReferenceIdeal.nD → PrngReg), Pre_ModReferenceIdeal m →
    θ_run (Cert.ModReferenceIdeal.defs (F := Ideal)) (onTc (τ := Cert.ModReferenceIdeal.τ) (Cert.ModReferenceIdeal.main (F := Ideal))) ⟨m, fun _ => 0, g⟩ (fun r => (∀ c : Dev Cert.ModReferenceIdeal.nD,
      r.2.mem ((c.tc : Thread Cert.ModReferenceIdeal.nD Cert.ModReferenceIdeal.τ).loc Cert.ModReferenceIdeal.main_arg0) = m ((c.tc : Thread Cert.ModReferenceIdeal.nD Cert.ModReferenceIdeal.τ).loc Cert.ModReferenceIdeal.main_arg0)
      ∧ r.2.mem ((c.tc : Thread Cert.ModReferenceIdeal.nD Cert.ModReferenceIdeal.τ).loc Cert.ModReferenceIdeal.main_arg1) = m ((c.tc : Thread Cert.ModReferenceIdeal.nD Cert.ModReferenceIdeal.τ).loc Cert.ModReferenceIdeal.main_arg1)
      ∧ r.2.mem ((c.tc : Thread Cert.ModReferenceIdeal.nD Cert.ModReferenceIdeal.τ).loc Cert.ModReferenceIdeal.main_arg2) = m ((c.tc : Thread Cert.ModReferenceIdeal.nD Cert.ModReferenceIdeal.τ).loc Cert.ModReferenceIdeal.main_arg2))
      ∧ r.2.sem = fun _ => 0)

def quiescent_AdamAda [hAdamAda : Cert.AdamAda.Facts] : Prop :=
  ∀ (m : (ℓ : Loc Cert.AdamAda.nD Cert.AdamAda.τ Cert.AdamAda.sig) → Buf (Elt Bits) ℓ) (g : Dev Cert.AdamAda.nD → PrngReg), Pre_AdamAda m →
    θ_run (Cert.AdamAda.defs (F := Bits)) (onTc (τ := Cert.AdamAda.τ) (Cert.AdamAda.main (F := Bits))) ⟨m, fun _ => 0, g⟩ (fun r => (∀ c : Dev Cert.AdamAda.nD,
      r.2.mem ((c.tc : Thread Cert.AdamAda.nD Cert.AdamAda.τ).loc Cert.AdamAda.main_arg0) = m ((c.tc : Thread Cert.AdamAda.nD Cert.AdamAda.τ).loc Cert.AdamAda.main_arg0)
      ∧ r.2.mem ((c.tc : Thread Cert.AdamAda.nD Cert.AdamAda.τ).loc Cert.AdamAda.main_arg1) = m ((c.tc : Thread Cert.AdamAda.nD Cert.AdamAda.τ).loc Cert.AdamAda.main_arg1)
      ∧ r.2.mem ((c.tc : Thread Cert.AdamAda.nD Cert.AdamAda.τ).loc Cert.AdamAda.main_arg2) = m ((c.tc : Thread Cert.AdamAda.nD Cert.AdamAda.τ).loc Cert.AdamAda.main_arg2)
      ∧ r.2.mem ((c.tc : Thread Cert.AdamAda.nD Cert.AdamAda.τ).loc Cert.AdamAda.main_arg3) = m ((c.tc : Thread Cert.AdamAda.nD Cert.AdamAda.τ).loc Cert.AdamAda.main_arg3))
      ∧ r.2.sem = fun _ => 0)

def quiescent_AdamAdaIdeal [hAdamAdaIdeal : Cert.AdamAdaIdeal.Facts] : Prop :=
  ∀ (m : (ℓ : Loc Cert.AdamAdaIdeal.nD Cert.AdamAdaIdeal.τ Cert.AdamAdaIdeal.sig) → Buf (Elt Ideal) ℓ) (g : Dev Cert.AdamAdaIdeal.nD → PrngReg), Pre_AdamAdaIdeal m →
    θ_run (Cert.AdamAdaIdeal.defs (F := Ideal)) (onTc (τ := Cert.AdamAdaIdeal.τ) (Cert.AdamAdaIdeal.main (F := Ideal))) ⟨m, fun _ => 0, g⟩ (fun r => (∀ c : Dev Cert.AdamAdaIdeal.nD,
      r.2.mem ((c.tc : Thread Cert.AdamAdaIdeal.nD Cert.AdamAdaIdeal.τ).loc Cert.AdamAdaIdeal.main_arg0) = m ((c.tc : Thread Cert.AdamAdaIdeal.nD Cert.AdamAdaIdeal.τ).loc Cert.AdamAdaIdeal.main_arg0)
      ∧ r.2.mem ((c.tc : Thread Cert.AdamAdaIdeal.nD Cert.AdamAdaIdeal.τ).loc Cert.AdamAdaIdeal.main_arg1) = m ((c.tc : Thread Cert.AdamAdaIdeal.nD Cert.AdamAdaIdeal.τ).loc Cert.AdamAdaIdeal.main_arg1)
      ∧ r.2.mem ((c.tc : Thread Cert.AdamAdaIdeal.nD Cert.AdamAdaIdeal.τ).loc Cert.AdamAdaIdeal.main_arg2) = m ((c.tc : Thread Cert.AdamAdaIdeal.nD Cert.AdamAdaIdeal.τ).loc Cert.AdamAdaIdeal.main_arg2)
      ∧ r.2.mem ((c.tc : Thread Cert.AdamAdaIdeal.nD Cert.AdamAdaIdeal.τ).loc Cert.AdamAdaIdeal.main_arg3) = m ((c.tc : Thread Cert.AdamAdaIdeal.nD Cert.AdamAdaIdeal.τ).loc Cert.AdamAdaIdeal.main_arg3))
      ∧ r.2.sem = fun _ => 0)

def quiescent_AdamAdaReferenceIdeal [hAdamAdaReferenceIdeal : Cert.AdamAdaReferenceIdeal.Facts] : Prop :=
  ∀ (m : (ℓ : Loc Cert.AdamAdaReferenceIdeal.nD Cert.AdamAdaReferenceIdeal.τ Cert.AdamAdaReferenceIdeal.sig) → Buf (Elt Ideal) ℓ) (g : Dev Cert.AdamAdaReferenceIdeal.nD → PrngReg), Pre_AdamAdaReferenceIdeal m →
    θ_run (Cert.AdamAdaReferenceIdeal.defs (F := Ideal)) (onTc (τ := Cert.AdamAdaReferenceIdeal.τ) (Cert.AdamAdaReferenceIdeal.main (F := Ideal))) ⟨m, fun _ => 0, g⟩ (fun r => (∀ c : Dev Cert.AdamAdaReferenceIdeal.nD,
      r.2.mem ((c.tc : Thread Cert.AdamAdaReferenceIdeal.nD Cert.AdamAdaReferenceIdeal.τ).loc Cert.AdamAdaReferenceIdeal.main_arg0) = m ((c.tc : Thread Cert.AdamAdaReferenceIdeal.nD Cert.AdamAdaReferenceIdeal.τ).loc Cert.AdamAdaReferenceIdeal.main_arg0)
      ∧ r.2.mem ((c.tc : Thread Cert.AdamAdaReferenceIdeal.nD Cert.AdamAdaReferenceIdeal.τ).loc Cert.AdamAdaReferenceIdeal.main_arg1) = m ((c.tc : Thread Cert.AdamAdaReferenceIdeal.nD Cert.AdamAdaReferenceIdeal.τ).loc Cert.AdamAdaReferenceIdeal.main_arg1)
      ∧ r.2.mem ((c.tc : Thread Cert.AdamAdaReferenceIdeal.nD Cert.AdamAdaReferenceIdeal.τ).loc Cert.AdamAdaReferenceIdeal.main_arg2) = m ((c.tc : Thread Cert.AdamAdaReferenceIdeal.nD Cert.AdamAdaReferenceIdeal.τ).loc Cert.AdamAdaReferenceIdeal.main_arg2)
      ∧ r.2.mem ((c.tc : Thread Cert.AdamAdaReferenceIdeal.nD Cert.AdamAdaReferenceIdeal.τ).loc Cert.AdamAdaReferenceIdeal.main_arg3) = m ((c.tc : Thread Cert.AdamAdaReferenceIdeal.nD Cert.AdamAdaReferenceIdeal.τ).loc Cert.AdamAdaReferenceIdeal.main_arg3))
      ∧ r.2.sem = fun _ => 0)

def quiescent_AdamIn [hAdamIn : Cert.AdamIn.Facts] : Prop :=
  ∀ (m : (ℓ : Loc Cert.AdamIn.nD Cert.AdamIn.τ Cert.AdamIn.sig) → Buf (Elt Bits) ℓ) (g : Dev Cert.AdamIn.nD → PrngReg), Pre_AdamIn m →
    θ_run (Cert.AdamIn.defs (F := Bits)) (onTc (τ := Cert.AdamIn.τ) (Cert.AdamIn.main (F := Bits))) ⟨m, fun _ => 0, g⟩ (fun r => (∀ c : Dev Cert.AdamIn.nD,
      r.2.mem ((c.tc : Thread Cert.AdamIn.nD Cert.AdamIn.τ).loc Cert.AdamIn.main_arg0) = m ((c.tc : Thread Cert.AdamIn.nD Cert.AdamIn.τ).loc Cert.AdamIn.main_arg0)
      ∧ r.2.mem ((c.tc : Thread Cert.AdamIn.nD Cert.AdamIn.τ).loc Cert.AdamIn.main_arg1) = m ((c.tc : Thread Cert.AdamIn.nD Cert.AdamIn.τ).loc Cert.AdamIn.main_arg1)
      ∧ r.2.mem ((c.tc : Thread Cert.AdamIn.nD Cert.AdamIn.τ).loc Cert.AdamIn.main_arg2) = m ((c.tc : Thread Cert.AdamIn.nD Cert.AdamIn.τ).loc Cert.AdamIn.main_arg2)
      ∧ r.2.mem ((c.tc : Thread Cert.AdamIn.nD Cert.AdamIn.τ).loc Cert.AdamIn.main_arg3) = m ((c.tc : Thread Cert.AdamIn.nD Cert.AdamIn.τ).loc Cert.AdamIn.main_arg3))
      ∧ r.2.sem = fun _ => 0)

def quiescent_AdamInIdeal [hAdamInIdeal : Cert.AdamInIdeal.Facts] : Prop :=
  ∀ (m : (ℓ : Loc Cert.AdamInIdeal.nD Cert.AdamInIdeal.τ Cert.AdamInIdeal.sig) → Buf (Elt Ideal) ℓ) (g : Dev Cert.AdamInIdeal.nD → PrngReg), Pre_AdamInIdeal m →
    θ_run (Cert.AdamInIdeal.defs (F := Ideal)) (onTc (τ := Cert.AdamInIdeal.τ) (Cert.AdamInIdeal.main (F := Ideal))) ⟨m, fun _ => 0, g⟩ (fun r => (∀ c : Dev Cert.AdamInIdeal.nD,
      r.2.mem ((c.tc : Thread Cert.AdamInIdeal.nD Cert.AdamInIdeal.τ).loc Cert.AdamInIdeal.main_arg0) = m ((c.tc : Thread Cert.AdamInIdeal.nD Cert.AdamInIdeal.τ).loc Cert.AdamInIdeal.main_arg0)
      ∧ r.2.mem ((c.tc : Thread Cert.AdamInIdeal.nD Cert.AdamInIdeal.τ).loc Cert.AdamInIdeal.main_arg1) = m ((c.tc : Thread Cert.AdamInIdeal.nD Cert.AdamInIdeal.τ).loc Cert.AdamInIdeal.main_arg1)
      ∧ r.2.mem ((c.tc : Thread Cert.AdamInIdeal.nD Cert.AdamInIdeal.τ).loc Cert.AdamInIdeal.main_arg2) = m ((c.tc : Thread Cert.AdamInIdeal.nD Cert.AdamInIdeal.τ).loc Cert.AdamInIdeal.main_arg2)
      ∧ r.2.mem ((c.tc : Thread Cert.AdamInIdeal.nD Cert.AdamInIdeal.τ).loc Cert.AdamInIdeal.main_arg3) = m ((c.tc : Thread Cert.AdamInIdeal.nD Cert.AdamInIdeal.τ).loc Cert.AdamInIdeal.main_arg3))
      ∧ r.2.sem = fun _ => 0)

def quiescent_AdamInReferenceIdeal [hAdamInReferenceIdeal : Cert.AdamInReferenceIdeal.Facts] : Prop :=
  ∀ (m : (ℓ : Loc Cert.AdamInReferenceIdeal.nD Cert.AdamInReferenceIdeal.τ Cert.AdamInReferenceIdeal.sig) → Buf (Elt Ideal) ℓ) (g : Dev Cert.AdamInReferenceIdeal.nD → PrngReg), Pre_AdamInReferenceIdeal m →
    θ_run (Cert.AdamInReferenceIdeal.defs (F := Ideal)) (onTc (τ := Cert.AdamInReferenceIdeal.τ) (Cert.AdamInReferenceIdeal.main (F := Ideal))) ⟨m, fun _ => 0, g⟩ (fun r => (∀ c : Dev Cert.AdamInReferenceIdeal.nD,
      r.2.mem ((c.tc : Thread Cert.AdamInReferenceIdeal.nD Cert.AdamInReferenceIdeal.τ).loc Cert.AdamInReferenceIdeal.main_arg0) = m ((c.tc : Thread Cert.AdamInReferenceIdeal.nD Cert.AdamInReferenceIdeal.τ).loc Cert.AdamInReferenceIdeal.main_arg0)
      ∧ r.2.mem ((c.tc : Thread Cert.AdamInReferenceIdeal.nD Cert.AdamInReferenceIdeal.τ).loc Cert.AdamInReferenceIdeal.main_arg1) = m ((c.tc : Thread Cert.AdamInReferenceIdeal.nD Cert.AdamInReferenceIdeal.τ).loc Cert.AdamInReferenceIdeal.main_arg1)
      ∧ r.2.mem ((c.tc : Thread Cert.AdamInReferenceIdeal.nD Cert.AdamInReferenceIdeal.τ).loc Cert.AdamInReferenceIdeal.main_arg2) = m ((c.tc : Thread Cert.AdamInReferenceIdeal.nD Cert.AdamInReferenceIdeal.τ).loc Cert.AdamInReferenceIdeal.main_arg2)
      ∧ r.2.mem ((c.tc : Thread Cert.AdamInReferenceIdeal.nD Cert.AdamInReferenceIdeal.τ).loc Cert.AdamInReferenceIdeal.main_arg3) = m ((c.tc : Thread Cert.AdamInReferenceIdeal.nD Cert.AdamInReferenceIdeal.τ).loc Cert.AdamInReferenceIdeal.main_arg3))
      ∧ r.2.sem = fun _ => 0)

def quiescent_AdamBranch [hAdamBranch : Cert.AdamBranch.Facts] : Prop :=
  ∀ (m : (ℓ : Loc Cert.AdamBranch.nD Cert.AdamBranch.τ Cert.AdamBranch.sig) → Buf (Elt Bits) ℓ) (g : Dev Cert.AdamBranch.nD → PrngReg), Pre_AdamBranch m →
    θ_run (Cert.AdamBranch.defs (F := Bits)) (onTc (τ := Cert.AdamBranch.τ) (Cert.AdamBranch.main (F := Bits))) ⟨m, fun _ => 0, g⟩ (fun r => (∀ c : Dev Cert.AdamBranch.nD,
      r.2.mem ((c.tc : Thread Cert.AdamBranch.nD Cert.AdamBranch.τ).loc Cert.AdamBranch.main_arg0) = m ((c.tc : Thread Cert.AdamBranch.nD Cert.AdamBranch.τ).loc Cert.AdamBranch.main_arg0)
      ∧ r.2.mem ((c.tc : Thread Cert.AdamBranch.nD Cert.AdamBranch.τ).loc Cert.AdamBranch.main_arg1) = m ((c.tc : Thread Cert.AdamBranch.nD Cert.AdamBranch.τ).loc Cert.AdamBranch.main_arg1)
      ∧ r.2.mem ((c.tc : Thread Cert.AdamBranch.nD Cert.AdamBranch.τ).loc Cert.AdamBranch.main_arg2) = m ((c.tc : Thread Cert.AdamBranch.nD Cert.AdamBranch.τ).loc Cert.AdamBranch.main_arg2)
      ∧ r.2.mem ((c.tc : Thread Cert.AdamBranch.nD Cert.AdamBranch.τ).loc Cert.AdamBranch.main_arg3) = m ((c.tc : Thread Cert.AdamBranch.nD Cert.AdamBranch.τ).loc Cert.AdamBranch.main_arg3))
      ∧ r.2.sem = fun _ => 0)

def quiescent_AdamBranchIdeal [hAdamBranchIdeal : Cert.AdamBranchIdeal.Facts] : Prop :=
  ∀ (m : (ℓ : Loc Cert.AdamBranchIdeal.nD Cert.AdamBranchIdeal.τ Cert.AdamBranchIdeal.sig) → Buf (Elt Ideal) ℓ) (g : Dev Cert.AdamBranchIdeal.nD → PrngReg), Pre_AdamBranchIdeal m →
    θ_run (Cert.AdamBranchIdeal.defs (F := Ideal)) (onTc (τ := Cert.AdamBranchIdeal.τ) (Cert.AdamBranchIdeal.main (F := Ideal))) ⟨m, fun _ => 0, g⟩ (fun r => (∀ c : Dev Cert.AdamBranchIdeal.nD,
      r.2.mem ((c.tc : Thread Cert.AdamBranchIdeal.nD Cert.AdamBranchIdeal.τ).loc Cert.AdamBranchIdeal.main_arg0) = m ((c.tc : Thread Cert.AdamBranchIdeal.nD Cert.AdamBranchIdeal.τ).loc Cert.AdamBranchIdeal.main_arg0)
      ∧ r.2.mem ((c.tc : Thread Cert.AdamBranchIdeal.nD Cert.AdamBranchIdeal.τ).loc Cert.AdamBranchIdeal.main_arg1) = m ((c.tc : Thread Cert.AdamBranchIdeal.nD Cert.AdamBranchIdeal.τ).loc Cert.AdamBranchIdeal.main_arg1)
      ∧ r.2.mem ((c.tc : Thread Cert.AdamBranchIdeal.nD Cert.AdamBranchIdeal.τ).loc Cert.AdamBranchIdeal.main_arg2) = m ((c.tc : Thread Cert.AdamBranchIdeal.nD Cert.AdamBranchIdeal.τ).loc Cert.AdamBranchIdeal.main_arg2)
      ∧ r.2.mem ((c.tc : Thread Cert.AdamBranchIdeal.nD Cert.AdamBranchIdeal.τ).loc Cert.AdamBranchIdeal.main_arg3) = m ((c.tc : Thread Cert.AdamBranchIdeal.nD Cert.AdamBranchIdeal.τ).loc Cert.AdamBranchIdeal.main_arg3))
      ∧ r.2.sem = fun _ => 0)

def quiescent_AdamBranchReferenceIdeal [hAdamBranchReferenceIdeal : Cert.AdamBranchReferenceIdeal.Facts] : Prop :=
  ∀ (m : (ℓ : Loc Cert.AdamBranchReferenceIdeal.nD Cert.AdamBranchReferenceIdeal.τ Cert.AdamBranchReferenceIdeal.sig) → Buf (Elt Ideal) ℓ) (g : Dev Cert.AdamBranchReferenceIdeal.nD → PrngReg), Pre_AdamBranchReferenceIdeal m →
    θ_run (Cert.AdamBranchReferenceIdeal.defs (F := Ideal)) (onTc (τ := Cert.AdamBranchReferenceIdeal.τ) (Cert.AdamBranchReferenceIdeal.main (F := Ideal))) ⟨m, fun _ => 0, g⟩ (fun r => (∀ c : Dev Cert.AdamBranchReferenceIdeal.nD,
      r.2.mem ((c.tc : Thread Cert.AdamBranchReferenceIdeal.nD Cert.AdamBranchReferenceIdeal.τ).loc Cert.AdamBranchReferenceIdeal.main_arg0) = m ((c.tc : Thread Cert.AdamBranchReferenceIdeal.nD Cert.AdamBranchReferenceIdeal.τ).loc Cert.AdamBranchReferenceIdeal.main_arg0)
      ∧ r.2.mem ((c.tc : Thread Cert.AdamBranchReferenceIdeal.nD Cert.AdamBranchReferenceIdeal.τ).loc Cert.AdamBranchReferenceIdeal.main_arg1) = m ((c.tc : Thread Cert.AdamBranchReferenceIdeal.nD Cert.AdamBranchReferenceIdeal.τ).loc Cert.AdamBranchReferenceIdeal.main_arg1)
      ∧ r.2.mem ((c.tc : Thread Cert.AdamBranchReferenceIdeal.nD Cert.AdamBranchReferenceIdeal.τ).loc Cert.AdamBranchReferenceIdeal.main_arg2) = m ((c.tc : Thread Cert.AdamBranchReferenceIdeal.nD Cert.AdamBranchReferenceIdeal.τ).loc Cert.AdamBranchReferenceIdeal.main_arg2)
      ∧ r.2.mem ((c.tc : Thread Cert.AdamBranchReferenceIdeal.nD Cert.AdamBranchReferenceIdeal.τ).loc Cert.AdamBranchReferenceIdeal.main_arg3) = m ((c.tc : Thread Cert.AdamBranchReferenceIdeal.nD Cert.AdamBranchReferenceIdeal.τ).loc Cert.AdamBranchReferenceIdeal.main_arg3))
      ∧ r.2.sem = fun _ => 0)

def quiescent_AdamOut [hAdamOut : Cert.AdamOut.Facts] : Prop :=
  ∀ (m : (ℓ : Loc Cert.AdamOut.nD Cert.AdamOut.τ Cert.AdamOut.sig) → Buf (Elt Bits) ℓ) (g : Dev Cert.AdamOut.nD → PrngReg), Pre_AdamOut m →
    θ_run (Cert.AdamOut.defs (F := Bits)) (onTc (τ := Cert.AdamOut.τ) (Cert.AdamOut.main (F := Bits))) ⟨m, fun _ => 0, g⟩ (fun r => (∀ c : Dev Cert.AdamOut.nD,
      r.2.mem ((c.tc : Thread Cert.AdamOut.nD Cert.AdamOut.τ).loc Cert.AdamOut.main_arg0) = m ((c.tc : Thread Cert.AdamOut.nD Cert.AdamOut.τ).loc Cert.AdamOut.main_arg0)
      ∧ r.2.mem ((c.tc : Thread Cert.AdamOut.nD Cert.AdamOut.τ).loc Cert.AdamOut.main_arg1) = m ((c.tc : Thread Cert.AdamOut.nD Cert.AdamOut.τ).loc Cert.AdamOut.main_arg1)
      ∧ r.2.mem ((c.tc : Thread Cert.AdamOut.nD Cert.AdamOut.τ).loc Cert.AdamOut.main_arg2) = m ((c.tc : Thread Cert.AdamOut.nD Cert.AdamOut.τ).loc Cert.AdamOut.main_arg2)
      ∧ r.2.mem ((c.tc : Thread Cert.AdamOut.nD Cert.AdamOut.τ).loc Cert.AdamOut.main_arg3) = m ((c.tc : Thread Cert.AdamOut.nD Cert.AdamOut.τ).loc Cert.AdamOut.main_arg3))
      ∧ r.2.sem = fun _ => 0)

def quiescent_AdamOutIdeal [hAdamOutIdeal : Cert.AdamOutIdeal.Facts] : Prop :=
  ∀ (m : (ℓ : Loc Cert.AdamOutIdeal.nD Cert.AdamOutIdeal.τ Cert.AdamOutIdeal.sig) → Buf (Elt Ideal) ℓ) (g : Dev Cert.AdamOutIdeal.nD → PrngReg), Pre_AdamOutIdeal m →
    θ_run (Cert.AdamOutIdeal.defs (F := Ideal)) (onTc (τ := Cert.AdamOutIdeal.τ) (Cert.AdamOutIdeal.main (F := Ideal))) ⟨m, fun _ => 0, g⟩ (fun r => (∀ c : Dev Cert.AdamOutIdeal.nD,
      r.2.mem ((c.tc : Thread Cert.AdamOutIdeal.nD Cert.AdamOutIdeal.τ).loc Cert.AdamOutIdeal.main_arg0) = m ((c.tc : Thread Cert.AdamOutIdeal.nD Cert.AdamOutIdeal.τ).loc Cert.AdamOutIdeal.main_arg0)
      ∧ r.2.mem ((c.tc : Thread Cert.AdamOutIdeal.nD Cert.AdamOutIdeal.τ).loc Cert.AdamOutIdeal.main_arg1) = m ((c.tc : Thread Cert.AdamOutIdeal.nD Cert.AdamOutIdeal.τ).loc Cert.AdamOutIdeal.main_arg1)
      ∧ r.2.mem ((c.tc : Thread Cert.AdamOutIdeal.nD Cert.AdamOutIdeal.τ).loc Cert.AdamOutIdeal.main_arg2) = m ((c.tc : Thread Cert.AdamOutIdeal.nD Cert.AdamOutIdeal.τ).loc Cert.AdamOutIdeal.main_arg2)
      ∧ r.2.mem ((c.tc : Thread Cert.AdamOutIdeal.nD Cert.AdamOutIdeal.τ).loc Cert.AdamOutIdeal.main_arg3) = m ((c.tc : Thread Cert.AdamOutIdeal.nD Cert.AdamOutIdeal.τ).loc Cert.AdamOutIdeal.main_arg3))
      ∧ r.2.sem = fun _ => 0)

def quiescent_AdamOutReferenceIdeal [hAdamOutReferenceIdeal : Cert.AdamOutReferenceIdeal.Facts] : Prop :=
  ∀ (m : (ℓ : Loc Cert.AdamOutReferenceIdeal.nD Cert.AdamOutReferenceIdeal.τ Cert.AdamOutReferenceIdeal.sig) → Buf (Elt Ideal) ℓ) (g : Dev Cert.AdamOutReferenceIdeal.nD → PrngReg), Pre_AdamOutReferenceIdeal m →
    θ_run (Cert.AdamOutReferenceIdeal.defs (F := Ideal)) (onTc (τ := Cert.AdamOutReferenceIdeal.τ) (Cert.AdamOutReferenceIdeal.main (F := Ideal))) ⟨m, fun _ => 0, g⟩ (fun r => (∀ c : Dev Cert.AdamOutReferenceIdeal.nD,
      r.2.mem ((c.tc : Thread Cert.AdamOutReferenceIdeal.nD Cert.AdamOutReferenceIdeal.τ).loc Cert.AdamOutReferenceIdeal.main_arg0) = m ((c.tc : Thread Cert.AdamOutReferenceIdeal.nD Cert.AdamOutReferenceIdeal.τ).loc Cert.AdamOutReferenceIdeal.main_arg0)
      ∧ r.2.mem ((c.tc : Thread Cert.AdamOutReferenceIdeal.nD Cert.AdamOutReferenceIdeal.τ).loc Cert.AdamOutReferenceIdeal.main_arg1) = m ((c.tc : Thread Cert.AdamOutReferenceIdeal.nD Cert.AdamOutReferenceIdeal.τ).loc Cert.AdamOutReferenceIdeal.main_arg1)
      ∧ r.2.mem ((c.tc : Thread Cert.AdamOutReferenceIdeal.nD Cert.AdamOutReferenceIdeal.τ).loc Cert.AdamOutReferenceIdeal.main_arg2) = m ((c.tc : Thread Cert.AdamOutReferenceIdeal.nD Cert.AdamOutReferenceIdeal.τ).loc Cert.AdamOutReferenceIdeal.main_arg2)
      ∧ r.2.mem ((c.tc : Thread Cert.AdamOutReferenceIdeal.nD Cert.AdamOutReferenceIdeal.τ).loc Cert.AdamOutReferenceIdeal.main_arg3) = m ((c.tc : Thread Cert.AdamOutReferenceIdeal.nD Cert.AdamOutReferenceIdeal.τ).loc Cert.AdamOutReferenceIdeal.main_arg3))
      ∧ r.2.sem = fun _ => 0)

def quiescent_AdamUp [hAdamUp : Cert.AdamUp.Facts] : Prop :=
  ∀ (m : (ℓ : Loc Cert.AdamUp.nD Cert.AdamUp.τ Cert.AdamUp.sig) → Buf (Elt Bits) ℓ) (g : Dev Cert.AdamUp.nD → PrngReg), Pre_AdamUp m →
    θ_run (Cert.AdamUp.defs (F := Bits)) (onTc (τ := Cert.AdamUp.τ) (Cert.AdamUp.main (F := Bits))) ⟨m, fun _ => 0, g⟩ (fun r => (∀ c : Dev Cert.AdamUp.nD,
      r.2.mem ((c.tc : Thread Cert.AdamUp.nD Cert.AdamUp.τ).loc Cert.AdamUp.main_arg0) = m ((c.tc : Thread Cert.AdamUp.nD Cert.AdamUp.τ).loc Cert.AdamUp.main_arg0)
      ∧ r.2.mem ((c.tc : Thread Cert.AdamUp.nD Cert.AdamUp.τ).loc Cert.AdamUp.main_arg1) = m ((c.tc : Thread Cert.AdamUp.nD Cert.AdamUp.τ).loc Cert.AdamUp.main_arg1)
      ∧ r.2.mem ((c.tc : Thread Cert.AdamUp.nD Cert.AdamUp.τ).loc Cert.AdamUp.main_arg2) = m ((c.tc : Thread Cert.AdamUp.nD Cert.AdamUp.τ).loc Cert.AdamUp.main_arg2)
      ∧ r.2.mem ((c.tc : Thread Cert.AdamUp.nD Cert.AdamUp.τ).loc Cert.AdamUp.main_arg3) = m ((c.tc : Thread Cert.AdamUp.nD Cert.AdamUp.τ).loc Cert.AdamUp.main_arg3))
      ∧ r.2.sem = fun _ => 0)

def quiescent_AdamUpIdeal [hAdamUpIdeal : Cert.AdamUpIdeal.Facts] : Prop :=
  ∀ (m : (ℓ : Loc Cert.AdamUpIdeal.nD Cert.AdamUpIdeal.τ Cert.AdamUpIdeal.sig) → Buf (Elt Ideal) ℓ) (g : Dev Cert.AdamUpIdeal.nD → PrngReg), Pre_AdamUpIdeal m →
    θ_run (Cert.AdamUpIdeal.defs (F := Ideal)) (onTc (τ := Cert.AdamUpIdeal.τ) (Cert.AdamUpIdeal.main (F := Ideal))) ⟨m, fun _ => 0, g⟩ (fun r => (∀ c : Dev Cert.AdamUpIdeal.nD,
      r.2.mem ((c.tc : Thread Cert.AdamUpIdeal.nD Cert.AdamUpIdeal.τ).loc Cert.AdamUpIdeal.main_arg0) = m ((c.tc : Thread Cert.AdamUpIdeal.nD Cert.AdamUpIdeal.τ).loc Cert.AdamUpIdeal.main_arg0)
      ∧ r.2.mem ((c.tc : Thread Cert.AdamUpIdeal.nD Cert.AdamUpIdeal.τ).loc Cert.AdamUpIdeal.main_arg1) = m ((c.tc : Thread Cert.AdamUpIdeal.nD Cert.AdamUpIdeal.τ).loc Cert.AdamUpIdeal.main_arg1)
      ∧ r.2.mem ((c.tc : Thread Cert.AdamUpIdeal.nD Cert.AdamUpIdeal.τ).loc Cert.AdamUpIdeal.main_arg2) = m ((c.tc : Thread Cert.AdamUpIdeal.nD Cert.AdamUpIdeal.τ).loc Cert.AdamUpIdeal.main_arg2)
      ∧ r.2.mem ((c.tc : Thread Cert.AdamUpIdeal.nD Cert.AdamUpIdeal.τ).loc Cert.AdamUpIdeal.main_arg3) = m ((c.tc : Thread Cert.AdamUpIdeal.nD Cert.AdamUpIdeal.τ).loc Cert.AdamUpIdeal.main_arg3))
      ∧ r.2.sem = fun _ => 0)

def quiescent_AdamUpReferenceIdeal [hAdamUpReferenceIdeal : Cert.AdamUpReferenceIdeal.Facts] : Prop :=
  ∀ (m : (ℓ : Loc Cert.AdamUpReferenceIdeal.nD Cert.AdamUpReferenceIdeal.τ Cert.AdamUpReferenceIdeal.sig) → Buf (Elt Ideal) ℓ) (g : Dev Cert.AdamUpReferenceIdeal.nD → PrngReg), Pre_AdamUpReferenceIdeal m →
    θ_run (Cert.AdamUpReferenceIdeal.defs (F := Ideal)) (onTc (τ := Cert.AdamUpReferenceIdeal.τ) (Cert.AdamUpReferenceIdeal.main (F := Ideal))) ⟨m, fun _ => 0, g⟩ (fun r => (∀ c : Dev Cert.AdamUpReferenceIdeal.nD,
      r.2.mem ((c.tc : Thread Cert.AdamUpReferenceIdeal.nD Cert.AdamUpReferenceIdeal.τ).loc Cert.AdamUpReferenceIdeal.main_arg0) = m ((c.tc : Thread Cert.AdamUpReferenceIdeal.nD Cert.AdamUpReferenceIdeal.τ).loc Cert.AdamUpReferenceIdeal.main_arg0)
      ∧ r.2.mem ((c.tc : Thread Cert.AdamUpReferenceIdeal.nD Cert.AdamUpReferenceIdeal.τ).loc Cert.AdamUpReferenceIdeal.main_arg1) = m ((c.tc : Thread Cert.AdamUpReferenceIdeal.nD Cert.AdamUpReferenceIdeal.τ).loc Cert.AdamUpReferenceIdeal.main_arg1)
      ∧ r.2.mem ((c.tc : Thread Cert.AdamUpReferenceIdeal.nD Cert.AdamUpReferenceIdeal.τ).loc Cert.AdamUpReferenceIdeal.main_arg2) = m ((c.tc : Thread Cert.AdamUpReferenceIdeal.nD Cert.AdamUpReferenceIdeal.τ).loc Cert.AdamUpReferenceIdeal.main_arg2)
      ∧ r.2.mem ((c.tc : Thread Cert.AdamUpReferenceIdeal.nD Cert.AdamUpReferenceIdeal.τ).loc Cert.AdamUpReferenceIdeal.main_arg3) = m ((c.tc : Thread Cert.AdamUpReferenceIdeal.nD Cert.AdamUpReferenceIdeal.τ).loc Cert.AdamUpReferenceIdeal.main_arg3))
      ∧ r.2.sem = fun _ => 0)

def quiescent_AdamSmall [hAdamSmall : Cert.AdamSmall.Facts] : Prop :=
  ∀ (m : (ℓ : Loc Cert.AdamSmall.nD Cert.AdamSmall.τ Cert.AdamSmall.sig) → Buf (Elt Bits) ℓ) (g : Dev Cert.AdamSmall.nD → PrngReg), Pre_AdamSmall m →
    θ_run (Cert.AdamSmall.defs (F := Bits)) (onTc (τ := Cert.AdamSmall.τ) (Cert.AdamSmall.main (F := Bits))) ⟨m, fun _ => 0, g⟩ (fun r => (∀ c : Dev Cert.AdamSmall.nD,
      r.2.mem ((c.tc : Thread Cert.AdamSmall.nD Cert.AdamSmall.τ).loc Cert.AdamSmall.main_arg0) = m ((c.tc : Thread Cert.AdamSmall.nD Cert.AdamSmall.τ).loc Cert.AdamSmall.main_arg0)
      ∧ r.2.mem ((c.tc : Thread Cert.AdamSmall.nD Cert.AdamSmall.τ).loc Cert.AdamSmall.main_arg1) = m ((c.tc : Thread Cert.AdamSmall.nD Cert.AdamSmall.τ).loc Cert.AdamSmall.main_arg1)
      ∧ r.2.mem ((c.tc : Thread Cert.AdamSmall.nD Cert.AdamSmall.τ).loc Cert.AdamSmall.main_arg2) = m ((c.tc : Thread Cert.AdamSmall.nD Cert.AdamSmall.τ).loc Cert.AdamSmall.main_arg2)
      ∧ r.2.mem ((c.tc : Thread Cert.AdamSmall.nD Cert.AdamSmall.τ).loc Cert.AdamSmall.main_arg3) = m ((c.tc : Thread Cert.AdamSmall.nD Cert.AdamSmall.τ).loc Cert.AdamSmall.main_arg3))
      ∧ r.2.sem = fun _ => 0)

def quiescent_AdamSmallIdeal [hAdamSmallIdeal : Cert.AdamSmallIdeal.Facts] : Prop :=
  ∀ (m : (ℓ : Loc Cert.AdamSmallIdeal.nD Cert.AdamSmallIdeal.τ Cert.AdamSmallIdeal.sig) → Buf (Elt Ideal) ℓ) (g : Dev Cert.AdamSmallIdeal.nD → PrngReg), Pre_AdamSmallIdeal m →
    θ_run (Cert.AdamSmallIdeal.defs (F := Ideal)) (onTc (τ := Cert.AdamSmallIdeal.τ) (Cert.AdamSmallIdeal.main (F := Ideal))) ⟨m, fun _ => 0, g⟩ (fun r => (∀ c : Dev Cert.AdamSmallIdeal.nD,
      r.2.mem ((c.tc : Thread Cert.AdamSmallIdeal.nD Cert.AdamSmallIdeal.τ).loc Cert.AdamSmallIdeal.main_arg0) = m ((c.tc : Thread Cert.AdamSmallIdeal.nD Cert.AdamSmallIdeal.τ).loc Cert.AdamSmallIdeal.main_arg0)
      ∧ r.2.mem ((c.tc : Thread Cert.AdamSmallIdeal.nD Cert.AdamSmallIdeal.τ).loc Cert.AdamSmallIdeal.main_arg1) = m ((c.tc : Thread Cert.AdamSmallIdeal.nD Cert.AdamSmallIdeal.τ).loc Cert.AdamSmallIdeal.main_arg1)
      ∧ r.2.mem ((c.tc : Thread Cert.AdamSmallIdeal.nD Cert.AdamSmallIdeal.τ).loc Cert.AdamSmallIdeal.main_arg2) = m ((c.tc : Thread Cert.AdamSmallIdeal.nD Cert.AdamSmallIdeal.τ).loc Cert.AdamSmallIdeal.main_arg2)
      ∧ r.2.mem ((c.tc : Thread Cert.AdamSmallIdeal.nD Cert.AdamSmallIdeal.τ).loc Cert.AdamSmallIdeal.main_arg3) = m ((c.tc : Thread Cert.AdamSmallIdeal.nD Cert.AdamSmallIdeal.τ).loc Cert.AdamSmallIdeal.main_arg3))
      ∧ r.2.sem = fun _ => 0)

def quiescent_AdamSmallReferenceIdeal [hAdamSmallReferenceIdeal : Cert.AdamSmallReferenceIdeal.Facts] : Prop :=
  ∀ (m : (ℓ : Loc Cert.AdamSmallReferenceIdeal.nD Cert.AdamSmallReferenceIdeal.τ Cert.AdamSmallReferenceIdeal.sig) → Buf (Elt Ideal) ℓ) (g : Dev Cert.AdamSmallReferenceIdeal.nD → PrngReg), Pre_AdamSmallReferenceIdeal m →
    θ_run (Cert.AdamSmallReferenceIdeal.defs (F := Ideal)) (onTc (τ := Cert.AdamSmallReferenceIdeal.τ) (Cert.AdamSmallReferenceIdeal.main (F := Ideal))) ⟨m, fun _ => 0, g⟩ (fun r => (∀ c : Dev Cert.AdamSmallReferenceIdeal.nD,
      r.2.mem ((c.tc : Thread Cert.AdamSmallReferenceIdeal.nD Cert.AdamSmallReferenceIdeal.τ).loc Cert.AdamSmallReferenceIdeal.main_arg0) = m ((c.tc : Thread Cert.AdamSmallReferenceIdeal.nD Cert.AdamSmallReferenceIdeal.τ).loc Cert.AdamSmallReferenceIdeal.main_arg0)
      ∧ r.2.mem ((c.tc : Thread Cert.AdamSmallReferenceIdeal.nD Cert.AdamSmallReferenceIdeal.τ).loc Cert.AdamSmallReferenceIdeal.main_arg1) = m ((c.tc : Thread Cert.AdamSmallReferenceIdeal.nD Cert.AdamSmallReferenceIdeal.τ).loc Cert.AdamSmallReferenceIdeal.main_arg1)
      ∧ r.2.mem ((c.tc : Thread Cert.AdamSmallReferenceIdeal.nD Cert.AdamSmallReferenceIdeal.τ).loc Cert.AdamSmallReferenceIdeal.main_arg2) = m ((c.tc : Thread Cert.AdamSmallReferenceIdeal.nD Cert.AdamSmallReferenceIdeal.τ).loc Cert.AdamSmallReferenceIdeal.main_arg2)
      ∧ r.2.mem ((c.tc : Thread Cert.AdamSmallReferenceIdeal.nD Cert.AdamSmallReferenceIdeal.τ).loc Cert.AdamSmallReferenceIdeal.main_arg3) = m ((c.tc : Thread Cert.AdamSmallReferenceIdeal.nD Cert.AdamSmallReferenceIdeal.τ).loc Cert.AdamSmallReferenceIdeal.main_arg3))
      ∧ r.2.sem = fun _ => 0)

def quiescent_AdamConv [hAdamConv : Cert.AdamConv.Facts] : Prop :=
  ∀ (m : (ℓ : Loc Cert.AdamConv.nD Cert.AdamConv.τ Cert.AdamConv.sig) → Buf (Elt Bits) ℓ) (g : Dev Cert.AdamConv.nD → PrngReg), Pre_AdamConv m →
    θ_run (Cert.AdamConv.defs (F := Bits)) (onTc (τ := Cert.AdamConv.τ) (Cert.AdamConv.main (F := Bits))) ⟨m, fun _ => 0, g⟩ (fun r => (∀ c : Dev Cert.AdamConv.nD,
      r.2.mem ((c.tc : Thread Cert.AdamConv.nD Cert.AdamConv.τ).loc Cert.AdamConv.main_arg0) = m ((c.tc : Thread Cert.AdamConv.nD Cert.AdamConv.τ).loc Cert.AdamConv.main_arg0)
      ∧ r.2.mem ((c.tc : Thread Cert.AdamConv.nD Cert.AdamConv.τ).loc Cert.AdamConv.main_arg1) = m ((c.tc : Thread Cert.AdamConv.nD Cert.AdamConv.τ).loc Cert.AdamConv.main_arg1)
      ∧ r.2.mem ((c.tc : Thread Cert.AdamConv.nD Cert.AdamConv.τ).loc Cert.AdamConv.main_arg2) = m ((c.tc : Thread Cert.AdamConv.nD Cert.AdamConv.τ).loc Cert.AdamConv.main_arg2)
      ∧ r.2.mem ((c.tc : Thread Cert.AdamConv.nD Cert.AdamConv.τ).loc Cert.AdamConv.main_arg3) = m ((c.tc : Thread Cert.AdamConv.nD Cert.AdamConv.τ).loc Cert.AdamConv.main_arg3))
      ∧ r.2.sem = fun _ => 0)

def quiescent_AdamConvIdeal [hAdamConvIdeal : Cert.AdamConvIdeal.Facts] : Prop :=
  ∀ (m : (ℓ : Loc Cert.AdamConvIdeal.nD Cert.AdamConvIdeal.τ Cert.AdamConvIdeal.sig) → Buf (Elt Ideal) ℓ) (g : Dev Cert.AdamConvIdeal.nD → PrngReg), Pre_AdamConvIdeal m →
    θ_run (Cert.AdamConvIdeal.defs (F := Ideal)) (onTc (τ := Cert.AdamConvIdeal.τ) (Cert.AdamConvIdeal.main (F := Ideal))) ⟨m, fun _ => 0, g⟩ (fun r => (∀ c : Dev Cert.AdamConvIdeal.nD,
      r.2.mem ((c.tc : Thread Cert.AdamConvIdeal.nD Cert.AdamConvIdeal.τ).loc Cert.AdamConvIdeal.main_arg0) = m ((c.tc : Thread Cert.AdamConvIdeal.nD Cert.AdamConvIdeal.τ).loc Cert.AdamConvIdeal.main_arg0)
      ∧ r.2.mem ((c.tc : Thread Cert.AdamConvIdeal.nD Cert.AdamConvIdeal.τ).loc Cert.AdamConvIdeal.main_arg1) = m ((c.tc : Thread Cert.AdamConvIdeal.nD Cert.AdamConvIdeal.τ).loc Cert.AdamConvIdeal.main_arg1)
      ∧ r.2.mem ((c.tc : Thread Cert.AdamConvIdeal.nD Cert.AdamConvIdeal.τ).loc Cert.AdamConvIdeal.main_arg2) = m ((c.tc : Thread Cert.AdamConvIdeal.nD Cert.AdamConvIdeal.τ).loc Cert.AdamConvIdeal.main_arg2)
      ∧ r.2.mem ((c.tc : Thread Cert.AdamConvIdeal.nD Cert.AdamConvIdeal.τ).loc Cert.AdamConvIdeal.main_arg3) = m ((c.tc : Thread Cert.AdamConvIdeal.nD Cert.AdamConvIdeal.τ).loc Cert.AdamConvIdeal.main_arg3))
      ∧ r.2.sem = fun _ => 0)

def quiescent_AdamConvReferenceIdeal [hAdamConvReferenceIdeal : Cert.AdamConvReferenceIdeal.Facts] : Prop :=
  ∀ (m : (ℓ : Loc Cert.AdamConvReferenceIdeal.nD Cert.AdamConvReferenceIdeal.τ Cert.AdamConvReferenceIdeal.sig) → Buf (Elt Ideal) ℓ) (g : Dev Cert.AdamConvReferenceIdeal.nD → PrngReg), Pre_AdamConvReferenceIdeal m →
    θ_run (Cert.AdamConvReferenceIdeal.defs (F := Ideal)) (onTc (τ := Cert.AdamConvReferenceIdeal.τ) (Cert.AdamConvReferenceIdeal.main (F := Ideal))) ⟨m, fun _ => 0, g⟩ (fun r => (∀ c : Dev Cert.AdamConvReferenceIdeal.nD,
      r.2.mem ((c.tc : Thread Cert.AdamConvReferenceIdeal.nD Cert.AdamConvReferenceIdeal.τ).loc Cert.AdamConvReferenceIdeal.main_arg0) = m ((c.tc : Thread Cert.AdamConvReferenceIdeal.nD Cert.AdamConvReferenceIdeal.τ).loc Cert.AdamConvReferenceIdeal.main_arg0)
      ∧ r.2.mem ((c.tc : Thread Cert.AdamConvReferenceIdeal.nD Cert.AdamConvReferenceIdeal.τ).loc Cert.AdamConvReferenceIdeal.main_arg1) = m ((c.tc : Thread Cert.AdamConvReferenceIdeal.nD Cert.AdamConvReferenceIdeal.τ).loc Cert.AdamConvReferenceIdeal.main_arg1)
      ∧ r.2.mem ((c.tc : Thread Cert.AdamConvReferenceIdeal.nD Cert.AdamConvReferenceIdeal.τ).loc Cert.AdamConvReferenceIdeal.main_arg2) = m ((c.tc : Thread Cert.AdamConvReferenceIdeal.nD Cert.AdamConvReferenceIdeal.τ).loc Cert.AdamConvReferenceIdeal.main_arg2)
      ∧ r.2.mem ((c.tc : Thread Cert.AdamConvReferenceIdeal.nD Cert.AdamConvReferenceIdeal.τ).loc Cert.AdamConvReferenceIdeal.main_arg3) = m ((c.tc : Thread Cert.AdamConvReferenceIdeal.nD Cert.AdamConvReferenceIdeal.τ).loc Cert.AdamConvReferenceIdeal.main_arg3))
      ∧ r.2.sem = fun _ => 0)

def quiescent_Norm1X [hNorm1X : Cert.Norm1X.Facts] : Prop :=
  ∀ (m : (ℓ : Loc Cert.Norm1X.nD Cert.Norm1X.τ Cert.Norm1X.sig) → Buf (Elt Bits) ℓ) (g : Dev Cert.Norm1X.nD → PrngReg), Pre_Norm1X m →
    θ_run (Cert.Norm1X.defs (F := Bits)) (onTc (τ := Cert.Norm1X.τ) (Cert.Norm1X.main (F := Bits))) ⟨m, fun _ => 0, g⟩ (fun r => (∀ c : Dev Cert.Norm1X.nD,
      r.2.mem ((c.tc : Thread Cert.Norm1X.nD Cert.Norm1X.τ).loc Cert.Norm1X.main_arg0) = m ((c.tc : Thread Cert.Norm1X.nD Cert.Norm1X.τ).loc Cert.Norm1X.main_arg0)
      ∧ r.2.mem ((c.tc : Thread Cert.Norm1X.nD Cert.Norm1X.τ).loc Cert.Norm1X.main_arg1) = m ((c.tc : Thread Cert.Norm1X.nD Cert.Norm1X.τ).loc Cert.Norm1X.main_arg1)
      ∧ r.2.mem ((c.tc : Thread Cert.Norm1X.nD Cert.Norm1X.τ).loc Cert.Norm1X.main_arg2) = m ((c.tc : Thread Cert.Norm1X.nD Cert.Norm1X.τ).loc Cert.Norm1X.main_arg2)
      ∧ r.2.mem ((c.tc : Thread Cert.Norm1X.nD Cert.Norm1X.τ).loc Cert.Norm1X.main_arg3) = m ((c.tc : Thread Cert.Norm1X.nD Cert.Norm1X.τ).loc Cert.Norm1X.main_arg3)
      ∧ r.2.mem ((c.tc : Thread Cert.Norm1X.nD Cert.Norm1X.τ).loc Cert.Norm1X.main_arg4) = m ((c.tc : Thread Cert.Norm1X.nD Cert.Norm1X.τ).loc Cert.Norm1X.main_arg4)
      ∧ r.2.mem ((c.tc : Thread Cert.Norm1X.nD Cert.Norm1X.τ).loc Cert.Norm1X.main_arg5) = m ((c.tc : Thread Cert.Norm1X.nD Cert.Norm1X.τ).loc Cert.Norm1X.main_arg5))
      ∧ r.2.sem = fun _ => 0)

def quiescent_Norm1XIdeal [hNorm1XIdeal : Cert.Norm1XIdeal.Facts] : Prop :=
  ∀ (m : (ℓ : Loc Cert.Norm1XIdeal.nD Cert.Norm1XIdeal.τ Cert.Norm1XIdeal.sig) → Buf (Elt Ideal) ℓ) (g : Dev Cert.Norm1XIdeal.nD → PrngReg), Pre_Norm1XIdeal m →
    θ_run (Cert.Norm1XIdeal.defs (F := Ideal)) (onTc (τ := Cert.Norm1XIdeal.τ) (Cert.Norm1XIdeal.main (F := Ideal))) ⟨m, fun _ => 0, g⟩ (fun r => (∀ c : Dev Cert.Norm1XIdeal.nD,
      r.2.mem ((c.tc : Thread Cert.Norm1XIdeal.nD Cert.Norm1XIdeal.τ).loc Cert.Norm1XIdeal.main_arg0) = m ((c.tc : Thread Cert.Norm1XIdeal.nD Cert.Norm1XIdeal.τ).loc Cert.Norm1XIdeal.main_arg0)
      ∧ r.2.mem ((c.tc : Thread Cert.Norm1XIdeal.nD Cert.Norm1XIdeal.τ).loc Cert.Norm1XIdeal.main_arg1) = m ((c.tc : Thread Cert.Norm1XIdeal.nD Cert.Norm1XIdeal.τ).loc Cert.Norm1XIdeal.main_arg1)
      ∧ r.2.mem ((c.tc : Thread Cert.Norm1XIdeal.nD Cert.Norm1XIdeal.τ).loc Cert.Norm1XIdeal.main_arg2) = m ((c.tc : Thread Cert.Norm1XIdeal.nD Cert.Norm1XIdeal.τ).loc Cert.Norm1XIdeal.main_arg2)
      ∧ r.2.mem ((c.tc : Thread Cert.Norm1XIdeal.nD Cert.Norm1XIdeal.τ).loc Cert.Norm1XIdeal.main_arg3) = m ((c.tc : Thread Cert.Norm1XIdeal.nD Cert.Norm1XIdeal.τ).loc Cert.Norm1XIdeal.main_arg3)
      ∧ r.2.mem ((c.tc : Thread Cert.Norm1XIdeal.nD Cert.Norm1XIdeal.τ).loc Cert.Norm1XIdeal.main_arg4) = m ((c.tc : Thread Cert.Norm1XIdeal.nD Cert.Norm1XIdeal.τ).loc Cert.Norm1XIdeal.main_arg4)
      ∧ r.2.mem ((c.tc : Thread Cert.Norm1XIdeal.nD Cert.Norm1XIdeal.τ).loc Cert.Norm1XIdeal.main_arg5) = m ((c.tc : Thread Cert.Norm1XIdeal.nD Cert.Norm1XIdeal.τ).loc Cert.Norm1XIdeal.main_arg5))
      ∧ r.2.sem = fun _ => 0)

def quiescent_Norm1XReferenceIdeal [hNorm1XReferenceIdeal : Cert.Norm1XReferenceIdeal.Facts] : Prop :=
  ∀ (m : (ℓ : Loc Cert.Norm1XReferenceIdeal.nD Cert.Norm1XReferenceIdeal.τ Cert.Norm1XReferenceIdeal.sig) → Buf (Elt Ideal) ℓ) (g : Dev Cert.Norm1XReferenceIdeal.nD → PrngReg), Pre_Norm1XReferenceIdeal m →
    θ_run (Cert.Norm1XReferenceIdeal.defs (F := Ideal)) (onTc (τ := Cert.Norm1XReferenceIdeal.τ) (Cert.Norm1XReferenceIdeal.main (F := Ideal))) ⟨m, fun _ => 0, g⟩ (fun r => (∀ c : Dev Cert.Norm1XReferenceIdeal.nD,
      r.2.mem ((c.tc : Thread Cert.Norm1XReferenceIdeal.nD Cert.Norm1XReferenceIdeal.τ).loc Cert.Norm1XReferenceIdeal.main_arg0) = m ((c.tc : Thread Cert.Norm1XReferenceIdeal.nD Cert.Norm1XReferenceIdeal.τ).loc Cert.Norm1XReferenceIdeal.main_arg0)
      ∧ r.2.mem ((c.tc : Thread Cert.Norm1XReferenceIdeal.nD Cert.Norm1XReferenceIdeal.τ).loc Cert.Norm1XReferenceIdeal.main_arg1) = m ((c.tc : Thread Cert.Norm1XReferenceIdeal.nD Cert.Norm1XReferenceIdeal.τ).loc Cert.Norm1XReferenceIdeal.main_arg1)
      ∧ r.2.mem ((c.tc : Thread Cert.Norm1XReferenceIdeal.nD Cert.Norm1XReferenceIdeal.τ).loc Cert.Norm1XReferenceIdeal.main_arg2) = m ((c.tc : Thread Cert.Norm1XReferenceIdeal.nD Cert.Norm1XReferenceIdeal.τ).loc Cert.Norm1XReferenceIdeal.main_arg2)
      ∧ r.2.mem ((c.tc : Thread Cert.Norm1XReferenceIdeal.nD Cert.Norm1XReferenceIdeal.τ).loc Cert.Norm1XReferenceIdeal.main_arg3) = m ((c.tc : Thread Cert.Norm1XReferenceIdeal.nD Cert.Norm1XReferenceIdeal.τ).loc Cert.Norm1XReferenceIdeal.main_arg3)
      ∧ r.2.mem ((c.tc : Thread Cert.Norm1XReferenceIdeal.nD Cert.Norm1XReferenceIdeal.τ).loc Cert.Norm1XReferenceIdeal.main_arg4) = m ((c.tc : Thread Cert.Norm1XReferenceIdeal.nD Cert.Norm1XReferenceIdeal.τ).loc Cert.Norm1XReferenceIdeal.main_arg4)
      ∧ r.2.mem ((c.tc : Thread Cert.Norm1XReferenceIdeal.nD Cert.Norm1XReferenceIdeal.τ).loc Cert.Norm1XReferenceIdeal.main_arg5) = m ((c.tc : Thread Cert.Norm1XReferenceIdeal.nD Cert.Norm1XReferenceIdeal.τ).loc Cert.Norm1XReferenceIdeal.main_arg5))
      ∧ r.2.sem = fun _ => 0)

def quiescent_Norm2X [hNorm2X : Cert.Norm2X.Facts] : Prop :=
  ∀ (m : (ℓ : Loc Cert.Norm2X.nD Cert.Norm2X.τ Cert.Norm2X.sig) → Buf (Elt Bits) ℓ) (g : Dev Cert.Norm2X.nD → PrngReg), Pre_Norm2X m →
    θ_run (Cert.Norm2X.defs (F := Bits)) (onTc (τ := Cert.Norm2X.τ) (Cert.Norm2X.main (F := Bits))) ⟨m, fun _ => 0, g⟩ (fun r => (∀ c : Dev Cert.Norm2X.nD,
      r.2.mem ((c.tc : Thread Cert.Norm2X.nD Cert.Norm2X.τ).loc Cert.Norm2X.main_arg0) = m ((c.tc : Thread Cert.Norm2X.nD Cert.Norm2X.τ).loc Cert.Norm2X.main_arg0)
      ∧ r.2.mem ((c.tc : Thread Cert.Norm2X.nD Cert.Norm2X.τ).loc Cert.Norm2X.main_arg1) = m ((c.tc : Thread Cert.Norm2X.nD Cert.Norm2X.τ).loc Cert.Norm2X.main_arg1)
      ∧ r.2.mem ((c.tc : Thread Cert.Norm2X.nD Cert.Norm2X.τ).loc Cert.Norm2X.main_arg2) = m ((c.tc : Thread Cert.Norm2X.nD Cert.Norm2X.τ).loc Cert.Norm2X.main_arg2)
      ∧ r.2.mem ((c.tc : Thread Cert.Norm2X.nD Cert.Norm2X.τ).loc Cert.Norm2X.main_arg3) = m ((c.tc : Thread Cert.Norm2X.nD Cert.Norm2X.τ).loc Cert.Norm2X.main_arg3)
      ∧ r.2.mem ((c.tc : Thread Cert.Norm2X.nD Cert.Norm2X.τ).loc Cert.Norm2X.main_arg4) = m ((c.tc : Thread Cert.Norm2X.nD Cert.Norm2X.τ).loc Cert.Norm2X.main_arg4)
      ∧ r.2.mem ((c.tc : Thread Cert.Norm2X.nD Cert.Norm2X.τ).loc Cert.Norm2X.main_arg5) = m ((c.tc : Thread Cert.Norm2X.nD Cert.Norm2X.τ).loc Cert.Norm2X.main_arg5)
      ∧ r.2.mem ((c.tc : Thread Cert.Norm2X.nD Cert.Norm2X.τ).loc Cert.Norm2X.main_arg6) = m ((c.tc : Thread Cert.Norm2X.nD Cert.Norm2X.τ).loc Cert.Norm2X.main_arg6)
      ∧ r.2.mem ((c.tc : Thread Cert.Norm2X.nD Cert.Norm2X.τ).loc Cert.Norm2X.main_arg7) = m ((c.tc : Thread Cert.Norm2X.nD Cert.Norm2X.τ).loc Cert.Norm2X.main_arg7))
      ∧ r.2.sem = fun _ => 0)

def quiescent_Norm2XIdeal [hNorm2XIdeal : Cert.Norm2XIdeal.Facts] : Prop :=
  ∀ (m : (ℓ : Loc Cert.Norm2XIdeal.nD Cert.Norm2XIdeal.τ Cert.Norm2XIdeal.sig) → Buf (Elt Ideal) ℓ) (g : Dev Cert.Norm2XIdeal.nD → PrngReg), Pre_Norm2XIdeal m →
    θ_run (Cert.Norm2XIdeal.defs (F := Ideal)) (onTc (τ := Cert.Norm2XIdeal.τ) (Cert.Norm2XIdeal.main (F := Ideal))) ⟨m, fun _ => 0, g⟩ (fun r => (∀ c : Dev Cert.Norm2XIdeal.nD,
      r.2.mem ((c.tc : Thread Cert.Norm2XIdeal.nD Cert.Norm2XIdeal.τ).loc Cert.Norm2XIdeal.main_arg0) = m ((c.tc : Thread Cert.Norm2XIdeal.nD Cert.Norm2XIdeal.τ).loc Cert.Norm2XIdeal.main_arg0)
      ∧ r.2.mem ((c.tc : Thread Cert.Norm2XIdeal.nD Cert.Norm2XIdeal.τ).loc Cert.Norm2XIdeal.main_arg1) = m ((c.tc : Thread Cert.Norm2XIdeal.nD Cert.Norm2XIdeal.τ).loc Cert.Norm2XIdeal.main_arg1)
      ∧ r.2.mem ((c.tc : Thread Cert.Norm2XIdeal.nD Cert.Norm2XIdeal.τ).loc Cert.Norm2XIdeal.main_arg2) = m ((c.tc : Thread Cert.Norm2XIdeal.nD Cert.Norm2XIdeal.τ).loc Cert.Norm2XIdeal.main_arg2)
      ∧ r.2.mem ((c.tc : Thread Cert.Norm2XIdeal.nD Cert.Norm2XIdeal.τ).loc Cert.Norm2XIdeal.main_arg3) = m ((c.tc : Thread Cert.Norm2XIdeal.nD Cert.Norm2XIdeal.τ).loc Cert.Norm2XIdeal.main_arg3)
      ∧ r.2.mem ((c.tc : Thread Cert.Norm2XIdeal.nD Cert.Norm2XIdeal.τ).loc Cert.Norm2XIdeal.main_arg4) = m ((c.tc : Thread Cert.Norm2XIdeal.nD Cert.Norm2XIdeal.τ).loc Cert.Norm2XIdeal.main_arg4)
      ∧ r.2.mem ((c.tc : Thread Cert.Norm2XIdeal.nD Cert.Norm2XIdeal.τ).loc Cert.Norm2XIdeal.main_arg5) = m ((c.tc : Thread Cert.Norm2XIdeal.nD Cert.Norm2XIdeal.τ).loc Cert.Norm2XIdeal.main_arg5)
      ∧ r.2.mem ((c.tc : Thread Cert.Norm2XIdeal.nD Cert.Norm2XIdeal.τ).loc Cert.Norm2XIdeal.main_arg6) = m ((c.tc : Thread Cert.Norm2XIdeal.nD Cert.Norm2XIdeal.τ).loc Cert.Norm2XIdeal.main_arg6)
      ∧ r.2.mem ((c.tc : Thread Cert.Norm2XIdeal.nD Cert.Norm2XIdeal.τ).loc Cert.Norm2XIdeal.main_arg7) = m ((c.tc : Thread Cert.Norm2XIdeal.nD Cert.Norm2XIdeal.τ).loc Cert.Norm2XIdeal.main_arg7))
      ∧ r.2.sem = fun _ => 0)

def quiescent_Norm2XReferenceIdeal [hNorm2XReferenceIdeal : Cert.Norm2XReferenceIdeal.Facts] : Prop :=
  ∀ (m : (ℓ : Loc Cert.Norm2XReferenceIdeal.nD Cert.Norm2XReferenceIdeal.τ Cert.Norm2XReferenceIdeal.sig) → Buf (Elt Ideal) ℓ) (g : Dev Cert.Norm2XReferenceIdeal.nD → PrngReg), Pre_Norm2XReferenceIdeal m →
    θ_run (Cert.Norm2XReferenceIdeal.defs (F := Ideal)) (onTc (τ := Cert.Norm2XReferenceIdeal.τ) (Cert.Norm2XReferenceIdeal.main (F := Ideal))) ⟨m, fun _ => 0, g⟩ (fun r => (∀ c : Dev Cert.Norm2XReferenceIdeal.nD,
      r.2.mem ((c.tc : Thread Cert.Norm2XReferenceIdeal.nD Cert.Norm2XReferenceIdeal.τ).loc Cert.Norm2XReferenceIdeal.main_arg0) = m ((c.tc : Thread Cert.Norm2XReferenceIdeal.nD Cert.Norm2XReferenceIdeal.τ).loc Cert.Norm2XReferenceIdeal.main_arg0)
      ∧ r.2.mem ((c.tc : Thread Cert.Norm2XReferenceIdeal.nD Cert.Norm2XReferenceIdeal.τ).loc Cert.Norm2XReferenceIdeal.main_arg1) = m ((c.tc : Thread Cert.Norm2XReferenceIdeal.nD Cert.Norm2XReferenceIdeal.τ).loc Cert.Norm2XReferenceIdeal.main_arg1)
      ∧ r.2.mem ((c.tc : Thread Cert.Norm2XReferenceIdeal.nD Cert.Norm2XReferenceIdeal.τ).loc Cert.Norm2XReferenceIdeal.main_arg2) = m ((c.tc : Thread Cert.Norm2XReferenceIdeal.nD Cert.Norm2XReferenceIdeal.τ).loc Cert.Norm2XReferenceIdeal.main_arg2)
      ∧ r.2.mem ((c.tc : Thread Cert.Norm2XReferenceIdeal.nD Cert.Norm2XReferenceIdeal.τ).loc Cert.Norm2XReferenceIdeal.main_arg3) = m ((c.tc : Thread Cert.Norm2XReferenceIdeal.nD Cert.Norm2XReferenceIdeal.τ).loc Cert.Norm2XReferenceIdeal.main_arg3)
      ∧ r.2.mem ((c.tc : Thread Cert.Norm2XReferenceIdeal.nD Cert.Norm2XReferenceIdeal.τ).loc Cert.Norm2XReferenceIdeal.main_arg4) = m ((c.tc : Thread Cert.Norm2XReferenceIdeal.nD Cert.Norm2XReferenceIdeal.τ).loc Cert.Norm2XReferenceIdeal.main_arg4)
      ∧ r.2.mem ((c.tc : Thread Cert.Norm2XReferenceIdeal.nD Cert.Norm2XReferenceIdeal.τ).loc Cert.Norm2XReferenceIdeal.main_arg5) = m ((c.tc : Thread Cert.Norm2XReferenceIdeal.nD Cert.Norm2XReferenceIdeal.τ).loc Cert.Norm2XReferenceIdeal.main_arg5)
      ∧ r.2.mem ((c.tc : Thread Cert.Norm2XReferenceIdeal.nD Cert.Norm2XReferenceIdeal.τ).loc Cert.Norm2XReferenceIdeal.main_arg6) = m ((c.tc : Thread Cert.Norm2XReferenceIdeal.nD Cert.Norm2XReferenceIdeal.τ).loc Cert.Norm2XReferenceIdeal.main_arg6)
      ∧ r.2.mem ((c.tc : Thread Cert.Norm2XReferenceIdeal.nD Cert.Norm2XReferenceIdeal.τ).loc Cert.Norm2XReferenceIdeal.main_arg7) = m ((c.tc : Thread Cert.Norm2XReferenceIdeal.nD Cert.Norm2XReferenceIdeal.τ).loc Cert.Norm2XReferenceIdeal.main_arg7))
      ∧ r.2.sem = fun _ => 0)

def quiescent_ResidX [hResidX : Cert.ResidX.Facts] : Prop :=
  ∀ (m : (ℓ : Loc Cert.ResidX.nD Cert.ResidX.τ Cert.ResidX.sig) → Buf (Elt Bits) ℓ) (g : Dev Cert.ResidX.nD → PrngReg), Pre_ResidX m →
    θ_run (Cert.ResidX.defs (F := Bits)) (onTc (τ := Cert.ResidX.τ) (Cert.ResidX.main (F := Bits))) ⟨m, fun _ => 0, g⟩ (fun r => (∀ c : Dev Cert.ResidX.nD,
      r.2.mem ((c.tc : Thread Cert.ResidX.nD Cert.ResidX.τ).loc Cert.ResidX.main_arg0) = m ((c.tc : Thread Cert.ResidX.nD Cert.ResidX.τ).loc Cert.ResidX.main_arg0)
      ∧ r.2.mem ((c.tc : Thread Cert.ResidX.nD Cert.ResidX.τ).loc Cert.ResidX.main_arg1) = m ((c.tc : Thread Cert.ResidX.nD Cert.ResidX.τ).loc Cert.ResidX.main_arg1)
      ∧ r.2.mem ((c.tc : Thread Cert.ResidX.nD Cert.ResidX.τ).loc Cert.ResidX.main_arg2) = m ((c.tc : Thread Cert.ResidX.nD Cert.ResidX.τ).loc Cert.ResidX.main_arg2)
      ∧ r.2.mem ((c.tc : Thread Cert.ResidX.nD Cert.ResidX.τ).loc Cert.ResidX.main_arg3) = m ((c.tc : Thread Cert.ResidX.nD Cert.ResidX.τ).loc Cert.ResidX.main_arg3))
      ∧ r.2.sem = fun _ => 0)

def quiescent_ResidXIdeal [hResidXIdeal : Cert.ResidXIdeal.Facts] : Prop :=
  ∀ (m : (ℓ : Loc Cert.ResidXIdeal.nD Cert.ResidXIdeal.τ Cert.ResidXIdeal.sig) → Buf (Elt Ideal) ℓ) (g : Dev Cert.ResidXIdeal.nD → PrngReg), Pre_ResidXIdeal m →
    θ_run (Cert.ResidXIdeal.defs (F := Ideal)) (onTc (τ := Cert.ResidXIdeal.τ) (Cert.ResidXIdeal.main (F := Ideal))) ⟨m, fun _ => 0, g⟩ (fun r => (∀ c : Dev Cert.ResidXIdeal.nD,
      r.2.mem ((c.tc : Thread Cert.ResidXIdeal.nD Cert.ResidXIdeal.τ).loc Cert.ResidXIdeal.main_arg0) = m ((c.tc : Thread Cert.ResidXIdeal.nD Cert.ResidXIdeal.τ).loc Cert.ResidXIdeal.main_arg0)
      ∧ r.2.mem ((c.tc : Thread Cert.ResidXIdeal.nD Cert.ResidXIdeal.τ).loc Cert.ResidXIdeal.main_arg1) = m ((c.tc : Thread Cert.ResidXIdeal.nD Cert.ResidXIdeal.τ).loc Cert.ResidXIdeal.main_arg1)
      ∧ r.2.mem ((c.tc : Thread Cert.ResidXIdeal.nD Cert.ResidXIdeal.τ).loc Cert.ResidXIdeal.main_arg2) = m ((c.tc : Thread Cert.ResidXIdeal.nD Cert.ResidXIdeal.τ).loc Cert.ResidXIdeal.main_arg2)
      ∧ r.2.mem ((c.tc : Thread Cert.ResidXIdeal.nD Cert.ResidXIdeal.τ).loc Cert.ResidXIdeal.main_arg3) = m ((c.tc : Thread Cert.ResidXIdeal.nD Cert.ResidXIdeal.τ).loc Cert.ResidXIdeal.main_arg3))
      ∧ r.2.sem = fun _ => 0)

def quiescent_ResidXReferenceIdeal [hResidXReferenceIdeal : Cert.ResidXReferenceIdeal.Facts] : Prop :=
  ∀ (m : (ℓ : Loc Cert.ResidXReferenceIdeal.nD Cert.ResidXReferenceIdeal.τ Cert.ResidXReferenceIdeal.sig) → Buf (Elt Ideal) ℓ) (g : Dev Cert.ResidXReferenceIdeal.nD → PrngReg), Pre_ResidXReferenceIdeal m →
    θ_run (Cert.ResidXReferenceIdeal.defs (F := Ideal)) (onTc (τ := Cert.ResidXReferenceIdeal.τ) (Cert.ResidXReferenceIdeal.main (F := Ideal))) ⟨m, fun _ => 0, g⟩ (fun r => (∀ c : Dev Cert.ResidXReferenceIdeal.nD,
      r.2.mem ((c.tc : Thread Cert.ResidXReferenceIdeal.nD Cert.ResidXReferenceIdeal.τ).loc Cert.ResidXReferenceIdeal.main_arg0) = m ((c.tc : Thread Cert.ResidXReferenceIdeal.nD Cert.ResidXReferenceIdeal.τ).loc Cert.ResidXReferenceIdeal.main_arg0)
      ∧ r.2.mem ((c.tc : Thread Cert.ResidXReferenceIdeal.nD Cert.ResidXReferenceIdeal.τ).loc Cert.ResidXReferenceIdeal.main_arg1) = m ((c.tc : Thread Cert.ResidXReferenceIdeal.nD Cert.ResidXReferenceIdeal.τ).loc Cert.ResidXReferenceIdeal.main_arg1)
      ∧ r.2.mem ((c.tc : Thread Cert.ResidXReferenceIdeal.nD Cert.ResidXReferenceIdeal.τ).loc Cert.ResidXReferenceIdeal.main_arg2) = m ((c.tc : Thread Cert.ResidXReferenceIdeal.nD Cert.ResidXReferenceIdeal.τ).loc Cert.ResidXReferenceIdeal.main_arg2)
      ∧ r.2.mem ((c.tc : Thread Cert.ResidXReferenceIdeal.nD Cert.ResidXReferenceIdeal.τ).loc Cert.ResidXReferenceIdeal.main_arg3) = m ((c.tc : Thread Cert.ResidXReferenceIdeal.nD Cert.ResidXReferenceIdeal.τ).loc Cert.ResidXReferenceIdeal.main_arg3))
      ∧ r.2.sem = fun _ => 0)

def quiescent_Norm1 [hNorm1 : Cert.Norm1.Facts] : Prop :=
  ∀ (m : (ℓ : Loc Cert.Norm1.nD Cert.Norm1.τ Cert.Norm1.sig) → Buf (Elt Bits) ℓ) (g : Dev Cert.Norm1.nD → PrngReg), Pre_Norm1 m →
    θ_run (Cert.Norm1.defs (F := Bits)) (onTc (τ := Cert.Norm1.τ) (Cert.Norm1.main (F := Bits))) ⟨m, fun _ => 0, g⟩ (fun r => (∀ c : Dev Cert.Norm1.nD,
      r.2.mem ((c.tc : Thread Cert.Norm1.nD Cert.Norm1.τ).loc Cert.Norm1.main_arg0) = m ((c.tc : Thread Cert.Norm1.nD Cert.Norm1.τ).loc Cert.Norm1.main_arg0)
      ∧ r.2.mem ((c.tc : Thread Cert.Norm1.nD Cert.Norm1.τ).loc Cert.Norm1.main_arg1) = m ((c.tc : Thread Cert.Norm1.nD Cert.Norm1.τ).loc Cert.Norm1.main_arg1)
      ∧ r.2.mem ((c.tc : Thread Cert.Norm1.nD Cert.Norm1.τ).loc Cert.Norm1.main_arg2) = m ((c.tc : Thread Cert.Norm1.nD Cert.Norm1.τ).loc Cert.Norm1.main_arg2)
      ∧ r.2.mem ((c.tc : Thread Cert.Norm1.nD Cert.Norm1.τ).loc Cert.Norm1.main_arg3) = m ((c.tc : Thread Cert.Norm1.nD Cert.Norm1.τ).loc Cert.Norm1.main_arg3))
      ∧ r.2.sem = fun _ => 0)

def quiescent_Norm1Ideal [hNorm1Ideal : Cert.Norm1Ideal.Facts] : Prop :=
  ∀ (m : (ℓ : Loc Cert.Norm1Ideal.nD Cert.Norm1Ideal.τ Cert.Norm1Ideal.sig) → Buf (Elt Ideal) ℓ) (g : Dev Cert.Norm1Ideal.nD → PrngReg), Pre_Norm1Ideal m →
    θ_run (Cert.Norm1Ideal.defs (F := Ideal)) (onTc (τ := Cert.Norm1Ideal.τ) (Cert.Norm1Ideal.main (F := Ideal))) ⟨m, fun _ => 0, g⟩ (fun r => (∀ c : Dev Cert.Norm1Ideal.nD,
      r.2.mem ((c.tc : Thread Cert.Norm1Ideal.nD Cert.Norm1Ideal.τ).loc Cert.Norm1Ideal.main_arg0) = m ((c.tc : Thread Cert.Norm1Ideal.nD Cert.Norm1Ideal.τ).loc Cert.Norm1Ideal.main_arg0)
      ∧ r.2.mem ((c.tc : Thread Cert.Norm1Ideal.nD Cert.Norm1Ideal.τ).loc Cert.Norm1Ideal.main_arg1) = m ((c.tc : Thread Cert.Norm1Ideal.nD Cert.Norm1Ideal.τ).loc Cert.Norm1Ideal.main_arg1)
      ∧ r.2.mem ((c.tc : Thread Cert.Norm1Ideal.nD Cert.Norm1Ideal.τ).loc Cert.Norm1Ideal.main_arg2) = m ((c.tc : Thread Cert.Norm1Ideal.nD Cert.Norm1Ideal.τ).loc Cert.Norm1Ideal.main_arg2)
      ∧ r.2.mem ((c.tc : Thread Cert.Norm1Ideal.nD Cert.Norm1Ideal.τ).loc Cert.Norm1Ideal.main_arg3) = m ((c.tc : Thread Cert.Norm1Ideal.nD Cert.Norm1Ideal.τ).loc Cert.Norm1Ideal.main_arg3))
      ∧ r.2.sem = fun _ => 0)

def quiescent_Norm1ReferenceIdeal [hNorm1ReferenceIdeal : Cert.Norm1ReferenceIdeal.Facts] : Prop :=
  ∀ (m : (ℓ : Loc Cert.Norm1ReferenceIdeal.nD Cert.Norm1ReferenceIdeal.τ Cert.Norm1ReferenceIdeal.sig) → Buf (Elt Ideal) ℓ) (g : Dev Cert.Norm1ReferenceIdeal.nD → PrngReg), Pre_Norm1ReferenceIdeal m →
    θ_run (Cert.Norm1ReferenceIdeal.defs (F := Ideal)) (onTc (τ := Cert.Norm1ReferenceIdeal.τ) (Cert.Norm1ReferenceIdeal.main (F := Ideal))) ⟨m, fun _ => 0, g⟩ (fun r => (∀ c : Dev Cert.Norm1ReferenceIdeal.nD,
      r.2.mem ((c.tc : Thread Cert.Norm1ReferenceIdeal.nD Cert.Norm1ReferenceIdeal.τ).loc Cert.Norm1ReferenceIdeal.main_arg0) = m ((c.tc : Thread Cert.Norm1ReferenceIdeal.nD Cert.Norm1ReferenceIdeal.τ).loc Cert.Norm1ReferenceIdeal.main_arg0)
      ∧ r.2.mem ((c.tc : Thread Cert.Norm1ReferenceIdeal.nD Cert.Norm1ReferenceIdeal.τ).loc Cert.Norm1ReferenceIdeal.main_arg1) = m ((c.tc : Thread Cert.Norm1ReferenceIdeal.nD Cert.Norm1ReferenceIdeal.τ).loc Cert.Norm1ReferenceIdeal.main_arg1)
      ∧ r.2.mem ((c.tc : Thread Cert.Norm1ReferenceIdeal.nD Cert.Norm1ReferenceIdeal.τ).loc Cert.Norm1ReferenceIdeal.main_arg2) = m ((c.tc : Thread Cert.Norm1ReferenceIdeal.nD Cert.Norm1ReferenceIdeal.τ).loc Cert.Norm1ReferenceIdeal.main_arg2)
      ∧ r.2.mem ((c.tc : Thread Cert.Norm1ReferenceIdeal.nD Cert.Norm1ReferenceIdeal.τ).loc Cert.Norm1ReferenceIdeal.main_arg3) = m ((c.tc : Thread Cert.Norm1ReferenceIdeal.nD Cert.Norm1ReferenceIdeal.τ).loc Cert.Norm1ReferenceIdeal.main_arg3))
      ∧ r.2.sem = fun _ => 0)

def quiescent_Norm2 [hNorm2 : Cert.Norm2.Facts] : Prop :=
  ∀ (m : (ℓ : Loc Cert.Norm2.nD Cert.Norm2.τ Cert.Norm2.sig) → Buf (Elt Bits) ℓ) (g : Dev Cert.Norm2.nD → PrngReg), Pre_Norm2 m →
    θ_run (Cert.Norm2.defs (F := Bits)) (onTc (τ := Cert.Norm2.τ) (Cert.Norm2.main (F := Bits))) ⟨m, fun _ => 0, g⟩ (fun r => (∀ c : Dev Cert.Norm2.nD,
      r.2.mem ((c.tc : Thread Cert.Norm2.nD Cert.Norm2.τ).loc Cert.Norm2.main_arg0) = m ((c.tc : Thread Cert.Norm2.nD Cert.Norm2.τ).loc Cert.Norm2.main_arg0)
      ∧ r.2.mem ((c.tc : Thread Cert.Norm2.nD Cert.Norm2.τ).loc Cert.Norm2.main_arg1) = m ((c.tc : Thread Cert.Norm2.nD Cert.Norm2.τ).loc Cert.Norm2.main_arg1)
      ∧ r.2.mem ((c.tc : Thread Cert.Norm2.nD Cert.Norm2.τ).loc Cert.Norm2.main_arg2) = m ((c.tc : Thread Cert.Norm2.nD Cert.Norm2.τ).loc Cert.Norm2.main_arg2)
      ∧ r.2.mem ((c.tc : Thread Cert.Norm2.nD Cert.Norm2.τ).loc Cert.Norm2.main_arg3) = m ((c.tc : Thread Cert.Norm2.nD Cert.Norm2.τ).loc Cert.Norm2.main_arg3)
      ∧ r.2.mem ((c.tc : Thread Cert.Norm2.nD Cert.Norm2.τ).loc Cert.Norm2.main_arg4) = m ((c.tc : Thread Cert.Norm2.nD Cert.Norm2.τ).loc Cert.Norm2.main_arg4)
      ∧ r.2.mem ((c.tc : Thread Cert.Norm2.nD Cert.Norm2.τ).loc Cert.Norm2.main_arg5) = m ((c.tc : Thread Cert.Norm2.nD Cert.Norm2.τ).loc Cert.Norm2.main_arg5))
      ∧ r.2.sem = fun _ => 0)

def quiescent_Norm2Ideal [hNorm2Ideal : Cert.Norm2Ideal.Facts] : Prop :=
  ∀ (m : (ℓ : Loc Cert.Norm2Ideal.nD Cert.Norm2Ideal.τ Cert.Norm2Ideal.sig) → Buf (Elt Ideal) ℓ) (g : Dev Cert.Norm2Ideal.nD → PrngReg), Pre_Norm2Ideal m →
    θ_run (Cert.Norm2Ideal.defs (F := Ideal)) (onTc (τ := Cert.Norm2Ideal.τ) (Cert.Norm2Ideal.main (F := Ideal))) ⟨m, fun _ => 0, g⟩ (fun r => (∀ c : Dev Cert.Norm2Ideal.nD,
      r.2.mem ((c.tc : Thread Cert.Norm2Ideal.nD Cert.Norm2Ideal.τ).loc Cert.Norm2Ideal.main_arg0) = m ((c.tc : Thread Cert.Norm2Ideal.nD Cert.Norm2Ideal.τ).loc Cert.Norm2Ideal.main_arg0)
      ∧ r.2.mem ((c.tc : Thread Cert.Norm2Ideal.nD Cert.Norm2Ideal.τ).loc Cert.Norm2Ideal.main_arg1) = m ((c.tc : Thread Cert.Norm2Ideal.nD Cert.Norm2Ideal.τ).loc Cert.Norm2Ideal.main_arg1)
      ∧ r.2.mem ((c.tc : Thread Cert.Norm2Ideal.nD Cert.Norm2Ideal.τ).loc Cert.Norm2Ideal.main_arg2) = m ((c.tc : Thread Cert.Norm2Ideal.nD Cert.Norm2Ideal.τ).loc Cert.Norm2Ideal.main_arg2)
      ∧ r.2.mem ((c.tc : Thread Cert.Norm2Ideal.nD Cert.Norm2Ideal.τ).loc Cert.Norm2Ideal.main_arg3) = m ((c.tc : Thread Cert.Norm2Ideal.nD Cert.Norm2Ideal.τ).loc Cert.Norm2Ideal.main_arg3)
      ∧ r.2.mem ((c.tc : Thread Cert.Norm2Ideal.nD Cert.Norm2Ideal.τ).loc Cert.Norm2Ideal.main_arg4) = m ((c.tc : Thread Cert.Norm2Ideal.nD Cert.Norm2Ideal.τ).loc Cert.Norm2Ideal.main_arg4)
      ∧ r.2.mem ((c.tc : Thread Cert.Norm2Ideal.nD Cert.Norm2Ideal.τ).loc Cert.Norm2Ideal.main_arg5) = m ((c.tc : Thread Cert.Norm2Ideal.nD Cert.Norm2Ideal.τ).loc Cert.Norm2Ideal.main_arg5))
      ∧ r.2.sem = fun _ => 0)

def quiescent_Norm2ReferenceIdeal [hNorm2ReferenceIdeal : Cert.Norm2ReferenceIdeal.Facts] : Prop :=
  ∀ (m : (ℓ : Loc Cert.Norm2ReferenceIdeal.nD Cert.Norm2ReferenceIdeal.τ Cert.Norm2ReferenceIdeal.sig) → Buf (Elt Ideal) ℓ) (g : Dev Cert.Norm2ReferenceIdeal.nD → PrngReg), Pre_Norm2ReferenceIdeal m →
    θ_run (Cert.Norm2ReferenceIdeal.defs (F := Ideal)) (onTc (τ := Cert.Norm2ReferenceIdeal.τ) (Cert.Norm2ReferenceIdeal.main (F := Ideal))) ⟨m, fun _ => 0, g⟩ (fun r => (∀ c : Dev Cert.Norm2ReferenceIdeal.nD,
      r.2.mem ((c.tc : Thread Cert.Norm2ReferenceIdeal.nD Cert.Norm2ReferenceIdeal.τ).loc Cert.Norm2ReferenceIdeal.main_arg0) = m ((c.tc : Thread Cert.Norm2ReferenceIdeal.nD Cert.Norm2ReferenceIdeal.τ).loc Cert.Norm2ReferenceIdeal.main_arg0)
      ∧ r.2.mem ((c.tc : Thread Cert.Norm2ReferenceIdeal.nD Cert.Norm2ReferenceIdeal.τ).loc Cert.Norm2ReferenceIdeal.main_arg1) = m ((c.tc : Thread Cert.Norm2ReferenceIdeal.nD Cert.Norm2ReferenceIdeal.τ).loc Cert.Norm2ReferenceIdeal.main_arg1)
      ∧ r.2.mem ((c.tc : Thread Cert.Norm2ReferenceIdeal.nD Cert.Norm2ReferenceIdeal.τ).loc Cert.Norm2ReferenceIdeal.main_arg2) = m ((c.tc : Thread Cert.Norm2ReferenceIdeal.nD Cert.Norm2ReferenceIdeal.τ).loc Cert.Norm2ReferenceIdeal.main_arg2)
      ∧ r.2.mem ((c.tc : Thread Cert.Norm2ReferenceIdeal.nD Cert.Norm2ReferenceIdeal.τ).loc Cert.Norm2ReferenceIdeal.main_arg3) = m ((c.tc : Thread Cert.Norm2ReferenceIdeal.nD Cert.Norm2ReferenceIdeal.τ).loc Cert.Norm2ReferenceIdeal.main_arg3)
      ∧ r.2.mem ((c.tc : Thread Cert.Norm2ReferenceIdeal.nD Cert.Norm2ReferenceIdeal.τ).loc Cert.Norm2ReferenceIdeal.main_arg4) = m ((c.tc : Thread Cert.Norm2ReferenceIdeal.nD Cert.Norm2ReferenceIdeal.τ).loc Cert.Norm2ReferenceIdeal.main_arg4)
      ∧ r.2.mem ((c.tc : Thread Cert.Norm2ReferenceIdeal.nD Cert.Norm2ReferenceIdeal.τ).loc Cert.Norm2ReferenceIdeal.main_arg5) = m ((c.tc : Thread Cert.Norm2ReferenceIdeal.nD Cert.Norm2ReferenceIdeal.τ).loc Cert.Norm2ReferenceIdeal.main_arg5))
      ∧ r.2.sem = fun _ => 0)

def quiescent_Resid [hResid : Cert.Resid.Facts] : Prop :=
  ∀ (m : (ℓ : Loc Cert.Resid.nD Cert.Resid.τ Cert.Resid.sig) → Buf (Elt Bits) ℓ) (g : Dev Cert.Resid.nD → PrngReg), Pre_Resid m →
    θ_run (Cert.Resid.defs (F := Bits)) (onTc (τ := Cert.Resid.τ) (Cert.Resid.main (F := Bits))) ⟨m, fun _ => 0, g⟩ (fun r => (∀ c : Dev Cert.Resid.nD,
      r.2.mem ((c.tc : Thread Cert.Resid.nD Cert.Resid.τ).loc Cert.Resid.main_arg0) = m ((c.tc : Thread Cert.Resid.nD Cert.Resid.τ).loc Cert.Resid.main_arg0)
      ∧ r.2.mem ((c.tc : Thread Cert.Resid.nD Cert.Resid.τ).loc Cert.Resid.main_arg1) = m ((c.tc : Thread Cert.Resid.nD Cert.Resid.τ).loc Cert.Resid.main_arg1)
      ∧ r.2.mem ((c.tc : Thread Cert.Resid.nD Cert.Resid.τ).loc Cert.Resid.main_arg2) = m ((c.tc : Thread Cert.Resid.nD Cert.Resid.τ).loc Cert.Resid.main_arg2))
      ∧ r.2.sem = fun _ => 0)

def quiescent_ResidIdeal [hResidIdeal : Cert.ResidIdeal.Facts] : Prop :=
  ∀ (m : (ℓ : Loc Cert.ResidIdeal.nD Cert.ResidIdeal.τ Cert.ResidIdeal.sig) → Buf (Elt Ideal) ℓ) (g : Dev Cert.ResidIdeal.nD → PrngReg), Pre_ResidIdeal m →
    θ_run (Cert.ResidIdeal.defs (F := Ideal)) (onTc (τ := Cert.ResidIdeal.τ) (Cert.ResidIdeal.main (F := Ideal))) ⟨m, fun _ => 0, g⟩ (fun r => (∀ c : Dev Cert.ResidIdeal.nD,
      r.2.mem ((c.tc : Thread Cert.ResidIdeal.nD Cert.ResidIdeal.τ).loc Cert.ResidIdeal.main_arg0) = m ((c.tc : Thread Cert.ResidIdeal.nD Cert.ResidIdeal.τ).loc Cert.ResidIdeal.main_arg0)
      ∧ r.2.mem ((c.tc : Thread Cert.ResidIdeal.nD Cert.ResidIdeal.τ).loc Cert.ResidIdeal.main_arg1) = m ((c.tc : Thread Cert.ResidIdeal.nD Cert.ResidIdeal.τ).loc Cert.ResidIdeal.main_arg1)
      ∧ r.2.mem ((c.tc : Thread Cert.ResidIdeal.nD Cert.ResidIdeal.τ).loc Cert.ResidIdeal.main_arg2) = m ((c.tc : Thread Cert.ResidIdeal.nD Cert.ResidIdeal.τ).loc Cert.ResidIdeal.main_arg2))
      ∧ r.2.sem = fun _ => 0)

def quiescent_ResidReferenceIdeal [hResidReferenceIdeal : Cert.ResidReferenceIdeal.Facts] : Prop :=
  ∀ (m : (ℓ : Loc Cert.ResidReferenceIdeal.nD Cert.ResidReferenceIdeal.τ Cert.ResidReferenceIdeal.sig) → Buf (Elt Ideal) ℓ) (g : Dev Cert.ResidReferenceIdeal.nD → PrngReg), Pre_ResidReferenceIdeal m →
    θ_run (Cert.ResidReferenceIdeal.defs (F := Ideal)) (onTc (τ := Cert.ResidReferenceIdeal.τ) (Cert.ResidReferenceIdeal.main (F := Ideal))) ⟨m, fun _ => 0, g⟩ (fun r => (∀ c : Dev Cert.ResidReferenceIdeal.nD,
      r.2.mem ((c.tc : Thread Cert.ResidReferenceIdeal.nD Cert.ResidReferenceIdeal.τ).loc Cert.ResidReferenceIdeal.main_arg0) = m ((c.tc : Thread Cert.ResidReferenceIdeal.nD Cert.ResidReferenceIdeal.τ).loc Cert.ResidReferenceIdeal.main_arg0)
      ∧ r.2.mem ((c.tc : Thread Cert.ResidReferenceIdeal.nD Cert.ResidReferenceIdeal.τ).loc Cert.ResidReferenceIdeal.main_arg1) = m ((c.tc : Thread Cert.ResidReferenceIdeal.nD Cert.ResidReferenceIdeal.τ).loc Cert.ResidReferenceIdeal.main_arg1)
      ∧ r.2.mem ((c.tc : Thread Cert.ResidReferenceIdeal.nD Cert.ResidReferenceIdeal.τ).loc Cert.ResidReferenceIdeal.main_arg2) = m ((c.tc : Thread Cert.ResidReferenceIdeal.nD Cert.ResidReferenceIdeal.τ).loc Cert.ResidReferenceIdeal.main_arg2))
      ∧ r.2.sem = fun _ => 0)

def quiescent_LossHead [hLossHead : Cert.LossHead.Facts] : Prop :=
  ∀ (m : (ℓ : Loc Cert.LossHead.nD Cert.LossHead.τ Cert.LossHead.sig) → Buf (Elt Bits) ℓ) (g : Dev Cert.LossHead.nD → PrngReg), Pre_LossHead m →
    θ_run (Cert.LossHead.defs (F := Bits)) (onTc (τ := Cert.LossHead.τ) (Cert.LossHead.main (F := Bits))) ⟨m, fun _ => 0, g⟩ (fun r => (∀ c : Dev Cert.LossHead.nD,
      r.2.mem ((c.tc : Thread Cert.LossHead.nD Cert.LossHead.τ).loc Cert.LossHead.main_arg0) = m ((c.tc : Thread Cert.LossHead.nD Cert.LossHead.τ).loc Cert.LossHead.main_arg0)
      ∧ r.2.mem ((c.tc : Thread Cert.LossHead.nD Cert.LossHead.τ).loc Cert.LossHead.main_arg1) = m ((c.tc : Thread Cert.LossHead.nD Cert.LossHead.τ).loc Cert.LossHead.main_arg1)
      ∧ r.2.mem ((c.tc : Thread Cert.LossHead.nD Cert.LossHead.τ).loc Cert.LossHead.main_arg2) = m ((c.tc : Thread Cert.LossHead.nD Cert.LossHead.τ).loc Cert.LossHead.main_arg2))
      ∧ r.2.sem = fun _ => 0)

def quiescent_LossHeadIdeal [hLossHeadIdeal : Cert.LossHeadIdeal.Facts] : Prop :=
  ∀ (m : (ℓ : Loc Cert.LossHeadIdeal.nD Cert.LossHeadIdeal.τ Cert.LossHeadIdeal.sig) → Buf (Elt Ideal) ℓ) (g : Dev Cert.LossHeadIdeal.nD → PrngReg), Pre_LossHeadIdeal m →
    θ_run (Cert.LossHeadIdeal.defs (F := Ideal)) (onTc (τ := Cert.LossHeadIdeal.τ) (Cert.LossHeadIdeal.main (F := Ideal))) ⟨m, fun _ => 0, g⟩ (fun r => (∀ c : Dev Cert.LossHeadIdeal.nD,
      r.2.mem ((c.tc : Thread Cert.LossHeadIdeal.nD Cert.LossHeadIdeal.τ).loc Cert.LossHeadIdeal.main_arg0) = m ((c.tc : Thread Cert.LossHeadIdeal.nD Cert.LossHeadIdeal.τ).loc Cert.LossHeadIdeal.main_arg0)
      ∧ r.2.mem ((c.tc : Thread Cert.LossHeadIdeal.nD Cert.LossHeadIdeal.τ).loc Cert.LossHeadIdeal.main_arg1) = m ((c.tc : Thread Cert.LossHeadIdeal.nD Cert.LossHeadIdeal.τ).loc Cert.LossHeadIdeal.main_arg1)
      ∧ r.2.mem ((c.tc : Thread Cert.LossHeadIdeal.nD Cert.LossHeadIdeal.τ).loc Cert.LossHeadIdeal.main_arg2) = m ((c.tc : Thread Cert.LossHeadIdeal.nD Cert.LossHeadIdeal.τ).loc Cert.LossHeadIdeal.main_arg2))
      ∧ r.2.sem = fun _ => 0)

def quiescent_LossHeadReferenceIdeal [hLossHeadReferenceIdeal : Cert.LossHeadReferenceIdeal.Facts] : Prop :=
  ∀ (m : (ℓ : Loc Cert.LossHeadReferenceIdeal.nD Cert.LossHeadReferenceIdeal.τ Cert.LossHeadReferenceIdeal.sig) → Buf (Elt Ideal) ℓ) (g : Dev Cert.LossHeadReferenceIdeal.nD → PrngReg), Pre_LossHeadReferenceIdeal m →
    θ_run (Cert.LossHeadReferenceIdeal.defs (F := Ideal)) (onTc (τ := Cert.LossHeadReferenceIdeal.τ) (Cert.LossHeadReferenceIdeal.main (F := Ideal))) ⟨m, fun _ => 0, g⟩ (fun r => (∀ c : Dev Cert.LossHeadReferenceIdeal.nD,
      r.2.mem ((c.tc : Thread Cert.LossHeadReferenceIdeal.nD Cert.LossHeadReferenceIdeal.τ).loc Cert.LossHeadReferenceIdeal.main_arg0) = m ((c.tc : Thread Cert.LossHeadReferenceIdeal.nD Cert.LossHeadReferenceIdeal.τ).loc Cert.LossHeadReferenceIdeal.main_arg0)
      ∧ r.2.mem ((c.tc : Thread Cert.LossHeadReferenceIdeal.nD Cert.LossHeadReferenceIdeal.τ).loc Cert.LossHeadReferenceIdeal.main_arg1) = m ((c.tc : Thread Cert.LossHeadReferenceIdeal.nD Cert.LossHeadReferenceIdeal.τ).loc Cert.LossHeadReferenceIdeal.main_arg1)
      ∧ r.2.mem ((c.tc : Thread Cert.LossHeadReferenceIdeal.nD Cert.LossHeadReferenceIdeal.τ).loc Cert.LossHeadReferenceIdeal.main_arg2) = m ((c.tc : Thread Cert.LossHeadReferenceIdeal.nD Cert.LossHeadReferenceIdeal.τ).loc Cert.LossHeadReferenceIdeal.main_arg2))
      ∧ r.2.sem = fun _ => 0)

def quiescent_LruOut [hLruOut : Cert.LruOut.Facts] : Prop :=
  ∀ (m : (ℓ : Loc Cert.LruOut.nD Cert.LruOut.τ Cert.LruOut.sig) → Buf (Elt Bits) ℓ) (g : Dev Cert.LruOut.nD → PrngReg), Pre_LruOut m →
    θ_run (Cert.LruOut.defs (F := Bits)) (onTc (τ := Cert.LruOut.τ) (Cert.LruOut.main (F := Bits))) ⟨m, fun _ => 0, g⟩ (fun r => (∀ c : Dev Cert.LruOut.nD,
      r.2.mem ((c.tc : Thread Cert.LruOut.nD Cert.LruOut.τ).loc Cert.LruOut.main_arg0) = m ((c.tc : Thread Cert.LruOut.nD Cert.LruOut.τ).loc Cert.LruOut.main_arg0)
      ∧ r.2.mem ((c.tc : Thread Cert.LruOut.nD Cert.LruOut.τ).loc Cert.LruOut.main_arg1) = m ((c.tc : Thread Cert.LruOut.nD Cert.LruOut.τ).loc Cert.LruOut.main_arg1))
      ∧ r.2.sem = fun _ => 0)

def quiescent_LruOutIdeal [hLruOutIdeal : Cert.LruOutIdeal.Facts] : Prop :=
  ∀ (m : (ℓ : Loc Cert.LruOutIdeal.nD Cert.LruOutIdeal.τ Cert.LruOutIdeal.sig) → Buf (Elt Ideal) ℓ) (g : Dev Cert.LruOutIdeal.nD → PrngReg), Pre_LruOutIdeal m →
    θ_run (Cert.LruOutIdeal.defs (F := Ideal)) (onTc (τ := Cert.LruOutIdeal.τ) (Cert.LruOutIdeal.main (F := Ideal))) ⟨m, fun _ => 0, g⟩ (fun r => (∀ c : Dev Cert.LruOutIdeal.nD,
      r.2.mem ((c.tc : Thread Cert.LruOutIdeal.nD Cert.LruOutIdeal.τ).loc Cert.LruOutIdeal.main_arg0) = m ((c.tc : Thread Cert.LruOutIdeal.nD Cert.LruOutIdeal.τ).loc Cert.LruOutIdeal.main_arg0)
      ∧ r.2.mem ((c.tc : Thread Cert.LruOutIdeal.nD Cert.LruOutIdeal.τ).loc Cert.LruOutIdeal.main_arg1) = m ((c.tc : Thread Cert.LruOutIdeal.nD Cert.LruOutIdeal.τ).loc Cert.LruOutIdeal.main_arg1))
      ∧ r.2.sem = fun _ => 0)

def quiescent_LruOutReferenceIdeal [hLruOutReferenceIdeal : Cert.LruOutReferenceIdeal.Facts] : Prop :=
  ∀ (m : (ℓ : Loc Cert.LruOutReferenceIdeal.nD Cert.LruOutReferenceIdeal.τ Cert.LruOutReferenceIdeal.sig) → Buf (Elt Ideal) ℓ) (g : Dev Cert.LruOutReferenceIdeal.nD → PrngReg), Pre_LruOutReferenceIdeal m →
    θ_run (Cert.LruOutReferenceIdeal.defs (F := Ideal)) (onTc (τ := Cert.LruOutReferenceIdeal.τ) (Cert.LruOutReferenceIdeal.main (F := Ideal))) ⟨m, fun _ => 0, g⟩ (fun r => (∀ c : Dev Cert.LruOutReferenceIdeal.nD,
      r.2.mem ((c.tc : Thread Cert.LruOutReferenceIdeal.nD Cert.LruOutReferenceIdeal.τ).loc Cert.LruOutReferenceIdeal.main_arg0) = m ((c.tc : Thread Cert.LruOutReferenceIdeal.nD Cert.LruOutReferenceIdeal.τ).loc Cert.LruOutReferenceIdeal.main_arg0)
      ∧ r.2.mem ((c.tc : Thread Cert.LruOutReferenceIdeal.nD Cert.LruOutReferenceIdeal.τ).loc Cert.LruOutReferenceIdeal.main_arg1) = m ((c.tc : Thread Cert.LruOutReferenceIdeal.nD Cert.LruOutReferenceIdeal.τ).loc Cert.LruOutReferenceIdeal.main_arg1))
      ∧ r.2.sem = fun _ => 0)

def quiescent_Silu [hSilu : Cert.Silu.Facts] : Prop :=
  ∀ (m : (ℓ : Loc Cert.Silu.nD Cert.Silu.τ Cert.Silu.sig) → Buf (Elt Bits) ℓ) (g : Dev Cert.Silu.nD → PrngReg), Pre_Silu m →
    θ_run (Cert.Silu.defs (F := Bits)) (onTc (τ := Cert.Silu.τ) (Cert.Silu.main (F := Bits))) ⟨m, fun _ => 0, g⟩ (fun r => (∀ c : Dev Cert.Silu.nD,
      r.2.mem ((c.tc : Thread Cert.Silu.nD Cert.Silu.τ).loc Cert.Silu.main_arg0) = m ((c.tc : Thread Cert.Silu.nD Cert.Silu.τ).loc Cert.Silu.main_arg0))
      ∧ r.2.sem = fun _ => 0)

def quiescent_SiluIdeal [hSiluIdeal : Cert.SiluIdeal.Facts] : Prop :=
  ∀ (m : (ℓ : Loc Cert.SiluIdeal.nD Cert.SiluIdeal.τ Cert.SiluIdeal.sig) → Buf (Elt Ideal) ℓ) (g : Dev Cert.SiluIdeal.nD → PrngReg), Pre_SiluIdeal m →
    θ_run (Cert.SiluIdeal.defs (F := Ideal)) (onTc (τ := Cert.SiluIdeal.τ) (Cert.SiluIdeal.main (F := Ideal))) ⟨m, fun _ => 0, g⟩ (fun r => (∀ c : Dev Cert.SiluIdeal.nD,
      r.2.mem ((c.tc : Thread Cert.SiluIdeal.nD Cert.SiluIdeal.τ).loc Cert.SiluIdeal.main_arg0) = m ((c.tc : Thread Cert.SiluIdeal.nD Cert.SiluIdeal.τ).loc Cert.SiluIdeal.main_arg0))
      ∧ r.2.sem = fun _ => 0)

def quiescent_SiluReferenceIdeal [hSiluReferenceIdeal : Cert.SiluReferenceIdeal.Facts] : Prop :=
  ∀ (m : (ℓ : Loc Cert.SiluReferenceIdeal.nD Cert.SiluReferenceIdeal.τ Cert.SiluReferenceIdeal.sig) → Buf (Elt Ideal) ℓ) (g : Dev Cert.SiluReferenceIdeal.nD → PrngReg), Pre_SiluReferenceIdeal m →
    θ_run (Cert.SiluReferenceIdeal.defs (F := Ideal)) (onTc (τ := Cert.SiluReferenceIdeal.τ) (Cert.SiluReferenceIdeal.main (F := Ideal))) ⟨m, fun _ => 0, g⟩ (fun r => (∀ c : Dev Cert.SiluReferenceIdeal.nD,
      r.2.mem ((c.tc : Thread Cert.SiluReferenceIdeal.nD Cert.SiluReferenceIdeal.τ).loc Cert.SiluReferenceIdeal.main_arg0) = m ((c.tc : Thread Cert.SiluReferenceIdeal.nD Cert.SiluReferenceIdeal.τ).loc Cert.SiluReferenceIdeal.main_arg0))
      ∧ r.2.sem = fun _ => 0)

def quiescent_AddSmall [hAddSmall : Cert.AddSmall.Facts] : Prop :=
  ∀ (m : (ℓ : Loc Cert.AddSmall.nD Cert.AddSmall.τ Cert.AddSmall.sig) → Buf (Elt Bits) ℓ) (g : Dev Cert.AddSmall.nD → PrngReg), Pre_AddSmall m →
    θ_run (Cert.AddSmall.defs (F := Bits)) (onTc (τ := Cert.AddSmall.τ) (Cert.AddSmall.main (F := Bits))) ⟨m, fun _ => 0, g⟩ (fun r => (∀ c : Dev Cert.AddSmall.nD,
      r.2.mem ((c.tc : Thread Cert.AddSmall.nD Cert.AddSmall.τ).loc Cert.AddSmall.main_arg0) = m ((c.tc : Thread Cert.AddSmall.nD Cert.AddSmall.τ).loc Cert.AddSmall.main_arg0))
      ∧ r.2.sem = fun _ => 0)

def quiescent_AddSmallIdeal [hAddSmallIdeal : Cert.AddSmallIdeal.Facts] : Prop :=
  ∀ (m : (ℓ : Loc Cert.AddSmallIdeal.nD Cert.AddSmallIdeal.τ Cert.AddSmallIdeal.sig) → Buf (Elt Ideal) ℓ) (g : Dev Cert.AddSmallIdeal.nD → PrngReg), Pre_AddSmallIdeal m →
    θ_run (Cert.AddSmallIdeal.defs (F := Ideal)) (onTc (τ := Cert.AddSmallIdeal.τ) (Cert.AddSmallIdeal.main (F := Ideal))) ⟨m, fun _ => 0, g⟩ (fun r => (∀ c : Dev Cert.AddSmallIdeal.nD,
      r.2.mem ((c.tc : Thread Cert.AddSmallIdeal.nD Cert.AddSmallIdeal.τ).loc Cert.AddSmallIdeal.main_arg0) = m ((c.tc : Thread Cert.AddSmallIdeal.nD Cert.AddSmallIdeal.τ).loc Cert.AddSmallIdeal.main_arg0))
      ∧ r.2.sem = fun _ => 0)

def quiescent_AddSmallReferenceIdeal [hAddSmallReferenceIdeal : Cert.AddSmallReferenceIdeal.Facts] : Prop :=
  ∀ (m : (ℓ : Loc Cert.AddSmallReferenceIdeal.nD Cert.AddSmallReferenceIdeal.τ Cert.AddSmallReferenceIdeal.sig) → Buf (Elt Ideal) ℓ) (g : Dev Cert.AddSmallReferenceIdeal.nD → PrngReg), Pre_AddSmallReferenceIdeal m →
    θ_run (Cert.AddSmallReferenceIdeal.defs (F := Ideal)) (onTc (τ := Cert.AddSmallReferenceIdeal.τ) (Cert.AddSmallReferenceIdeal.main (F := Ideal))) ⟨m, fun _ => 0, g⟩ (fun r => (∀ c : Dev Cert.AddSmallReferenceIdeal.nD,
      r.2.mem ((c.tc : Thread Cert.AddSmallReferenceIdeal.nD Cert.AddSmallReferenceIdeal.τ).loc Cert.AddSmallReferenceIdeal.main_arg0) = m ((c.tc : Thread Cert.AddSmallReferenceIdeal.nD Cert.AddSmallReferenceIdeal.τ).loc Cert.AddSmallReferenceIdeal.main_arg0))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)) (v1 : (c : Dev Cert.KernelIdeal.nD) → Buf (Elt Ideal) ((c.tc : Thread Cert.KernelIdeal.nD Cert.KernelIdeal.τ).loc Cert.KernelIdeal.main_v1_0)) (v2 : (c : Dev Cert.KernelIdeal.nD) → Buf (Elt Ideal) ((c.tc : Thread Cert.KernelIdeal.nD Cert.KernelIdeal.τ).loc Cert.KernelIdeal.main_v1_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_v1_0) = v1 c
          ∧ r.2.mem ((c.tc : Thread Cert.KernelIdeal.nD Cert.KernelIdeal.τ).loc Cert.KernelIdeal.main_v1_1) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v3_4) = v0 c
          ∧ r.2.mem ((c.tc : Thread Cert.ReferenceIdeal.nD Cert.ReferenceIdeal.τ).loc Cert.ReferenceIdeal.main_v8_5) = v1 c
          ∧ r.2.mem ((c.tc : Thread Cert.ReferenceIdeal.nD Cert.ReferenceIdeal.τ).loc Cert.ReferenceIdeal.main_v8_6) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_DownX_DownXIdeal : Prop :=
  True

def algebraic_DownXIdeal_DownXReferenceIdeal [hDownXIdeal : Cert.DownXIdeal.Facts] [hDownXReferenceIdeal : Cert.DownXReferenceIdeal.Facts] : Prop :=
  ∀ (m : (ℓ : Loc Cert.DownXIdeal.nD Cert.DownXIdeal.τ Cert.DownXIdeal.sig) → Buf (Elt Ideal) ℓ) (g : Dev Cert.DownXIdeal.nD → PrngReg)
    (m' : (ℓ : Loc Cert.DownXReferenceIdeal.nD Cert.DownXReferenceIdeal.τ Cert.DownXReferenceIdeal.sig) → Buf (Elt Ideal) ℓ) (g' : Dev Cert.DownXReferenceIdeal.nD → PrngReg), Pre_DownXIdeal m →
    (∀ c : Dev Cert.DownXIdeal.nD,
      m' ((c.tc : Thread Cert.DownXReferenceIdeal.nD Cert.DownXReferenceIdeal.τ).loc Cert.DownXReferenceIdeal.main_arg0) = m ((c.tc : Thread Cert.DownXIdeal.nD Cert.DownXIdeal.τ).loc Cert.DownXIdeal.main_arg0)
      ∧ m' ((c.tc : Thread Cert.DownXReferenceIdeal.nD Cert.DownXReferenceIdeal.τ).loc Cert.DownXReferenceIdeal.main_arg1) = m ((c.tc : Thread Cert.DownXIdeal.nD Cert.DownXIdeal.τ).loc Cert.DownXIdeal.main_arg1)
      ∧ m' ((c.tc : Thread Cert.DownXReferenceIdeal.nD Cert.DownXReferenceIdeal.τ).loc Cert.DownXReferenceIdeal.main_arg2) = m ((c.tc : Thread Cert.DownXIdeal.nD Cert.DownXIdeal.τ).loc Cert.DownXIdeal.main_arg2)) →
    ∃ (v0 : (c : Dev Cert.DownXIdeal.nD) → Buf (Elt Ideal) ((c.tc : Thread Cert.DownXIdeal.nD Cert.DownXIdeal.τ).loc Cert.DownXIdeal.main_v0)),
      θ_run (Cert.DownXIdeal.defs (F := Ideal)) (onTc (τ := Cert.DownXIdeal.τ) (Cert.DownXIdeal.main (F := Ideal))) ⟨m, fun _ => 0, g⟩ (fun r => ∀ c : Dev Cert.DownXIdeal.nD,
          r.2.mem ((c.tc : Thread Cert.DownXIdeal.nD Cert.DownXIdeal.τ).loc Cert.DownXIdeal.main_v0) = v0 c
          ∧ r.2.mem ((c.tc : Thread Cert.DownXIdeal.nD Cert.DownXIdeal.τ).loc Cert.DownXIdeal.main_arg0) = m ((c.tc : Thread Cert.DownXIdeal.nD Cert.DownXIdeal.τ).loc Cert.DownXIdeal.main_arg0)
          ∧ r.2.mem ((c.tc : Thread Cert.DownXIdeal.nD Cert.DownXIdeal.τ).loc Cert.DownXIdeal.main_arg1) = m ((c.tc : Thread Cert.DownXIdeal.nD Cert.DownXIdeal.τ).loc Cert.DownXIdeal.main_arg1)
          ∧ r.2.mem ((c.tc : Thread Cert.DownXIdeal.nD Cert.DownXIdeal.τ).loc Cert.DownXIdeal.main_arg2) = m ((c.tc : Thread Cert.DownXIdeal.nD Cert.DownXIdeal.τ).loc Cert.DownXIdeal.main_arg2))
      ∧ θ_run (Cert.DownXReferenceIdeal.defs (F := Ideal)) (onTc (τ := Cert.DownXReferenceIdeal.τ) (Cert.DownXReferenceIdeal.main (F := Ideal))) ⟨m', fun _ => 0, g'⟩ (fun r => ∀ c : Dev Cert.DownXReferenceIdeal.nD,
          r.2.mem ((c.tc : Thread Cert.DownXReferenceIdeal.nD Cert.DownXReferenceIdeal.τ).loc Cert.DownXReferenceIdeal.main_v14) = v0 c
          ∧ r.2.mem ((c.tc : Thread Cert.DownXReferenceIdeal.nD Cert.DownXReferenceIdeal.τ).loc Cert.DownXReferenceIdeal.main_arg0) = m' ((c.tc : Thread Cert.DownXReferenceIdeal.nD Cert.DownXReferenceIdeal.τ).loc Cert.DownXReferenceIdeal.main_arg0)
          ∧ r.2.mem ((c.tc : Thread Cert.DownXReferenceIdeal.nD Cert.DownXReferenceIdeal.τ).loc Cert.DownXReferenceIdeal.main_arg1) = m' ((c.tc : Thread Cert.DownXReferenceIdeal.nD Cert.DownXReferenceIdeal.τ).loc Cert.DownXReferenceIdeal.main_arg1)
          ∧ r.2.mem ((c.tc : Thread Cert.DownXReferenceIdeal.nD Cert.DownXReferenceIdeal.τ).loc Cert.DownXReferenceIdeal.main_arg2) = m' ((c.tc : Thread Cert.DownXReferenceIdeal.nD Cert.DownXReferenceIdeal.τ).loc Cert.DownXReferenceIdeal.main_arg2))

def preserves_DownW_DownWIdeal : Prop :=
  True

def algebraic_DownWIdeal_DownWReferenceIdeal [hDownWIdeal : Cert.DownWIdeal.Facts] [hDownWReferenceIdeal : Cert.DownWReferenceIdeal.Facts] : Prop :=
  ∀ (m : (ℓ : Loc Cert.DownWIdeal.nD Cert.DownWIdeal.τ Cert.DownWIdeal.sig) → Buf (Elt Ideal) ℓ) (g : Dev Cert.DownWIdeal.nD → PrngReg)
    (m' : (ℓ : Loc Cert.DownWReferenceIdeal.nD Cert.DownWReferenceIdeal.τ Cert.DownWReferenceIdeal.sig) → Buf (Elt Ideal) ℓ) (g' : Dev Cert.DownWReferenceIdeal.nD → PrngReg), Pre_DownWIdeal m →
    (∀ c : Dev Cert.DownWIdeal.nD,
      m' ((c.tc : Thread Cert.DownWReferenceIdeal.nD Cert.DownWReferenceIdeal.τ).loc Cert.DownWReferenceIdeal.main_arg0) = m ((c.tc : Thread Cert.DownWIdeal.nD Cert.DownWIdeal.τ).loc Cert.DownWIdeal.main_arg0)
      ∧ m' ((c.tc : Thread Cert.DownWReferenceIdeal.nD Cert.DownWReferenceIdeal.τ).loc Cert.DownWReferenceIdeal.main_arg1) = m ((c.tc : Thread Cert.DownWIdeal.nD Cert.DownWIdeal.τ).loc Cert.DownWIdeal.main_arg1)) →
    ∃ (v0 : (c : Dev Cert.DownWIdeal.nD) → Buf (Elt Ideal) ((c.tc : Thread Cert.DownWIdeal.nD Cert.DownWIdeal.τ).loc Cert.DownWIdeal.main_v0)),
      θ_run (Cert.DownWIdeal.defs (F := Ideal)) (onTc (τ := Cert.DownWIdeal.τ) (Cert.DownWIdeal.main (F := Ideal))) ⟨m, fun _ => 0, g⟩ (fun r => ∀ c : Dev Cert.DownWIdeal.nD,
          r.2.mem ((c.tc : Thread Cert.DownWIdeal.nD Cert.DownWIdeal.τ).loc Cert.DownWIdeal.main_v0) = v0 c
          ∧ r.2.mem ((c.tc : Thread Cert.DownWIdeal.nD Cert.DownWIdeal.τ).loc Cert.DownWIdeal.main_arg0) = m ((c.tc : Thread Cert.DownWIdeal.nD Cert.DownWIdeal.τ).loc Cert.DownWIdeal.main_arg0)
          ∧ r.2.mem ((c.tc : Thread Cert.DownWIdeal.nD Cert.DownWIdeal.τ).loc Cert.DownWIdeal.main_arg1) = m ((c.tc : Thread Cert.DownWIdeal.nD Cert.DownWIdeal.τ).loc Cert.DownWIdeal.main_arg1))
      ∧ θ_run (Cert.DownWReferenceIdeal.defs (F := Ideal)) (onTc (τ := Cert.DownWReferenceIdeal.τ) (Cert.DownWReferenceIdeal.main (F := Ideal))) ⟨m', fun _ => 0, g'⟩ (fun r => ∀ c : Dev Cert.DownWReferenceIdeal.nD,
          r.2.mem ((c.tc : Thread Cert.DownWReferenceIdeal.nD Cert.DownWReferenceIdeal.τ).loc Cert.DownWReferenceIdeal.main_v5) = v0 c
          ∧ r.2.mem ((c.tc : Thread Cert.DownWReferenceIdeal.nD Cert.DownWReferenceIdeal.τ).loc Cert.DownWReferenceIdeal.main_arg0) = m' ((c.tc : Thread Cert.DownWReferenceIdeal.nD Cert.DownWReferenceIdeal.τ).loc Cert.DownWReferenceIdeal.main_arg0)
          ∧ r.2.mem ((c.tc : Thread Cert.DownWReferenceIdeal.nD Cert.DownWReferenceIdeal.τ).loc Cert.DownWReferenceIdeal.main_arg1) = m' ((c.tc : Thread Cert.DownWReferenceIdeal.nD Cert.DownWReferenceIdeal.τ).loc Cert.DownWReferenceIdeal.main_arg1))

def preserves_UpX_UpXIdeal : Prop :=
  True

def algebraic_UpXIdeal_UpXReferenceIdeal [hUpXIdeal : Cert.UpXIdeal.Facts] [hUpXReferenceIdeal : Cert.UpXReferenceIdeal.Facts] : Prop :=
  ∀ (m : (ℓ : Loc Cert.UpXIdeal.nD Cert.UpXIdeal.τ Cert.UpXIdeal.sig) → Buf (Elt Ideal) ℓ) (g : Dev Cert.UpXIdeal.nD → PrngReg)
    (m' : (ℓ : Loc Cert.UpXReferenceIdeal.nD Cert.UpXReferenceIdeal.τ Cert.UpXReferenceIdeal.sig) → Buf (Elt Ideal) ℓ) (g' : Dev Cert.UpXReferenceIdeal.nD → PrngReg), Pre_UpXIdeal m →
    (∀ c : Dev Cert.UpXIdeal.nD,
      m' ((c.tc : Thread Cert.UpXReferenceIdeal.nD Cert.UpXReferenceIdeal.τ).loc Cert.UpXReferenceIdeal.main_arg0) = m ((c.tc : Thread Cert.UpXIdeal.nD Cert.UpXIdeal.τ).loc Cert.UpXIdeal.main_arg0)
      ∧ m' ((c.tc : Thread Cert.UpXReferenceIdeal.nD Cert.UpXReferenceIdeal.τ).loc Cert.UpXReferenceIdeal.main_arg1) = m ((c.tc : Thread Cert.UpXIdeal.nD Cert.UpXIdeal.τ).loc Cert.UpXIdeal.main_arg1)) →
    ∃ (v0 : (c : Dev Cert.UpXIdeal.nD) → Buf (Elt Ideal) ((c.tc : Thread Cert.UpXIdeal.nD Cert.UpXIdeal.τ).loc Cert.UpXIdeal.main_v0)),
      θ_run (Cert.UpXIdeal.defs (F := Ideal)) (onTc (τ := Cert.UpXIdeal.τ) (Cert.UpXIdeal.main (F := Ideal))) ⟨m, fun _ => 0, g⟩ (fun r => ∀ c : Dev Cert.UpXIdeal.nD,
          r.2.mem ((c.tc : Thread Cert.UpXIdeal.nD Cert.UpXIdeal.τ).loc Cert.UpXIdeal.main_v0) = v0 c
          ∧ r.2.mem ((c.tc : Thread Cert.UpXIdeal.nD Cert.UpXIdeal.τ).loc Cert.UpXIdeal.main_arg0) = m ((c.tc : Thread Cert.UpXIdeal.nD Cert.UpXIdeal.τ).loc Cert.UpXIdeal.main_arg0)
          ∧ r.2.mem ((c.tc : Thread Cert.UpXIdeal.nD Cert.UpXIdeal.τ).loc Cert.UpXIdeal.main_arg1) = m ((c.tc : Thread Cert.UpXIdeal.nD Cert.UpXIdeal.τ).loc Cert.UpXIdeal.main_arg1))
      ∧ θ_run (Cert.UpXReferenceIdeal.defs (F := Ideal)) (onTc (τ := Cert.UpXReferenceIdeal.τ) (Cert.UpXReferenceIdeal.main (F := Ideal))) ⟨m', fun _ => 0, g'⟩ (fun r => ∀ c : Dev Cert.UpXReferenceIdeal.nD,
          r.2.mem ((c.tc : Thread Cert.UpXReferenceIdeal.nD Cert.UpXReferenceIdeal.τ).loc Cert.UpXReferenceIdeal.main_v4) = v0 c
          ∧ r.2.mem ((c.tc : Thread Cert.UpXReferenceIdeal.nD Cert.UpXReferenceIdeal.τ).loc Cert.UpXReferenceIdeal.main_arg0) = m' ((c.tc : Thread Cert.UpXReferenceIdeal.nD Cert.UpXReferenceIdeal.τ).loc Cert.UpXReferenceIdeal.main_arg0)
          ∧ r.2.mem ((c.tc : Thread Cert.UpXReferenceIdeal.nD Cert.UpXReferenceIdeal.τ).loc Cert.UpXReferenceIdeal.main_arg1) = m' ((c.tc : Thread Cert.UpXReferenceIdeal.nD Cert.UpXReferenceIdeal.τ).loc Cert.UpXReferenceIdeal.main_arg1))

def preserves_UpW_UpWIdeal : Prop :=
  True

def algebraic_UpWIdeal_UpWReferenceIdeal [hUpWIdeal : Cert.UpWIdeal.Facts] [hUpWReferenceIdeal : Cert.UpWReferenceIdeal.Facts] : Prop :=
  ∀ (m : (ℓ : Loc Cert.UpWIdeal.nD Cert.UpWIdeal.τ Cert.UpWIdeal.sig) → Buf (Elt Ideal) ℓ) (g : Dev Cert.UpWIdeal.nD → PrngReg)
    (m' : (ℓ : Loc Cert.UpWReferenceIdeal.nD Cert.UpWReferenceIdeal.τ Cert.UpWReferenceIdeal.sig) → Buf (Elt Ideal) ℓ) (g' : Dev Cert.UpWReferenceIdeal.nD → PrngReg), Pre_UpWIdeal m →
    (∀ c : Dev Cert.UpWIdeal.nD,
      m' ((c.tc : Thread Cert.UpWReferenceIdeal.nD Cert.UpWReferenceIdeal.τ).loc Cert.UpWReferenceIdeal.main_arg0) = m ((c.tc : Thread Cert.UpWIdeal.nD Cert.UpWIdeal.τ).loc Cert.UpWIdeal.main_arg0)
      ∧ m' ((c.tc : Thread Cert.UpWReferenceIdeal.nD Cert.UpWReferenceIdeal.τ).loc Cert.UpWReferenceIdeal.main_arg1) = m ((c.tc : Thread Cert.UpWIdeal.nD Cert.UpWIdeal.τ).loc Cert.UpWIdeal.main_arg1)) →
    ∃ (v0 : (c : Dev Cert.UpWIdeal.nD) → Buf (Elt Ideal) ((c.tc : Thread Cert.UpWIdeal.nD Cert.UpWIdeal.τ).loc Cert.UpWIdeal.main_v0)),
      θ_run (Cert.UpWIdeal.defs (F := Ideal)) (onTc (τ := Cert.UpWIdeal.τ) (Cert.UpWIdeal.main (F := Ideal))) ⟨m, fun _ => 0, g⟩ (fun r => ∀ c : Dev Cert.UpWIdeal.nD,
          r.2.mem ((c.tc : Thread Cert.UpWIdeal.nD Cert.UpWIdeal.τ).loc Cert.UpWIdeal.main_v0) = v0 c
          ∧ r.2.mem ((c.tc : Thread Cert.UpWIdeal.nD Cert.UpWIdeal.τ).loc Cert.UpWIdeal.main_arg0) = m ((c.tc : Thread Cert.UpWIdeal.nD Cert.UpWIdeal.τ).loc Cert.UpWIdeal.main_arg0)
          ∧ r.2.mem ((c.tc : Thread Cert.UpWIdeal.nD Cert.UpWIdeal.τ).loc Cert.UpWIdeal.main_arg1) = m ((c.tc : Thread Cert.UpWIdeal.nD Cert.UpWIdeal.τ).loc Cert.UpWIdeal.main_arg1))
      ∧ θ_run (Cert.UpWReferenceIdeal.defs (F := Ideal)) (onTc (τ := Cert.UpWReferenceIdeal.τ) (Cert.UpWReferenceIdeal.main (F := Ideal))) ⟨m', fun _ => 0, g'⟩ (fun r => ∀ c : Dev Cert.UpWReferenceIdeal.nD,
          r.2.mem ((c.tc : Thread Cert.UpWReferenceIdeal.nD Cert.UpWReferenceIdeal.τ).loc Cert.UpWReferenceIdeal.main_v5) = v0 c
          ∧ r.2.mem ((c.tc : Thread Cert.UpWReferenceIdeal.nD Cert.UpWReferenceIdeal.τ).loc Cert.UpWReferenceIdeal.main_arg0) = m' ((c.tc : Thread Cert.UpWReferenceIdeal.nD Cert.UpWReferenceIdeal.τ).loc Cert.UpWReferenceIdeal.main_arg0)
          ∧ r.2.mem ((c.tc : Thread Cert.UpWReferenceIdeal.nD Cert.UpWReferenceIdeal.τ).loc Cert.UpWReferenceIdeal.main_arg1) = m' ((c.tc : Thread Cert.UpWReferenceIdeal.nD Cert.UpWReferenceIdeal.τ).loc Cert.UpWReferenceIdeal.main_arg1))

def preserves_Up_UpIdeal : Prop :=
  True

def algebraic_UpIdeal_UpReferenceIdeal [hUpIdeal : Cert.UpIdeal.Facts] [hUpReferenceIdeal : Cert.UpReferenceIdeal.Facts] : Prop :=
  ∀ (m : (ℓ : Loc Cert.UpIdeal.nD Cert.UpIdeal.τ Cert.UpIdeal.sig) → Buf (Elt Ideal) ℓ) (g : Dev Cert.UpIdeal.nD → PrngReg)
    (m' : (ℓ : Loc Cert.UpReferenceIdeal.nD Cert.UpReferenceIdeal.τ Cert.UpReferenceIdeal.sig) → Buf (Elt Ideal) ℓ) (g' : Dev Cert.UpReferenceIdeal.nD → PrngReg), Pre_UpIdeal m →
    (∀ c : Dev Cert.UpIdeal.nD,
      m' ((c.tc : Thread Cert.UpReferenceIdeal.nD Cert.UpReferenceIdeal.τ).loc Cert.UpReferenceIdeal.main_arg0) = m ((c.tc : Thread Cert.UpIdeal.nD Cert.UpIdeal.τ).loc Cert.UpIdeal.main_arg0)
      ∧ m' ((c.tc : Thread Cert.UpReferenceIdeal.nD Cert.UpReferenceIdeal.τ).loc Cert.UpReferenceIdeal.main_arg1) = m ((c.tc : Thread Cert.UpIdeal.nD Cert.UpIdeal.τ).loc Cert.UpIdeal.main_arg1)) →
    ∃ (v0 : (c : Dev Cert.UpIdeal.nD) → Buf (Elt Ideal) ((c.tc : Thread Cert.UpIdeal.nD Cert.UpIdeal.τ).loc Cert.UpIdeal.main_v0_0)) (v1 : (c : Dev Cert.UpIdeal.nD) → Buf (Elt Ideal) ((c.tc : Thread Cert.UpIdeal.nD Cert.UpIdeal.τ).loc Cert.UpIdeal.main_v0_1)),
      θ_run (Cert.UpIdeal.defs (F := Ideal)) (onTc (τ := Cert.UpIdeal.τ) (Cert.UpIdeal.main (F := Ideal))) ⟨m, fun _ => 0, g⟩ (fun r => ∀ c : Dev Cert.UpIdeal.nD,
          r.2.mem ((c.tc : Thread Cert.UpIdeal.nD Cert.UpIdeal.τ).loc Cert.UpIdeal.main_v0_0) = v0 c
          ∧ r.2.mem ((c.tc : Thread Cert.UpIdeal.nD Cert.UpIdeal.τ).loc Cert.UpIdeal.main_v0_1) = v1 c
          ∧ r.2.mem ((c.tc : Thread Cert.UpIdeal.nD Cert.UpIdeal.τ).loc Cert.UpIdeal.main_arg0) = m ((c.tc : Thread Cert.UpIdeal.nD Cert.UpIdeal.τ).loc Cert.UpIdeal.main_arg0)
          ∧ r.2.mem ((c.tc : Thread Cert.UpIdeal.nD Cert.UpIdeal.τ).loc Cert.UpIdeal.main_arg1) = m ((c.tc : Thread Cert.UpIdeal.nD Cert.UpIdeal.τ).loc Cert.UpIdeal.main_arg1))
      ∧ θ_run (Cert.UpReferenceIdeal.defs (F := Ideal)) (onTc (τ := Cert.UpReferenceIdeal.τ) (Cert.UpReferenceIdeal.main (F := Ideal))) ⟨m', fun _ => 0, g'⟩ (fun r => ∀ c : Dev Cert.UpReferenceIdeal.nD,
          r.2.mem ((c.tc : Thread Cert.UpReferenceIdeal.nD Cert.UpReferenceIdeal.τ).loc Cert.UpReferenceIdeal.main_v2) = v0 c
          ∧ r.2.mem ((c.tc : Thread Cert.UpReferenceIdeal.nD Cert.UpReferenceIdeal.τ).loc Cert.UpReferenceIdeal.main_v5) = v1 c
          ∧ r.2.mem ((c.tc : Thread Cert.UpReferenceIdeal.nD Cert.UpReferenceIdeal.τ).loc Cert.UpReferenceIdeal.main_arg0) = m' ((c.tc : Thread Cert.UpReferenceIdeal.nD Cert.UpReferenceIdeal.τ).loc Cert.UpReferenceIdeal.main_arg0)
          ∧ r.2.mem ((c.tc : Thread Cert.UpReferenceIdeal.nD Cert.UpReferenceIdeal.τ).loc Cert.UpReferenceIdeal.main_arg1) = m' ((c.tc : Thread Cert.UpReferenceIdeal.nD Cert.UpReferenceIdeal.τ).loc Cert.UpReferenceIdeal.main_arg1))

def preserves_Down_DownIdeal : Prop :=
  True

def algebraic_DownIdeal_DownReferenceIdeal [hDownIdeal : Cert.DownIdeal.Facts] [hDownReferenceIdeal : Cert.DownReferenceIdeal.Facts] : Prop :=
  ∀ (m : (ℓ : Loc Cert.DownIdeal.nD Cert.DownIdeal.τ Cert.DownIdeal.sig) → Buf (Elt Ideal) ℓ) (g : Dev Cert.DownIdeal.nD → PrngReg)
    (m' : (ℓ : Loc Cert.DownReferenceIdeal.nD Cert.DownReferenceIdeal.τ Cert.DownReferenceIdeal.sig) → Buf (Elt Ideal) ℓ) (g' : Dev Cert.DownReferenceIdeal.nD → PrngReg), Pre_DownIdeal m →
    (∀ c : Dev Cert.DownIdeal.nD,
      m' ((c.tc : Thread Cert.DownReferenceIdeal.nD Cert.DownReferenceIdeal.τ).loc Cert.DownReferenceIdeal.main_arg0) = m ((c.tc : Thread Cert.DownIdeal.nD Cert.DownIdeal.τ).loc Cert.DownIdeal.main_arg0)
      ∧ m' ((c.tc : Thread Cert.DownReferenceIdeal.nD Cert.DownReferenceIdeal.τ).loc Cert.DownReferenceIdeal.main_arg1) = m ((c.tc : Thread Cert.DownIdeal.nD Cert.DownIdeal.τ).loc Cert.DownIdeal.main_arg1)) →
    ∃ (v0 : (c : Dev Cert.DownIdeal.nD) → Buf (Elt Ideal) ((c.tc : Thread Cert.DownIdeal.nD Cert.DownIdeal.τ).loc Cert.DownIdeal.main_v0)),
      θ_run (Cert.DownIdeal.defs (F := Ideal)) (onTc (τ := Cert.DownIdeal.τ) (Cert.DownIdeal.main (F := Ideal))) ⟨m, fun _ => 0, g⟩ (fun r => ∀ c : Dev Cert.DownIdeal.nD,
          r.2.mem ((c.tc : Thread Cert.DownIdeal.nD Cert.DownIdeal.τ).loc Cert.DownIdeal.main_v0) = v0 c
          ∧ r.2.mem ((c.tc : Thread Cert.DownIdeal.nD Cert.DownIdeal.τ).loc Cert.DownIdeal.main_arg0) = m ((c.tc : Thread Cert.DownIdeal.nD Cert.DownIdeal.τ).loc Cert.DownIdeal.main_arg0)
          ∧ r.2.mem ((c.tc : Thread Cert.DownIdeal.nD Cert.DownIdeal.τ).loc Cert.DownIdeal.main_arg1) = m ((c.tc : Thread Cert.DownIdeal.nD Cert.DownIdeal.τ).loc Cert.DownIdeal.main_arg1))
      ∧ θ_run (Cert.DownReferenceIdeal.defs (F := Ideal)) (onTc (τ := Cert.DownReferenceIdeal.τ) (Cert.DownReferenceIdeal.main (F := Ideal))) ⟨m', fun _ => 0, g'⟩ (fun r => ∀ c : Dev Cert.DownReferenceIdeal.nD,
          r.2.mem ((c.tc : Thread Cert.DownReferenceIdeal.nD Cert.DownReferenceIdeal.τ).loc Cert.DownReferenceIdeal.main_v2) = v0 c
          ∧ r.2.mem ((c.tc : Thread Cert.DownReferenceIdeal.nD Cert.DownReferenceIdeal.τ).loc Cert.DownReferenceIdeal.main_arg0) = m' ((c.tc : Thread Cert.DownReferenceIdeal.nD Cert.DownReferenceIdeal.τ).loc Cert.DownReferenceIdeal.main_arg0)
          ∧ r.2.mem ((c.tc : Thread Cert.DownReferenceIdeal.nD Cert.DownReferenceIdeal.τ).loc Cert.DownReferenceIdeal.main_arg1) = m' ((c.tc : Thread Cert.DownReferenceIdeal.nD Cert.DownReferenceIdeal.τ).loc Cert.DownReferenceIdeal.main_arg1))

def preserves_GdnW_GdnWIdeal : Prop :=
  True

def algebraic_GdnWIdeal_GdnWReferenceIdeal [hGdnWIdeal : Cert.GdnWIdeal.Facts] [hGdnWReferenceIdeal : Cert.GdnWReferenceIdeal.Facts] : Prop :=
  ∀ (m : (ℓ : Loc Cert.GdnWIdeal.nD Cert.GdnWIdeal.τ Cert.GdnWIdeal.sig) → Buf (Elt Ideal) ℓ) (g : Dev Cert.GdnWIdeal.nD → PrngReg)
    (m' : (ℓ : Loc Cert.GdnWReferenceIdeal.nD Cert.GdnWReferenceIdeal.τ Cert.GdnWReferenceIdeal.sig) → Buf (Elt Ideal) ℓ) (g' : Dev Cert.GdnWReferenceIdeal.nD → PrngReg), Pre_GdnWIdeal m →
    (∀ c : Dev Cert.GdnWIdeal.nD,
      m' ((c.tc : Thread Cert.GdnWReferenceIdeal.nD Cert.GdnWReferenceIdeal.τ).loc Cert.GdnWReferenceIdeal.main_arg0) = m ((c.tc : Thread Cert.GdnWIdeal.nD Cert.GdnWIdeal.τ).loc Cert.GdnWIdeal.main_arg0)
      ∧ m' ((c.tc : Thread Cert.GdnWReferenceIdeal.nD Cert.GdnWReferenceIdeal.τ).loc Cert.GdnWReferenceIdeal.main_arg1) = m ((c.tc : Thread Cert.GdnWIdeal.nD Cert.GdnWIdeal.τ).loc Cert.GdnWIdeal.main_arg1)) →
    ∃ (v0 : (c : Dev Cert.GdnWIdeal.nD) → Buf (Elt Ideal) ((c.tc : Thread Cert.GdnWIdeal.nD Cert.GdnWIdeal.τ).loc Cert.GdnWIdeal.main_v0)),
      θ_run (Cert.GdnWIdeal.defs (F := Ideal)) (onTc (τ := Cert.GdnWIdeal.τ) (Cert.GdnWIdeal.main (F := Ideal))) ⟨m, fun _ => 0, g⟩ (fun r => ∀ c : Dev Cert.GdnWIdeal.nD,
          r.2.mem ((c.tc : Thread Cert.GdnWIdeal.nD Cert.GdnWIdeal.τ).loc Cert.GdnWIdeal.main_v0) = v0 c
          ∧ r.2.mem ((c.tc : Thread Cert.GdnWIdeal.nD Cert.GdnWIdeal.τ).loc Cert.GdnWIdeal.main_arg0) = m ((c.tc : Thread Cert.GdnWIdeal.nD Cert.GdnWIdeal.τ).loc Cert.GdnWIdeal.main_arg0)
          ∧ r.2.mem ((c.tc : Thread Cert.GdnWIdeal.nD Cert.GdnWIdeal.τ).loc Cert.GdnWIdeal.main_arg1) = m ((c.tc : Thread Cert.GdnWIdeal.nD Cert.GdnWIdeal.τ).loc Cert.GdnWIdeal.main_arg1))
      ∧ θ_run (Cert.GdnWReferenceIdeal.defs (F := Ideal)) (onTc (τ := Cert.GdnWReferenceIdeal.τ) (Cert.GdnWReferenceIdeal.main (F := Ideal))) ⟨m', fun _ => 0, g'⟩ (fun r => ∀ c : Dev Cert.GdnWReferenceIdeal.nD,
          r.2.mem ((c.tc : Thread Cert.GdnWReferenceIdeal.nD Cert.GdnWReferenceIdeal.τ).loc Cert.GdnWReferenceIdeal.main_v5) = v0 c
          ∧ r.2.mem ((c.tc : Thread Cert.GdnWReferenceIdeal.nD Cert.GdnWReferenceIdeal.τ).loc Cert.GdnWReferenceIdeal.main_arg0) = m' ((c.tc : Thread Cert.GdnWReferenceIdeal.nD Cert.GdnWReferenceIdeal.τ).loc Cert.GdnWReferenceIdeal.main_arg0)
          ∧ r.2.mem ((c.tc : Thread Cert.GdnWReferenceIdeal.nD Cert.GdnWReferenceIdeal.τ).loc Cert.GdnWReferenceIdeal.main_arg1) = m' ((c.tc : Thread Cert.GdnWReferenceIdeal.nD Cert.GdnWReferenceIdeal.τ).loc Cert.GdnWReferenceIdeal.main_arg1))

def preserves_SsdW_SsdWIdeal : Prop :=
  True

def algebraic_SsdWIdeal_SsdWReferenceIdeal [hSsdWIdeal : Cert.SsdWIdeal.Facts] [hSsdWReferenceIdeal : Cert.SsdWReferenceIdeal.Facts] : Prop :=
  ∀ (m : (ℓ : Loc Cert.SsdWIdeal.nD Cert.SsdWIdeal.τ Cert.SsdWIdeal.sig) → Buf (Elt Ideal) ℓ) (g : Dev Cert.SsdWIdeal.nD → PrngReg)
    (m' : (ℓ : Loc Cert.SsdWReferenceIdeal.nD Cert.SsdWReferenceIdeal.τ Cert.SsdWReferenceIdeal.sig) → Buf (Elt Ideal) ℓ) (g' : Dev Cert.SsdWReferenceIdeal.nD → PrngReg), Pre_SsdWIdeal m →
    (∀ c : Dev Cert.SsdWIdeal.nD,
      m' ((c.tc : Thread Cert.SsdWReferenceIdeal.nD Cert.SsdWReferenceIdeal.τ).loc Cert.SsdWReferenceIdeal.main_arg0) = m ((c.tc : Thread Cert.SsdWIdeal.nD Cert.SsdWIdeal.τ).loc Cert.SsdWIdeal.main_arg0)
      ∧ m' ((c.tc : Thread Cert.SsdWReferenceIdeal.nD Cert.SsdWReferenceIdeal.τ).loc Cert.SsdWReferenceIdeal.main_arg1) = m ((c.tc : Thread Cert.SsdWIdeal.nD Cert.SsdWIdeal.τ).loc Cert.SsdWIdeal.main_arg1)) →
    ∃ (v0 : (c : Dev Cert.SsdWIdeal.nD) → Buf (Elt Ideal) ((c.tc : Thread Cert.SsdWIdeal.nD Cert.SsdWIdeal.τ).loc Cert.SsdWIdeal.main_v0)),
      θ_run (Cert.SsdWIdeal.defs (F := Ideal)) (onTc (τ := Cert.SsdWIdeal.τ) (Cert.SsdWIdeal.main (F := Ideal))) ⟨m, fun _ => 0, g⟩ (fun r => ∀ c : Dev Cert.SsdWIdeal.nD,
          r.2.mem ((c.tc : Thread Cert.SsdWIdeal.nD Cert.SsdWIdeal.τ).loc Cert.SsdWIdeal.main_v0) = v0 c
          ∧ r.2.mem ((c.tc : Thread Cert.SsdWIdeal.nD Cert.SsdWIdeal.τ).loc Cert.SsdWIdeal.main_arg0) = m ((c.tc : Thread Cert.SsdWIdeal.nD Cert.SsdWIdeal.τ).loc Cert.SsdWIdeal.main_arg0)
          ∧ r.2.mem ((c.tc : Thread Cert.SsdWIdeal.nD Cert.SsdWIdeal.τ).loc Cert.SsdWIdeal.main_arg1) = m ((c.tc : Thread Cert.SsdWIdeal.nD Cert.SsdWIdeal.τ).loc Cert.SsdWIdeal.main_arg1))
      ∧ θ_run (Cert.SsdWReferenceIdeal.defs (F := Ideal)) (onTc (τ := Cert.SsdWReferenceIdeal.τ) (Cert.SsdWReferenceIdeal.main (F := Ideal))) ⟨m', fun _ => 0, g'⟩ (fun r => ∀ c : Dev Cert.SsdWReferenceIdeal.nD,
          r.2.mem ((c.tc : Thread Cert.SsdWReferenceIdeal.nD Cert.SsdWReferenceIdeal.τ).loc Cert.SsdWReferenceIdeal.main_v5) = v0 c
          ∧ r.2.mem ((c.tc : Thread Cert.SsdWReferenceIdeal.nD Cert.SsdWReferenceIdeal.τ).loc Cert.SsdWReferenceIdeal.main_arg0) = m' ((c.tc : Thread Cert.SsdWReferenceIdeal.nD Cert.SsdWReferenceIdeal.τ).loc Cert.SsdWReferenceIdeal.main_arg0)
          ∧ r.2.mem ((c.tc : Thread Cert.SsdWReferenceIdeal.nD Cert.SsdWReferenceIdeal.τ).loc Cert.SsdWReferenceIdeal.main_arg1) = m' ((c.tc : Thread Cert.SsdWReferenceIdeal.nD Cert.SsdWReferenceIdeal.τ).loc Cert.SsdWReferenceIdeal.main_arg1))

def preserves_LruW_LruWIdeal : Prop :=
  True

def algebraic_LruWIdeal_LruWReferenceIdeal [hLruWIdeal : Cert.LruWIdeal.Facts] [hLruWReferenceIdeal : Cert.LruWReferenceIdeal.Facts] : Prop :=
  ∀ (m : (ℓ : Loc Cert.LruWIdeal.nD Cert.LruWIdeal.τ Cert.LruWIdeal.sig) → Buf (Elt Ideal) ℓ) (g : Dev Cert.LruWIdeal.nD → PrngReg)
    (m' : (ℓ : Loc Cert.LruWReferenceIdeal.nD Cert.LruWReferenceIdeal.τ Cert.LruWReferenceIdeal.sig) → Buf (Elt Ideal) ℓ) (g' : Dev Cert.LruWReferenceIdeal.nD → PrngReg), Pre_LruWIdeal m →
    (∀ c : Dev Cert.LruWIdeal.nD,
      m' ((c.tc : Thread Cert.LruWReferenceIdeal.nD Cert.LruWReferenceIdeal.τ).loc Cert.LruWReferenceIdeal.main_arg0) = m ((c.tc : Thread Cert.LruWIdeal.nD Cert.LruWIdeal.τ).loc Cert.LruWIdeal.main_arg0)
      ∧ m' ((c.tc : Thread Cert.LruWReferenceIdeal.nD Cert.LruWReferenceIdeal.τ).loc Cert.LruWReferenceIdeal.main_arg1) = m ((c.tc : Thread Cert.LruWIdeal.nD Cert.LruWIdeal.τ).loc Cert.LruWIdeal.main_arg1)) →
    ∃ (v0 : (c : Dev Cert.LruWIdeal.nD) → Buf (Elt Ideal) ((c.tc : Thread Cert.LruWIdeal.nD Cert.LruWIdeal.τ).loc Cert.LruWIdeal.main_v0)),
      θ_run (Cert.LruWIdeal.defs (F := Ideal)) (onTc (τ := Cert.LruWIdeal.τ) (Cert.LruWIdeal.main (F := Ideal))) ⟨m, fun _ => 0, g⟩ (fun r => ∀ c : Dev Cert.LruWIdeal.nD,
          r.2.mem ((c.tc : Thread Cert.LruWIdeal.nD Cert.LruWIdeal.τ).loc Cert.LruWIdeal.main_v0) = v0 c
          ∧ r.2.mem ((c.tc : Thread Cert.LruWIdeal.nD Cert.LruWIdeal.τ).loc Cert.LruWIdeal.main_arg0) = m ((c.tc : Thread Cert.LruWIdeal.nD Cert.LruWIdeal.τ).loc Cert.LruWIdeal.main_arg0)
          ∧ r.2.mem ((c.tc : Thread Cert.LruWIdeal.nD Cert.LruWIdeal.τ).loc Cert.LruWIdeal.main_arg1) = m ((c.tc : Thread Cert.LruWIdeal.nD Cert.LruWIdeal.τ).loc Cert.LruWIdeal.main_arg1))
      ∧ θ_run (Cert.LruWReferenceIdeal.defs (F := Ideal)) (onTc (τ := Cert.LruWReferenceIdeal.τ) (Cert.LruWReferenceIdeal.main (F := Ideal))) ⟨m', fun _ => 0, g'⟩ (fun r => ∀ c : Dev Cert.LruWReferenceIdeal.nD,
          r.2.mem ((c.tc : Thread Cert.LruWReferenceIdeal.nD Cert.LruWReferenceIdeal.τ).loc Cert.LruWReferenceIdeal.main_v5) = v0 c
          ∧ r.2.mem ((c.tc : Thread Cert.LruWReferenceIdeal.nD Cert.LruWReferenceIdeal.τ).loc Cert.LruWReferenceIdeal.main_arg0) = m' ((c.tc : Thread Cert.LruWReferenceIdeal.nD Cert.LruWReferenceIdeal.τ).loc Cert.LruWReferenceIdeal.main_arg0)
          ∧ r.2.mem ((c.tc : Thread Cert.LruWReferenceIdeal.nD Cert.LruWReferenceIdeal.τ).loc Cert.LruWReferenceIdeal.main_arg1) = m' ((c.tc : Thread Cert.LruWReferenceIdeal.nD Cert.LruWReferenceIdeal.τ).loc Cert.LruWReferenceIdeal.main_arg1))

def preserves_GateW_GateWIdeal : Prop :=
  True

def algebraic_GateWIdeal_GateWReferenceIdeal [hGateWIdeal : Cert.GateWIdeal.Facts] [hGateWReferenceIdeal : Cert.GateWReferenceIdeal.Facts] : Prop :=
  ∀ (m : (ℓ : Loc Cert.GateWIdeal.nD Cert.GateWIdeal.τ Cert.GateWIdeal.sig) → Buf (Elt Ideal) ℓ) (g : Dev Cert.GateWIdeal.nD → PrngReg)
    (m' : (ℓ : Loc Cert.GateWReferenceIdeal.nD Cert.GateWReferenceIdeal.τ Cert.GateWReferenceIdeal.sig) → Buf (Elt Ideal) ℓ) (g' : Dev Cert.GateWReferenceIdeal.nD → PrngReg), Pre_GateWIdeal m →
    (∀ c : Dev Cert.GateWIdeal.nD,
      m' ((c.tc : Thread Cert.GateWReferenceIdeal.nD Cert.GateWReferenceIdeal.τ).loc Cert.GateWReferenceIdeal.main_arg0) = m ((c.tc : Thread Cert.GateWIdeal.nD Cert.GateWIdeal.τ).loc Cert.GateWIdeal.main_arg0)
      ∧ m' ((c.tc : Thread Cert.GateWReferenceIdeal.nD Cert.GateWReferenceIdeal.τ).loc Cert.GateWReferenceIdeal.main_arg1) = m ((c.tc : Thread Cert.GateWIdeal.nD Cert.GateWIdeal.τ).loc Cert.GateWIdeal.main_arg1)) →
    ∃ (v0 : (c : Dev Cert.GateWIdeal.nD) → Buf (Elt Ideal) ((c.tc : Thread Cert.GateWIdeal.nD Cert.GateWIdeal.τ).loc Cert.GateWIdeal.main_v0)),
      θ_run (Cert.GateWIdeal.defs (F := Ideal)) (onTc (τ := Cert.GateWIdeal.τ) (Cert.GateWIdeal.main (F := Ideal))) ⟨m, fun _ => 0, g⟩ (fun r => ∀ c : Dev Cert.GateWIdeal.nD,
          r.2.mem ((c.tc : Thread Cert.GateWIdeal.nD Cert.GateWIdeal.τ).loc Cert.GateWIdeal.main_v0) = v0 c
          ∧ r.2.mem ((c.tc : Thread Cert.GateWIdeal.nD Cert.GateWIdeal.τ).loc Cert.GateWIdeal.main_arg0) = m ((c.tc : Thread Cert.GateWIdeal.nD Cert.GateWIdeal.τ).loc Cert.GateWIdeal.main_arg0)
          ∧ r.2.mem ((c.tc : Thread Cert.GateWIdeal.nD Cert.GateWIdeal.τ).loc Cert.GateWIdeal.main_arg1) = m ((c.tc : Thread Cert.GateWIdeal.nD Cert.GateWIdeal.τ).loc Cert.GateWIdeal.main_arg1))
      ∧ θ_run (Cert.GateWReferenceIdeal.defs (F := Ideal)) (onTc (τ := Cert.GateWReferenceIdeal.τ) (Cert.GateWReferenceIdeal.main (F := Ideal))) ⟨m', fun _ => 0, g'⟩ (fun r => ∀ c : Dev Cert.GateWReferenceIdeal.nD,
          r.2.mem ((c.tc : Thread Cert.GateWReferenceIdeal.nD Cert.GateWReferenceIdeal.τ).loc Cert.GateWReferenceIdeal.main_v5) = v0 c
          ∧ r.2.mem ((c.tc : Thread Cert.GateWReferenceIdeal.nD Cert.GateWReferenceIdeal.τ).loc Cert.GateWReferenceIdeal.main_arg0) = m' ((c.tc : Thread Cert.GateWReferenceIdeal.nD Cert.GateWReferenceIdeal.τ).loc Cert.GateWReferenceIdeal.main_arg0)
          ∧ r.2.mem ((c.tc : Thread Cert.GateWReferenceIdeal.nD Cert.GateWReferenceIdeal.τ).loc Cert.GateWReferenceIdeal.main_arg1) = m' ((c.tc : Thread Cert.GateWReferenceIdeal.nD Cert.GateWReferenceIdeal.τ).loc Cert.GateWReferenceIdeal.main_arg1))

def preserves_GdnX_GdnXIdeal : Prop :=
  True

def algebraic_GdnXIdeal_GdnXReferenceIdeal [hGdnXIdeal : Cert.GdnXIdeal.Facts] [hGdnXReferenceIdeal : Cert.GdnXReferenceIdeal.Facts] : Prop :=
  ∀ (m : (ℓ : Loc Cert.GdnXIdeal.nD Cert.GdnXIdeal.τ Cert.GdnXIdeal.sig) → Buf (Elt Ideal) ℓ) (g : Dev Cert.GdnXIdeal.nD → PrngReg)
    (m' : (ℓ : Loc Cert.GdnXReferenceIdeal.nD Cert.GdnXReferenceIdeal.τ Cert.GdnXReferenceIdeal.sig) → Buf (Elt Ideal) ℓ) (g' : Dev Cert.GdnXReferenceIdeal.nD → PrngReg), Pre_GdnXIdeal m →
    (∀ c : Dev Cert.GdnXIdeal.nD,
      m' ((c.tc : Thread Cert.GdnXReferenceIdeal.nD Cert.GdnXReferenceIdeal.τ).loc Cert.GdnXReferenceIdeal.main_arg0) = m ((c.tc : Thread Cert.GdnXIdeal.nD Cert.GdnXIdeal.τ).loc Cert.GdnXIdeal.main_arg0)
      ∧ m' ((c.tc : Thread Cert.GdnXReferenceIdeal.nD Cert.GdnXReferenceIdeal.τ).loc Cert.GdnXReferenceIdeal.main_arg1) = m ((c.tc : Thread Cert.GdnXIdeal.nD Cert.GdnXIdeal.τ).loc Cert.GdnXIdeal.main_arg1)) →
    ∃ (v0 : (c : Dev Cert.GdnXIdeal.nD) → Buf (Elt Ideal) ((c.tc : Thread Cert.GdnXIdeal.nD Cert.GdnXIdeal.τ).loc Cert.GdnXIdeal.main_v0)),
      θ_run (Cert.GdnXIdeal.defs (F := Ideal)) (onTc (τ := Cert.GdnXIdeal.τ) (Cert.GdnXIdeal.main (F := Ideal))) ⟨m, fun _ => 0, g⟩ (fun r => ∀ c : Dev Cert.GdnXIdeal.nD,
          r.2.mem ((c.tc : Thread Cert.GdnXIdeal.nD Cert.GdnXIdeal.τ).loc Cert.GdnXIdeal.main_v0) = v0 c
          ∧ r.2.mem ((c.tc : Thread Cert.GdnXIdeal.nD Cert.GdnXIdeal.τ).loc Cert.GdnXIdeal.main_arg0) = m ((c.tc : Thread Cert.GdnXIdeal.nD Cert.GdnXIdeal.τ).loc Cert.GdnXIdeal.main_arg0)
          ∧ r.2.mem ((c.tc : Thread Cert.GdnXIdeal.nD Cert.GdnXIdeal.τ).loc Cert.GdnXIdeal.main_arg1) = m ((c.tc : Thread Cert.GdnXIdeal.nD Cert.GdnXIdeal.τ).loc Cert.GdnXIdeal.main_arg1))
      ∧ θ_run (Cert.GdnXReferenceIdeal.defs (F := Ideal)) (onTc (τ := Cert.GdnXReferenceIdeal.τ) (Cert.GdnXReferenceIdeal.main (F := Ideal))) ⟨m', fun _ => 0, g'⟩ (fun r => ∀ c : Dev Cert.GdnXReferenceIdeal.nD,
          r.2.mem ((c.tc : Thread Cert.GdnXReferenceIdeal.nD Cert.GdnXReferenceIdeal.τ).loc Cert.GdnXReferenceIdeal.main_v4) = v0 c
          ∧ r.2.mem ((c.tc : Thread Cert.GdnXReferenceIdeal.nD Cert.GdnXReferenceIdeal.τ).loc Cert.GdnXReferenceIdeal.main_arg0) = m' ((c.tc : Thread Cert.GdnXReferenceIdeal.nD Cert.GdnXReferenceIdeal.τ).loc Cert.GdnXReferenceIdeal.main_arg0)
          ∧ r.2.mem ((c.tc : Thread Cert.GdnXReferenceIdeal.nD Cert.GdnXReferenceIdeal.τ).loc Cert.GdnXReferenceIdeal.main_arg1) = m' ((c.tc : Thread Cert.GdnXReferenceIdeal.nD Cert.GdnXReferenceIdeal.τ).loc Cert.GdnXReferenceIdeal.main_arg1))

def preserves_GdnBiasX_GdnBiasXIdeal : Prop :=
  True

def algebraic_GdnBiasXIdeal_GdnBiasXReferenceIdeal [hGdnBiasXIdeal : Cert.GdnBiasXIdeal.Facts] [hGdnBiasXReferenceIdeal : Cert.GdnBiasXReferenceIdeal.Facts] : Prop :=
  ∀ (m : (ℓ : Loc Cert.GdnBiasXIdeal.nD Cert.GdnBiasXIdeal.τ Cert.GdnBiasXIdeal.sig) → Buf (Elt Ideal) ℓ) (g : Dev Cert.GdnBiasXIdeal.nD → PrngReg)
    (m' : (ℓ : Loc Cert.GdnBiasXReferenceIdeal.nD Cert.GdnBiasXReferenceIdeal.τ Cert.GdnBiasXReferenceIdeal.sig) → Buf (Elt Ideal) ℓ) (g' : Dev Cert.GdnBiasXReferenceIdeal.nD → PrngReg), Pre_GdnBiasXIdeal m →
    (∀ c : Dev Cert.GdnBiasXIdeal.nD,
      m' ((c.tc : Thread Cert.GdnBiasXReferenceIdeal.nD Cert.GdnBiasXReferenceIdeal.τ).loc Cert.GdnBiasXReferenceIdeal.main_arg0) = m ((c.tc : Thread Cert.GdnBiasXIdeal.nD Cert.GdnBiasXIdeal.τ).loc Cert.GdnBiasXIdeal.main_arg0)
      ∧ m' ((c.tc : Thread Cert.GdnBiasXReferenceIdeal.nD Cert.GdnBiasXReferenceIdeal.τ).loc Cert.GdnBiasXReferenceIdeal.main_arg1) = m ((c.tc : Thread Cert.GdnBiasXIdeal.nD Cert.GdnBiasXIdeal.τ).loc Cert.GdnBiasXIdeal.main_arg1)
      ∧ m' ((c.tc : Thread Cert.GdnBiasXReferenceIdeal.nD Cert.GdnBiasXReferenceIdeal.τ).loc Cert.GdnBiasXReferenceIdeal.main_arg2) = m ((c.tc : Thread Cert.GdnBiasXIdeal.nD Cert.GdnBiasXIdeal.τ).loc Cert.GdnBiasXIdeal.main_arg2)) →
    ∃ (v0 : (c : Dev Cert.GdnBiasXIdeal.nD) → Buf (Elt Ideal) ((c.tc : Thread Cert.GdnBiasXIdeal.nD Cert.GdnBiasXIdeal.τ).loc Cert.GdnBiasXIdeal.main_v0)),
      θ_run (Cert.GdnBiasXIdeal.defs (F := Ideal)) (onTc (τ := Cert.GdnBiasXIdeal.τ) (Cert.GdnBiasXIdeal.main (F := Ideal))) ⟨m, fun _ => 0, g⟩ (fun r => ∀ c : Dev Cert.GdnBiasXIdeal.nD,
          r.2.mem ((c.tc : Thread Cert.GdnBiasXIdeal.nD Cert.GdnBiasXIdeal.τ).loc Cert.GdnBiasXIdeal.main_v0) = v0 c
          ∧ r.2.mem ((c.tc : Thread Cert.GdnBiasXIdeal.nD Cert.GdnBiasXIdeal.τ).loc Cert.GdnBiasXIdeal.main_arg0) = m ((c.tc : Thread Cert.GdnBiasXIdeal.nD Cert.GdnBiasXIdeal.τ).loc Cert.GdnBiasXIdeal.main_arg0)
          ∧ r.2.mem ((c.tc : Thread Cert.GdnBiasXIdeal.nD Cert.GdnBiasXIdeal.τ).loc Cert.GdnBiasXIdeal.main_arg1) = m ((c.tc : Thread Cert.GdnBiasXIdeal.nD Cert.GdnBiasXIdeal.τ).loc Cert.GdnBiasXIdeal.main_arg1)
          ∧ r.2.mem ((c.tc : Thread Cert.GdnBiasXIdeal.nD Cert.GdnBiasXIdeal.τ).loc Cert.GdnBiasXIdeal.main_arg2) = m ((c.tc : Thread Cert.GdnBiasXIdeal.nD Cert.GdnBiasXIdeal.τ).loc Cert.GdnBiasXIdeal.main_arg2))
      ∧ θ_run (Cert.GdnBiasXReferenceIdeal.defs (F := Ideal)) (onTc (τ := Cert.GdnBiasXReferenceIdeal.τ) (Cert.GdnBiasXReferenceIdeal.main (F := Ideal))) ⟨m', fun _ => 0, g'⟩ (fun r => ∀ c : Dev Cert.GdnBiasXReferenceIdeal.nD,
          r.2.mem ((c.tc : Thread Cert.GdnBiasXReferenceIdeal.nD Cert.GdnBiasXReferenceIdeal.τ).loc Cert.GdnBiasXReferenceIdeal.main_v6) = v0 c
          ∧ r.2.mem ((c.tc : Thread Cert.GdnBiasXReferenceIdeal.nD Cert.GdnBiasXReferenceIdeal.τ).loc Cert.GdnBiasXReferenceIdeal.main_arg0) = m' ((c.tc : Thread Cert.GdnBiasXReferenceIdeal.nD Cert.GdnBiasXReferenceIdeal.τ).loc Cert.GdnBiasXReferenceIdeal.main_arg0)
          ∧ r.2.mem ((c.tc : Thread Cert.GdnBiasXReferenceIdeal.nD Cert.GdnBiasXReferenceIdeal.τ).loc Cert.GdnBiasXReferenceIdeal.main_arg1) = m' ((c.tc : Thread Cert.GdnBiasXReferenceIdeal.nD Cert.GdnBiasXReferenceIdeal.τ).loc Cert.GdnBiasXReferenceIdeal.main_arg1)
          ∧ r.2.mem ((c.tc : Thread Cert.GdnBiasXReferenceIdeal.nD Cert.GdnBiasXReferenceIdeal.τ).loc Cert.GdnBiasXReferenceIdeal.main_arg2) = m' ((c.tc : Thread Cert.GdnBiasXReferenceIdeal.nD Cert.GdnBiasXReferenceIdeal.τ).loc Cert.GdnBiasXReferenceIdeal.main_arg2))

def preserves_SsdX_SsdXIdeal : Prop :=
  True

def algebraic_SsdXIdeal_SsdXReferenceIdeal [hSsdXIdeal : Cert.SsdXIdeal.Facts] [hSsdXReferenceIdeal : Cert.SsdXReferenceIdeal.Facts] : Prop :=
  ∀ (m : (ℓ : Loc Cert.SsdXIdeal.nD Cert.SsdXIdeal.τ Cert.SsdXIdeal.sig) → Buf (Elt Ideal) ℓ) (g : Dev Cert.SsdXIdeal.nD → PrngReg)
    (m' : (ℓ : Loc Cert.SsdXReferenceIdeal.nD Cert.SsdXReferenceIdeal.τ Cert.SsdXReferenceIdeal.sig) → Buf (Elt Ideal) ℓ) (g' : Dev Cert.SsdXReferenceIdeal.nD → PrngReg), Pre_SsdXIdeal m →
    (∀ c : Dev Cert.SsdXIdeal.nD,
      m' ((c.tc : Thread Cert.SsdXReferenceIdeal.nD Cert.SsdXReferenceIdeal.τ).loc Cert.SsdXReferenceIdeal.main_arg0) = m ((c.tc : Thread Cert.SsdXIdeal.nD Cert.SsdXIdeal.τ).loc Cert.SsdXIdeal.main_arg0)
      ∧ m' ((c.tc : Thread Cert.SsdXReferenceIdeal.nD Cert.SsdXReferenceIdeal.τ).loc Cert.SsdXReferenceIdeal.main_arg1) = m ((c.tc : Thread Cert.SsdXIdeal.nD Cert.SsdXIdeal.τ).loc Cert.SsdXIdeal.main_arg1)
      ∧ m' ((c.tc : Thread Cert.SsdXReferenceIdeal.nD Cert.SsdXReferenceIdeal.τ).loc Cert.SsdXReferenceIdeal.main_arg2) = m ((c.tc : Thread Cert.SsdXIdeal.nD Cert.SsdXIdeal.τ).loc Cert.SsdXIdeal.main_arg2)) →
    ∃ (v0 : (c : Dev Cert.SsdXIdeal.nD) → Buf (Elt Ideal) ((c.tc : Thread Cert.SsdXIdeal.nD Cert.SsdXIdeal.τ).loc Cert.SsdXIdeal.main_v0)),
      θ_run (Cert.SsdXIdeal.defs (F := Ideal)) (onTc (τ := Cert.SsdXIdeal.τ) (Cert.SsdXIdeal.main (F := Ideal))) ⟨m, fun _ => 0, g⟩ (fun r => ∀ c : Dev Cert.SsdXIdeal.nD,
          r.2.mem ((c.tc : Thread Cert.SsdXIdeal.nD Cert.SsdXIdeal.τ).loc Cert.SsdXIdeal.main_v0) = v0 c
          ∧ r.2.mem ((c.tc : Thread Cert.SsdXIdeal.nD Cert.SsdXIdeal.τ).loc Cert.SsdXIdeal.main_arg0) = m ((c.tc : Thread Cert.SsdXIdeal.nD Cert.SsdXIdeal.τ).loc Cert.SsdXIdeal.main_arg0)
          ∧ r.2.mem ((c.tc : Thread Cert.SsdXIdeal.nD Cert.SsdXIdeal.τ).loc Cert.SsdXIdeal.main_arg1) = m ((c.tc : Thread Cert.SsdXIdeal.nD Cert.SsdXIdeal.τ).loc Cert.SsdXIdeal.main_arg1)
          ∧ r.2.mem ((c.tc : Thread Cert.SsdXIdeal.nD Cert.SsdXIdeal.τ).loc Cert.SsdXIdeal.main_arg2) = m ((c.tc : Thread Cert.SsdXIdeal.nD Cert.SsdXIdeal.τ).loc Cert.SsdXIdeal.main_arg2))
      ∧ θ_run (Cert.SsdXReferenceIdeal.defs (F := Ideal)) (onTc (τ := Cert.SsdXReferenceIdeal.τ) (Cert.SsdXReferenceIdeal.main (F := Ideal))) ⟨m', fun _ => 0, g'⟩ (fun r => ∀ c : Dev Cert.SsdXReferenceIdeal.nD,
          r.2.mem ((c.tc : Thread Cert.SsdXReferenceIdeal.nD Cert.SsdXReferenceIdeal.τ).loc Cert.SsdXReferenceIdeal.main_v5) = v0 c
          ∧ r.2.mem ((c.tc : Thread Cert.SsdXReferenceIdeal.nD Cert.SsdXReferenceIdeal.τ).loc Cert.SsdXReferenceIdeal.main_arg0) = m' ((c.tc : Thread Cert.SsdXReferenceIdeal.nD Cert.SsdXReferenceIdeal.τ).loc Cert.SsdXReferenceIdeal.main_arg0)
          ∧ r.2.mem ((c.tc : Thread Cert.SsdXReferenceIdeal.nD Cert.SsdXReferenceIdeal.τ).loc Cert.SsdXReferenceIdeal.main_arg1) = m' ((c.tc : Thread Cert.SsdXReferenceIdeal.nD Cert.SsdXReferenceIdeal.τ).loc Cert.SsdXReferenceIdeal.main_arg1)
          ∧ r.2.mem ((c.tc : Thread Cert.SsdXReferenceIdeal.nD Cert.SsdXReferenceIdeal.τ).loc Cert.SsdXReferenceIdeal.main_arg2) = m' ((c.tc : Thread Cert.SsdXReferenceIdeal.nD Cert.SsdXReferenceIdeal.τ).loc Cert.SsdXReferenceIdeal.main_arg2))

def preserves_LruX_LruXIdeal : Prop :=
  True

def algebraic_LruXIdeal_LruXReferenceIdeal [hLruXIdeal : Cert.LruXIdeal.Facts] [hLruXReferenceIdeal : Cert.LruXReferenceIdeal.Facts] : Prop :=
  ∀ (m : (ℓ : Loc Cert.LruXIdeal.nD Cert.LruXIdeal.τ Cert.LruXIdeal.sig) → Buf (Elt Ideal) ℓ) (g : Dev Cert.LruXIdeal.nD → PrngReg)
    (m' : (ℓ : Loc Cert.LruXReferenceIdeal.nD Cert.LruXReferenceIdeal.τ Cert.LruXReferenceIdeal.sig) → Buf (Elt Ideal) ℓ) (g' : Dev Cert.LruXReferenceIdeal.nD → PrngReg), Pre_LruXIdeal m →
    (∀ c : Dev Cert.LruXIdeal.nD,
      m' ((c.tc : Thread Cert.LruXReferenceIdeal.nD Cert.LruXReferenceIdeal.τ).loc Cert.LruXReferenceIdeal.main_arg0) = m ((c.tc : Thread Cert.LruXIdeal.nD Cert.LruXIdeal.τ).loc Cert.LruXIdeal.main_arg0)
      ∧ m' ((c.tc : Thread Cert.LruXReferenceIdeal.nD Cert.LruXReferenceIdeal.τ).loc Cert.LruXReferenceIdeal.main_arg1) = m ((c.tc : Thread Cert.LruXIdeal.nD Cert.LruXIdeal.τ).loc Cert.LruXIdeal.main_arg1)
      ∧ m' ((c.tc : Thread Cert.LruXReferenceIdeal.nD Cert.LruXReferenceIdeal.τ).loc Cert.LruXReferenceIdeal.main_arg2) = m ((c.tc : Thread Cert.LruXIdeal.nD Cert.LruXIdeal.τ).loc Cert.LruXIdeal.main_arg2)) →
    ∃ (v0 : (c : Dev Cert.LruXIdeal.nD) → Buf (Elt Ideal) ((c.tc : Thread Cert.LruXIdeal.nD Cert.LruXIdeal.τ).loc Cert.LruXIdeal.main_v0)),
      θ_run (Cert.LruXIdeal.defs (F := Ideal)) (onTc (τ := Cert.LruXIdeal.τ) (Cert.LruXIdeal.main (F := Ideal))) ⟨m, fun _ => 0, g⟩ (fun r => ∀ c : Dev Cert.LruXIdeal.nD,
          r.2.mem ((c.tc : Thread Cert.LruXIdeal.nD Cert.LruXIdeal.τ).loc Cert.LruXIdeal.main_v0) = v0 c
          ∧ r.2.mem ((c.tc : Thread Cert.LruXIdeal.nD Cert.LruXIdeal.τ).loc Cert.LruXIdeal.main_arg0) = m ((c.tc : Thread Cert.LruXIdeal.nD Cert.LruXIdeal.τ).loc Cert.LruXIdeal.main_arg0)
          ∧ r.2.mem ((c.tc : Thread Cert.LruXIdeal.nD Cert.LruXIdeal.τ).loc Cert.LruXIdeal.main_arg1) = m ((c.tc : Thread Cert.LruXIdeal.nD Cert.LruXIdeal.τ).loc Cert.LruXIdeal.main_arg1)
          ∧ r.2.mem ((c.tc : Thread Cert.LruXIdeal.nD Cert.LruXIdeal.τ).loc Cert.LruXIdeal.main_arg2) = m ((c.tc : Thread Cert.LruXIdeal.nD Cert.LruXIdeal.τ).loc Cert.LruXIdeal.main_arg2))
      ∧ θ_run (Cert.LruXReferenceIdeal.defs (F := Ideal)) (onTc (τ := Cert.LruXReferenceIdeal.τ) (Cert.LruXReferenceIdeal.main (F := Ideal))) ⟨m', fun _ => 0, g'⟩ (fun r => ∀ c : Dev Cert.LruXReferenceIdeal.nD,
          r.2.mem ((c.tc : Thread Cert.LruXReferenceIdeal.nD Cert.LruXReferenceIdeal.τ).loc Cert.LruXReferenceIdeal.main_v5) = v0 c
          ∧ r.2.mem ((c.tc : Thread Cert.LruXReferenceIdeal.nD Cert.LruXReferenceIdeal.τ).loc Cert.LruXReferenceIdeal.main_arg0) = m' ((c.tc : Thread Cert.LruXReferenceIdeal.nD Cert.LruXReferenceIdeal.τ).loc Cert.LruXReferenceIdeal.main_arg0)
          ∧ r.2.mem ((c.tc : Thread Cert.LruXReferenceIdeal.nD Cert.LruXReferenceIdeal.τ).loc Cert.LruXReferenceIdeal.main_arg1) = m' ((c.tc : Thread Cert.LruXReferenceIdeal.nD Cert.LruXReferenceIdeal.τ).loc Cert.LruXReferenceIdeal.main_arg1)
          ∧ r.2.mem ((c.tc : Thread Cert.LruXReferenceIdeal.nD Cert.LruXReferenceIdeal.τ).loc Cert.LruXReferenceIdeal.main_arg2) = m' ((c.tc : Thread Cert.LruXReferenceIdeal.nD Cert.LruXReferenceIdeal.τ).loc Cert.LruXReferenceIdeal.main_arg2))

def preserves_GateX_GateXIdeal : Prop :=
  True

def algebraic_GateXIdeal_GateXReferenceIdeal [hGateXIdeal : Cert.GateXIdeal.Facts] [hGateXReferenceIdeal : Cert.GateXReferenceIdeal.Facts] : Prop :=
  ∀ (m : (ℓ : Loc Cert.GateXIdeal.nD Cert.GateXIdeal.τ Cert.GateXIdeal.sig) → Buf (Elt Ideal) ℓ) (g : Dev Cert.GateXIdeal.nD → PrngReg)
    (m' : (ℓ : Loc Cert.GateXReferenceIdeal.nD Cert.GateXReferenceIdeal.τ Cert.GateXReferenceIdeal.sig) → Buf (Elt Ideal) ℓ) (g' : Dev Cert.GateXReferenceIdeal.nD → PrngReg), Pre_GateXIdeal m →
    (∀ c : Dev Cert.GateXIdeal.nD,
      m' ((c.tc : Thread Cert.GateXReferenceIdeal.nD Cert.GateXReferenceIdeal.τ).loc Cert.GateXReferenceIdeal.main_arg0) = m ((c.tc : Thread Cert.GateXIdeal.nD Cert.GateXIdeal.τ).loc Cert.GateXIdeal.main_arg0)
      ∧ m' ((c.tc : Thread Cert.GateXReferenceIdeal.nD Cert.GateXReferenceIdeal.τ).loc Cert.GateXReferenceIdeal.main_arg1) = m ((c.tc : Thread Cert.GateXIdeal.nD Cert.GateXIdeal.τ).loc Cert.GateXIdeal.main_arg1)
      ∧ m' ((c.tc : Thread Cert.GateXReferenceIdeal.nD Cert.GateXReferenceIdeal.τ).loc Cert.GateXReferenceIdeal.main_arg2) = m ((c.tc : Thread Cert.GateXIdeal.nD Cert.GateXIdeal.τ).loc Cert.GateXIdeal.main_arg2)) →
    ∃ (v0 : (c : Dev Cert.GateXIdeal.nD) → Buf (Elt Ideal) ((c.tc : Thread Cert.GateXIdeal.nD Cert.GateXIdeal.τ).loc Cert.GateXIdeal.main_v0)),
      θ_run (Cert.GateXIdeal.defs (F := Ideal)) (onTc (τ := Cert.GateXIdeal.τ) (Cert.GateXIdeal.main (F := Ideal))) ⟨m, fun _ => 0, g⟩ (fun r => ∀ c : Dev Cert.GateXIdeal.nD,
          r.2.mem ((c.tc : Thread Cert.GateXIdeal.nD Cert.GateXIdeal.τ).loc Cert.GateXIdeal.main_v0) = v0 c
          ∧ r.2.mem ((c.tc : Thread Cert.GateXIdeal.nD Cert.GateXIdeal.τ).loc Cert.GateXIdeal.main_arg0) = m ((c.tc : Thread Cert.GateXIdeal.nD Cert.GateXIdeal.τ).loc Cert.GateXIdeal.main_arg0)
          ∧ r.2.mem ((c.tc : Thread Cert.GateXIdeal.nD Cert.GateXIdeal.τ).loc Cert.GateXIdeal.main_arg1) = m ((c.tc : Thread Cert.GateXIdeal.nD Cert.GateXIdeal.τ).loc Cert.GateXIdeal.main_arg1)
          ∧ r.2.mem ((c.tc : Thread Cert.GateXIdeal.nD Cert.GateXIdeal.τ).loc Cert.GateXIdeal.main_arg2) = m ((c.tc : Thread Cert.GateXIdeal.nD Cert.GateXIdeal.τ).loc Cert.GateXIdeal.main_arg2))
      ∧ θ_run (Cert.GateXReferenceIdeal.defs (F := Ideal)) (onTc (τ := Cert.GateXReferenceIdeal.τ) (Cert.GateXReferenceIdeal.main (F := Ideal))) ⟨m', fun _ => 0, g'⟩ (fun r => ∀ c : Dev Cert.GateXReferenceIdeal.nD,
          r.2.mem ((c.tc : Thread Cert.GateXReferenceIdeal.nD Cert.GateXReferenceIdeal.τ).loc Cert.GateXReferenceIdeal.main_v5) = v0 c
          ∧ r.2.mem ((c.tc : Thread Cert.GateXReferenceIdeal.nD Cert.GateXReferenceIdeal.τ).loc Cert.GateXReferenceIdeal.main_arg0) = m' ((c.tc : Thread Cert.GateXReferenceIdeal.nD Cert.GateXReferenceIdeal.τ).loc Cert.GateXReferenceIdeal.main_arg0)
          ∧ r.2.mem ((c.tc : Thread Cert.GateXReferenceIdeal.nD Cert.GateXReferenceIdeal.τ).loc Cert.GateXReferenceIdeal.main_arg1) = m' ((c.tc : Thread Cert.GateXReferenceIdeal.nD Cert.GateXReferenceIdeal.τ).loc Cert.GateXReferenceIdeal.main_arg1)
          ∧ r.2.mem ((c.tc : Thread Cert.GateXReferenceIdeal.nD Cert.GateXReferenceIdeal.τ).loc Cert.GateXReferenceIdeal.main_arg2) = m' ((c.tc : Thread Cert.GateXReferenceIdeal.nD Cert.GateXReferenceIdeal.τ).loc Cert.GateXReferenceIdeal.main_arg2))

def preserves_GdnIn_GdnInIdeal : Prop :=
  True

def algebraic_GdnInIdeal_GdnInReferenceIdeal [hGdnInIdeal : Cert.GdnInIdeal.Facts] [hGdnInReferenceIdeal : Cert.GdnInReferenceIdeal.Facts] : Prop :=
  ∀ (m : (ℓ : Loc Cert.GdnInIdeal.nD Cert.GdnInIdeal.τ Cert.GdnInIdeal.sig) → Buf (Elt Ideal) ℓ) (g : Dev Cert.GdnInIdeal.nD → PrngReg)
    (m' : (ℓ : Loc Cert.GdnInReferenceIdeal.nD Cert.GdnInReferenceIdeal.τ Cert.GdnInReferenceIdeal.sig) → Buf (Elt Ideal) ℓ) (g' : Dev Cert.GdnInReferenceIdeal.nD → PrngReg), Pre_GdnInIdeal m →
    (∀ c : Dev Cert.GdnInIdeal.nD,
      m' ((c.tc : Thread Cert.GdnInReferenceIdeal.nD Cert.GdnInReferenceIdeal.τ).loc Cert.GdnInReferenceIdeal.main_arg0) = m ((c.tc : Thread Cert.GdnInIdeal.nD Cert.GdnInIdeal.τ).loc Cert.GdnInIdeal.main_arg0)
      ∧ m' ((c.tc : Thread Cert.GdnInReferenceIdeal.nD Cert.GdnInReferenceIdeal.τ).loc Cert.GdnInReferenceIdeal.main_arg1) = m ((c.tc : Thread Cert.GdnInIdeal.nD Cert.GdnInIdeal.τ).loc Cert.GdnInIdeal.main_arg1)) →
    ∃ (v0 : (c : Dev Cert.GdnInIdeal.nD) → Buf (Elt Ideal) ((c.tc : Thread Cert.GdnInIdeal.nD Cert.GdnInIdeal.τ).loc Cert.GdnInIdeal.main_v0)),
      θ_run (Cert.GdnInIdeal.defs (F := Ideal)) (onTc (τ := Cert.GdnInIdeal.τ) (Cert.GdnInIdeal.main (F := Ideal))) ⟨m, fun _ => 0, g⟩ (fun r => ∀ c : Dev Cert.GdnInIdeal.nD,
          r.2.mem ((c.tc : Thread Cert.GdnInIdeal.nD Cert.GdnInIdeal.τ).loc Cert.GdnInIdeal.main_v0) = v0 c
          ∧ r.2.mem ((c.tc : Thread Cert.GdnInIdeal.nD Cert.GdnInIdeal.τ).loc Cert.GdnInIdeal.main_arg0) = m ((c.tc : Thread Cert.GdnInIdeal.nD Cert.GdnInIdeal.τ).loc Cert.GdnInIdeal.main_arg0)
          ∧ r.2.mem ((c.tc : Thread Cert.GdnInIdeal.nD Cert.GdnInIdeal.τ).loc Cert.GdnInIdeal.main_arg1) = m ((c.tc : Thread Cert.GdnInIdeal.nD Cert.GdnInIdeal.τ).loc Cert.GdnInIdeal.main_arg1))
      ∧ θ_run (Cert.GdnInReferenceIdeal.defs (F := Ideal)) (onTc (τ := Cert.GdnInReferenceIdeal.τ) (Cert.GdnInReferenceIdeal.main (F := Ideal))) ⟨m', fun _ => 0, g'⟩ (fun r => ∀ c : Dev Cert.GdnInReferenceIdeal.nD,
          r.2.mem ((c.tc : Thread Cert.GdnInReferenceIdeal.nD Cert.GdnInReferenceIdeal.τ).loc Cert.GdnInReferenceIdeal.main_v2) = v0 c
          ∧ r.2.mem ((c.tc : Thread Cert.GdnInReferenceIdeal.nD Cert.GdnInReferenceIdeal.τ).loc Cert.GdnInReferenceIdeal.main_arg0) = m' ((c.tc : Thread Cert.GdnInReferenceIdeal.nD Cert.GdnInReferenceIdeal.τ).loc Cert.GdnInReferenceIdeal.main_arg0)
          ∧ r.2.mem ((c.tc : Thread Cert.GdnInReferenceIdeal.nD Cert.GdnInReferenceIdeal.τ).loc Cert.GdnInReferenceIdeal.main_arg1) = m' ((c.tc : Thread Cert.GdnInReferenceIdeal.nD Cert.GdnInReferenceIdeal.τ).loc Cert.GdnInReferenceIdeal.main_arg1))

def preserves_SsdIn_SsdInIdeal : Prop :=
  True

def algebraic_SsdInIdeal_SsdInReferenceIdeal [hSsdInIdeal : Cert.SsdInIdeal.Facts] [hSsdInReferenceIdeal : Cert.SsdInReferenceIdeal.Facts] : Prop :=
  ∀ (m : (ℓ : Loc Cert.SsdInIdeal.nD Cert.SsdInIdeal.τ Cert.SsdInIdeal.sig) → Buf (Elt Ideal) ℓ) (g : Dev Cert.SsdInIdeal.nD → PrngReg)
    (m' : (ℓ : Loc Cert.SsdInReferenceIdeal.nD Cert.SsdInReferenceIdeal.τ Cert.SsdInReferenceIdeal.sig) → Buf (Elt Ideal) ℓ) (g' : Dev Cert.SsdInReferenceIdeal.nD → PrngReg), Pre_SsdInIdeal m →
    (∀ c : Dev Cert.SsdInIdeal.nD,
      m' ((c.tc : Thread Cert.SsdInReferenceIdeal.nD Cert.SsdInReferenceIdeal.τ).loc Cert.SsdInReferenceIdeal.main_arg0) = m ((c.tc : Thread Cert.SsdInIdeal.nD Cert.SsdInIdeal.τ).loc Cert.SsdInIdeal.main_arg0)
      ∧ m' ((c.tc : Thread Cert.SsdInReferenceIdeal.nD Cert.SsdInReferenceIdeal.τ).loc Cert.SsdInReferenceIdeal.main_arg1) = m ((c.tc : Thread Cert.SsdInIdeal.nD Cert.SsdInIdeal.τ).loc Cert.SsdInIdeal.main_arg1)) →
    ∃ (v0 : (c : Dev Cert.SsdInIdeal.nD) → Buf (Elt Ideal) ((c.tc : Thread Cert.SsdInIdeal.nD Cert.SsdInIdeal.τ).loc Cert.SsdInIdeal.main_v0)),
      θ_run (Cert.SsdInIdeal.defs (F := Ideal)) (onTc (τ := Cert.SsdInIdeal.τ) (Cert.SsdInIdeal.main (F := Ideal))) ⟨m, fun _ => 0, g⟩ (fun r => ∀ c : Dev Cert.SsdInIdeal.nD,
          r.2.mem ((c.tc : Thread Cert.SsdInIdeal.nD Cert.SsdInIdeal.τ).loc Cert.SsdInIdeal.main_v0) = v0 c
          ∧ r.2.mem ((c.tc : Thread Cert.SsdInIdeal.nD Cert.SsdInIdeal.τ).loc Cert.SsdInIdeal.main_arg0) = m ((c.tc : Thread Cert.SsdInIdeal.nD Cert.SsdInIdeal.τ).loc Cert.SsdInIdeal.main_arg0)
          ∧ r.2.mem ((c.tc : Thread Cert.SsdInIdeal.nD Cert.SsdInIdeal.τ).loc Cert.SsdInIdeal.main_arg1) = m ((c.tc : Thread Cert.SsdInIdeal.nD Cert.SsdInIdeal.τ).loc Cert.SsdInIdeal.main_arg1))
      ∧ θ_run (Cert.SsdInReferenceIdeal.defs (F := Ideal)) (onTc (τ := Cert.SsdInReferenceIdeal.τ) (Cert.SsdInReferenceIdeal.main (F := Ideal))) ⟨m', fun _ => 0, g'⟩ (fun r => ∀ c : Dev Cert.SsdInReferenceIdeal.nD,
          r.2.mem ((c.tc : Thread Cert.SsdInReferenceIdeal.nD Cert.SsdInReferenceIdeal.τ).loc Cert.SsdInReferenceIdeal.main_v2) = v0 c
          ∧ r.2.mem ((c.tc : Thread Cert.SsdInReferenceIdeal.nD Cert.SsdInReferenceIdeal.τ).loc Cert.SsdInReferenceIdeal.main_arg0) = m' ((c.tc : Thread Cert.SsdInReferenceIdeal.nD Cert.SsdInReferenceIdeal.τ).loc Cert.SsdInReferenceIdeal.main_arg0)
          ∧ r.2.mem ((c.tc : Thread Cert.SsdInReferenceIdeal.nD Cert.SsdInReferenceIdeal.τ).loc Cert.SsdInReferenceIdeal.main_arg1) = m' ((c.tc : Thread Cert.SsdInReferenceIdeal.nD Cert.SsdInReferenceIdeal.τ).loc Cert.SsdInReferenceIdeal.main_arg1))

def preserves_LruIn_LruInIdeal : Prop :=
  True

def algebraic_LruInIdeal_LruInReferenceIdeal [hLruInIdeal : Cert.LruInIdeal.Facts] [hLruInReferenceIdeal : Cert.LruInReferenceIdeal.Facts] : Prop :=
  ∀ (m : (ℓ : Loc Cert.LruInIdeal.nD Cert.LruInIdeal.τ Cert.LruInIdeal.sig) → Buf (Elt Ideal) ℓ) (g : Dev Cert.LruInIdeal.nD → PrngReg)
    (m' : (ℓ : Loc Cert.LruInReferenceIdeal.nD Cert.LruInReferenceIdeal.τ Cert.LruInReferenceIdeal.sig) → Buf (Elt Ideal) ℓ) (g' : Dev Cert.LruInReferenceIdeal.nD → PrngReg), Pre_LruInIdeal m →
    (∀ c : Dev Cert.LruInIdeal.nD,
      m' ((c.tc : Thread Cert.LruInReferenceIdeal.nD Cert.LruInReferenceIdeal.τ).loc Cert.LruInReferenceIdeal.main_arg0) = m ((c.tc : Thread Cert.LruInIdeal.nD Cert.LruInIdeal.τ).loc Cert.LruInIdeal.main_arg0)
      ∧ m' ((c.tc : Thread Cert.LruInReferenceIdeal.nD Cert.LruInReferenceIdeal.τ).loc Cert.LruInReferenceIdeal.main_arg1) = m ((c.tc : Thread Cert.LruInIdeal.nD Cert.LruInIdeal.τ).loc Cert.LruInIdeal.main_arg1)) →
    ∃ (v0 : (c : Dev Cert.LruInIdeal.nD) → Buf (Elt Ideal) ((c.tc : Thread Cert.LruInIdeal.nD Cert.LruInIdeal.τ).loc Cert.LruInIdeal.main_v0)),
      θ_run (Cert.LruInIdeal.defs (F := Ideal)) (onTc (τ := Cert.LruInIdeal.τ) (Cert.LruInIdeal.main (F := Ideal))) ⟨m, fun _ => 0, g⟩ (fun r => ∀ c : Dev Cert.LruInIdeal.nD,
          r.2.mem ((c.tc : Thread Cert.LruInIdeal.nD Cert.LruInIdeal.τ).loc Cert.LruInIdeal.main_v0) = v0 c
          ∧ r.2.mem ((c.tc : Thread Cert.LruInIdeal.nD Cert.LruInIdeal.τ).loc Cert.LruInIdeal.main_arg0) = m ((c.tc : Thread Cert.LruInIdeal.nD Cert.LruInIdeal.τ).loc Cert.LruInIdeal.main_arg0)
          ∧ r.2.mem ((c.tc : Thread Cert.LruInIdeal.nD Cert.LruInIdeal.τ).loc Cert.LruInIdeal.main_arg1) = m ((c.tc : Thread Cert.LruInIdeal.nD Cert.LruInIdeal.τ).loc Cert.LruInIdeal.main_arg1))
      ∧ θ_run (Cert.LruInReferenceIdeal.defs (F := Ideal)) (onTc (τ := Cert.LruInReferenceIdeal.τ) (Cert.LruInReferenceIdeal.main (F := Ideal))) ⟨m', fun _ => 0, g'⟩ (fun r => ∀ c : Dev Cert.LruInReferenceIdeal.nD,
          r.2.mem ((c.tc : Thread Cert.LruInReferenceIdeal.nD Cert.LruInReferenceIdeal.τ).loc Cert.LruInReferenceIdeal.main_v2) = v0 c
          ∧ r.2.mem ((c.tc : Thread Cert.LruInReferenceIdeal.nD Cert.LruInReferenceIdeal.τ).loc Cert.LruInReferenceIdeal.main_arg0) = m' ((c.tc : Thread Cert.LruInReferenceIdeal.nD Cert.LruInReferenceIdeal.τ).loc Cert.LruInReferenceIdeal.main_arg0)
          ∧ r.2.mem ((c.tc : Thread Cert.LruInReferenceIdeal.nD Cert.LruInReferenceIdeal.τ).loc Cert.LruInReferenceIdeal.main_arg1) = m' ((c.tc : Thread Cert.LruInReferenceIdeal.nD Cert.LruInReferenceIdeal.τ).loc Cert.LruInReferenceIdeal.main_arg1))

def preserves_GateIn_GateInIdeal : Prop :=
  True

def algebraic_GateInIdeal_GateInReferenceIdeal [hGateInIdeal : Cert.GateInIdeal.Facts] [hGateInReferenceIdeal : Cert.GateInReferenceIdeal.Facts] : Prop :=
  ∀ (m : (ℓ : Loc Cert.GateInIdeal.nD Cert.GateInIdeal.τ Cert.GateInIdeal.sig) → Buf (Elt Ideal) ℓ) (g : Dev Cert.GateInIdeal.nD → PrngReg)
    (m' : (ℓ : Loc Cert.GateInReferenceIdeal.nD Cert.GateInReferenceIdeal.τ Cert.GateInReferenceIdeal.sig) → Buf (Elt Ideal) ℓ) (g' : Dev Cert.GateInReferenceIdeal.nD → PrngReg), Pre_GateInIdeal m →
    (∀ c : Dev Cert.GateInIdeal.nD,
      m' ((c.tc : Thread Cert.GateInReferenceIdeal.nD Cert.GateInReferenceIdeal.τ).loc Cert.GateInReferenceIdeal.main_arg0) = m ((c.tc : Thread Cert.GateInIdeal.nD Cert.GateInIdeal.τ).loc Cert.GateInIdeal.main_arg0)
      ∧ m' ((c.tc : Thread Cert.GateInReferenceIdeal.nD Cert.GateInReferenceIdeal.τ).loc Cert.GateInReferenceIdeal.main_arg1) = m ((c.tc : Thread Cert.GateInIdeal.nD Cert.GateInIdeal.τ).loc Cert.GateInIdeal.main_arg1)) →
    ∃ (v0 : (c : Dev Cert.GateInIdeal.nD) → Buf (Elt Ideal) ((c.tc : Thread Cert.GateInIdeal.nD Cert.GateInIdeal.τ).loc Cert.GateInIdeal.main_v0)),
      θ_run (Cert.GateInIdeal.defs (F := Ideal)) (onTc (τ := Cert.GateInIdeal.τ) (Cert.GateInIdeal.main (F := Ideal))) ⟨m, fun _ => 0, g⟩ (fun r => ∀ c : Dev Cert.GateInIdeal.nD,
          r.2.mem ((c.tc : Thread Cert.GateInIdeal.nD Cert.GateInIdeal.τ).loc Cert.GateInIdeal.main_v0) = v0 c
          ∧ r.2.mem ((c.tc : Thread Cert.GateInIdeal.nD Cert.GateInIdeal.τ).loc Cert.GateInIdeal.main_arg0) = m ((c.tc : Thread Cert.GateInIdeal.nD Cert.GateInIdeal.τ).loc Cert.GateInIdeal.main_arg0)
          ∧ r.2.mem ((c.tc : Thread Cert.GateInIdeal.nD Cert.GateInIdeal.τ).loc Cert.GateInIdeal.main_arg1) = m ((c.tc : Thread Cert.GateInIdeal.nD Cert.GateInIdeal.τ).loc Cert.GateInIdeal.main_arg1))
      ∧ θ_run (Cert.GateInReferenceIdeal.defs (F := Ideal)) (onTc (τ := Cert.GateInReferenceIdeal.τ) (Cert.GateInReferenceIdeal.main (F := Ideal))) ⟨m', fun _ => 0, g'⟩ (fun r => ∀ c : Dev Cert.GateInReferenceIdeal.nD,
          r.2.mem ((c.tc : Thread Cert.GateInReferenceIdeal.nD Cert.GateInReferenceIdeal.τ).loc Cert.GateInReferenceIdeal.main_v2) = v0 c
          ∧ r.2.mem ((c.tc : Thread Cert.GateInReferenceIdeal.nD Cert.GateInReferenceIdeal.τ).loc Cert.GateInReferenceIdeal.main_arg0) = m' ((c.tc : Thread Cert.GateInReferenceIdeal.nD Cert.GateInReferenceIdeal.τ).loc Cert.GateInReferenceIdeal.main_arg0)
          ∧ r.2.mem ((c.tc : Thread Cert.GateInReferenceIdeal.nD Cert.GateInReferenceIdeal.τ).loc Cert.GateInReferenceIdeal.main_arg1) = m' ((c.tc : Thread Cert.GateInReferenceIdeal.nD Cert.GateInReferenceIdeal.τ).loc Cert.GateInReferenceIdeal.main_arg1))

def preserves_OutX_OutXIdeal : Prop :=
  True

def algebraic_OutXIdeal_OutXReferenceIdeal [hOutXIdeal : Cert.OutXIdeal.Facts] [hOutXReferenceIdeal : Cert.OutXReferenceIdeal.Facts] : Prop :=
  ∀ (m : (ℓ : Loc Cert.OutXIdeal.nD Cert.OutXIdeal.τ Cert.OutXIdeal.sig) → Buf (Elt Ideal) ℓ) (g : Dev Cert.OutXIdeal.nD → PrngReg)
    (m' : (ℓ : Loc Cert.OutXReferenceIdeal.nD Cert.OutXReferenceIdeal.τ Cert.OutXReferenceIdeal.sig) → Buf (Elt Ideal) ℓ) (g' : Dev Cert.OutXReferenceIdeal.nD → PrngReg), Pre_OutXIdeal m →
    (∀ c : Dev Cert.OutXIdeal.nD,
      m' ((c.tc : Thread Cert.OutXReferenceIdeal.nD Cert.OutXReferenceIdeal.τ).loc Cert.OutXReferenceIdeal.main_arg0) = m ((c.tc : Thread Cert.OutXIdeal.nD Cert.OutXIdeal.τ).loc Cert.OutXIdeal.main_arg0)
      ∧ m' ((c.tc : Thread Cert.OutXReferenceIdeal.nD Cert.OutXReferenceIdeal.τ).loc Cert.OutXReferenceIdeal.main_arg1) = m ((c.tc : Thread Cert.OutXIdeal.nD Cert.OutXIdeal.τ).loc Cert.OutXIdeal.main_arg1)) →
    ∃ (v0 : (c : Dev Cert.OutXIdeal.nD) → Buf (Elt Ideal) ((c.tc : Thread Cert.OutXIdeal.nD Cert.OutXIdeal.τ).loc Cert.OutXIdeal.main_v0)),
      θ_run (Cert.OutXIdeal.defs (F := Ideal)) (onTc (τ := Cert.OutXIdeal.τ) (Cert.OutXIdeal.main (F := Ideal))) ⟨m, fun _ => 0, g⟩ (fun r => ∀ c : Dev Cert.OutXIdeal.nD,
          r.2.mem ((c.tc : Thread Cert.OutXIdeal.nD Cert.OutXIdeal.τ).loc Cert.OutXIdeal.main_v0) = v0 c
          ∧ r.2.mem ((c.tc : Thread Cert.OutXIdeal.nD Cert.OutXIdeal.τ).loc Cert.OutXIdeal.main_arg0) = m ((c.tc : Thread Cert.OutXIdeal.nD Cert.OutXIdeal.τ).loc Cert.OutXIdeal.main_arg0)
          ∧ r.2.mem ((c.tc : Thread Cert.OutXIdeal.nD Cert.OutXIdeal.τ).loc Cert.OutXIdeal.main_arg1) = m ((c.tc : Thread Cert.OutXIdeal.nD Cert.OutXIdeal.τ).loc Cert.OutXIdeal.main_arg1))
      ∧ θ_run (Cert.OutXReferenceIdeal.defs (F := Ideal)) (onTc (τ := Cert.OutXReferenceIdeal.τ) (Cert.OutXReferenceIdeal.main (F := Ideal))) ⟨m', fun _ => 0, g'⟩ (fun r => ∀ c : Dev Cert.OutXReferenceIdeal.nD,
          r.2.mem ((c.tc : Thread Cert.OutXReferenceIdeal.nD Cert.OutXReferenceIdeal.τ).loc Cert.OutXReferenceIdeal.main_v4) = v0 c
          ∧ r.2.mem ((c.tc : Thread Cert.OutXReferenceIdeal.nD Cert.OutXReferenceIdeal.τ).loc Cert.OutXReferenceIdeal.main_arg0) = m' ((c.tc : Thread Cert.OutXReferenceIdeal.nD Cert.OutXReferenceIdeal.τ).loc Cert.OutXReferenceIdeal.main_arg0)
          ∧ r.2.mem ((c.tc : Thread Cert.OutXReferenceIdeal.nD Cert.OutXReferenceIdeal.τ).loc Cert.OutXReferenceIdeal.main_arg1) = m' ((c.tc : Thread Cert.OutXReferenceIdeal.nD Cert.OutXReferenceIdeal.τ).loc Cert.OutXReferenceIdeal.main_arg1))

def preserves_OutW_OutWIdeal : Prop :=
  True

def algebraic_OutWIdeal_OutWReferenceIdeal [hOutWIdeal : Cert.OutWIdeal.Facts] [hOutWReferenceIdeal : Cert.OutWReferenceIdeal.Facts] : Prop :=
  ∀ (m : (ℓ : Loc Cert.OutWIdeal.nD Cert.OutWIdeal.τ Cert.OutWIdeal.sig) → Buf (Elt Ideal) ℓ) (g : Dev Cert.OutWIdeal.nD → PrngReg)
    (m' : (ℓ : Loc Cert.OutWReferenceIdeal.nD Cert.OutWReferenceIdeal.τ Cert.OutWReferenceIdeal.sig) → Buf (Elt Ideal) ℓ) (g' : Dev Cert.OutWReferenceIdeal.nD → PrngReg), Pre_OutWIdeal m →
    (∀ c : Dev Cert.OutWIdeal.nD,
      m' ((c.tc : Thread Cert.OutWReferenceIdeal.nD Cert.OutWReferenceIdeal.τ).loc Cert.OutWReferenceIdeal.main_arg0) = m ((c.tc : Thread Cert.OutWIdeal.nD Cert.OutWIdeal.τ).loc Cert.OutWIdeal.main_arg0)
      ∧ m' ((c.tc : Thread Cert.OutWReferenceIdeal.nD Cert.OutWReferenceIdeal.τ).loc Cert.OutWReferenceIdeal.main_arg1) = m ((c.tc : Thread Cert.OutWIdeal.nD Cert.OutWIdeal.τ).loc Cert.OutWIdeal.main_arg1)) →
    ∃ (v0 : (c : Dev Cert.OutWIdeal.nD) → Buf (Elt Ideal) ((c.tc : Thread Cert.OutWIdeal.nD Cert.OutWIdeal.τ).loc Cert.OutWIdeal.main_v0)),
      θ_run (Cert.OutWIdeal.defs (F := Ideal)) (onTc (τ := Cert.OutWIdeal.τ) (Cert.OutWIdeal.main (F := Ideal))) ⟨m, fun _ => 0, g⟩ (fun r => ∀ c : Dev Cert.OutWIdeal.nD,
          r.2.mem ((c.tc : Thread Cert.OutWIdeal.nD Cert.OutWIdeal.τ).loc Cert.OutWIdeal.main_v0) = v0 c
          ∧ r.2.mem ((c.tc : Thread Cert.OutWIdeal.nD Cert.OutWIdeal.τ).loc Cert.OutWIdeal.main_arg0) = m ((c.tc : Thread Cert.OutWIdeal.nD Cert.OutWIdeal.τ).loc Cert.OutWIdeal.main_arg0)
          ∧ r.2.mem ((c.tc : Thread Cert.OutWIdeal.nD Cert.OutWIdeal.τ).loc Cert.OutWIdeal.main_arg1) = m ((c.tc : Thread Cert.OutWIdeal.nD Cert.OutWIdeal.τ).loc Cert.OutWIdeal.main_arg1))
      ∧ θ_run (Cert.OutWReferenceIdeal.defs (F := Ideal)) (onTc (τ := Cert.OutWReferenceIdeal.τ) (Cert.OutWReferenceIdeal.main (F := Ideal))) ⟨m', fun _ => 0, g'⟩ (fun r => ∀ c : Dev Cert.OutWReferenceIdeal.nD,
          r.2.mem ((c.tc : Thread Cert.OutWReferenceIdeal.nD Cert.OutWReferenceIdeal.τ).loc Cert.OutWReferenceIdeal.main_v5) = v0 c
          ∧ r.2.mem ((c.tc : Thread Cert.OutWReferenceIdeal.nD Cert.OutWReferenceIdeal.τ).loc Cert.OutWReferenceIdeal.main_arg0) = m' ((c.tc : Thread Cert.OutWReferenceIdeal.nD Cert.OutWReferenceIdeal.τ).loc Cert.OutWReferenceIdeal.main_arg0)
          ∧ r.2.mem ((c.tc : Thread Cert.OutWReferenceIdeal.nD Cert.OutWReferenceIdeal.τ).loc Cert.OutWReferenceIdeal.main_arg1) = m' ((c.tc : Thread Cert.OutWReferenceIdeal.nD Cert.OutWReferenceIdeal.τ).loc Cert.OutWReferenceIdeal.main_arg1))

def preserves_Out_OutIdeal : Prop :=
  True

def algebraic_OutIdeal_OutReferenceIdeal [hOutIdeal : Cert.OutIdeal.Facts] [hOutReferenceIdeal : Cert.OutReferenceIdeal.Facts] : Prop :=
  ∀ (m : (ℓ : Loc Cert.OutIdeal.nD Cert.OutIdeal.τ Cert.OutIdeal.sig) → Buf (Elt Ideal) ℓ) (g : Dev Cert.OutIdeal.nD → PrngReg)
    (m' : (ℓ : Loc Cert.OutReferenceIdeal.nD Cert.OutReferenceIdeal.τ Cert.OutReferenceIdeal.sig) → Buf (Elt Ideal) ℓ) (g' : Dev Cert.OutReferenceIdeal.nD → PrngReg), Pre_OutIdeal m →
    (∀ c : Dev Cert.OutIdeal.nD,
      m' ((c.tc : Thread Cert.OutReferenceIdeal.nD Cert.OutReferenceIdeal.τ).loc Cert.OutReferenceIdeal.main_arg0) = m ((c.tc : Thread Cert.OutIdeal.nD Cert.OutIdeal.τ).loc Cert.OutIdeal.main_arg0)
      ∧ m' ((c.tc : Thread Cert.OutReferenceIdeal.nD Cert.OutReferenceIdeal.τ).loc Cert.OutReferenceIdeal.main_arg1) = m ((c.tc : Thread Cert.OutIdeal.nD Cert.OutIdeal.τ).loc Cert.OutIdeal.main_arg1)) →
    ∃ (v0 : (c : Dev Cert.OutIdeal.nD) → Buf (Elt Ideal) ((c.tc : Thread Cert.OutIdeal.nD Cert.OutIdeal.τ).loc Cert.OutIdeal.main_v0)),
      θ_run (Cert.OutIdeal.defs (F := Ideal)) (onTc (τ := Cert.OutIdeal.τ) (Cert.OutIdeal.main (F := Ideal))) ⟨m, fun _ => 0, g⟩ (fun r => ∀ c : Dev Cert.OutIdeal.nD,
          r.2.mem ((c.tc : Thread Cert.OutIdeal.nD Cert.OutIdeal.τ).loc Cert.OutIdeal.main_v0) = v0 c
          ∧ r.2.mem ((c.tc : Thread Cert.OutIdeal.nD Cert.OutIdeal.τ).loc Cert.OutIdeal.main_arg0) = m ((c.tc : Thread Cert.OutIdeal.nD Cert.OutIdeal.τ).loc Cert.OutIdeal.main_arg0)
          ∧ r.2.mem ((c.tc : Thread Cert.OutIdeal.nD Cert.OutIdeal.τ).loc Cert.OutIdeal.main_arg1) = m ((c.tc : Thread Cert.OutIdeal.nD Cert.OutIdeal.τ).loc Cert.OutIdeal.main_arg1))
      ∧ θ_run (Cert.OutReferenceIdeal.defs (F := Ideal)) (onTc (τ := Cert.OutReferenceIdeal.τ) (Cert.OutReferenceIdeal.main (F := Ideal))) ⟨m', fun _ => 0, g'⟩ (fun r => ∀ c : Dev Cert.OutReferenceIdeal.nD,
          r.2.mem ((c.tc : Thread Cert.OutReferenceIdeal.nD Cert.OutReferenceIdeal.τ).loc Cert.OutReferenceIdeal.main_v2) = v0 c
          ∧ r.2.mem ((c.tc : Thread Cert.OutReferenceIdeal.nD Cert.OutReferenceIdeal.τ).loc Cert.OutReferenceIdeal.main_arg0) = m' ((c.tc : Thread Cert.OutReferenceIdeal.nD Cert.OutReferenceIdeal.τ).loc Cert.OutReferenceIdeal.main_arg0)
          ∧ r.2.mem ((c.tc : Thread Cert.OutReferenceIdeal.nD Cert.OutReferenceIdeal.τ).loc Cert.OutReferenceIdeal.main_arg1) = m' ((c.tc : Thread Cert.OutReferenceIdeal.nD Cert.OutReferenceIdeal.τ).loc Cert.OutReferenceIdeal.main_arg1))

def preserves_MergeX_MergeXIdeal : Prop :=
  True

def algebraic_MergeXIdeal_MergeXReferenceIdeal [hMergeXIdeal : Cert.MergeXIdeal.Facts] [hMergeXReferenceIdeal : Cert.MergeXReferenceIdeal.Facts] : Prop :=
  ∀ (m : (ℓ : Loc Cert.MergeXIdeal.nD Cert.MergeXIdeal.τ Cert.MergeXIdeal.sig) → Buf (Elt Ideal) ℓ) (g : Dev Cert.MergeXIdeal.nD → PrngReg)
    (m' : (ℓ : Loc Cert.MergeXReferenceIdeal.nD Cert.MergeXReferenceIdeal.τ Cert.MergeXReferenceIdeal.sig) → Buf (Elt Ideal) ℓ) (g' : Dev Cert.MergeXReferenceIdeal.nD → PrngReg), Pre_MergeXIdeal m →
    (∀ c : Dev Cert.MergeXIdeal.nD,
      m' ((c.tc : Thread Cert.MergeXReferenceIdeal.nD Cert.MergeXReferenceIdeal.τ).loc Cert.MergeXReferenceIdeal.main_arg0) = m ((c.tc : Thread Cert.MergeXIdeal.nD Cert.MergeXIdeal.τ).loc Cert.MergeXIdeal.main_arg0)
      ∧ m' ((c.tc : Thread Cert.MergeXReferenceIdeal.nD Cert.MergeXReferenceIdeal.τ).loc Cert.MergeXReferenceIdeal.main_arg1) = m ((c.tc : Thread Cert.MergeXIdeal.nD Cert.MergeXIdeal.τ).loc Cert.MergeXIdeal.main_arg1)
      ∧ m' ((c.tc : Thread Cert.MergeXReferenceIdeal.nD Cert.MergeXReferenceIdeal.τ).loc Cert.MergeXReferenceIdeal.main_arg2) = m ((c.tc : Thread Cert.MergeXIdeal.nD Cert.MergeXIdeal.τ).loc Cert.MergeXIdeal.main_arg2)
      ∧ m' ((c.tc : Thread Cert.MergeXReferenceIdeal.nD Cert.MergeXReferenceIdeal.τ).loc Cert.MergeXReferenceIdeal.main_arg3) = m ((c.tc : Thread Cert.MergeXIdeal.nD Cert.MergeXIdeal.τ).loc Cert.MergeXIdeal.main_arg3)
      ∧ m' ((c.tc : Thread Cert.MergeXReferenceIdeal.nD Cert.MergeXReferenceIdeal.τ).loc Cert.MergeXReferenceIdeal.main_arg4) = m ((c.tc : Thread Cert.MergeXIdeal.nD Cert.MergeXIdeal.τ).loc Cert.MergeXIdeal.main_arg4)
      ∧ m' ((c.tc : Thread Cert.MergeXReferenceIdeal.nD Cert.MergeXReferenceIdeal.τ).loc Cert.MergeXReferenceIdeal.main_arg5) = m ((c.tc : Thread Cert.MergeXIdeal.nD Cert.MergeXIdeal.τ).loc Cert.MergeXIdeal.main_arg5)
      ∧ m' ((c.tc : Thread Cert.MergeXReferenceIdeal.nD Cert.MergeXReferenceIdeal.τ).loc Cert.MergeXReferenceIdeal.main_arg6) = m ((c.tc : Thread Cert.MergeXIdeal.nD Cert.MergeXIdeal.τ).loc Cert.MergeXIdeal.main_arg6)
      ∧ m' ((c.tc : Thread Cert.MergeXReferenceIdeal.nD Cert.MergeXReferenceIdeal.τ).loc Cert.MergeXReferenceIdeal.main_arg7) = m ((c.tc : Thread Cert.MergeXIdeal.nD Cert.MergeXIdeal.τ).loc Cert.MergeXIdeal.main_arg7)) →
    ∃ (v0 : (c : Dev Cert.MergeXIdeal.nD) → Buf (Elt Ideal) ((c.tc : Thread Cert.MergeXIdeal.nD Cert.MergeXIdeal.τ).loc Cert.MergeXIdeal.main_v0_0)) (v1 : (c : Dev Cert.MergeXIdeal.nD) → Buf (Elt Ideal) ((c.tc : Thread Cert.MergeXIdeal.nD Cert.MergeXIdeal.τ).loc Cert.MergeXIdeal.main_v0_1)) (v2 : (c : Dev Cert.MergeXIdeal.nD) → Buf (Elt Ideal) ((c.tc : Thread Cert.MergeXIdeal.nD Cert.MergeXIdeal.τ).loc Cert.MergeXIdeal.main_v0_2)) (v3 : (c : Dev Cert.MergeXIdeal.nD) → Buf (Elt Ideal) ((c.tc : Thread Cert.MergeXIdeal.nD Cert.MergeXIdeal.τ).loc Cert.MergeXIdeal.main_v0_3)) (v4 : (c : Dev Cert.MergeXIdeal.nD) → Buf (Elt Ideal) ((c.tc : Thread Cert.MergeXIdeal.nD Cert.MergeXIdeal.τ).loc Cert.MergeXIdeal.main_v0_4)) (v5 : (c : Dev Cert.MergeXIdeal.nD) → Buf (Elt Ideal) ((c.tc : Thread Cert.MergeXIdeal.nD Cert.MergeXIdeal.τ).loc Cert.MergeXIdeal.main_v0_5)) (v6 : (c : Dev Cert.MergeXIdeal.nD) → Buf (Elt Ideal) ((c.tc : Thread Cert.MergeXIdeal.nD Cert.MergeXIdeal.τ).loc Cert.MergeXIdeal.main_v0_6)),
      θ_run (Cert.MergeXIdeal.defs (F := Ideal)) (onTc (τ := Cert.MergeXIdeal.τ) (Cert.MergeXIdeal.main (F := Ideal))) ⟨m, fun _ => 0, g⟩ (fun r => ∀ c : Dev Cert.MergeXIdeal.nD,
          r.2.mem ((c.tc : Thread Cert.MergeXIdeal.nD Cert.MergeXIdeal.τ).loc Cert.MergeXIdeal.main_v0_0) = v0 c
          ∧ r.2.mem ((c.tc : Thread Cert.MergeXIdeal.nD Cert.MergeXIdeal.τ).loc Cert.MergeXIdeal.main_v0_1) = v1 c
          ∧ r.2.mem ((c.tc : Thread Cert.MergeXIdeal.nD Cert.MergeXIdeal.τ).loc Cert.MergeXIdeal.main_v0_2) = v2 c
          ∧ r.2.mem ((c.tc : Thread Cert.MergeXIdeal.nD Cert.MergeXIdeal.τ).loc Cert.MergeXIdeal.main_v0_3) = v3 c
          ∧ r.2.mem ((c.tc : Thread Cert.MergeXIdeal.nD Cert.MergeXIdeal.τ).loc Cert.MergeXIdeal.main_v0_4) = v4 c
          ∧ r.2.mem ((c.tc : Thread Cert.MergeXIdeal.nD Cert.MergeXIdeal.τ).loc Cert.MergeXIdeal.main_v0_5) = v5 c
          ∧ r.2.mem ((c.tc : Thread Cert.MergeXIdeal.nD Cert.MergeXIdeal.τ).loc Cert.MergeXIdeal.main_v0_6) = v6 c
          ∧ r.2.mem ((c.tc : Thread Cert.MergeXIdeal.nD Cert.MergeXIdeal.τ).loc Cert.MergeXIdeal.main_arg0) = m ((c.tc : Thread Cert.MergeXIdeal.nD Cert.MergeXIdeal.τ).loc Cert.MergeXIdeal.main_arg0)
          ∧ r.2.mem ((c.tc : Thread Cert.MergeXIdeal.nD Cert.MergeXIdeal.τ).loc Cert.MergeXIdeal.main_arg1) = m ((c.tc : Thread Cert.MergeXIdeal.nD Cert.MergeXIdeal.τ).loc Cert.MergeXIdeal.main_arg1)
          ∧ r.2.mem ((c.tc : Thread Cert.MergeXIdeal.nD Cert.MergeXIdeal.τ).loc Cert.MergeXIdeal.main_arg2) = m ((c.tc : Thread Cert.MergeXIdeal.nD Cert.MergeXIdeal.τ).loc Cert.MergeXIdeal.main_arg2)
          ∧ r.2.mem ((c.tc : Thread Cert.MergeXIdeal.nD Cert.MergeXIdeal.τ).loc Cert.MergeXIdeal.main_arg3) = m ((c.tc : Thread Cert.MergeXIdeal.nD Cert.MergeXIdeal.τ).loc Cert.MergeXIdeal.main_arg3)
          ∧ r.2.mem ((c.tc : Thread Cert.MergeXIdeal.nD Cert.MergeXIdeal.τ).loc Cert.MergeXIdeal.main_arg4) = m ((c.tc : Thread Cert.MergeXIdeal.nD Cert.MergeXIdeal.τ).loc Cert.MergeXIdeal.main_arg4)
          ∧ r.2.mem ((c.tc : Thread Cert.MergeXIdeal.nD Cert.MergeXIdeal.τ).loc Cert.MergeXIdeal.main_arg5) = m ((c.tc : Thread Cert.MergeXIdeal.nD Cert.MergeXIdeal.τ).loc Cert.MergeXIdeal.main_arg5)
          ∧ r.2.mem ((c.tc : Thread Cert.MergeXIdeal.nD Cert.MergeXIdeal.τ).loc Cert.MergeXIdeal.main_arg6) = m ((c.tc : Thread Cert.MergeXIdeal.nD Cert.MergeXIdeal.τ).loc Cert.MergeXIdeal.main_arg6)
          ∧ r.2.mem ((c.tc : Thread Cert.MergeXIdeal.nD Cert.MergeXIdeal.τ).loc Cert.MergeXIdeal.main_arg7) = m ((c.tc : Thread Cert.MergeXIdeal.nD Cert.MergeXIdeal.τ).loc Cert.MergeXIdeal.main_arg7))
      ∧ θ_run (Cert.MergeXReferenceIdeal.defs (F := Ideal)) (onTc (τ := Cert.MergeXReferenceIdeal.τ) (Cert.MergeXReferenceIdeal.main (F := Ideal))) ⟨m', fun _ => 0, g'⟩ (fun r => ∀ c : Dev Cert.MergeXReferenceIdeal.nD,
          r.2.mem ((c.tc : Thread Cert.MergeXReferenceIdeal.nD Cert.MergeXReferenceIdeal.τ).loc Cert.MergeXReferenceIdeal.main_v39) = v0 c
          ∧ r.2.mem ((c.tc : Thread Cert.MergeXReferenceIdeal.nD Cert.MergeXReferenceIdeal.τ).loc Cert.MergeXReferenceIdeal.main_v34) = v1 c
          ∧ r.2.mem ((c.tc : Thread Cert.MergeXReferenceIdeal.nD Cert.MergeXReferenceIdeal.τ).loc Cert.MergeXReferenceIdeal.main_v29) = v2 c
          ∧ r.2.mem ((c.tc : Thread Cert.MergeXReferenceIdeal.nD Cert.MergeXReferenceIdeal.τ).loc Cert.MergeXReferenceIdeal.main_v42) = v3 c
          ∧ r.2.mem ((c.tc : Thread Cert.MergeXReferenceIdeal.nD Cert.MergeXReferenceIdeal.τ).loc Cert.MergeXReferenceIdeal.main_v38) = v4 c
          ∧ r.2.mem ((c.tc : Thread Cert.MergeXReferenceIdeal.nD Cert.MergeXReferenceIdeal.τ).loc Cert.MergeXReferenceIdeal.main_v33) = v5 c
          ∧ r.2.mem ((c.tc : Thread Cert.MergeXReferenceIdeal.nD Cert.MergeXReferenceIdeal.τ).loc Cert.MergeXReferenceIdeal.main_v28) = v6 c
          ∧ r.2.mem ((c.tc : Thread Cert.MergeXReferenceIdeal.nD Cert.MergeXReferenceIdeal.τ).loc Cert.MergeXReferenceIdeal.main_arg0) = m' ((c.tc : Thread Cert.MergeXReferenceIdeal.nD Cert.MergeXReferenceIdeal.τ).loc Cert.MergeXReferenceIdeal.main_arg0)
          ∧ r.2.mem ((c.tc : Thread Cert.MergeXReferenceIdeal.nD Cert.MergeXReferenceIdeal.τ).loc Cert.MergeXReferenceIdeal.main_arg1) = m' ((c.tc : Thread Cert.MergeXReferenceIdeal.nD Cert.MergeXReferenceIdeal.τ).loc Cert.MergeXReferenceIdeal.main_arg1)
          ∧ r.2.mem ((c.tc : Thread Cert.MergeXReferenceIdeal.nD Cert.MergeXReferenceIdeal.τ).loc Cert.MergeXReferenceIdeal.main_arg2) = m' ((c.tc : Thread Cert.MergeXReferenceIdeal.nD Cert.MergeXReferenceIdeal.τ).loc Cert.MergeXReferenceIdeal.main_arg2)
          ∧ r.2.mem ((c.tc : Thread Cert.MergeXReferenceIdeal.nD Cert.MergeXReferenceIdeal.τ).loc Cert.MergeXReferenceIdeal.main_arg3) = m' ((c.tc : Thread Cert.MergeXReferenceIdeal.nD Cert.MergeXReferenceIdeal.τ).loc Cert.MergeXReferenceIdeal.main_arg3)
          ∧ r.2.mem ((c.tc : Thread Cert.MergeXReferenceIdeal.nD Cert.MergeXReferenceIdeal.τ).loc Cert.MergeXReferenceIdeal.main_arg4) = m' ((c.tc : Thread Cert.MergeXReferenceIdeal.nD Cert.MergeXReferenceIdeal.τ).loc Cert.MergeXReferenceIdeal.main_arg4)
          ∧ r.2.mem ((c.tc : Thread Cert.MergeXReferenceIdeal.nD Cert.MergeXReferenceIdeal.τ).loc Cert.MergeXReferenceIdeal.main_arg5) = m' ((c.tc : Thread Cert.MergeXReferenceIdeal.nD Cert.MergeXReferenceIdeal.τ).loc Cert.MergeXReferenceIdeal.main_arg5)
          ∧ r.2.mem ((c.tc : Thread Cert.MergeXReferenceIdeal.nD Cert.MergeXReferenceIdeal.τ).loc Cert.MergeXReferenceIdeal.main_arg6) = m' ((c.tc : Thread Cert.MergeXReferenceIdeal.nD Cert.MergeXReferenceIdeal.τ).loc Cert.MergeXReferenceIdeal.main_arg6)
          ∧ r.2.mem ((c.tc : Thread Cert.MergeXReferenceIdeal.nD Cert.MergeXReferenceIdeal.τ).loc Cert.MergeXReferenceIdeal.main_arg7) = m' ((c.tc : Thread Cert.MergeXReferenceIdeal.nD Cert.MergeXReferenceIdeal.τ).loc Cert.MergeXReferenceIdeal.main_arg7))

def preserves_Merge_MergeIdeal : Prop :=
  True

def algebraic_MergeIdeal_MergeReferenceIdeal [hMergeIdeal : Cert.MergeIdeal.Facts] [hMergeReferenceIdeal : Cert.MergeReferenceIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeReferenceIdeal.nD Cert.MergeReferenceIdeal.τ Cert.MergeReferenceIdeal.sig) → Buf (Elt Ideal) ℓ) (g' : Dev Cert.MergeReferenceIdeal.nD → PrngReg), Pre_MergeIdeal m →
    (∀ c : Dev Cert.MergeIdeal.nD,
      m' ((c.tc : Thread Cert.MergeReferenceIdeal.nD Cert.MergeReferenceIdeal.τ).loc Cert.MergeReferenceIdeal.main_arg0) = m ((c.tc : Thread Cert.MergeIdeal.nD Cert.MergeIdeal.τ).loc Cert.MergeIdeal.main_arg0)
      ∧ m' ((c.tc : Thread Cert.MergeReferenceIdeal.nD Cert.MergeReferenceIdeal.τ).loc Cert.MergeReferenceIdeal.main_arg1) = m ((c.tc : Thread Cert.MergeIdeal.nD Cert.MergeIdeal.τ).loc Cert.MergeIdeal.main_arg1)
      ∧ m' ((c.tc : Thread Cert.MergeReferenceIdeal.nD Cert.MergeReferenceIdeal.τ).loc Cert.MergeReferenceIdeal.main_arg2) = m ((c.tc : Thread Cert.MergeIdeal.nD Cert.MergeIdeal.τ).loc Cert.MergeIdeal.main_arg2)
      ∧ m' ((c.tc : Thread Cert.MergeReferenceIdeal.nD Cert.MergeReferenceIdeal.τ).loc Cert.MergeReferenceIdeal.main_arg3) = m ((c.tc : Thread Cert.MergeIdeal.nD Cert.MergeIdeal.τ).loc Cert.MergeIdeal.main_arg3)
      ∧ m' ((c.tc : Thread Cert.MergeReferenceIdeal.nD Cert.MergeReferenceIdeal.τ).loc Cert.MergeReferenceIdeal.main_arg4) = m ((c.tc : Thread Cert.MergeIdeal.nD Cert.MergeIdeal.τ).loc Cert.MergeIdeal.main_arg4)
      ∧ m' ((c.tc : Thread Cert.MergeReferenceIdeal.nD Cert.MergeReferenceIdeal.τ).loc Cert.MergeReferenceIdeal.main_arg5) = m ((c.tc : Thread Cert.MergeIdeal.nD Cert.MergeIdeal.τ).loc Cert.MergeIdeal.main_arg5)
      ∧ m' ((c.tc : Thread Cert.MergeReferenceIdeal.nD Cert.MergeReferenceIdeal.τ).loc Cert.MergeReferenceIdeal.main_arg6) = m ((c.tc : Thread Cert.MergeIdeal.nD Cert.MergeIdeal.τ).loc Cert.MergeIdeal.main_arg6)) →
    ∃ (v0 : (c : Dev Cert.MergeIdeal.nD) → Buf (Elt Ideal) ((c.tc : Thread Cert.MergeIdeal.nD Cert.MergeIdeal.τ).loc Cert.MergeIdeal.main_v0)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v0) = v0 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
          ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
          ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6))
      ∧ θ_run (Cert.MergeReferenceIdeal.defs (F := Ideal)) (onTc (τ := Cert.MergeReferenceIdeal.τ) (Cert.MergeReferenceIdeal.main (F := Ideal))) ⟨m', fun _ => 0, g'⟩ (fun r => ∀ c : Dev Cert.MergeReferenceIdeal.nD,
          r.2.mem ((c.tc : Thread Cert.MergeReferenceIdeal.nD Cert.MergeReferenceIdeal.τ).loc Cert.MergeReferenceIdeal.main_v20) = v0 c
          ∧ r.2.mem ((c.tc : Thread Cert.MergeReferenceIdeal.nD Cert.MergeReferenceIdeal.τ).loc Cert.MergeReferenceIdeal.main_arg0) = m' ((c.tc : Thread Cert.MergeReferenceIdeal.nD Cert.MergeReferenceIdeal.τ).loc Cert.MergeReferenceIdeal.main_arg0)
          ∧ r.2.mem ((c.tc : Thread Cert.MergeReferenceIdeal.nD Cert.MergeReferenceIdeal.τ).loc Cert.MergeReferenceIdeal.main_arg1) = m' ((c.tc : Thread Cert.MergeReferenceIdeal.nD Cert.MergeReferenceIdeal.τ).loc Cert.MergeReferenceIdeal.main_arg1)
          ∧ r.2.mem ((c.tc : Thread Cert.MergeReferenceIdeal.nD Cert.MergeReferenceIdeal.τ).loc Cert.MergeReferenceIdeal.main_arg2) = m' ((c.tc : Thread Cert.MergeReferenceIdeal.nD Cert.MergeReferenceIdeal.τ).loc Cert.MergeReferenceIdeal.main_arg2)
          ∧ r.2.mem ((c.tc : Thread Cert.MergeReferenceIdeal.nD Cert.MergeReferenceIdeal.τ).loc Cert.MergeReferenceIdeal.main_arg3) = m' ((c.tc : Thread Cert.MergeReferenceIdeal.nD Cert.MergeReferenceIdeal.τ).loc Cert.MergeReferenceIdeal.main_arg3)
          ∧ r.2.mem ((c.tc : Thread Cert.MergeReferenceIdeal.nD Cert.MergeReferenceIdeal.τ).loc Cert.MergeReferenceIdeal.main_arg4) = m' ((c.tc : Thread Cert.MergeReferenceIdeal.nD Cert.MergeReferenceIdeal.τ).loc Cert.MergeReferenceIdeal.main_arg4)
          ∧ r.2.mem ((c.tc : Thread Cert.MergeReferenceIdeal.nD Cert.MergeReferenceIdeal.τ).loc Cert.MergeReferenceIdeal.main_arg5) = m' ((c.tc : Thread Cert.MergeReferenceIdeal.nD Cert.MergeReferenceIdeal.τ).loc Cert.MergeReferenceIdeal.main_arg5)
          ∧ r.2.mem ((c.tc : Thread Cert.MergeReferenceIdeal.nD Cert.MergeReferenceIdeal.τ).loc Cert.MergeReferenceIdeal.main_arg6) = m' ((c.tc : Thread Cert.MergeReferenceIdeal.nD Cert.MergeReferenceIdeal.τ).loc Cert.MergeReferenceIdeal.main_arg6))

def preserves_AdaW_AdaWIdeal : Prop :=
  True

def algebraic_AdaWIdeal_AdaWReferenceIdeal [hAdaWIdeal : Cert.AdaWIdeal.Facts] [hAdaWReferenceIdeal : Cert.AdaWReferenceIdeal.Facts] : Prop :=
  ∀ (m : (ℓ : Loc Cert.AdaWIdeal.nD Cert.AdaWIdeal.τ Cert.AdaWIdeal.sig) → Buf (Elt Ideal) ℓ) (g : Dev Cert.AdaWIdeal.nD → PrngReg)
    (m' : (ℓ : Loc Cert.AdaWReferenceIdeal.nD Cert.AdaWReferenceIdeal.τ Cert.AdaWReferenceIdeal.sig) → Buf (Elt Ideal) ℓ) (g' : Dev Cert.AdaWReferenceIdeal.nD → PrngReg), Pre_AdaWIdeal m →
    (∀ c : Dev Cert.AdaWIdeal.nD,
      m' ((c.tc : Thread Cert.AdaWReferenceIdeal.nD Cert.AdaWReferenceIdeal.τ).loc Cert.AdaWReferenceIdeal.main_arg0) = m ((c.tc : Thread Cert.AdaWIdeal.nD Cert.AdaWIdeal.τ).loc Cert.AdaWIdeal.main_arg0)
      ∧ m' ((c.tc : Thread Cert.AdaWReferenceIdeal.nD Cert.AdaWReferenceIdeal.τ).loc Cert.AdaWReferenceIdeal.main_arg1) = m ((c.tc : Thread Cert.AdaWIdeal.nD Cert.AdaWIdeal.τ).loc Cert.AdaWIdeal.main_arg1)) →
    ∃ (v0 : (c : Dev Cert.AdaWIdeal.nD) → Buf (Elt Ideal) ((c.tc : Thread Cert.AdaWIdeal.nD Cert.AdaWIdeal.τ).loc Cert.AdaWIdeal.main_v0)),
      θ_run (Cert.AdaWIdeal.defs (F := Ideal)) (onTc (τ := Cert.AdaWIdeal.τ) (Cert.AdaWIdeal.main (F := Ideal))) ⟨m, fun _ => 0, g⟩ (fun r => ∀ c : Dev Cert.AdaWIdeal.nD,
          r.2.mem ((c.tc : Thread Cert.AdaWIdeal.nD Cert.AdaWIdeal.τ).loc Cert.AdaWIdeal.main_v0) = v0 c
          ∧ r.2.mem ((c.tc : Thread Cert.AdaWIdeal.nD Cert.AdaWIdeal.τ).loc Cert.AdaWIdeal.main_arg0) = m ((c.tc : Thread Cert.AdaWIdeal.nD Cert.AdaWIdeal.τ).loc Cert.AdaWIdeal.main_arg0)
          ∧ r.2.mem ((c.tc : Thread Cert.AdaWIdeal.nD Cert.AdaWIdeal.τ).loc Cert.AdaWIdeal.main_arg1) = m ((c.tc : Thread Cert.AdaWIdeal.nD Cert.AdaWIdeal.τ).loc Cert.AdaWIdeal.main_arg1))
      ∧ θ_run (Cert.AdaWReferenceIdeal.defs (F := Ideal)) (onTc (τ := Cert.AdaWReferenceIdeal.τ) (Cert.AdaWReferenceIdeal.main (F := Ideal))) ⟨m', fun _ => 0, g'⟩ (fun r => ∀ c : Dev Cert.AdaWReferenceIdeal.nD,
          r.2.mem ((c.tc : Thread Cert.AdaWReferenceIdeal.nD Cert.AdaWReferenceIdeal.τ).loc Cert.AdaWReferenceIdeal.main_v3) = v0 c
          ∧ r.2.mem ((c.tc : Thread Cert.AdaWReferenceIdeal.nD Cert.AdaWReferenceIdeal.τ).loc Cert.AdaWReferenceIdeal.main_arg0) = m' ((c.tc : Thread Cert.AdaWReferenceIdeal.nD Cert.AdaWReferenceIdeal.τ).loc Cert.AdaWReferenceIdeal.main_arg0)
          ∧ r.2.mem ((c.tc : Thread Cert.AdaWReferenceIdeal.nD Cert.AdaWReferenceIdeal.τ).loc Cert.AdaWReferenceIdeal.main_arg1) = m' ((c.tc : Thread Cert.AdaWReferenceIdeal.nD Cert.AdaWReferenceIdeal.τ).loc Cert.AdaWReferenceIdeal.main_arg1))

def preserves_Mod_ModIdeal : Prop :=
  True

def algebraic_ModIdeal_ModReferenceIdeal [hModIdeal : Cert.ModIdeal.Facts] [hModReferenceIdeal : Cert.ModReferenceIdeal.Facts] : Prop :=
  ∀ (m : (ℓ : Loc Cert.ModIdeal.nD Cert.ModIdeal.τ Cert.ModIdeal.sig) → Buf (Elt Ideal) ℓ) (g : Dev Cert.ModIdeal.nD → PrngReg)
    (m' : (ℓ : Loc Cert.ModReferenceIdeal.nD Cert.ModReferenceIdeal.τ Cert.ModReferenceIdeal.sig) → Buf (Elt Ideal) ℓ) (g' : Dev Cert.ModReferenceIdeal.nD → PrngReg), Pre_ModIdeal m →
    (∀ c : Dev Cert.ModIdeal.nD,
      m' ((c.tc : Thread Cert.ModReferenceIdeal.nD Cert.ModReferenceIdeal.τ).loc Cert.ModReferenceIdeal.main_arg0) = m ((c.tc : Thread Cert.ModIdeal.nD Cert.ModIdeal.τ).loc Cert.ModIdeal.main_arg0)
      ∧ m' ((c.tc : Thread Cert.ModReferenceIdeal.nD Cert.ModReferenceIdeal.τ).loc Cert.ModReferenceIdeal.main_arg1) = m ((c.tc : Thread Cert.ModIdeal.nD Cert.ModIdeal.τ).loc Cert.ModIdeal.main_arg1)
      ∧ m' ((c.tc : Thread Cert.ModReferenceIdeal.nD Cert.ModReferenceIdeal.τ).loc Cert.ModReferenceIdeal.main_arg2) = m ((c.tc : Thread Cert.ModIdeal.nD Cert.ModIdeal.τ).loc Cert.ModIdeal.main_arg2)) →
    ∃ (v0 : (c : Dev Cert.ModIdeal.nD) → Buf (Elt Ideal) ((c.tc : Thread Cert.ModIdeal.nD Cert.ModIdeal.τ).loc Cert.ModIdeal.main_v0)),
      θ_run (Cert.ModIdeal.defs (F := Ideal)) (onTc (τ := Cert.ModIdeal.τ) (Cert.ModIdeal.main (F := Ideal))) ⟨m, fun _ => 0, g⟩ (fun r => ∀ c : Dev Cert.ModIdeal.nD,
          r.2.mem ((c.tc : Thread Cert.ModIdeal.nD Cert.ModIdeal.τ).loc Cert.ModIdeal.main_v0) = v0 c
          ∧ r.2.mem ((c.tc : Thread Cert.ModIdeal.nD Cert.ModIdeal.τ).loc Cert.ModIdeal.main_arg0) = m ((c.tc : Thread Cert.ModIdeal.nD Cert.ModIdeal.τ).loc Cert.ModIdeal.main_arg0)
          ∧ r.2.mem ((c.tc : Thread Cert.ModIdeal.nD Cert.ModIdeal.τ).loc Cert.ModIdeal.main_arg1) = m ((c.tc : Thread Cert.ModIdeal.nD Cert.ModIdeal.τ).loc Cert.ModIdeal.main_arg1)
          ∧ r.2.mem ((c.tc : Thread Cert.ModIdeal.nD Cert.ModIdeal.τ).loc Cert.ModIdeal.main_arg2) = m ((c.tc : Thread Cert.ModIdeal.nD Cert.ModIdeal.τ).loc Cert.ModIdeal.main_arg2))
      ∧ θ_run (Cert.ModReferenceIdeal.defs (F := Ideal)) (onTc (τ := Cert.ModReferenceIdeal.τ) (Cert.ModReferenceIdeal.main (F := Ideal))) ⟨m', fun _ => 0, g'⟩ (fun r => ∀ c : Dev Cert.ModReferenceIdeal.nD,
          r.2.mem ((c.tc : Thread Cert.ModReferenceIdeal.nD Cert.ModReferenceIdeal.τ).loc Cert.ModReferenceIdeal.main_v3) = v0 c
          ∧ r.2.mem ((c.tc : Thread Cert.ModReferenceIdeal.nD Cert.ModReferenceIdeal.τ).loc Cert.ModReferenceIdeal.main_arg0) = m' ((c.tc : Thread Cert.ModReferenceIdeal.nD Cert.ModReferenceIdeal.τ).loc Cert.ModReferenceIdeal.main_arg0)
          ∧ r.2.mem ((c.tc : Thread Cert.ModReferenceIdeal.nD Cert.ModReferenceIdeal.τ).loc Cert.ModReferenceIdeal.main_arg1) = m' ((c.tc : Thread Cert.ModReferenceIdeal.nD Cert.ModReferenceIdeal.τ).loc Cert.ModReferenceIdeal.main_arg1)
          ∧ r.2.mem ((c.tc : Thread Cert.ModReferenceIdeal.nD Cert.ModReferenceIdeal.τ).loc Cert.ModReferenceIdeal.main_arg2) = m' ((c.tc : Thread Cert.ModReferenceIdeal.nD Cert.ModReferenceIdeal.τ).loc Cert.ModReferenceIdeal.main_arg2))

def preserves_AdamAda_AdamAdaIdeal : Prop :=
  True

def algebraic_AdamAdaIdeal_AdamAdaReferenceIdeal [hAdamAdaIdeal : Cert.AdamAdaIdeal.Facts] [hAdamAdaReferenceIdeal : Cert.AdamAdaReferenceIdeal.Facts] : Prop :=
  ∀ (m : (ℓ : Loc Cert.AdamAdaIdeal.nD Cert.AdamAdaIdeal.τ Cert.AdamAdaIdeal.sig) → Buf (Elt Ideal) ℓ) (g : Dev Cert.AdamAdaIdeal.nD → PrngReg)
    (m' : (ℓ : Loc Cert.AdamAdaReferenceIdeal.nD Cert.AdamAdaReferenceIdeal.τ Cert.AdamAdaReferenceIdeal.sig) → Buf (Elt Ideal) ℓ) (g' : Dev Cert.AdamAdaReferenceIdeal.nD → PrngReg), Pre_AdamAdaIdeal m →
    (∀ c : Dev Cert.AdamAdaIdeal.nD,
      m' ((c.tc : Thread Cert.AdamAdaReferenceIdeal.nD Cert.AdamAdaReferenceIdeal.τ).loc Cert.AdamAdaReferenceIdeal.main_arg0) = m ((c.tc : Thread Cert.AdamAdaIdeal.nD Cert.AdamAdaIdeal.τ).loc Cert.AdamAdaIdeal.main_arg0)
      ∧ m' ((c.tc : Thread Cert.AdamAdaReferenceIdeal.nD Cert.AdamAdaReferenceIdeal.τ).loc Cert.AdamAdaReferenceIdeal.main_arg1) = m ((c.tc : Thread Cert.AdamAdaIdeal.nD Cert.AdamAdaIdeal.τ).loc Cert.AdamAdaIdeal.main_arg1)
      ∧ m' ((c.tc : Thread Cert.AdamAdaReferenceIdeal.nD Cert.AdamAdaReferenceIdeal.τ).loc Cert.AdamAdaReferenceIdeal.main_arg2) = m ((c.tc : Thread Cert.AdamAdaIdeal.nD Cert.AdamAdaIdeal.τ).loc Cert.AdamAdaIdeal.main_arg2)
      ∧ m' ((c.tc : Thread Cert.AdamAdaReferenceIdeal.nD Cert.AdamAdaReferenceIdeal.τ).loc Cert.AdamAdaReferenceIdeal.main_arg3) = m ((c.tc : Thread Cert.AdamAdaIdeal.nD Cert.AdamAdaIdeal.τ).loc Cert.AdamAdaIdeal.main_arg3)) →
    ∃ (v0 : (c : Dev Cert.AdamAdaIdeal.nD) → Buf (Elt Ideal) ((c.tc : Thread Cert.AdamAdaIdeal.nD Cert.AdamAdaIdeal.τ).loc Cert.AdamAdaIdeal.main_v0_0)) (v1 : (c : Dev Cert.AdamAdaIdeal.nD) → Buf (Elt Ideal) ((c.tc : Thread Cert.AdamAdaIdeal.nD Cert.AdamAdaIdeal.τ).loc Cert.AdamAdaIdeal.main_v0_1)) (v2 : (c : Dev Cert.AdamAdaIdeal.nD) → Buf (Elt Ideal) ((c.tc : Thread Cert.AdamAdaIdeal.nD Cert.AdamAdaIdeal.τ).loc Cert.AdamAdaIdeal.main_v0_2)) (v3 : (c : Dev Cert.AdamAdaIdeal.nD) → Buf (Elt Ideal) ((c.tc : Thread Cert.AdamAdaIdeal.nD Cert.AdamAdaIdeal.τ).loc Cert.AdamAdaIdeal.main_v0_3)),
      θ_run (Cert.AdamAdaIdeal.defs (F := Ideal)) (onTc (τ := Cert.AdamAdaIdeal.τ) (Cert.AdamAdaIdeal.main (F := Ideal))) ⟨m, fun _ => 0, g⟩ (fun r => ∀ c : Dev Cert.AdamAdaIdeal.nD,
          r.2.mem ((c.tc : Thread Cert.AdamAdaIdeal.nD Cert.AdamAdaIdeal.τ).loc Cert.AdamAdaIdeal.main_v0_0) = v0 c
          ∧ r.2.mem ((c.tc : Thread Cert.AdamAdaIdeal.nD Cert.AdamAdaIdeal.τ).loc Cert.AdamAdaIdeal.main_v0_1) = v1 c
          ∧ r.2.mem ((c.tc : Thread Cert.AdamAdaIdeal.nD Cert.AdamAdaIdeal.τ).loc Cert.AdamAdaIdeal.main_v0_2) = v2 c
          ∧ r.2.mem ((c.tc : Thread Cert.AdamAdaIdeal.nD Cert.AdamAdaIdeal.τ).loc Cert.AdamAdaIdeal.main_v0_3) = v3 c
          ∧ r.2.mem ((c.tc : Thread Cert.AdamAdaIdeal.nD Cert.AdamAdaIdeal.τ).loc Cert.AdamAdaIdeal.main_arg0) = m ((c.tc : Thread Cert.AdamAdaIdeal.nD Cert.AdamAdaIdeal.τ).loc Cert.AdamAdaIdeal.main_arg0)
          ∧ r.2.mem ((c.tc : Thread Cert.AdamAdaIdeal.nD Cert.AdamAdaIdeal.τ).loc Cert.AdamAdaIdeal.main_arg1) = m ((c.tc : Thread Cert.AdamAdaIdeal.nD Cert.AdamAdaIdeal.τ).loc Cert.AdamAdaIdeal.main_arg1)
          ∧ r.2.mem ((c.tc : Thread Cert.AdamAdaIdeal.nD Cert.AdamAdaIdeal.τ).loc Cert.AdamAdaIdeal.main_arg2) = m ((c.tc : Thread Cert.AdamAdaIdeal.nD Cert.AdamAdaIdeal.τ).loc Cert.AdamAdaIdeal.main_arg2)
          ∧ r.2.mem ((c.tc : Thread Cert.AdamAdaIdeal.nD Cert.AdamAdaIdeal.τ).loc Cert.AdamAdaIdeal.main_arg3) = m ((c.tc : Thread Cert.AdamAdaIdeal.nD Cert.AdamAdaIdeal.τ).loc Cert.AdamAdaIdeal.main_arg3))
      ∧ θ_run (Cert.AdamAdaReferenceIdeal.defs (F := Ideal)) (onTc (τ := Cert.AdamAdaReferenceIdeal.τ) (Cert.AdamAdaReferenceIdeal.main (F := Ideal))) ⟨m', fun _ => 0, g'⟩ (fun r => ∀ c : Dev Cert.AdamAdaReferenceIdeal.nD,
          r.2.mem ((c.tc : Thread Cert.AdamAdaReferenceIdeal.nD Cert.AdamAdaReferenceIdeal.τ).loc Cert.AdamAdaReferenceIdeal.main_v23) = v0 c
          ∧ r.2.mem ((c.tc : Thread Cert.AdamAdaReferenceIdeal.nD Cert.AdamAdaReferenceIdeal.τ).loc Cert.AdamAdaReferenceIdeal.main_v4) = v1 c
          ∧ r.2.mem ((c.tc : Thread Cert.AdamAdaReferenceIdeal.nD Cert.AdamAdaReferenceIdeal.τ).loc Cert.AdamAdaReferenceIdeal.main_v10) = v2 c
          ∧ r.2.mem ((c.tc : Thread Cert.AdamAdaReferenceIdeal.nD Cert.AdamAdaReferenceIdeal.τ).loc Cert.AdamAdaReferenceIdeal.main_arg0) = v3 c
          ∧ r.2.mem ((c.tc : Thread Cert.AdamAdaReferenceIdeal.nD Cert.AdamAdaReferenceIdeal.τ).loc Cert.AdamAdaReferenceIdeal.main_arg0) = m' ((c.tc : Thread Cert.AdamAdaReferenceIdeal.nD Cert.AdamAdaReferenceIdeal.τ).loc Cert.AdamAdaReferenceIdeal.main_arg0)
          ∧ r.2.mem ((c.tc : Thread Cert.AdamAdaReferenceIdeal.nD Cert.AdamAdaReferenceIdeal.τ).loc Cert.AdamAdaReferenceIdeal.main_arg1) = m' ((c.tc : Thread Cert.AdamAdaReferenceIdeal.nD Cert.AdamAdaReferenceIdeal.τ).loc Cert.AdamAdaReferenceIdeal.main_arg1)
          ∧ r.2.mem ((c.tc : Thread Cert.AdamAdaReferenceIdeal.nD Cert.AdamAdaReferenceIdeal.τ).loc Cert.AdamAdaReferenceIdeal.main_arg2) = m' ((c.tc : Thread Cert.AdamAdaReferenceIdeal.nD Cert.AdamAdaReferenceIdeal.τ).loc Cert.AdamAdaReferenceIdeal.main_arg2)
          ∧ r.2.mem ((c.tc : Thread Cert.AdamAdaReferenceIdeal.nD Cert.AdamAdaReferenceIdeal.τ).loc Cert.AdamAdaReferenceIdeal.main_arg3) = m' ((c.tc : Thread Cert.AdamAdaReferenceIdeal.nD Cert.AdamAdaReferenceIdeal.τ).loc Cert.AdamAdaReferenceIdeal.main_arg3))

def preserves_AdamIn_AdamInIdeal : Prop :=
  True

def algebraic_AdamInIdeal_AdamInReferenceIdeal [hAdamInIdeal : Cert.AdamInIdeal.Facts] [hAdamInReferenceIdeal : Cert.AdamInReferenceIdeal.Facts] : Prop :=
  ∀ (m : (ℓ : Loc Cert.AdamInIdeal.nD Cert.AdamInIdeal.τ Cert.AdamInIdeal.sig) → Buf (Elt Ideal) ℓ) (g : Dev Cert.AdamInIdeal.nD → PrngReg)
    (m' : (ℓ : Loc Cert.AdamInReferenceIdeal.nD Cert.AdamInReferenceIdeal.τ Cert.AdamInReferenceIdeal.sig) → Buf (Elt Ideal) ℓ) (g' : Dev Cert.AdamInReferenceIdeal.nD → PrngReg), Pre_AdamInIdeal m →
    (∀ c : Dev Cert.AdamInIdeal.nD,
      m' ((c.tc : Thread Cert.AdamInReferenceIdeal.nD Cert.AdamInReferenceIdeal.τ).loc Cert.AdamInReferenceIdeal.main_arg0) = m ((c.tc : Thread Cert.AdamInIdeal.nD Cert.AdamInIdeal.τ).loc Cert.AdamInIdeal.main_arg0)
      ∧ m' ((c.tc : Thread Cert.AdamInReferenceIdeal.nD Cert.AdamInReferenceIdeal.τ).loc Cert.AdamInReferenceIdeal.main_arg1) = m ((c.tc : Thread Cert.AdamInIdeal.nD Cert.AdamInIdeal.τ).loc Cert.AdamInIdeal.main_arg1)
      ∧ m' ((c.tc : Thread Cert.AdamInReferenceIdeal.nD Cert.AdamInReferenceIdeal.τ).loc Cert.AdamInReferenceIdeal.main_arg2) = m ((c.tc : Thread Cert.AdamInIdeal.nD Cert.AdamInIdeal.τ).loc Cert.AdamInIdeal.main_arg2)
      ∧ m' ((c.tc : Thread Cert.AdamInReferenceIdeal.nD Cert.AdamInReferenceIdeal.τ).loc Cert.AdamInReferenceIdeal.main_arg3) = m ((c.tc : Thread Cert.AdamInIdeal.nD Cert.AdamInIdeal.τ).loc Cert.AdamInIdeal.main_arg3)) →
    ∃ (v0 : (c : Dev Cert.AdamInIdeal.nD) → Buf (Elt Ideal) ((c.tc : Thread Cert.AdamInIdeal.nD Cert.AdamInIdeal.τ).loc Cert.AdamInIdeal.main_v0_0)) (v1 : (c : Dev Cert.AdamInIdeal.nD) → Buf (Elt Ideal) ((c.tc : Thread Cert.AdamInIdeal.nD Cert.AdamInIdeal.τ).loc Cert.AdamInIdeal.main_v0_1)) (v2 : (c : Dev Cert.AdamInIdeal.nD) → Buf (Elt Ideal) ((c.tc : Thread Cert.AdamInIdeal.nD Cert.AdamInIdeal.τ).loc Cert.AdamInIdeal.main_v0_2)) (v3 : (c : Dev Cert.AdamInIdeal.nD) → Buf (Elt Ideal) ((c.tc : Thread Cert.AdamInIdeal.nD Cert.AdamInIdeal.τ).loc Cert.AdamInIdeal.main_v0_3)),
      θ_run (Cert.AdamInIdeal.defs (F := Ideal)) (onTc (τ := Cert.AdamInIdeal.τ) (Cert.AdamInIdeal.main (F := Ideal))) ⟨m, fun _ => 0, g⟩ (fun r => ∀ c : Dev Cert.AdamInIdeal.nD,
          r.2.mem ((c.tc : Thread Cert.AdamInIdeal.nD Cert.AdamInIdeal.τ).loc Cert.AdamInIdeal.main_v0_0) = v0 c
          ∧ r.2.mem ((c.tc : Thread Cert.AdamInIdeal.nD Cert.AdamInIdeal.τ).loc Cert.AdamInIdeal.main_v0_1) = v1 c
          ∧ r.2.mem ((c.tc : Thread Cert.AdamInIdeal.nD Cert.AdamInIdeal.τ).loc Cert.AdamInIdeal.main_v0_2) = v2 c
          ∧ r.2.mem ((c.tc : Thread Cert.AdamInIdeal.nD Cert.AdamInIdeal.τ).loc Cert.AdamInIdeal.main_v0_3) = v3 c
          ∧ r.2.mem ((c.tc : Thread Cert.AdamInIdeal.nD Cert.AdamInIdeal.τ).loc Cert.AdamInIdeal.main_arg0) = m ((c.tc : Thread Cert.AdamInIdeal.nD Cert.AdamInIdeal.τ).loc Cert.AdamInIdeal.main_arg0)
          ∧ r.2.mem ((c.tc : Thread Cert.AdamInIdeal.nD Cert.AdamInIdeal.τ).loc Cert.AdamInIdeal.main_arg1) = m ((c.tc : Thread Cert.AdamInIdeal.nD Cert.AdamInIdeal.τ).loc Cert.AdamInIdeal.main_arg1)
          ∧ r.2.mem ((c.tc : Thread Cert.AdamInIdeal.nD Cert.AdamInIdeal.τ).loc Cert.AdamInIdeal.main_arg2) = m ((c.tc : Thread Cert.AdamInIdeal.nD Cert.AdamInIdeal.τ).loc Cert.AdamInIdeal.main_arg2)
          ∧ r.2.mem ((c.tc : Thread Cert.AdamInIdeal.nD Cert.AdamInIdeal.τ).loc Cert.AdamInIdeal.main_arg3) = m ((c.tc : Thread Cert.AdamInIdeal.nD Cert.AdamInIdeal.τ).loc Cert.AdamInIdeal.main_arg3))
      ∧ θ_run (Cert.AdamInReferenceIdeal.defs (F := Ideal)) (onTc (τ := Cert.AdamInReferenceIdeal.τ) (Cert.AdamInReferenceIdeal.main (F := Ideal))) ⟨m', fun _ => 0, g'⟩ (fun r => ∀ c : Dev Cert.AdamInReferenceIdeal.nD,
          r.2.mem ((c.tc : Thread Cert.AdamInReferenceIdeal.nD Cert.AdamInReferenceIdeal.τ).loc Cert.AdamInReferenceIdeal.main_v23) = v0 c
          ∧ r.2.mem ((c.tc : Thread Cert.AdamInReferenceIdeal.nD Cert.AdamInReferenceIdeal.τ).loc Cert.AdamInReferenceIdeal.main_v4) = v1 c
          ∧ r.2.mem ((c.tc : Thread Cert.AdamInReferenceIdeal.nD Cert.AdamInReferenceIdeal.τ).loc Cert.AdamInReferenceIdeal.main_v10) = v2 c
          ∧ r.2.mem ((c.tc : Thread Cert.AdamInReferenceIdeal.nD Cert.AdamInReferenceIdeal.τ).loc Cert.AdamInReferenceIdeal.main_arg0) = v3 c
          ∧ r.2.mem ((c.tc : Thread Cert.AdamInReferenceIdeal.nD Cert.AdamInReferenceIdeal.τ).loc Cert.AdamInReferenceIdeal.main_arg0) = m' ((c.tc : Thread Cert.AdamInReferenceIdeal.nD Cert.AdamInReferenceIdeal.τ).loc Cert.AdamInReferenceIdeal.main_arg0)
          ∧ r.2.mem ((c.tc : Thread Cert.AdamInReferenceIdeal.nD Cert.AdamInReferenceIdeal.τ).loc Cert.AdamInReferenceIdeal.main_arg1) = m' ((c.tc : Thread Cert.AdamInReferenceIdeal.nD Cert.AdamInReferenceIdeal.τ).loc Cert.AdamInReferenceIdeal.main_arg1)
          ∧ r.2.mem ((c.tc : Thread Cert.AdamInReferenceIdeal.nD Cert.AdamInReferenceIdeal.τ).loc Cert.AdamInReferenceIdeal.main_arg2) = m' ((c.tc : Thread Cert.AdamInReferenceIdeal.nD Cert.AdamInReferenceIdeal.τ).loc Cert.AdamInReferenceIdeal.main_arg2)
          ∧ r.2.mem ((c.tc : Thread Cert.AdamInReferenceIdeal.nD Cert.AdamInReferenceIdeal.τ).loc Cert.AdamInReferenceIdeal.main_arg3) = m' ((c.tc : Thread Cert.AdamInReferenceIdeal.nD Cert.AdamInReferenceIdeal.τ).loc Cert.AdamInReferenceIdeal.main_arg3))

def preserves_AdamBranch_AdamBranchIdeal : Prop :=
  True

def algebraic_AdamBranchIdeal_AdamBranchReferenceIdeal [hAdamBranchIdeal : Cert.AdamBranchIdeal.Facts] [hAdamBranchReferenceIdeal : Cert.AdamBranchReferenceIdeal.Facts] : Prop :=
  ∀ (m : (ℓ : Loc Cert.AdamBranchIdeal.nD Cert.AdamBranchIdeal.τ Cert.AdamBranchIdeal.sig) → Buf (Elt Ideal) ℓ) (g : Dev Cert.AdamBranchIdeal.nD → PrngReg)
    (m' : (ℓ : Loc Cert.AdamBranchReferenceIdeal.nD Cert.AdamBranchReferenceIdeal.τ Cert.AdamBranchReferenceIdeal.sig) → Buf (Elt Ideal) ℓ) (g' : Dev Cert.AdamBranchReferenceIdeal.nD → PrngReg), Pre_AdamBranchIdeal m →
    (∀ c : Dev Cert.AdamBranchIdeal.nD,
      m' ((c.tc : Thread Cert.AdamBranchReferenceIdeal.nD Cert.AdamBranchReferenceIdeal.τ).loc Cert.AdamBranchReferenceIdeal.main_arg0) = m ((c.tc : Thread Cert.AdamBranchIdeal.nD Cert.AdamBranchIdeal.τ).loc Cert.AdamBranchIdeal.main_arg0)
      ∧ m' ((c.tc : Thread Cert.AdamBranchReferenceIdeal.nD Cert.AdamBranchReferenceIdeal.τ).loc Cert.AdamBranchReferenceIdeal.main_arg1) = m ((c.tc : Thread Cert.AdamBranchIdeal.nD Cert.AdamBranchIdeal.τ).loc Cert.AdamBranchIdeal.main_arg1)
      ∧ m' ((c.tc : Thread Cert.AdamBranchReferenceIdeal.nD Cert.AdamBranchReferenceIdeal.τ).loc Cert.AdamBranchReferenceIdeal.main_arg2) = m ((c.tc : Thread Cert.AdamBranchIdeal.nD Cert.AdamBranchIdeal.τ).loc Cert.AdamBranchIdeal.main_arg2)
      ∧ m' ((c.tc : Thread Cert.AdamBranchReferenceIdeal.nD Cert.AdamBranchReferenceIdeal.τ).loc Cert.AdamBranchReferenceIdeal.main_arg3) = m ((c.tc : Thread Cert.AdamBranchIdeal.nD Cert.AdamBranchIdeal.τ).loc Cert.AdamBranchIdeal.main_arg3)) →
    ∃ (v0 : (c : Dev Cert.AdamBranchIdeal.nD) → Buf (Elt Ideal) ((c.tc : Thread Cert.AdamBranchIdeal.nD Cert.AdamBranchIdeal.τ).loc Cert.AdamBranchIdeal.main_v0_0)) (v1 : (c : Dev Cert.AdamBranchIdeal.nD) → Buf (Elt Ideal) ((c.tc : Thread Cert.AdamBranchIdeal.nD Cert.AdamBranchIdeal.τ).loc Cert.AdamBranchIdeal.main_v0_1)) (v2 : (c : Dev Cert.AdamBranchIdeal.nD) → Buf (Elt Ideal) ((c.tc : Thread Cert.AdamBranchIdeal.nD Cert.AdamBranchIdeal.τ).loc Cert.AdamBranchIdeal.main_v0_2)) (v3 : (c : Dev Cert.AdamBranchIdeal.nD) → Buf (Elt Ideal) ((c.tc : Thread Cert.AdamBranchIdeal.nD Cert.AdamBranchIdeal.τ).loc Cert.AdamBranchIdeal.main_v0_3)),
      θ_run (Cert.AdamBranchIdeal.defs (F := Ideal)) (onTc (τ := Cert.AdamBranchIdeal.τ) (Cert.AdamBranchIdeal.main (F := Ideal))) ⟨m, fun _ => 0, g⟩ (fun r => ∀ c : Dev Cert.AdamBranchIdeal.nD,
          r.2.mem ((c.tc : Thread Cert.AdamBranchIdeal.nD Cert.AdamBranchIdeal.τ).loc Cert.AdamBranchIdeal.main_v0_0) = v0 c
          ∧ r.2.mem ((c.tc : Thread Cert.AdamBranchIdeal.nD Cert.AdamBranchIdeal.τ).loc Cert.AdamBranchIdeal.main_v0_1) = v1 c
          ∧ r.2.mem ((c.tc : Thread Cert.AdamBranchIdeal.nD Cert.AdamBranchIdeal.τ).loc Cert.AdamBranchIdeal.main_v0_2) = v2 c
          ∧ r.2.mem ((c.tc : Thread Cert.AdamBranchIdeal.nD Cert.AdamBranchIdeal.τ).loc Cert.AdamBranchIdeal.main_v0_3) = v3 c
          ∧ r.2.mem ((c.tc : Thread Cert.AdamBranchIdeal.nD Cert.AdamBranchIdeal.τ).loc Cert.AdamBranchIdeal.main_arg0) = m ((c.tc : Thread Cert.AdamBranchIdeal.nD Cert.AdamBranchIdeal.τ).loc Cert.AdamBranchIdeal.main_arg0)
          ∧ r.2.mem ((c.tc : Thread Cert.AdamBranchIdeal.nD Cert.AdamBranchIdeal.τ).loc Cert.AdamBranchIdeal.main_arg1) = m ((c.tc : Thread Cert.AdamBranchIdeal.nD Cert.AdamBranchIdeal.τ).loc Cert.AdamBranchIdeal.main_arg1)
          ∧ r.2.mem ((c.tc : Thread Cert.AdamBranchIdeal.nD Cert.AdamBranchIdeal.τ).loc Cert.AdamBranchIdeal.main_arg2) = m ((c.tc : Thread Cert.AdamBranchIdeal.nD Cert.AdamBranchIdeal.τ).loc Cert.AdamBranchIdeal.main_arg2)
          ∧ r.2.mem ((c.tc : Thread Cert.AdamBranchIdeal.nD Cert.AdamBranchIdeal.τ).loc Cert.AdamBranchIdeal.main_arg3) = m ((c.tc : Thread Cert.AdamBranchIdeal.nD Cert.AdamBranchIdeal.τ).loc Cert.AdamBranchIdeal.main_arg3))
      ∧ θ_run (Cert.AdamBranchReferenceIdeal.defs (F := Ideal)) (onTc (τ := Cert.AdamBranchReferenceIdeal.τ) (Cert.AdamBranchReferenceIdeal.main (F := Ideal))) ⟨m', fun _ => 0, g'⟩ (fun r => ∀ c : Dev Cert.AdamBranchReferenceIdeal.nD,
          r.2.mem ((c.tc : Thread Cert.AdamBranchReferenceIdeal.nD Cert.AdamBranchReferenceIdeal.τ).loc Cert.AdamBranchReferenceIdeal.main_v23) = v0 c
          ∧ r.2.mem ((c.tc : Thread Cert.AdamBranchReferenceIdeal.nD Cert.AdamBranchReferenceIdeal.τ).loc Cert.AdamBranchReferenceIdeal.main_v4) = v1 c
          ∧ r.2.mem ((c.tc : Thread Cert.AdamBranchReferenceIdeal.nD Cert.AdamBranchReferenceIdeal.τ).loc Cert.AdamBranchReferenceIdeal.main_v10) = v2 c
          ∧ r.2.mem ((c.tc : Thread Cert.AdamBranchReferenceIdeal.nD Cert.AdamBranchReferenceIdeal.τ).loc Cert.AdamBranchReferenceIdeal.main_arg0) = v3 c
          ∧ r.2.mem ((c.tc : Thread Cert.AdamBranchReferenceIdeal.nD Cert.AdamBranchReferenceIdeal.τ).loc Cert.AdamBranchReferenceIdeal.main_arg0) = m' ((c.tc : Thread Cert.AdamBranchReferenceIdeal.nD Cert.AdamBranchReferenceIdeal.τ).loc Cert.AdamBranchReferenceIdeal.main_arg0)
          ∧ r.2.mem ((c.tc : Thread Cert.AdamBranchReferenceIdeal.nD Cert.AdamBranchReferenceIdeal.τ).loc Cert.AdamBranchReferenceIdeal.main_arg1) = m' ((c.tc : Thread Cert.AdamBranchReferenceIdeal.nD Cert.AdamBranchReferenceIdeal.τ).loc Cert.AdamBranchReferenceIdeal.main_arg1)
          ∧ r.2.mem ((c.tc : Thread Cert.AdamBranchReferenceIdeal.nD Cert.AdamBranchReferenceIdeal.τ).loc Cert.AdamBranchReferenceIdeal.main_arg2) = m' ((c.tc : Thread Cert.AdamBranchReferenceIdeal.nD Cert.AdamBranchReferenceIdeal.τ).loc Cert.AdamBranchReferenceIdeal.main_arg2)
          ∧ r.2.mem ((c.tc : Thread Cert.AdamBranchReferenceIdeal.nD Cert.AdamBranchReferenceIdeal.τ).loc Cert.AdamBranchReferenceIdeal.main_arg3) = m' ((c.tc : Thread Cert.AdamBranchReferenceIdeal.nD Cert.AdamBranchReferenceIdeal.τ).loc Cert.AdamBranchReferenceIdeal.main_arg3))

def preserves_AdamOut_AdamOutIdeal : Prop :=
  True

def algebraic_AdamOutIdeal_AdamOutReferenceIdeal [hAdamOutIdeal : Cert.AdamOutIdeal.Facts] [hAdamOutReferenceIdeal : Cert.AdamOutReferenceIdeal.Facts] : Prop :=
  ∀ (m : (ℓ : Loc Cert.AdamOutIdeal.nD Cert.AdamOutIdeal.τ Cert.AdamOutIdeal.sig) → Buf (Elt Ideal) ℓ) (g : Dev Cert.AdamOutIdeal.nD → PrngReg)
    (m' : (ℓ : Loc Cert.AdamOutReferenceIdeal.nD Cert.AdamOutReferenceIdeal.τ Cert.AdamOutReferenceIdeal.sig) → Buf (Elt Ideal) ℓ) (g' : Dev Cert.AdamOutReferenceIdeal.nD → PrngReg), Pre_AdamOutIdeal m →
    (∀ c : Dev Cert.AdamOutIdeal.nD,
      m' ((c.tc : Thread Cert.AdamOutReferenceIdeal.nD Cert.AdamOutReferenceIdeal.τ).loc Cert.AdamOutReferenceIdeal.main_arg0) = m ((c.tc : Thread Cert.AdamOutIdeal.nD Cert.AdamOutIdeal.τ).loc Cert.AdamOutIdeal.main_arg0)
      ∧ m' ((c.tc : Thread Cert.AdamOutReferenceIdeal.nD Cert.AdamOutReferenceIdeal.τ).loc Cert.AdamOutReferenceIdeal.main_arg1) = m ((c.tc : Thread Cert.AdamOutIdeal.nD Cert.AdamOutIdeal.τ).loc Cert.AdamOutIdeal.main_arg1)
      ∧ m' ((c.tc : Thread Cert.AdamOutReferenceIdeal.nD Cert.AdamOutReferenceIdeal.τ).loc Cert.AdamOutReferenceIdeal.main_arg2) = m ((c.tc : Thread Cert.AdamOutIdeal.nD Cert.AdamOutIdeal.τ).loc Cert.AdamOutIdeal.main_arg2)
      ∧ m' ((c.tc : Thread Cert.AdamOutReferenceIdeal.nD Cert.AdamOutReferenceIdeal.τ).loc Cert.AdamOutReferenceIdeal.main_arg3) = m ((c.tc : Thread Cert.AdamOutIdeal.nD Cert.AdamOutIdeal.τ).loc Cert.AdamOutIdeal.main_arg3)) →
    ∃ (v0 : (c : Dev Cert.AdamOutIdeal.nD) → Buf (Elt Ideal) ((c.tc : Thread Cert.AdamOutIdeal.nD Cert.AdamOutIdeal.τ).loc Cert.AdamOutIdeal.main_v0_0)) (v1 : (c : Dev Cert.AdamOutIdeal.nD) → Buf (Elt Ideal) ((c.tc : Thread Cert.AdamOutIdeal.nD Cert.AdamOutIdeal.τ).loc Cert.AdamOutIdeal.main_v0_1)) (v2 : (c : Dev Cert.AdamOutIdeal.nD) → Buf (Elt Ideal) ((c.tc : Thread Cert.AdamOutIdeal.nD Cert.AdamOutIdeal.τ).loc Cert.AdamOutIdeal.main_v0_2)) (v3 : (c : Dev Cert.AdamOutIdeal.nD) → Buf (Elt Ideal) ((c.tc : Thread Cert.AdamOutIdeal.nD Cert.AdamOutIdeal.τ).loc Cert.AdamOutIdeal.main_v0_3)),
      θ_run (Cert.AdamOutIdeal.defs (F := Ideal)) (onTc (τ := Cert.AdamOutIdeal.τ) (Cert.AdamOutIdeal.main (F := Ideal))) ⟨m, fun _ => 0, g⟩ (fun r => ∀ c : Dev Cert.AdamOutIdeal.nD,
          r.2.mem ((c.tc : Thread Cert.AdamOutIdeal.nD Cert.AdamOutIdeal.τ).loc Cert.AdamOutIdeal.main_v0_0) = v0 c
          ∧ r.2.mem ((c.tc : Thread Cert.AdamOutIdeal.nD Cert.AdamOutIdeal.τ).loc Cert.AdamOutIdeal.main_v0_1) = v1 c
          ∧ r.2.mem ((c.tc : Thread Cert.AdamOutIdeal.nD Cert.AdamOutIdeal.τ).loc Cert.AdamOutIdeal.main_v0_2) = v2 c
          ∧ r.2.mem ((c.tc : Thread Cert.AdamOutIdeal.nD Cert.AdamOutIdeal.τ).loc Cert.AdamOutIdeal.main_v0_3) = v3 c
          ∧ r.2.mem ((c.tc : Thread Cert.AdamOutIdeal.nD Cert.AdamOutIdeal.τ).loc Cert.AdamOutIdeal.main_arg0) = m ((c.tc : Thread Cert.AdamOutIdeal.nD Cert.AdamOutIdeal.τ).loc Cert.AdamOutIdeal.main_arg0)
          ∧ r.2.mem ((c.tc : Thread Cert.AdamOutIdeal.nD Cert.AdamOutIdeal.τ).loc Cert.AdamOutIdeal.main_arg1) = m ((c.tc : Thread Cert.AdamOutIdeal.nD Cert.AdamOutIdeal.τ).loc Cert.AdamOutIdeal.main_arg1)
          ∧ r.2.mem ((c.tc : Thread Cert.AdamOutIdeal.nD Cert.AdamOutIdeal.τ).loc Cert.AdamOutIdeal.main_arg2) = m ((c.tc : Thread Cert.AdamOutIdeal.nD Cert.AdamOutIdeal.τ).loc Cert.AdamOutIdeal.main_arg2)
          ∧ r.2.mem ((c.tc : Thread Cert.AdamOutIdeal.nD Cert.AdamOutIdeal.τ).loc Cert.AdamOutIdeal.main_arg3) = m ((c.tc : Thread Cert.AdamOutIdeal.nD Cert.AdamOutIdeal.τ).loc Cert.AdamOutIdeal.main_arg3))
      ∧ θ_run (Cert.AdamOutReferenceIdeal.defs (F := Ideal)) (onTc (τ := Cert.AdamOutReferenceIdeal.τ) (Cert.AdamOutReferenceIdeal.main (F := Ideal))) ⟨m', fun _ => 0, g'⟩ (fun r => ∀ c : Dev Cert.AdamOutReferenceIdeal.nD,
          r.2.mem ((c.tc : Thread Cert.AdamOutReferenceIdeal.nD Cert.AdamOutReferenceIdeal.τ).loc Cert.AdamOutReferenceIdeal.main_v23) = v0 c
          ∧ r.2.mem ((c.tc : Thread Cert.AdamOutReferenceIdeal.nD Cert.AdamOutReferenceIdeal.τ).loc Cert.AdamOutReferenceIdeal.main_v4) = v1 c
          ∧ r.2.mem ((c.tc : Thread Cert.AdamOutReferenceIdeal.nD Cert.AdamOutReferenceIdeal.τ).loc Cert.AdamOutReferenceIdeal.main_v10) = v2 c
          ∧ r.2.mem ((c.tc : Thread Cert.AdamOutReferenceIdeal.nD Cert.AdamOutReferenceIdeal.τ).loc Cert.AdamOutReferenceIdeal.main_arg0) = v3 c
          ∧ r.2.mem ((c.tc : Thread Cert.AdamOutReferenceIdeal.nD Cert.AdamOutReferenceIdeal.τ).loc Cert.AdamOutReferenceIdeal.main_arg0) = m' ((c.tc : Thread Cert.AdamOutReferenceIdeal.nD Cert.AdamOutReferenceIdeal.τ).loc Cert.AdamOutReferenceIdeal.main_arg0)
          ∧ r.2.mem ((c.tc : Thread Cert.AdamOutReferenceIdeal.nD Cert.AdamOutReferenceIdeal.τ).loc Cert.AdamOutReferenceIdeal.main_arg1) = m' ((c.tc : Thread Cert.AdamOutReferenceIdeal.nD Cert.AdamOutReferenceIdeal.τ).loc Cert.AdamOutReferenceIdeal.main_arg1)
          ∧ r.2.mem ((c.tc : Thread Cert.AdamOutReferenceIdeal.nD Cert.AdamOutReferenceIdeal.τ).loc Cert.AdamOutReferenceIdeal.main_arg2) = m' ((c.tc : Thread Cert.AdamOutReferenceIdeal.nD Cert.AdamOutReferenceIdeal.τ).loc Cert.AdamOutReferenceIdeal.main_arg2)
          ∧ r.2.mem ((c.tc : Thread Cert.AdamOutReferenceIdeal.nD Cert.AdamOutReferenceIdeal.τ).loc Cert.AdamOutReferenceIdeal.main_arg3) = m' ((c.tc : Thread Cert.AdamOutReferenceIdeal.nD Cert.AdamOutReferenceIdeal.τ).loc Cert.AdamOutReferenceIdeal.main_arg3))

def preserves_AdamUp_AdamUpIdeal : Prop :=
  True

def algebraic_AdamUpIdeal_AdamUpReferenceIdeal [hAdamUpIdeal : Cert.AdamUpIdeal.Facts] [hAdamUpReferenceIdeal : Cert.AdamUpReferenceIdeal.Facts] : Prop :=
  ∀ (m : (ℓ : Loc Cert.AdamUpIdeal.nD Cert.AdamUpIdeal.τ Cert.AdamUpIdeal.sig) → Buf (Elt Ideal) ℓ) (g : Dev Cert.AdamUpIdeal.nD → PrngReg)
    (m' : (ℓ : Loc Cert.AdamUpReferenceIdeal.nD Cert.AdamUpReferenceIdeal.τ Cert.AdamUpReferenceIdeal.sig) → Buf (Elt Ideal) ℓ) (g' : Dev Cert.AdamUpReferenceIdeal.nD → PrngReg), Pre_AdamUpIdeal m →
    (∀ c : Dev Cert.AdamUpIdeal.nD,
      m' ((c.tc : Thread Cert.AdamUpReferenceIdeal.nD Cert.AdamUpReferenceIdeal.τ).loc Cert.AdamUpReferenceIdeal.main_arg0) = m ((c.tc : Thread Cert.AdamUpIdeal.nD Cert.AdamUpIdeal.τ).loc Cert.AdamUpIdeal.main_arg0)
      ∧ m' ((c.tc : Thread Cert.AdamUpReferenceIdeal.nD Cert.AdamUpReferenceIdeal.τ).loc Cert.AdamUpReferenceIdeal.main_arg1) = m ((c.tc : Thread Cert.AdamUpIdeal.nD Cert.AdamUpIdeal.τ).loc Cert.AdamUpIdeal.main_arg1)
      ∧ m' ((c.tc : Thread Cert.AdamUpReferenceIdeal.nD Cert.AdamUpReferenceIdeal.τ).loc Cert.AdamUpReferenceIdeal.main_arg2) = m ((c.tc : Thread Cert.AdamUpIdeal.nD Cert.AdamUpIdeal.τ).loc Cert.AdamUpIdeal.main_arg2)
      ∧ m' ((c.tc : Thread Cert.AdamUpReferenceIdeal.nD Cert.AdamUpReferenceIdeal.τ).loc Cert.AdamUpReferenceIdeal.main_arg3) = m ((c.tc : Thread Cert.AdamUpIdeal.nD Cert.AdamUpIdeal.τ).loc Cert.AdamUpIdeal.main_arg3)) →
    ∃ (v0 : (c : Dev Cert.AdamUpIdeal.nD) → Buf (Elt Ideal) ((c.tc : Thread Cert.AdamUpIdeal.nD Cert.AdamUpIdeal.τ).loc Cert.AdamUpIdeal.main_v0_0)) (v1 : (c : Dev Cert.AdamUpIdeal.nD) → Buf (Elt Ideal) ((c.tc : Thread Cert.AdamUpIdeal.nD Cert.AdamUpIdeal.τ).loc Cert.AdamUpIdeal.main_v0_1)) (v2 : (c : Dev Cert.AdamUpIdeal.nD) → Buf (Elt Ideal) ((c.tc : Thread Cert.AdamUpIdeal.nD Cert.AdamUpIdeal.τ).loc Cert.AdamUpIdeal.main_v0_2)) (v3 : (c : Dev Cert.AdamUpIdeal.nD) → Buf (Elt Ideal) ((c.tc : Thread Cert.AdamUpIdeal.nD Cert.AdamUpIdeal.τ).loc Cert.AdamUpIdeal.main_v0_3)),
      θ_run (Cert.AdamUpIdeal.defs (F := Ideal)) (onTc (τ := Cert.AdamUpIdeal.τ) (Cert.AdamUpIdeal.main (F := Ideal))) ⟨m, fun _ => 0, g⟩ (fun r => ∀ c : Dev Cert.AdamUpIdeal.nD,
          r.2.mem ((c.tc : Thread Cert.AdamUpIdeal.nD Cert.AdamUpIdeal.τ).loc Cert.AdamUpIdeal.main_v0_0) = v0 c
          ∧ r.2.mem ((c.tc : Thread Cert.AdamUpIdeal.nD Cert.AdamUpIdeal.τ).loc Cert.AdamUpIdeal.main_v0_1) = v1 c
          ∧ r.2.mem ((c.tc : Thread Cert.AdamUpIdeal.nD Cert.AdamUpIdeal.τ).loc Cert.AdamUpIdeal.main_v0_2) = v2 c
          ∧ r.2.mem ((c.tc : Thread Cert.AdamUpIdeal.nD Cert.AdamUpIdeal.τ).loc Cert.AdamUpIdeal.main_v0_3) = v3 c
          ∧ r.2.mem ((c.tc : Thread Cert.AdamUpIdeal.nD Cert.AdamUpIdeal.τ).loc Cert.AdamUpIdeal.main_arg0) = m ((c.tc : Thread Cert.AdamUpIdeal.nD Cert.AdamUpIdeal.τ).loc Cert.AdamUpIdeal.main_arg0)
          ∧ r.2.mem ((c.tc : Thread Cert.AdamUpIdeal.nD Cert.AdamUpIdeal.τ).loc Cert.AdamUpIdeal.main_arg1) = m ((c.tc : Thread Cert.AdamUpIdeal.nD Cert.AdamUpIdeal.τ).loc Cert.AdamUpIdeal.main_arg1)
          ∧ r.2.mem ((c.tc : Thread Cert.AdamUpIdeal.nD Cert.AdamUpIdeal.τ).loc Cert.AdamUpIdeal.main_arg2) = m ((c.tc : Thread Cert.AdamUpIdeal.nD Cert.AdamUpIdeal.τ).loc Cert.AdamUpIdeal.main_arg2)
          ∧ r.2.mem ((c.tc : Thread Cert.AdamUpIdeal.nD Cert.AdamUpIdeal.τ).loc Cert.AdamUpIdeal.main_arg3) = m ((c.tc : Thread Cert.AdamUpIdeal.nD Cert.AdamUpIdeal.τ).loc Cert.AdamUpIdeal.main_arg3))
      ∧ θ_run (Cert.AdamUpReferenceIdeal.defs (F := Ideal)) (onTc (τ := Cert.AdamUpReferenceIdeal.τ) (Cert.AdamUpReferenceIdeal.main (F := Ideal))) ⟨m', fun _ => 0, g'⟩ (fun r => ∀ c : Dev Cert.AdamUpReferenceIdeal.nD,
          r.2.mem ((c.tc : Thread Cert.AdamUpReferenceIdeal.nD Cert.AdamUpReferenceIdeal.τ).loc Cert.AdamUpReferenceIdeal.main_v23) = v0 c
          ∧ r.2.mem ((c.tc : Thread Cert.AdamUpReferenceIdeal.nD Cert.AdamUpReferenceIdeal.τ).loc Cert.AdamUpReferenceIdeal.main_v4) = v1 c
          ∧ r.2.mem ((c.tc : Thread Cert.AdamUpReferenceIdeal.nD Cert.AdamUpReferenceIdeal.τ).loc Cert.AdamUpReferenceIdeal.main_v10) = v2 c
          ∧ r.2.mem ((c.tc : Thread Cert.AdamUpReferenceIdeal.nD Cert.AdamUpReferenceIdeal.τ).loc Cert.AdamUpReferenceIdeal.main_arg0) = v3 c
          ∧ r.2.mem ((c.tc : Thread Cert.AdamUpReferenceIdeal.nD Cert.AdamUpReferenceIdeal.τ).loc Cert.AdamUpReferenceIdeal.main_arg0) = m' ((c.tc : Thread Cert.AdamUpReferenceIdeal.nD Cert.AdamUpReferenceIdeal.τ).loc Cert.AdamUpReferenceIdeal.main_arg0)
          ∧ r.2.mem ((c.tc : Thread Cert.AdamUpReferenceIdeal.nD Cert.AdamUpReferenceIdeal.τ).loc Cert.AdamUpReferenceIdeal.main_arg1) = m' ((c.tc : Thread Cert.AdamUpReferenceIdeal.nD Cert.AdamUpReferenceIdeal.τ).loc Cert.AdamUpReferenceIdeal.main_arg1)
          ∧ r.2.mem ((c.tc : Thread Cert.AdamUpReferenceIdeal.nD Cert.AdamUpReferenceIdeal.τ).loc Cert.AdamUpReferenceIdeal.main_arg2) = m' ((c.tc : Thread Cert.AdamUpReferenceIdeal.nD Cert.AdamUpReferenceIdeal.τ).loc Cert.AdamUpReferenceIdeal.main_arg2)
          ∧ r.2.mem ((c.tc : Thread Cert.AdamUpReferenceIdeal.nD Cert.AdamUpReferenceIdeal.τ).loc Cert.AdamUpReferenceIdeal.main_arg3) = m' ((c.tc : Thread Cert.AdamUpReferenceIdeal.nD Cert.AdamUpReferenceIdeal.τ).loc Cert.AdamUpReferenceIdeal.main_arg3))

def preserves_AdamSmall_AdamSmallIdeal : Prop :=
  True

def algebraic_AdamSmallIdeal_AdamSmallReferenceIdeal [hAdamSmallIdeal : Cert.AdamSmallIdeal.Facts] [hAdamSmallReferenceIdeal : Cert.AdamSmallReferenceIdeal.Facts] : Prop :=
  ∀ (m : (ℓ : Loc Cert.AdamSmallIdeal.nD Cert.AdamSmallIdeal.τ Cert.AdamSmallIdeal.sig) → Buf (Elt Ideal) ℓ) (g : Dev Cert.AdamSmallIdeal.nD → PrngReg)
    (m' : (ℓ : Loc Cert.AdamSmallReferenceIdeal.nD Cert.AdamSmallReferenceIdeal.τ Cert.AdamSmallReferenceIdeal.sig) → Buf (Elt Ideal) ℓ) (g' : Dev Cert.AdamSmallReferenceIdeal.nD → PrngReg), Pre_AdamSmallIdeal m →
    (∀ c : Dev Cert.AdamSmallIdeal.nD,
      m' ((c.tc : Thread Cert.AdamSmallReferenceIdeal.nD Cert.AdamSmallReferenceIdeal.τ).loc Cert.AdamSmallReferenceIdeal.main_arg0) = m ((c.tc : Thread Cert.AdamSmallIdeal.nD Cert.AdamSmallIdeal.τ).loc Cert.AdamSmallIdeal.main_arg0)
      ∧ m' ((c.tc : Thread Cert.AdamSmallReferenceIdeal.nD Cert.AdamSmallReferenceIdeal.τ).loc Cert.AdamSmallReferenceIdeal.main_arg1) = m ((c.tc : Thread Cert.AdamSmallIdeal.nD Cert.AdamSmallIdeal.τ).loc Cert.AdamSmallIdeal.main_arg1)
      ∧ m' ((c.tc : Thread Cert.AdamSmallReferenceIdeal.nD Cert.AdamSmallReferenceIdeal.τ).loc Cert.AdamSmallReferenceIdeal.main_arg2) = m ((c.tc : Thread Cert.AdamSmallIdeal.nD Cert.AdamSmallIdeal.τ).loc Cert.AdamSmallIdeal.main_arg2)
      ∧ m' ((c.tc : Thread Cert.AdamSmallReferenceIdeal.nD Cert.AdamSmallReferenceIdeal.τ).loc Cert.AdamSmallReferenceIdeal.main_arg3) = m ((c.tc : Thread Cert.AdamSmallIdeal.nD Cert.AdamSmallIdeal.τ).loc Cert.AdamSmallIdeal.main_arg3)) →
    ∃ (v0 : (c : Dev Cert.AdamSmallIdeal.nD) → Buf (Elt Ideal) ((c.tc : Thread Cert.AdamSmallIdeal.nD Cert.AdamSmallIdeal.τ).loc Cert.AdamSmallIdeal.main_v0_0)) (v1 : (c : Dev Cert.AdamSmallIdeal.nD) → Buf (Elt Ideal) ((c.tc : Thread Cert.AdamSmallIdeal.nD Cert.AdamSmallIdeal.τ).loc Cert.AdamSmallIdeal.main_v0_1)) (v2 : (c : Dev Cert.AdamSmallIdeal.nD) → Buf (Elt Ideal) ((c.tc : Thread Cert.AdamSmallIdeal.nD Cert.AdamSmallIdeal.τ).loc Cert.AdamSmallIdeal.main_v0_2)),
      θ_run (Cert.AdamSmallIdeal.defs (F := Ideal)) (onTc (τ := Cert.AdamSmallIdeal.τ) (Cert.AdamSmallIdeal.main (F := Ideal))) ⟨m, fun _ => 0, g⟩ (fun r => ∀ c : Dev Cert.AdamSmallIdeal.nD,
          r.2.mem ((c.tc : Thread Cert.AdamSmallIdeal.nD Cert.AdamSmallIdeal.τ).loc Cert.AdamSmallIdeal.main_v0_0) = v0 c
          ∧ r.2.mem ((c.tc : Thread Cert.AdamSmallIdeal.nD Cert.AdamSmallIdeal.τ).loc Cert.AdamSmallIdeal.main_v0_1) = v1 c
          ∧ r.2.mem ((c.tc : Thread Cert.AdamSmallIdeal.nD Cert.AdamSmallIdeal.τ).loc Cert.AdamSmallIdeal.main_v0_2) = v2 c
          ∧ r.2.mem ((c.tc : Thread Cert.AdamSmallIdeal.nD Cert.AdamSmallIdeal.τ).loc Cert.AdamSmallIdeal.main_arg0) = m ((c.tc : Thread Cert.AdamSmallIdeal.nD Cert.AdamSmallIdeal.τ).loc Cert.AdamSmallIdeal.main_arg0)
          ∧ r.2.mem ((c.tc : Thread Cert.AdamSmallIdeal.nD Cert.AdamSmallIdeal.τ).loc Cert.AdamSmallIdeal.main_arg1) = m ((c.tc : Thread Cert.AdamSmallIdeal.nD Cert.AdamSmallIdeal.τ).loc Cert.AdamSmallIdeal.main_arg1)
          ∧ r.2.mem ((c.tc : Thread Cert.AdamSmallIdeal.nD Cert.AdamSmallIdeal.τ).loc Cert.AdamSmallIdeal.main_arg2) = m ((c.tc : Thread Cert.AdamSmallIdeal.nD Cert.AdamSmallIdeal.τ).loc Cert.AdamSmallIdeal.main_arg2)
          ∧ r.2.mem ((c.tc : Thread Cert.AdamSmallIdeal.nD Cert.AdamSmallIdeal.τ).loc Cert.AdamSmallIdeal.main_arg3) = m ((c.tc : Thread Cert.AdamSmallIdeal.nD Cert.AdamSmallIdeal.τ).loc Cert.AdamSmallIdeal.main_arg3))
      ∧ θ_run (Cert.AdamSmallReferenceIdeal.defs (F := Ideal)) (onTc (τ := Cert.AdamSmallReferenceIdeal.τ) (Cert.AdamSmallReferenceIdeal.main (F := Ideal))) ⟨m', fun _ => 0, g'⟩ (fun r => ∀ c : Dev Cert.AdamSmallReferenceIdeal.nD,
          r.2.mem ((c.tc : Thread Cert.AdamSmallReferenceIdeal.nD Cert.AdamSmallReferenceIdeal.τ).loc Cert.AdamSmallReferenceIdeal.main_v23) = v0 c
          ∧ r.2.mem ((c.tc : Thread Cert.AdamSmallReferenceIdeal.nD Cert.AdamSmallReferenceIdeal.τ).loc Cert.AdamSmallReferenceIdeal.main_v4) = v1 c
          ∧ r.2.mem ((c.tc : Thread Cert.AdamSmallReferenceIdeal.nD Cert.AdamSmallReferenceIdeal.τ).loc Cert.AdamSmallReferenceIdeal.main_v10) = v2 c
          ∧ r.2.mem ((c.tc : Thread Cert.AdamSmallReferenceIdeal.nD Cert.AdamSmallReferenceIdeal.τ).loc Cert.AdamSmallReferenceIdeal.main_arg0) = m' ((c.tc : Thread Cert.AdamSmallReferenceIdeal.nD Cert.AdamSmallReferenceIdeal.τ).loc Cert.AdamSmallReferenceIdeal.main_arg0)
          ∧ r.2.mem ((c.tc : Thread Cert.AdamSmallReferenceIdeal.nD Cert.AdamSmallReferenceIdeal.τ).loc Cert.AdamSmallReferenceIdeal.main_arg1) = m' ((c.tc : Thread Cert.AdamSmallReferenceIdeal.nD Cert.AdamSmallReferenceIdeal.τ).loc Cert.AdamSmallReferenceIdeal.main_arg1)
          ∧ r.2.mem ((c.tc : Thread Cert.AdamSmallReferenceIdeal.nD Cert.AdamSmallReferenceIdeal.τ).loc Cert.AdamSmallReferenceIdeal.main_arg2) = m' ((c.tc : Thread Cert.AdamSmallReferenceIdeal.nD Cert.AdamSmallReferenceIdeal.τ).loc Cert.AdamSmallReferenceIdeal.main_arg2)
          ∧ r.2.mem ((c.tc : Thread Cert.AdamSmallReferenceIdeal.nD Cert.AdamSmallReferenceIdeal.τ).loc Cert.AdamSmallReferenceIdeal.main_arg3) = m' ((c.tc : Thread Cert.AdamSmallReferenceIdeal.nD Cert.AdamSmallReferenceIdeal.τ).loc Cert.AdamSmallReferenceIdeal.main_arg3))

def preserves_AdamConv_AdamConvIdeal : Prop :=
  True

def algebraic_AdamConvIdeal_AdamConvReferenceIdeal [hAdamConvIdeal : Cert.AdamConvIdeal.Facts] [hAdamConvReferenceIdeal : Cert.AdamConvReferenceIdeal.Facts] : Prop :=
  ∀ (m : (ℓ : Loc Cert.AdamConvIdeal.nD Cert.AdamConvIdeal.τ Cert.AdamConvIdeal.sig) → Buf (Elt Ideal) ℓ) (g : Dev Cert.AdamConvIdeal.nD → PrngReg)
    (m' : (ℓ : Loc Cert.AdamConvReferenceIdeal.nD Cert.AdamConvReferenceIdeal.τ Cert.AdamConvReferenceIdeal.sig) → Buf (Elt Ideal) ℓ) (g' : Dev Cert.AdamConvReferenceIdeal.nD → PrngReg), Pre_AdamConvIdeal m →
    (∀ c : Dev Cert.AdamConvIdeal.nD,
      m' ((c.tc : Thread Cert.AdamConvReferenceIdeal.nD Cert.AdamConvReferenceIdeal.τ).loc Cert.AdamConvReferenceIdeal.main_arg0) = m ((c.tc : Thread Cert.AdamConvIdeal.nD Cert.AdamConvIdeal.τ).loc Cert.AdamConvIdeal.main_arg0)
      ∧ m' ((c.tc : Thread Cert.AdamConvReferenceIdeal.nD Cert.AdamConvReferenceIdeal.τ).loc Cert.AdamConvReferenceIdeal.main_arg1) = m ((c.tc : Thread Cert.AdamConvIdeal.nD Cert.AdamConvIdeal.τ).loc Cert.AdamConvIdeal.main_arg1)
      ∧ m' ((c.tc : Thread Cert.AdamConvReferenceIdeal.nD Cert.AdamConvReferenceIdeal.τ).loc Cert.AdamConvReferenceIdeal.main_arg2) = m ((c.tc : Thread Cert.AdamConvIdeal.nD Cert.AdamConvIdeal.τ).loc Cert.AdamConvIdeal.main_arg2)
      ∧ m' ((c.tc : Thread Cert.AdamConvReferenceIdeal.nD Cert.AdamConvReferenceIdeal.τ).loc Cert.AdamConvReferenceIdeal.main_arg3) = m ((c.tc : Thread Cert.AdamConvIdeal.nD Cert.AdamConvIdeal.τ).loc Cert.AdamConvIdeal.main_arg3)) →
    ∃ (v0 : (c : Dev Cert.AdamConvIdeal.nD) → Buf (Elt Ideal) ((c.tc : Thread Cert.AdamConvIdeal.nD Cert.AdamConvIdeal.τ).loc Cert.AdamConvIdeal.main_v0_0)) (v1 : (c : Dev Cert.AdamConvIdeal.nD) → Buf (Elt Ideal) ((c.tc : Thread Cert.AdamConvIdeal.nD Cert.AdamConvIdeal.τ).loc Cert.AdamConvIdeal.main_v0_1)) (v2 : (c : Dev Cert.AdamConvIdeal.nD) → Buf (Elt Ideal) ((c.tc : Thread Cert.AdamConvIdeal.nD Cert.AdamConvIdeal.τ).loc Cert.AdamConvIdeal.main_v0_2)),
      θ_run (Cert.AdamConvIdeal.defs (F := Ideal)) (onTc (τ := Cert.AdamConvIdeal.τ) (Cert.AdamConvIdeal.main (F := Ideal))) ⟨m, fun _ => 0, g⟩ (fun r => ∀ c : Dev Cert.AdamConvIdeal.nD,
          r.2.mem ((c.tc : Thread Cert.AdamConvIdeal.nD Cert.AdamConvIdeal.τ).loc Cert.AdamConvIdeal.main_v0_0) = v0 c
          ∧ r.2.mem ((c.tc : Thread Cert.AdamConvIdeal.nD Cert.AdamConvIdeal.τ).loc Cert.AdamConvIdeal.main_v0_1) = v1 c
          ∧ r.2.mem ((c.tc : Thread Cert.AdamConvIdeal.nD Cert.AdamConvIdeal.τ).loc Cert.AdamConvIdeal.main_v0_2) = v2 c
          ∧ r.2.mem ((c.tc : Thread Cert.AdamConvIdeal.nD Cert.AdamConvIdeal.τ).loc Cert.AdamConvIdeal.main_arg0) = m ((c.tc : Thread Cert.AdamConvIdeal.nD Cert.AdamConvIdeal.τ).loc Cert.AdamConvIdeal.main_arg0)
          ∧ r.2.mem ((c.tc : Thread Cert.AdamConvIdeal.nD Cert.AdamConvIdeal.τ).loc Cert.AdamConvIdeal.main_arg1) = m ((c.tc : Thread Cert.AdamConvIdeal.nD Cert.AdamConvIdeal.τ).loc Cert.AdamConvIdeal.main_arg1)
          ∧ r.2.mem ((c.tc : Thread Cert.AdamConvIdeal.nD Cert.AdamConvIdeal.τ).loc Cert.AdamConvIdeal.main_arg2) = m ((c.tc : Thread Cert.AdamConvIdeal.nD Cert.AdamConvIdeal.τ).loc Cert.AdamConvIdeal.main_arg2)
          ∧ r.2.mem ((c.tc : Thread Cert.AdamConvIdeal.nD Cert.AdamConvIdeal.τ).loc Cert.AdamConvIdeal.main_arg3) = m ((c.tc : Thread Cert.AdamConvIdeal.nD Cert.AdamConvIdeal.τ).loc Cert.AdamConvIdeal.main_arg3))
      ∧ θ_run (Cert.AdamConvReferenceIdeal.defs (F := Ideal)) (onTc (τ := Cert.AdamConvReferenceIdeal.τ) (Cert.AdamConvReferenceIdeal.main (F := Ideal))) ⟨m', fun _ => 0, g'⟩ (fun r => ∀ c : Dev Cert.AdamConvReferenceIdeal.nD,
          r.2.mem ((c.tc : Thread Cert.AdamConvReferenceIdeal.nD Cert.AdamConvReferenceIdeal.τ).loc Cert.AdamConvReferenceIdeal.main_v23) = v0 c
          ∧ r.2.mem ((c.tc : Thread Cert.AdamConvReferenceIdeal.nD Cert.AdamConvReferenceIdeal.τ).loc Cert.AdamConvReferenceIdeal.main_v4) = v1 c
          ∧ r.2.mem ((c.tc : Thread Cert.AdamConvReferenceIdeal.nD Cert.AdamConvReferenceIdeal.τ).loc Cert.AdamConvReferenceIdeal.main_v10) = v2 c
          ∧ r.2.mem ((c.tc : Thread Cert.AdamConvReferenceIdeal.nD Cert.AdamConvReferenceIdeal.τ).loc Cert.AdamConvReferenceIdeal.main_arg0) = m' ((c.tc : Thread Cert.AdamConvReferenceIdeal.nD Cert.AdamConvReferenceIdeal.τ).loc Cert.AdamConvReferenceIdeal.main_arg0)
          ∧ r.2.mem ((c.tc : Thread Cert.AdamConvReferenceIdeal.nD Cert.AdamConvReferenceIdeal.τ).loc Cert.AdamConvReferenceIdeal.main_arg1) = m' ((c.tc : Thread Cert.AdamConvReferenceIdeal.nD Cert.AdamConvReferenceIdeal.τ).loc Cert.AdamConvReferenceIdeal.main_arg1)
          ∧ r.2.mem ((c.tc : Thread Cert.AdamConvReferenceIdeal.nD Cert.AdamConvReferenceIdeal.τ).loc Cert.AdamConvReferenceIdeal.main_arg2) = m' ((c.tc : Thread Cert.AdamConvReferenceIdeal.nD Cert.AdamConvReferenceIdeal.τ).loc Cert.AdamConvReferenceIdeal.main_arg2)
          ∧ r.2.mem ((c.tc : Thread Cert.AdamConvReferenceIdeal.nD Cert.AdamConvReferenceIdeal.τ).loc Cert.AdamConvReferenceIdeal.main_arg3) = m' ((c.tc : Thread Cert.AdamConvReferenceIdeal.nD Cert.AdamConvReferenceIdeal.τ).loc Cert.AdamConvReferenceIdeal.main_arg3))

def preserves_Norm1X_Norm1XIdeal : Prop :=
  True

def algebraic_Norm1XIdeal_Norm1XReferenceIdeal [hNorm1XIdeal : Cert.Norm1XIdeal.Facts] [hNorm1XReferenceIdeal : Cert.Norm1XReferenceIdeal.Facts] : Prop :=
  ∀ (m : (ℓ : Loc Cert.Norm1XIdeal.nD Cert.Norm1XIdeal.τ Cert.Norm1XIdeal.sig) → Buf (Elt Ideal) ℓ) (g : Dev Cert.Norm1XIdeal.nD → PrngReg)
    (m' : (ℓ : Loc Cert.Norm1XReferenceIdeal.nD Cert.Norm1XReferenceIdeal.τ Cert.Norm1XReferenceIdeal.sig) → Buf (Elt Ideal) ℓ) (g' : Dev Cert.Norm1XReferenceIdeal.nD → PrngReg), Pre_Norm1XIdeal m →
    (∀ c : Dev Cert.Norm1XIdeal.nD,
      m' ((c.tc : Thread Cert.Norm1XReferenceIdeal.nD Cert.Norm1XReferenceIdeal.τ).loc Cert.Norm1XReferenceIdeal.main_arg0) = m ((c.tc : Thread Cert.Norm1XIdeal.nD Cert.Norm1XIdeal.τ).loc Cert.Norm1XIdeal.main_arg0)
      ∧ m' ((c.tc : Thread Cert.Norm1XReferenceIdeal.nD Cert.Norm1XReferenceIdeal.τ).loc Cert.Norm1XReferenceIdeal.main_arg1) = m ((c.tc : Thread Cert.Norm1XIdeal.nD Cert.Norm1XIdeal.τ).loc Cert.Norm1XIdeal.main_arg1)
      ∧ m' ((c.tc : Thread Cert.Norm1XReferenceIdeal.nD Cert.Norm1XReferenceIdeal.τ).loc Cert.Norm1XReferenceIdeal.main_arg2) = m ((c.tc : Thread Cert.Norm1XIdeal.nD Cert.Norm1XIdeal.τ).loc Cert.Norm1XIdeal.main_arg2)
      ∧ m' ((c.tc : Thread Cert.Norm1XReferenceIdeal.nD Cert.Norm1XReferenceIdeal.τ).loc Cert.Norm1XReferenceIdeal.main_arg3) = m ((c.tc : Thread Cert.Norm1XIdeal.nD Cert.Norm1XIdeal.τ).loc Cert.Norm1XIdeal.main_arg3)
      ∧ m' ((c.tc : Thread Cert.Norm1XReferenceIdeal.nD Cert.Norm1XReferenceIdeal.τ).loc Cert.Norm1XReferenceIdeal.main_arg4) = m ((c.tc : Thread Cert.Norm1XIdeal.nD Cert.Norm1XIdeal.τ).loc Cert.Norm1XIdeal.main_arg4)
      ∧ m' ((c.tc : Thread Cert.Norm1XReferenceIdeal.nD Cert.Norm1XReferenceIdeal.τ).loc Cert.Norm1XReferenceIdeal.main_arg5) = m ((c.tc : Thread Cert.Norm1XIdeal.nD Cert.Norm1XIdeal.τ).loc Cert.Norm1XIdeal.main_arg5)) →
    ∃ (v0 : (c : Dev Cert.Norm1XIdeal.nD) → Buf (Elt Ideal) ((c.tc : Thread Cert.Norm1XIdeal.nD Cert.Norm1XIdeal.τ).loc Cert.Norm1XIdeal.main_v0_0)) (v1 : (c : Dev Cert.Norm1XIdeal.nD) → Buf (Elt Ideal) ((c.tc : Thread Cert.Norm1XIdeal.nD Cert.Norm1XIdeal.τ).loc Cert.Norm1XIdeal.main_v0_1)) (v2 : (c : Dev Cert.Norm1XIdeal.nD) → Buf (Elt Ideal) ((c.tc : Thread Cert.Norm1XIdeal.nD Cert.Norm1XIdeal.τ).loc Cert.Norm1XIdeal.main_v0_2)) (v3 : (c : Dev Cert.Norm1XIdeal.nD) → Buf (Elt Ideal) ((c.tc : Thread Cert.Norm1XIdeal.nD Cert.Norm1XIdeal.τ).loc Cert.Norm1XIdeal.main_v0_3)),
      θ_run (Cert.Norm1XIdeal.defs (F := Ideal)) (onTc (τ := Cert.Norm1XIdeal.τ) (Cert.Norm1XIdeal.main (F := Ideal))) ⟨m, fun _ => 0, g⟩ (fun r => ∀ c : Dev Cert.Norm1XIdeal.nD,
          r.2.mem ((c.tc : Thread Cert.Norm1XIdeal.nD Cert.Norm1XIdeal.τ).loc Cert.Norm1XIdeal.main_v0_0) = v0 c
          ∧ r.2.mem ((c.tc : Thread Cert.Norm1XIdeal.nD Cert.Norm1XIdeal.τ).loc Cert.Norm1XIdeal.main_v0_1) = v1 c
          ∧ r.2.mem ((c.tc : Thread Cert.Norm1XIdeal.nD Cert.Norm1XIdeal.τ).loc Cert.Norm1XIdeal.main_v0_2) = v2 c
          ∧ r.2.mem ((c.tc : Thread Cert.Norm1XIdeal.nD Cert.Norm1XIdeal.τ).loc Cert.Norm1XIdeal.main_v0_3) = v3 c
          ∧ r.2.mem ((c.tc : Thread Cert.Norm1XIdeal.nD Cert.Norm1XIdeal.τ).loc Cert.Norm1XIdeal.main_arg0) = m ((c.tc : Thread Cert.Norm1XIdeal.nD Cert.Norm1XIdeal.τ).loc Cert.Norm1XIdeal.main_arg0)
          ∧ r.2.mem ((c.tc : Thread Cert.Norm1XIdeal.nD Cert.Norm1XIdeal.τ).loc Cert.Norm1XIdeal.main_arg1) = m ((c.tc : Thread Cert.Norm1XIdeal.nD Cert.Norm1XIdeal.τ).loc Cert.Norm1XIdeal.main_arg1)
          ∧ r.2.mem ((c.tc : Thread Cert.Norm1XIdeal.nD Cert.Norm1XIdeal.τ).loc Cert.Norm1XIdeal.main_arg2) = m ((c.tc : Thread Cert.Norm1XIdeal.nD Cert.Norm1XIdeal.τ).loc Cert.Norm1XIdeal.main_arg2)
          ∧ r.2.mem ((c.tc : Thread Cert.Norm1XIdeal.nD Cert.Norm1XIdeal.τ).loc Cert.Norm1XIdeal.main_arg3) = m ((c.tc : Thread Cert.Norm1XIdeal.nD Cert.Norm1XIdeal.τ).loc Cert.Norm1XIdeal.main_arg3)
          ∧ r.2.mem ((c.tc : Thread Cert.Norm1XIdeal.nD Cert.Norm1XIdeal.τ).loc Cert.Norm1XIdeal.main_arg4) = m ((c.tc : Thread Cert.Norm1XIdeal.nD Cert.Norm1XIdeal.τ).loc Cert.Norm1XIdeal.main_arg4)
          ∧ r.2.mem ((c.tc : Thread Cert.Norm1XIdeal.nD Cert.Norm1XIdeal.τ).loc Cert.Norm1XIdeal.main_arg5) = m ((c.tc : Thread Cert.Norm1XIdeal.nD Cert.Norm1XIdeal.τ).loc Cert.Norm1XIdeal.main_arg5))
      ∧ θ_run (Cert.Norm1XReferenceIdeal.defs (F := Ideal)) (onTc (τ := Cert.Norm1XReferenceIdeal.τ) (Cert.Norm1XReferenceIdeal.main (F := Ideal))) ⟨m', fun _ => 0, g'⟩ (fun r => ∀ c : Dev Cert.Norm1XReferenceIdeal.nD,
          r.2.mem ((c.tc : Thread Cert.Norm1XReferenceIdeal.nD Cert.Norm1XReferenceIdeal.τ).loc Cert.Norm1XReferenceIdeal.main_v48) = v0 c
          ∧ r.2.mem ((c.tc : Thread Cert.Norm1XReferenceIdeal.nD Cert.Norm1XReferenceIdeal.τ).loc Cert.Norm1XReferenceIdeal.main_v31) = v1 c
          ∧ r.2.mem ((c.tc : Thread Cert.Norm1XReferenceIdeal.nD Cert.Norm1XReferenceIdeal.τ).loc Cert.Norm1XReferenceIdeal.main_v26) = v2 c
          ∧ r.2.mem ((c.tc : Thread Cert.Norm1XReferenceIdeal.nD Cert.Norm1XReferenceIdeal.τ).loc Cert.Norm1XReferenceIdeal.main_v23) = v3 c
          ∧ r.2.mem ((c.tc : Thread Cert.Norm1XReferenceIdeal.nD Cert.Norm1XReferenceIdeal.τ).loc Cert.Norm1XReferenceIdeal.main_arg0) = m' ((c.tc : Thread Cert.Norm1XReferenceIdeal.nD Cert.Norm1XReferenceIdeal.τ).loc Cert.Norm1XReferenceIdeal.main_arg0)
          ∧ r.2.mem ((c.tc : Thread Cert.Norm1XReferenceIdeal.nD Cert.Norm1XReferenceIdeal.τ).loc Cert.Norm1XReferenceIdeal.main_arg1) = m' ((c.tc : Thread Cert.Norm1XReferenceIdeal.nD Cert.Norm1XReferenceIdeal.τ).loc Cert.Norm1XReferenceIdeal.main_arg1)
          ∧ r.2.mem ((c.tc : Thread Cert.Norm1XReferenceIdeal.nD Cert.Norm1XReferenceIdeal.τ).loc Cert.Norm1XReferenceIdeal.main_arg2) = m' ((c.tc : Thread Cert.Norm1XReferenceIdeal.nD Cert.Norm1XReferenceIdeal.τ).loc Cert.Norm1XReferenceIdeal.main_arg2)
          ∧ r.2.mem ((c.tc : Thread Cert.Norm1XReferenceIdeal.nD Cert.Norm1XReferenceIdeal.τ).loc Cert.Norm1XReferenceIdeal.main_arg3) = m' ((c.tc : Thread Cert.Norm1XReferenceIdeal.nD Cert.Norm1XReferenceIdeal.τ).loc Cert.Norm1XReferenceIdeal.main_arg3)
          ∧ r.2.mem ((c.tc : Thread Cert.Norm1XReferenceIdeal.nD Cert.Norm1XReferenceIdeal.τ).loc Cert.Norm1XReferenceIdeal.main_arg4) = m' ((c.tc : Thread Cert.Norm1XReferenceIdeal.nD Cert.Norm1XReferenceIdeal.τ).loc Cert.Norm1XReferenceIdeal.main_arg4)
          ∧ r.2.mem ((c.tc : Thread Cert.Norm1XReferenceIdeal.nD Cert.Norm1XReferenceIdeal.τ).loc Cert.Norm1XReferenceIdeal.main_arg5) = m' ((c.tc : Thread Cert.Norm1XReferenceIdeal.nD Cert.Norm1XReferenceIdeal.τ).loc Cert.Norm1XReferenceIdeal.main_arg5))

def preserves_Norm2X_Norm2XIdeal : Prop :=
  True

def algebraic_Norm2XIdeal_Norm2XReferenceIdeal [hNorm2XIdeal : Cert.Norm2XIdeal.Facts] [hNorm2XReferenceIdeal : Cert.Norm2XReferenceIdeal.Facts] : Prop :=
  ∀ (m : (ℓ : Loc Cert.Norm2XIdeal.nD Cert.Norm2XIdeal.τ Cert.Norm2XIdeal.sig) → Buf (Elt Ideal) ℓ) (g : Dev Cert.Norm2XIdeal.nD → PrngReg)
    (m' : (ℓ : Loc Cert.Norm2XReferenceIdeal.nD Cert.Norm2XReferenceIdeal.τ Cert.Norm2XReferenceIdeal.sig) → Buf (Elt Ideal) ℓ) (g' : Dev Cert.Norm2XReferenceIdeal.nD → PrngReg), Pre_Norm2XIdeal m →
    (∀ c : Dev Cert.Norm2XIdeal.nD,
      m' ((c.tc : Thread Cert.Norm2XReferenceIdeal.nD Cert.Norm2XReferenceIdeal.τ).loc Cert.Norm2XReferenceIdeal.main_arg0) = m ((c.tc : Thread Cert.Norm2XIdeal.nD Cert.Norm2XIdeal.τ).loc Cert.Norm2XIdeal.main_arg0)
      ∧ m' ((c.tc : Thread Cert.Norm2XReferenceIdeal.nD Cert.Norm2XReferenceIdeal.τ).loc Cert.Norm2XReferenceIdeal.main_arg1) = m ((c.tc : Thread Cert.Norm2XIdeal.nD Cert.Norm2XIdeal.τ).loc Cert.Norm2XIdeal.main_arg1)
      ∧ m' ((c.tc : Thread Cert.Norm2XReferenceIdeal.nD Cert.Norm2XReferenceIdeal.τ).loc Cert.Norm2XReferenceIdeal.main_arg2) = m ((c.tc : Thread Cert.Norm2XIdeal.nD Cert.Norm2XIdeal.τ).loc Cert.Norm2XIdeal.main_arg2)
      ∧ m' ((c.tc : Thread Cert.Norm2XReferenceIdeal.nD Cert.Norm2XReferenceIdeal.τ).loc Cert.Norm2XReferenceIdeal.main_arg3) = m ((c.tc : Thread Cert.Norm2XIdeal.nD Cert.Norm2XIdeal.τ).loc Cert.Norm2XIdeal.main_arg3)
      ∧ m' ((c.tc : Thread Cert.Norm2XReferenceIdeal.nD Cert.Norm2XReferenceIdeal.τ).loc Cert.Norm2XReferenceIdeal.main_arg4) = m ((c.tc : Thread Cert.Norm2XIdeal.nD Cert.Norm2XIdeal.τ).loc Cert.Norm2XIdeal.main_arg4)
      ∧ m' ((c.tc : Thread Cert.Norm2XReferenceIdeal.nD Cert.Norm2XReferenceIdeal.τ).loc Cert.Norm2XReferenceIdeal.main_arg5) = m ((c.tc : Thread Cert.Norm2XIdeal.nD Cert.Norm2XIdeal.τ).loc Cert.Norm2XIdeal.main_arg5)
      ∧ m' ((c.tc : Thread Cert.Norm2XReferenceIdeal.nD Cert.Norm2XReferenceIdeal.τ).loc Cert.Norm2XReferenceIdeal.main_arg6) = m ((c.tc : Thread Cert.Norm2XIdeal.nD Cert.Norm2XIdeal.τ).loc Cert.Norm2XIdeal.main_arg6)
      ∧ m' ((c.tc : Thread Cert.Norm2XReferenceIdeal.nD Cert.Norm2XReferenceIdeal.τ).loc Cert.Norm2XReferenceIdeal.main_arg7) = m ((c.tc : Thread Cert.Norm2XIdeal.nD Cert.Norm2XIdeal.τ).loc Cert.Norm2XIdeal.main_arg7)) →
    ∃ (v0 : (c : Dev Cert.Norm2XIdeal.nD) → Buf (Elt Ideal) ((c.tc : Thread Cert.Norm2XIdeal.nD Cert.Norm2XIdeal.τ).loc Cert.Norm2XIdeal.main_v0_0)) (v1 : (c : Dev Cert.Norm2XIdeal.nD) → Buf (Elt Ideal) ((c.tc : Thread Cert.Norm2XIdeal.nD Cert.Norm2XIdeal.τ).loc Cert.Norm2XIdeal.main_v0_1)) (v2 : (c : Dev Cert.Norm2XIdeal.nD) → Buf (Elt Ideal) ((c.tc : Thread Cert.Norm2XIdeal.nD Cert.Norm2XIdeal.τ).loc Cert.Norm2XIdeal.main_v0_2)) (v3 : (c : Dev Cert.Norm2XIdeal.nD) → Buf (Elt Ideal) ((c.tc : Thread Cert.Norm2XIdeal.nD Cert.Norm2XIdeal.τ).loc Cert.Norm2XIdeal.main_v0_3)) (v4 : (c : Dev Cert.Norm2XIdeal.nD) → Buf (Elt Ideal) ((c.tc : Thread Cert.Norm2XIdeal.nD Cert.Norm2XIdeal.τ).loc Cert.Norm2XIdeal.main_v0_4)) (v5 : (c : Dev Cert.Norm2XIdeal.nD) → Buf (Elt Ideal) ((c.tc : Thread Cert.Norm2XIdeal.nD Cert.Norm2XIdeal.τ).loc Cert.Norm2XIdeal.main_v0_5)),
      θ_run (Cert.Norm2XIdeal.defs (F := Ideal)) (onTc (τ := Cert.Norm2XIdeal.τ) (Cert.Norm2XIdeal.main (F := Ideal))) ⟨m, fun _ => 0, g⟩ (fun r => ∀ c : Dev Cert.Norm2XIdeal.nD,
          r.2.mem ((c.tc : Thread Cert.Norm2XIdeal.nD Cert.Norm2XIdeal.τ).loc Cert.Norm2XIdeal.main_v0_0) = v0 c
          ∧ r.2.mem ((c.tc : Thread Cert.Norm2XIdeal.nD Cert.Norm2XIdeal.τ).loc Cert.Norm2XIdeal.main_v0_1) = v1 c
          ∧ r.2.mem ((c.tc : Thread Cert.Norm2XIdeal.nD Cert.Norm2XIdeal.τ).loc Cert.Norm2XIdeal.main_v0_2) = v2 c
          ∧ r.2.mem ((c.tc : Thread Cert.Norm2XIdeal.nD Cert.Norm2XIdeal.τ).loc Cert.Norm2XIdeal.main_v0_3) = v3 c
          ∧ r.2.mem ((c.tc : Thread Cert.Norm2XIdeal.nD Cert.Norm2XIdeal.τ).loc Cert.Norm2XIdeal.main_v0_4) = v4 c
          ∧ r.2.mem ((c.tc : Thread Cert.Norm2XIdeal.nD Cert.Norm2XIdeal.τ).loc Cert.Norm2XIdeal.main_v0_5) = v5 c
          ∧ r.2.mem ((c.tc : Thread Cert.Norm2XIdeal.nD Cert.Norm2XIdeal.τ).loc Cert.Norm2XIdeal.main_arg0) = m ((c.tc : Thread Cert.Norm2XIdeal.nD Cert.Norm2XIdeal.τ).loc Cert.Norm2XIdeal.main_arg0)
          ∧ r.2.mem ((c.tc : Thread Cert.Norm2XIdeal.nD Cert.Norm2XIdeal.τ).loc Cert.Norm2XIdeal.main_arg1) = m ((c.tc : Thread Cert.Norm2XIdeal.nD Cert.Norm2XIdeal.τ).loc Cert.Norm2XIdeal.main_arg1)
          ∧ r.2.mem ((c.tc : Thread Cert.Norm2XIdeal.nD Cert.Norm2XIdeal.τ).loc Cert.Norm2XIdeal.main_arg2) = m ((c.tc : Thread Cert.Norm2XIdeal.nD Cert.Norm2XIdeal.τ).loc Cert.Norm2XIdeal.main_arg2)
          ∧ r.2.mem ((c.tc : Thread Cert.Norm2XIdeal.nD Cert.Norm2XIdeal.τ).loc Cert.Norm2XIdeal.main_arg3) = m ((c.tc : Thread Cert.Norm2XIdeal.nD Cert.Norm2XIdeal.τ).loc Cert.Norm2XIdeal.main_arg3)
          ∧ r.2.mem ((c.tc : Thread Cert.Norm2XIdeal.nD Cert.Norm2XIdeal.τ).loc Cert.Norm2XIdeal.main_arg4) = m ((c.tc : Thread Cert.Norm2XIdeal.nD Cert.Norm2XIdeal.τ).loc Cert.Norm2XIdeal.main_arg4)
          ∧ r.2.mem ((c.tc : Thread Cert.Norm2XIdeal.nD Cert.Norm2XIdeal.τ).loc Cert.Norm2XIdeal.main_arg5) = m ((c.tc : Thread Cert.Norm2XIdeal.nD Cert.Norm2XIdeal.τ).loc Cert.Norm2XIdeal.main_arg5)
          ∧ r.2.mem ((c.tc : Thread Cert.Norm2XIdeal.nD Cert.Norm2XIdeal.τ).loc Cert.Norm2XIdeal.main_arg6) = m ((c.tc : Thread Cert.Norm2XIdeal.nD Cert.Norm2XIdeal.τ).loc Cert.Norm2XIdeal.main_arg6)
          ∧ r.2.mem ((c.tc : Thread Cert.Norm2XIdeal.nD Cert.Norm2XIdeal.τ).loc Cert.Norm2XIdeal.main_arg7) = m ((c.tc : Thread Cert.Norm2XIdeal.nD Cert.Norm2XIdeal.τ).loc Cert.Norm2XIdeal.main_arg7))
      ∧ θ_run (Cert.Norm2XReferenceIdeal.defs (F := Ideal)) (onTc (τ := Cert.Norm2XReferenceIdeal.τ) (Cert.Norm2XReferenceIdeal.main (F := Ideal))) ⟨m', fun _ => 0, g'⟩ (fun r => ∀ c : Dev Cert.Norm2XReferenceIdeal.nD,
          r.2.mem ((c.tc : Thread Cert.Norm2XReferenceIdeal.nD Cert.Norm2XReferenceIdeal.τ).loc Cert.Norm2XReferenceIdeal.main_v51) = v0 c
          ∧ r.2.mem ((c.tc : Thread Cert.Norm2XReferenceIdeal.nD Cert.Norm2XReferenceIdeal.τ).loc Cert.Norm2XReferenceIdeal.main_v58) = v1 c
          ∧ r.2.mem ((c.tc : Thread Cert.Norm2XReferenceIdeal.nD Cert.Norm2XReferenceIdeal.τ).loc Cert.Norm2XReferenceIdeal.main_v57) = v2 c
          ∧ r.2.mem ((c.tc : Thread Cert.Norm2XReferenceIdeal.nD Cert.Norm2XReferenceIdeal.τ).loc Cert.Norm2XReferenceIdeal.main_v34) = v3 c
          ∧ r.2.mem ((c.tc : Thread Cert.Norm2XReferenceIdeal.nD Cert.Norm2XReferenceIdeal.τ).loc Cert.Norm2XReferenceIdeal.main_v29) = v4 c
          ∧ r.2.mem ((c.tc : Thread Cert.Norm2XReferenceIdeal.nD Cert.Norm2XReferenceIdeal.τ).loc Cert.Norm2XReferenceIdeal.main_v26) = v5 c
          ∧ r.2.mem ((c.tc : Thread Cert.Norm2XReferenceIdeal.nD Cert.Norm2XReferenceIdeal.τ).loc Cert.Norm2XReferenceIdeal.main_arg0) = m' ((c.tc : Thread Cert.Norm2XReferenceIdeal.nD Cert.Norm2XReferenceIdeal.τ).loc Cert.Norm2XReferenceIdeal.main_arg0)
          ∧ r.2.mem ((c.tc : Thread Cert.Norm2XReferenceIdeal.nD Cert.Norm2XReferenceIdeal.τ).loc Cert.Norm2XReferenceIdeal.main_arg1) = m' ((c.tc : Thread Cert.Norm2XReferenceIdeal.nD Cert.Norm2XReferenceIdeal.τ).loc Cert.Norm2XReferenceIdeal.main_arg1)
          ∧ r.2.mem ((c.tc : Thread Cert.Norm2XReferenceIdeal.nD Cert.Norm2XReferenceIdeal.τ).loc Cert.Norm2XReferenceIdeal.main_arg2) = m' ((c.tc : Thread Cert.Norm2XReferenceIdeal.nD Cert.Norm2XReferenceIdeal.τ).loc Cert.Norm2XReferenceIdeal.main_arg2)
          ∧ r.2.mem ((c.tc : Thread Cert.Norm2XReferenceIdeal.nD Cert.Norm2XReferenceIdeal.τ).loc Cert.Norm2XReferenceIdeal.main_arg3) = m' ((c.tc : Thread Cert.Norm2XReferenceIdeal.nD Cert.Norm2XReferenceIdeal.τ).loc Cert.Norm2XReferenceIdeal.main_arg3)
          ∧ r.2.mem ((c.tc : Thread Cert.Norm2XReferenceIdeal.nD Cert.Norm2XReferenceIdeal.τ).loc Cert.Norm2XReferenceIdeal.main_arg4) = m' ((c.tc : Thread Cert.Norm2XReferenceIdeal.nD Cert.Norm2XReferenceIdeal.τ).loc Cert.Norm2XReferenceIdeal.main_arg4)
          ∧ r.2.mem ((c.tc : Thread Cert.Norm2XReferenceIdeal.nD Cert.Norm2XReferenceIdeal.τ).loc Cert.Norm2XReferenceIdeal.main_arg5) = m' ((c.tc : Thread Cert.Norm2XReferenceIdeal.nD Cert.Norm2XReferenceIdeal.τ).loc Cert.Norm2XReferenceIdeal.main_arg5)
          ∧ r.2.mem ((c.tc : Thread Cert.Norm2XReferenceIdeal.nD Cert.Norm2XReferenceIdeal.τ).loc Cert.Norm2XReferenceIdeal.main_arg6) = m' ((c.tc : Thread Cert.Norm2XReferenceIdeal.nD Cert.Norm2XReferenceIdeal.τ).loc Cert.Norm2XReferenceIdeal.main_arg6)
          ∧ r.2.mem ((c.tc : Thread Cert.Norm2XReferenceIdeal.nD Cert.Norm2XReferenceIdeal.τ).loc Cert.Norm2XReferenceIdeal.main_arg7) = m' ((c.tc : Thread Cert.Norm2XReferenceIdeal.nD Cert.Norm2XReferenceIdeal.τ).loc Cert.Norm2XReferenceIdeal.main_arg7))

def preserves_ResidX_ResidXIdeal : Prop :=
  True

def algebraic_ResidXIdeal_ResidXReferenceIdeal [hResidXIdeal : Cert.ResidXIdeal.Facts] [hResidXReferenceIdeal : Cert.ResidXReferenceIdeal.Facts] : Prop :=
  ∀ (m : (ℓ : Loc Cert.ResidXIdeal.nD Cert.ResidXIdeal.τ Cert.ResidXIdeal.sig) → Buf (Elt Ideal) ℓ) (g : Dev Cert.ResidXIdeal.nD → PrngReg)
    (m' : (ℓ : Loc Cert.ResidXReferenceIdeal.nD Cert.ResidXReferenceIdeal.τ Cert.ResidXReferenceIdeal.sig) → Buf (Elt Ideal) ℓ) (g' : Dev Cert.ResidXReferenceIdeal.nD → PrngReg), Pre_ResidXIdeal m →
    (∀ c : Dev Cert.ResidXIdeal.nD,
      m' ((c.tc : Thread Cert.ResidXReferenceIdeal.nD Cert.ResidXReferenceIdeal.τ).loc Cert.ResidXReferenceIdeal.main_arg0) = m ((c.tc : Thread Cert.ResidXIdeal.nD Cert.ResidXIdeal.τ).loc Cert.ResidXIdeal.main_arg0)
      ∧ m' ((c.tc : Thread Cert.ResidXReferenceIdeal.nD Cert.ResidXReferenceIdeal.τ).loc Cert.ResidXReferenceIdeal.main_arg1) = m ((c.tc : Thread Cert.ResidXIdeal.nD Cert.ResidXIdeal.τ).loc Cert.ResidXIdeal.main_arg1)
      ∧ m' ((c.tc : Thread Cert.ResidXReferenceIdeal.nD Cert.ResidXReferenceIdeal.τ).loc Cert.ResidXReferenceIdeal.main_arg2) = m ((c.tc : Thread Cert.ResidXIdeal.nD Cert.ResidXIdeal.τ).loc Cert.ResidXIdeal.main_arg2)
      ∧ m' ((c.tc : Thread Cert.ResidXReferenceIdeal.nD Cert.ResidXReferenceIdeal.τ).loc Cert.ResidXReferenceIdeal.main_arg3) = m ((c.tc : Thread Cert.ResidXIdeal.nD Cert.ResidXIdeal.τ).loc Cert.ResidXIdeal.main_arg3)) →
    ∃ (v0 : (c : Dev Cert.ResidXIdeal.nD) → Buf (Elt Ideal) ((c.tc : Thread Cert.ResidXIdeal.nD Cert.ResidXIdeal.τ).loc Cert.ResidXIdeal.main_v0_0)) (v1 : (c : Dev Cert.ResidXIdeal.nD) → Buf (Elt Ideal) ((c.tc : Thread Cert.ResidXIdeal.nD Cert.ResidXIdeal.τ).loc Cert.ResidXIdeal.main_v0_1)) (v2 : (c : Dev Cert.ResidXIdeal.nD) → Buf (Elt Ideal) ((c.tc : Thread Cert.ResidXIdeal.nD Cert.ResidXIdeal.τ).loc Cert.ResidXIdeal.main_v0_2)),
      θ_run (Cert.ResidXIdeal.defs (F := Ideal)) (onTc (τ := Cert.ResidXIdeal.τ) (Cert.ResidXIdeal.main (F := Ideal))) ⟨m, fun _ => 0, g⟩ (fun r => ∀ c : Dev Cert.ResidXIdeal.nD,
          r.2.mem ((c.tc : Thread Cert.ResidXIdeal.nD Cert.ResidXIdeal.τ).loc Cert.ResidXIdeal.main_v0_0) = v0 c
          ∧ r.2.mem ((c.tc : Thread Cert.ResidXIdeal.nD Cert.ResidXIdeal.τ).loc Cert.ResidXIdeal.main_v0_1) = v1 c
          ∧ r.2.mem ((c.tc : Thread Cert.ResidXIdeal.nD Cert.ResidXIdeal.τ).loc Cert.ResidXIdeal.main_v0_2) = v2 c
          ∧ r.2.mem ((c.tc : Thread Cert.ResidXIdeal.nD Cert.ResidXIdeal.τ).loc Cert.ResidXIdeal.main_arg0) = m ((c.tc : Thread Cert.ResidXIdeal.nD Cert.ResidXIdeal.τ).loc Cert.ResidXIdeal.main_arg0)
          ∧ r.2.mem ((c.tc : Thread Cert.ResidXIdeal.nD Cert.ResidXIdeal.τ).loc Cert.ResidXIdeal.main_arg1) = m ((c.tc : Thread Cert.ResidXIdeal.nD Cert.ResidXIdeal.τ).loc Cert.ResidXIdeal.main_arg1)
          ∧ r.2.mem ((c.tc : Thread Cert.ResidXIdeal.nD Cert.ResidXIdeal.τ).loc Cert.ResidXIdeal.main_arg2) = m ((c.tc : Thread Cert.ResidXIdeal.nD Cert.ResidXIdeal.τ).loc Cert.ResidXIdeal.main_arg2)
          ∧ r.2.mem ((c.tc : Thread Cert.ResidXIdeal.nD Cert.ResidXIdeal.τ).loc Cert.ResidXIdeal.main_arg3) = m ((c.tc : Thread Cert.ResidXIdeal.nD Cert.ResidXIdeal.τ).loc Cert.ResidXIdeal.main_arg3))
      ∧ θ_run (Cert.ResidXReferenceIdeal.defs (F := Ideal)) (onTc (τ := Cert.ResidXReferenceIdeal.τ) (Cert.ResidXReferenceIdeal.main (F := Ideal))) ⟨m', fun _ => 0, g'⟩ (fun r => ∀ c : Dev Cert.ResidXReferenceIdeal.nD,
          r.2.mem ((c.tc : Thread Cert.ResidXReferenceIdeal.nD Cert.ResidXReferenceIdeal.τ).loc Cert.ResidXReferenceIdeal.main_arg3) = v0 c
          ∧ r.2.mem ((c.tc : Thread Cert.ResidXReferenceIdeal.nD Cert.ResidXReferenceIdeal.τ).loc Cert.ResidXReferenceIdeal.main_v9) = v1 c
          ∧ r.2.mem ((c.tc : Thread Cert.ResidXReferenceIdeal.nD Cert.ResidXReferenceIdeal.τ).loc Cert.ResidXReferenceIdeal.main_v8) = v2 c
          ∧ r.2.mem ((c.tc : Thread Cert.ResidXReferenceIdeal.nD Cert.ResidXReferenceIdeal.τ).loc Cert.ResidXReferenceIdeal.main_arg0) = m' ((c.tc : Thread Cert.ResidXReferenceIdeal.nD Cert.ResidXReferenceIdeal.τ).loc Cert.ResidXReferenceIdeal.main_arg0)
          ∧ r.2.mem ((c.tc : Thread Cert.ResidXReferenceIdeal.nD Cert.ResidXReferenceIdeal.τ).loc Cert.ResidXReferenceIdeal.main_arg1) = m' ((c.tc : Thread Cert.ResidXReferenceIdeal.nD Cert.ResidXReferenceIdeal.τ).loc Cert.ResidXReferenceIdeal.main_arg1)
          ∧ r.2.mem ((c.tc : Thread Cert.ResidXReferenceIdeal.nD Cert.ResidXReferenceIdeal.τ).loc Cert.ResidXReferenceIdeal.main_arg2) = m' ((c.tc : Thread Cert.ResidXReferenceIdeal.nD Cert.ResidXReferenceIdeal.τ).loc Cert.ResidXReferenceIdeal.main_arg2)
          ∧ r.2.mem ((c.tc : Thread Cert.ResidXReferenceIdeal.nD Cert.ResidXReferenceIdeal.τ).loc Cert.ResidXReferenceIdeal.main_arg3) = m' ((c.tc : Thread Cert.ResidXReferenceIdeal.nD Cert.ResidXReferenceIdeal.τ).loc Cert.ResidXReferenceIdeal.main_arg3))

def preserves_Norm1_Norm1Ideal : Prop :=
  True

def algebraic_Norm1Ideal_Norm1ReferenceIdeal [hNorm1Ideal : Cert.Norm1Ideal.Facts] [hNorm1ReferenceIdeal : Cert.Norm1ReferenceIdeal.Facts] : Prop :=
  ∀ (m : (ℓ : Loc Cert.Norm1Ideal.nD Cert.Norm1Ideal.τ Cert.Norm1Ideal.sig) → Buf (Elt Ideal) ℓ) (g : Dev Cert.Norm1Ideal.nD → PrngReg)
    (m' : (ℓ : Loc Cert.Norm1ReferenceIdeal.nD Cert.Norm1ReferenceIdeal.τ Cert.Norm1ReferenceIdeal.sig) → Buf (Elt Ideal) ℓ) (g' : Dev Cert.Norm1ReferenceIdeal.nD → PrngReg), Pre_Norm1Ideal m →
    (∀ c : Dev Cert.Norm1Ideal.nD,
      m' ((c.tc : Thread Cert.Norm1ReferenceIdeal.nD Cert.Norm1ReferenceIdeal.τ).loc Cert.Norm1ReferenceIdeal.main_arg0) = m ((c.tc : Thread Cert.Norm1Ideal.nD Cert.Norm1Ideal.τ).loc Cert.Norm1Ideal.main_arg0)
      ∧ m' ((c.tc : Thread Cert.Norm1ReferenceIdeal.nD Cert.Norm1ReferenceIdeal.τ).loc Cert.Norm1ReferenceIdeal.main_arg1) = m ((c.tc : Thread Cert.Norm1Ideal.nD Cert.Norm1Ideal.τ).loc Cert.Norm1Ideal.main_arg1)
      ∧ m' ((c.tc : Thread Cert.Norm1ReferenceIdeal.nD Cert.Norm1ReferenceIdeal.τ).loc Cert.Norm1ReferenceIdeal.main_arg2) = m ((c.tc : Thread Cert.Norm1Ideal.nD Cert.Norm1Ideal.τ).loc Cert.Norm1Ideal.main_arg2)
      ∧ m' ((c.tc : Thread Cert.Norm1ReferenceIdeal.nD Cert.Norm1ReferenceIdeal.τ).loc Cert.Norm1ReferenceIdeal.main_arg3) = m ((c.tc : Thread Cert.Norm1Ideal.nD Cert.Norm1Ideal.τ).loc Cert.Norm1Ideal.main_arg3)) →
    ∃ (v0 : (c : Dev Cert.Norm1Ideal.nD) → Buf (Elt Ideal) ((c.tc : Thread Cert.Norm1Ideal.nD Cert.Norm1Ideal.τ).loc Cert.Norm1Ideal.main_v0)),
      θ_run (Cert.Norm1Ideal.defs (F := Ideal)) (onTc (τ := Cert.Norm1Ideal.τ) (Cert.Norm1Ideal.main (F := Ideal))) ⟨m, fun _ => 0, g⟩ (fun r => ∀ c : Dev Cert.Norm1Ideal.nD,
          r.2.mem ((c.tc : Thread Cert.Norm1Ideal.nD Cert.Norm1Ideal.τ).loc Cert.Norm1Ideal.main_v0) = v0 c
          ∧ r.2.mem ((c.tc : Thread Cert.Norm1Ideal.nD Cert.Norm1Ideal.τ).loc Cert.Norm1Ideal.main_arg0) = m ((c.tc : Thread Cert.Norm1Ideal.nD Cert.Norm1Ideal.τ).loc Cert.Norm1Ideal.main_arg0)
          ∧ r.2.mem ((c.tc : Thread Cert.Norm1Ideal.nD Cert.Norm1Ideal.τ).loc Cert.Norm1Ideal.main_arg1) = m ((c.tc : Thread Cert.Norm1Ideal.nD Cert.Norm1Ideal.τ).loc Cert.Norm1Ideal.main_arg1)
          ∧ r.2.mem ((c.tc : Thread Cert.Norm1Ideal.nD Cert.Norm1Ideal.τ).loc Cert.Norm1Ideal.main_arg2) = m ((c.tc : Thread Cert.Norm1Ideal.nD Cert.Norm1Ideal.τ).loc Cert.Norm1Ideal.main_arg2)
          ∧ r.2.mem ((c.tc : Thread Cert.Norm1Ideal.nD Cert.Norm1Ideal.τ).loc Cert.Norm1Ideal.main_arg3) = m ((c.tc : Thread Cert.Norm1Ideal.nD Cert.Norm1Ideal.τ).loc Cert.Norm1Ideal.main_arg3))
      ∧ θ_run (Cert.Norm1ReferenceIdeal.defs (F := Ideal)) (onTc (τ := Cert.Norm1ReferenceIdeal.τ) (Cert.Norm1ReferenceIdeal.main (F := Ideal))) ⟨m', fun _ => 0, g'⟩ (fun r => ∀ c : Dev Cert.Norm1ReferenceIdeal.nD,
          r.2.mem ((c.tc : Thread Cert.Norm1ReferenceIdeal.nD Cert.Norm1ReferenceIdeal.τ).loc Cert.Norm1ReferenceIdeal.main_v18) = v0 c
          ∧ r.2.mem ((c.tc : Thread Cert.Norm1ReferenceIdeal.nD Cert.Norm1ReferenceIdeal.τ).loc Cert.Norm1ReferenceIdeal.main_arg0) = m' ((c.tc : Thread Cert.Norm1ReferenceIdeal.nD Cert.Norm1ReferenceIdeal.τ).loc Cert.Norm1ReferenceIdeal.main_arg0)
          ∧ r.2.mem ((c.tc : Thread Cert.Norm1ReferenceIdeal.nD Cert.Norm1ReferenceIdeal.τ).loc Cert.Norm1ReferenceIdeal.main_arg1) = m' ((c.tc : Thread Cert.Norm1ReferenceIdeal.nD Cert.Norm1ReferenceIdeal.τ).loc Cert.Norm1ReferenceIdeal.main_arg1)
          ∧ r.2.mem ((c.tc : Thread Cert.Norm1ReferenceIdeal.nD Cert.Norm1ReferenceIdeal.τ).loc Cert.Norm1ReferenceIdeal.main_arg2) = m' ((c.tc : Thread Cert.Norm1ReferenceIdeal.nD Cert.Norm1ReferenceIdeal.τ).loc Cert.Norm1ReferenceIdeal.main_arg2)
          ∧ r.2.mem ((c.tc : Thread Cert.Norm1ReferenceIdeal.nD Cert.Norm1ReferenceIdeal.τ).loc Cert.Norm1ReferenceIdeal.main_arg3) = m' ((c.tc : Thread Cert.Norm1ReferenceIdeal.nD Cert.Norm1ReferenceIdeal.τ).loc Cert.Norm1ReferenceIdeal.main_arg3))

def preserves_Norm2_Norm2Ideal : Prop :=
  True

def algebraic_Norm2Ideal_Norm2ReferenceIdeal [hNorm2Ideal : Cert.Norm2Ideal.Facts] [hNorm2ReferenceIdeal : Cert.Norm2ReferenceIdeal.Facts] : Prop :=
  ∀ (m : (ℓ : Loc Cert.Norm2Ideal.nD Cert.Norm2Ideal.τ Cert.Norm2Ideal.sig) → Buf (Elt Ideal) ℓ) (g : Dev Cert.Norm2Ideal.nD → PrngReg)
    (m' : (ℓ : Loc Cert.Norm2ReferenceIdeal.nD Cert.Norm2ReferenceIdeal.τ Cert.Norm2ReferenceIdeal.sig) → Buf (Elt Ideal) ℓ) (g' : Dev Cert.Norm2ReferenceIdeal.nD → PrngReg), Pre_Norm2Ideal m →
    (∀ c : Dev Cert.Norm2Ideal.nD,
      m' ((c.tc : Thread Cert.Norm2ReferenceIdeal.nD Cert.Norm2ReferenceIdeal.τ).loc Cert.Norm2ReferenceIdeal.main_arg0) = m ((c.tc : Thread Cert.Norm2Ideal.nD Cert.Norm2Ideal.τ).loc Cert.Norm2Ideal.main_arg0)
      ∧ m' ((c.tc : Thread Cert.Norm2ReferenceIdeal.nD Cert.Norm2ReferenceIdeal.τ).loc Cert.Norm2ReferenceIdeal.main_arg1) = m ((c.tc : Thread Cert.Norm2Ideal.nD Cert.Norm2Ideal.τ).loc Cert.Norm2Ideal.main_arg1)
      ∧ m' ((c.tc : Thread Cert.Norm2ReferenceIdeal.nD Cert.Norm2ReferenceIdeal.τ).loc Cert.Norm2ReferenceIdeal.main_arg2) = m ((c.tc : Thread Cert.Norm2Ideal.nD Cert.Norm2Ideal.τ).loc Cert.Norm2Ideal.main_arg2)
      ∧ m' ((c.tc : Thread Cert.Norm2ReferenceIdeal.nD Cert.Norm2ReferenceIdeal.τ).loc Cert.Norm2ReferenceIdeal.main_arg3) = m ((c.tc : Thread Cert.Norm2Ideal.nD Cert.Norm2Ideal.τ).loc Cert.Norm2Ideal.main_arg3)
      ∧ m' ((c.tc : Thread Cert.Norm2ReferenceIdeal.nD Cert.Norm2ReferenceIdeal.τ).loc Cert.Norm2ReferenceIdeal.main_arg4) = m ((c.tc : Thread Cert.Norm2Ideal.nD Cert.Norm2Ideal.τ).loc Cert.Norm2Ideal.main_arg4)
      ∧ m' ((c.tc : Thread Cert.Norm2ReferenceIdeal.nD Cert.Norm2ReferenceIdeal.τ).loc Cert.Norm2ReferenceIdeal.main_arg5) = m ((c.tc : Thread Cert.Norm2Ideal.nD Cert.Norm2Ideal.τ).loc Cert.Norm2Ideal.main_arg5)) →
    ∃ (v0 : (c : Dev Cert.Norm2Ideal.nD) → Buf (Elt Ideal) ((c.tc : Thread Cert.Norm2Ideal.nD Cert.Norm2Ideal.τ).loc Cert.Norm2Ideal.main_v0_0)) (v1 : (c : Dev Cert.Norm2Ideal.nD) → Buf (Elt Ideal) ((c.tc : Thread Cert.Norm2Ideal.nD Cert.Norm2Ideal.τ).loc Cert.Norm2Ideal.main_v0_1)),
      θ_run (Cert.Norm2Ideal.defs (F := Ideal)) (onTc (τ := Cert.Norm2Ideal.τ) (Cert.Norm2Ideal.main (F := Ideal))) ⟨m, fun _ => 0, g⟩ (fun r => ∀ c : Dev Cert.Norm2Ideal.nD,
          r.2.mem ((c.tc : Thread Cert.Norm2Ideal.nD Cert.Norm2Ideal.τ).loc Cert.Norm2Ideal.main_v0_0) = v0 c
          ∧ r.2.mem ((c.tc : Thread Cert.Norm2Ideal.nD Cert.Norm2Ideal.τ).loc Cert.Norm2Ideal.main_v0_1) = v1 c
          ∧ r.2.mem ((c.tc : Thread Cert.Norm2Ideal.nD Cert.Norm2Ideal.τ).loc Cert.Norm2Ideal.main_arg0) = m ((c.tc : Thread Cert.Norm2Ideal.nD Cert.Norm2Ideal.τ).loc Cert.Norm2Ideal.main_arg0)
          ∧ r.2.mem ((c.tc : Thread Cert.Norm2Ideal.nD Cert.Norm2Ideal.τ).loc Cert.Norm2Ideal.main_arg1) = m ((c.tc : Thread Cert.Norm2Ideal.nD Cert.Norm2Ideal.τ).loc Cert.Norm2Ideal.main_arg1)
          ∧ r.2.mem ((c.tc : Thread Cert.Norm2Ideal.nD Cert.Norm2Ideal.τ).loc Cert.Norm2Ideal.main_arg2) = m ((c.tc : Thread Cert.Norm2Ideal.nD Cert.Norm2Ideal.τ).loc Cert.Norm2Ideal.main_arg2)
          ∧ r.2.mem ((c.tc : Thread Cert.Norm2Ideal.nD Cert.Norm2Ideal.τ).loc Cert.Norm2Ideal.main_arg3) = m ((c.tc : Thread Cert.Norm2Ideal.nD Cert.Norm2Ideal.τ).loc Cert.Norm2Ideal.main_arg3)
          ∧ r.2.mem ((c.tc : Thread Cert.Norm2Ideal.nD Cert.Norm2Ideal.τ).loc Cert.Norm2Ideal.main_arg4) = m ((c.tc : Thread Cert.Norm2Ideal.nD Cert.Norm2Ideal.τ).loc Cert.Norm2Ideal.main_arg4)
          ∧ r.2.mem ((c.tc : Thread Cert.Norm2Ideal.nD Cert.Norm2Ideal.τ).loc Cert.Norm2Ideal.main_arg5) = m ((c.tc : Thread Cert.Norm2Ideal.nD Cert.Norm2Ideal.τ).loc Cert.Norm2Ideal.main_arg5))
      ∧ θ_run (Cert.Norm2ReferenceIdeal.defs (F := Ideal)) (onTc (τ := Cert.Norm2ReferenceIdeal.τ) (Cert.Norm2ReferenceIdeal.main (F := Ideal))) ⟨m', fun _ => 0, g'⟩ (fun r => ∀ c : Dev Cert.Norm2ReferenceIdeal.nD,
          r.2.mem ((c.tc : Thread Cert.Norm2ReferenceIdeal.nD Cert.Norm2ReferenceIdeal.τ).loc Cert.Norm2ReferenceIdeal.main_v21) = v0 c
          ∧ r.2.mem ((c.tc : Thread Cert.Norm2ReferenceIdeal.nD Cert.Norm2ReferenceIdeal.τ).loc Cert.Norm2ReferenceIdeal.main_v2) = v1 c
          ∧ r.2.mem ((c.tc : Thread Cert.Norm2ReferenceIdeal.nD Cert.Norm2ReferenceIdeal.τ).loc Cert.Norm2ReferenceIdeal.main_arg0) = m' ((c.tc : Thread Cert.Norm2ReferenceIdeal.nD Cert.Norm2ReferenceIdeal.τ).loc Cert.Norm2ReferenceIdeal.main_arg0)
          ∧ r.2.mem ((c.tc : Thread Cert.Norm2ReferenceIdeal.nD Cert.Norm2ReferenceIdeal.τ).loc Cert.Norm2ReferenceIdeal.main_arg1) = m' ((c.tc : Thread Cert.Norm2ReferenceIdeal.nD Cert.Norm2ReferenceIdeal.τ).loc Cert.Norm2ReferenceIdeal.main_arg1)
          ∧ r.2.mem ((c.tc : Thread Cert.Norm2ReferenceIdeal.nD Cert.Norm2ReferenceIdeal.τ).loc Cert.Norm2ReferenceIdeal.main_arg2) = m' ((c.tc : Thread Cert.Norm2ReferenceIdeal.nD Cert.Norm2ReferenceIdeal.τ).loc Cert.Norm2ReferenceIdeal.main_arg2)
          ∧ r.2.mem ((c.tc : Thread Cert.Norm2ReferenceIdeal.nD Cert.Norm2ReferenceIdeal.τ).loc Cert.Norm2ReferenceIdeal.main_arg3) = m' ((c.tc : Thread Cert.Norm2ReferenceIdeal.nD Cert.Norm2ReferenceIdeal.τ).loc Cert.Norm2ReferenceIdeal.main_arg3)
          ∧ r.2.mem ((c.tc : Thread Cert.Norm2ReferenceIdeal.nD Cert.Norm2ReferenceIdeal.τ).loc Cert.Norm2ReferenceIdeal.main_arg4) = m' ((c.tc : Thread Cert.Norm2ReferenceIdeal.nD Cert.Norm2ReferenceIdeal.τ).loc Cert.Norm2ReferenceIdeal.main_arg4)
          ∧ r.2.mem ((c.tc : Thread Cert.Norm2ReferenceIdeal.nD Cert.Norm2ReferenceIdeal.τ).loc Cert.Norm2ReferenceIdeal.main_arg5) = m' ((c.tc : Thread Cert.Norm2ReferenceIdeal.nD Cert.Norm2ReferenceIdeal.τ).loc Cert.Norm2ReferenceIdeal.main_arg5))

def preserves_Resid_ResidIdeal : Prop :=
  True

def algebraic_ResidIdeal_ResidReferenceIdeal [hResidIdeal : Cert.ResidIdeal.Facts] [hResidReferenceIdeal : Cert.ResidReferenceIdeal.Facts] : Prop :=
  ∀ (m : (ℓ : Loc Cert.ResidIdeal.nD Cert.ResidIdeal.τ Cert.ResidIdeal.sig) → Buf (Elt Ideal) ℓ) (g : Dev Cert.ResidIdeal.nD → PrngReg)
    (m' : (ℓ : Loc Cert.ResidReferenceIdeal.nD Cert.ResidReferenceIdeal.τ Cert.ResidReferenceIdeal.sig) → Buf (Elt Ideal) ℓ) (g' : Dev Cert.ResidReferenceIdeal.nD → PrngReg), Pre_ResidIdeal m →
    (∀ c : Dev Cert.ResidIdeal.nD,
      m' ((c.tc : Thread Cert.ResidReferenceIdeal.nD Cert.ResidReferenceIdeal.τ).loc Cert.ResidReferenceIdeal.main_arg0) = m ((c.tc : Thread Cert.ResidIdeal.nD Cert.ResidIdeal.τ).loc Cert.ResidIdeal.main_arg0)
      ∧ m' ((c.tc : Thread Cert.ResidReferenceIdeal.nD Cert.ResidReferenceIdeal.τ).loc Cert.ResidReferenceIdeal.main_arg1) = m ((c.tc : Thread Cert.ResidIdeal.nD Cert.ResidIdeal.τ).loc Cert.ResidIdeal.main_arg1)
      ∧ m' ((c.tc : Thread Cert.ResidReferenceIdeal.nD Cert.ResidReferenceIdeal.τ).loc Cert.ResidReferenceIdeal.main_arg2) = m ((c.tc : Thread Cert.ResidIdeal.nD Cert.ResidIdeal.τ).loc Cert.ResidIdeal.main_arg2)) →
    ∃ (v0 : (c : Dev Cert.ResidIdeal.nD) → Buf (Elt Ideal) ((c.tc : Thread Cert.ResidIdeal.nD Cert.ResidIdeal.τ).loc Cert.ResidIdeal.main_v0)),
      θ_run (Cert.ResidIdeal.defs (F := Ideal)) (onTc (τ := Cert.ResidIdeal.τ) (Cert.ResidIdeal.main (F := Ideal))) ⟨m, fun _ => 0, g⟩ (fun r => ∀ c : Dev Cert.ResidIdeal.nD,
          r.2.mem ((c.tc : Thread Cert.ResidIdeal.nD Cert.ResidIdeal.τ).loc Cert.ResidIdeal.main_v0) = v0 c
          ∧ r.2.mem ((c.tc : Thread Cert.ResidIdeal.nD Cert.ResidIdeal.τ).loc Cert.ResidIdeal.main_arg0) = m ((c.tc : Thread Cert.ResidIdeal.nD Cert.ResidIdeal.τ).loc Cert.ResidIdeal.main_arg0)
          ∧ r.2.mem ((c.tc : Thread Cert.ResidIdeal.nD Cert.ResidIdeal.τ).loc Cert.ResidIdeal.main_arg1) = m ((c.tc : Thread Cert.ResidIdeal.nD Cert.ResidIdeal.τ).loc Cert.ResidIdeal.main_arg1)
          ∧ r.2.mem ((c.tc : Thread Cert.ResidIdeal.nD Cert.ResidIdeal.τ).loc Cert.ResidIdeal.main_arg2) = m ((c.tc : Thread Cert.ResidIdeal.nD Cert.ResidIdeal.τ).loc Cert.ResidIdeal.main_arg2))
      ∧ θ_run (Cert.ResidReferenceIdeal.defs (F := Ideal)) (onTc (τ := Cert.ResidReferenceIdeal.τ) (Cert.ResidReferenceIdeal.main (F := Ideal))) ⟨m', fun _ => 0, g'⟩ (fun r => ∀ c : Dev Cert.ResidReferenceIdeal.nD,
          r.2.mem ((c.tc : Thread Cert.ResidReferenceIdeal.nD Cert.ResidReferenceIdeal.τ).loc Cert.ResidReferenceIdeal.main_v2) = v0 c
          ∧ r.2.mem ((c.tc : Thread Cert.ResidReferenceIdeal.nD Cert.ResidReferenceIdeal.τ).loc Cert.ResidReferenceIdeal.main_arg0) = m' ((c.tc : Thread Cert.ResidReferenceIdeal.nD Cert.ResidReferenceIdeal.τ).loc Cert.ResidReferenceIdeal.main_arg0)
          ∧ r.2.mem ((c.tc : Thread Cert.ResidReferenceIdeal.nD Cert.ResidReferenceIdeal.τ).loc Cert.ResidReferenceIdeal.main_arg1) = m' ((c.tc : Thread Cert.ResidReferenceIdeal.nD Cert.ResidReferenceIdeal.τ).loc Cert.ResidReferenceIdeal.main_arg1)
          ∧ r.2.mem ((c.tc : Thread Cert.ResidReferenceIdeal.nD Cert.ResidReferenceIdeal.τ).loc Cert.ResidReferenceIdeal.main_arg2) = m' ((c.tc : Thread Cert.ResidReferenceIdeal.nD Cert.ResidReferenceIdeal.τ).loc Cert.ResidReferenceIdeal.main_arg2))

def preserves_LossHead_LossHeadIdeal : Prop :=
  True

def algebraic_LossHeadIdeal_LossHeadReferenceIdeal [hLossHeadIdeal : Cert.LossHeadIdeal.Facts] [hLossHeadReferenceIdeal : Cert.LossHeadReferenceIdeal.Facts] : Prop :=
  ∀ (m : (ℓ : Loc Cert.LossHeadIdeal.nD Cert.LossHeadIdeal.τ Cert.LossHeadIdeal.sig) → Buf (Elt Ideal) ℓ) (g : Dev Cert.LossHeadIdeal.nD → PrngReg)
    (m' : (ℓ : Loc Cert.LossHeadReferenceIdeal.nD Cert.LossHeadReferenceIdeal.τ Cert.LossHeadReferenceIdeal.sig) → Buf (Elt Ideal) ℓ) (g' : Dev Cert.LossHeadReferenceIdeal.nD → PrngReg), Pre_LossHeadIdeal m →
    (∀ c : Dev Cert.LossHeadIdeal.nD,
      m' ((c.tc : Thread Cert.LossHeadReferenceIdeal.nD Cert.LossHeadReferenceIdeal.τ).loc Cert.LossHeadReferenceIdeal.main_arg0) = m ((c.tc : Thread Cert.LossHeadIdeal.nD Cert.LossHeadIdeal.τ).loc Cert.LossHeadIdeal.main_arg0)
      ∧ m' ((c.tc : Thread Cert.LossHeadReferenceIdeal.nD Cert.LossHeadReferenceIdeal.τ).loc Cert.LossHeadReferenceIdeal.main_arg1) = m ((c.tc : Thread Cert.LossHeadIdeal.nD Cert.LossHeadIdeal.τ).loc Cert.LossHeadIdeal.main_arg1)
      ∧ m' ((c.tc : Thread Cert.LossHeadReferenceIdeal.nD Cert.LossHeadReferenceIdeal.τ).loc Cert.LossHeadReferenceIdeal.main_arg2) = m ((c.tc : Thread Cert.LossHeadIdeal.nD Cert.LossHeadIdeal.τ).loc Cert.LossHeadIdeal.main_arg2)) →
    ∃ (v0 : (c : Dev Cert.LossHeadIdeal.nD) → Buf (Elt Ideal) ((c.tc : Thread Cert.LossHeadIdeal.nD Cert.LossHeadIdeal.τ).loc Cert.LossHeadIdeal.main_v0_0)) (v1 : (c : Dev Cert.LossHeadIdeal.nD) → Buf (Elt Ideal) ((c.tc : Thread Cert.LossHeadIdeal.nD Cert.LossHeadIdeal.τ).loc Cert.LossHeadIdeal.main_v0_1)) (v2 : (c : Dev Cert.LossHeadIdeal.nD) → Buf (Elt Ideal) ((c.tc : Thread Cert.LossHeadIdeal.nD Cert.LossHeadIdeal.τ).loc Cert.LossHeadIdeal.main_v0_2)),
      θ_run (Cert.LossHeadIdeal.defs (F := Ideal)) (onTc (τ := Cert.LossHeadIdeal.τ) (Cert.LossHeadIdeal.main (F := Ideal))) ⟨m, fun _ => 0, g⟩ (fun r => ∀ c : Dev Cert.LossHeadIdeal.nD,
          r.2.mem ((c.tc : Thread Cert.LossHeadIdeal.nD Cert.LossHeadIdeal.τ).loc Cert.LossHeadIdeal.main_v0_0) = v0 c
          ∧ r.2.mem ((c.tc : Thread Cert.LossHeadIdeal.nD Cert.LossHeadIdeal.τ).loc Cert.LossHeadIdeal.main_v0_1) = v1 c
          ∧ r.2.mem ((c.tc : Thread Cert.LossHeadIdeal.nD Cert.LossHeadIdeal.τ).loc Cert.LossHeadIdeal.main_v0_2) = v2 c
          ∧ r.2.mem ((c.tc : Thread Cert.LossHeadIdeal.nD Cert.LossHeadIdeal.τ).loc Cert.LossHeadIdeal.main_arg0) = m ((c.tc : Thread Cert.LossHeadIdeal.nD Cert.LossHeadIdeal.τ).loc Cert.LossHeadIdeal.main_arg0)
          ∧ r.2.mem ((c.tc : Thread Cert.LossHeadIdeal.nD Cert.LossHeadIdeal.τ).loc Cert.LossHeadIdeal.main_arg1) = m ((c.tc : Thread Cert.LossHeadIdeal.nD Cert.LossHeadIdeal.τ).loc Cert.LossHeadIdeal.main_arg1)
          ∧ r.2.mem ((c.tc : Thread Cert.LossHeadIdeal.nD Cert.LossHeadIdeal.τ).loc Cert.LossHeadIdeal.main_arg2) = m ((c.tc : Thread Cert.LossHeadIdeal.nD Cert.LossHeadIdeal.τ).loc Cert.LossHeadIdeal.main_arg2))
      ∧ θ_run (Cert.LossHeadReferenceIdeal.defs (F := Ideal)) (onTc (τ := Cert.LossHeadReferenceIdeal.τ) (Cert.LossHeadReferenceIdeal.main (F := Ideal))) ⟨m', fun _ => 0, g'⟩ (fun r => ∀ c : Dev Cert.LossHeadReferenceIdeal.nD,
          r.2.mem ((c.tc : Thread Cert.LossHeadReferenceIdeal.nD Cert.LossHeadReferenceIdeal.τ).loc Cert.LossHeadReferenceIdeal.main_v24) = v0 c
          ∧ r.2.mem ((c.tc : Thread Cert.LossHeadReferenceIdeal.nD Cert.LossHeadReferenceIdeal.τ).loc Cert.LossHeadReferenceIdeal.main_v49) = v1 c
          ∧ r.2.mem ((c.tc : Thread Cert.LossHeadReferenceIdeal.nD Cert.LossHeadReferenceIdeal.τ).loc Cert.LossHeadReferenceIdeal.main_v33) = v2 c
          ∧ r.2.mem ((c.tc : Thread Cert.LossHeadReferenceIdeal.nD Cert.LossHeadReferenceIdeal.τ).loc Cert.LossHeadReferenceIdeal.main_arg0) = m' ((c.tc : Thread Cert.LossHeadReferenceIdeal.nD Cert.LossHeadReferenceIdeal.τ).loc Cert.LossHeadReferenceIdeal.main_arg0)
          ∧ r.2.mem ((c.tc : Thread Cert.LossHeadReferenceIdeal.nD Cert.LossHeadReferenceIdeal.τ).loc Cert.LossHeadReferenceIdeal.main_arg1) = m' ((c.tc : Thread Cert.LossHeadReferenceIdeal.nD Cert.LossHeadReferenceIdeal.τ).loc Cert.LossHeadReferenceIdeal.main_arg1)
          ∧ r.2.mem ((c.tc : Thread Cert.LossHeadReferenceIdeal.nD Cert.LossHeadReferenceIdeal.τ).loc Cert.LossHeadReferenceIdeal.main_arg2) = m' ((c.tc : Thread Cert.LossHeadReferenceIdeal.nD Cert.LossHeadReferenceIdeal.τ).loc Cert.LossHeadReferenceIdeal.main_arg2))

def preserves_LruOut_LruOutIdeal : Prop :=
  True

def algebraic_LruOutIdeal_LruOutReferenceIdeal [hLruOutIdeal : Cert.LruOutIdeal.Facts] [hLruOutReferenceIdeal : Cert.LruOutReferenceIdeal.Facts] : Prop :=
  ∀ (m : (ℓ : Loc Cert.LruOutIdeal.nD Cert.LruOutIdeal.τ Cert.LruOutIdeal.sig) → Buf (Elt Ideal) ℓ) (g : Dev Cert.LruOutIdeal.nD → PrngReg)
    (m' : (ℓ : Loc Cert.LruOutReferenceIdeal.nD Cert.LruOutReferenceIdeal.τ Cert.LruOutReferenceIdeal.sig) → Buf (Elt Ideal) ℓ) (g' : Dev Cert.LruOutReferenceIdeal.nD → PrngReg), Pre_LruOutIdeal m →
    (∀ c : Dev Cert.LruOutIdeal.nD,
      m' ((c.tc : Thread Cert.LruOutReferenceIdeal.nD Cert.LruOutReferenceIdeal.τ).loc Cert.LruOutReferenceIdeal.main_arg0) = m ((c.tc : Thread Cert.LruOutIdeal.nD Cert.LruOutIdeal.τ).loc Cert.LruOutIdeal.main_arg0)
      ∧ m' ((c.tc : Thread Cert.LruOutReferenceIdeal.nD Cert.LruOutReferenceIdeal.τ).loc Cert.LruOutReferenceIdeal.main_arg1) = m ((c.tc : Thread Cert.LruOutIdeal.nD Cert.LruOutIdeal.τ).loc Cert.LruOutIdeal.main_arg1)) →
    ∃ (v0 : (c : Dev Cert.LruOutIdeal.nD) → Buf (Elt Ideal) ((c.tc : Thread Cert.LruOutIdeal.nD Cert.LruOutIdeal.τ).loc Cert.LruOutIdeal.main_v0)),
      θ_run (Cert.LruOutIdeal.defs (F := Ideal)) (onTc (τ := Cert.LruOutIdeal.τ) (Cert.LruOutIdeal.main (F := Ideal))) ⟨m, fun _ => 0, g⟩ (fun r => ∀ c : Dev Cert.LruOutIdeal.nD,
          r.2.mem ((c.tc : Thread Cert.LruOutIdeal.nD Cert.LruOutIdeal.τ).loc Cert.LruOutIdeal.main_v0) = v0 c
          ∧ r.2.mem ((c.tc : Thread Cert.LruOutIdeal.nD Cert.LruOutIdeal.τ).loc Cert.LruOutIdeal.main_arg0) = m ((c.tc : Thread Cert.LruOutIdeal.nD Cert.LruOutIdeal.τ).loc Cert.LruOutIdeal.main_arg0)
          ∧ r.2.mem ((c.tc : Thread Cert.LruOutIdeal.nD Cert.LruOutIdeal.τ).loc Cert.LruOutIdeal.main_arg1) = m ((c.tc : Thread Cert.LruOutIdeal.nD Cert.LruOutIdeal.τ).loc Cert.LruOutIdeal.main_arg1))
      ∧ θ_run (Cert.LruOutReferenceIdeal.defs (F := Ideal)) (onTc (τ := Cert.LruOutReferenceIdeal.τ) (Cert.LruOutReferenceIdeal.main (F := Ideal))) ⟨m', fun _ => 0, g'⟩ (fun r => ∀ c : Dev Cert.LruOutReferenceIdeal.nD,
          r.2.mem ((c.tc : Thread Cert.LruOutReferenceIdeal.nD Cert.LruOutReferenceIdeal.τ).loc Cert.LruOutReferenceIdeal.main_v13) = v0 c
          ∧ r.2.mem ((c.tc : Thread Cert.LruOutReferenceIdeal.nD Cert.LruOutReferenceIdeal.τ).loc Cert.LruOutReferenceIdeal.main_arg0) = m' ((c.tc : Thread Cert.LruOutReferenceIdeal.nD Cert.LruOutReferenceIdeal.τ).loc Cert.LruOutReferenceIdeal.main_arg0)
          ∧ r.2.mem ((c.tc : Thread Cert.LruOutReferenceIdeal.nD Cert.LruOutReferenceIdeal.τ).loc Cert.LruOutReferenceIdeal.main_arg1) = m' ((c.tc : Thread Cert.LruOutReferenceIdeal.nD Cert.LruOutReferenceIdeal.τ).loc Cert.LruOutReferenceIdeal.main_arg1))

def preserves_Silu_SiluIdeal : Prop :=
  True

def algebraic_SiluIdeal_SiluReferenceIdeal [hSiluIdeal : Cert.SiluIdeal.Facts] [hSiluReferenceIdeal : Cert.SiluReferenceIdeal.Facts] : Prop :=
  ∀ (m : (ℓ : Loc Cert.SiluIdeal.nD Cert.SiluIdeal.τ Cert.SiluIdeal.sig) → Buf (Elt Ideal) ℓ) (g : Dev Cert.SiluIdeal.nD → PrngReg)
    (m' : (ℓ : Loc Cert.SiluReferenceIdeal.nD Cert.SiluReferenceIdeal.τ Cert.SiluReferenceIdeal.sig) → Buf (Elt Ideal) ℓ) (g' : Dev Cert.SiluReferenceIdeal.nD → PrngReg), Pre_SiluIdeal m →
    (∀ c : Dev Cert.SiluIdeal.nD,
      m' ((c.tc : Thread Cert.SiluReferenceIdeal.nD Cert.SiluReferenceIdeal.τ).loc Cert.SiluReferenceIdeal.main_arg0) = m ((c.tc : Thread Cert.SiluIdeal.nD Cert.SiluIdeal.τ).loc Cert.SiluIdeal.main_arg0)) →
    ∃ (v0 : (c : Dev Cert.SiluIdeal.nD) → Buf (Elt Ideal) ((c.tc : Thread Cert.SiluIdeal.nD Cert.SiluIdeal.τ).loc Cert.SiluIdeal.main_v0)),
      θ_run (Cert.SiluIdeal.defs (F := Ideal)) (onTc (τ := Cert.SiluIdeal.τ) (Cert.SiluIdeal.main (F := Ideal))) ⟨m, fun _ => 0, g⟩ (fun r => ∀ c : Dev Cert.SiluIdeal.nD,
          r.2.mem ((c.tc : Thread Cert.SiluIdeal.nD Cert.SiluIdeal.τ).loc Cert.SiluIdeal.main_v0) = v0 c
          ∧ r.2.mem ((c.tc : Thread Cert.SiluIdeal.nD Cert.SiluIdeal.τ).loc Cert.SiluIdeal.main_arg0) = m ((c.tc : Thread Cert.SiluIdeal.nD Cert.SiluIdeal.τ).loc Cert.SiluIdeal.main_arg0))
      ∧ θ_run (Cert.SiluReferenceIdeal.defs (F := Ideal)) (onTc (τ := Cert.SiluReferenceIdeal.τ) (Cert.SiluReferenceIdeal.main (F := Ideal))) ⟨m', fun _ => 0, g'⟩ (fun r => ∀ c : Dev Cert.SiluReferenceIdeal.nD,
          r.2.mem ((c.tc : Thread Cert.SiluReferenceIdeal.nD Cert.SiluReferenceIdeal.τ).loc Cert.SiluReferenceIdeal.main_v0) = v0 c
          ∧ r.2.mem ((c.tc : Thread Cert.SiluReferenceIdeal.nD Cert.SiluReferenceIdeal.τ).loc Cert.SiluReferenceIdeal.main_arg0) = m' ((c.tc : Thread Cert.SiluReferenceIdeal.nD Cert.SiluReferenceIdeal.τ).loc Cert.SiluReferenceIdeal.main_arg0))

def preserves_AddSmall_AddSmallIdeal : Prop :=
  True

def algebraic_AddSmallIdeal_AddSmallReferenceIdeal [hAddSmallIdeal : Cert.AddSmallIdeal.Facts] [hAddSmallReferenceIdeal : Cert.AddSmallReferenceIdeal.Facts] : Prop :=
  ∀ (m : (ℓ : Loc Cert.AddSmallIdeal.nD Cert.AddSmallIdeal.τ Cert.AddSmallIdeal.sig) → Buf (Elt Ideal) ℓ) (g : Dev Cert.AddSmallIdeal.nD → PrngReg)
    (m' : (ℓ : Loc Cert.AddSmallReferenceIdeal.nD Cert.AddSmallReferenceIdeal.τ Cert.AddSmallReferenceIdeal.sig) → Buf (Elt Ideal) ℓ) (g' : Dev Cert.AddSmallReferenceIdeal.nD → PrngReg), Pre_AddSmallIdeal m →
    (∀ c : Dev Cert.AddSmallIdeal.nD,
      m' ((c.tc : Thread Cert.AddSmallReferenceIdeal.nD Cert.AddSmallReferenceIdeal.τ).loc Cert.AddSmallReferenceIdeal.main_arg0) = m ((c.tc : Thread Cert.AddSmallIdeal.nD Cert.AddSmallIdeal.τ).loc Cert.AddSmallIdeal.main_arg0)) →
    ∃ (v0 : (c : Dev Cert.AddSmallIdeal.nD) → Buf (Elt Ideal) ((c.tc : Thread Cert.AddSmallIdeal.nD Cert.AddSmallIdeal.τ).loc Cert.AddSmallIdeal.main_v0)),
      θ_run (Cert.AddSmallIdeal.defs (F := Ideal)) (onTc (τ := Cert.AddSmallIdeal.τ) (Cert.AddSmallIdeal.main (F := Ideal))) ⟨m, fun _ => 0, g⟩ (fun r => ∀ c : Dev Cert.AddSmallIdeal.nD,
          r.2.mem ((c.tc : Thread Cert.AddSmallIdeal.nD Cert.AddSmallIdeal.τ).loc Cert.AddSmallIdeal.main_v0) = v0 c
          ∧ r.2.mem ((c.tc : Thread Cert.AddSmallIdeal.nD Cert.AddSmallIdeal.τ).loc Cert.AddSmallIdeal.main_arg0) = m ((c.tc : Thread Cert.AddSmallIdeal.nD Cert.AddSmallIdeal.τ).loc Cert.AddSmallIdeal.main_arg0))
      ∧ θ_run (Cert.AddSmallReferenceIdeal.defs (F := Ideal)) (onTc (τ := Cert.AddSmallReferenceIdeal.τ) (Cert.AddSmallReferenceIdeal.main (F := Ideal))) ⟨m', fun _ => 0, g'⟩ (fun r => ∀ c : Dev Cert.AddSmallReferenceIdeal.nD,
          r.2.mem ((c.tc : Thread Cert.AddSmallReferenceIdeal.nD Cert.AddSmallReferenceIdeal.τ).loc Cert.AddSmallReferenceIdeal.main_v0) = v0 c
          ∧ r.2.mem ((c.tc : Thread Cert.AddSmallReferenceIdeal.nD Cert.AddSmallReferenceIdeal.τ).loc Cert.AddSmallReferenceIdeal.main_arg0) = m' ((c.tc : Thread Cert.AddSmallReferenceIdeal.nD Cert.AddSmallReferenceIdeal.τ).loc Cert.AddSmallReferenceIdeal.main_arg0))

def Claim : Prop :=
  ∃ (hKernel : Cert.Kernel.Facts) (hKernelIdeal : Cert.KernelIdeal.Facts) (hReferenceIdeal : Cert.ReferenceIdeal.Facts) (hDownX : Cert.DownX.Facts) (hDownXIdeal : Cert.DownXIdeal.Facts) (hDownXReferenceIdeal : Cert.DownXReferenceIdeal.Facts) (hDownW : Cert.DownW.Facts) (hDownWIdeal : Cert.DownWIdeal.Facts) (hDownWReferenceIdeal : Cert.DownWReferenceIdeal.Facts) (hUpX : Cert.UpX.Facts) (hUpXIdeal : Cert.UpXIdeal.Facts) (hUpXReferenceIdeal : Cert.UpXReferenceIdeal.Facts) (hUpW : Cert.UpW.Facts) (hUpWIdeal : Cert.UpWIdeal.Facts) (hUpWReferenceIdeal : Cert.UpWReferenceIdeal.Facts) (hUp : Cert.Up.Facts) (hUpIdeal : Cert.UpIdeal.Facts) (hUpReferenceIdeal : Cert.UpReferenceIdeal.Facts) (hDown : Cert.Down.Facts) (hDownIdeal : Cert.DownIdeal.Facts) (hDownReferenceIdeal : Cert.DownReferenceIdeal.Facts) (hGdnW : Cert.GdnW.Facts) (hGdnWIdeal : Cert.GdnWIdeal.Facts) (hGdnWReferenceIdeal : Cert.GdnWReferenceIdeal.Facts) (hSsdW : Cert.SsdW.Facts) (hSsdWIdeal : Cert.SsdWIdeal.Facts) (hSsdWReferenceIdeal : Cert.SsdWReferenceIdeal.Facts) (hLruW : Cert.LruW.Facts) (hLruWIdeal : Cert.LruWIdeal.Facts) (hLruWReferenceIdeal : Cert.LruWReferenceIdeal.Facts) (hGateW : Cert.GateW.Facts) (hGateWIdeal : Cert.GateWIdeal.Facts) (hGateWReferenceIdeal : Cert.GateWReferenceIdeal.Facts) (hGdnX : Cert.GdnX.Facts) (hGdnXIdeal : Cert.GdnXIdeal.Facts) (hGdnXReferenceIdeal : Cert.GdnXReferenceIdeal.Facts) (hGdnBiasX : Cert.GdnBiasX.Facts) (hGdnBiasXIdeal : Cert.GdnBiasXIdeal.Facts) (hGdnBiasXReferenceIdeal : Cert.GdnBiasXReferenceIdeal.Facts) (hSsdX : Cert.SsdX.Facts) (hSsdXIdeal : Cert.SsdXIdeal.Facts) (hSsdXReferenceIdeal : Cert.SsdXReferenceIdeal.Facts) (hLruX : Cert.LruX.Facts) (hLruXIdeal : Cert.LruXIdeal.Facts) (hLruXReferenceIdeal : Cert.LruXReferenceIdeal.Facts) (hGateX : Cert.GateX.Facts) (hGateXIdeal : Cert.GateXIdeal.Facts) (hGateXReferenceIdeal : Cert.GateXReferenceIdeal.Facts) (hGdnIn : Cert.GdnIn.Facts) (hGdnInIdeal : Cert.GdnInIdeal.Facts) (hGdnInReferenceIdeal : Cert.GdnInReferenceIdeal.Facts) (hSsdIn : Cert.SsdIn.Facts) (hSsdInIdeal : Cert.SsdInIdeal.Facts) (hSsdInReferenceIdeal : Cert.SsdInReferenceIdeal.Facts) (hLruIn : Cert.LruIn.Facts) (hLruInIdeal : Cert.LruInIdeal.Facts) (hLruInReferenceIdeal : Cert.LruInReferenceIdeal.Facts) (hGateIn : Cert.GateIn.Facts) (hGateInIdeal : Cert.GateInIdeal.Facts) (hGateInReferenceIdeal : Cert.GateInReferenceIdeal.Facts) (hOutX : Cert.OutX.Facts) (hOutXIdeal : Cert.OutXIdeal.Facts) (hOutXReferenceIdeal : Cert.OutXReferenceIdeal.Facts) (hOutW : Cert.OutW.Facts) (hOutWIdeal : Cert.OutWIdeal.Facts) (hOutWReferenceIdeal : Cert.OutWReferenceIdeal.Facts) (hOut : Cert.Out.Facts) (hOutIdeal : Cert.OutIdeal.Facts) (hOutReferenceIdeal : Cert.OutReferenceIdeal.Facts) (hMergeX : Cert.MergeX.Facts) (hMergeXIdeal : Cert.MergeXIdeal.Facts) (hMergeXReferenceIdeal : Cert.MergeXReferenceIdeal.Facts) (hMerge : Cert.Merge.Facts) (hMergeIdeal : Cert.MergeIdeal.Facts) (hMergeReferenceIdeal : Cert.MergeReferenceIdeal.Facts) (hAdaW : Cert.AdaW.Facts) (hAdaWIdeal : Cert.AdaWIdeal.Facts) (hAdaWReferenceIdeal : Cert.AdaWReferenceIdeal.Facts) (hMod : Cert.Mod.Facts) (hModIdeal : Cert.ModIdeal.Facts) (hModReferenceIdeal : Cert.ModReferenceIdeal.Facts) (hAdamAda : Cert.AdamAda.Facts) (hAdamAdaIdeal : Cert.AdamAdaIdeal.Facts) (hAdamAdaReferenceIdeal : Cert.AdamAdaReferenceIdeal.Facts) (hAdamIn : Cert.AdamIn.Facts) (hAdamInIdeal : Cert.AdamInIdeal.Facts) (hAdamInReferenceIdeal : Cert.AdamInReferenceIdeal.Facts) (hAdamBranch : Cert.AdamBranch.Facts) (hAdamBranchIdeal : Cert.AdamBranchIdeal.Facts) (hAdamBranchReferenceIdeal : Cert.AdamBranchReferenceIdeal.Facts) (hAdamOut : Cert.AdamOut.Facts) (hAdamOutIdeal : Cert.AdamOutIdeal.Facts) (hAdamOutReferenceIdeal : Cert.AdamOutReferenceIdeal.Facts) (hAdamUp : Cert.AdamUp.Facts) (hAdamUpIdeal : Cert.AdamUpIdeal.Facts) (hAdamUpReferenceIdeal : Cert.AdamUpReferenceIdeal.Facts) (hAdamSmall : Cert.AdamSmall.Facts) (hAdamSmallIdeal : Cert.AdamSmallIdeal.Facts) (hAdamSmallReferenceIdeal : Cert.AdamSmallReferenceIdeal.Facts) (hAdamConv : Cert.AdamConv.Facts) (hAdamConvIdeal : Cert.AdamConvIdeal.Facts) (hAdamConvReferenceIdeal : Cert.AdamConvReferenceIdeal.Facts) (hNorm1X : Cert.Norm1X.Facts) (hNorm1XIdeal : Cert.Norm1XIdeal.Facts) (hNorm1XReferenceIdeal : Cert.Norm1XReferenceIdeal.Facts) (hNorm2X : Cert.Norm2X.Facts) (hNorm2XIdeal : Cert.Norm2XIdeal.Facts) (hNorm2XReferenceIdeal : Cert.Norm2XReferenceIdeal.Facts) (hResidX : Cert.ResidX.Facts) (hResidXIdeal : Cert.ResidXIdeal.Facts) (hResidXReferenceIdeal : Cert.ResidXReferenceIdeal.Facts) (hNorm1 : Cert.Norm1.Facts) (hNorm1Ideal : Cert.Norm1Ideal.Facts) (hNorm1ReferenceIdeal : Cert.Norm1ReferenceIdeal.Facts) (hNorm2 : Cert.Norm2.Facts) (hNorm2Ideal : Cert.Norm2Ideal.Facts) (hNorm2ReferenceIdeal : Cert.Norm2ReferenceIdeal.Facts) (hResid : Cert.Resid.Facts) (hResidIdeal : Cert.ResidIdeal.Facts) (hResidReferenceIdeal : Cert.ResidReferenceIdeal.Facts) (hLossHead : Cert.LossHead.Facts) (hLossHeadIdeal : Cert.LossHeadIdeal.Facts) (hLossHeadReferenceIdeal : Cert.LossHeadReferenceIdeal.Facts) (hLruOut : Cert.LruOut.Facts) (hLruOutIdeal : Cert.LruOutIdeal.Facts) (hLruOutReferenceIdeal : Cert.LruOutReferenceIdeal.Facts) (hSilu : Cert.Silu.Facts) (hSiluIdeal : Cert.SiluIdeal.Facts) (hSiluReferenceIdeal : Cert.SiluReferenceIdeal.Facts) (hAddSmall : Cert.AddSmall.Facts) (hAddSmallIdeal : Cert.AddSmallIdeal.Facts) (hAddSmallReferenceIdeal : Cert.AddSmallReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_DownX (hDownX := hDownX)
    ∧ quiescent_DownXIdeal (hDownXIdeal := hDownXIdeal)
    ∧ quiescent_DownXReferenceIdeal (hDownXReferenceIdeal := hDownXReferenceIdeal)
    ∧ quiescent_DownW (hDownW := hDownW)
    ∧ quiescent_DownWIdeal (hDownWIdeal := hDownWIdeal)
    ∧ quiescent_DownWReferenceIdeal (hDownWReferenceIdeal := hDownWReferenceIdeal)
    ∧ quiescent_UpX (hUpX := hUpX)
    ∧ quiescent_UpXIdeal (hUpXIdeal := hUpXIdeal)
    ∧ quiescent_UpXReferenceIdeal (hUpXReferenceIdeal := hUpXReferenceIdeal)
    ∧ quiescent_UpW (hUpW := hUpW)
    ∧ quiescent_UpWIdeal (hUpWIdeal := hUpWIdeal)
    ∧ quiescent_UpWReferenceIdeal (hUpWReferenceIdeal := hUpWReferenceIdeal)
    ∧ quiescent_Up (hUp := hUp)
    ∧ quiescent_UpIdeal (hUpIdeal := hUpIdeal)
    ∧ quiescent_UpReferenceIdeal (hUpReferenceIdeal := hUpReferenceIdeal)
    ∧ quiescent_Down (hDown := hDown)
    ∧ quiescent_DownIdeal (hDownIdeal := hDownIdeal)
    ∧ quiescent_DownReferenceIdeal (hDownReferenceIdeal := hDownReferenceIdeal)
    ∧ quiescent_GdnW (hGdnW := hGdnW)
    ∧ quiescent_GdnWIdeal (hGdnWIdeal := hGdnWIdeal)
    ∧ quiescent_GdnWReferenceIdeal (hGdnWReferenceIdeal := hGdnWReferenceIdeal)
    ∧ quiescent_SsdW (hSsdW := hSsdW)
    ∧ quiescent_SsdWIdeal (hSsdWIdeal := hSsdWIdeal)
    ∧ quiescent_SsdWReferenceIdeal (hSsdWReferenceIdeal := hSsdWReferenceIdeal)
    ∧ quiescent_LruW (hLruW := hLruW)
    ∧ quiescent_LruWIdeal (hLruWIdeal := hLruWIdeal)
    ∧ quiescent_LruWReferenceIdeal (hLruWReferenceIdeal := hLruWReferenceIdeal)
    ∧ quiescent_GateW (hGateW := hGateW)
    ∧ quiescent_GateWIdeal (hGateWIdeal := hGateWIdeal)
    ∧ quiescent_GateWReferenceIdeal (hGateWReferenceIdeal := hGateWReferenceIdeal)
    ∧ quiescent_GdnX (hGdnX := hGdnX)
    ∧ quiescent_GdnXIdeal (hGdnXIdeal := hGdnXIdeal)
    ∧ quiescent_GdnXReferenceIdeal (hGdnXReferenceIdeal := hGdnXReferenceIdeal)
    ∧ quiescent_GdnBiasX (hGdnBiasX := hGdnBiasX)
    ∧ quiescent_GdnBiasXIdeal (hGdnBiasXIdeal := hGdnBiasXIdeal)
    ∧ quiescent_GdnBiasXReferenceIdeal (hGdnBiasXReferenceIdeal := hGdnBiasXReferenceIdeal)
    ∧ quiescent_SsdX (hSsdX := hSsdX)
    ∧ quiescent_SsdXIdeal (hSsdXIdeal := hSsdXIdeal)
    ∧ quiescent_SsdXReferenceIdeal (hSsdXReferenceIdeal := hSsdXReferenceIdeal)
    ∧ quiescent_LruX (hLruX := hLruX)
    ∧ quiescent_LruXIdeal (hLruXIdeal := hLruXIdeal)
    ∧ quiescent_LruXReferenceIdeal (hLruXReferenceIdeal := hLruXReferenceIdeal)
    ∧ quiescent_GateX (hGateX := hGateX)
    ∧ quiescent_GateXIdeal (hGateXIdeal := hGateXIdeal)
    ∧ quiescent_GateXReferenceIdeal (hGateXReferenceIdeal := hGateXReferenceIdeal)
    ∧ quiescent_GdnIn (hGdnIn := hGdnIn)
    ∧ quiescent_GdnInIdeal (hGdnInIdeal := hGdnInIdeal)
    ∧ quiescent_GdnInReferenceIdeal (hGdnInReferenceIdeal := hGdnInReferenceIdeal)
    ∧ quiescent_SsdIn (hSsdIn := hSsdIn)
    ∧ quiescent_SsdInIdeal (hSsdInIdeal := hSsdInIdeal)
    ∧ quiescent_SsdInReferenceIdeal (hSsdInReferenceIdeal := hSsdInReferenceIdeal)
    ∧ quiescent_LruIn (hLruIn := hLruIn)
    ∧ quiescent_LruInIdeal (hLruInIdeal := hLruInIdeal)
    ∧ quiescent_LruInReferenceIdeal (hLruInReferenceIdeal := hLruInReferenceIdeal)
    ∧ quiescent_GateIn (hGateIn := hGateIn)
    ∧ quiescent_GateInIdeal (hGateInIdeal := hGateInIdeal)
    ∧ quiescent_GateInReferenceIdeal (hGateInReferenceIdeal := hGateInReferenceIdeal)
    ∧ quiescent_OutX (hOutX := hOutX)
    ∧ quiescent_OutXIdeal (hOutXIdeal := hOutXIdeal)
    ∧ quiescent_OutXReferenceIdeal (hOutXReferenceIdeal := hOutXReferenceIdeal)
    ∧ quiescent_OutW (hOutW := hOutW)
    ∧ quiescent_OutWIdeal (hOutWIdeal := hOutWIdeal)
    ∧ quiescent_OutWReferenceIdeal (hOutWReferenceIdeal := hOutWReferenceIdeal)
    ∧ quiescent_Out (hOut := hOut)
    ∧ quiescent_OutIdeal (hOutIdeal := hOutIdeal)
    ∧ quiescent_OutReferenceIdeal (hOutReferenceIdeal := hOutReferenceIdeal)
    ∧ quiescent_MergeX (hMergeX := hMergeX)
    ∧ quiescent_MergeXIdeal (hMergeXIdeal := hMergeXIdeal)
    ∧ quiescent_MergeXReferenceIdeal (hMergeXReferenceIdeal := hMergeXReferenceIdeal)
    ∧ quiescent_Merge (hMerge := hMerge)
    ∧ quiescent_MergeIdeal (hMergeIdeal := hMergeIdeal)
    ∧ quiescent_MergeReferenceIdeal (hMergeReferenceIdeal := hMergeReferenceIdeal)
    ∧ quiescent_AdaW (hAdaW := hAdaW)
    ∧ quiescent_AdaWIdeal (hAdaWIdeal := hAdaWIdeal)
    ∧ quiescent_AdaWReferenceIdeal (hAdaWReferenceIdeal := hAdaWReferenceIdeal)
    ∧ quiescent_Mod (hMod := hMod)
    ∧ quiescent_ModIdeal (hModIdeal := hModIdeal)
    ∧ quiescent_ModReferenceIdeal (hModReferenceIdeal := hModReferenceIdeal)
    ∧ quiescent_AdamAda (hAdamAda := hAdamAda)
    ∧ quiescent_AdamAdaIdeal (hAdamAdaIdeal := hAdamAdaIdeal)
    ∧ quiescent_AdamAdaReferenceIdeal (hAdamAdaReferenceIdeal := hAdamAdaReferenceIdeal)
    ∧ quiescent_AdamIn (hAdamIn := hAdamIn)
    ∧ quiescent_AdamInIdeal (hAdamInIdeal := hAdamInIdeal)
    ∧ quiescent_AdamInReferenceIdeal (hAdamInReferenceIdeal := hAdamInReferenceIdeal)
    ∧ quiescent_AdamBranch (hAdamBranch := hAdamBranch)
    ∧ quiescent_AdamBranchIdeal (hAdamBranchIdeal := hAdamBranchIdeal)
    ∧ quiescent_AdamBranchReferenceIdeal (hAdamBranchReferenceIdeal := hAdamBranchReferenceIdeal)
    ∧ quiescent_AdamOut (hAdamOut := hAdamOut)
    ∧ quiescent_AdamOutIdeal (hAdamOutIdeal := hAdamOutIdeal)
    ∧ quiescent_AdamOutReferenceIdeal (hAdamOutReferenceIdeal := hAdamOutReferenceIdeal)
    ∧ quiescent_AdamUp (hAdamUp := hAdamUp)
    ∧ quiescent_AdamUpIdeal (hAdamUpIdeal := hAdamUpIdeal)
    ∧ quiescent_AdamUpReferenceIdeal (hAdamUpReferenceIdeal := hAdamUpReferenceIdeal)
    ∧ quiescent_AdamSmall (hAdamSmall := hAdamSmall)
    ∧ quiescent_AdamSmallIdeal (hAdamSmallIdeal := hAdamSmallIdeal)
    ∧ quiescent_AdamSmallReferenceIdeal (hAdamSmallReferenceIdeal := hAdamSmallReferenceIdeal)
    ∧ quiescent_AdamConv (hAdamConv := hAdamConv)
    ∧ quiescent_AdamConvIdeal (hAdamConvIdeal := hAdamConvIdeal)
    ∧ quiescent_AdamConvReferenceIdeal (hAdamConvReferenceIdeal := hAdamConvReferenceIdeal)
    ∧ quiescent_Norm1X (hNorm1X := hNorm1X)
    ∧ quiescent_Norm1XIdeal (hNorm1XIdeal := hNorm1XIdeal)
    ∧ quiescent_Norm1XReferenceIdeal (hNorm1XReferenceIdeal := hNorm1XReferenceIdeal)
    ∧ quiescent_Norm2X (hNorm2X := hNorm2X)
    ∧ quiescent_Norm2XIdeal (hNorm2XIdeal := hNorm2XIdeal)
    ∧ quiescent_Norm2XReferenceIdeal (hNorm2XReferenceIdeal := hNorm2XReferenceIdeal)
    ∧ quiescent_ResidX (hResidX := hResidX)
    ∧ quiescent_ResidXIdeal (hResidXIdeal := hResidXIdeal)
    ∧ quiescent_ResidXReferenceIdeal (hResidXReferenceIdeal := hResidXReferenceIdeal)
    ∧ quiescent_Norm1 (hNorm1 := hNorm1)
    ∧ quiescent_Norm1Ideal (hNorm1Ideal := hNorm1Ideal)
    ∧ quiescent_Norm1ReferenceIdeal (hNorm1ReferenceIdeal := hNorm1ReferenceIdeal)
    ∧ quiescent_Norm2 (hNorm2 := hNorm2)
    ∧ quiescent_Norm2Ideal (hNorm2Ideal := hNorm2Ideal)
    ∧ quiescent_Norm2ReferenceIdeal (hNorm2ReferenceIdeal := hNorm2ReferenceIdeal)
    ∧ quiescent_Resid (hResid := hResid)
    ∧ quiescent_ResidIdeal (hResidIdeal := hResidIdeal)
    ∧ quiescent_ResidReferenceIdeal (hResidReferenceIdeal := hResidReferenceIdeal)
    ∧ quiescent_LossHead (hLossHead := hLossHead)
    ∧ quiescent_LossHeadIdeal (hLossHeadIdeal := hLossHeadIdeal)
    ∧ quiescent_LossHeadReferenceIdeal (hLossHeadReferenceIdeal := hLossHeadReferenceIdeal)
    ∧ quiescent_LruOut (hLruOut := hLruOut)
    ∧ quiescent_LruOutIdeal (hLruOutIdeal := hLruOutIdeal)
    ∧ quiescent_LruOutReferenceIdeal (hLruOutReferenceIdeal := hLruOutReferenceIdeal)
    ∧ quiescent_Silu (hSilu := hSilu)
    ∧ quiescent_SiluIdeal (hSiluIdeal := hSiluIdeal)
    ∧ quiescent_SiluReferenceIdeal (hSiluReferenceIdeal := hSiluReferenceIdeal)
    ∧ quiescent_AddSmall (hAddSmall := hAddSmall)
    ∧ quiescent_AddSmallIdeal (hAddSmallIdeal := hAddSmallIdeal)
    ∧ quiescent_AddSmallReferenceIdeal (hAddSmallReferenceIdeal := hAddSmallReferenceIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_DownX_DownXIdeal
    ∧ algebraic_DownXIdeal_DownXReferenceIdeal (hDownXIdeal := hDownXIdeal) (hDownXReferenceIdeal := hDownXReferenceIdeal)
    ∧ preserves_DownW_DownWIdeal
    ∧ algebraic_DownWIdeal_DownWReferenceIdeal (hDownWIdeal := hDownWIdeal) (hDownWReferenceIdeal := hDownWReferenceIdeal)
    ∧ preserves_UpX_UpXIdeal
    ∧ algebraic_UpXIdeal_UpXReferenceIdeal (hUpXIdeal := hUpXIdeal) (hUpXReferenceIdeal := hUpXReferenceIdeal)
    ∧ preserves_UpW_UpWIdeal
    ∧ algebraic_UpWIdeal_UpWReferenceIdeal (hUpWIdeal := hUpWIdeal) (hUpWReferenceIdeal := hUpWReferenceIdeal)
    ∧ preserves_Up_UpIdeal
    ∧ algebraic_UpIdeal_UpReferenceIdeal (hUpIdeal := hUpIdeal) (hUpReferenceIdeal := hUpReferenceIdeal)
    ∧ preserves_Down_DownIdeal
    ∧ algebraic_DownIdeal_DownReferenceIdeal (hDownIdeal := hDownIdeal) (hDownReferenceIdeal := hDownReferenceIdeal)
    ∧ preserves_GdnW_GdnWIdeal
    ∧ algebraic_GdnWIdeal_GdnWReferenceIdeal (hGdnWIdeal := hGdnWIdeal) (hGdnWReferenceIdeal := hGdnWReferenceIdeal)
    ∧ preserves_SsdW_SsdWIdeal
    ∧ algebraic_SsdWIdeal_SsdWReferenceIdeal (hSsdWIdeal := hSsdWIdeal) (hSsdWReferenceIdeal := hSsdWReferenceIdeal)
    ∧ preserves_LruW_LruWIdeal
    ∧ algebraic_LruWIdeal_LruWReferenceIdeal (hLruWIdeal := hLruWIdeal) (hLruWReferenceIdeal := hLruWReferenceIdeal)
    ∧ preserves_GateW_GateWIdeal
    ∧ algebraic_GateWIdeal_GateWReferenceIdeal (hGateWIdeal := hGateWIdeal) (hGateWReferenceIdeal := hGateWReferenceIdeal)
    ∧ preserves_GdnX_GdnXIdeal
    ∧ algebraic_GdnXIdeal_GdnXReferenceIdeal (hGdnXIdeal := hGdnXIdeal) (hGdnXReferenceIdeal := hGdnXReferenceIdeal)
    ∧ preserves_GdnBiasX_GdnBiasXIdeal
    ∧ algebraic_GdnBiasXIdeal_GdnBiasXReferenceIdeal (hGdnBiasXIdeal := hGdnBiasXIdeal) (hGdnBiasXReferenceIdeal := hGdnBiasXReferenceIdeal)
    ∧ preserves_SsdX_SsdXIdeal
    ∧ algebraic_SsdXIdeal_SsdXReferenceIdeal (hSsdXIdeal := hSsdXIdeal) (hSsdXReferenceIdeal := hSsdXReferenceIdeal)
    ∧ preserves_LruX_LruXIdeal
    ∧ algebraic_LruXIdeal_LruXReferenceIdeal (hLruXIdeal := hLruXIdeal) (hLruXReferenceIdeal := hLruXReferenceIdeal)
    ∧ preserves_GateX_GateXIdeal
    ∧ algebraic_GateXIdeal_GateXReferenceIdeal (hGateXIdeal := hGateXIdeal) (hGateXReferenceIdeal := hGateXReferenceIdeal)
    ∧ preserves_GdnIn_GdnInIdeal
    ∧ algebraic_GdnInIdeal_GdnInReferenceIdeal (hGdnInIdeal := hGdnInIdeal) (hGdnInReferenceIdeal := hGdnInReferenceIdeal)
    ∧ preserves_SsdIn_SsdInIdeal
    ∧ algebraic_SsdInIdeal_SsdInReferenceIdeal (hSsdInIdeal := hSsdInIdeal) (hSsdInReferenceIdeal := hSsdInReferenceIdeal)
    ∧ preserves_LruIn_LruInIdeal
    ∧ algebraic_LruInIdeal_LruInReferenceIdeal (hLruInIdeal := hLruInIdeal) (hLruInReferenceIdeal := hLruInReferenceIdeal)
    ∧ preserves_GateIn_GateInIdeal
    ∧ algebraic_GateInIdeal_GateInReferenceIdeal (hGateInIdeal := hGateInIdeal) (hGateInReferenceIdeal := hGateInReferenceIdeal)
    ∧ preserves_OutX_OutXIdeal
    ∧ algebraic_OutXIdeal_OutXReferenceIdeal (hOutXIdeal := hOutXIdeal) (hOutXReferenceIdeal := hOutXReferenceIdeal)
    ∧ preserves_OutW_OutWIdeal
    ∧ algebraic_OutWIdeal_OutWReferenceIdeal (hOutWIdeal := hOutWIdeal) (hOutWReferenceIdeal := hOutWReferenceIdeal)
    ∧ preserves_Out_OutIdeal
    ∧ algebraic_OutIdeal_OutReferenceIdeal (hOutIdeal := hOutIdeal) (hOutReferenceIdeal := hOutReferenceIdeal)
    ∧ preserves_MergeX_MergeXIdeal
    ∧ algebraic_MergeXIdeal_MergeXReferenceIdeal (hMergeXIdeal := hMergeXIdeal) (hMergeXReferenceIdeal := hMergeXReferenceIdeal)
    ∧ preserves_Merge_MergeIdeal
    ∧ algebraic_MergeIdeal_MergeReferenceIdeal (hMergeIdeal := hMergeIdeal) (hMergeReferenceIdeal := hMergeReferenceIdeal)
    ∧ preserves_AdaW_AdaWIdeal
    ∧ algebraic_AdaWIdeal_AdaWReferenceIdeal (hAdaWIdeal := hAdaWIdeal) (hAdaWReferenceIdeal := hAdaWReferenceIdeal)
    ∧ preserves_Mod_ModIdeal
    ∧ algebraic_ModIdeal_ModReferenceIdeal (hModIdeal := hModIdeal) (hModReferenceIdeal := hModReferenceIdeal)
    ∧ preserves_AdamAda_AdamAdaIdeal
    ∧ algebraic_AdamAdaIdeal_AdamAdaReferenceIdeal (hAdamAdaIdeal := hAdamAdaIdeal) (hAdamAdaReferenceIdeal := hAdamAdaReferenceIdeal)
    ∧ preserves_AdamIn_AdamInIdeal
    ∧ algebraic_AdamInIdeal_AdamInReferenceIdeal (hAdamInIdeal := hAdamInIdeal) (hAdamInReferenceIdeal := hAdamInReferenceIdeal)
    ∧ preserves_AdamBranch_AdamBranchIdeal
    ∧ algebraic_AdamBranchIdeal_AdamBranchReferenceIdeal (hAdamBranchIdeal := hAdamBranchIdeal) (hAdamBranchReferenceIdeal := hAdamBranchReferenceIdeal)
    ∧ preserves_AdamOut_AdamOutIdeal
    ∧ algebraic_AdamOutIdeal_AdamOutReferenceIdeal (hAdamOutIdeal := hAdamOutIdeal) (hAdamOutReferenceIdeal := hAdamOutReferenceIdeal)
    ∧ preserves_AdamUp_AdamUpIdeal
    ∧ algebraic_AdamUpIdeal_AdamUpReferenceIdeal (hAdamUpIdeal := hAdamUpIdeal) (hAdamUpReferenceIdeal := hAdamUpReferenceIdeal)
    ∧ preserves_AdamSmall_AdamSmallIdeal
    ∧ algebraic_AdamSmallIdeal_AdamSmallReferenceIdeal (hAdamSmallIdeal := hAdamSmallIdeal) (hAdamSmallReferenceIdeal := hAdamSmallReferenceIdeal)
    ∧ preserves_AdamConv_AdamConvIdeal
    ∧ algebraic_AdamConvIdeal_AdamConvReferenceIdeal (hAdamConvIdeal := hAdamConvIdeal) (hAdamConvReferenceIdeal := hAdamConvReferenceIdeal)
    ∧ preserves_Norm1X_Norm1XIdeal
    ∧ algebraic_Norm1XIdeal_Norm1XReferenceIdeal (hNorm1XIdeal := hNorm1XIdeal) (hNorm1XReferenceIdeal := hNorm1XReferenceIdeal)
    ∧ preserves_Norm2X_Norm2XIdeal
    ∧ algebraic_Norm2XIdeal_Norm2XReferenceIdeal (hNorm2XIdeal := hNorm2XIdeal) (hNorm2XReferenceIdeal := hNorm2XReferenceIdeal)
    ∧ preserves_ResidX_ResidXIdeal
    ∧ algebraic_ResidXIdeal_ResidXReferenceIdeal (hResidXIdeal := hResidXIdeal) (hResidXReferenceIdeal := hResidXReferenceIdeal)
    ∧ preserves_Norm1_Norm1Ideal
    ∧ algebraic_Norm1Ideal_Norm1ReferenceIdeal (hNorm1Ideal := hNorm1Ideal) (hNorm1ReferenceIdeal := hNorm1ReferenceIdeal)
    ∧ preserves_Norm2_Norm2Ideal
    ∧ algebraic_Norm2Ideal_Norm2ReferenceIdeal (hNorm2Ideal := hNorm2Ideal) (hNorm2ReferenceIdeal := hNorm2ReferenceIdeal)
    ∧ preserves_Resid_ResidIdeal
    ∧ algebraic_ResidIdeal_ResidReferenceIdeal (hResidIdeal := hResidIdeal) (hResidReferenceIdeal := hResidReferenceIdeal)
    ∧ preserves_LossHead_LossHeadIdeal
    ∧ algebraic_LossHeadIdeal_LossHeadReferenceIdeal (hLossHeadIdeal := hLossHeadIdeal) (hLossHeadReferenceIdeal := hLossHeadReferenceIdeal)
    ∧ preserves_LruOut_LruOutIdeal
    ∧ algebraic_LruOutIdeal_LruOutReferenceIdeal (hLruOutIdeal := hLruOutIdeal) (hLruOutReferenceIdeal := hLruOutReferenceIdeal)
    ∧ preserves_Silu_SiluIdeal
    ∧ algebraic_SiluIdeal_SiluReferenceIdeal (hSiluIdeal := hSiluIdeal) (hSiluReferenceIdeal := hSiluReferenceIdeal)
    ∧ preserves_AddSmall_AddSmallIdeal
    ∧ algebraic_AddSmallIdeal_AddSmallReferenceIdeal (hAddSmallIdeal := hAddSmallIdeal) (hAddSmallReferenceIdeal := hAddSmallReferenceIdeal)
-- ==== Pre_finite.lean ====
abbrev S8192x512 : Shape := ⟨2, ![8192, 512]⟩
abbrev S_ : Shape := ⟨0, ![]⟩

class Facts : Prop where
  bcast_S_S8192x512 : S_.BroadcastsInDim S8192x512 (![] : Fin 0 → Fin S8192x512.rank)

variable [Facts]

def fn {F : FTy → Type} [FloatOps F] (main_arg0 : FVec F S8192x512 .f32) (main_arg1 : FVec F S8192x512 .f32) (main_arg2 : FVec F S8192x512 .f32) : IVec S8192x512 1 :=
  let main_v0 : FVec F S8192x512 .f32 := Host.absf main_arg0
  let main_cst : FVec F S_ .f32 := constant S_ .f32 0x7F800000#32
  let main_v1 : FVec F S8192x512 .f32 := broadcastInDim S8192x512 ![] bcast_S_S8192x512 main_cst
  let main_v2 : IVec S8192x512 1 := cmpf .olt main_v0 main_v1
  let main_v3 : FVec F S8192x512 .f32 := Host.absf main_arg1
  let main_cst_0 : FVec F S_ .f32 := constant S_ .f32 0x7F800000#32
  let main_v4 : FVec F S8192x512 .f32 := broadcastInDim S8192x512 ![] bcast_S_S8192x512 main_cst_0
  let main_v5 : IVec S8192x512 1 := cmpf .olt main_v3 main_v4
  let main_v6 : IVec S8192x512 1 := andi main_v2 main_v5
  let main_v7 : FVec F S8192x512 .f32 := Host.absf main_arg2
  let main_cst_1 : FVec F S_ .f32 := constant S_ .f32 0x7F800000#32
  let main_v8 : FVec F S8192x512 .f32 := broadcastInDim S8192x512 ![] bcast_S_S8192x512 main_cst_1
  let main_v9 : IVec S8192x512 1 := cmpf .olt main_v7 main_v8
  let main_v10 : IVec S8192x512 1 := andi main_v6 main_v9
  main_v10
-- ==== Kernel.lean ====
abbrev S8192x512 : Shape := ⟨2, ![8192, 512]⟩
abbrev S512x512 : Shape := ⟨2, ![512, 512]⟩
abbrev S1x512 : Shape := ⟨2, ![1, 512]⟩
abbrev S8x1 : Shape := ⟨2, ![8, 1]⟩
abbrev S8x512 : Shape := ⟨2, ![8, 512]⟩

abbrev nBuf : Space → Nat
  | .hbm => 6
  | .vmem => 20
  | .smem => 0
  | _ => 0

abbrev bufTy : (tb : Table) → Fin (tcTables nBuf tb) → BufTy
  | .hbm, ⟨0, _⟩ => ⟨S8192x512, .f32⟩
  | .hbm, ⟨1, _⟩ => ⟨S8192x512, .f32⟩
  | .hbm, ⟨2, _⟩ => ⟨S8192x512, .f32⟩
  | .hbm, ⟨3, _⟩ => ⟨S8192x512, .f32⟩
  | .hbm, ⟨4, _⟩ => ⟨S8192x512, .f32⟩
  | .hbm, ⟨5, _⟩ => ⟨S8192x512, .f32⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S1x512, .f32⟩
  | .local _ .vmem, ⟨7, _⟩ => ⟨S512x512, .f32⟩
  | .local _ .vmem, ⟨8, _⟩ => ⟨S512x512, .f32⟩
  | .local _ .vmem, ⟨9, _⟩ => ⟨S512x512, .f32⟩
  | .local _ .vmem, ⟨10, _⟩ => ⟨S512x512, .f32⟩
  | .local _ .vmem, ⟨11, _⟩ => ⟨S8x512, .f32⟩
  | .local _ .vmem, ⟨12, _⟩ => ⟨S8x512, .f32⟩
  | .local _ .vmem, ⟨13, _⟩ => ⟨S512x512, .f32⟩
  | .local _ .vmem, ⟨14, _⟩ => ⟨S512x512, .f32⟩
  | .local _ .vmem, ⟨15, _⟩ => ⟨S512x512, .f32⟩
  | .local _ .vmem, ⟨16, _⟩ => ⟨S512x512, .f32⟩
  | .local _ .vmem, ⟨17, _⟩ => ⟨S512x512, .f32⟩
  | .local _ .vmem, ⟨18, _⟩ => ⟨S512x512, .f32⟩
  | .local _ .vmem, ⟨19, _⟩ => ⟨S1x512, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg2_1 : Ref sig .tc := ⟨.vmem, 12, rfl⟩
abbrev cc1_stg3_0 : Ref sig .tc := ⟨.vmem, 13, rfl⟩
abbrev cc1_stg3_1 : Ref sig .tc := ⟨.vmem, 14, rfl⟩
abbrev cc1_stg4_0 : Ref sig .tc := ⟨.vmem, 15, rfl⟩
abbrev cc1_stg4_1 : Ref sig .tc := ⟨.vmem, 16, rfl⟩
abbrev cc1_stg5_0 : Ref sig .tc := ⟨.vmem, 17, rfl⟩
abbrev cc1_stg5_1 : Ref sig .tc := ⟨.vmem, 18, rfl⟩
abbrev cc1_scratch0 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem3_1 : DmaSem sig := 13
abbrev cc1_sem4_0 : DmaSem sig := 14
abbrev cc1_sem4_1 : DmaSem sig := 15
abbrev cc1_sem5_0 : DmaSem sig := 16
abbrev cc1_sem5_1 : DmaSem sig := 17

abbrev nD : Nat := 1
abbrev τ : Topo := Topo.v7x

variable {F : FTy → Type} [FloatOps F]

abbrev grid0 : Pipeline.Grid := ⟨1, ![16], ![false]⟩

@[reducible] def k0_t1_loop : Scf.Loop 32 :=
  let c0_i32_2 : BitVec 32 := 0#32
  let c64_i32 : BitVec 32 := 64#32
  let v5 : BitVec 32 := Scalar.addi c0_i32_2 c64_i32
  let c1_i32 : BitVec 32 := 1#32
  ⟨c0_i32_2, v5, c1_i32⟩
def k0_mult1 (k0_t1 : Fin k0_t1_loop.trips) : BitVec 32 :=
  let c0_i32_2 : BitVec 32 := 0#32
  let c1_i32 : BitVec 32 := 1#32
  let arg5 : BitVec 32 := Scf.iv c0_i32_2 c1_i32 k0_t1
  let c8_i32 : BitVec 32 := 8#32
  let v10 : BitVec 32 := Scalar.muli arg5 c8_i32
  v10
def k0_off1 (k0_t1 : Fin k0_t1_loop.trips) : Fin 2 → Nat :=
  let c0_i32_2 : BitVec 32 := 0#32
  let c1_i32 : BitVec 32 := 1#32
  let arg5 : BitVec 32 := Scf.iv c0_i32_2 c1_i32 k0_t1
  let c8_i32 : BitVec 32 := 8#32
  let v10 : BitVec 32 := Scalar.muli arg5 c8_i32
  let v11 : BitVec 32 := v10
  let v12 : Index := Scalar.indexCast v11
  let c0_6 : Index := 0#32
  ![v12.toNat, 0]
def k0_off2 (k0_t1 : Fin k0_t1_loop.trips) : Fin 2 → Nat :=
  let c0_i32_2 : BitVec 32 := 0#32
  let c1_i32 : BitVec 32 := 1#32
  let arg5 : BitVec 32 := Scf.iv c0_i32_2 c1_i32 k0_t1
  let c8_i32_24 : BitVec 32 := 8#32
  let v72 : BitVec 32 := Scalar.muli arg5 c8_i32_24
  let c7_i32 : BitVec 32 := 7#32
  let v73 : BitVec 32 := Scalar.addi v72 c7_i32
  let v74 : Index := Scalar.indexCast v73
  let c0_25 : Index := 0#32
  ![v74.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![16], ![false]⟩

@[reducible] def k1_t1_loop : Scf.Loop 32 :=
  let c0_i32_3 : BitVec 32 := 0#32
  let c64_i32 : BitVec 32 := 64#32
  let v10 : BitVec 32 := Scalar.addi c0_i32_3 c64_i32
  let c1_i32 : BitVec 32 := 1#32
  ⟨c0_i32_3, v10, c1_i32⟩
def k1_mult1 (k1_t1 : Fin k1_t1_loop.trips) : BitVec 32 :=
  let c63_i32 : BitVec 32 := 63#32
  let c0_i32_3 : BitVec 32 := 0#32
  let c1_i32 : BitVec 32 := 1#32
  let arg8 : BitVec 32 := Scf.iv c0_i32_3 c1_i32 k1_t1
  let v15 : BitVec 32 := Scalar.subi c63_i32 arg8
  let c8_i32 : BitVec 32 := 8#32
  let v16 : BitVec 32 := Scalar.muli v15 c8_i32
  v16
def k1_off1 (k1_t1 : Fin k1_t1_loop.trips) : Fin 2 → Nat :=
  let c63_i32 : BitVec 32 := 63#32
  let c0_i32_3 : BitVec 32 := 0#32
  let c1_i32 : BitVec 32 := 1#32
  let arg8 : BitVec 32 := Scf.iv c0_i32_3 c1_i32 k1_t1
  let v15 : BitVec 32 := Scalar.subi c63_i32 arg8
  let c8_i32 : BitVec 32 := 8#32
  let v16 : BitVec 32 := Scalar.muli v15 c8_i32
  let v17 : BitVec 32 := v16
  let v18 : Index := Scalar.indexCast v17
  let c0_7 : Index := 0#32
  ![v18.toNat, 0]
def k1_off2 (k1_t1 : Fin k1_t1_loop.trips) : Fin 2 → Nat :=
  let c63_i32 : BitVec 32 := 63#32
  let c0_i32_3 : BitVec 32 := 0#32
  let c1_i32 : BitVec 32 := 1#32
  let arg8 : BitVec 32 := Scf.iv c0_i32_3 c1_i32 k1_t1
  let v15 : BitVec 32 := Scalar.subi c63_i32 arg8
  let c8_i32_30 : BitVec 32 := 8#32
  let v89 : BitVec 32 := Scalar.muli v15 c8_i32_30
  let c1_i32_31 : BitVec 32 := 1#32
  let v90 : BitVec 32 := Scalar.subi v89 c1_i32_31
  let c0_i32_32 : BitVec 32 := 0#32
  let v91 : BitVec 32 := Scalar.maxsi v90 c0_i32_32
  let v92 : Index := Scalar.indexCast v91
  let c0_33 : Index := 0#32
  ![v92.toNat, 0]
def k1_off3 (k1_t1 : Fin k1_t1_loop.trips) : Fin 2 → Nat :=
  let c63_i32 : BitVec 32 := 63#32
  let c0_i32_3 : BitVec 32 := 0#32
  let c1_i32 : BitVec 32 := 1#32
  let arg8 : BitVec 32 := Scf.iv c0_i32_3 c1_i32 k1_t1
  let v15 : BitVec 32 := Scalar.subi c63_i32 arg8
  let c8_i32_37 : BitVec 32 := 8#32
  let v107 : BitVec 32 := Scalar.muli v15 c8_i32_37
  let v108 : Index := Scalar.indexCast v107
  let c0_38 : Index := 0#32
  ![v108.toNat, 0]
def cc1_transform_0 (i : grid1.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc1_transform_1 (i : grid1.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc1_transform_2 (i : grid1.Coords) : Fin 2 → Nat :=
  let arg0 : BitVec 32 := BitVec.ofNat 32 (i 0).val
  let c15_i32 : BitVec 32 := 15#32
  let v0 : BitVec 32 := Scalar.subi c15_i32 arg0
  let c64_i32 : BitVec 32 := 64#32
  let v1 : BitVec 32 := Scalar.muli v0 c64_i32
  let c1_i32 : BitVec 32 := 1#32
  let v2 : BitVec 32 := Scalar.subi v1 c1_i32
  let c0_i32 : BitVec 32 := 0#32
  let v3 : BitVec 32 := Scalar.maxsi v2 c0_i32
  let c0_i32_0 : BitVec 32 := 0#32
  let c0_i32_1 : BitVec 32 := 0#32
  ![v3.toNat, c0_i32_0.toNat]

def cc1_transform_3 (i : grid1.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc1_transform_4 (i : grid1.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc1_transform_5 (i : grid1.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

abbrev stage1_0 : Fin 2 → Memref sig .tc .vmem S512x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S512x512 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S8x512 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S512x512 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S512x512 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S512x512 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]
-- ==== ReferenceIdeal.lean ====
abbrev S8192x512 : Shape := ⟨2, ![8192, 512]⟩
abbrev S_ : Shape := ⟨0, ![]⟩
abbrev S512 : Shape := ⟨1, ![512]⟩
abbrev S1x512 : Shape := ⟨2, ![1, 512]⟩

abbrev nBuf : Space → Nat
  | .hbm => 76
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S8192x512, .f32⟩
  | .hbm, ⟨2, _⟩ => ⟨S8192x512, .f32⟩
  | .hbm, ⟨3, _⟩ => ⟨S_, .f32⟩
  | .hbm, ⟨4, _⟩ => ⟨S512, .f32⟩
  | .hbm, ⟨5, _⟩ => ⟨S_, .f32⟩
  | .hbm, ⟨6, _⟩ => ⟨S8192x512, .f32⟩
  | .hbm, ⟨7, _⟩ => ⟨S_, .f32⟩
  | .hbm, ⟨8, _⟩ => ⟨S8192x512, .f32⟩
  | .hbm, ⟨9, _⟩ => ⟨S_, .i32⟩
  | .hbm, ⟨10, _⟩ => ⟨S8192x512, .f32⟩
  | .hbm, ⟨11, _⟩ => ⟨S8192x512, .f32⟩
  | .hbm, ⟨12, _⟩ => ⟨S_, .i32⟩
  | .hbm, ⟨13, _⟩ => ⟨S512, .f32⟩
  | .hbm, ⟨14, _⟩ => ⟨S8192x512, .f32⟩
  | .hbm, ⟨15, _⟩ => ⟨S8192x512, .f32⟩
  | .hbm, ⟨16, _⟩ => ⟨S_, .i32⟩
  | .hbm, ⟨17, _⟩ => ⟨S_, .i1⟩
  | .hbm, ⟨18, _⟩ => ⟨S_, .i32⟩
  | .hbm, ⟨19, _⟩ => ⟨S1x512, .f32⟩
  | .hbm, ⟨20, _⟩ => ⟨S512, .f32⟩
  | .hbm, ⟨21, _⟩ => ⟨S_, .i32⟩
  | .hbm, ⟨22, _⟩ => ⟨S1x512, .f32⟩
  | .hbm, ⟨23, _⟩ => ⟨S512, .f32⟩
  | .hbm, ⟨24, _⟩ => ⟨S512, .f32⟩
  | .hbm, ⟨25, _⟩ => ⟨S512, .f32⟩
  | .hbm, ⟨26, _⟩ => ⟨S1x512, .f32⟩
  | .hbm, ⟨27, _⟩ => ⟨S_, .i32⟩
  | .hbm, ⟨28, _⟩ => ⟨S8192x512, .f32⟩
  | .hbm, ⟨29, _⟩ => ⟨S1x512, .f32⟩
  | .hbm, ⟨30, _⟩ => ⟨S_, .i32⟩
  | .hbm, ⟨31, _⟩ => ⟨S8192x512, .f32⟩
  | .hbm, ⟨32, _⟩ => ⟨S_, .i32⟩
  | .hbm, ⟨33, _⟩ => ⟨S_, .i32⟩
  | .hbm, ⟨34, _⟩ => ⟨S_, .f32⟩
  | .hbm, ⟨35, _⟩ => ⟨S512, .f32⟩
  | .hbm, ⟨36, _⟩ => ⟨S_, .f32⟩
  | .hbm, ⟨37, _⟩ => ⟨S512, .f32⟩
  | .hbm, ⟨38, _⟩ => ⟨S_, .f32⟩
  | .hbm, ⟨39, _⟩ => ⟨S8192x512, .f32⟩
  | .hbm, ⟨40, _⟩ => ⟨S_, .f32⟩
  | .hbm, ⟨41, _⟩ => ⟨S8192x512, .f32⟩
  | .hbm, ⟨42, _⟩ => ⟨S_, .i32⟩
  | .hbm, ⟨43, _⟩ => ⟨S8192x512, .f32⟩
  | .hbm, ⟨44, _⟩ => ⟨S8192x512, .f32⟩
  | .hbm, ⟨45, _⟩ => ⟨S8192x512, .f32⟩
  | .hbm, ⟨46, _⟩ => ⟨S_, .i32⟩
  | .hbm, ⟨47, _⟩ => ⟨S512, .f32⟩
  | .hbm, ⟨48, _⟩ => ⟨S8192x512, .f32⟩
  | .hbm, ⟨49, _⟩ => ⟨S8192x512, .f32⟩
  | .hbm, ⟨50, _⟩ => ⟨S_, .i32⟩
  | .hbm, ⟨51, _⟩ => ⟨S_, .i1⟩
  | .hbm, ⟨52, _⟩ => ⟨S_, .i32⟩
  | .hbm, ⟨53, _⟩ => ⟨S_, .i32⟩
  | .hbm, ⟨54, _⟩ => ⟨S_, .i32⟩
  | .hbm, ⟨55, _⟩ => ⟨S_, .i32⟩
  | .hbm, ⟨56, _⟩ => ⟨S_, .i32⟩
  | .hbm, ⟨57, _⟩ => ⟨S1x512, .f32⟩
  | .hbm, ⟨58, _⟩ => ⟨S512, .f32⟩
  | .hbm, ⟨59, _⟩ => ⟨S_, .i32⟩
  | .hbm, ⟨60, _⟩ => ⟨S1x512, .f32⟩
  | .hbm, ⟨61, _⟩ => ⟨S512, .f32⟩
  | .hbm, ⟨62, _⟩ => ⟨S_, .i32⟩
  | .hbm, ⟨63, _⟩ => ⟨S1x512, .f32⟩
  | .hbm, ⟨64, _⟩ => ⟨S512, .f32⟩
  | .hbm, ⟨65, _⟩ => ⟨S512, .f32⟩
  | .hbm, ⟨66, _⟩ => ⟨S512, .f32⟩
  | .hbm, ⟨67, _⟩ => ⟨S512, .f32⟩
  | .hbm, ⟨68, _⟩ => ⟨S1x512, .f32⟩
  | .hbm, ⟨69, _⟩ => ⟨S_, .i32⟩
  | .hbm, ⟨70, _⟩ => ⟨S8192x512, .f32⟩
  | .hbm, ⟨71, _⟩ => ⟨S1x512, .f32⟩
  | .hbm, ⟨72, _⟩ => ⟨S_, .i32⟩
  | .hbm, ⟨73, _⟩ => ⟨S8192x512, .f32⟩
  | .hbm, ⟨74, _⟩ => ⟨S_, .i32⟩
  | .hbm, ⟨75, _⟩ => ⟨S_, .i32⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_cst_0 : Ref sig .tc := ⟨.hbm, 5, rfl⟩
abbrev main_v1 : Ref sig .tc := ⟨.hbm, 6, rfl⟩
abbrev main_cst_1 : Ref sig .tc := ⟨.hbm, 7, rfl⟩
abbrev main_v2 : Ref sig .tc := ⟨.hbm, 8, rfl⟩
abbrev main_c : Ref sig .tc := ⟨.hbm, 9, rfl⟩
abbrev main_v3_0 : Ref sig .tc := ⟨.hbm, 10, rfl⟩
abbrev main_v3_1 : Ref sig .tc := ⟨.hbm, 11, rfl⟩
abbrev main_v3_2 : Ref sig .tc := ⟨.hbm, 12, rfl⟩
abbrev main_v3_3 : Ref sig .tc := ⟨.hbm, 13, rfl⟩
abbrev main_v3_4 : Ref sig .tc := ⟨.hbm, 14, rfl⟩
abbrev main_v3_5 : Ref sig .tc := ⟨.hbm, 15, rfl⟩
abbrev main_while0c_c_12 : Ref sig .tc := ⟨.hbm, 16, rfl⟩
abbrev main_while0c_v9 : Ref sig .tc := ⟨.hbm, 17, rfl⟩
abbrev main_while0b_call0_c : Ref sig .tc := ⟨.hbm, 18, rfl⟩
abbrev main_while0b_call0_v0 : Ref sig .tc := ⟨.hbm, 19, rfl⟩
abbrev main_while0b_v9 : Ref sig .tc := ⟨.hbm, 20, rfl⟩
abbrev main_while0b_call1_c : Ref sig .tc := ⟨.hbm, 21, rfl⟩
abbrev main_while0b_call1_v0 : Ref sig .tc := ⟨.hbm, 22, rfl⟩
abbrev main_while0b_v10 : Ref sig .tc := ⟨.hbm, 23, rfl⟩
abbrev main_while0b_v11 : Ref sig .tc := ⟨.hbm, 24, rfl⟩
abbrev main_while0b_v12 : Ref sig .tc := ⟨.hbm, 25, rfl⟩
abbrev main_while0b_call2_v0 : Ref sig .tc := ⟨.hbm, 26, rfl⟩
abbrev main_while0b_call2_c : Ref sig .tc := ⟨.hbm, 27, rfl⟩
abbrev main_while0b_v13 : Ref sig .tc := ⟨.hbm, 28, rfl⟩
abbrev main_while0b_call3_v0 : Ref sig .tc := ⟨.hbm, 29, rfl⟩
abbrev main_while0b_call3_c : Ref sig .tc := ⟨.hbm, 30, rfl⟩
abbrev main_while0b_v14 : Ref sig .tc := ⟨.hbm, 31, rfl⟩
abbrev main_while0b_c_12 : Ref sig .tc := ⟨.hbm, 32, rfl⟩
abbrev main_while0b_v15 : Ref sig .tc := ⟨.hbm, 33, rfl⟩
abbrev main_cst_2 : Ref sig .tc := ⟨.hbm, 34, rfl⟩
abbrev main_v4 : Ref sig .tc := ⟨.hbm, 35, rfl⟩
abbrev main_cst_3 : Ref sig .tc := ⟨.hbm, 36, rfl⟩
abbrev main_v5 : Ref sig .tc := ⟨.hbm, 37, rfl⟩
abbrev main_cst_4 : Ref sig .tc := ⟨.hbm, 38, rfl⟩
abbrev main_v6 : Ref sig .tc := ⟨.hbm, 39, rfl⟩
abbrev main_cst_5 : Ref sig .tc := ⟨.hbm, 40, rfl⟩
abbrev main_v7 : Ref sig .tc := ⟨.hbm, 41, rfl⟩
abbrev main_c_6 : Ref sig .tc := ⟨.hbm, 42, rfl⟩
abbrev main_v8_0 : Ref sig .tc := ⟨.hbm, 43, rfl⟩
abbrev main_v8_1 : Ref sig .tc := ⟨.hbm, 44, rfl⟩
abbrev main_v8_2 : Ref sig .tc := ⟨.hbm, 45, rfl⟩
abbrev main_v8_3 : Ref sig .tc := ⟨.hbm, 46, rfl⟩
abbrev main_v8_4 : Ref sig .tc := ⟨.hbm, 47, rfl⟩
abbrev main_v8_5 : Ref sig .tc := ⟨.hbm, 48, rfl⟩
abbrev main_v8_6 : Ref sig .tc := ⟨.hbm, 49, rfl⟩
abbrev main_while1c_c_13 : Ref sig .tc := ⟨.hbm, 50, rfl⟩
abbrev main_while1c_v9 : Ref sig .tc := ⟨.hbm, 51, rfl⟩
abbrev main_while1b_c_13 : Ref sig .tc := ⟨.hbm, 52, rfl⟩
abbrev main_while1b_v9 : Ref sig .tc := ⟨.hbm, 53, rfl⟩
abbrev main_while1b_c_14 : Ref sig .tc := ⟨.hbm, 54, rfl⟩
abbrev main_while1b_v10 : Ref sig .tc := ⟨.hbm, 55, rfl⟩
abbrev main_while1b_call4_c : Ref sig .tc := ⟨.hbm, 56, rfl⟩
abbrev main_while1b_call4_v0 : Ref sig .tc := ⟨.hbm, 57, rfl⟩
abbrev main_while1b_v11 : Ref sig .tc := ⟨.hbm, 58, rfl⟩
abbrev main_while1b_call5_c : Ref sig .tc := ⟨.hbm, 59, rfl⟩
abbrev main_while1b_call5_v0 : Ref sig .tc := ⟨.hbm, 60, rfl⟩
abbrev main_while1b_v12 : Ref sig .tc := ⟨.hbm, 61, rfl⟩
abbrev main_while1b_call6_c : Ref sig .tc := ⟨.hbm, 62, rfl⟩
abbrev main_while1b_call6_v0 : Ref sig .tc := ⟨.hbm, 63, rfl⟩
abbrev main_while1b_v13 : Ref sig .tc := ⟨.hbm, 64, rfl⟩
abbrev main_while1b_v14 : Ref sig .tc := ⟨.hbm, 65, rfl⟩
abbrev main_while1b_v15 : Ref sig .tc := ⟨.hbm, 66, rfl⟩
abbrev main_while1b_v16 : Ref sig .tc := ⟨.hbm, 67, rfl⟩
abbrev main_while1b_call7_v0 : Ref sig .tc := ⟨.hbm, 68, rfl⟩
abbrev main_while1b_call7_c : Ref sig .tc := ⟨.hbm, 69, rfl⟩
abbrev main_while1b_v17 : Ref sig .tc := ⟨.hbm, 70, rfl⟩
abbrev main_while1b_call8_v0 : Ref sig .tc := ⟨.hbm, 71, rfl⟩
abbrev main_while1b_call8_c : Ref sig .tc := ⟨.hbm, 72, rfl⟩
abbrev main_while1b_v18 : Ref sig .tc := ⟨.hbm, 73, rfl⟩
abbrev main_while1b_c_15 : Ref sig .tc := ⟨.hbm, 74, rfl⟩
abbrev main_while1b_v19 : Ref sig .tc := ⟨.hbm, 75, rfl⟩

abbrev nD : Nat := 1
abbrev τ : Topo := Topo.v7x

variable {F : FTy → Type} [FloatOps F]

abbrev main_while0_count : Scf.Loop 32 := ⟨0#32, 8192#32, 1#32⟩

abbrev main_while1_count : Scf.Loop 32 := ⟨0#32, 8192#32, 1#32⟩
-- ==== DownX.lean ====
abbrev S8192x1024 : Shape := ⟨2, ![8192, 1024]⟩
abbrev S4096x1024 : Shape := ⟨2, ![4096, 1024]⟩
abbrev S8192x4096 : Shape := ⟨2, ![8192, 4096]⟩
abbrev S1024x1024 : Shape := ⟨2, ![1024, 1024]⟩
abbrev S2048x1024 : Shape := ⟨2, ![2048, 1024]⟩
abbrev S1024x2048 : Shape := ⟨2, ![1024, 2048]⟩

abbrev nBuf : Space → Nat
  | .hbm => 4
  | .vmem => 8
  | .smem => 0
  | _ => 0

abbrev bufTy : (tb : Table) → Fin (tcTables nBuf tb) → BufTy
  | .hbm, ⟨0, _⟩ => ⟨S8192x1024, .bf16⟩
  | .hbm, ⟨1, _⟩ => ⟨S4096x1024, .bf16⟩
  | .hbm, ⟨2, _⟩ => ⟨S8192x4096, .f32⟩
  | .hbm, ⟨3, _⟩ => ⟨S8192x4096, .bf16⟩
  | .local _ .vmem, ⟨0, _⟩ => ⟨S1024x1024, .bf16⟩
  | .local _ .vmem, ⟨1, _⟩ => ⟨S1024x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x2048, .f32⟩
  | .local _ .vmem, ⟨5, _⟩ => ⟨S1024x2048, .f32⟩
  | .local _ .vmem, ⟨6, _⟩ => ⟨S1024x2048, .bf16⟩
  | .local _ .vmem, ⟨7, _⟩ => ⟨S1024x2048, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![2, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1024x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== DownXReferenceIdeal.lean ====
abbrev S8192x1024 : Shape := ⟨2, ![8192, 1024]⟩
abbrev S4096x1024 : Shape := ⟨2, ![4096, 1024]⟩
abbrev S8192x4096 : Shape := ⟨2, ![8192, 4096]⟩
abbrev S_ : Shape := ⟨0, ![]⟩

abbrev nBuf : Space → Nat
  | .hbm => 24
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S4096x1024, .bf16⟩
  | .hbm, ⟨2, _⟩ => ⟨S8192x4096, .f32⟩
  | .hbm, ⟨3, _⟩ => ⟨S_, .f32⟩
  | .hbm, ⟨4, _⟩ => ⟨S8192x4096, .f32⟩
  | .hbm, ⟨5, _⟩ => ⟨S8192x4096, .f32⟩
  | .hbm, ⟨6, _⟩ => ⟨S_, .f32⟩
  | .hbm, ⟨7, _⟩ => ⟨S8192x4096, .f32⟩
  | .hbm, ⟨8, _⟩ => ⟨S8192x4096, .i1⟩
  | .hbm, ⟨9, _⟩ => ⟨S_, .f32⟩
  | .hbm, ⟨10, _⟩ => ⟨S8192x4096, .f32⟩
  | .hbm, ⟨11, _⟩ => ⟨S8192x4096, .f32⟩
  | .hbm, ⟨12, _⟩ => ⟨S_, .f32⟩
  | .hbm, ⟨13, _⟩ => ⟨S8192x4096, .f32⟩
  | .hbm, ⟨14, _⟩ => ⟨S8192x4096, .f32⟩
  | .hbm, ⟨15, _⟩ => ⟨S4096x1024, .f32⟩
  | .hbm, ⟨16, _⟩ => ⟨S8192x1024, .f32⟩
  | .hbm, ⟨17, _⟩ => ⟨S8192x1024, .f32⟩
  | .hbm, ⟨18, _⟩ => ⟨S8192x4096, .f32⟩
  | .hbm, ⟨19, _⟩ => ⟨S8192x4096, .f32⟩
  | .hbm, ⟨20, _⟩ => ⟨S_, .f32⟩
  | .hbm, ⟨21, _⟩ => ⟨S8192x4096, .f32⟩
  | .hbm, ⟨22, _⟩ => ⟨S8192x4096, .f32⟩
  | .hbm, ⟨23, _⟩ => ⟨S8192x4096, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_cst : Ref sig .tc := ⟨.hbm, 3, rfl⟩
abbrev main_call0_v0 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩

abbrev nD : Nat := 1
abbrev τ : Topo := Topo.v7x

variable {F : FTy → Type} [FloatOps F]
-- ==== DownW.lean ====
abbrev S8192x4096 : Shape := ⟨2, ![8192, 4096]⟩
abbrev S8192x1024 : Shape := ⟨2, ![8192, 1024]⟩
abbrev S4096x1024 : Shape := ⟨2, ![4096, 1024]⟩
abbrev S2048x1024 : Shape := ⟨2, ![2048, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x4096, .bf16⟩
  | .hbm, ⟨1, _⟩ => ⟨S8192x1024, .bf16⟩
  | .hbm, ⟨2, _⟩ => ⟨S4096x1024, .f32⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 4, 4], ![false, false, false]⟩

def k0_cond1 (i : grid0.Coords) : BitVec 1 :=
  let arg2 : BitVec 32 := BitVec.ofNat 32 (i 2).val
  let c0_i32 : BitVec 32 := 0#32
  let v3 : BitVec 1 := Scalar.cmpi .eq arg2 c0_i32
  let v4 : BitVec 32 := Scalar.extui v3
  let c0_i32_3 : BitVec 32 := 0#32
  let v5 : BitVec 1 := Scalar.cmpi .ne v4 c0_i32_3
  v5

def k0_cond2 (i : grid0.Coords) : BitVec 1 :=
  let arg2 : BitVec 32 := BitVec.ofNat 32 (i 2).val
  let c0_i32_4 : BitVec 32 := 0#32
  let v6 : BitVec 1 := Scalar.cmpi .sgt arg2 c0_i32_4
  let v7 : BitVec 32 := Scalar.extui v6
  let c0_i32_5 : BitVec 32 := 0#32
  let v8 : BitVec 1 := Scalar.cmpi .ne v7 c0_i32_5
  v8

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DownWReferenceIdeal.lean ====
abbrev S8192x4096 : Shape := ⟨2, ![8192, 4096]⟩
abbrev S8192x1024 : Shape := ⟨2, ![8192, 1024]⟩
abbrev S_ : Shape := ⟨0, ![]⟩
abbrev S4096x1024 : Shape := ⟨2, ![4096, 1024]⟩
abbrev S1024x4096 : Shape := ⟨2, ![1024, 4096]⟩

abbrev nBuf : Space → Nat
  | .hbm => 9
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S8192x1024, .bf16⟩
  | .hbm, ⟨2, _⟩ => ⟨S_, .f32⟩
  | .hbm, ⟨3, _⟩ => ⟨S4096x1024, .f32⟩
  | .hbm, ⟨4, _⟩ => ⟨S8192x4096, .f32⟩
  | .hbm, ⟨5, _⟩ => ⟨S8192x1024, .f32⟩
  | .hbm, ⟨6, _⟩ => ⟨S8192x1024, .f32⟩
  | .hbm, ⟨7, _⟩ => ⟨S1024x4096, .f32⟩
  | .hbm, ⟨8, _⟩ => ⟨S4096x1024, .f32⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== UpX.lean ====
abbrev S8192x4096 : Shape := ⟨2, ![8192, 4096]⟩
abbrev S1024x4096 : Shape := ⟨2, ![1024, 4096]⟩
abbrev S8192x1024 : Shape := ⟨2, ![8192, 1024]⟩
abbrev S1024x2048 : Shape := ⟨2, ![1024, 2048]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x4096, .bf16⟩
  | .hbm, ⟨1, _⟩ => ⟨S1024x4096, .bf16⟩
  | .hbm, ⟨2, _⟩ => ⟨S8192x1024, .f32⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1024x1024, .f32⟩
  | .local _ .vmem, ⟨5, _⟩ => ⟨S1024x1024, .f32⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 8, 2], ![false, false, false]⟩

def k0_cond1 (i : grid0.Coords) : BitVec 1 :=
  let arg2 : BitVec 32 := BitVec.ofNat 32 (i 2).val
  let c0_i32 : BitVec 32 := 0#32
  let v3 : BitVec 1 := Scalar.cmpi .eq arg2 c0_i32
  let v4 : BitVec 32 := Scalar.extui v3
  let c0_i32_3 : BitVec 32 := 0#32
  let v5 : BitVec 1 := Scalar.cmpi .ne v4 c0_i32_3
  v5

def k0_cond2 (i : grid0.Coords) : BitVec 1 :=
  let arg2 : BitVec 32 := BitVec.ofNat 32 (i 2).val
  let c0_i32_4 : BitVec 32 := 0#32
  let v6 : BitVec 1 := Scalar.cmpi .sgt arg2 c0_i32_4
  let v7 : BitVec 32 := Scalar.extui v6
  let c0_i32_5 : BitVec 32 := 0#32
  let v8 : BitVec 1 := Scalar.cmpi .ne v7 c0_i32_5
  v8

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== UpXReferenceIdeal.lean ====
abbrev S8192x4096 : Shape := ⟨2, ![8192, 4096]⟩
abbrev S1024x4096 : Shape := ⟨2, ![1024, 4096]⟩
abbrev S_ : Shape := ⟨0, ![]⟩
abbrev S8192x1024 : Shape := ⟨2, ![8192, 1024]⟩

abbrev nBuf : Space → Nat
  | .hbm => 8
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S1024x4096, .bf16⟩
  | .hbm, ⟨2, _⟩ => ⟨S_, .f32⟩
  | .hbm, ⟨3, _⟩ => ⟨S8192x1024, .f32⟩
  | .hbm, ⟨4, _⟩ => ⟨S1024x4096, .f32⟩
  | .hbm, ⟨5, _⟩ => ⟨S8192x4096, .f32⟩
  | .hbm, ⟨6, _⟩ => ⟨S8192x4096, .f32⟩
  | .hbm, ⟨7, _⟩ => ⟨S8192x1024, .f32⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== UpW.lean ====
abbrev S8192x1024 : Shape := ⟨2, ![8192, 1024]⟩
abbrev S8192x4096 : Shape := ⟨2, ![8192, 4096]⟩
abbrev S1024x4096 : Shape := ⟨2, ![1024, 4096]⟩
abbrev S2048x1024 : Shape := ⟨2, ![2048, 1024]⟩
abbrev S2048x2048 : Shape := ⟨2, ![2048, 2048]⟩
abbrev S1024x2048 : Shape := ⟨2, ![1024, 2048]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S8192x4096, .bf16⟩
  | .hbm, ⟨2, _⟩ => ⟨S1024x4096, .f32⟩
  | .local _ .vmem, ⟨0, _⟩ => ⟨S2048x1024, .bf16⟩
  | .local _ .vmem, ⟨1, _⟩ => ⟨S2048x1024, .bf16⟩
  | .local _ .vmem, ⟨2, _⟩ => ⟨S2048x2048, .bf16⟩
  | .local _ .vmem, ⟨3, _⟩ => ⟨S2048x2048, .bf16⟩
  | .local _ .vmem, ⟨4, _⟩ => ⟨S1024x2048, .f32⟩
  | .local _ .vmem, ⟨5, _⟩ => ⟨S1024x2048, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 4], ![false, false, false]⟩

def k0_cond1 (i : grid0.Coords) : BitVec 1 :=
  let arg2 : BitVec 32 := BitVec.ofNat 32 (i 2).val
  let c0_i32 : BitVec 32 := 0#32
  let v3 : BitVec 1 := Scalar.cmpi .eq arg2 c0_i32
  let v4 : BitVec 32 := Scalar.extui v3
  let c0_i32_3 : BitVec 32 := 0#32
  let v5 : BitVec 1 := Scalar.cmpi .ne v4 c0_i32_3
  v5

def k0_cond2 (i : grid0.Coords) : BitVec 1 :=
  let arg2 : BitVec 32 := BitVec.ofNat 32 (i 2).val
  let c0_i32_4 : BitVec 32 := 0#32
  let v6 : BitVec 1 := Scalar.cmpi .sgt arg2 c0_i32_4
  let v7 : BitVec 32 := Scalar.extui v6
  let c0_i32_5 : BitVec 32 := 0#32
  let v8 : BitVec 1 := Scalar.cmpi .ne v7 c0_i32_5
  v8

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== UpWReferenceIdeal.lean ====
abbrev S8192x1024 : Shape := ⟨2, ![8192, 1024]⟩
abbrev S8192x4096 : Shape := ⟨2, ![8192, 4096]⟩
abbrev S_ : Shape := ⟨0, ![]⟩
abbrev S1024x4096 : Shape := ⟨2, ![1024, 4096]⟩
abbrev S4096x1024 : Shape := ⟨2, ![4096, 1024]⟩

abbrev nBuf : Space → Nat
  | .hbm => 9
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x4096, .bf16⟩
  | .hbm, ⟨2, _⟩ => ⟨S_, .f32⟩
  | .hbm, ⟨3, _⟩ => ⟨S1024x4096, .f32⟩
  | .hbm, ⟨4, _⟩ => ⟨S8192x1024, .f32⟩
  | .hbm, ⟨5, _⟩ => ⟨S8192x4096, .f32⟩
  | .hbm, ⟨6, _⟩ => ⟨S8192x4096, .f32⟩
  | .hbm, ⟨7, _⟩ => ⟨S4096x1024, .f32⟩
  | .hbm, ⟨8, _⟩ => ⟨S1024x4096, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Up.lean ====
abbrev S8192x1024 : Shape := ⟨2, ![8192, 1024]⟩
abbrev S1024x4096 : Shape := ⟨2, ![1024, 4096]⟩
abbrev S8192x4096 : Shape := ⟨2, ![8192, 4096]⟩
abbrev S1024x1024 : Shape := ⟨2, ![1024, 1024]⟩
abbrev S1024x2048 : Shape := ⟨2, ![1024, 2048]⟩

abbrev nBuf : Space → Nat
  | .hbm => 4
  | .vmem => 8
  | .smem => 0
  | _ => 0

abbrev bufTy : (tb : Table) → Fin (tcTables nBuf tb) → BufTy
  | .hbm, ⟨0, _⟩ => ⟨S8192x1024, .bf16⟩
  | .hbm, ⟨1, _⟩ => ⟨S1024x4096, .bf16⟩
  | .hbm, ⟨2, _⟩ => ⟨S8192x4096, .f32⟩
  | .hbm, ⟨3, _⟩ => ⟨S8192x4096, .bf16⟩
  | .local _ .vmem, ⟨0, _⟩ => ⟨S1024x1024, .bf16⟩
  | .local _ .vmem, ⟨1, _⟩ => ⟨S1024x1024, .bf16⟩
  | .local _ .vmem, ⟨2, _⟩ => ⟨S1024x2048, .bf16⟩
  | .local _ .vmem, ⟨3, _⟩ => ⟨S1024x2048, .bf16⟩
  | .local _ .vmem, ⟨4, _⟩ => ⟨S1024x2048, .f32⟩
  | .local _ .vmem, ⟨5, _⟩ => ⟨S1024x2048, .f32⟩
  | .local _ .vmem, ⟨6, _⟩ => ⟨S1024x2048, .bf16⟩
  | .local _ .vmem, ⟨7, _⟩ => ⟨S1024x2048, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![2, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1024x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== UpReferenceIdeal.lean ====
abbrev S8192x1024 : Shape := ⟨2, ![8192, 1024]⟩
abbrev S1024x4096 : Shape := ⟨2, ![1024, 4096]⟩
abbrev S8192x4096 : Shape := ⟨2, ![8192, 4096]⟩
abbrev S_ : Shape := ⟨0, ![]⟩

abbrev nBuf : Space → Nat
  | .hbm => 10
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x4096, .bf16⟩
  | .hbm, ⟨2, _⟩ => ⟨S8192x1024, .f32⟩
  | .hbm, ⟨3, _⟩ => ⟨S1024x4096, .f32⟩
  | .hbm, ⟨4, _⟩ => ⟨S8192x4096, .f32⟩
  | .hbm, ⟨5, _⟩ => ⟨S_, .f32⟩
  | .hbm, ⟨6, _⟩ => ⟨S8192x4096, .f32⟩
  | .hbm, ⟨7, _⟩ => ⟨S8192x4096, .f32⟩
  | .hbm, ⟨8, _⟩ => ⟨S8192x4096, .f32⟩
  | .hbm, ⟨9, _⟩ => ⟨S8192x4096, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_call0_cst : Ref sig .tc := ⟨.hbm, 5, rfl⟩
abbrev main_call0_v0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩

abbrev nD : Nat := 1
abbrev τ : Topo := Topo.v7x

variable {F : FTy → Type} [FloatOps F]
-- ==== Down.lean ====
abbrev S8192x4096 : Shape := ⟨2, ![8192, 4096]⟩
abbrev S4096x1024 : Shape := ⟨2, ![4096, 1024]⟩
abbrev S8192x1024 : Shape := ⟨2, ![8192, 1024]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x4096, .bf16⟩
  | .hbm, ⟨1, _⟩ => ⟨S4096x1024, .bf16⟩
  | .hbm, ⟨2, _⟩ => ⟨S8192x1024, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 8, 2], ![false, false, false]⟩

def k0_cond1 (i : grid0.Coords) : BitVec 1 :=
  let arg2 : BitVec 32 := BitVec.ofNat 32 (i 2).val
  let c0_i32 : BitVec 32 := 0#32
  let v3 : BitVec 1 := Scalar.cmpi .eq arg2 c0_i32
  let v4 : BitVec 32 := Scalar.extui v3
  let c0_i32_3 : BitVec 32 := 0#32
  let v5 : BitVec 1 := Scalar.cmpi .ne v4 c0_i32_3
  v5

def k0_cond2 (i : grid0.Coords) : BitVec 1 :=
  let arg2 : BitVec 32 := BitVec.ofNat 32 (i 2).val
  let c0_i32_4 : BitVec 32 := 0#32
  let v6 : BitVec 1 := Scalar.cmpi .sgt arg2 c0_i32_4
  let v7 : BitVec 32 := Scalar.extui v6
  let c0_i32_5 : BitVec 32 := 0#32
  let v8 : BitVec 1 := Scalar.cmpi .ne v7 c0_i32_5
  v8

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DownReferenceIdeal.lean ====
abbrev S8192x4096 : Shape := ⟨2, ![8192, 4096]⟩
abbrev S4096x1024 : Shape := ⟨2, ![4096, 1024]⟩
abbrev S8192x1024 : Shape := ⟨2, ![8192, 1024]⟩

abbrev nBuf : Space → Nat
  | .hbm => 5
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S4096x1024, .bf16⟩
  | .hbm, ⟨2, _⟩ => ⟨S8192x4096, .f32⟩
  | .hbm, ⟨3, _⟩ => ⟨S4096x1024, .f32⟩
  | .hbm, ⟨4, _⟩ => ⟨S8192x1024, .f32⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== GdnW.lean ====
abbrev S8192x1024 : Shape := ⟨2, ![8192, 1024]⟩
abbrev S8192x2176 : Shape := ⟨2, ![8192, 2176]⟩
abbrev S1024x2176 : Shape := ⟨2, ![1024, 2176]⟩
abbrev S2048x1024 : Shape := ⟨2, ![2048, 1024]⟩
abbrev S2048x2176 : Shape := ⟨2, ![2048, 2176]⟩

abbrev nBuf : Space → Nat
  | .hbm => 3
  | .vmem => 5
  | .smem => 0
  | _ => 0

abbrev bufTy : (tb : Table) → Fin (tcTables nBuf tb) → BufTy
  | .hbm, ⟨0, _⟩ => ⟨S8192x1024, .bf16⟩
  | .hbm, ⟨1, _⟩ => ⟨S8192x2176, .bf16⟩
  | .hbm, ⟨2, _⟩ => ⟨S1024x2176, .f32⟩
  | .local _ .vmem, ⟨0, _⟩ => ⟨S2048x1024, .bf16⟩
  | .local _ .vmem, ⟨1, _⟩ => ⟨S2048x1024, .bf16⟩
  | .local _ .vmem, ⟨2, _⟩ => ⟨S2048x2176, .bf16⟩
  | .local _ .vmem, ⟨3, _⟩ => ⟨S2048x2176, .bf16⟩
  | .local _ .vmem, ⟨4, _⟩ => ⟨S1024x2176, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond1 (i : grid0.Coords) : BitVec 1 :=
  let arg2 : BitVec 32 := BitVec.ofNat 32 (i 2).val
  let c0_i32 : BitVec 32 := 0#32
  let v3 : BitVec 1 := Scalar.cmpi .eq arg2 c0_i32
  let v4 : BitVec 32 := Scalar.extui v3
  let c0_i32_3 : BitVec 32 := 0#32
  let v5 : BitVec 1 := Scalar.cmpi .ne v4 c0_i32_3
  v5

def k0_cond2 (i : grid0.Coords) : BitVec 1 :=
  let arg2 : BitVec 32 := BitVec.ofNat 32 (i 2).val
  let c0_i32_4 : BitVec 32 := 0#32
  let v6 : BitVec 1 := Scalar.cmpi .sgt arg2 c0_i32_4
  let v7 : BitVec 32 := Scalar.extui v6
  let c0_i32_5 : BitVec 32 := 0#32
  let v8 : BitVec 1 := Scalar.cmpi .ne v7 c0_i32_5
  v8

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x2176 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x2176 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== GdnWReferenceIdeal.lean ====
abbrev S8192x1024 : Shape := ⟨2, ![8192, 1024]⟩
abbrev S8192x2176 : Shape := ⟨2, ![8192, 2176]⟩
abbrev S_ : Shape := ⟨0, ![]⟩
abbrev S1024x2176 : Shape := ⟨2, ![1024, 2176]⟩
abbrev S2176x1024 : Shape := ⟨2, ![2176, 1024]⟩

abbrev nBuf : Space → Nat
  | .hbm => 9
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x2176, .bf16⟩
  | .hbm, ⟨2, _⟩ => ⟨S_, .f32⟩
  | .hbm, ⟨3, _⟩ => ⟨S1024x2176, .f32⟩
  | .hbm, ⟨4, _⟩ => ⟨S8192x1024, .f32⟩
  | .hbm, ⟨5, _⟩ => ⟨S8192x2176, .f32⟩
  | .hbm, ⟨6, _⟩ => ⟨S8192x2176, .f32⟩
  | .hbm, ⟨7, _⟩ => ⟨S2176x1024, .f32⟩
  | .hbm, ⟨8, _⟩ => ⟨S1024x2176, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== SsdW.lean ====
abbrev S8192x1024 : Shape := ⟨2, ![8192, 1024]⟩
abbrev S8192x1664 : Shape := ⟨2, ![8192, 1664]⟩
abbrev S1024x1664 : Shape := ⟨2, ![1024, 1664]⟩
abbrev S2048x1024 : Shape := ⟨2, ![2048, 1024]⟩
abbrev S2048x1664 : Shape := ⟨2, ![2048, 1664]⟩

abbrev nBuf : Space → Nat
  | .hbm => 3
  | .vmem => 5
  | .smem => 0
  | _ => 0

abbrev bufTy : (tb : Table) → Fin (tcTables nBuf tb) → BufTy
  | .hbm, ⟨0, _⟩ => ⟨S8192x1024, .bf16⟩
  | .hbm, ⟨1, _⟩ => ⟨S8192x1664, .bf16⟩
  | .hbm, ⟨2, _⟩ => ⟨S1024x1664, .f32⟩
  | .local _ .vmem, ⟨0, _⟩ => ⟨S2048x1024, .bf16⟩
  | .local _ .vmem, ⟨1, _⟩ => ⟨S2048x1024, .bf16⟩
  | .local _ .vmem, ⟨2, _⟩ => ⟨S2048x1664, .bf16⟩
  | .local _ .vmem, ⟨3, _⟩ => ⟨S2048x1664, .bf16⟩
  | .local _ .vmem, ⟨4, _⟩ => ⟨S1024x1664, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond1 (i : grid0.Coords) : BitVec 1 :=
  let arg2 : BitVec 32 := BitVec.ofNat 32 (i 2).val
  let c0_i32 : BitVec 32 := 0#32
  let v3 : BitVec 1 := Scalar.cmpi .eq arg2 c0_i32
  let v4 : BitVec 32 := Scalar.extui v3
  let c0_i32_3 : BitVec 32 := 0#32
  let v5 : BitVec 1 := Scalar.cmpi .ne v4 c0_i32_3
  v5

def k0_cond2 (i : grid0.Coords) : BitVec 1 :=
  let arg2 : BitVec 32 := BitVec.ofNat 32 (i 2).val
  let c0_i32_4 : BitVec 32 := 0#32
  let v6 : BitVec 1 := Scalar.cmpi .sgt arg2 c0_i32_4
  let v7 : BitVec 32 := Scalar.extui v6
  let c0_i32_5 : BitVec 32 := 0#32
  let v8 : BitVec 1 := Scalar.cmpi .ne v7 c0_i32_5
  v8

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1664 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1664 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== SsdWReferenceIdeal.lean ====
abbrev S8192x1024 : Shape := ⟨2, ![8192, 1024]⟩
abbrev S8192x1664 : Shape := ⟨2, ![8192, 1664]⟩
abbrev S_ : Shape := ⟨0, ![]⟩
abbrev S1024x1664 : Shape := ⟨2, ![1024, 1664]⟩
abbrev S1664x1024 : Shape := ⟨2, ![1664, 1024]⟩

abbrev nBuf : Space → Nat
  | .hbm => 9
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x1664, .bf16⟩
  | .hbm, ⟨2, _⟩ => ⟨S_, .f32⟩
  | .hbm, ⟨3, _⟩ => ⟨S1024x1664, .f32⟩
  | .hbm, ⟨4, _⟩ => ⟨S8192x1024, .f32⟩
  | .hbm, ⟨5, _⟩ => ⟨S8192x1664, .f32⟩
  | .hbm, ⟨6, _⟩ => ⟨S8192x1664, .f32⟩
  | .hbm, ⟨7, _⟩ => ⟨S1664x1024, .f32⟩
  | .hbm, ⟨8, _⟩ => ⟨S1024x1664, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== LruW.lean ====
abbrev S8192x1024 : Shape := ⟨2, ![8192, 1024]⟩
abbrev S8192x512 : Shape := ⟨2, ![8192, 512]⟩
abbrev S1024x512 : Shape := ⟨2, ![1024, 512]⟩
abbrev S2048x1024 : Shape := ⟨2, ![2048, 1024]⟩
abbrev S2048x512 : Shape := ⟨2, ![2048, 512]⟩

abbrev nBuf : Space → Nat
  | .hbm => 3
  | .vmem => 5
  | .smem => 0
  | _ => 0

abbrev bufTy : (tb : Table) → Fin (tcTables nBuf tb) → BufTy
  | .hbm, ⟨0, _⟩ => ⟨S8192x1024, .bf16⟩
  | .hbm, ⟨1, _⟩ => ⟨S8192x512, .bf16⟩
  | .hbm, ⟨2, _⟩ => ⟨S1024x512, .f32⟩
  | .local _ .vmem, ⟨0, _⟩ => ⟨S2048x1024, .bf16⟩
  | .local _ .vmem, ⟨1, _⟩ => ⟨S2048x1024, .bf16⟩
  | .local _ .vmem, ⟨2, _⟩ => ⟨S2048x512, .bf16⟩
  | .local _ .vmem, ⟨3, _⟩ => ⟨S2048x512, .bf16⟩
  | .local _ .vmem, ⟨4, _⟩ => ⟨S1024x512, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond1 (i : grid0.Coords) : BitVec 1 :=
  let arg2 : BitVec 32 := BitVec.ofNat 32 (i 2).val
  let c0_i32 : BitVec 32 := 0#32
  let v3 : BitVec 1 := Scalar.cmpi .eq arg2 c0_i32
  let v4 : BitVec 32 := Scalar.extui v3
  let c0_i32_3 : BitVec 32 := 0#32
  let v5 : BitVec 1 := Scalar.cmpi .ne v4 c0_i32_3
  v5

def k0_cond2 (i : grid0.Coords) : BitVec 1 :=
  let arg2 : BitVec 32 := BitVec.ofNat 32 (i 2).val
  let c0_i32_4 : BitVec 32 := 0#32
  let v6 : BitVec 1 := Scalar.cmpi .sgt arg2 c0_i32_4
  let v7 : BitVec 32 := Scalar.extui v6
  let c0_i32_5 : BitVec 32 := 0#32
  let v8 : BitVec 1 := Scalar.cmpi .ne v7 c0_i32_5
  v8

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== LruWReferenceIdeal.lean ====
abbrev S8192x1024 : Shape := ⟨2, ![8192, 1024]⟩
abbrev S8192x512 : Shape := ⟨2, ![8192, 512]⟩
abbrev S_ : Shape := ⟨0, ![]⟩
abbrev S1024x512 : Shape := ⟨2, ![1024, 512]⟩
abbrev S512x1024 : Shape := ⟨2, ![512, 1024]⟩

abbrev nBuf : Space → Nat
  | .hbm => 9
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x512, .bf16⟩
  | .hbm, ⟨2, _⟩ => ⟨S_, .f32⟩
  | .hbm, ⟨3, _⟩ => ⟨S1024x512, .f32⟩
  | .hbm, ⟨4, _⟩ => ⟨S8192x1024, .f32⟩
  | .hbm, ⟨5, _⟩ => ⟨S8192x512, .f32⟩
  | .hbm, ⟨6, _⟩ => ⟨S8192x512, .f32⟩
  | .hbm, ⟨7, _⟩ => ⟨S512x1024, .f32⟩
  | .hbm, ⟨8, _⟩ => ⟨S1024x512, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== GateW.lean ====
abbrev S8192x1024 : Shape := ⟨2, ![8192, 1024]⟩
abbrev S8192x3072 : Shape := ⟨2, ![8192, 3072]⟩
abbrev S1024x3072 : Shape := ⟨2, ![1024, 3072]⟩
abbrev S2048x1024 : Shape := ⟨2, ![2048, 1024]⟩
abbrev S2048x1536 : Shape := ⟨2, ![2048, 1536]⟩
abbrev S1024x1536 : Shape := ⟨2, ![1024, 1536]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S8192x3072, .bf16⟩
  | .hbm, ⟨2, _⟩ => ⟨S1024x3072, .f32⟩
  | .local _ .vmem, ⟨0, _⟩ => ⟨S2048x1024, .bf16⟩
  | .local _ .vmem, ⟨1, _⟩ => ⟨S2048x1024, .bf16⟩
  | .local _ .vmem, ⟨2, _⟩ => ⟨S2048x1536, .bf16⟩
  | .local _ .vmem, ⟨3, _⟩ => ⟨S2048x1536, .bf16⟩
  | .local _ .vmem, ⟨4, _⟩ => ⟨S1024x1536, .f32⟩
  | .local _ .vmem, ⟨5, _⟩ => ⟨S1024x1536, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 4], ![false, false, false]⟩

def k0_cond1 (i : grid0.Coords) : BitVec 1 :=
  let arg2 : BitVec 32 := BitVec.ofNat 32 (i 2).val
  let c0_i32 : BitVec 32 := 0#32
  let v3 : BitVec 1 := Scalar.cmpi .eq arg2 c0_i32
  let v4 : BitVec 32 := Scalar.extui v3
  let c0_i32_3 : BitVec 32 := 0#32
  let v5 : BitVec 1 := Scalar.cmpi .ne v4 c0_i32_3
  v5

def k0_cond2 (i : grid0.Coords) : BitVec 1 :=
  let arg2 : BitVec 32 := BitVec.ofNat 32 (i 2).val
  let c0_i32_4 : BitVec 32 := 0#32
  let v6 : BitVec 1 := Scalar.cmpi .sgt arg2 c0_i32_4
  let v7 : BitVec 32 := Scalar.extui v6
  let c0_i32_5 : BitVec 32 := 0#32
  let v8 : BitVec 1 := Scalar.cmpi .ne v7 c0_i32_5
  v8

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1536 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== GateWReferenceIdeal.lean ====
abbrev S8192x1024 : Shape := ⟨2, ![8192, 1024]⟩
abbrev S8192x3072 : Shape := ⟨2, ![8192, 3072]⟩
abbrev S_ : Shape := ⟨0, ![]⟩
abbrev S1024x3072 : Shape := ⟨2, ![1024, 3072]⟩
abbrev S3072x1024 : Shape := ⟨2, ![3072, 1024]⟩

abbrev nBuf : Space → Nat
  | .hbm => 9
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x3072, .bf16⟩
  | .hbm, ⟨2, _⟩ => ⟨S_, .f32⟩
  | .hbm, ⟨3, _⟩ => ⟨S1024x3072, .f32⟩
  | .hbm, ⟨4, _⟩ => ⟨S8192x1024, .f32⟩
  | .hbm, ⟨5, _⟩ => ⟨S8192x3072, .f32⟩
  | .hbm, ⟨6, _⟩ => ⟨S8192x3072, .f32⟩
  | .hbm, ⟨7, _⟩ => ⟨S3072x1024, .f32⟩
  | .hbm, ⟨8, _⟩ => ⟨S1024x3072, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== GdnX.lean ====
abbrev S8192x2176 : Shape := ⟨2, ![8192, 2176]⟩
abbrev S1024x2176 : Shape := ⟨2, ![1024, 2176]⟩
abbrev S8192x1024 : Shape := ⟨2, ![8192, 1024]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8192x2176, .bf16⟩
  | .hbm, ⟨1, _⟩ => ⟨S1024x2176, .bf16⟩
  | .hbm, ⟨2, _⟩ => ⟨S8192x1024, .f32⟩
  | .local _ .vmem, ⟨0, _⟩ => ⟨S1024x2176, .bf16⟩
  | .local _ .vmem, ⟨1, _⟩ => ⟨S1024x2176, .bf16⟩
  | .local _ .vmem, ⟨2, _⟩ => ⟨S1024x2176, .bf16⟩
  | .local _ .vmem, ⟨3, _⟩ => ⟨S1024x1024, .f32⟩
  | .local _ .vmem, ⟨4, _⟩ => ⟨S1024x1024, .f32⟩
  | _, _ => ⟨S8192x2176, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S1024x2176 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 1 → Memref sig .tc .vmem S1024x2176 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== GdnXReferenceIdeal.lean ====
abbrev S8192x2176 : Shape := ⟨2, ![8192, 2176]⟩
abbrev S1024x2176 : Shape := ⟨2, ![1024, 2176]⟩
abbrev S_ : Shape := ⟨0, ![]⟩
abbrev S8192x1024 : Shape := ⟨2, ![8192, 1024]⟩

abbrev nBuf : Space → Nat
  | .hbm => 8
  | .vmem => 0
  | .smem => 0
  | _ => 0

abbrev bufTy : (tb : Table) → Fin (tcTables nBuf tb) → BufTy
  | .hbm, ⟨0, _⟩ => ⟨S8192x2176, .bf16⟩
  | .hbm, ⟨1, _⟩ => ⟨S1024x2176, .bf16⟩
  | .hbm, ⟨2, _⟩ => ⟨S_, .f32⟩
  | .hbm, ⟨3, _⟩ => ⟨S8192x1024, .f32⟩
  | .hbm, ⟨4, _⟩ => ⟨S1024x2176, .f32⟩
  | .hbm, ⟨5, _⟩ => ⟨S8192x2176, .f32⟩
  | .hbm, ⟨6, _⟩ => ⟨S8192x2176, .f32⟩
  | .hbm, ⟨7, _⟩ => ⟨S8192x1024, .f32⟩
  | _, _ => ⟨S8192x2176, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== GdnBiasX.lean ====
abbrev S8192x2176 : Shape := ⟨2, ![8192, 2176]⟩
abbrev S1024x2176 : Shape := ⟨2, ![1024, 2176]⟩
abbrev S1x1024 : Shape := ⟨2, ![1, 1024]⟩
abbrev S8192x1024 : Shape := ⟨2, ![8192, 1024]⟩
abbrev S1024x1024 : Shape := ⟨2, ![1024, 1024]⟩

abbrev nBuf : Space → Nat
  | .hbm => 4
  | .vmem => 6
  | .smem => 0
  | _ => 0

abbrev bufTy : (tb : Table) → Fin (tcTables nBuf tb) → BufTy
  | .hbm, ⟨0, _⟩ => ⟨S8192x2176, .bf16⟩
  | .hbm, ⟨1, _⟩ => ⟨S1024x2176, .bf16⟩
  | .hbm, ⟨2, _⟩ => ⟨S1x1024, .f32⟩
  | .hbm, ⟨3, _⟩ => ⟨S8192x1024, .f32⟩
  | .local _ .vmem, ⟨0, _⟩ => ⟨S1024x2176, .bf16⟩
  | .local _ .vmem, ⟨1, _⟩ => ⟨S1024x2176, .bf16⟩
  | .local _ .vmem, ⟨2, _⟩ => ⟨S1024x2176, .bf16⟩
  | .local _ .vmem, ⟨3, _⟩ => ⟨S1x1024, .f32⟩
  | .local _ .vmem, ⟨4, _⟩ => ⟨S1024x1024, .f32⟩
  | .local _ .vmem, ⟨5, _⟩ => ⟨S1024x1024, .f32⟩
  | _, _ => ⟨S8192x2176, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨3, ![1, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S1024x2176 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 1 → Memref sig .tc .vmem S1024x2176 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false, true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== GdnBiasXReferenceIdeal.lean ====
abbrev S8192x2176 : Shape := ⟨2, ![8192, 2176]⟩
abbrev S1024x2176 : Shape := ⟨2, ![1024, 2176]⟩
abbrev S1x1024 : Shape := ⟨2, ![1, 1024]⟩
abbrev S_ : Shape := ⟨0, ![]⟩
abbrev S8192x1024 : Shape := ⟨2, ![8192, 1024]⟩

abbrev nBuf : Space → Nat
  | .hbm => 11
  | .vmem => 0
  | .smem => 0
  | _ => 0

abbrev bufTy : (tb : Table) → Fin (tcTables nBuf tb) → BufTy
  | .hbm, ⟨0, _⟩ => ⟨S8192x2176, .bf16⟩
  | .hbm, ⟨1, _⟩ => ⟨S1024x2176, .bf16⟩
  | .hbm, ⟨2, _⟩ => ⟨S1x1024, .f32⟩
  | .hbm, ⟨3, _⟩ => ⟨S_, .f32⟩
  | .hbm, ⟨4, _⟩ => ⟨S8192x1024, .f32⟩
  | .hbm, ⟨5, _⟩ => ⟨S1024x2176, .f32⟩
  | .hbm, ⟨6, _⟩ => ⟨S8192x2176, .f32⟩
  | .hbm, ⟨7, _⟩ => ⟨S8192x2176, .f32⟩
  | .hbm, ⟨8, _⟩ => ⟨S8192x1024, .f32⟩
  | .hbm, ⟨9, _⟩ => ⟨S8192x1024, .f32⟩
  | .hbm, ⟨10, _⟩ => ⟨S8192x1024, .f32⟩
  | _, _ => ⟨S8192x2176, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩

abbrev nD : Nat := 1
abbrev τ : Topo := Topo.v7x

variable {F : FTy → Type} [FloatOps F]
-- ==== SsdX.lean ====
abbrev S8192x1664 : Shape := ⟨2, ![8192, 1664]⟩
abbrev S1024x1664 : Shape := ⟨2, ![1024, 1664]⟩
abbrev S8192x1024 : Shape := ⟨2, ![8192, 1024]⟩
abbrev S1024x1024 : Shape := ⟨2, ![1024, 1024]⟩

abbrev nBuf : Space → Nat
  | .hbm => 4
  | .vmem => 7
  | .smem => 0
  | _ => 0

abbrev bufTy : (tb : Table) → Fin (tcTables nBuf tb) → BufTy
  | .hbm, ⟨0, _⟩ => ⟨S8192x1664, .bf16⟩
  | .hbm, ⟨1, _⟩ => ⟨S1024x1664, .bf16⟩
  | .hbm, ⟨2, _⟩ => ⟨S8192x1024, .f32⟩
  | .hbm, ⟨3, _⟩ => ⟨S8192x1024, .f32⟩
  | .local _ .vmem, ⟨0, _⟩ => ⟨S1024x1664, .bf16⟩
  | .local _ .vmem, ⟨1, _⟩ => ⟨S1024x1664, .bf16⟩
  | .local _ .vmem, ⟨2, _⟩ => ⟨S1024x1664, .bf16⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S8192x1664, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![1, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S1024x1664 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 1 → Memref sig .tc .vmem S1024x1664 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== SsdXReferenceIdeal.lean ====
abbrev S8192x1664 : Shape := ⟨2, ![8192, 1664]⟩
abbrev S1024x1664 : Shape := ⟨2, ![1024, 1664]⟩
abbrev S8192x1024 : Shape := ⟨2, ![8192, 1024]⟩
abbrev S_ : Shape := ⟨0, ![]⟩

abbrev nBuf : Space → Nat
  | .hbm => 10
  | .vmem => 0
  | .smem => 0
  | _ => 0

abbrev bufTy : (tb : Table) → Fin (tcTables nBuf tb) → BufTy
  | .hbm, ⟨0, _⟩ => ⟨S8192x1664, .bf16⟩
  | .hbm, ⟨1, _⟩ => ⟨S1024x1664, .bf16⟩
  | .hbm, ⟨2, _⟩ => ⟨S8192x1024, .f32⟩
  | .hbm, ⟨3, _⟩ => ⟨S_, .f32⟩
  | .hbm, ⟨4, _⟩ => ⟨S8192x1024, .f32⟩
  | .hbm, ⟨5, _⟩ => ⟨S1024x1664, .f32⟩
  | .hbm, ⟨6, _⟩ => ⟨S8192x1664, .f32⟩
  | .hbm, ⟨7, _⟩ => ⟨S8192x1664, .f32⟩
  | .hbm, ⟨8, _⟩ => ⟨S8192x1024, .f32⟩
  | .hbm, ⟨9, _⟩ => ⟨S8192x1024, .f32⟩
  | _, _ => ⟨S8192x1664, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩

abbrev nD : Nat := 1
abbrev τ : Topo := Topo.v7x

variable {F : FTy → Type} [FloatOps F]
-- ==== LruX.lean ====
abbrev S8192x512 : Shape := ⟨2, ![8192, 512]⟩
abbrev S1024x512 : Shape := ⟨2, ![1024, 512]⟩
abbrev S8192x1024 : Shape := ⟨2, ![8192, 1024]⟩
abbrev S1024x1024 : Shape := ⟨2, ![1024, 1024]⟩

abbrev nBuf : Space → Nat
  | .hbm => 4
  | .vmem => 7
  | .smem => 0
  | _ => 0

abbrev bufTy : (tb : Table) → Fin (tcTables nBuf tb) → BufTy
  | .hbm, ⟨0, _⟩ => ⟨S8192x512, .bf16⟩
  | .hbm, ⟨1, _⟩ => ⟨S1024x512, .bf16⟩
  | .hbm, ⟨2, _⟩ => ⟨S8192x1024, .f32⟩
  | .hbm, ⟨3, _⟩ => ⟨S8192x1024, .f32⟩
  | .local _ .vmem, ⟨0, _⟩ => ⟨S1024x512, .bf16⟩
  | .local _ .vmem, ⟨1, _⟩ => ⟨S1024x512, .bf16⟩
  | .local _ .vmem, ⟨2, _⟩ => ⟨S1024x512, .bf16⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S8192x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![1, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 1 → Memref sig .tc .vmem S1024x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== LruXReferenceIdeal.lean ====
abbrev S8192x512 : Shape := ⟨2, ![8192, 512]⟩
abbrev S1024x512 : Shape := ⟨2, ![1024, 512]⟩
abbrev S8192x1024 : Shape := ⟨2, ![8192, 1024]⟩
abbrev S_ : Shape := ⟨0, ![]⟩

abbrev nBuf : Space → Nat
  | .hbm => 10
  | .vmem => 0
  | .smem => 0
  | _ => 0

abbrev bufTy : (tb : Table) → Fin (tcTables nBuf tb) → BufTy
  | .hbm, ⟨0, _⟩ => ⟨S8192x512, .bf16⟩
  | .hbm, ⟨1, _⟩ => ⟨S1024x512, .bf16⟩
  | .hbm, ⟨2, _⟩ => ⟨S8192x1024, .f32⟩
  | .hbm, ⟨3, _⟩ => ⟨S_, .f32⟩
  | .hbm, ⟨4, _⟩ => ⟨S8192x1024, .f32⟩
  | .hbm, ⟨5, _⟩ => ⟨S1024x512, .f32⟩
  | .hbm, ⟨6, _⟩ => ⟨S8192x512, .f32⟩
  | .hbm, ⟨7, _⟩ => ⟨S8192x512, .f32⟩
  | .hbm, ⟨8, _⟩ => ⟨S8192x1024, .f32⟩
  | .hbm, ⟨9, _⟩ => ⟨S8192x1024, .f32⟩
  | _, _ => ⟨S8192x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩

abbrev nD : Nat := 1
abbrev τ : Topo := Topo.v7x

variable {F : FTy → Type} [FloatOps F]
-- ==== GateX.lean ====
abbrev S8192x3072 : Shape := ⟨2, ![8192, 3072]⟩
abbrev S1024x3072 : Shape := ⟨2, ![1024, 3072]⟩
abbrev S8192x1024 : Shape := ⟨2, ![8192, 1024]⟩
abbrev S1024x1536 : Shape := ⟨2, ![1024, 1536]⟩
abbrev S1024x1024 : Shape := ⟨2, ![1024, 1024]⟩

abbrev nBuf : Space → Nat
  | .hbm => 4
  | .vmem => 8
  | .smem => 0
  | _ => 0

abbrev bufTy : (tb : Table) → Fin (tcTables nBuf tb) → BufTy
  | .hbm, ⟨0, _⟩ => ⟨S8192x3072, .bf16⟩
  | .hbm, ⟨1, _⟩ => ⟨S1024x3072, .bf16⟩
  | .hbm, ⟨2, _⟩ => ⟨S8192x1024, .f32⟩
  | .hbm, ⟨3, _⟩ => ⟨S8192x1024, .f32⟩
  | .local _ .vmem, ⟨0, _⟩ => ⟨S1024x1536, .bf16⟩
  | .local _ .vmem, ⟨1, _⟩ => ⟨S1024x1536, .bf16⟩
  | .local _ .vmem, ⟨2, _⟩ => ⟨S1024x1536, .bf16⟩
  | .local _ .vmem, ⟨3, _⟩ => ⟨S1024x1536, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | _, _ => ⟨S8192x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![1, 8, 2], ![false, false, false]⟩

def k0_cond1 (i : grid0.Coords) : BitVec 1 :=
  let arg2 : BitVec 32 := BitVec.ofNat 32 (i 2).val
  let c0_i32 : BitVec 32 := 0#32
  let v3 : BitVec 1 := Scalar.cmpi .eq arg2 c0_i32
  let v4 : BitVec 32 := Scalar.extui v3
  let c0_i32_3 : BitVec 32 := 0#32
  let v5 : BitVec 1 := Scalar.cmpi .ne v4 c0_i32_3
  v5

def k0_cond2 (i : grid0.Coords) : BitVec 1 :=
  let arg2 : BitVec 32 := BitVec.ofNat 32 (i 2).val
  let c0_i32_4 : BitVec 32 := 0#32
  let v6 : BitVec 1 := Scalar.cmpi .sgt arg2 c0_i32_4
  let v7 : BitVec 32 := Scalar.extui v6
  let c0_i32_5 : BitVec 32 := 0#32
  let v8 : BitVec 1 := Scalar.cmpi .ne v7 c0_i32_5
  v8

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S1024x1536 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1024x1536 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== GateXReferenceIdeal.lean ====
abbrev S8192x3072 : Shape := ⟨2, ![8192, 3072]⟩
abbrev S1024x3072 : Shape := ⟨2, ![1024, 3072]⟩
abbrev S8192x1024 : Shape := ⟨2, ![8192, 1024]⟩
abbrev S_ : Shape := ⟨0, ![]⟩

abbrev nBuf : Space → Nat
  | .hbm => 10
  | .vmem => 0
  | .smem => 0
  | _ => 0

abbrev bufTy : (tb : Table) → Fin (tcTables nBuf tb) → BufTy
  | .hbm, ⟨0, _⟩ => ⟨S8192x3072, .bf16⟩
  | .hbm, ⟨1, _⟩ => ⟨S1024x3072, .bf16⟩
  | .hbm, ⟨2, _⟩ => ⟨S8192x1024, .f32⟩
  | .hbm, ⟨3, _⟩ => ⟨S_, .f32⟩
  | .hbm, ⟨4, _⟩ => ⟨S8192x1024, .f32⟩
  | .hbm, ⟨5, _⟩ => ⟨S1024x3072, .f32⟩
  | .hbm, ⟨6, _⟩ => ⟨S8192x3072, .f32⟩
  | .hbm, ⟨7, _⟩ => ⟨S8192x3072, .f32⟩
  | .hbm, ⟨8, _⟩ => ⟨S8192x1024, .f32⟩
  | .hbm, ⟨9, _⟩ => ⟨S8192x1024, .f32⟩
  | _, _ => ⟨S8192x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩

abbrev nD : Nat := 1
abbrev τ : Topo := Topo.v7x

variable {F : FTy → Type} [FloatOps F]
-- ==== GdnIn.lean ====
abbrev S8192x1024 : Shape := ⟨2, ![8192, 1024]⟩
abbrev S1024x2176 : Shape := ⟨2, ![1024, 2176]⟩
abbrev S8192x2176 : Shape := ⟨2, ![8192, 2176]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8192x1024, .bf16⟩
  | .hbm, ⟨1, _⟩ => ⟨S1024x2176, .bf16⟩
  | .hbm, ⟨2, _⟩ => ⟨S8192x2176, .f32⟩
  | .local _ .vmem, ⟨0, _⟩ => ⟨S1024x1024, .bf16⟩
  | .local _ .vmem, ⟨1, _⟩ => ⟨S1024x1024, .bf16⟩
  | .local _ .vmem, ⟨2, _⟩ => ⟨S1024x2176, .bf16⟩
  | .local _ .vmem, ⟨3, _⟩ => ⟨S1024x2176, .f32⟩
  | .local _ .vmem, ⟨4, _⟩ => ⟨S1024x2176, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 1 → Memref sig .tc .vmem S1024x2176 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false, true]

abbrev stage0_2 : Fin 2 → Memref sig .tc .vmem S1024x2176 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== GdnInReferenceIdeal.lean ====
abbrev S8192x1024 : Shape := ⟨2, ![8192, 1024]⟩
abbrev S1024x2176 : Shape := ⟨2, ![1024, 2176]⟩
abbrev S8192x2176 : Shape := ⟨2, ![8192, 2176]⟩

abbrev nBuf : Space → Nat
  | .hbm => 5
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x2176, .bf16⟩
  | .hbm, ⟨2, _⟩ => ⟨S8192x1024, .f32⟩
  | .hbm, ⟨3, _⟩ => ⟨S1024x2176, .f32⟩
  | .hbm, ⟨4, _⟩ => ⟨S8192x2176, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== SsdIn.lean ====
abbrev S8192x1024 : Shape := ⟨2, ![8192, 1024]⟩
abbrev S1024x1664 : Shape := ⟨2, ![1024, 1664]⟩
abbrev S8192x1664 : Shape := ⟨2, ![8192, 1664]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8192x1024, .bf16⟩
  | .hbm, ⟨1, _⟩ => ⟨S1024x1664, .bf16⟩
  | .hbm, ⟨2, _⟩ => ⟨S8192x1664, .f32⟩
  | .local _ .vmem, ⟨0, _⟩ => ⟨S1024x1024, .bf16⟩
  | .local _ .vmem, ⟨1, _⟩ => ⟨S1024x1024, .bf16⟩
  | .local _ .vmem, ⟨2, _⟩ => ⟨S1024x1664, .bf16⟩
  | .local _ .vmem, ⟨3, _⟩ => ⟨S1024x1664, .f32⟩
  | .local _ .vmem, ⟨4, _⟩ => ⟨S1024x1664, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 1 → Memref sig .tc .vmem S1024x1664 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false, true]

abbrev stage0_2 : Fin 2 → Memref sig .tc .vmem S1024x1664 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== SsdInReferenceIdeal.lean ====
abbrev S8192x1024 : Shape := ⟨2, ![8192, 1024]⟩
abbrev S1024x1664 : Shape := ⟨2, ![1024, 1664]⟩
abbrev S8192x1664 : Shape := ⟨2, ![8192, 1664]⟩

abbrev nBuf : Space → Nat
  | .hbm => 5
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x1664, .bf16⟩
  | .hbm, ⟨2, _⟩ => ⟨S8192x1024, .f32⟩
  | .hbm, ⟨3, _⟩ => ⟨S1024x1664, .f32⟩
  | .hbm, ⟨4, _⟩ => ⟨S8192x1664, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== LruIn.lean ====
abbrev S8192x1024 : Shape := ⟨2, ![8192, 1024]⟩
abbrev S1024x512 : Shape := ⟨2, ![1024, 512]⟩
abbrev S8192x512 : Shape := ⟨2, ![8192, 512]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8192x1024, .bf16⟩
  | .hbm, ⟨1, _⟩ => ⟨S1024x512, .bf16⟩
  | .hbm, ⟨2, _⟩ => ⟨S8192x512, .f32⟩
  | .local _ .vmem, ⟨0, _⟩ => ⟨S1024x1024, .bf16⟩
  | .local _ .vmem, ⟨1, _⟩ => ⟨S1024x1024, .bf16⟩
  | .local _ .vmem, ⟨2, _⟩ => ⟨S1024x512, .bf16⟩
  | .local _ .vmem, ⟨3, _⟩ => ⟨S1024x512, .f32⟩
  | .local _ .vmem, ⟨4, _⟩ => ⟨S1024x512, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 1 → Memref sig .tc .vmem S1024x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== LruInReferenceIdeal.lean ====
abbrev S8192x1024 : Shape := ⟨2, ![8192, 1024]⟩
abbrev S1024x512 : Shape := ⟨2, ![1024, 512]⟩
abbrev S8192x512 : Shape := ⟨2, ![8192, 512]⟩

abbrev nBuf : Space → Nat
  | .hbm => 5
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x512, .bf16⟩
  | .hbm, ⟨2, _⟩ => ⟨S8192x1024, .f32⟩
  | .hbm, ⟨3, _⟩ => ⟨S1024x512, .f32⟩
  | .hbm, ⟨4, _⟩ => ⟨S8192x512, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== GateIn.lean ====
abbrev S8192x1024 : Shape := ⟨2, ![8192, 1024]⟩
abbrev S1024x3072 : Shape := ⟨2, ![1024, 3072]⟩
abbrev S8192x3072 : Shape := ⟨2, ![8192, 3072]⟩
abbrev S1024x1024 : Shape := ⟨2, ![1024, 1024]⟩
abbrev S1024x1536 : Shape := ⟨2, ![1024, 1536]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S1024x3072, .bf16⟩
  | .hbm, ⟨2, _⟩ => ⟨S8192x3072, .f32⟩
  | .local _ .vmem, ⟨0, _⟩ => ⟨S1024x1024, .bf16⟩
  | .local _ .vmem, ⟨1, _⟩ => ⟨S1024x1024, .bf16⟩
  | .local _ .vmem, ⟨2, _⟩ => ⟨S1024x1536, .bf16⟩
  | .local _ .vmem, ⟨3, _⟩ => ⟨S1024x1536, .bf16⟩
  | .local _ .vmem, ⟨4, _⟩ => ⟨S1024x1536, .f32⟩
  | .local _ .vmem, ⟨5, _⟩ => ⟨S1024x1536, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1024x1536 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1024x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== GateInReferenceIdeal.lean ====
abbrev S8192x1024 : Shape := ⟨2, ![8192, 1024]⟩
abbrev S1024x3072 : Shape := ⟨2, ![1024, 3072]⟩
abbrev S8192x3072 : Shape := ⟨2, ![8192, 3072]⟩

abbrev nBuf : Space → Nat
  | .hbm => 5
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x3072, .bf16⟩
  | .hbm, ⟨2, _⟩ => ⟨S8192x1024, .f32⟩
  | .hbm, ⟨3, _⟩ => ⟨S1024x3072, .f32⟩
  | .hbm, ⟨4, _⟩ => ⟨S8192x3072, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== OutX.lean ====
abbrev S8192x1024 : Shape := ⟨2, ![8192, 1024]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== OutXReferenceIdeal.lean ====
abbrev S8192x1024 : Shape := ⟨2, ![8192, 1024]⟩
abbrev S1024x1024 : Shape := ⟨2, ![1024, 1024]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S_, .f32⟩
  | .hbm, ⟨3, _⟩ => ⟨S8192x1024, .f32⟩
  | .hbm, ⟨4, _⟩ => ⟨S1024x1024, .f32⟩
  | .hbm, ⟨5, _⟩ => ⟨S8192x1024, .f32⟩
  | .hbm, ⟨6, _⟩ => ⟨S8192x1024, .f32⟩
  | .hbm, ⟨7, _⟩ => ⟨S8192x1024, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== OutW.lean ====
abbrev S8192x1024 : Shape := ⟨2, ![8192, 1024]⟩
abbrev S1024x1024 : Shape := ⟨2, ![1024, 1024]⟩
abbrev S2048x1024 : Shape := ⟨2, ![2048, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S1024x1024, .f32⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond1 (i : grid0.Coords) : BitVec 1 :=
  let arg2 : BitVec 32 := BitVec.ofNat 32 (i 2).val
  let c0_i32 : BitVec 32 := 0#32
  let v3 : BitVec 1 := Scalar.cmpi .eq arg2 c0_i32
  let v4 : BitVec 32 := Scalar.extui v3
  let c0_i32_3 : BitVec 32 := 0#32
  let v5 : BitVec 1 := Scalar.cmpi .ne v4 c0_i32_3
  v5

def k0_cond2 (i : grid0.Coords) : BitVec 1 :=
  let arg2 : BitVec 32 := BitVec.ofNat 32 (i 2).val
  let c0_i32_4 : BitVec 32 := 0#32
  let v6 : BitVec 1 := Scalar.cmpi .sgt arg2 c0_i32_4
  let v7 : BitVec 32 := Scalar.extui v6
  let c0_i32_5 : BitVec 32 := 0#32
  let v8 : BitVec 1 := Scalar.cmpi .ne v7 c0_i32_5
  v8

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== OutWReferenceIdeal.lean ====
abbrev S8192x1024 : Shape := ⟨2, ![8192, 1024]⟩
abbrev S_ : Shape := ⟨0, ![]⟩
abbrev S1024x1024 : Shape := ⟨2, ![1024, 1024]⟩

abbrev nBuf : Space → Nat
  | .hbm => 9
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S_, .f32⟩
  | .hbm, ⟨3, _⟩ => ⟨S1024x1024, .f32⟩
  | .hbm, ⟨4, _⟩ => ⟨S8192x1024, .f32⟩
  | .hbm, ⟨5, _⟩ => ⟨S8192x1024, .f32⟩
  | .hbm, ⟨6, _⟩ => ⟨S8192x1024, .f32⟩
  | .hbm, ⟨7, _⟩ => ⟨S1024x1024, .f32⟩
  | .hbm, ⟨8, _⟩ => ⟨S1024x1024, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Out.lean ====
abbrev S8192x1024 : Shape := ⟨2, ![8192, 1024]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== OutReferenceIdeal.lean ====
abbrev S8192x1024 : Shape := ⟨2, ![8192, 1024]⟩
abbrev S1024x1024 : Shape := ⟨2, ![1024, 1024]⟩

abbrev nBuf : Space → Nat
  | .hbm => 5
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x1024, .f32⟩
  | .hbm, ⟨3, _⟩ => ⟨S1024x1024, .f32⟩
  | .hbm, ⟨4, _⟩ => ⟨S8192x1024, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== MergeX.lean ====
abbrev S8192x512 : Shape := ⟨2, ![8192, 512]⟩
abbrev S8192x3072 : Shape := ⟨2, ![8192, 3072]⟩
abbrev S512x1024 : Shape := ⟨2, ![512, 1024]⟩
abbrev S8192x1024 : Shape := ⟨2, ![8192, 1024]⟩
abbrev S512x512 : Shape := ⟨2, ![512, 512]⟩
abbrev S512x3072 : Shape := ⟨2, ![512, 3072]⟩

abbrev nBuf : Space → Nat
  | .hbm => 15
  | .vmem => 24
  | .smem => 0
  | _ => 0

abbrev bufTy : (tb : Table) → Fin (tcTables nBuf tb) → BufTy
  | .hbm, ⟨0, _⟩ => ⟨S8192x512, .f32⟩
  | .hbm, ⟨1, _⟩ => ⟨S8192x512, .f32⟩
  | .hbm, ⟨2, _⟩ => ⟨S8192x512, .f32⟩
  | .hbm, ⟨3, _⟩ => ⟨S8192x3072, .f32⟩
  | .hbm, ⟨4, _⟩ => ⟨S512x1024, .bf16⟩
  | .hbm, ⟨5, _⟩ => ⟨S512x1024, .bf16⟩
  | .hbm, ⟨6, _⟩ => ⟨S512x1024, .bf16⟩
  | .hbm, ⟨7, _⟩ => ⟨S8192x1024, .f32⟩
  | .hbm, ⟨8, _⟩ => ⟨S8192x512, .f32⟩
  | .hbm, ⟨9, _⟩ => ⟨S8192x512, .f32⟩
  | .hbm, ⟨10, _⟩ => ⟨S8192x512, .f32⟩
  | .hbm, ⟨11, _⟩ => ⟨S8192x3072, .bf16⟩
  | .hbm, ⟨12, _⟩ => ⟨S512x1024, .f32⟩
  | .hbm, ⟨13, _⟩ => ⟨S512x1024, .f32⟩
  | .hbm, ⟨14, _⟩ => ⟨S512x1024, .f32⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S512x3072, .f32⟩
  | .local _ .vmem, ⟨7, _⟩ => ⟨S512x3072, .f32⟩
  | .local _ .vmem, ⟨8, _⟩ => ⟨S512x1024, .bf16⟩
  | .local _ .vmem, ⟨9, _⟩ => ⟨S512x1024, .bf16⟩
  | .local _ .vmem, ⟨10, _⟩ => ⟨S512x1024, .bf16⟩
  | .local _ .vmem, ⟨11, _⟩ => ⟨S512x1024, .f32⟩
  | .local _ .vmem, ⟨12, _⟩ => ⟨S512x1024, .f32⟩
  | .local _ .vmem, ⟨13, _⟩ => ⟨S512x512, .f32⟩
  | .local _ .vmem, ⟨14, _⟩ => ⟨S512x512, .f32⟩
  | .local _ .vmem, ⟨15, _⟩ => ⟨S512x512, .f32⟩
  | .local _ .vmem, ⟨16, _⟩ => ⟨S512x512, .f32⟩
  | .local _ .vmem, ⟨17, _⟩ => ⟨S512x512, .f32⟩
  | .local _ .vmem, ⟨18, _⟩ => ⟨S512x512, .f32⟩
  | .local _ .vmem, ⟨19, _⟩ => ⟨S512x3072, .bf16⟩
  | .local _ .vmem, ⟨20, _⟩ => ⟨S512x3072, .bf16⟩
  | .local _ .vmem, ⟨21, _⟩ => ⟨S512x1024, .f32⟩
  | .local _ .vmem, ⟨22, _⟩ => ⟨S512x1024, .f32⟩
  | .local _ .vmem, ⟨23, _⟩ => ⟨S512x1024, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev main_v0_2 : Ref sig .tc := ⟨.hbm, 10, rfl⟩
abbrev main_v0_3 : Ref sig .tc := ⟨.hbm, 11, rfl⟩
abbrev main_v0_4 : Ref sig .tc := ⟨.hbm, 12, rfl⟩
abbrev main_v0_5 : Ref sig .tc := ⟨.hbm, 13, rfl⟩
abbrev main_v0_6 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg11_1 : Ref sig .tc := ⟨.vmem, 20, rfl⟩
abbrev cc0_stg12_0 : Ref sig .tc := ⟨.vmem, 21, rfl⟩
abbrev cc0_stg13_0 : Ref sig .tc := ⟨.vmem, 22, rfl⟩
abbrev cc0_stg14_0 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19
abbrev cc0_sem11_1 : DmaSem sig := 20
abbrev cc0_sem12_0 : DmaSem sig := 21
abbrev cc0_sem13_0 : DmaSem sig := 22
abbrev cc0_sem14_0 : DmaSem sig := 23

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_8 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_9 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_10 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_11 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x3072 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S512x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S512x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x3072 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 1 → Memref sig .tc .vmem S512x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S512x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S512x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]
-- ==== MergeXReferenceIdeal.lean ====
abbrev S8192x512 : Shape := ⟨2, ![8192, 512]⟩
abbrev S8192x3072 : Shape := ⟨2, ![8192, 3072]⟩
abbrev S512x1024 : Shape := ⟨2, ![512, 1024]⟩
abbrev S8192x1024 : Shape := ⟨2, ![8192, 1024]⟩
abbrev S_ : Shape := ⟨0, ![]⟩
abbrev S1024x512 : Shape := ⟨2, ![1024, 512]⟩

abbrev nBuf : Space → Nat
  | .hbm => 54
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S8192x512, .f32⟩
  | .hbm, ⟨2, _⟩ => ⟨S8192x512, .f32⟩
  | .hbm, ⟨3, _⟩ => ⟨S8192x3072, .f32⟩
  | .hbm, ⟨4, _⟩ => ⟨S512x1024, .bf16⟩
  | .hbm, ⟨5, _⟩ => ⟨S512x1024, .bf16⟩
  | .hbm, ⟨6, _⟩ => ⟨S512x1024, .bf16⟩
  | .hbm, ⟨7, _⟩ => ⟨S8192x1024, .f32⟩
  | .hbm, ⟨8, _⟩ => ⟨S512x1024, .f32⟩
  | .hbm, ⟨9, _⟩ => ⟨S512x1024, .f32⟩
  | .hbm, ⟨10, _⟩ => ⟨S512x1024, .f32⟩
  | .hbm, ⟨11, _⟩ => ⟨S8192x3072, .f32⟩
  | .hbm, ⟨12, _⟩ => ⟨S8192x3072, .f32⟩
  | .hbm, ⟨13, _⟩ => ⟨S_, .f32⟩
  | .hbm, ⟨14, _⟩ => ⟨S8192x3072, .f32⟩
  | .hbm, ⟨15, _⟩ => ⟨S8192x3072, .f32⟩
  | .hbm, ⟨16, _⟩ => ⟨S_, .f32⟩
  | .hbm, ⟨17, _⟩ => ⟨S8192x3072, .f32⟩
  | .hbm, ⟨18, _⟩ => ⟨S8192x3072, .f32⟩
  | .hbm, ⟨19, _⟩ => ⟨S_, .f32⟩
  | .hbm, ⟨20, _⟩ => ⟨S8192x3072, .f32⟩
  | .hbm, ⟨21, _⟩ => ⟨S8192x3072, .f32⟩
  | .hbm, ⟨22, _⟩ => ⟨S8192x3072, .f32⟩
  | .hbm, ⟨23, _⟩ => ⟨S8192x1024, .f32⟩
  | .hbm, ⟨24, _⟩ => ⟨S8192x1024, .f32⟩
  | .hbm, ⟨25, _⟩ => ⟨S8192x1024, .f32⟩
  | .hbm, ⟨26, _⟩ => ⟨S8192x1024, .f32⟩
  | .hbm, ⟨27, _⟩ => ⟨S8192x1024, .f32⟩
  | .hbm, ⟨28, _⟩ => ⟨S8192x1024, .f32⟩
  | .hbm, ⟨29, _⟩ => ⟨S8192x1024, .f32⟩
  | .hbm, ⟨30, _⟩ => ⟨S8192x1024, .f32⟩
  | .hbm, ⟨31, _⟩ => ⟨S8192x1024, .f32⟩
  | .hbm, ⟨32, _⟩ => ⟨S8192x1024, .f32⟩
  | .hbm, ⟨33, _⟩ => ⟨S8192x1024, .f32⟩
  | .hbm, ⟨34, _⟩ => ⟨S8192x1024, .f32⟩
  | .hbm, ⟨35, _⟩ => ⟨S8192x1024, .f32⟩
  | .hbm, ⟨36, _⟩ => ⟨S8192x1024, .f32⟩
  | .hbm, ⟨37, _⟩ => ⟨S8192x1024, .f32⟩
  | .hbm, ⟨38, _⟩ => ⟨S1024x512, .f32⟩
  | .hbm, ⟨39, _⟩ => ⟨S512x1024, .f32⟩
  | .hbm, ⟨40, _⟩ => ⟨S8192x512, .f32⟩
  | .hbm, ⟨41, _⟩ => ⟨S8192x1024, .f32⟩
  | .hbm, ⟨42, _⟩ => ⟨S8192x1024, .f32⟩
  | .hbm, ⟨43, _⟩ => ⟨S1024x512, .f32⟩
  | .hbm, ⟨44, _⟩ => ⟨S512x1024, .f32⟩
  | .hbm, ⟨45, _⟩ => ⟨S8192x512, .f32⟩
  | .hbm, ⟨46, _⟩ => ⟨S8192x1024, .f32⟩
  | .hbm, ⟨47, _⟩ => ⟨S8192x1024, .f32⟩
  | .hbm, ⟨48, _⟩ => ⟨S1024x512, .f32⟩
  | .hbm, ⟨49, _⟩ => ⟨S512x1024, .f32⟩
  | .hbm, ⟨50, _⟩ => ⟨S8192x512, .f32⟩
  | .hbm, ⟨51, _⟩ => ⟨S8192x3072, .f32⟩
  | .hbm, ⟨52, _⟩ => ⟨S8192x3072, .f32⟩
  | .hbm, ⟨53, _⟩ => ⟨S8192x3072, .bf16⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_cst : Ref sig .tc := ⟨.hbm, 13, rfl⟩
abbrev main_v5 : Ref sig .tc := ⟨.hbm, 14, rfl⟩
abbrev main_v6 : Ref sig .tc := ⟨.hbm, 15, rfl⟩
abbrev main_cst_0 : Ref sig .tc := ⟨.hbm, 16, rfl⟩
abbrev main_v7 : Ref sig .tc := ⟨.hbm, 17, rfl⟩
abbrev main_v8 : Ref sig .tc := ⟨.hbm, 18, rfl⟩
abbrev main_cst_1 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩

abbrev nD : Nat := 1
abbrev τ : Topo := Topo.v7x

variable {F : FTy → Type} [FloatOps F]
-- ==== Merge.lean ====
abbrev S8192x512 : Shape := ⟨2, ![8192, 512]⟩
abbrev S8192x3072 : Shape := ⟨2, ![8192, 3072]⟩
abbrev S512x1024 : Shape := ⟨2, ![512, 1024]⟩
abbrev S8192x1024 : Shape := ⟨2, ![8192, 1024]⟩
abbrev S512x512 : Shape := ⟨2, ![512, 512]⟩
abbrev S512x3072 : Shape := ⟨2, ![512, 3072]⟩

abbrev nBuf : Space → Nat
  | .hbm => 8
  | .vmem => 13
  | .smem => 0
  | _ => 0

abbrev bufTy : (tb : Table) → Fin (tcTables nBuf tb) → BufTy
  | .hbm, ⟨0, _⟩ => ⟨S8192x512, .f32⟩
  | .hbm, ⟨1, _⟩ => ⟨S8192x512, .f32⟩
  | .hbm, ⟨2, _⟩ => ⟨S8192x512, .f32⟩
  | .hbm, ⟨3, _⟩ => ⟨S8192x3072, .f32⟩
  | .hbm, ⟨4, _⟩ => ⟨S512x1024, .bf16⟩
  | .hbm, ⟨5, _⟩ => ⟨S512x1024, .bf16⟩
  | .hbm, ⟨6, _⟩ => ⟨S512x1024, .bf16⟩
  | .hbm, ⟨7, _⟩ => ⟨S8192x1024, .bf16⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S512x3072, .f32⟩
  | .local _ .vmem, ⟨7, _⟩ => ⟨S512x3072, .f32⟩
  | .local _ .vmem, ⟨8, _⟩ => ⟨S512x1024, .bf16⟩
  | .local _ .vmem, ⟨9, _⟩ => ⟨S512x1024, .bf16⟩
  | .local _ .vmem, ⟨10, _⟩ => ⟨S512x1024, .bf16⟩
  | .local _ .vmem, ⟨11, _⟩ => ⟨S512x1024, .bf16⟩
  | .local _ .vmem, ⟨12, _⟩ => ⟨S512x1024, .bf16⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x3072 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S512x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S512x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== MergeReferenceIdeal.lean ====
abbrev S8192x512 : Shape := ⟨2, ![8192, 512]⟩
abbrev S8192x3072 : Shape := ⟨2, ![8192, 3072]⟩
abbrev S512x1024 : Shape := ⟨2, ![512, 1024]⟩
abbrev S_ : Shape := ⟨0, ![]⟩
abbrev S8192x1024 : Shape := ⟨2, ![8192, 1024]⟩

abbrev nBuf : Space → Nat
  | .hbm => 30
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S8192x512, .f32⟩
  | .hbm, ⟨2, _⟩ => ⟨S8192x512, .f32⟩
  | .hbm, ⟨3, _⟩ => ⟨S8192x3072, .f32⟩
  | .hbm, ⟨4, _⟩ => ⟨S512x1024, .bf16⟩
  | .hbm, ⟨5, _⟩ => ⟨S512x1024, .bf16⟩
  | .hbm, ⟨6, _⟩ => ⟨S512x1024, .bf16⟩
  | .hbm, ⟨7, _⟩ => ⟨S512x1024, .f32⟩
  | .hbm, ⟨8, _⟩ => ⟨S512x1024, .f32⟩
  | .hbm, ⟨9, _⟩ => ⟨S512x1024, .f32⟩
  | .hbm, ⟨10, _⟩ => ⟨S8192x3072, .f32⟩
  | .hbm, ⟨11, _⟩ => ⟨S8192x3072, .f32⟩
  | .hbm, ⟨12, _⟩ => ⟨S_, .f32⟩
  | .hbm, ⟨13, _⟩ => ⟨S8192x3072, .f32⟩
  | .hbm, ⟨14, _⟩ => ⟨S8192x3072, .f32⟩
  | .hbm, ⟨15, _⟩ => ⟨S_, .f32⟩
  | .hbm, ⟨16, _⟩ => ⟨S8192x3072, .f32⟩
  | .hbm, ⟨17, _⟩ => ⟨S8192x3072, .f32⟩
  | .hbm, ⟨18, _⟩ => ⟨S8192x1024, .f32⟩
  | .hbm, ⟨19, _⟩ => ⟨S8192x1024, .f32⟩
  | .hbm, ⟨20, _⟩ => ⟨S8192x1024, .f32⟩
  | .hbm, ⟨21, _⟩ => ⟨S8192x1024, .f32⟩
  | .hbm, ⟨22, _⟩ => ⟨S8192x1024, .f32⟩
  | .hbm, ⟨23, _⟩ => ⟨S8192x1024, .f32⟩
  | .hbm, ⟨24, _⟩ => ⟨S8192x1024, .f32⟩
  | .hbm, ⟨25, _⟩ => ⟨S8192x1024, .f32⟩
  | .hbm, ⟨26, _⟩ => ⟨S8192x1024, .f32⟩
  | .hbm, ⟨27, _⟩ => ⟨S8192x1024, .f32⟩
  | .hbm, ⟨28, _⟩ => ⟨S8192x1024, .f32⟩
  | .hbm, ⟨29, _⟩ => ⟨S8192x1024, .bf16⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst : Ref sig .tc := ⟨.hbm, 12, rfl⟩
abbrev main_v5 : Ref sig .tc := ⟨.hbm, 13, rfl⟩
abbrev main_v6 : Ref sig .tc := ⟨.hbm, 14, rfl⟩
abbrev main_cst_0 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩

abbrev nD : Nat := 1
abbrev τ : Topo := Topo.v7x

variable {F : FTy → Type} [FloatOps F]
-- ==== AdaW.lean ====
abbrev S8x1024 : Shape := ⟨2, ![8, 1024]⟩
abbrev S8x1536 : Shape := ⟨2, ![8, 1536]⟩
abbrev S1024x1536 : Shape := ⟨2, ![1024, 1536]⟩

abbrev nBuf : Space → Nat
  | .hbm => 3
  | .vmem => 3
  | .smem => 0
  | _ => 0

abbrev bufTy : (tb : Table) → Fin (tcTables nBuf tb) → BufTy
  | .hbm, ⟨0, _⟩ => ⟨S8x1024, .f32⟩
  | .hbm, ⟨1, _⟩ => ⟨S8x1536, .f32⟩
  | .hbm, ⟨2, _⟩ => ⟨S1024x1536, .f32⟩
  | .local _ .vmem, ⟨0, _⟩ => ⟨S8x1024, .f32⟩
  | .local _ .vmem, ⟨1, _⟩ => ⟨S8x1536, .f32⟩
  | .local _ .vmem, ⟨2, _⟩ => ⟨S1024x1536, .f32⟩
  | _, _ => ⟨S8x1024, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨3, ![1, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S8x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 1 → Memref sig .tc .vmem S8x1536 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 1 → Memref sig .tc .vmem S1024x1536 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== AdaWReferenceIdeal.lean ====
abbrev S8x1024 : Shape := ⟨2, ![8, 1024]⟩
abbrev S8x1536 : Shape := ⟨2, ![8, 1536]⟩
abbrev S_ : Shape := ⟨0, ![]⟩
abbrev S1024x1536 : Shape := ⟨2, ![1024, 1536]⟩
abbrev S1536x1024 : Shape := ⟨2, ![1536, 1024]⟩

abbrev nBuf : Space → Nat
  | .hbm => 7
  | .vmem => 0
  | .smem => 0
  | _ => 0

abbrev bufTy : (tb : Table) → Fin (tcTables nBuf tb) → BufTy
  | .hbm, ⟨0, _⟩ => ⟨S8x1024, .f32⟩
  | .hbm, ⟨1, _⟩ => ⟨S8x1536, .f32⟩
  | .hbm, ⟨2, _⟩ => ⟨S_, .f32⟩
  | .hbm, ⟨3, _⟩ => ⟨S1024x1536, .f32⟩
  | .hbm, ⟨4, _⟩ => ⟨S8x1536, .f32⟩
  | .hbm, ⟨5, _⟩ => ⟨S1536x1024, .f32⟩
  | .hbm, ⟨6, _⟩ => ⟨S1024x1536, .f32⟩
  | _, _ => ⟨S8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Mod.lean ====
abbrev S8x1024 : Shape := ⟨2, ![8, 1024]⟩
abbrev S1024x6144 : Shape := ⟨2, ![1024, 6144]⟩
abbrev S1x6144 : Shape := ⟨2, ![1, 6144]⟩
abbrev S8x6144 : Shape := ⟨2, ![8, 6144]⟩
abbrev S1024x2048 : Shape := ⟨2, ![1024, 2048]⟩
abbrev S1x2048 : Shape := ⟨2, ![1, 2048]⟩
abbrev S8x2048 : Shape := ⟨2, ![8, 2048]⟩

abbrev nBuf : Space → Nat
  | .hbm => 4
  | .vmem => 7
  | .smem => 0
  | _ => 0

abbrev bufTy : (tb : Table) → Fin (tcTables nBuf tb) → BufTy
  | .hbm, ⟨0, _⟩ => ⟨S8x1024, .f32⟩
  | .hbm, ⟨1, _⟩ => ⟨S1024x6144, .bf16⟩
  | .hbm, ⟨2, _⟩ => ⟨S1x6144, .f32⟩
  | .hbm, ⟨3, _⟩ => ⟨S8x6144, .f32⟩
  | .local _ .vmem, ⟨0, _⟩ => ⟨S8x1024, .f32⟩
  | .local _ .vmem, ⟨1, _⟩ => ⟨S1024x2048, .bf16⟩
  | .local _ .vmem, ⟨2, _⟩ => ⟨S1024x2048, .bf16⟩
  | .local _ .vmem, ⟨3, _⟩ => ⟨S1x2048, .f32⟩
  | .local _ .vmem, ⟨4, _⟩ => ⟨S1x2048, .f32⟩
  | .local _ .vmem, ⟨5, _⟩ => ⟨S8x2048, .f32⟩
  | .local _ .vmem, ⟨6, _⟩ => ⟨S8x2048, .f32⟩
  | _, _ => ⟨S8x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![1, 3, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S8x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S8x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== ModReferenceIdeal.lean ====
abbrev S8x1024 : Shape := ⟨2, ![8, 1024]⟩
abbrev S1024x6144 : Shape := ⟨2, ![1024, 6144]⟩
abbrev S1x6144 : Shape := ⟨2, ![1, 6144]⟩
abbrev S8x6144 : Shape := ⟨2, ![8, 6144]⟩

abbrev nBuf : Space → Nat
  | .hbm => 7
  | .vmem => 0
  | .smem => 0
  | _ => 0

abbrev bufTy : (tb : Table) → Fin (tcTables nBuf tb) → BufTy
  | .hbm, ⟨0, _⟩ => ⟨S8x1024, .f32⟩
  | .hbm, ⟨1, _⟩ => ⟨S1024x6144, .bf16⟩
  | .hbm, ⟨2, _⟩ => ⟨S1x6144, .f32⟩
  | .hbm, ⟨3, _⟩ => ⟨S1024x6144, .f32⟩
  | .hbm, ⟨4, _⟩ => ⟨S8x6144, .f32⟩
  | .hbm, ⟨5, _⟩ => ⟨S8x6144, .f32⟩
  | .hbm, ⟨6, _⟩ => ⟨S8x6144, .f32⟩
  | _, _ => ⟨S8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== AdamAda.lean ====
abbrev S2x1024x1536 : Shape := ⟨3, ![2, 1024, 1536]⟩
abbrev S1x256x1536 : Shape := ⟨3, ![1, 256, 1536]⟩
abbrev S256x1536 : Shape := ⟨2, ![256, 1536]⟩

abbrev nBuf : Space → Nat
  | .hbm => 8
  | .vmem => 16
  | .smem => 0
  | _ => 0

abbrev bufTy : (tb : Table) → Fin (tcTables nBuf tb) → BufTy
  | .hbm, ⟨0, _⟩ => ⟨S2x1024x1536, .f32⟩
  | .hbm, ⟨1, _⟩ => ⟨S2x1024x1536, .f32⟩
  | .hbm, ⟨2, _⟩ => ⟨S2x1024x1536, .f32⟩
  | .hbm, ⟨3, _⟩ => ⟨S2x1024x1536, .f32⟩
  | .hbm, ⟨4, _⟩ => ⟨S2x1024x1536, .f32⟩
  | .hbm, ⟨5, _⟩ => ⟨S2x1024x1536, .f32⟩
  | .hbm, ⟨6, _⟩ => ⟨S2x1024x1536, .f32⟩
  | .hbm, ⟨7, _⟩ => ⟨S2x1024x1536, .f32⟩
  | .local _ .vmem, ⟨0, _⟩ => ⟨S1x256x1536, .f32⟩
  | .local _ .vmem, ⟨1, _⟩ => ⟨S1x256x1536, .f32⟩
  | .local _ .vmem, ⟨2, _⟩ => ⟨S1x256x1536, .f32⟩
  | .local _ .vmem, ⟨3, _⟩ => ⟨S1x256x1536, .f32⟩
  | .local _ .vmem, ⟨4, _⟩ => ⟨S1x256x1536, .f32⟩
  | .local _ .vmem, ⟨5, _⟩ => ⟨S1x256x1536, .f32⟩
  | .local _ .vmem, ⟨6, _⟩ => ⟨S1x256x1536, .f32⟩
  | .local _ .vmem, ⟨7, _⟩ => ⟨S1x256x1536, .f32⟩
  | .local _ .vmem, ⟨8, _⟩ => ⟨S1x256x1536, .f32⟩
  | .local _ .vmem, ⟨9, _⟩ => ⟨S1x256x1536, .f32⟩
  | .local _ .vmem, ⟨10, _⟩ => ⟨S1x256x1536, .f32⟩
  | .local _ .vmem, ⟨11, _⟩ => ⟨S1x256x1536, .f32⟩
  | .local _ .vmem, ⟨12, _⟩ => ⟨S1x256x1536, .f32⟩
  | .local _ .vmem, ⟨13, _⟩ => ⟨S1x256x1536, .f32⟩
  | .local _ .vmem, ⟨14, _⟩ => ⟨S1x256x1536, .f32⟩
  | .local _ .vmem, ⟨15, _⟩ => ⟨S1x256x1536, .f32⟩
  | _, _ => ⟨S2x1024x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![2, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1536 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x1536 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x1536 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x1536 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x1536 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x1536 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x256x1536 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== AdamAdaReferenceIdeal.lean ====
abbrev S2x1024x1536 : Shape := ⟨3, ![2, 1024, 1536]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2x1024x1536, .f32⟩
  | .hbm, ⟨1, _⟩ => ⟨S2x1024x1536, .f32⟩
  | .hbm, ⟨2, _⟩ => ⟨S2x1024x1536, .f32⟩
  | .hbm, ⟨3, _⟩ => ⟨S2x1024x1536, .f32⟩
  | .hbm, ⟨4, _⟩ => ⟨S_, .f32⟩
  | .hbm, ⟨5, _⟩ => ⟨S2x1024x1536, .f32⟩
  | .hbm, ⟨6, _⟩ => ⟨S2x1024x1536, .f32⟩
  | .hbm, ⟨7, _⟩ => ⟨S_, .f32⟩
  | .hbm, ⟨8, _⟩ => ⟨S2x1024x1536, .f32⟩
  | .hbm, ⟨9, _⟩ => ⟨S2x1024x1536, .f32⟩
  | .hbm, ⟨10, _⟩ => ⟨S2x1024x1536, .f32⟩
  | .hbm, ⟨11, _⟩ => ⟨S_, .f32⟩
  | .hbm, ⟨12, _⟩ => ⟨S2x1024x1536, .f32⟩
  | .hbm, ⟨13, _⟩ => ⟨S2x1024x1536, .f32⟩
  | .hbm, ⟨14, _⟩ => ⟨S2x1024x1536, .f32⟩
  | .hbm, ⟨15, _⟩ => ⟨S_, .f32⟩
  | .hbm, ⟨16, _⟩ => ⟨S2x1024x1536, .f32⟩
  | .hbm, ⟨17, _⟩ => ⟨S2x1024x1536, .f32⟩
  | .hbm, ⟨18, _⟩ => ⟨S2x1024x1536, .f32⟩
  | .hbm, ⟨19, _⟩ => ⟨S_, .f32⟩
  | .hbm, ⟨20, _⟩ => ⟨S2x1024x1536, .f32⟩
  | .hbm, ⟨21, _⟩ => ⟨S2x1024x1536, .f32⟩
  | .hbm, ⟨22, _⟩ => ⟨S_, .f32⟩
  | .hbm, ⟨23, _⟩ => ⟨S2x1024x1536, .f32⟩
  | .hbm, ⟨24, _⟩ => ⟨S2x1024x1536, .f32⟩
  | .hbm, ⟨25, _⟩ => ⟨S2x1024x1536, .f32⟩
  | .hbm, ⟨26, _⟩ => ⟨S_, .f32⟩
  | .hbm, ⟨27, _⟩ => ⟨S2x1024x1536, .f32⟩
  | .hbm, ⟨28, _⟩ => ⟨S2x1024x1536, .f32⟩
  | .hbm, ⟨29, _⟩ => ⟨S2x1024x1536, .f32⟩
  | .hbm, ⟨30, _⟩ => ⟨S_, .f32⟩
  | .hbm, ⟨31, _⟩ => ⟨S2x1024x1536, .f32⟩
  | .hbm, ⟨32, _⟩ => ⟨S2x1024x1536, .f32⟩
  | .hbm, ⟨33, _⟩ => ⟨S2x1024x1536, .f32⟩
  | .hbm, ⟨34, _⟩ => ⟨S_, .f32⟩
  | .hbm, ⟨35, _⟩ => ⟨S2x1024x1536, .f32⟩
  | .hbm, ⟨36, _⟩ => ⟨S2x1024x1536, .f32⟩
  | _, _ => ⟨S2x1024x1536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamIn.lean ====
abbrev S2x1024x1924 : Shape := ⟨3, ![2, 1024, 1924]⟩
abbrev S1x256x1924 : Shape := ⟨3, ![1, 256, 1924]⟩
abbrev S256x1924 : Shape := ⟨2, ![256, 1924]⟩

abbrev nBuf : Space → Nat
  | .hbm => 8
  | .vmem => 16
  | .smem => 0
  | _ => 0

abbrev bufTy : (tb : Table) → Fin (tcTables nBuf tb) → BufTy
  | .hbm, ⟨0, _⟩ => ⟨S2x1024x1924, .f32⟩
  | .hbm, ⟨1, _⟩ => ⟨S2x1024x1924, .f32⟩
  | .hbm, ⟨2, _⟩ => ⟨S2x1024x1924, .f32⟩
  | .hbm, ⟨3, _⟩ => ⟨S2x1024x1924, .f32⟩
  | .hbm, ⟨4, _⟩ => ⟨S2x1024x1924, .f32⟩
  | .hbm, ⟨5, _⟩ => ⟨S2x1024x1924, .f32⟩
  | .hbm, ⟨6, _⟩ => ⟨S2x1024x1924, .f32⟩
  | .hbm, ⟨7, _⟩ => ⟨S2x1024x1924, .f32⟩
  | .local _ .vmem, ⟨0, _⟩ => ⟨S1x256x1924, .f32⟩
  | .local _ .vmem, ⟨1, _⟩ => ⟨S1x256x1924, .f32⟩
  | .local _ .vmem, ⟨2, _⟩ => ⟨S1x256x1924, .f32⟩
  | .local _ .vmem, ⟨3, _⟩ => ⟨S1x256x1924, .f32⟩
  | .local _ .vmem, ⟨4, _⟩ => ⟨S1x256x1924, .f32⟩
  | .local _ .vmem, ⟨5, _⟩ => ⟨S1x256x1924, .f32⟩
  | .local _ .vmem, ⟨6, _⟩ => ⟨S1x256x1924, .f32⟩
  | .local _ .vmem, ⟨7, _⟩ => ⟨S1x256x1924, .f32⟩
  | .local _ .vmem, ⟨8, _⟩ => ⟨S1x256x1924, .f32⟩
  | .local _ .vmem, ⟨9, _⟩ => ⟨S1x256x1924, .f32⟩
  | .local _ .vmem, ⟨10, _⟩ => ⟨S1x256x1924, .f32⟩
  | .local _ .vmem, ⟨11, _⟩ => ⟨S1x256x1924, .f32⟩
  | .local _ .vmem, ⟨12, _⟩ => ⟨S1x256x1924, .f32⟩
  | .local _ .vmem, ⟨13, _⟩ => ⟨S1x256x1924, .f32⟩
  | .local _ .vmem, ⟨14, _⟩ => ⟨S1x256x1924, .f32⟩
  | .local _ .vmem, ⟨15, _⟩ => ⟨S1x256x1924, .f32⟩
  | _, _ => ⟨S2x1024x1924, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![2, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1924 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x1924 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x1924 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x1924 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x1924 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x1924 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x1924 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x256x1924 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== AdamInReferenceIdeal.lean ====
abbrev S2x1024x1924 : Shape := ⟨3, ![2, 1024, 1924]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2x1024x1924, .f32⟩
  | .hbm, ⟨1, _⟩ => ⟨S2x1024x1924, .f32⟩
  | .hbm, ⟨2, _⟩ => ⟨S2x1024x1924, .f32⟩
  | .hbm, ⟨3, _⟩ => ⟨S2x1024x1924, .f32⟩
  | .hbm, ⟨4, _⟩ => ⟨S_, .f32⟩
  | .hbm, ⟨5, _⟩ => ⟨S2x1024x1924, .f32⟩
  | .hbm, ⟨6, _⟩ => ⟨S2x1024x1924, .f32⟩
  | .hbm, ⟨7, _⟩ => ⟨S_, .f32⟩
  | .hbm, ⟨8, _⟩ => ⟨S2x1024x1924, .f32⟩
  | .hbm, ⟨9, _⟩ => ⟨S2x1024x1924, .f32⟩
  | .hbm, ⟨10, _⟩ => ⟨S2x1024x1924, .f32⟩
  | .hbm, ⟨11, _⟩ => ⟨S_, .f32⟩
  | .hbm, ⟨12, _⟩ => ⟨S2x1024x1924, .f32⟩
  | .hbm, ⟨13, _⟩ => ⟨S2x1024x1924, .f32⟩
  | .hbm, ⟨14, _⟩ => ⟨S2x1024x1924, .f32⟩
  | .hbm, ⟨15, _⟩ => ⟨S_, .f32⟩
  | .hbm, ⟨16, _⟩ => ⟨S2x1024x1924, .f32⟩
  | .hbm, ⟨17, _⟩ => ⟨S2x1024x1924, .f32⟩
  | .hbm, ⟨18, _⟩ => ⟨S2x1024x1924, .f32⟩
  | .hbm, ⟨19, _⟩ => ⟨S_, .f32⟩
  | .hbm, ⟨20, _⟩ => ⟨S2x1024x1924, .f32⟩
  | .hbm, ⟨21, _⟩ => ⟨S2x1024x1924, .f32⟩
  | .hbm, ⟨22, _⟩ => ⟨S_, .f32⟩
  | .hbm, ⟨23, _⟩ => ⟨S2x1024x1924, .f32⟩
  | .hbm, ⟨24, _⟩ => ⟨S2x1024x1924, .f32⟩
  | .hbm, ⟨25, _⟩ => ⟨S2x1024x1924, .f32⟩
  | .hbm, ⟨26, _⟩ => ⟨S_, .f32⟩
  | .hbm, ⟨27, _⟩ => ⟨S2x1024x1924, .f32⟩
  | .hbm, ⟨28, _⟩ => ⟨S2x1024x1924, .f32⟩
  | .hbm, ⟨29, _⟩ => ⟨S2x1024x1924, .f32⟩
  | .hbm, ⟨30, _⟩ => ⟨S_, .f32⟩
  | .hbm, ⟨31, _⟩ => ⟨S2x1024x1924, .f32⟩
  | .hbm, ⟨32, _⟩ => ⟨S2x1024x1924, .f32⟩
  | .hbm, ⟨33, _⟩ => ⟨S2x1024x1924, .f32⟩
  | .hbm, ⟨34, _⟩ => ⟨S_, .f32⟩
  | .hbm, ⟨35, _⟩ => ⟨S2x1024x1924, .f32⟩
  | .hbm, ⟨36, _⟩ => ⟨S2x1024x1924, .f32⟩
  | _, _ => ⟨S2x1024x1924, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamBranch.lean ====
abbrev S6x512x256 : Shape := ⟨3, ![6, 512, 256]⟩
abbrev S1x256x256 : Shape := ⟨3, ![1, 256, 256]⟩
abbrev S256x256 : Shape := ⟨2, ![256, 256]⟩

abbrev nBuf : Space → Nat
  | .hbm => 8
  | .vmem => 16
  | .smem => 0
  | _ => 0

abbrev bufTy : (tb : Table) → Fin (tcTables nBuf tb) → BufTy
  | .hbm, ⟨0, _⟩ => ⟨S6x512x256, .f32⟩
  | .hbm, ⟨1, _⟩ => ⟨S6x512x256, .f32⟩
  | .hbm, ⟨2, _⟩ => ⟨S6x512x256, .f32⟩
  | .hbm, ⟨3, _⟩ => ⟨S6x512x256, .f32⟩
  | .hbm, ⟨4, _⟩ => ⟨S6x512x256, .f32⟩
  | .hbm, ⟨5, _⟩ => ⟨S6x512x256, .f32⟩
  | .hbm, ⟨6, _⟩ => ⟨S6x512x256, .f32⟩
  | .hbm, ⟨7, _⟩ => ⟨S6x512x256, .f32⟩
  | .local _ .vmem, ⟨0, _⟩ => ⟨S1x256x256, .f32⟩
  | .local _ .vmem, ⟨1, _⟩ => ⟨S1x256x256, .f32⟩
  | .local _ .vmem, ⟨2, _⟩ => ⟨S1x256x256, .f32⟩
  | .local _ .vmem, ⟨3, _⟩ => ⟨S1x256x256, .f32⟩
  | .local _ .vmem, ⟨4, _⟩ => ⟨S1x256x256, .f32⟩
  | .local _ .vmem, ⟨5, _⟩ => ⟨S1x256x256, .f32⟩
  | .local _ .vmem, ⟨6, _⟩ => ⟨S1x256x256, .f32⟩
  | .local _ .vmem, ⟨7, _⟩ => ⟨S1x256x256, .f32⟩
  | .local _ .vmem, ⟨8, _⟩ => ⟨S1x256x256, .f32⟩
  | .local _ .vmem, ⟨9, _⟩ => ⟨S1x256x256, .f32⟩
  | .local _ .vmem, ⟨10, _⟩ => ⟨S1x256x256, .f32⟩
  | .local _ .vmem, ⟨11, _⟩ => ⟨S1x256x256, .f32⟩
  | .local _ .vmem, ⟨12, _⟩ => ⟨S1x256x256, .f32⟩
  | .local _ .vmem, ⟨13, _⟩ => ⟨S1x256x256, .f32⟩
  | .local _ .vmem, ⟨14, _⟩ => ⟨S1x256x256, .f32⟩
  | .local _ .vmem, ⟨15, _⟩ => ⟨S1x256x256, .f32⟩
  | _, _ => ⟨S6x512x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![6, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x256x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== AdamBranchReferenceIdeal.lean ====
abbrev S6x512x256 : Shape := ⟨3, ![6, 512, 256]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S6x512x256, .f32⟩
  | .hbm, ⟨1, _⟩ => ⟨S6x512x256, .f32⟩
  | .hbm, ⟨2, _⟩ => ⟨S6x512x256, .f32⟩
  | .hbm, ⟨3, _⟩ => ⟨S6x512x256, .f32⟩
  | .hbm, ⟨4, _⟩ => ⟨S_, .f32⟩
  | .hbm, ⟨5, _⟩ => ⟨S6x512x256, .f32⟩
  | .hbm, ⟨6, _⟩ => ⟨S6x512x256, .f32⟩
  | .hbm, ⟨7, _⟩ => ⟨S_, .f32⟩
  | .hbm, ⟨8, _⟩ => ⟨S6x512x256, .f32⟩
  | .hbm, ⟨9, _⟩ => ⟨S6x512x256, .f32⟩
  | .hbm, ⟨10, _⟩ => ⟨S6x512x256, .f32⟩
  | .hbm, ⟨11, _⟩ => ⟨S_, .f32⟩
  | .hbm, ⟨12, _⟩ => ⟨S6x512x256, .f32⟩
  | .hbm, ⟨13, _⟩ => ⟨S6x512x256, .f32⟩
  | .hbm, ⟨14, _⟩ => ⟨S6x512x256, .f32⟩
  | .hbm, ⟨15, _⟩ => ⟨S_, .f32⟩
  | .hbm, ⟨16, _⟩ => ⟨S6x512x256, .f32⟩
  | .hbm, ⟨17, _⟩ => ⟨S6x512x256, .f32⟩
  | .hbm, ⟨18, _⟩ => ⟨S6x512x256, .f32⟩
  | .hbm, ⟨19, _⟩ => ⟨S_, .f32⟩
  | .hbm, ⟨20, _⟩ => ⟨S6x512x256, .f32⟩
  | .hbm, ⟨21, _⟩ => ⟨S6x512x256, .f32⟩
  | .hbm, ⟨22, _⟩ => ⟨S_, .f32⟩
  | .hbm, ⟨23, _⟩ => ⟨S6x512x256, .f32⟩
  | .hbm, ⟨24, _⟩ => ⟨S6x512x256, .f32⟩
  | .hbm, ⟨25, _⟩ => ⟨S6x512x256, .f32⟩
  | .hbm, ⟨26, _⟩ => ⟨S_, .f32⟩
  | .hbm, ⟨27, _⟩ => ⟨S6x512x256, .f32⟩
  | .hbm, ⟨28, _⟩ => ⟨S6x512x256, .f32⟩
  | .hbm, ⟨29, _⟩ => ⟨S6x512x256, .f32⟩
  | .hbm, ⟨30, _⟩ => ⟨S_, .f32⟩
  | .hbm, ⟨31, _⟩ => ⟨S6x512x256, .f32⟩
  | .hbm, ⟨32, _⟩ => ⟨S6x512x256, .f32⟩
  | .hbm, ⟨33, _⟩ => ⟨S6x512x256, .f32⟩
  | .hbm, ⟨34, _⟩ => ⟨S_, .f32⟩
  | .hbm, ⟨35, _⟩ => ⟨S6x512x256, .f32⟩
  | .hbm, ⟨36, _⟩ => ⟨S6x512x256, .f32⟩
  | _, _ => ⟨S6x512x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamOut.lean ====
abbrev S2x256x1024 : Shape := ⟨3, ![2, 256, 1024]⟩
abbrev S1x256x1024 : Shape := ⟨3, ![1, 256, 1024]⟩
abbrev S256x1024 : Shape := ⟨2, ![256, 1024]⟩

abbrev nBuf : Space → Nat
  | .hbm => 8
  | .vmem => 16
  | .smem => 0
  | _ => 0

abbrev bufTy : (tb : Table) → Fin (tcTables nBuf tb) → BufTy
  | .hbm, ⟨0, _⟩ => ⟨S2x256x1024, .f32⟩
  | .hbm, ⟨1, _⟩ => ⟨S2x256x1024, .f32⟩
  | .hbm, ⟨2, _⟩ => ⟨S2x256x1024, .f32⟩
  | .hbm, ⟨3, _⟩ => ⟨S2x256x1024, .f32⟩
  | .hbm, ⟨4, _⟩ => ⟨S2x256x1024, .f32⟩
  | .hbm, ⟨5, _⟩ => ⟨S2x256x1024, .f32⟩
  | .hbm, ⟨6, _⟩ => ⟨S2x256x1024, .f32⟩
  | .hbm, ⟨7, _⟩ => ⟨S2x256x1024, .f32⟩
  | .local _ .vmem, ⟨0, _⟩ => ⟨S1x256x1024, .f32⟩
  | .local _ .vmem, ⟨1, _⟩ => ⟨S1x256x1024, .f32⟩
  | .local _ .vmem, ⟨2, _⟩ => ⟨S1x256x1024, .f32⟩
  | .local _ .vmem, ⟨3, _⟩ => ⟨S1x256x1024, .f32⟩
  | .local _ .vmem, ⟨4, _⟩ => ⟨S1x256x1024, .f32⟩
  | .local _ .vmem, ⟨5, _⟩ => ⟨S1x256x1024, .f32⟩
  | .local _ .vmem, ⟨6, _⟩ => ⟨S1x256x1024, .f32⟩
  | .local _ .vmem, ⟨7, _⟩ => ⟨S1x256x1024, .f32⟩
  | .local _ .vmem, ⟨8, _⟩ => ⟨S1x256x1024, .f32⟩
  | .local _ .vmem, ⟨9, _⟩ => ⟨S1x256x1024, .f32⟩
  | .local _ .vmem, ⟨10, _⟩ => ⟨S1x256x1024, .f32⟩
  | .local _ .vmem, ⟨11, _⟩ => ⟨S1x256x1024, .f32⟩
  | .local _ .vmem, ⟨12, _⟩ => ⟨S1x256x1024, .f32⟩
  | .local _ .vmem, ⟨13, _⟩ => ⟨S1x256x1024, .f32⟩
  | .local _ .vmem, ⟨14, _⟩ => ⟨S1x256x1024, .f32⟩
  | .local _ .vmem, ⟨15, _⟩ => ⟨S1x256x1024, .f32⟩
  | _, _ => ⟨S2x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![2, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== AdamOutReferenceIdeal.lean ====
abbrev S2x256x1024 : Shape := ⟨3, ![2, 256, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2x256x1024, .f32⟩
  | .hbm, ⟨1, _⟩ => ⟨S2x256x1024, .f32⟩
  | .hbm, ⟨2, _⟩ => ⟨S2x256x1024, .f32⟩
  | .hbm, ⟨3, _⟩ => ⟨S2x256x1024, .f32⟩
  | .hbm, ⟨4, _⟩ => ⟨S_, .f32⟩
  | .hbm, ⟨5, _⟩ => ⟨S2x256x1024, .f32⟩
  | .hbm, ⟨6, _⟩ => ⟨S2x256x1024, .f32⟩
  | .hbm, ⟨7, _⟩ => ⟨S_, .f32⟩
  | .hbm, ⟨8, _⟩ => ⟨S2x256x1024, .f32⟩
  | .hbm, ⟨9, _⟩ => ⟨S2x256x1024, .f32⟩
  | .hbm, ⟨10, _⟩ => ⟨S2x256x1024, .f32⟩
  | .hbm, ⟨11, _⟩ => ⟨S_, .f32⟩
  | .hbm, ⟨12, _⟩ => ⟨S2x256x1024, .f32⟩
  | .hbm, ⟨13, _⟩ => ⟨S2x256x1024, .f32⟩
  | .hbm, ⟨14, _⟩ => ⟨S2x256x1024, .f32⟩
  | .hbm, ⟨15, _⟩ => ⟨S_, .f32⟩
  | .hbm, ⟨16, _⟩ => ⟨S2x256x1024, .f32⟩
  | .hbm, ⟨17, _⟩ => ⟨S2x256x1024, .f32⟩
  | .hbm, ⟨18, _⟩ => ⟨S2x256x1024, .f32⟩
  | .hbm, ⟨19, _⟩ => ⟨S_, .f32⟩
  | .hbm, ⟨20, _⟩ => ⟨S2x256x1024, .f32⟩
  | .hbm, ⟨21, _⟩ => ⟨S2x256x1024, .f32⟩
  | .hbm, ⟨22, _⟩ => ⟨S_, .f32⟩
  | .hbm, ⟨23, _⟩ => ⟨S2x256x1024, .f32⟩
  | .hbm, ⟨24, _⟩ => ⟨S2x256x1024, .f32⟩
  | .hbm, ⟨25, _⟩ => ⟨S2x256x1024, .f32⟩
  | .hbm, ⟨26, _⟩ => ⟨S_, .f32⟩
  | .hbm, ⟨27, _⟩ => ⟨S2x256x1024, .f32⟩
  | .hbm, ⟨28, _⟩ => ⟨S2x256x1024, .f32⟩
  | .hbm, ⟨29, _⟩ => ⟨S2x256x1024, .f32⟩
  | .hbm, ⟨30, _⟩ => ⟨S_, .f32⟩
  | .hbm, ⟨31, _⟩ => ⟨S2x256x1024, .f32⟩
  | .hbm, ⟨32, _⟩ => ⟨S2x256x1024, .f32⟩
  | .hbm, ⟨33, _⟩ => ⟨S2x256x1024, .f32⟩
  | .hbm, ⟨34, _⟩ => ⟨S_, .f32⟩
  | .hbm, ⟨35, _⟩ => ⟨S2x256x1024, .f32⟩
  | .hbm, ⟨36, _⟩ => ⟨S2x256x1024, .f32⟩
  | _, _ => ⟨S2x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamUp.lean ====
abbrev S2x1024x1024 : Shape := ⟨3, ![2, 1024, 1024]⟩
abbrev S1x256x1024 : Shape := ⟨3, ![1, 256, 1024]⟩
abbrev S256x1024 : Shape := ⟨2, ![256, 1024]⟩

abbrev nBuf : Space → Nat
  | .hbm => 8
  | .vmem => 16
  | .smem => 0
  | _ => 0

abbrev bufTy : (tb : Table) → Fin (tcTables nBuf tb) → BufTy
  | .hbm, ⟨0, _⟩ => ⟨S2x1024x1024, .f32⟩
  | .hbm, ⟨1, _⟩ => ⟨S2x1024x1024, .f32⟩
  | .hbm, ⟨2, _⟩ => ⟨S2x1024x1024, .f32⟩
  | .hbm, ⟨3, _⟩ => ⟨S2x1024x1024, .f32⟩
  | .hbm, ⟨4, _⟩ => ⟨S2x1024x1024, .f32⟩
  | .hbm, ⟨5, _⟩ => ⟨S2x1024x1024, .f32⟩
  | .hbm, ⟨6, _⟩ => ⟨S2x1024x1024, .f32⟩
  | .hbm, ⟨7, _⟩ => ⟨S2x1024x1024, .f32⟩
  | .local _ .vmem, ⟨0, _⟩ => ⟨S1x256x1024, .f32⟩
  | .local _ .vmem, ⟨1, _⟩ => ⟨S1x256x1024, .f32⟩
  | .local _ .vmem, ⟨2, _⟩ => ⟨S1x256x1024, .f32⟩
  | .local _ .vmem, ⟨3, _⟩ => ⟨S1x256x1024, .f32⟩
  | .local _ .vmem, ⟨4, _⟩ => ⟨S1x256x1024, .f32⟩
  | .local _ .vmem, ⟨5, _⟩ => ⟨S1x256x1024, .f32⟩
  | .local _ .vmem, ⟨6, _⟩ => ⟨S1x256x1024, .f32⟩
  | .local _ .vmem, ⟨7, _⟩ => ⟨S1x256x1024, .f32⟩
  | .local _ .vmem, ⟨8, _⟩ => ⟨S1x256x1024, .f32⟩
  | .local _ .vmem, ⟨9, _⟩ => ⟨S1x256x1024, .f32⟩
  | .local _ .vmem, ⟨10, _⟩ => ⟨S1x256x1024, .f32⟩
  | .local _ .vmem, ⟨11, _⟩ => ⟨S1x256x1024, .f32⟩
  | .local _ .vmem, ⟨12, _⟩ => ⟨S1x256x1024, .f32⟩
  | .local _ .vmem, ⟨13, _⟩ => ⟨S1x256x1024, .f32⟩
  | .local _ .vmem, ⟨14, _⟩ => ⟨S1x256x1024, .f32⟩
  | .local _ .vmem, ⟨15, _⟩ => ⟨S1x256x1024, .f32⟩
  | _, _ => ⟨S2x1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![2, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== AdamUpReferenceIdeal.lean ====
abbrev S2x1024x1024 : Shape := ⟨3, ![2, 1024, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2x1024x1024, .f32⟩
  | .hbm, ⟨1, _⟩ => ⟨S2x1024x1024, .f32⟩
  | .hbm, ⟨2, _⟩ => ⟨S2x1024x1024, .f32⟩
  | .hbm, ⟨3, _⟩ => ⟨S2x1024x1024, .f32⟩
  | .hbm, ⟨4, _⟩ => ⟨S_, .f32⟩
  | .hbm, ⟨5, _⟩ => ⟨S2x1024x1024, .f32⟩
  | .hbm, ⟨6, _⟩ => ⟨S2x1024x1024, .f32⟩
  | .hbm, ⟨7, _⟩ => ⟨S_, .f32⟩
  | .hbm, ⟨8, _⟩ => ⟨S2x1024x1024, .f32⟩
  | .hbm, ⟨9, _⟩ => ⟨S2x1024x1024, .f32⟩
  | .hbm, ⟨10, _⟩ => ⟨S2x1024x1024, .f32⟩
  | .hbm, ⟨11, _⟩ => ⟨S_, .f32⟩
  | .hbm, ⟨12, _⟩ => ⟨S2x1024x1024, .f32⟩
  | .hbm, ⟨13, _⟩ => ⟨S2x1024x1024, .f32⟩
  | .hbm, ⟨14, _⟩ => ⟨S2x1024x1024, .f32⟩
  | .hbm, ⟨15, _⟩ => ⟨S_, .f32⟩
  | .hbm, ⟨16, _⟩ => ⟨S2x1024x1024, .f32⟩
  | .hbm, ⟨17, _⟩ => ⟨S2x1024x1024, .f32⟩
  | .hbm, ⟨18, _⟩ => ⟨S2x1024x1024, .f32⟩
  | .hbm, ⟨19, _⟩ => ⟨S_, .f32⟩
  | .hbm, ⟨20, _⟩ => ⟨S2x1024x1024, .f32⟩
  | .hbm, ⟨21, _⟩ => ⟨S2x1024x1024, .f32⟩
  | .hbm, ⟨22, _⟩ => ⟨S_, .f32⟩
  | .hbm, ⟨23, _⟩ => ⟨S2x1024x1024, .f32⟩
  | .hbm, ⟨24, _⟩ => ⟨S2x1024x1024, .f32⟩
  | .hbm, ⟨25, _⟩ => ⟨S2x1024x1024, .f32⟩
  | .hbm, ⟨26, _⟩ => ⟨S_, .f32⟩
  | .hbm, ⟨27, _⟩ => ⟨S2x1024x1024, .f32⟩
  | .hbm, ⟨28, _⟩ => ⟨S2x1024x1024, .f32⟩
  | .hbm, ⟨29, _⟩ => ⟨S2x1024x1024, .f32⟩
  | .hbm, ⟨30, _⟩ => ⟨S_, .f32⟩
  | .hbm, ⟨31, _⟩ => ⟨S2x1024x1024, .f32⟩
  | .hbm, ⟨32, _⟩ => ⟨S2x1024x1024, .f32⟩
  | .hbm, ⟨33, _⟩ => ⟨S2x1024x1024, .f32⟩
  | .hbm, ⟨34, _⟩ => ⟨S_, .f32⟩
  | .hbm, ⟨35, _⟩ => ⟨S2x1024x1024, .f32⟩
  | .hbm, ⟨36, _⟩ => ⟨S2x1024x1024, .f32⟩
  | _, _ => ⟨S2x1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamSmall.lean ====
abbrev S1x264x1024 : Shape := ⟨3, ![1, 264, 1024]⟩
abbrev S1x88x1024 : Shape := ⟨3, ![1, 88, 1024]⟩
abbrev S88x1024 : Shape := ⟨2, ![88, 1024]⟩

abbrev nBuf : Space → Nat
  | .hbm => 7
  | .vmem => 14
  | .smem => 0
  | _ => 0

abbrev bufTy : (tb : Table) → Fin (tcTables nBuf tb) → BufTy
  | .hbm, ⟨0, _⟩ => ⟨S1x264x1024, .f32⟩
  | .hbm, ⟨1, _⟩ => ⟨S1x264x1024, .f32⟩
  | .hbm, ⟨2, _⟩ => ⟨S1x264x1024, .f32⟩
  | .hbm, ⟨3, _⟩ => ⟨S1x264x1024, .f32⟩
  | .hbm, ⟨4, _⟩ => ⟨S1x264x1024, .f32⟩
  | .hbm, ⟨5, _⟩ => ⟨S1x264x1024, .f32⟩
  | .hbm, ⟨6, _⟩ => ⟨S1x264x1024, .f32⟩
  | .local _ .vmem, ⟨0, _⟩ => ⟨S1x88x1024, .f32⟩
  | .local _ .vmem, ⟨1, _⟩ => ⟨S1x88x1024, .f32⟩
  | .local _ .vmem, ⟨2, _⟩ => ⟨S1x88x1024, .f32⟩
  | .local _ .vmem, ⟨3, _⟩ => ⟨S1x88x1024, .f32⟩
  | .local _ .vmem, ⟨4, _⟩ => ⟨S1x88x1024, .f32⟩
  | .local _ .vmem, ⟨5, _⟩ => ⟨S1x88x1024, .f32⟩
  | .local _ .vmem, ⟨6, _⟩ => ⟨S1x88x1024, .f32⟩
  | .local _ .vmem, ⟨7, _⟩ => ⟨S1x88x1024, .f32⟩
  | .local _ .vmem, ⟨8, _⟩ => ⟨S1x88x1024, .f32⟩
  | .local _ .vmem, ⟨9, _⟩ => ⟨S1x88x1024, .f32⟩
  | .local _ .vmem, ⟨10, _⟩ => ⟨S1x88x1024, .f32⟩
  | .local _ .vmem, ⟨11, _⟩ => ⟨S1x88x1024, .f32⟩
  | .local _ .vmem, ⟨12, _⟩ => ⟨S1x88x1024, .f32⟩
  | .local _ .vmem, ⟨13, _⟩ => ⟨S1x88x1024, .f32⟩
  | _, _ => ⟨S1x264x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![1, 3], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x88x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x88x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x88x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x88x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x88x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x88x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x88x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== AdamSmallReferenceIdeal.lean ====
abbrev S1x264x1024 : Shape := ⟨3, ![1, 264, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1x264x1024, .f32⟩
  | .hbm, ⟨1, _⟩ => ⟨S1x264x1024, .f32⟩
  | .hbm, ⟨2, _⟩ => ⟨S1x264x1024, .f32⟩
  | .hbm, ⟨3, _⟩ => ⟨S1x264x1024, .f32⟩
  | .hbm, ⟨4, _⟩ => ⟨S_, .f32⟩
  | .hbm, ⟨5, _⟩ => ⟨S1x264x1024, .f32⟩
  | .hbm, ⟨6, _⟩ => ⟨S1x264x1024, .f32⟩
  | .hbm, ⟨7, _⟩ => ⟨S_, .f32⟩
  | .hbm, ⟨8, _⟩ => ⟨S1x264x1024, .f32⟩
  | .hbm, ⟨9, _⟩ => ⟨S1x264x1024, .f32⟩
  | .hbm, ⟨10, _⟩ => ⟨S1x264x1024, .f32⟩
  | .hbm, ⟨11, _⟩ => ⟨S_, .f32⟩
  | .hbm, ⟨12, _⟩ => ⟨S1x264x1024, .f32⟩
  | .hbm, ⟨13, _⟩ => ⟨S1x264x1024, .f32⟩
  | .hbm, ⟨14, _⟩ => ⟨S1x264x1024, .f32⟩
  | .hbm, ⟨15, _⟩ => ⟨S_, .f32⟩
  | .hbm, ⟨16, _⟩ => ⟨S1x264x1024, .f32⟩
  | .hbm, ⟨17, _⟩ => ⟨S1x264x1024, .f32⟩
  | .hbm, ⟨18, _⟩ => ⟨S1x264x1024, .f32⟩
  | .hbm, ⟨19, _⟩ => ⟨S_, .f32⟩
  | .hbm, ⟨20, _⟩ => ⟨S1x264x1024, .f32⟩
  | .hbm, ⟨21, _⟩ => ⟨S1x264x1024, .f32⟩
  | .hbm, ⟨22, _⟩ => ⟨S_, .f32⟩
  | .hbm, ⟨23, _⟩ => ⟨S1x264x1024, .f32⟩
  | .hbm, ⟨24, _⟩ => ⟨S1x264x1024, .f32⟩
  | .hbm, ⟨25, _⟩ => ⟨S1x264x1024, .f32⟩
  | .hbm, ⟨26, _⟩ => ⟨S_, .f32⟩
  | .hbm, ⟨27, _⟩ => ⟨S1x264x1024, .f32⟩
  | .hbm, ⟨28, _⟩ => ⟨S1x264x1024, .f32⟩
  | .hbm, ⟨29, _⟩ => ⟨S1x264x1024, .f32⟩
  | .hbm, ⟨30, _⟩ => ⟨S_, .f32⟩
  | .hbm, ⟨31, _⟩ => ⟨S1x264x1024, .f32⟩
  | .hbm, ⟨32, _⟩ => ⟨S1x264x1024, .f32⟩
  | .hbm, ⟨33, _⟩ => ⟨S1x264x1024, .f32⟩
  | .hbm, ⟨34, _⟩ => ⟨S_, .f32⟩
  | .hbm, ⟨35, _⟩ => ⟨S1x264x1024, .f32⟩
  | .hbm, ⟨36, _⟩ => ⟨S1x264x1024, .f32⟩
  | _, _ => ⟨S1x264x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamConv.lean ====
abbrev S1x24x1024 : Shape := ⟨3, ![1, 24, 1024]⟩
abbrev S24x1024 : Shape := ⟨2, ![24, 1024]⟩

abbrev nBuf : Space → Nat
  | .hbm => 7
  | .vmem => 7
  | .smem => 0
  | _ => 0

abbrev bufTy : (tb : Table) → Fin (tcTables nBuf tb) → BufTy
  | .hbm, ⟨0, _⟩ => ⟨S1x24x1024, .f32⟩
  | .hbm, ⟨1, _⟩ => ⟨S1x24x1024, .f32⟩
  | .hbm, ⟨2, _⟩ => ⟨S1x24x1024, .f32⟩
  | .hbm, ⟨3, _⟩ => ⟨S1x24x1024, .f32⟩
  | .hbm, ⟨4, _⟩ => ⟨S1x24x1024, .f32⟩
  | .hbm, ⟨5, _⟩ => ⟨S1x24x1024, .f32⟩
  | .hbm, ⟨6, _⟩ => ⟨S1x24x1024, .f32⟩
  | .local _ .vmem, ⟨0, _⟩ => ⟨S1x24x1024, .f32⟩
  | .local _ .vmem, ⟨1, _⟩ => ⟨S1x24x1024, .f32⟩
  | .local _ .vmem, ⟨2, _⟩ => ⟨S1x24x1024, .f32⟩
  | .local _ .vmem, ⟨3, _⟩ => ⟨S1x24x1024, .f32⟩
  | .local _ .vmem, ⟨4, _⟩ => ⟨S1x24x1024, .f32⟩
  | .local _ .vmem, ⟨5, _⟩ => ⟨S1x24x1024, .f32⟩
  | .local _ .vmem, ⟨6, _⟩ => ⟨S1x24x1024, .f32⟩
  | _, _ => ⟨S1x24x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨2, ![1, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 1 → Memref sig .tc .vmem S1x24x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true]

abbrev stage0_1 : Fin 1 → Memref sig .tc .vmem S1x24x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true]

abbrev stage0_2 : Fin 1 → Memref sig .tc .vmem S1x24x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]

abbrev stage0_3 : Fin 1 → Memref sig .tc .vmem S1x24x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true]

abbrev stage0_4 : Fin 1 → Memref sig .tc .vmem S1x24x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, true]

abbrev stage0_5 : Fin 1 → Memref sig .tc .vmem S1x24x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, true]

abbrev stage0_6 : Fin 1 → Memref sig .tc .vmem S1x24x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, true]
-- ==== AdamConvReferenceIdeal.lean ====
abbrev S1x24x1024 : Shape := ⟨3, ![1, 24, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1x24x1024, .f32⟩
  | .hbm, ⟨1, _⟩ => ⟨S1x24x1024, .f32⟩
  | .hbm, ⟨2, _⟩ => ⟨S1x24x1024, .f32⟩
  | .hbm, ⟨3, _⟩ => ⟨S1x24x1024, .f32⟩
  | .hbm, ⟨4, _⟩ => ⟨S_, .f32⟩
  | .hbm, ⟨5, _⟩ => ⟨S1x24x1024, .f32⟩
  | .hbm, ⟨6, _⟩ => ⟨S1x24x1024, .f32⟩
  | .hbm, ⟨7, _⟩ => ⟨S_, .f32⟩
  | .hbm, ⟨8, _⟩ => ⟨S1x24x1024, .f32⟩
  | .hbm, ⟨9, _⟩ => ⟨S1x24x1024, .f32⟩
  | .hbm, ⟨10, _⟩ => ⟨S1x24x1024, .f32⟩
  | .hbm, ⟨11, _⟩ => ⟨S_, .f32⟩
  | .hbm, ⟨12, _⟩ => ⟨S1x24x1024, .f32⟩
  | .hbm, ⟨13, _⟩ => ⟨S1x24x1024, .f32⟩
  | .hbm, ⟨14, _⟩ => ⟨S1x24x1024, .f32⟩
  | .hbm, ⟨15, _⟩ => ⟨S_, .f32⟩
  | .hbm, ⟨16, _⟩ => ⟨S1x24x1024, .f32⟩
  | .hbm, ⟨17, _⟩ => ⟨S1x24x1024, .f32⟩
  | .hbm, ⟨18, _⟩ => ⟨S1x24x1024, .f32⟩
  | .hbm, ⟨19, _⟩ => ⟨S_, .f32⟩
  | .hbm, ⟨20, _⟩ => ⟨S1x24x1024, .f32⟩
  | .hbm, ⟨21, _⟩ => ⟨S1x24x1024, .f32⟩
  | .hbm, ⟨22, _⟩ => ⟨S_, .f32⟩
  | .hbm, ⟨23, _⟩ => ⟨S1x24x1024, .f32⟩
  | .hbm, ⟨24, _⟩ => ⟨S1x24x1024, .f32⟩
  | .hbm, ⟨25, _⟩ => ⟨S1x24x1024, .f32⟩
  | .hbm, ⟨26, _⟩ => ⟨S_, .f32⟩
  | .hbm, ⟨27, _⟩ => ⟨S1x24x1024, .f32⟩
  | .hbm, ⟨28, _⟩ => ⟨S1x24x1024, .f32⟩
  | .hbm, ⟨29, _⟩ => ⟨S1x24x1024, .f32⟩
  | .hbm, ⟨30, _⟩ => ⟨S_, .f32⟩
  | .hbm, ⟨31, _⟩ => ⟨S1x24x1024, .f32⟩
  | .hbm, ⟨32, _⟩ => ⟨S1x24x1024, .f32⟩
  | .hbm, ⟨33, _⟩ => ⟨S1x24x1024, .f32⟩
  | .hbm, ⟨34, _⟩ => ⟨S_, .f32⟩
  | .hbm, ⟨35, _⟩ => ⟨S1x24x1024, .f32⟩
  | .hbm, ⟨36, _⟩ => ⟨S1x24x1024, .f32⟩
  | _, _ => ⟨S1x24x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Norm1X.lean ====
abbrev S8192x1024 : Shape := ⟨2, ![8192, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩
abbrev S1024 : Shape := ⟨1, ![1024]⟩

abbrev nBuf : Space → Nat
  | .hbm => 10
  | .vmem => 14
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1x1024, .f32⟩
  | .hbm, ⟨3, _⟩ => ⟨S1x1024, .f32⟩
  | .hbm, ⟨4, _⟩ => ⟨S8192x1024, .f32⟩
  | .hbm, ⟨5, _⟩ => ⟨S8192x1024, .f32⟩
  | .hbm, ⟨6, _⟩ => ⟨S8192x1024, .f32⟩
  | .hbm, ⟨7, _⟩ => ⟨S1x1024, .f32⟩
  | .hbm, ⟨8, _⟩ => ⟨S1x1024, .f32⟩
  | .hbm, ⟨9, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1x1024, .f32⟩
  | .local _ .vmem, ⟨4, _⟩ => ⟨S1x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S1x1024, .f32⟩
  | .local _ .vmem, ⟨12, _⟩ => ⟨S1x1024, .f32⟩
  | .local _ .vmem, ⟨13, _⟩ => ⟨S1x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev main_v0_3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem8_0 : DmaSem sig := 12
abbrev cc0_sem9_0 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_5 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_6 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== Norm1XReferenceIdeal.lean ====
abbrev S8192x1024 : Shape := ⟨2, ![8192, 1024]⟩
abbrev S1x1024 : Shape := ⟨2, ![1, 1024]⟩
abbrev S_ : Shape := ⟨0, ![]⟩
abbrev S8192 : Shape := ⟨1, ![8192]⟩
abbrev S8192x1 : Shape := ⟨2, ![8192, 1]⟩
abbrev S1024 : Shape := ⟨1, ![1024]⟩

abbrev nBuf : Space → Nat
  | .hbm => 66
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1x1024, .f32⟩
  | .hbm, ⟨3, _⟩ => ⟨S1x1024, .f32⟩
  | .hbm, ⟨4, _⟩ => ⟨S8192x1024, .f32⟩
  | .hbm, ⟨5, _⟩ => ⟨S8192x1024, .f32⟩
  | .hbm, ⟨6, _⟩ => ⟨S8192x1024, .f32⟩
  | .hbm, ⟨7, _⟩ => ⟨S_, .f32⟩
  | .hbm, ⟨8, _⟩ => ⟨S8192, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S8192x1, .f32⟩
  | .hbm, ⟨18, _⟩ => ⟨S_, .f32⟩
  | .hbm, ⟨19, _⟩ => ⟨S8192x1, .f32⟩
  | .hbm, ⟨20, _⟩ => ⟨S8192x1, .f32⟩
  | .hbm, ⟨21, _⟩ => ⟨S8192x1024, .f32⟩
  | .hbm, ⟨22, _⟩ => ⟨S8192x1024, .f32⟩
  | .hbm, ⟨23, _⟩ => ⟨S8192x1024, .f32⟩
  | .hbm, ⟨24, _⟩ => ⟨S8192x1024, .f32⟩
  | .hbm, ⟨25, _⟩ => ⟨S_, .f32⟩
  | .hbm, ⟨26, _⟩ => ⟨S1x1024, .f32⟩
  | .hbm, ⟨27, _⟩ => ⟨S1x1024, .f32⟩
  | .hbm, ⟨28, _⟩ => ⟨S8192x1024, .f32⟩
  | .hbm, ⟨29, _⟩ => ⟨S8192x1024, .f32⟩
  | .hbm, ⟨30, _⟩ => ⟨S8192x1024, .f32⟩
  | .hbm, ⟨31, _⟩ => ⟨S8192x1024, .f32⟩
  | .hbm, ⟨32, _⟩ => ⟨S8192x1024, .f32⟩
  | .hbm, ⟨33, _⟩ => ⟨S_, .f32⟩
  | .hbm, ⟨34, _⟩ => ⟨S1024, .f32⟩
  | .hbm, ⟨35, _⟩ => ⟨S1x1024, .f32⟩
  | .hbm, ⟨36, _⟩ => ⟨S8192x1024, .f32⟩
  | .hbm, ⟨37, _⟩ => ⟨S_, .f32⟩
  | .hbm, ⟨38, _⟩ => ⟨S1024, .f32⟩
  | .hbm, ⟨39, _⟩ => ⟨S1x1024, .f32⟩
  | .hbm, ⟨40, _⟩ => ⟨S8192x1024, .f32⟩
  | .hbm, ⟨41, _⟩ => ⟨S8192x1024, .f32⟩
  | .hbm, ⟨42, _⟩ => ⟨S8192x1024, .f32⟩
  | .hbm, ⟨43, _⟩ => ⟨S_, .f32⟩
  | .hbm, ⟨44, _⟩ => ⟨S1024, .f32⟩
  | .hbm, ⟨45, _⟩ => ⟨S1x1024, .f32⟩
  | .hbm, ⟨46, _⟩ => ⟨S8192x1024, .f32⟩
  | .hbm, ⟨47, _⟩ => ⟨S8192x1024, .f32⟩
  | .hbm, ⟨48, _⟩ => ⟨S8192x1024, .f32⟩
  | .hbm, ⟨49, _⟩ => ⟨S_, .f32⟩
  | .hbm, ⟨50, _⟩ => ⟨S8192, .f32⟩
  | .hbm, ⟨51, _⟩ => ⟨S8192x1, .f32⟩
  | .hbm, ⟨52, _⟩ => ⟨S8192x1024, .f32⟩
  | .hbm, ⟨53, _⟩ => ⟨S8192x1024, .f32⟩
  | .hbm, ⟨54, _⟩ => ⟨S8192x1024, .f32⟩
  | .hbm, ⟨55, _⟩ => ⟨S8192x1, .f32⟩
  | .hbm, ⟨56, _⟩ => ⟨S_, .f32⟩
  | .hbm, ⟨57, _⟩ => ⟨S8192x1, .f32⟩
  | .hbm, ⟨58, _⟩ => ⟨S8192x1, .f32⟩
  | .hbm, ⟨59, _⟩ => ⟨S_, .f32⟩
  | .hbm, ⟨60, _⟩ => ⟨S8192, .f32⟩
  | .hbm, ⟨61, _⟩ => ⟨S8192x1024, .f32⟩
  | .hbm, ⟨62, _⟩ => ⟨S8192x1024, .f32⟩
  | .hbm, ⟨63, _⟩ => ⟨S8192x1024, .f32⟩
  | .hbm, ⟨64, _⟩ => ⟨S8192x1024, .f32⟩
  | .hbm, ⟨65, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_2 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_3 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_cst_4 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_cst_5 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_cst_6 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_cst_7 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_cst_8 : Ref sig .tc := ⟨.hbm, 56, rfl⟩
abbrev main_v41 : Ref sig .tc := ⟨.hbm, 57, rfl⟩
abbrev main_v42 : Ref sig .tc := ⟨.hbm, 58, rfl⟩
abbrev main_cst_9 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩

abbrev nD : Nat := 1
abbrev τ : Topo := Topo.v7x

variable {F : FTy → Type} [FloatOps F]
-- ==== Norm2X.lean ====
abbrev S8192x1024 : Shape := ⟨2, ![8192, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩
abbrev S1024 : Shape := ⟨1, ![1024]⟩

abbrev nBuf : Space → Nat
  | .hbm => 14
  | .vmem => 20
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1x1024, .f32⟩
  | .hbm, ⟨3, _⟩ => ⟨S1x1024, .f32⟩
  | .hbm, ⟨4, _⟩ => ⟨S1x1024, .f32⟩
  | .hbm, ⟨5, _⟩ => ⟨S1x1024, .f32⟩
  | .hbm, ⟨6, _⟩ => ⟨S8192x1024, .f32⟩
  | .hbm, ⟨7, _⟩ => ⟨S8192x1024, .f32⟩
  | .hbm, ⟨8, _⟩ => ⟨S8192x1024, .f32⟩
  | .hbm, ⟨9, _⟩ => ⟨S8192x1024, .bf16⟩
  | .hbm, ⟨10, _⟩ => ⟨S1x1024, .f32⟩
  | .hbm, ⟨11, _⟩ => ⟨S1x1024, .f32⟩
  | .hbm, ⟨12, _⟩ => ⟨S1x1024, .f32⟩
  | .hbm, ⟨13, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1x1024, .f32⟩
  | .local _ .vmem, ⟨5, _⟩ => ⟨S1x1024, .f32⟩
  | .local _ .vmem, ⟨6, _⟩ => ⟨S1x1024, .f32⟩
  | .local _ .vmem, ⟨7, _⟩ => ⟨S1x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .f32⟩
  | .local _ .vmem, ⟨13, _⟩ => ⟨S512x1024, .f32⟩
  | .local _ .vmem, ⟨14, _⟩ => ⟨S512x1024, .bf16⟩
  | .local _ .vmem, ⟨15, _⟩ => ⟨S512x1024, .bf16⟩
  | .local _ .vmem, ⟨16, _⟩ => ⟨S1x1024, .f32⟩
  | .local _ .vmem, ⟨17, _⟩ => ⟨S1x1024, .f32⟩
  | .local _ .vmem, ⟨18, _⟩ => ⟨S1x1024, .f32⟩
  | .local _ .vmem, ⟨19, _⟩ => ⟨S1x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev main_v0_2 : Ref sig .tc := ⟨.hbm, 10, rfl⟩
abbrev main_v0_3 : Ref sig .tc := ⟨.hbm, 11, rfl⟩
abbrev main_v0_4 : Ref sig .tc := ⟨.hbm, 12, rfl⟩
abbrev main_v0_5 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg12_0 : Ref sig .tc := ⟨.vmem, 18, rfl⟩
abbrev cc0_stg13_0 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem11_0 : DmaSem sig := 17
abbrev cc0_sem12_0 : DmaSem sig := 18
abbrev cc0_sem13_0 : DmaSem sig := 19

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_7 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_8 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_9 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]
-- ==== Norm2XReferenceIdeal.lean ====
abbrev S8192x1024 : Shape := ⟨2, ![8192, 1024]⟩
abbrev S1x1024 : Shape := ⟨2, ![1, 1024]⟩
abbrev S_ : Shape := ⟨0, ![]⟩
abbrev S8192 : Shape := ⟨1, ![8192]⟩
abbrev S8192x1 : Shape := ⟨2, ![8192, 1]⟩
abbrev S1024 : Shape := ⟨1, ![1024]⟩

abbrev nBuf : Space → Nat
  | .hbm => 79
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1x1024, .f32⟩
  | .hbm, ⟨3, _⟩ => ⟨S1x1024, .f32⟩
  | .hbm, ⟨4, _⟩ => ⟨S1x1024, .f32⟩
  | .hbm, ⟨5, _⟩ => ⟨S1x1024, .f32⟩
  | .hbm, ⟨6, _⟩ => ⟨S8192x1024, .f32⟩
  | .hbm, ⟨7, _⟩ => ⟨S8192x1024, .f32⟩
  | .hbm, ⟨8, _⟩ => ⟨S8192x1024, .f32⟩
  | .hbm, ⟨9, _⟩ => ⟨S8192x1024, .f32⟩
  | .hbm, ⟨10, _⟩ => ⟨S8192x1024, .f32⟩
  | .hbm, ⟨11, _⟩ => ⟨S8192x1024, .f32⟩
  | .hbm, ⟨12, _⟩ => ⟨S_, .f32⟩
  | .hbm, ⟨13, _⟩ => ⟨S8192, .f32⟩
  | .hbm, ⟨14, _⟩ => ⟨S8192x1, .f32⟩
  | .hbm, ⟨15, _⟩ => ⟨S_, .f32⟩
  | .hbm, ⟨16, _⟩ => ⟨S8192x1, .f32⟩
  | .hbm, ⟨17, _⟩ => ⟨S8192x1, .f32⟩
  | .hbm, ⟨18, _⟩ => ⟨S_, .f32⟩
  | .hbm, ⟨19, _⟩ => ⟨S8192x1, .f32⟩
  | .hbm, ⟨20, _⟩ => ⟨S8192x1, .f32⟩
  | .hbm, ⟨21, _⟩ => ⟨S8192x1, .f32⟩
  | .hbm, ⟨22, _⟩ => ⟨S8192x1, .f32⟩
  | .hbm, ⟨23, _⟩ => ⟨S_, .f32⟩
  | .hbm, ⟨24, _⟩ => ⟨S8192x1, .f32⟩
  | .hbm, ⟨25, _⟩ => ⟨S8192x1, .f32⟩
  | .hbm, ⟨26, _⟩ => ⟨S8192x1024, .f32⟩
  | .hbm, ⟨27, _⟩ => ⟨S8192x1024, .f32⟩
  | .hbm, ⟨28, _⟩ => ⟨S8192x1024, .f32⟩
  | .hbm, ⟨29, _⟩ => ⟨S8192x1024, .f32⟩
  | .hbm, ⟨30, _⟩ => ⟨S_, .f32⟩
  | .hbm, ⟨31, _⟩ => ⟨S1x1024, .f32⟩
  | .hbm, ⟨32, _⟩ => ⟨S1x1024, .f32⟩
  | .hbm, ⟨33, _⟩ => ⟨S8192x1024, .f32⟩
  | .hbm, ⟨34, _⟩ => ⟨S8192x1024, .f32⟩
  | .hbm, ⟨35, _⟩ => ⟨S8192x1024, .f32⟩
  | .hbm, ⟨36, _⟩ => ⟨S8192x1024, .f32⟩
  | .hbm, ⟨37, _⟩ => ⟨S8192x1024, .f32⟩
  | .hbm, ⟨38, _⟩ => ⟨S_, .f32⟩
  | .hbm, ⟨39, _⟩ => ⟨S1024, .f32⟩
  | .hbm, ⟨40, _⟩ => ⟨S1x1024, .f32⟩
  | .hbm, ⟨41, _⟩ => ⟨S8192x1024, .f32⟩
  | .hbm, ⟨42, _⟩ => ⟨S_, .f32⟩
  | .hbm, ⟨43, _⟩ => ⟨S1024, .f32⟩
  | .hbm, ⟨44, _⟩ => ⟨S1x1024, .f32⟩
  | .hbm, ⟨45, _⟩ => ⟨S8192x1024, .f32⟩
  | .hbm, ⟨46, _⟩ => ⟨S8192x1024, .f32⟩
  | .hbm, ⟨47, _⟩ => ⟨S8192x1024, .f32⟩
  | .hbm, ⟨48, _⟩ => ⟨S_, .f32⟩
  | .hbm, ⟨49, _⟩ => ⟨S1024, .f32⟩
  | .hbm, ⟨50, _⟩ => ⟨S1x1024, .f32⟩
  | .hbm, ⟨51, _⟩ => ⟨S8192x1024, .f32⟩
  | .hbm, ⟨52, _⟩ => ⟨S8192x1024, .f32⟩
  | .hbm, ⟨53, _⟩ => ⟨S8192x1024, .f32⟩
  | .hbm, ⟨54, _⟩ => ⟨S_, .f32⟩
  | .hbm, ⟨55, _⟩ => ⟨S8192, .f32⟩
  | .hbm, ⟨56, _⟩ => ⟨S8192x1, .f32⟩
  | .hbm, ⟨57, _⟩ => ⟨S8192x1024, .f32⟩
  | .hbm, ⟨58, _⟩ => ⟨S8192x1024, .f32⟩
  | .hbm, ⟨59, _⟩ => ⟨S8192x1024, .f32⟩
  | .hbm, ⟨60, _⟩ => ⟨S8192x1, .f32⟩
  | .hbm, ⟨61, _⟩ => ⟨S_, .f32⟩
  | .hbm, ⟨62, _⟩ => ⟨S8192x1, .f32⟩
  | .hbm, ⟨63, _⟩ => ⟨S8192x1, .f32⟩
  | .hbm, ⟨64, _⟩ => ⟨S_, .f32⟩
  | .hbm, ⟨65, _⟩ => ⟨S8192, .f32⟩
  | .hbm, ⟨66, _⟩ => ⟨S8192x1024, .f32⟩
  | .hbm, ⟨67, _⟩ => ⟨S8192x1024, .f32⟩
  | .hbm, ⟨68, _⟩ => ⟨S8192x1024, .f32⟩
  | .hbm, ⟨69, _⟩ => ⟨S8192x1024, .f32⟩
  | .hbm, ⟨70, _⟩ => ⟨S8192x1024, .f32⟩
  | .hbm, ⟨71, _⟩ => ⟨S8192x1024, .f32⟩
  | .hbm, ⟨72, _⟩ => ⟨S8192x1024, .f32⟩
  | .hbm, ⟨73, _⟩ => ⟨S8192x1024, .f32⟩
  | .hbm, ⟨74, _⟩ => ⟨S8192x1024, .f32⟩
  | .hbm, ⟨75, _⟩ => ⟨S_, .f32⟩
  | .hbm, ⟨76, _⟩ => ⟨S1024, .f32⟩
  | .hbm, ⟨77, _⟩ => ⟨S1x1024, .f32⟩
  | .hbm, ⟨78, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_v5 : Ref sig .tc := ⟨.hbm, 14, rfl⟩
abbrev main_cst_0 : Ref sig .tc := ⟨.hbm, 15, rfl⟩
abbrev main_v6 : Ref sig .tc := ⟨.hbm, 16, rfl⟩
abbrev main_v7 : Ref sig .tc := ⟨.hbm, 17, rfl⟩
abbrev main_cst_1 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_cst_2 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_cst_3 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_4 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_cst_5 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_cst_6 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_cst_7 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_cst_8 : Ref sig .tc := ⟨.hbm, 61, rfl⟩
abbrev main_v44 : Ref sig .tc := ⟨.hbm, 62, rfl⟩
abbrev main_v45 : Ref sig .tc := ⟨.hbm, 63, rfl⟩
abbrev main_cst_9 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_cst_10 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩

abbrev nD : Nat := 1
abbrev τ : Topo := Topo.v7x

variable {F : FTy → Type} [FloatOps F]
-- ==== ResidX.lean ====
abbrev S8192x1024 : Shape := ⟨2, ![8192, 1024]⟩
abbrev S1x1024 : Shape := ⟨2, ![1, 1024]⟩
abbrev S512x1024 : Shape := ⟨2, ![512, 1024]⟩
abbrev S1024 : Shape := ⟨1, ![1024]⟩

abbrev nBuf : Space → Nat
  | .hbm => 7
  | .vmem => 12
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1x1024, .f32⟩
  | .hbm, ⟨3, _⟩ => ⟨S8192x1024, .f32⟩
  | .hbm, ⟨4, _⟩ => ⟨S8192x1024, .f32⟩
  | .hbm, ⟨5, _⟩ => ⟨S8192x1024, .bf16⟩
  | .hbm, ⟨6, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .bf16⟩
  | .local _ .vmem, ⟨10, _⟩ => ⟨S512x1024, .bf16⟩
  | .local _ .vmem, ⟨11, _⟩ => ⟨S1x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_4 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_5 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== ResidXReferenceIdeal.lean ====
abbrev S8192x1024 : Shape := ⟨2, ![8192, 1024]⟩
abbrev S1x1024 : Shape := ⟨2, ![1, 1024]⟩
abbrev S_ : Shape := ⟨0, ![]⟩
abbrev S1024 : Shape := ⟨1, ![1024]⟩

abbrev nBuf : Space → Nat
  | .hbm => 15
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1x1024, .f32⟩
  | .hbm, ⟨3, _⟩ => ⟨S8192x1024, .f32⟩
  | .hbm, ⟨4, _⟩ => ⟨S8192x1024, .f32⟩
  | .hbm, ⟨5, _⟩ => ⟨S8192x1024, .f32⟩
  | .hbm, ⟨6, _⟩ => ⟨S8192x1024, .f32⟩
  | .hbm, ⟨7, _⟩ => ⟨S8192x1024, .f32⟩
  | .hbm, ⟨8, _⟩ => ⟨S8192x1024, .f32⟩
  | .hbm, ⟨9, _⟩ => ⟨S8192x1024, .f32⟩
  | .hbm, ⟨10, _⟩ => ⟨S8192x1024, .f32⟩
  | .hbm, ⟨11, _⟩ => ⟨S_, .f32⟩
  | .hbm, ⟨12, _⟩ => ⟨S1024, .f32⟩
  | .hbm, ⟨13, _⟩ => ⟨S1x1024, .f32⟩
  | .hbm, ⟨14, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩

abbrev nD : Nat := 1
abbrev τ : Topo := Topo.v7x

variable {F : FTy → Type} [FloatOps F]
-- ==== Norm1.lean ====
abbrev S8192x1024 : Shape := ⟨2, ![8192, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 5
  | .vmem => 7
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1x1024, .f32⟩
  | .hbm, ⟨3, _⟩ => ⟨S1x1024, .f32⟩
  | .hbm, ⟨4, _⟩ => ⟨S8192x1024, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1x1024, .f32⟩
  | .local _ .vmem, ⟨4, _⟩ => ⟨S1x1024, .f32⟩
  | .local _ .vmem, ⟨5, _⟩ => ⟨S512x1024, .bf16⟩
  | .local _ .vmem, ⟨6, _⟩ => ⟨S512x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Norm1ReferenceIdeal.lean ====
abbrev S8192x1024 : Shape := ⟨2, ![8192, 1024]⟩
abbrev S1x1024 : Shape := ⟨2, ![1, 1024]⟩
abbrev S_ : Shape := ⟨0, ![]⟩
abbrev S8192 : Shape := ⟨1, ![8192]⟩
abbrev S8192x1 : Shape := ⟨2, ![8192, 1]⟩

abbrev nBuf : Space → Nat
  | .hbm => 27
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1x1024, .f32⟩
  | .hbm, ⟨3, _⟩ => ⟨S1x1024, .f32⟩
  | .hbm, ⟨4, _⟩ => ⟨S8192x1024, .f32⟩
  | .hbm, ⟨5, _⟩ => ⟨S_, .f32⟩
  | .hbm, ⟨6, _⟩ => ⟨S8192, .f32⟩
  | .hbm, ⟨7, _⟩ => ⟨S8192x1, .f32⟩
  | .hbm, ⟨8, _⟩ => ⟨S_, .f32⟩
  | .hbm, ⟨9, _⟩ => ⟨S8192x1, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S8192x1, .f32⟩
  | .hbm, ⟨15, _⟩ => ⟨S8192x1024, .f32⟩
  | .hbm, ⟨16, _⟩ => ⟨S8192x1024, .f32⟩
  | .hbm, ⟨17, _⟩ => ⟨S8192x1024, .f32⟩
  | .hbm, ⟨18, _⟩ => ⟨S8192x1024, .f32⟩
  | .hbm, ⟨19, _⟩ => ⟨S_, .f32⟩
  | .hbm, ⟨20, _⟩ => ⟨S1x1024, .f32⟩
  | .hbm, ⟨21, _⟩ => ⟨S1x1024, .f32⟩
  | .hbm, ⟨22, _⟩ => ⟨S8192x1024, .f32⟩
  | .hbm, ⟨23, _⟩ => ⟨S8192x1024, .f32⟩
  | .hbm, ⟨24, _⟩ => ⟨S8192x1024, .f32⟩
  | .hbm, ⟨25, _⟩ => ⟨S8192x1024, .f32⟩
  | .hbm, ⟨26, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_2 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩

abbrev nD : Nat := 1
abbrev τ : Topo := Topo.v7x

variable {F : FTy → Type} [FloatOps F]
-- ==== Norm2.lean ====
abbrev S8192x1024 : Shape := ⟨2, ![8192, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 8
  | .vmem => 12
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1x1024, .f32⟩
  | .hbm, ⟨3, _⟩ => ⟨S1x1024, .f32⟩
  | .hbm, ⟨4, _⟩ => ⟨S1x1024, .f32⟩
  | .hbm, ⟨5, _⟩ => ⟨S1x1024, .f32⟩
  | .hbm, ⟨6, _⟩ => ⟨S8192x1024, .bf16⟩
  | .hbm, ⟨7, _⟩ => ⟨S8192x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1x1024, .f32⟩
  | .local _ .vmem, ⟨5, _⟩ => ⟨S1x1024, .f32⟩
  | .local _ .vmem, ⟨6, _⟩ => ⟨S1x1024, .f32⟩
  | .local _ .vmem, ⟨7, _⟩ => ⟨S1x1024, .f32⟩
  | .local _ .vmem, ⟨8, _⟩ => ⟨S512x1024, .bf16⟩
  | .local _ .vmem, ⟨9, _⟩ => ⟨S512x1024, .bf16⟩
  | .local _ .vmem, ⟨10, _⟩ => ⟨S512x1024, .f32⟩
  | .local _ .vmem, ⟨11, _⟩ => ⟨S512x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Norm2ReferenceIdeal.lean ====
abbrev S8192x1024 : Shape := ⟨2, ![8192, 1024]⟩
abbrev S1x1024 : Shape := ⟨2, ![1, 1024]⟩
abbrev S_ : Shape := ⟨0, ![]⟩
abbrev S8192 : Shape := ⟨1, ![8192]⟩
abbrev S8192x1 : Shape := ⟨2, ![8192, 1]⟩

abbrev nBuf : Space → Nat
  | .hbm => 32
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1x1024, .f32⟩
  | .hbm, ⟨3, _⟩ => ⟨S1x1024, .f32⟩
  | .hbm, ⟨4, _⟩ => ⟨S1x1024, .f32⟩
  | .hbm, ⟨5, _⟩ => ⟨S1x1024, .f32⟩
  | .hbm, ⟨6, _⟩ => ⟨S8192x1024, .f32⟩
  | .hbm, ⟨7, _⟩ => ⟨S8192x1024, .f32⟩
  | .hbm, ⟨8, _⟩ => ⟨S8192x1024, .f32⟩
  | .hbm, ⟨9, _⟩ => ⟨S8192x1024, .f32⟩
  | .hbm, ⟨10, _⟩ => ⟨S_, .f32⟩
  | .hbm, ⟨11, _⟩ => ⟨S8192, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S_, .f32⟩
  | .hbm, ⟨17, _⟩ => ⟨S8192x1, .f32⟩
  | .hbm, ⟨18, _⟩ => ⟨S8192x1, .f32⟩
  | .hbm, ⟨19, _⟩ => ⟨S8192x1, .f32⟩
  | .hbm, ⟨20, _⟩ => ⟨S8192x1024, .f32⟩
  | .hbm, ⟨21, _⟩ => ⟨S8192x1024, .f32⟩
  | .hbm, ⟨22, _⟩ => ⟨S8192x1024, .f32⟩
  | .hbm, ⟨23, _⟩ => ⟨S8192x1024, .f32⟩
  | .hbm, ⟨24, _⟩ => ⟨S_, .f32⟩
  | .hbm, ⟨25, _⟩ => ⟨S1x1024, .f32⟩
  | .hbm, ⟨26, _⟩ => ⟨S1x1024, .f32⟩
  | .hbm, ⟨27, _⟩ => ⟨S8192x1024, .f32⟩
  | .hbm, ⟨28, _⟩ => ⟨S8192x1024, .f32⟩
  | .hbm, ⟨29, _⟩ => ⟨S8192x1024, .f32⟩
  | .hbm, ⟨30, _⟩ => ⟨S8192x1024, .f32⟩
  | .hbm, ⟨31, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_2 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩

abbrev nD : Nat := 1
abbrev τ : Topo := Topo.v7x

variable {F : FTy → Type} [FloatOps F]
-- ==== Resid.lean ====
abbrev S8192x1024 : Shape := ⟨2, ![8192, 1024]⟩
abbrev S1x1024 : Shape := ⟨2, ![1, 1024]⟩
abbrev S512x1024 : Shape := ⟨2, ![512, 1024]⟩

abbrev nBuf : Space → Nat
  | .hbm => 4
  | .vmem => 7
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1x1024, .f32⟩
  | .hbm, ⟨3, _⟩ => ⟨S8192x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1x1024, .f32⟩
  | .local _ .vmem, ⟨5, _⟩ => ⟨S512x1024, .f32⟩
  | .local _ .vmem, ⟨6, _⟩ => ⟨S512x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ResidReferenceIdeal.lean ====
abbrev S8192x1024 : Shape := ⟨2, ![8192, 1024]⟩
abbrev S1x1024 : Shape := ⟨2, ![1, 1024]⟩

abbrev nBuf : Space → Nat
  | .hbm => 6
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1x1024, .f32⟩
  | .hbm, ⟨3, _⟩ => ⟨S8192x1024, .f32⟩
  | .hbm, ⟨4, _⟩ => ⟨S8192x1024, .f32⟩
  | .hbm, ⟨5, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== LossHead.lean ====
abbrev S8192x1024 : Shape := ⟨2, ![8192, 1024]⟩
abbrev S1x1024 : Shape := ⟨2, ![1, 1024]⟩
abbrev S8x128 : Shape := ⟨2, ![8, 128]⟩
abbrev S512x1024 : Shape := ⟨2, ![512, 1024]⟩
abbrev S512 : Shape := ⟨1, ![512]⟩
abbrev S512x1 : Shape := ⟨2, ![512, 1]⟩
abbrev S1 : Shape := ⟨1, ![1]⟩
abbrev S1x1 : Shape := ⟨2, ![1, 1]⟩
abbrev S1x1x1 : Shape := ⟨3, ![1, 1, 1]⟩
abbrev S1024 : Shape := ⟨1, ![1024]⟩

abbrev nBuf : Space → Nat
  | .hbm => 6
  | .vmem => 9
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1x1024, .f32⟩
  | .hbm, ⟨3, _⟩ => ⟨S8x128, .f32⟩
  | .hbm, ⟨4, _⟩ => ⟨S8192x1024, .f32⟩
  | .hbm, ⟨5, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1x1024, .f32⟩
  | .local _ .vmem, ⟨5, _⟩ => ⟨S8x128, .f32⟩
  | .local _ .vmem, ⟨6, _⟩ => ⟨S512x1024, .f32⟩
  | .local _ .vmem, ⟨7, _⟩ => ⟨S512x1024, .f32⟩
  | .local _ .vmem, ⟨8, _⟩ => ⟨S1x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S8x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== LossHeadReferenceIdeal.lean ====
abbrev S8192x1024 : Shape := ⟨2, ![8192, 1024]⟩
abbrev S1x1024 : Shape := ⟨2, ![1, 1024]⟩
abbrev S_ : Shape := ⟨0, ![]⟩
abbrev S8192 : Shape := ⟨1, ![8192]⟩
abbrev S8192x1 : Shape := ⟨2, ![8192, 1]⟩
abbrev S8x128 : Shape := ⟨2, ![8, 128]⟩
abbrev S1024 : Shape := ⟨1, ![1024]⟩

abbrev nBuf : Space → Nat
  | .hbm => 69
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1x1024, .f32⟩
  | .hbm, ⟨3, _⟩ => ⟨S8192x1024, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S8192x1, .f32⟩
  | .hbm, ⟨14, _⟩ => ⟨S8192x1, .f32⟩
  | .hbm, ⟨15, _⟩ => ⟨S_, .f32⟩
  | .hbm, ⟨16, _⟩ => ⟨S8192x1, .f32⟩
  | .hbm, ⟨17, _⟩ => ⟨S8192x1, .f32⟩
  | .hbm, ⟨18, _⟩ => ⟨S8192x1024, .f32⟩
  | .hbm, ⟨19, _⟩ => ⟨S8192x1024, .f32⟩
  | .hbm, ⟨20, _⟩ => ⟨S8192x1024, .f32⟩
  | .hbm, ⟨21, _⟩ => ⟨S8192x1024, .f32⟩
  | .hbm, ⟨22, _⟩ => ⟨S8192x1024, .f32⟩
  | .hbm, ⟨23, _⟩ => ⟨S8192x1024, .f32⟩
  | .hbm, ⟨24, _⟩ => ⟨S_, .f32⟩
  | .hbm, ⟨25, _⟩ => ⟨S8192x1024, .f32⟩
  | .hbm, ⟨26, _⟩ => ⟨S8192x1024, .f32⟩
  | .hbm, ⟨27, _⟩ => ⟨S_, .f32⟩
  | .hbm, ⟨28, _⟩ => ⟨S8192, .f32⟩
  | .hbm, ⟨29, _⟩ => ⟨S_, .f32⟩
  | .hbm, ⟨30, _⟩ => ⟨S8192, .f32⟩
  | .hbm, ⟨31, _⟩ => ⟨S8192, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S8x128, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S8192, .f32⟩
  | .hbm, ⟨41, _⟩ => ⟨S_, .f32⟩
  | .hbm, ⟨42, _⟩ => ⟨S8192, .f32⟩
  | .hbm, ⟨43, _⟩ => ⟨S8192, .f32⟩
  | .hbm, ⟨44, _⟩ => ⟨S8192x1024, .f32⟩
  | .hbm, ⟨45, _⟩ => ⟨S8192x1024, .f32⟩
  | .hbm, ⟨46, _⟩ => ⟨S8192x1024, .f32⟩
  | .hbm, ⟨47, _⟩ => ⟨S_, .f32⟩
  | .hbm, ⟨48, _⟩ => ⟨S1024, .f32⟩
  | .hbm, ⟨49, _⟩ => ⟨S1x1024, .f32⟩
  | .hbm, ⟨50, _⟩ => ⟨S8192x1024, .f32⟩
  | .hbm, ⟨51, _⟩ => ⟨S8192x1024, .f32⟩
  | .hbm, ⟨52, _⟩ => ⟨S8192x1024, .f32⟩
  | .hbm, ⟨53, _⟩ => ⟨S_, .f32⟩
  | .hbm, ⟨54, _⟩ => ⟨S8192, .f32⟩
  | .hbm, ⟨55, _⟩ => ⟨S8192x1, .f32⟩
  | .hbm, ⟨56, _⟩ => ⟨S8192x1024, .f32⟩
  | .hbm, ⟨57, _⟩ => ⟨S8192x1024, .f32⟩
  | .hbm, ⟨58, _⟩ => ⟨S8192x1, .f32⟩
  | .hbm, ⟨59, _⟩ => ⟨S_, .f32⟩
  | .hbm, ⟨60, _⟩ => ⟨S8192x1, .f32⟩
  | .hbm, ⟨61, _⟩ => ⟨S8192x1, .f32⟩
  | .hbm, ⟨62, _⟩ => ⟨S_, .f32⟩
  | .hbm, ⟨63, _⟩ => ⟨S8192, .f32⟩
  | .hbm, ⟨64, _⟩ => ⟨S8192x1024, .f32⟩
  | .hbm, ⟨65, _⟩ => ⟨S8192x1024, .f32⟩
  | .hbm, ⟨66, _⟩ => ⟨S8192x1024, .f32⟩
  | .hbm, ⟨67, _⟩ => ⟨S8192x1024, .f32⟩
  | .hbm, ⟨68, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_3 : Ref sig .tc := ⟨.hbm, 24, rfl⟩
abbrev main_v17 : Ref sig .tc := ⟨.hbm, 25, rfl⟩
abbrev main_v18 : Ref sig .tc := ⟨.hbm, 26, rfl⟩
abbrev main_cst_4 : Ref sig .tc := ⟨.hbm, 27, rfl⟩
abbrev main_v19 : Ref sig .tc := ⟨.hbm, 28, rfl⟩
abbrev main_cst_5 : Ref sig .tc := ⟨.hbm, 29, rfl⟩
abbrev main_v20 : Ref sig .tc := ⟨.hbm, 30, rfl⟩
abbrev main_v21 : Ref sig .tc := ⟨.hbm, 31, rfl⟩
abbrev main_cst_6 : Ref sig .tc := ⟨.hbm, 32, rfl⟩
abbrev main_v22 : Ref sig .tc := ⟨.hbm, 33, rfl⟩
abbrev main_cst_7 : Ref sig .tc := ⟨.hbm, 34, rfl⟩
abbrev main_v23 : Ref sig .tc := ⟨.hbm, 35, rfl⟩
abbrev main_v24 : Ref sig .tc := ⟨.hbm, 36, rfl⟩
abbrev main_cst_8 : Ref sig .tc := ⟨.hbm, 37, rfl⟩
abbrev main_cst_9 : Ref sig .tc := ⟨.hbm, 38, rfl⟩
abbrev main_v25 : Ref sig .tc := ⟨.hbm, 39, rfl⟩
abbrev main_v26 : Ref sig .tc := ⟨.hbm, 40, rfl⟩
abbrev main_cst_10 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_cst_11 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_cst_12 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_cst_13 : Ref sig .tc := ⟨.hbm, 59, rfl⟩
abbrev main_v42 : Ref sig .tc := ⟨.hbm, 60, rfl⟩
abbrev main_v43 : Ref sig .tc := ⟨.hbm, 61, rfl⟩
abbrev main_cst_14 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩

abbrev nD : Nat := 1
abbrev τ : Topo := Topo.v7x

variable {F : FTy → Type} [FloatOps F]
-- ==== LruOut.lean ====
abbrev S8192x512 : Shape := ⟨2, ![8192, 512]⟩
abbrev S512x512 : Shape := ⟨2, ![512, 512]⟩

abbrev nBuf : Space → Nat
  | .hbm => 3
  | .vmem => 6
  | .smem => 0
  | _ => 0

abbrev bufTy : (tb : Table) → Fin (tcTables nBuf tb) → BufTy
  | .hbm, ⟨0, _⟩ => ⟨S8192x512, .f32⟩
  | .hbm, ⟨1, _⟩ => ⟨S8192x512, .f32⟩
  | .hbm, ⟨2, _⟩ => ⟨S8192x512, .f32⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== LruOutReferenceIdeal.lean ====
abbrev S8192x512 : Shape := ⟨2, ![8192, 512]⟩
abbrev S_ : Shape := ⟨0, ![]⟩

abbrev nBuf : Space → Nat
  | .hbm => 20
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S8192x512, .f32⟩
  | .hbm, ⟨2, _⟩ => ⟨S8192x512, .f32⟩
  | .hbm, ⟨3, _⟩ => ⟨S8192x512, .f32⟩
  | .hbm, ⟨4, _⟩ => ⟨S_, .f32⟩
  | .hbm, ⟨5, _⟩ => ⟨S8192x512, .f32⟩
  | .hbm, ⟨6, _⟩ => ⟨S8192x512, .f32⟩
  | .hbm, ⟨7, _⟩ => ⟨S8192x512, .f32⟩
  | .hbm, ⟨8, _⟩ => ⟨S_, .f32⟩
  | .hbm, ⟨9, _⟩ => ⟨S8192x512, .f32⟩
  | .hbm, ⟨10, _⟩ => ⟨S8192x512, .f32⟩
  | .hbm, ⟨11, _⟩ => ⟨S8192x512, .f32⟩
  | .hbm, ⟨12, _⟩ => ⟨S_, .f32⟩
  | .hbm, ⟨13, _⟩ => ⟨S8192x512, .f32⟩
  | .hbm, ⟨14, _⟩ => ⟨S8192x512, .f32⟩
  | .hbm, ⟨15, _⟩ => ⟨S_, .f32⟩
  | .hbm, ⟨16, _⟩ => ⟨S8192x512, .f32⟩
  | .hbm, ⟨17, _⟩ => ⟨S8192x512, .f32⟩
  | .hbm, ⟨18, _⟩ => ⟨S8192x512, .f32⟩
  | .hbm, ⟨19, _⟩ => ⟨S8192x512, .f32⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst_1 : Ref sig .tc := ⟨.hbm, 12, rfl⟩
abbrev main_v8 : Ref sig .tc := ⟨.hbm, 13, rfl⟩
abbrev main_v9 : Ref sig .tc := ⟨.hbm, 14, rfl⟩
abbrev main_cst_2 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩

abbrev nD : Nat := 1
abbrev τ : Topo := Topo.v7x

variable {F : FTy → Type} [FloatOps F]
-- ==== Silu.lean ====
abbrev S8x1024 : Shape := ⟨2, ![8, 1024]⟩

abbrev nBuf : Space → Nat
  | .hbm => 2
  | .vmem => 2
  | .smem => 0
  | _ => 0

abbrev bufTy : (tb : Table) → Fin (tcTables nBuf tb) → BufTy
  | .hbm, ⟨0, _⟩ => ⟨S8x1024, .f32⟩
  | .hbm, ⟨1, _⟩ => ⟨S8x1024, .f32⟩
  | .local _ .vmem, ⟨0, _⟩ => ⟨S8x1024, .f32⟩
  | .local _ .vmem, ⟨1, _⟩ => ⟨S8x1024, .f32⟩
  | _, _ => ⟨S8x1024, .f32⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S8x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]
-- ==== SiluReferenceIdeal.lean ====
abbrev S8x1024 : Shape := ⟨2, ![8, 1024]⟩
abbrev S_ : Shape := ⟨0, ![]⟩

abbrev nBuf : Space → Nat
  | .hbm => 10
  | .vmem => 0
  | .smem => 0
  | _ => 0

abbrev bufTy : (tb : Table) → Fin (tcTables nBuf tb) → BufTy
  | .hbm, ⟨0, _⟩ => ⟨S8x1024, .f32⟩
  | .hbm, ⟨1, _⟩ => ⟨S8x1024, .f32⟩
  | .hbm, ⟨2, _⟩ => ⟨S8x1024, .f32⟩
  | .hbm, ⟨3, _⟩ => ⟨S_, .f32⟩
  | .hbm, ⟨4, _⟩ => ⟨S8x1024, .f32⟩
  | .hbm, ⟨5, _⟩ => ⟨S8x1024, .f32⟩
  | .hbm, ⟨6, _⟩ => ⟨S_, .f32⟩
  | .hbm, ⟨7, _⟩ => ⟨S8x1024, .f32⟩
  | .hbm, ⟨8, _⟩ => ⟨S8x1024, .f32⟩
  | .hbm, ⟨9, _⟩ => ⟨S8x1024, .f32⟩
  | _, _ => ⟨S8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_call0_v0 : Ref sig .tc := ⟨.hbm, 1, rfl⟩
abbrev main_call0_v1 : Ref sig .tc := ⟨.hbm, 2, rfl⟩
abbrev main_call0_cst : Ref sig .tc := ⟨.hbm, 3, rfl⟩
abbrev main_call0_v2 : Ref sig .tc := ⟨.hbm, 4, rfl⟩
abbrev main_call0_v3 : Ref sig .tc := ⟨.hbm, 5, rfl⟩
abbrev main_call0_cst_0 : Ref sig .tc := ⟨.hbm, 6, rfl⟩
abbrev main_call0_v4 : Ref sig .tc := ⟨.hbm, 7, rfl⟩
abbrev main_call0_v5 : Ref sig .tc := ⟨.hbm, 8, rfl⟩
abbrev main_v0 : Ref sig .tc := ⟨.hbm, 9, rfl⟩

abbrev nD : Nat := 1
abbrev τ : Topo := Topo.v7x

variable {F : FTy → Type} [FloatOps F]
-- ==== AddSmall.lean ====
abbrev S8x312x1024 : Shape := ⟨3, ![8, 312, 1024]⟩
abbrev S312x1024 : Shape := ⟨2, ![312, 1024]⟩
abbrev S1x312x1024 : Shape := ⟨3, ![1, 312, 1024]⟩

abbrev nBuf : Space → Nat
  | .hbm => 2
  | .vmem => 2
  | .smem => 0
  | _ => 0

abbrev bufTy : (tb : Table) → Fin (tcTables nBuf tb) → BufTy
  | .hbm, ⟨0, _⟩ => ⟨S8x312x1024, .f32⟩
  | .hbm, ⟨1, _⟩ => ⟨S312x1024, .f32⟩
  | .local _ .vmem, ⟨0, _⟩ => ⟨S8x312x1024, .f32⟩
  | .local _ .vmem, ⟨1, _⟩ => ⟨S312x1024, .f32⟩
  | _, _ => ⟨S8x312x1024, .f32⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := .none

abbrev stage0_0 : Fin 1 → Memref sig .tc .vmem S8x312x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S312x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== AddSmallReferenceIdeal.lean ====
abbrev S8x312x1024 : Shape := ⟨3, ![8, 312, 1024]⟩
abbrev S_ : Shape := ⟨0, ![]⟩
abbrev S312x1024 : Shape := ⟨2, ![312, 1024]⟩

abbrev nBuf : Space → Nat
  | .hbm => 3
  | .vmem => 0
  | .smem => 0
  | _ => 0

abbrev bufTy : (tb : Table) → Fin (tcTables nBuf tb) → BufTy
  | .hbm, ⟨0, _⟩ => ⟨S8x312x1024, .f32⟩
  | .hbm, ⟨1, _⟩ => ⟨S_, .f32⟩
  | .hbm, ⟨2, _⟩ => ⟨S312x1024, .f32⟩
  | _, _ => ⟨S8x312x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Proof.DownX.lean ====
/- Gradient of the MLP's pre-activation: the array the tiled product leaves is the plain product's. -/
module

public import proofs.«01_k».proof.Proof.Gen.DownXIdeal.Value
public import proofs.«01_k».proof.Proof.Gen.DownXReferenceIdeal.Run
public import Idealize.ShloMosaic.Lib.Pipeline.ValueKit

@[expose] public section

set_option maxRecDepth 16384

noncomputable section

namespace Cert.DownXIdeal.Product

open Idealize.ShloMosaic Idealize.ShloMosaic.TcCoe Idealize.ShloMosaic.StableHlo Idealize.SL.Sem
open Cert.DownXIdeal Cert.DownXIdeal.Gen

variable (m : (ℓ : Loc nD τ sig) → Buf (Elt Ideal) ℓ)

/-- The plain gradient: the cotangent against the weight's rows, times twice the positive part where that is on. -/
abbrev plain (X0 : FVec Ideal Cert.DownXReferenceIdeal.S8192x1024 .bf16) (X1 : FVec Ideal Cert.DownXReferenceIdeal.S4096x1024 .bf16) (X2 : FVec Ideal Cert.DownXReferenceIdeal.S8192x4096 .f32) : FVec Ideal Cert.DownXReferenceIdeal.S8192x4096 .bf16 :=
  truncf .bf16 (select (cmpf .ogt X2 (broadcastInDim Cert.DownXReferenceIdeal.S8192x4096 ![] Cert.DownXReferenceIdeal.Gen.bcast_S_S8192x4096 (constant Cert.DownXReferenceIdeal.S_ .f32 0x00000000#32))) (mulf (Host.dotGeneral Cert.DownXReferenceIdeal.dot_S8192x1024_S4096x1024_S8192x4096_1_1_0_0_n_n none (extf .f32 X0 Cert.DownXReferenceIdeal.Gen.bitsLt_bf16_f32) (extf .f32 X1 Cert.DownXReferenceIdeal.Gen.bitsLt_bf16_f32)) (mulf (broadcastInDim Cert.DownXReferenceIdeal.S8192x4096 ![] Cert.DownXReferenceIdeal.Gen.bcast_S_S8192x4096 (constant Cert.DownXReferenceIdeal.S_ .f32 0x40000000#32)) (maximumf X2 (broadcastInDim Cert.DownXReferenceIdeal.S8192x4096 ![] Cert.DownXReferenceIdeal.Gen.bcast_S_S8192x4096 (constant Cert.DownXReferenceIdeal.S_ .f32 0x00000000#32))))) (broadcastInDim Cert.DownXReferenceIdeal.S8192x4096 ![] Cert.DownXReferenceIdeal.Gen.bcast_S_S8192x4096 (constant Cert.DownXReferenceIdeal.S_ .f32 0x00000000#32))) Cert.DownXReferenceIdeal.Gen.bitsLt_bf16_f32

/-- Which block each window holds at grid point `t`. -/
theorem where_at : ∀ t : Fin cfg0.N, win0_0.index t = ![t.val % 8, 0] ∧ win0_1.index t = ![t.val / 8, 0] ∧ win0_2.index t = ![t.val % 8, t.val / 8] ∧ win0_3.index t = ![t.val % 8, t.val / 8] :=
  (by decide +kernel : ∀ t : Fin grid0.N, _)

/-- Where the activation is cut off, the factor `2 max(u, 0)` is zero already, so the cut changes nothing. -/
theorem closed_gate (r two u : EReal) :
    (if 0 < u then r * (two * max u 0) else 0) = r * (two * max u 0) := by
  split
  · rfl
  · next h => rw [max_eq_right (not_lt.1 h), mul_zero, mul_zero]

/-- What grid point `t` stores at `y` is the plain result at `y`'s place in the array. -/
theorem stored (c : Dev nD) (t : Fin cfg0.N) (y) :
    k0_pay1 (iblk m c 0 t) (iblk m c 1 t) (iblk m c 2 t) y = plain (m ((c : Thread nD τ).loc main_arg0)) (m ((c : Thread nD τ).loc main_arg1)) (m ((c : Thread nD τ).loc main_arg2)) (((cfg0.win 3).blk t).view.emb y) := by
  pointwise [k0_pay1, plain]
  refine Eq.trans ?_ (closed_gate _ _ _).symm
  blk_point [iblk, V, where_at t]

/-- After the run the output array holds the plain result. -/
theorem final (c : Dev nD) : (dats m 0 c).arrAt 3 (cfgs 0).N = plain (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  rw [after0_3]
  frame_out
  exact stored m c t y

end Cert.DownXIdeal.Product

end
-- ==== Proof.DownW.lean ====
/- Gradient of the down-projection's weight: the array the tiled product leaves is the plain product's. -/
module

public import proofs.«01_k».proof.Proof.Gen.DownWIdeal.Value
public import proofs.«01_k».proof.Proof.Gen.DownWReferenceIdeal.Run
public import Idealize.ShloMosaic.Lib.Pipeline.ValueKit

@[expose] public section

set_option maxRecDepth 16384

noncomputable section

namespace Cert.DownWIdeal.Product

open Idealize.ShloMosaic Idealize.ShloMosaic.TcCoe Idealize.ShloMosaic.StableHlo Idealize.SL.Sem
open Cert.DownWIdeal Cert.DownWIdeal.Gen

variable (m : (ℓ : Loc nD τ sig) → Buf (Elt Ideal) ℓ)

/-- The plain gradient of the weight: the input's columns against the cotangent's. -/
abbrev plain (X0 : FVec Ideal Cert.DownWReferenceIdeal.S8192x4096 .bf16) (X1 : FVec Ideal Cert.DownWReferenceIdeal.S8192x1024 .bf16) : FVec Ideal Cert.DownWReferenceIdeal.S4096x1024 .f32 :=
  transpose Cert.DownWReferenceIdeal.S4096x1024 [1, 0] (Host.dotGeneral Cert.DownWReferenceIdeal.dot_S8192x1024_S8192x4096_S1024x4096_0_0_1_1_n_n none (extf .f32 X1 Cert.DownWReferenceIdeal.Gen.bitsLt_bf16_f32) (extf .f32 X0 Cert.DownWReferenceIdeal.Gen.bitsLt_bf16_f32)) Cert.DownWReferenceIdeal.Gen.transposes_S1024x4096_S4096x1024_1_0

/-- Which block each window holds at grid point `t`. -/
theorem where_at : ∀ t : Fin cfg0.N, win0_0.index t = ![t.val % 4, t.val / 4] ∧ win0_1.index t = ![t.val % 4, 0] ∧ win0_2.index t = ![t.val / 4, 0] :=
  (by decide +kernel : ∀ t : Fin grid0.N, _)

/-- One slice's product at an index: a sum over the slice. -/
theorem slice_at (x : FVec Ideal S2048x1024 .bf16) (w : FVec Ideal S2048x1024 .bf16) (j : S1024x1024.Idx) :
    (k0_pay1 (F := Ideal) x w j : EReal) = ∑ k : Fin 2048, (x (ix2 k (j 0)) : EReal) * w (ix2 k (j 1)) := by
  pointwise [k0_pay1]

/-- A later slice adds its product to what is there. -/
theorem later_at (x : FVec Ideal S2048x1024 .bf16) (w : FVec Ideal S2048x1024 .bf16) (v : FVec Ideal S1024x1024 .f32) (j : S1024x1024.Idx) :
    k0_pay2 x w v j = v j + k0_pay1 x w j := by
  pointwise [k0_pay2, k0_pay1]

/-- The plain result at an index: a sum over the whole contracted axis. -/
theorem plain_at (X0 : FVec Ideal Cert.DownWReferenceIdeal.S8192x4096 .bf16) (X1 : FVec Ideal Cert.DownWReferenceIdeal.S8192x1024 .bf16) (j : Cert.DownWReferenceIdeal.S4096x1024.Idx) :
    (plain X0 X1 j : EReal) = ∑ l : Fin 8192, (X0 (ix2 l (j 0)) : EReal) * X1 (ix2 l (j 1)) := by
  pointwise [plain]
  exact Finset.sum_congr rfl fun l _ => mul_comm _ _

/-- After the run the output array holds the plain result. -/
theorem final (c : Dev nD) : (dats m 0 c).arrAt 2 (cfgs 0).N = plain (m ((c : Thread nD τ).loc main_arg0)) (m ((c : Thread nD τ).loc main_arg1)) := by
  refine (dats m 0 c).arrAt_eq_of_covers 2 _ (by decide +kernel) fun t hf y => ?_
  blk_simp
  rw [after0_2, Pipeline.eq_sum_fin_of_reset_step_apply_of_flush (fun n h => outsAt0 m c n h) 4 (fun _ => 0)
    (fun p j => ∑ k : Fin 2048, (show FVec Ideal S2048x1024 .bf16 from iblk m c 0 p) (ix2 k (j 0)) * (show FVec Ideal S2048x1024 .bf16 from iblk m c 1 p) (ix2 k (j 1)))
    (fun t h j => by
      rw [outsAt0_A m c t h (by omega)]; frame_out
      exact (slice_at _ _ j).trans (zero_add _).symm)
    (fun t h j => by
      rw [outsAt0_B m c t h (by omega)]; frame_out
      exact (later_at _ _ _ j).trans (congrArg _ (slice_at _ _ j)))
    t ((flush0_2 t).mp hf) _, zero_add, plain_at]
  refine Fin.sum_mul_add_congr fun s k hl => ?_
  blk_point [iblk, V, where_at t, where_at ⟨_, Pipeline.run_point_lt_of_flush t ((flush0_2 t).mp hf) s⟩]

end Cert.DownWIdeal.Product

end
-- ==== Proof.UpX.lean ====
/- Gradient of the up-projection's input: the array the tiled product leaves is the plain product's. -/
module

public import proofs.«01_k».proof.Proof.Gen.UpXIdeal.Value
public import proofs.«01_k».proof.Proof.Gen.UpXReferenceIdeal.Run
public import Idealize.ShloMosaic.Lib.Pipeline.ValueKit

@[expose] public section

set_option maxRecDepth 16384

noncomputable section

namespace Cert.UpXIdeal.Product

open Idealize.ShloMosaic Idealize.ShloMosaic.TcCoe Idealize.ShloMosaic.StableHlo Idealize.SL.Sem
open Cert.UpXIdeal Cert.UpXIdeal.Gen

variable (m : (ℓ : Loc nD τ sig) → Buf (Elt Ideal) ℓ)

/-- The plain gradient of the input: the cotangent against the weight's rows. -/
abbrev plain (X0 : FVec Ideal Cert.UpXReferenceIdeal.S8192x4096 .bf16) (X1 : FVec Ideal Cert.UpXReferenceIdeal.S1024x4096 .bf16) : FVec Ideal Cert.UpXReferenceIdeal.S8192x1024 .f32 :=
  Host.dotGeneral Cert.UpXReferenceIdeal.dot_S8192x4096_S1024x4096_S8192x1024_1_1_0_0_n_n none (extf .f32 X0 Cert.UpXReferenceIdeal.Gen.bitsLt_bf16_f32) (extf .f32 X1 Cert.UpXReferenceIdeal.Gen.bitsLt_bf16_f32)

/-- Which block each window holds at grid point `t`. -/
theorem where_at : ∀ t : Fin cfg0.N, win0_0.index t = ![t.val / 2, t.val % 2] ∧ win0_1.index t = ![0, t.val % 2] ∧ win0_2.index t = ![t.val / 2, 0] :=
  (by decide +kernel : ∀ t : Fin grid0.N, _)

/-- One slice's product at an index: a sum over the slice. -/
theorem slice_at (x : FVec Ideal S1024x2048 .bf16) (w : FVec Ideal S1024x2048 .bf16) (j : S1024x1024.Idx) :
    (k0_pay1 (F := Ideal) x w j : EReal) = ∑ k : Fin 2048, (x (ix2 (j 0) k) : EReal) * w (ix2 (j 1) k) := by
  pointwise [k0_pay1]

/-- A later slice adds its product to what is there. -/
theorem later_at (x : FVec Ideal S1024x2048 .bf16) (w : FVec Ideal S1024x2048 .bf16) (v : FVec Ideal S1024x1024 .f32) (j : S1024x1024.Idx) :
    k0_pay2 x w v j = v j + k0_pay1 x w j := by
  pointwise [k0_pay2, k0_pay1]

/-- The plain result at an index: a sum over the whole contracted axis. -/
theorem plain_at (X0 : FVec Ideal Cert.UpXReferenceIdeal.S8192x4096 .bf16) (X1 : FVec Ideal Cert.UpXReferenceIdeal.S1024x4096 .bf16) (j : Cert.UpXReferenceIdeal.S8192x1024.Idx) :
    (plain X0 X1 j : EReal) = ∑ l : Fin 4096, (X0 (ix2 (j 0) l) : EReal) * X1 (ix2 (j 1) l) := by
  pointwise [plain]

/-- After the run the output array holds the plain result. -/
theorem final (c : Dev nD) : (dats m 0 c).arrAt 2 (cfgs 0).N = plain (m ((c : Thread nD τ).loc main_arg0)) (m ((c : Thread nD τ).loc main_arg1)) := by
  refine (dats m 0 c).arrAt_eq_of_covers 2 _ (by decide +kernel) fun t hf y => ?_
  blk_simp
  rw [after0_2, Pipeline.eq_sum_fin_of_reset_step_apply_of_flush (fun n h => outsAt0 m c n h) 2 (fun _ => 0)
    (fun p j => ∑ k : Fin 2048, (show FVec Ideal S1024x2048 .bf16 from iblk m c 0 p) (ix2 (j 0) k) * (show FVec Ideal S1024x2048 .bf16 from iblk m c 1 p) (ix2 (j 1) k))
    (fun t h j => by
      rw [outsAt0_A m c t h (by omega)]; frame_out
      exact (slice_at _ _ j).trans (zero_add _).symm)
    (fun t h j => by
      rw [outsAt0_B m c t h (by omega)]; frame_out
      exact (later_at _ _ _ j).trans (congrArg _ (slice_at _ _ j)))
    t ((flush0_2 t).mp hf) _, zero_add, plain_at]
  refine Fin.sum_mul_add_congr fun s k hl => ?_
  blk_point [iblk, V, where_at t, where_at ⟨_, Pipeline.run_point_lt_of_flush t ((flush0_2 t).mp hf) s⟩]

end Cert.UpXIdeal.Product

end
-- ==== Proof.UpW.lean ====
/- Gradient of the up-projection's weight: the array the tiled product leaves is the plain product's. -/
module

public import proofs.«01_k».proof.Proof.Gen.UpWIdeal.Value
public import proofs.«01_k».proof.Proof.Gen.UpWReferenceIdeal.Run
public import Idealize.ShloMosaic.Lib.Pipeline.ValueKit

@[expose] public section

set_option maxRecDepth 16384

noncomputable section

namespace Cert.UpWIdeal.Product

open Idealize.ShloMosaic Idealize.ShloMosaic.TcCoe Idealize.ShloMosaic.StableHlo Idealize.SL.Sem
open Cert.UpWIdeal Cert.UpWIdeal.Gen

variable (m : (ℓ : Loc nD τ sig) → Buf (Elt Ideal) ℓ)

/-- The plain gradient of the weight: the input's columns against the cotangent's. -/
abbrev plain (X0 : FVec Ideal Cert.UpWReferenceIdeal.S8192x1024 .bf16) (X1 : FVec Ideal Cert.UpWReferenceIdeal.S8192x4096 .bf16) : FVec Ideal Cert.UpWReferenceIdeal.S1024x4096 .f32 :=
  transpose Cert.UpWReferenceIdeal.S1024x4096 [1, 0] (Host.dotGeneral Cert.UpWReferenceIdeal.dot_S8192x4096_S8192x1024_S4096x1024_0_0_1_1_n_n none (extf .f32 X1 Cert.UpWReferenceIdeal.Gen.bitsLt_bf16_f32) (extf .f32 X0 Cert.UpWReferenceIdeal.Gen.bitsLt_bf16_f32)) Cert.UpWReferenceIdeal.Gen.transposes_S4096x1024_S1024x4096_1_0

/-- Which block each window holds at grid point `t`. -/
theorem where_at : ∀ t : Fin cfg0.N, win0_0.index t = ![t.val % 4, 0] ∧ win0_1.index t = ![t.val % 4, t.val / 4] ∧ win0_2.index t = ![0, t.val / 4] :=
  (by decide +kernel : ∀ t : Fin grid0.N, _)

/-- One slice's product at an index: a sum over the slice. -/
theorem slice_at (x : FVec Ideal S2048x1024 .bf16) (w : FVec Ideal S2048x2048 .bf16) (j : S1024x2048.Idx) :
    (k0_pay1 (F := Ideal) x w j : EReal) = ∑ k : Fin 2048, (x (ix2 k (j 0)) : EReal) * w (ix2 k (j 1)) := by
  pointwise [k0_pay1]

/-- A later slice adds its product to what is there. -/
theorem later_at (x : FVec Ideal S2048x1024 .bf16) (w : FVec Ideal S2048x2048 .bf16) (v : FVec Ideal S1024x2048 .f32) (j : S1024x2048.Idx) :
    k0_pay2 x w v j = v j + k0_pay1 x w j := by
  pointwise [k0_pay2, k0_pay1]

/-- The plain result at an index: a sum over the whole contracted axis. -/
theorem plain_at (X0 : FVec Ideal Cert.UpWReferenceIdeal.S8192x1024 .bf16) (X1 : FVec Ideal Cert.UpWReferenceIdeal.S8192x4096 .bf16) (j : Cert.UpWReferenceIdeal.S1024x4096.Idx) :
    (plain X0 X1 j : EReal) = ∑ l : Fin 8192, (X0 (ix2 l (j 0)) : EReal) * X1 (ix2 l (j 1)) := by
  pointwise [plain]
  exact Finset.sum_congr rfl fun l _ => mul_comm _ _

/-- After the run the output array holds the plain result. -/
theorem final (c : Dev nD) : (dats m 0 c).arrAt 2 (cfgs 0).N = plain (m ((c : Thread nD τ).loc main_arg0)) (m ((c : Thread nD τ).loc main_arg1)) := by
  refine (dats m 0 c).arrAt_eq_of_covers 2 _ (by decide +kernel) fun t hf y => ?_
  blk_simp
  rw [after0_2, Pipeline.eq_sum_fin_of_reset_step_apply_of_flush (fun n h => outsAt0 m c n h) 4 (fun _ => 0)
    (fun p j => ∑ k : Fin 2048, (show FVec Ideal S2048x1024 .bf16 from iblk m c 0 p) (ix2 k (j 0)) * (show FVec Ideal S2048x2048 .bf16 from iblk m c 1 p) (ix2 k (j 1)))
    (fun t h j => by
      rw [outsAt0_A m c t h (by omega)]; frame_out
      exact (slice_at _ _ j).trans (zero_add _).symm)
    (fun t h j => by
      rw [outsAt0_B m c t h (by omega)]; frame_out
      exact (later_at _ _ _ j).trans (congrArg _ (slice_at _ _ j)))
    t ((flush0_2 t).mp hf) _, zero_add, plain_at]
  refine Fin.sum_mul_add_congr fun s k hl => ?_
  blk_point [iblk, V, where_at t, where_at ⟨_, Pipeline.run_point_lt_of_flush t ((flush0_2 t).mp hf) s⟩]

end Cert.UpWIdeal.Product

end
-- ==== Proof.Up.lean ====
/- Up-projection and its activation: the array the tiled product leaves is the plain product's. -/
module

public import proofs.«01_k».proof.Proof.Gen.UpIdeal.Value
public import proofs.«01_k».proof.Proof.Gen.UpReferenceIdeal.Run
public import Idealize.ShloMosaic.Lib.Pipeline.ValueKit

@[expose] public section

set_option maxRecDepth 16384

noncomputable section

namespace Cert.UpIdeal.Product

open Idealize.ShloMosaic Idealize.ShloMosaic.TcCoe Idealize.ShloMosaic.StableHlo Idealize.SL.Sem
open Cert.UpIdeal Cert.UpIdeal.Gen

variable (m : (ℓ : Loc nD τ sig) → Buf (Elt Ideal) ℓ)

/-- The plain product. -/
abbrev plain (X0 : FVec Ideal Cert.UpReferenceIdeal.S8192x1024 .bf16) (X1 : FVec Ideal Cert.UpReferenceIdeal.S1024x4096 .bf16) : FVec Ideal Cert.UpReferenceIdeal.S8192x4096 .f32 :=
  Host.dotGeneral Cert.UpReferenceIdeal.dot_S8192x1024_S1024x4096_S8192x4096_1_0_0_1_n_n none (extf .f32 X0 Cert.UpReferenceIdeal.Gen.bitsLt_bf16_f32) (extf .f32 X1 Cert.UpReferenceIdeal.Gen.bitsLt_bf16_f32)

/-- Its positive part, squared. -/
abbrev plainAct (X0 : FVec Ideal Cert.UpReferenceIdeal.S8192x1024 .bf16) (X1 : FVec Ideal Cert.UpReferenceIdeal.S1024x4096 .bf16) : FVec Ideal Cert.UpReferenceIdeal.S8192x4096 .bf16 :=
  truncf .bf16 (mulf (maximumf (Host.dotGeneral Cert.UpReferenceIdeal.dot_S8192x1024_S1024x4096_S8192x4096_1_0_0_1_n_n none (extf .f32 X0 Cert.UpReferenceIdeal.Gen.bitsLt_bf16_f32) (extf .f32 X1 Cert.UpReferenceIdeal.Gen.bitsLt_bf16_f32)) (broadcastInDim Cert.UpReferenceIdeal.S8192x4096 ![] Cert.UpReferenceIdeal.Gen.bcast_S_S8192x4096 (constant Cert.UpReferenceIdeal.S_ .f32 0x00000000#32))) (maximumf (Host.dotGeneral Cert.UpReferenceIdeal.dot_S8192x1024_S1024x4096_S8192x4096_1_0_0_1_n_n none (extf .f32 X0 Cert.UpReferenceIdeal.Gen.bitsLt_bf16_f32) (extf .f32 X1 Cert.UpReferenceIdeal.Gen.bitsLt_bf16_f32)) (broadcastInDim Cert.UpReferenceIdeal.S8192x4096 ![] Cert.UpReferenceIdeal.Gen.bcast_S_S8192x4096 (constant Cert.UpReferenceIdeal.S_ .f32 0x00000000#32)))) Cert.UpReferenceIdeal.Gen.bitsLt_bf16_f32

/-- Which block each window holds at grid point `t`. -/
theorem where_at : ∀ t : Fin cfg0.N, win0_0.index t = ![t.val % 8, 0] ∧ win0_1.index t = ![0, t.val / 8] ∧ win0_2.index t = ![t.val % 8, t.val / 8] ∧ win0_3.index t = ![t.val % 8, t.val / 8] :=
  (by decide +kernel : ∀ t : Fin grid0.N, _)

/-- What grid point `t` stores at `y` is the plain result at `y`'s place in the array. -/
theorem stored (c : Dev nD) (t : Fin cfg0.N) (y) :
    k0_pay1 (iblk m c 0 t) (iblk m c 1 t) y = plain (m ((c : Thread nD τ).loc main_arg0)) (m ((c : Thread nD τ).loc main_arg1)) (((cfg0.win 2).blk t).view.emb y) := by
  pointwise [k0_pay1, plain]
  blk_point [iblk, V, where_at t]

/-- After the run the output array holds the plain result. -/
theorem final (c : Dev nD) : (dats m 0 c).arrAt 2 (cfgs 0).N = plain (m ((c : Thread nD τ).loc main_arg0)) (m ((c : Thread nD τ).loc main_arg1)) := by
  refine (dats m 0 c).arrAt_eq_of_covers 2 _ (by decide +kernel) fun t _ y => ?_
  blk_simp
  rw [after0_2]
  frame_out
  exact stored m c t y

/-- What grid point `t` stores at `y` is the plain result at `y`'s place in the array. -/
theorem stored_act (c : Dev nD) (t : Fin cfg0.N) (y) :
    k0_pay2 (iblk m c 0 t) (iblk m c 1 t) y = plainAct (m ((c : Thread nD τ).loc main_arg0)) (m ((c : Thread nD τ).loc main_arg1)) (((cfg0.win 3).blk t).view.emb y) := by
  pointwise [k0_pay1, k0_pay2, plainAct]
  blk_point [iblk, V, where_at t]

/-- After the run the output array holds the plain result. -/
theorem final_act (c : Dev nD) : (dats m 0 c).arrAt 3 (cfgs 0).N = plainAct (m ((c : Thread nD τ).loc main_arg0)) (m ((c : Thread nD τ).loc main_arg1)) := by
  refine (dats m 0 c).arrAt_eq_of_covers 3 _ (by decide +kernel) fun t _ y => ?_
  blk_simp
  rw [after0_3]
  frame_out
  exact stored_act m c t y

end Cert.UpIdeal.Product

end
-- ==== Proof.Down.lean ====
/- Down-projection: the array the tiled product leaves is the plain product's. -/
module

public import proofs.«01_k».proof.Proof.Gen.DownIdeal.Value
public import proofs.«01_k».proof.Proof.Gen.DownReferenceIdeal.Run
public import Idealize.ShloMosaic.Lib.Pipeline.ValueKit

@[expose] public section

set_option maxRecDepth 16384

noncomputable section

namespace Cert.DownIdeal.Product

open Idealize.ShloMosaic Idealize.ShloMosaic.TcCoe Idealize.ShloMosaic.StableHlo Idealize.SL.Sem
open Cert.DownIdeal Cert.DownIdeal.Gen

variable (m : (ℓ : Loc nD τ sig) → Buf (Elt Ideal) ℓ)

/-- The plain product. -/
abbrev plain (X0 : FVec Ideal Cert.DownReferenceIdeal.S8192x4096 .bf16) (X1 : FVec Ideal Cert.DownReferenceIdeal.S4096x1024 .bf16) : FVec Ideal Cert.DownReferenceIdeal.S8192x1024 .f32 :=
  Host.dotGeneral Cert.DownReferenceIdeal.dot_S8192x4096_S4096x1024_S8192x1024_1_0_0_1_n_n none (extf .f32 X0 Cert.DownReferenceIdeal.Gen.bitsLt_bf16_f32) (extf .f32 X1 Cert.DownReferenceIdeal.Gen.bitsLt_bf16_f32)

/-- Which block each window holds at grid point `t`. -/
theorem where_at : ∀ t : Fin cfg0.N, win0_0.index t = ![t.val / 2, t.val % 2] ∧ win0_1.index t = ![t.val % 2, 0] ∧ win0_2.index t = ![t.val / 2, 0] :=
  (by decide +kernel : ∀ t : Fin grid0.N, _)

/-- One slice's product at an index: a sum over the slice. -/
theorem slice_at (x : FVec Ideal S1024x2048 .bf16) (w : FVec Ideal S2048x1024 .bf16) (j : S1024x1024.Idx) :
    (k0_pay1 (F := Ideal) x w j : EReal) = ∑ k : Fin 2048, (x (ix2 (j 0) k) : EReal) * w (ix2 k (j 1)) := by
  pointwise [k0_pay1]

/-- A later slice adds its product to what is there. -/
theorem later_at (x : FVec Ideal S1024x2048 .bf16) (w : FVec Ideal S2048x1024 .bf16) (v : FVec Ideal S1024x1024 .f32) (j : S1024x1024.Idx) :
    k0_pay2 x w v j = v j + k0_pay1 x w j := by
  pointwise [k0_pay2, k0_pay1]

/-- The plain result at an index: a sum over the whole contracted axis. -/
theorem plain_at (X0 : FVec Ideal Cert.DownReferenceIdeal.S8192x4096 .bf16) (X1 : FVec Ideal Cert.DownReferenceIdeal.S4096x1024 .bf16) (j : Cert.DownReferenceIdeal.S8192x1024.Idx) :
    (plain X0 X1 j : EReal) = ∑ l : Fin 4096, (X0 (ix2 (j 0) l) : EReal) * X1 (ix2 l (j 1)) := by
  pointwise [plain]

/-- After the run the output array holds the plain result. -/
theorem final (c : Dev nD) : (dats m 0 c).arrAt 2 (cfgs 0).N = plain (m ((c : Thread nD τ).loc main_arg0)) (m ((c : Thread nD τ).loc main_arg1)) := by
  refine (dats m 0 c).arrAt_eq_of_covers 2 _ (by decide +kernel) fun t hf y => ?_
  blk_simp
  rw [after0_2, Pipeline.eq_sum_fin_of_reset_step_apply_of_flush (fun n h => outsAt0 m c n h) 2 (fun _ => 0)
    (fun p j => ∑ k : Fin 2048, (show FVec Ideal S1024x2048 .bf16 from iblk m c 0 p) (ix2 (j 0) k) * (show FVec Ideal S2048x1024 .bf16 from iblk m c 1 p) (ix2 k (j 1)))
    (fun t h j => by
      rw [outsAt0_A m c t h (by omega)]; frame_out
      exact (slice_at _ _ j).trans (zero_add _).symm)
    (fun t h j => by
      rw [outsAt0_B m c t h (by omega)]; frame_out
      exact (later_at _ _ _ j).trans (congrArg _ (slice_at _ _ j)))
    t ((flush0_2 t).mp hf) _, zero_add, plain_at]
  refine Fin.sum_mul_add_congr fun s k hl => ?_
  blk_point [iblk, V, where_at t, where_at ⟨_, Pipeline.run_point_lt_of_flush t ((flush0_2 t).mp hf) s⟩]

end Cert.DownIdeal.Product

end
-- ==== Proof.GdnW.lean ====
/- Gradient of the in-projection's weight, delta-rule columns: the array the tiled product leaves is the plain product's. -/
module

public import proofs.«01_k».proof.Proof.Gen.GdnWIdeal.Value
public import proofs.«01_k».proof.Proof.Gen.GdnWReferenceIdeal.Run
public import Idealize.ShloMosaic.Lib.Pipeline.ValueKit

@[expose] public section

set_option maxRecDepth 16384

noncomputable section

namespace Cert.GdnWIdeal.Product

open Idealize.ShloMosaic Idealize.ShloMosaic.TcCoe Idealize.ShloMosaic.StableHlo Idealize.SL.Sem
open Cert.GdnWIdeal Cert.GdnWIdeal.Gen

variable (m : (ℓ : Loc nD τ sig) → Buf (Elt Ideal) ℓ)

/-- The plain gradient of the weight: the input's columns against the cotangent's. -/
abbrev plain (X0 : FVec Ideal Cert.GdnWReferenceIdeal.S8192x1024 .bf16) (X1 : FVec Ideal Cert.GdnWReferenceIdeal.S8192x2176 .bf16) : FVec Ideal Cert.GdnWReferenceIdeal.S1024x2176 .f32 :=
  transpose Cert.GdnWReferenceIdeal.S1024x2176 [1, 0] (Host.dotGeneral Cert.GdnWReferenceIdeal.dot_S8192x2176_S8192x1024_S2176x1024_0_0_1_1_n_n none (extf .f32 X1 Cert.GdnWReferenceIdeal.Gen.bitsLt_bf16_f32) (extf .f32 X0 Cert.GdnWReferenceIdeal.Gen.bitsLt_bf16_f32)) Cert.GdnWReferenceIdeal.Gen.transposes_S2176x1024_S1024x2176_1_0

/-- Which block each window holds at grid point `t`. -/
theorem where_at : ∀ t : Fin cfg0.N, win0_0.index t = ![t.val % 4, 0] ∧ win0_1.index t = ![t.val % 4, 0] ∧ win0_2.index t = ![0, 0] :=
  (by decide +kernel : ∀ t : Fin grid0.N, _)

/-- One slice's product at an index: a sum over the slice. -/
theorem slice_at (x : FVec Ideal S2048x1024 .bf16) (w : FVec Ideal S2048x2176 .bf16) (j : S1024x2176.Idx) :
    (k0_pay1 (F := Ideal) x w j : EReal) = ∑ k : Fin 2048, (x (ix2 k (j 0)) : EReal) * w (ix2 k (j 1)) := by
  pointwise [k0_pay1]

/-- A later slice adds its product to what is there. -/
theorem later_at (x : FVec Ideal S2048x1024 .bf16) (w : FVec Ideal S2048x2176 .bf16) (v : FVec Ideal S1024x2176 .f32) (j : S1024x2176.Idx) :
    k0_pay2 x w v j = v j + k0_pay1 x w j := by
  pointwise [k0_pay2, k0_pay1]

/-- The plain result at an index: a sum over the whole contracted axis. -/
theorem plain_at (X0 : FVec Ideal Cert.GdnWReferenceIdeal.S8192x1024 .bf16) (X1 : FVec Ideal Cert.GdnWReferenceIdeal.S8192x2176 .bf16) (j : Cert.GdnWReferenceIdeal.S1024x2176.Idx) :
    (plain X0 X1 j : EReal) = ∑ l : Fin 8192, (X0 (ix2 l (j 0)) : EReal) * X1 (ix2 l (j 1)) := by
  pointwise [plain]
  exact Finset.sum_congr rfl fun l _ => mul_comm _ _

/-- After the run the output array holds the plain result. -/
theorem final (c : Dev nD) : (dats m 0 c).arrAt 2 (cfgs 0).N = plain (m ((c : Thread nD τ).loc main_arg0)) (m ((c : Thread nD τ).loc main_arg1)) := by
  refine (dats m 0 c).arrAt_eq_of_covers 2 _ (by decide +kernel) fun t hf y => ?_
  blk_simp
  rw [after0_2, Pipeline.eq_sum_fin_of_reset_step_apply_of_flush (fun n h => outsAt0 m c n h) 4 (fun _ => 0)
    (fun p j => ∑ k : Fin 2048, (show FVec Ideal S2048x1024 .bf16 from iblk m c 0 p) (ix2 k (j 0)) * (show FVec Ideal S2048x2176 .bf16 from iblk m c 1 p) (ix2 k (j 1)))
    (fun t h j => by
      rw [outsAt0_A m c t h (by have b := lt_of_lt_of_eq t.isLt (show cfg0.N = 4 from N_0); omega)]; frame_out
      exact (slice_at _ _ j).trans (zero_add _).symm)
    (fun t h j => by
      rw [outsAt0_B m c t h (by omega)]; frame_out
      exact (later_at _ _ _ j).trans (congrArg _ (slice_at _ _ j)))
    t ((flush0_2 t).mp hf) _, zero_add, plain_at]
  refine Fin.sum_mul_add_congr fun s k hl => ?_
  blk_point [iblk, V, where_at t, where_at ⟨_, Pipeline.run_point_lt_of_flush t ((flush0_2 t).mp hf) s⟩]

end Cert.GdnWIdeal.Product

end
-- ==== Proof.SsdW.lean ====
/- Gradient of the in-projection's weight, state-space columns: the array the tiled product leaves is the plain product's. -/
module

public import proofs.«01_k».proof.Proof.Gen.SsdWIdeal.Value
public import proofs.«01_k».proof.Proof.Gen.SsdWReferenceIdeal.Run
public import Idealize.ShloMosaic.Lib.Pipeline.ValueKit

@[expose] public section

set_option maxRecDepth 16384

noncomputable section

namespace Cert.SsdWIdeal.Product

open Idealize.ShloMosaic Idealize.ShloMosaic.TcCoe Idealize.ShloMosaic.StableHlo Idealize.SL.Sem
open Cert.SsdWIdeal Cert.SsdWIdeal.Gen

variable (m : (ℓ : Loc nD τ sig) → Buf (Elt Ideal) ℓ)

/-- The plain gradient of the weight: the input's columns against the cotangent's. -/
abbrev plain (X0 : FVec Ideal Cert.SsdWReferenceIdeal.S8192x1024 .bf16) (X1 : FVec Ideal Cert.SsdWReferenceIdeal.S8192x1664 .bf16) : FVec Ideal Cert.SsdWReferenceIdeal.S1024x1664 .f32 :=
  transpose Cert.SsdWReferenceIdeal.S1024x1664 [1, 0] (Host.dotGeneral Cert.SsdWReferenceIdeal.dot_S8192x1664_S8192x1024_S1664x1024_0_0_1_1_n_n none (extf .f32 X1 Cert.SsdWReferenceIdeal.Gen.bitsLt_bf16_f32) (extf .f32 X0 Cert.SsdWReferenceIdeal.Gen.bitsLt_bf16_f32)) Cert.SsdWReferenceIdeal.Gen.transposes_S1664x1024_S1024x1664_1_0

/-- Which block each window holds at grid point `t`. -/
theorem where_at : ∀ t : Fin cfg0.N, win0_0.index t = ![t.val % 4, 0] ∧ win0_1.index t = ![t.val % 4, 0] ∧ win0_2.index t = ![0, 0] :=
  (by decide +kernel : ∀ t : Fin grid0.N, _)

/-- One slice's product at an index: a sum over the slice. -/
theorem slice_at (x : FVec Ideal S2048x1024 .bf16) (w : FVec Ideal S2048x1664 .bf16) (j : S1024x1664.Idx) :
    (k0_pay1 (F := Ideal) x w j : EReal) = ∑ k : Fin 2048, (x (ix2 k (j 0)) : EReal) * w (ix2 k (j 1)) := by
  pointwise [k0_pay1]

/-- A later slice adds its product to what is there. -/
theorem later_at (x : FVec Ideal S2048x1024 .bf16) (w : FVec Ideal S2048x1664 .bf16) (v : FVec Ideal S1024x1664 .f32) (j : S1024x1664.Idx) :
    k0_pay2 x w v j = v j + k0_pay1 x w j := by
  pointwise [k0_pay2, k0_pay1]

/-- The plain result at an index: a sum over the whole contracted axis. -/
theorem plain_at (X0 : FVec Ideal Cert.SsdWReferenceIdeal.S8192x1024 .bf16) (X1 : FVec Ideal Cert.SsdWReferenceIdeal.S8192x1664 .bf16) (j : Cert.SsdWReferenceIdeal.S1024x1664.Idx) :
    (plain X0 X1 j : EReal) = ∑ l : Fin 8192, (X0 (ix2 l (j 0)) : EReal) * X1 (ix2 l (j 1)) := by
  pointwise [plain]
  exact Finset.sum_congr rfl fun l _ => mul_comm _ _

/-- After the run the output array holds the plain result. -/
theorem final (c : Dev nD) : (dats m 0 c).arrAt 2 (cfgs 0).N = plain (m ((c : Thread nD τ).loc main_arg0)) (m ((c : Thread nD τ).loc main_arg1)) := by
  refine (dats m 0 c).arrAt_eq_of_covers 2 _ (by decide +kernel) fun t hf y => ?_
  blk_simp
  rw [after0_2, Pipeline.eq_sum_fin_of_reset_step_apply_of_flush (fun n h => outsAt0 m c n h) 4 (fun _ => 0)
    (fun p j => ∑ k : Fin 2048, (show FVec Ideal S2048x1024 .bf16 from iblk m c 0 p) (ix2 k (j 0)) * (show FVec Ideal S2048x1664 .bf16 from iblk m c 1 p) (ix2 k (j 1)))
    (fun t h j => by
      rw [outsAt0_A m c t h (by have b := lt_of_lt_of_eq t.isLt (show cfg0.N = 4 from N_0); omega)]; frame_out
      exact (slice_at _ _ j).trans (zero_add _).symm)
    (fun t h j => by
      rw [outsAt0_B m c t h (by omega)]; frame_out
      exact (later_at _ _ _ j).trans (congrArg _ (slice_at _ _ j)))
    t ((flush0_2 t).mp hf) _, zero_add, plain_at]
  refine Fin.sum_mul_add_congr fun s k hl => ?_
  blk_point [iblk, V, where_at t, where_at ⟨_, Pipeline.run_point_lt_of_flush t ((flush0_2 t).mp hf) s⟩]

end Cert.SsdWIdeal.Product

end
-- ==== Proof.LruW.lean ====
/- Gradient of the in-projection's weight, linear-recurrence columns: the array the tiled product leaves is the plain product's. -/
module

public import proofs.«01_k».proof.Proof.Gen.LruWIdeal.Value
public import proofs.«01_k».proof.Proof.Gen.LruWReferenceIdeal.Run
public import Idealize.ShloMosaic.Lib.Pipeline.ValueKit

@[expose] public section

set_option maxRecDepth 16384

noncomputable section

namespace Cert.LruWIdeal.Product

open Idealize.ShloMosaic Idealize.ShloMosaic.TcCoe Idealize.ShloMosaic.StableHlo Idealize.SL.Sem
open Cert.LruWIdeal Cert.LruWIdeal.Gen

variable (m : (ℓ : Loc nD τ sig) → Buf (Elt Ideal) ℓ)

/-- The plain gradient of the weight: the input's columns against the cotangent's. -/
abbrev plain (X0 : FVec Ideal Cert.LruWReferenceIdeal.S8192x1024 .bf16) (X1 : FVec Ideal Cert.LruWReferenceIdeal.S8192x512 .bf16) : FVec Ideal Cert.LruWReferenceIdeal.S1024x512 .f32 :=
  transpose Cert.LruWReferenceIdeal.S1024x512 [1, 0] (Host.dotGeneral Cert.LruWReferenceIdeal.dot_S8192x512_S8192x1024_S512x1024_0_0_1_1_n_n none (extf .f32 X1 Cert.LruWReferenceIdeal.Gen.bitsLt_bf16_f32) (extf .f32 X0 Cert.LruWReferenceIdeal.Gen.bitsLt_bf16_f32)) Cert.LruWReferenceIdeal.Gen.transposes_S512x1024_S1024x512_1_0

/-- Which block each window holds at grid point `t`. -/
theorem where_at : ∀ t : Fin cfg0.N, win0_0.index t = ![t.val % 4, 0] ∧ win0_1.index t = ![t.val % 4, 0] ∧ win0_2.index t = ![0, 0] :=
  (by decide +kernel : ∀ t : Fin grid0.N, _)

/-- One slice's product at an index: a sum over the slice. -/
theorem slice_at (x : FVec Ideal S2048x1024 .bf16) (w : FVec Ideal S2048x512 .bf16) (j : S1024x512.Idx) :
    (k0_pay1 (F := Ideal) x w j : EReal) = ∑ k : Fin 2048, (x (ix2 k (j 0)) : EReal) * w (ix2 k (j 1)) := by
  pointwise [k0_pay1]

/-- A later slice adds its product to what is there. -/
theorem later_at (x : FVec Ideal S2048x1024 .bf16) (w : FVec Ideal S2048x512 .bf16) (v : FVec Ideal S1024x512 .f32) (j : S1024x512.Idx) :
    k0_pay2 x w v j = v j + k0_pay1 x w j := by
  pointwise [k0_pay2, k0_pay1]

/-- The plain result at an index: a sum over the whole contracted axis. -/
theorem plain_at (X0 : FVec Ideal Cert.LruWReferenceIdeal.S8192x1024 .bf16) (X1 : FVec Ideal Cert.LruWReferenceIdeal.S8192x512 .bf16) (j : Cert.LruWReferenceIdeal.S1024x512.Idx) :
    (plain X0 X1 j : EReal) = ∑ l : Fin 8192, (X0 (ix2 l (j 0)) : EReal) * X1 (ix2 l (j 1)) := by
  pointwise [plain]
  exact Finset.sum_congr rfl fun l _ => mul_comm _ _

/-- After the run the output array holds the plain result. -/
theorem final (c : Dev nD) : (dats m 0 c).arrAt 2 (cfgs 0).N = plain (m ((c : Thread nD τ).loc main_arg0)) (m ((c : Thread nD τ).loc main_arg1)) := by
  refine (dats m 0 c).arrAt_eq_of_covers 2 _ (by decide +kernel) fun t hf y => ?_
  blk_simp
  rw [after0_2, Pipeline.eq_sum_fin_of_reset_step_apply_of_flush (fun n h => outsAt0 m c n h) 4 (fun _ => 0)
    (fun p j => ∑ k : Fin 2048, (show FVec Ideal S2048x1024 .bf16 from iblk m c 0 p) (ix2 k (j 0)) * (show FVec Ideal S2048x512 .bf16 from iblk m c 1 p) (ix2 k (j 1)))
    (fun t h j => by
      rw [outsAt0_A m c t h (by have b := lt_of_lt_of_eq t.isLt (show cfg0.N = 4 from N_0); omega)]; frame_out
      exact (slice_at _ _ j).trans (zero_add _).symm)
    (fun t h j => by
      rw [outsAt0_B m c t h (by omega)]; frame_out
      exact (later_at _ _ _ j).trans (congrArg _ (slice_at _ _ j)))
    t ((flush0_2 t).mp hf) _, zero_add, plain_at]
  refine Fin.sum_mul_add_congr fun s k hl => ?_
  blk_point [iblk, V, where_at t, where_at ⟨_, Pipeline.run_point_lt_of_flush t ((flush0_2 t).mp hf) s⟩]

end Cert.LruWIdeal.Product

end
-- ==== Proof.GateW.lean ====
/- Gradient of the in-projection's weight, gate columns: the array the tiled product leaves is the plain product's. -/
module

public import proofs.«01_k».proof.Proof.Gen.GateWIdeal.Value
public import proofs.«01_k».proof.Proof.Gen.GateWReferenceIdeal.Run
public import Idealize.ShloMosaic.Lib.Pipeline.ValueKit

@[expose] public section

set_option maxRecDepth 16384

noncomputable section

namespace Cert.GateWIdeal.Product

open Idealize.ShloMosaic Idealize.ShloMosaic.TcCoe Idealize.ShloMosaic.StableHlo Idealize.SL.Sem
open Cert.GateWIdeal Cert.GateWIdeal.Gen

variable (m : (ℓ : Loc nD τ sig) → Buf (Elt Ideal) ℓ)

/-- The plain gradient of the weight: the input's columns against the cotangent's. -/
abbrev plain (X0 : FVec Ideal Cert.GateWReferenceIdeal.S8192x1024 .bf16) (X1 : FVec Ideal Cert.GateWReferenceIdeal.S8192x3072 .bf16) : FVec Ideal Cert.GateWReferenceIdeal.S1024x3072 .f32 :=
  transpose Cert.GateWReferenceIdeal.S1024x3072 [1, 0] (Host.dotGeneral Cert.GateWReferenceIdeal.dot_S8192x3072_S8192x1024_S3072x1024_0_0_1_1_n_n none (extf .f32 X1 Cert.GateWReferenceIdeal.Gen.bitsLt_bf16_f32) (extf .f32 X0 Cert.GateWReferenceIdeal.Gen.bitsLt_bf16_f32)) Cert.GateWReferenceIdeal.Gen.transposes_S3072x1024_S1024x3072_1_0

/-- Which block each window holds at grid point `t`. -/
theorem where_at : ∀ t : Fin cfg0.N, win0_0.index t = ![t.val % 4, 0] ∧ win0_1.index t = ![t.val % 4, t.val / 4] ∧ win0_2.index t = ![0, t.val / 4] :=
  (by decide +kernel : ∀ t : Fin grid0.N, _)

/-- One slice's product at an index: a sum over the slice. -/
theorem slice_at (x : FVec Ideal S2048x1024 .bf16) (w : FVec Ideal S2048x1536 .bf16) (j : S1024x1536.Idx) :
    (k0_pay1 (F := Ideal) x w j : EReal) = ∑ k : Fin 2048, (x (ix2 k (j 0)) : EReal) * w (ix2 k (j 1)) := by
  pointwise [k0_pay1]

/-- A later slice adds its product to what is there. -/
theorem later_at (x : FVec Ideal S2048x1024 .bf16) (w : FVec Ideal S2048x1536 .bf16) (v : FVec Ideal S1024x1536 .f32) (j : S1024x1536.Idx) :
    k0_pay2 x w v j = v j + k0_pay1 x w j := by
  pointwise [k0_pay2, k0_pay1]

/-- The plain result at an index: a sum over the whole contracted axis. -/
theorem plain_at (X0 : FVec Ideal Cert.GateWReferenceIdeal.S8192x1024 .bf16) (X1 : FVec Ideal Cert.GateWReferenceIdeal.S8192x3072 .bf16) (j : Cert.GateWReferenceIdeal.S1024x3072.Idx) :
    (plain X0 X1 j : EReal) = ∑ l : Fin 8192, (X0 (ix2 l (j 0)) : EReal) * X1 (ix2 l (j 1)) := by
  pointwise [plain]
  exact Finset.sum_congr rfl fun l _ => mul_comm _ _

/-- After the run the output array holds the plain result. -/
theorem final (c : Dev nD) : (dats m 0 c).arrAt 2 (cfgs 0).N = plain (m ((c : Thread nD τ).loc main_arg0)) (m ((c : Thread nD τ).loc main_arg1)) := by
  refine (dats m 0 c).arrAt_eq_of_covers 2 _ (by decide +kernel) fun t hf y => ?_
  blk_simp
  rw [after0_2, Pipeline.eq_sum_fin_of_reset_step_apply_of_flush (fun n h => outsAt0 m c n h) 4 (fun _ => 0)
    (fun p j => ∑ k : Fin 2048, (show FVec Ideal S2048x1024 .bf16 from iblk m c 0 p) (ix2 k (j 0)) * (show FVec Ideal S2048x1536 .bf16 from iblk m c 1 p) (ix2 k (j 1)))
    (fun t h j => by
      rw [outsAt0_A m c t h (by omega)]; frame_out
      exact (slice_at _ _ j).trans (zero_add _).symm)
    (fun t h j => by
      rw [outsAt0_B m c t h (by omega)]; frame_out
      exact (later_at _ _ _ j).trans (congrArg _ (slice_at _ _ j)))
    t ((flush0_2 t).mp hf) _, zero_add, plain_at]
  refine Fin.sum_mul_add_congr fun s k hl => ?_
  blk_point [iblk, V, where_at t, where_at ⟨_, Pipeline.run_point_lt_of_flush t ((flush0_2 t).mp hf) s⟩]

end Cert.GateWIdeal.Product

end
-- ==== Proof.GdnX.lean ====
/- Gradient of the in-projection's input, delta-rule columns: the array the tiled product leaves is the plain product's. -/
module

public import proofs.«01_k».proof.Proof.Gen.GdnXIdeal.Value
public import proofs.«01_k».proof.Proof.Gen.GdnXReferenceIdeal.Run
public import Idealize.ShloMosaic.Lib.Pipeline.ValueKit

@[expose] public section

set_option maxRecDepth 16384

noncomputable section

namespace Cert.GdnXIdeal.Product

open Idealize.ShloMosaic Idealize.ShloMosaic.TcCoe Idealize.ShloMosaic.StableHlo Idealize.SL.Sem
open Cert.GdnXIdeal Cert.GdnXIdeal.Gen

variable (m : (ℓ : Loc nD τ sig) → Buf (Elt Ideal) ℓ)

/-- The plain gradient of the input: the cotangent against the weight's rows. -/
abbrev plain (X0 : FVec Ideal Cert.GdnXReferenceIdeal.S8192x2176 .bf16) (X1 : FVec Ideal Cert.GdnXReferenceIdeal.S1024x2176 .bf16) : FVec Ideal Cert.GdnXReferenceIdeal.S8192x1024 .f32 :=
  Host.dotGeneral Cert.GdnXReferenceIdeal.dot_S8192x2176_S1024x2176_S8192x1024_1_1_0_0_n_n none (extf .f32 X0 Cert.GdnXReferenceIdeal.Gen.bitsLt_bf16_f32) (extf .f32 X1 Cert.GdnXReferenceIdeal.Gen.bitsLt_bf16_f32)

/-- Which block each window holds at grid point `t`. -/
theorem where_at : ∀ t : Fin cfg0.N, win0_0.index t = ![t.val, 0] ∧ win0_1.index t = ![0, 0] ∧ win0_2.index t = ![t.val, 0] :=
  (by decide +kernel : ∀ t : Fin grid0.N, _)

/-- What grid point `t` stores at `y` is the plain result at `y`'s place in the array. -/
theorem stored (c : Dev nD) (t : Fin cfg0.N) (y) :
    k0_pay1 (iblk m c 0 t) (iblk m c 1 t) y = plain (m ((c : Thread nD τ).loc main_arg0)) (m ((c : Thread nD τ).loc main_arg1)) (((cfg0.win 2).blk t).view.emb y) := by
  pointwise [k0_pay1, plain]
  blk_point [iblk, V, where_at t]

/-- After the run the output array holds the plain result. -/
theorem final (c : Dev nD) : (dats m 0 c).arrAt 2 (cfgs 0).N = plain (m ((c : Thread nD τ).loc main_arg0)) (m ((c : Thread nD τ).loc main_arg1)) := by
  refine (dats m 0 c).arrAt_eq_of_covers 2 _ (by decide +kernel) fun t _ y => ?_
  blk_simp
  rw [after0_2]
  frame_out
  exact stored m c t y

end Cert.GdnXIdeal.Product

end
-- ==== Proof.GdnBiasX.lean ====
/- Gradient of the in-projection's input, delta-rule columns, with a row added: the array the tiled product leaves is the plain product's. -/
module

public import proofs.«01_k».proof.Proof.Gen.GdnBiasXIdeal.Value
public import proofs.«01_k».proof.Proof.Gen.GdnBiasXReferenceIdeal.Run
public import Idealize.ShloMosaic.Lib.Pipeline.ValueKit

@[expose] public section

set_option maxRecDepth 16384

noncomputable section

namespace Cert.GdnBiasXIdeal.Product

open Idealize.ShloMosaic Idealize.ShloMosaic.TcCoe Idealize.ShloMosaic.StableHlo Idealize.SL.Sem
open Cert.GdnBiasXIdeal Cert.GdnBiasXIdeal.Gen

variable (m : (ℓ : Loc nD τ sig) → Buf (Elt Ideal) ℓ)

/-- The plain gradient of the input: the cotangent against the weight's rows, and the row added to each row. -/
abbrev plain (X0 : FVec Ideal Cert.GdnBiasXReferenceIdeal.S8192x2176 .bf16) (X1 : FVec Ideal Cert.GdnBiasXReferenceIdeal.S1024x2176 .bf16) (X2 : FVec Ideal Cert.GdnBiasXReferenceIdeal.S1x1024 .f32) : FVec Ideal Cert.GdnBiasXReferenceIdeal.S8192x1024 .f32 :=
  addf (Host.dotGeneral Cert.GdnBiasXReferenceIdeal.dot_S8192x2176_S1024x2176_S8192x1024_1_1_0_0_n_n none (extf .f32 X0 Cert.GdnBiasXReferenceIdeal.Gen.bitsLt_bf16_f32) (extf .f32 X1 Cert.GdnBiasXReferenceIdeal.Gen.bitsLt_bf16_f32)) (broadcastInDim Cert.GdnBiasXReferenceIdeal.S8192x1024 ![0, 1] Cert.GdnBiasXReferenceIdeal.Gen.bcast_S1x1024_S8192x1024_0_1 X2)

/-- Which block each window holds at grid point `t`. -/
theorem where_at : ∀ t : Fin cfg0.N, win0_0.index t = ![t.val, 0] ∧ win0_1.index t = ![0, 0] ∧ win0_2.index t = ![0, 0] ∧ win0_3.index t = ![t.val, 0] :=
  (by decide +kernel : ∀ t : Fin grid0.N, _)

/-- What grid point `t` stores at `y` is the plain result at `y`'s place in the array. -/
theorem stored (c : Dev nD) (t : Fin cfg0.N) (y) :
    k0_pay1 (iblk m c 0 t) (iblk m c 1 t) (iblk m c 2 t) y = plain (m ((c : Thread nD τ).loc main_arg0)) (m ((c : Thread nD τ).loc main_arg1)) (m ((c : Thread nD τ).loc main_arg2)) (((cfg0.win 3).blk t).view.emb y) := by
  pointwise [k0_pay1, plain]
  blk_point [iblk, V, where_at t]

/-- After the run the output array holds the plain result. -/
theorem final (c : Dev nD) : (dats m 0 c).arrAt 3 (cfgs 0).N = plain (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  rw [after0_3]
  frame_out
  exact stored m c t y

end Cert.GdnBiasXIdeal.Product

end
-- ==== Proof.SsdX.lean ====
/- Gradient of the in-projection's input, state-space columns: the array the tiled product leaves is the plain product's. -/
module

public import proofs.«01_k».proof.Proof.Gen.SsdXIdeal.Value
public import proofs.«01_k».proof.Proof.Gen.SsdXReferenceIdeal.Run
public import Idealize.ShloMosaic.Lib.Pipeline.ValueKit

@[expose] public section

set_option maxRecDepth 16384

noncomputable section

namespace Cert.SsdXIdeal.Product

open Idealize.ShloMosaic Idealize.ShloMosaic.TcCoe Idealize.ShloMosaic.StableHlo Idealize.SL.Sem
open Cert.SsdXIdeal Cert.SsdXIdeal.Gen

variable (m : (ℓ : Loc nD τ sig) → Buf (Elt Ideal) ℓ)

/-- The plain gradient of the input: the cotangent against the weight's rows, on top of what was handed in. -/
abbrev plain (X0 : FVec Ideal Cert.SsdXReferenceIdeal.S8192x1664 .bf16) (X1 : FVec Ideal Cert.SsdXReferenceIdeal.S1024x1664 .bf16) (X2 : FVec Ideal Cert.SsdXReferenceIdeal.S8192x1024 .f32) : FVec Ideal Cert.SsdXReferenceIdeal.S8192x1024 .f32 :=
  addf X2 (Host.dotGeneral Cert.SsdXReferenceIdeal.dot_S8192x1664_S1024x1664_S8192x1024_1_1_0_0_n_n none (extf .f32 X0 Cert.SsdXReferenceIdeal.Gen.bitsLt_bf16_f32) (extf .f32 X1 Cert.SsdXReferenceIdeal.Gen.bitsLt_bf16_f32))

/-- Which block each window holds at grid point `t`. -/
theorem where_at : ∀ t : Fin cfg0.N, win0_0.index t = ![t.val, 0] ∧ win0_1.index t = ![0, 0] ∧ win0_2.index t = ![t.val, 0] ∧ win0_3.index t = ![t.val, 0] :=
  (by decide +kernel : ∀ t : Fin grid0.N, _)

/-- What grid point `t` stores at `y` is the plain result at `y`'s place in the array. -/
theorem stored (c : Dev nD) (t : Fin cfg0.N) (y) :
    k0_pay1 (iblk m c 0 t) (iblk m c 1 t) (iblk m c 2 t) y = plain (m ((c : Thread nD τ).loc main_arg0)) (m ((c : Thread nD τ).loc main_arg1)) (m ((c : Thread nD τ).loc main_arg2)) (((cfg0.win 3).blk t).view.emb y) := by
  pointwise [k0_pay1, plain]
  blk_point [iblk, V, where_at t]

/-- After the run the output array holds the plain result. -/
theorem final (c : Dev nD) : (dats m 0 c).arrAt 3 (cfgs 0).N = plain (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  rw [after0_3]
  frame_out
  exact stored m c t y

end Cert.SsdXIdeal.Product

end
-- ==== Proof.LruX.lean ====
/- Gradient of the in-projection's input, linear-recurrence columns: the array the tiled product leaves is the plain product's. -/
module

public import proofs.«01_k».proof.Proof.Gen.LruXIdeal.Value
public import proofs.«01_k».proof.Proof.Gen.LruXReferenceIdeal.Run
public import Idealize.ShloMosaic.Lib.Pipeline.ValueKit

@[expose] public section

set_option maxRecDepth 16384

noncomputable section

namespace Cert.LruXIdeal.Product

open Idealize.ShloMosaic Idealize.ShloMosaic.TcCoe Idealize.ShloMosaic.StableHlo Idealize.SL.Sem
open Cert.LruXIdeal Cert.LruXIdeal.Gen

variable (m : (ℓ : Loc nD τ sig) → Buf (Elt Ideal) ℓ)

/-- The plain gradient of the input: the cotangent against the weight's rows, on top of what was handed in. -/
abbrev plain (X0 : FVec Ideal Cert.LruXReferenceIdeal.S8192x512 .bf16) (X1 : FVec Ideal Cert.LruXReferenceIdeal.S1024x512 .bf16) (X2 : FVec Ideal Cert.LruXReferenceIdeal.S8192x1024 .f32) : FVec Ideal Cert.LruXReferenceIdeal.S8192x1024 .f32 :=
  addf X2 (Host.dotGeneral Cert.LruXReferenceIdeal.dot_S8192x512_S1024x512_S8192x1024_1_1_0_0_n_n none (extf .f32 X0 Cert.LruXReferenceIdeal.Gen.bitsLt_bf16_f32) (extf .f32 X1 Cert.LruXReferenceIdeal.Gen.bitsLt_bf16_f32))

/-- Which block each window holds at grid point `t`. -/
theorem where_at : ∀ t : Fin cfg0.N, win0_0.index t = ![t.val, 0] ∧ win0_1.index t = ![0, 0] ∧ win0_2.index t = ![t.val, 0] ∧ win0_3.index t = ![t.val, 0] :=
  (by decide +kernel : ∀ t : Fin grid0.N, _)

/-- What grid point `t` stores at `y` is the plain result at `y`'s place in the array. -/
theorem stored (c : Dev nD) (t : Fin cfg0.N) (y) :
    k0_pay1 (iblk m c 0 t) (iblk m c 1 t) (iblk m c 2 t) y = plain (m ((c : Thread nD τ).loc main_arg0)) (m ((c : Thread nD τ).loc main_arg1)) (m ((c : Thread nD τ).loc main_arg2)) (((cfg0.win 3).blk t).view.emb y) := by
  pointwise [k0_pay1, plain]
  blk_point [iblk, V, where_at t]

/-- After the run the output array holds the plain result. -/
theorem final (c : Dev nD) : (dats m 0 c).arrAt 3 (cfgs 0).N = plain (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  rw [after0_3]
  frame_out
  exact stored m c t y

end Cert.LruXIdeal.Product

end
-- ==== Proof.GateX.lean ====
/- Gradient of the in-projection's input, gate columns: the array the tiled product leaves is the plain product's. -/
module

public import proofs.«01_k».proof.Proof.Gen.GateXIdeal.Value
public import proofs.«01_k».proof.Proof.Gen.GateXReferenceIdeal.Run
public import Idealize.ShloMosaic.Lib.Pipeline.ValueKit

@[expose] public section

set_option maxRecDepth 16384

noncomputable section

namespace Cert.GateXIdeal.Product

open Idealize.ShloMosaic Idealize.ShloMosaic.TcCoe Idealize.ShloMosaic.StableHlo Idealize.SL.Sem
open Cert.GateXIdeal Cert.GateXIdeal.Gen

variable (m : (ℓ : Loc nD τ sig) → Buf (Elt Ideal) ℓ)

/-- The plain gradient of the input: the cotangent against the weight's rows, on top of what was handed in. -/
abbrev plain (X0 : FVec Ideal Cert.GateXReferenceIdeal.S8192x3072 .bf16) (X1 : FVec Ideal Cert.GateXReferenceIdeal.S1024x3072 .bf16) (X2 : FVec Ideal Cert.GateXReferenceIdeal.S8192x1024 .f32) : FVec Ideal Cert.GateXReferenceIdeal.S8192x1024 .f32 :=
  addf X2 (Host.dotGeneral Cert.GateXReferenceIdeal.dot_S8192x3072_S1024x3072_S8192x1024_1_1_0_0_n_n none (extf .f32 X0 Cert.GateXReferenceIdeal.Gen.bitsLt_bf16_f32) (extf .f32 X1 Cert.GateXReferenceIdeal.Gen.bitsLt_bf16_f32))

/-- Which block each window holds at grid point `t`. -/
theorem where_at : ∀ t : Fin cfg0.N, win0_0.index t = ![t.val / 2, t.val % 2] ∧ win0_1.index t = ![0, t.val % 2] ∧ win0_2.index t = ![t.val / 2, 0] ∧ win0_3.index t = ![t.val / 2, 0] :=
  (by decide +kernel : ∀ t : Fin grid0.N, _)

/-- One slice's product at an index: a sum over the slice. -/
theorem slice_at (x : FVec Ideal S1024x1536 .bf16) (w : FVec Ideal S1024x1536 .bf16) (j : S1024x1024.Idx) :
    (k0_pay1 (F := Ideal) x w j : EReal) = ∑ k : Fin 1536, (x (ix2 (j 0) k) : EReal) * w (ix2 (j 1) k) := by
  pointwise [k0_pay1]

/-- The first slice's product on top of what was handed in. -/
theorem first_at (x : FVec Ideal S1024x1536 .bf16) (w : FVec Ideal S1024x1536 .bf16) (s : FVec Ideal S1024x1024 .f32) (j : S1024x1024.Idx) :
    k0_pay2 x w s j = s j + k0_pay1 x w j := by
  pointwise [k0_pay2, k0_pay1]
  exact add_comm _ _

/-- A later slice adds its product to what is there. -/
theorem later_at (x : FVec Ideal S1024x1536 .bf16) (w : FVec Ideal S1024x1536 .bf16) (v : FVec Ideal S1024x1024 .f32) (j : S1024x1024.Idx) :
    k0_pay3 x w v j = v j + k0_pay1 x w j := by
  pointwise [k0_pay3, k0_pay1]

/-- The plain result at an index: a sum over the whole contracted axis. -/
theorem plain_at (X0 : FVec Ideal Cert.GateXReferenceIdeal.S8192x3072 .bf16) (X1 : FVec Ideal Cert.GateXReferenceIdeal.S1024x3072 .bf16) (X2 : FVec Ideal Cert.GateXReferenceIdeal.S8192x1024 .f32) (j : Cert.GateXReferenceIdeal.S8192x1024.Idx) :
    (plain X0 X1 X2 j : EReal) = X2 j + ∑ l : Fin 3072, (X0 (ix2 (j 0) l) : EReal) * X1 (ix2 (j 1) l) := by
  pointwise [plain]

/-- After the run the output array holds the plain result. -/
theorem final (c : Dev nD) : (dats m 0 c).arrAt 3 (cfgs 0).N = plain (m ((c : Thread nD τ).loc main_arg0)) (m ((c : Thread nD τ).loc main_arg1)) (m ((c : Thread nD τ).loc main_arg2)) := by
  refine (dats m 0 c).arrAt_eq_of_covers 3 _ (by decide +kernel) fun t hf y => ?_
  blk_simp
  have ht : t.val % 2 = 1 := (flush0_3 t).mp hf
  rw [after0_3, Pipeline.eq_sum_fin_of_reset_step_apply_of_flush (fun n h => outsAt0 m c n h) 2 (fun _ => 0)
    (fun p j => (if p.val % 2 = 0 then (show FVec Ideal S1024x1024 .f32 from iblk m c 2 p) j else 0)
      + ∑ k : Fin 1536, (show FVec Ideal S1024x1536 .bf16 from iblk m c 0 p) (ix2 (j 0) k) * (show FVec Ideal S1024x1536 .bf16 from iblk m c 1 p) (ix2 (j 1) k))
    (fun t h j => by
      rw [outsAt0_A m c t h (by omega)]; frame_out
      rw [if_pos h]
      exact ((first_at _ _ _ j).trans (congrArg _ (slice_at _ _ j))).trans (zero_add _).symm)
    (fun t h j => by
      rw [outsAt0_B m c t h (by omega)]; frame_out
      rw [if_neg h, zero_add]
      exact (later_at _ _ _ j).trans (congrArg _ (slice_at _ _ j)))
    t ht _, zero_add, Finset.sum_add_distrib, plain_at]
  refine congrArg₂ (fun a b : EReal => a + b) ?_ (Fin.sum_mul_add_congr fun s k hl => ?_)
  · rw [Fin.sum_univ_two, if_pos (by simp), if_neg (by simp [Nat.add_mod]), add_zero]
    blk_point [iblk, V, where_at t, where_at ⟨_, Pipeline.run_point_lt_of_flush t ht 0⟩]
  · blk_point [iblk, V, where_at t, where_at ⟨_, Pipeline.run_point_lt_of_flush t ht s⟩]

end Cert.GateXIdeal.Product

end
-- ==== Proof.GdnIn.lean ====
/- In-projection, delta-rule columns: the array the tiled product leaves is the plain product's. -/
module

public import proofs.«01_k».proof.Proof.Gen.GdnInIdeal.Value
public import proofs.«01_k».proof.Proof.Gen.GdnInReferenceIdeal.Run
public import Idealize.ShloMosaic.Lib.Pipeline.ValueKit

@[expose] public section

set_option maxRecDepth 16384

noncomputable section

namespace Cert.GdnInIdeal.Product

open Idealize.ShloMosaic Idealize.ShloMosaic.TcCoe Idealize.ShloMosaic.StableHlo Idealize.SL.Sem
open Cert.GdnInIdeal Cert.GdnInIdeal.Gen

variable (m : (ℓ : Loc nD τ sig) → Buf (Elt Ideal) ℓ)

/-- The plain product. -/
abbrev plain (X0 : FVec Ideal Cert.GdnInReferenceIdeal.S8192x1024 .bf16) (X1 : FVec Ideal Cert.GdnInReferenceIdeal.S1024x2176 .bf16) : FVec Ideal Cert.GdnInReferenceIdeal.S8192x2176 .f32 :=
  Host.dotGeneral Cert.GdnInReferenceIdeal.dot_S8192x1024_S1024x2176_S8192x2176_1_0_0_1_n_n none (extf .f32 X0 Cert.GdnInReferenceIdeal.Gen.bitsLt_bf16_f32) (extf .f32 X1 Cert.GdnInReferenceIdeal.Gen.bitsLt_bf16_f32)

/-- Which block each window holds at grid point `t`. -/
theorem where_at : ∀ t : Fin cfg0.N, win0_0.index t = ![t.val, 0] ∧ win0_1.index t = ![0, 0] ∧ win0_2.index t = ![t.val, 0] :=
  (by decide +kernel : ∀ t : Fin grid0.N, _)

/-- What grid point `t` stores at `y` is the plain result at `y`'s place in the array. -/
theorem stored (c : Dev nD) (t : Fin cfg0.N) (y) :
    k0_pay1 (iblk m c 0 t) (iblk m c 1 t) y = plain (m ((c : Thread nD τ).loc main_arg0)) (m ((c : Thread nD τ).loc main_arg1)) (((cfg0.win 2).blk t).view.emb y) := by
  pointwise [k0_pay1, plain]
  blk_point [iblk, V, where_at t]

/-- After the run the output array holds the plain result. -/
theorem final (c : Dev nD) : (dats m 0 c).arrAt 2 (cfgs 0).N = plain (m ((c : Thread nD τ).loc main_arg0)) (m ((c : Thread nD τ).loc main_arg1)) := by
  refine (dats m 0 c).arrAt_eq_of_covers 2 _ (by decide +kernel) fun t _ y => ?_
  blk_simp
  rw [after0_2]
  frame_out
  exact stored m c t y

end Cert.GdnInIdeal.Product

end
-- ==== Proof.SsdIn.lean ====
/- In-projection, state-space columns: the array the tiled product leaves is the plain product's. -/
module

public import proofs.«01_k».proof.Proof.Gen.SsdInIdeal.Value
public import proofs.«01_k».proof.Proof.Gen.SsdInReferenceIdeal.Run
public import Idealize.ShloMosaic.Lib.Pipeline.ValueKit

@[expose] public section

set_option maxRecDepth 16384

noncomputable section

namespace Cert.SsdInIdeal.Product

open Idealize.ShloMosaic Idealize.ShloMosaic.TcCoe Idealize.ShloMosaic.StableHlo Idealize.SL.Sem
open Cert.SsdInIdeal Cert.SsdInIdeal.Gen

variable (m : (ℓ : Loc nD τ sig) → Buf (Elt Ideal) ℓ)

/-- The plain product. -/
abbrev plain (X0 : FVec Ideal Cert.SsdInReferenceIdeal.S8192x1024 .bf16) (X1 : FVec Ideal Cert.SsdInReferenceIdeal.S1024x1664 .bf16) : FVec Ideal Cert.SsdInReferenceIdeal.S8192x1664 .f32 :=
  Host.dotGeneral Cert.SsdInReferenceIdeal.dot_S8192x1024_S1024x1664_S8192x1664_1_0_0_1_n_n none (extf .f32 X0 Cert.SsdInReferenceIdeal.Gen.bitsLt_bf16_f32) (extf .f32 X1 Cert.SsdInReferenceIdeal.Gen.bitsLt_bf16_f32)

/-- Which block each window holds at grid point `t`. -/
theorem where_at : ∀ t : Fin cfg0.N, win0_0.index t = ![t.val, 0] ∧ win0_1.index t = ![0, 0] ∧ win0_2.index t = ![t.val, 0] :=
  (by decide +kernel : ∀ t : Fin grid0.N, _)

/-- What grid point `t` stores at `y` is the plain result at `y`'s place in the array. -/
theorem stored (c : Dev nD) (t : Fin cfg0.N) (y) :
    k0_pay1 (iblk m c 0 t) (iblk m c 1 t) y = plain (m ((c : Thread nD τ).loc main_arg0)) (m ((c : Thread nD τ).loc main_arg1)) (((cfg0.win 2).blk t).view.emb y) := by
  pointwise [k0_pay1, plain]
  blk_point [iblk, V, where_at t]

/-- After the run the output array holds the plain result. -/
theorem final (c : Dev nD) : (dats m 0 c).arrAt 2 (cfgs 0).N = plain (m ((c : Thread nD τ).loc main_arg0)) (m ((c : Thread nD τ).loc main_arg1)) := by
  refine (dats m 0 c).arrAt_eq_of_covers 2 _ (by decide +kernel) fun t _ y => ?_
  blk_simp
  rw [after0_2]
  frame_out
  exact stored m c t y

end Cert.SsdInIdeal.Product

end
-- ==== Proof.LruIn.lean ====
/- In-projection, linear-recurrence columns: the array the tiled product leaves is the plain product's. -/
module

public import proofs.«01_k».proof.Proof.Gen.LruInIdeal.Value
public import proofs.«01_k».proof.Proof.Gen.LruInReferenceIdeal.Run
public import Idealize.ShloMosaic.Lib.Pipeline.ValueKit

@[expose] public section

set_option maxRecDepth 16384

noncomputable section

namespace Cert.LruInIdeal.Product

open Idealize.ShloMosaic Idealize.ShloMosaic.TcCoe Idealize.ShloMosaic.StableHlo Idealize.SL.Sem
open Cert.LruInIdeal Cert.LruInIdeal.Gen

variable (m : (ℓ : Loc nD τ sig) → Buf (Elt Ideal) ℓ)

/-- The plain product. -/
abbrev plain (X0 : FVec Ideal Cert.LruInReferenceIdeal.S8192x1024 .bf16) (X1 : FVec Ideal Cert.LruInReferenceIdeal.S1024x512 .bf16) : FVec Ideal Cert.LruInReferenceIdeal.S8192x512 .f32 :=
  Host.dotGeneral Cert.LruInReferenceIdeal.dot_S8192x1024_S1024x512_S8192x512_1_0_0_1_n_n none (extf .f32 X0 Cert.LruInReferenceIdeal.Gen.bitsLt_bf16_f32) (extf .f32 X1 Cert.LruInReferenceIdeal.Gen.bitsLt_bf16_f32)

/-- Which block each window holds at grid point `t`. -/
theorem where_at : ∀ t : Fin cfg0.N, win0_0.index t = ![t.val, 0] ∧ win0_1.index t = ![0, 0] ∧ win0_2.index t = ![t.val, 0] :=
  (by decide +kernel : ∀ t : Fin grid0.N, _)

/-- What grid point `t` stores at `y` is the plain result at `y`'s place in the array. -/
theorem stored (c : Dev nD) (t : Fin cfg0.N) (y) :
    k0_pay1 (iblk m c 0 t) (iblk m c 1 t) y = plain (m ((c : Thread nD τ).loc main_arg0)) (m ((c : Thread nD τ).loc main_arg1)) (((cfg0.win 2).blk t).view.emb y) := by
  pointwise [k0_pay1, plain]
  blk_point [iblk, V, where_at t]

/-- After the run the output array holds the plain result. -/
theorem final (c : Dev nD) : (dats m 0 c).arrAt 2 (cfgs 0).N = plain (m ((c : Thread nD τ).loc main_arg0)) (m ((c : Thread nD τ).loc main_arg1)) := by
  refine (dats m 0 c).arrAt_eq_of_covers 2 _ (by decide +kernel) fun t _ y => ?_
  blk_simp
  rw [after0_2]
  frame_out
  exact stored m c t y

end Cert.LruInIdeal.Product

end
-- ==== Proof.GateIn.lean ====
/- In-projection, gate columns: the array the tiled product leaves is the plain product's. -/
module

public import proofs.«01_k».proof.Proof.Gen.GateInIdeal.Value
public import proofs.«01_k».proof.Proof.Gen.GateInReferenceIdeal.Run
public import Idealize.ShloMosaic.Lib.Pipeline.ValueKit

@[expose] public section

set_option maxRecDepth 16384

noncomputable section

namespace Cert.GateInIdeal.Product

open Idealize.ShloMosaic Idealize.ShloMosaic.TcCoe Idealize.ShloMosaic.StableHlo Idealize.SL.Sem
open Cert.GateInIdeal Cert.GateInIdeal.Gen

variable (m : (ℓ : Loc nD τ sig) → Buf (Elt Ideal) ℓ)

/-- The plain product. -/
abbrev plain (X0 : FVec Ideal Cert.GateInReferenceIdeal.S8192x1024 .bf16) (X1 : FVec Ideal Cert.GateInReferenceIdeal.S1024x3072 .bf16) : FVec Ideal Cert.GateInReferenceIdeal.S8192x3072 .f32 :=
  Host.dotGeneral Cert.GateInReferenceIdeal.dot_S8192x1024_S1024x3072_S8192x3072_1_0_0_1_n_n none (extf .f32 X0 Cert.GateInReferenceIdeal.Gen.bitsLt_bf16_f32) (extf .f32 X1 Cert.GateInReferenceIdeal.Gen.bitsLt_bf16_f32)

/-- Which block each window holds at grid point `t`. -/
theorem where_at : ∀ t : Fin cfg0.N, win0_0.index t = ![t.val % 8, 0] ∧ win0_1.index t = ![0, t.val / 8] ∧ win0_2.index t = ![t.val % 8, t.val / 8] :=
  (by decide +kernel : ∀ t : Fin grid0.N, _)

/-- What grid point `t` stores at `y` is the plain result at `y`'s place in the array. -/
theorem stored (c : Dev nD) (t : Fin cfg0.N) (y) :
    k0_pay1 (iblk m c 0 t) (iblk m c 1 t) y = plain (m ((c : Thread nD τ).loc main_arg0)) (m ((c : Thread nD τ).loc main_arg1)) (((cfg0.win 2).blk t).view.emb y) := by
  pointwise [k0_pay1, plain]
  blk_point [iblk, V, where_at t]

/-- After the run the output array holds the plain result. -/
theorem final (c : Dev nD) : (dats m 0 c).arrAt 2 (cfgs 0).N = plain (m ((c : Thread nD τ).loc main_arg0)) (m ((c : Thread nD τ).loc main_arg1)) := by
  refine (dats m 0 c).arrAt_eq_of_covers 2 _ (by decide +kernel) fun t _ y => ?_
  blk_simp
  rw [after0_2]
  frame_out
  exact stored m c t y

end Cert.GateInIdeal.Product

end
-- ==== Proof.OutX.lean ====
/- Gradient of the output projection's input: the array the tiled product leaves is the plain product's. -/
module

public import proofs.«01_k».proof.Proof.Gen.OutXIdeal.Value
public import proofs.«01_k».proof.Proof.Gen.OutXReferenceIdeal.Run
public import Idealize.ShloMosaic.Lib.Pipeline.ValueKit

@[expose] public section

set_option maxRecDepth 16384

noncomputable section

namespace Cert.OutXIdeal.Product

open Idealize.ShloMosaic Idealize.ShloMosaic.TcCoe Idealize.ShloMosaic.StableHlo Idealize.SL.Sem
open Cert.OutXIdeal Cert.OutXIdeal.Gen

variable (m : (ℓ : Loc nD τ sig) → Buf (Elt Ideal) ℓ)

/-- The plain gradient of the input: the cotangent against the weight's rows. -/
abbrev plain (X0 : FVec Ideal Cert.OutXReferenceIdeal.S8192x1024 .bf16) (X1 : FVec Ideal Cert.OutXReferenceIdeal.S1024x1024 .bf16) : FVec Ideal Cert.OutXReferenceIdeal.S8192x1024 .f32 :=
  Host.dotGeneral Cert.OutXReferenceIdeal.dot_S8192x1024_S1024x1024_S8192x1024_1_1_0_0_n_n none (extf .f32 X0 Cert.OutXReferenceIdeal.Gen.bitsLt_bf16_f32) (extf .f32 X1 Cert.OutXReferenceIdeal.Gen.bitsLt_bf16_f32)

/-- Which block each window holds at grid point `t`. -/
theorem where_at : ∀ t : Fin cfg0.N, win0_0.index t = ![t.val, 0] ∧ win0_1.index t = ![0, 0] ∧ win0_2.index t = ![t.val, 0] :=
  (by decide +kernel : ∀ t : Fin grid0.N, _)

/-- What grid point `t` stores at `y` is the plain result at `y`'s place in the array. -/
theorem stored (c : Dev nD) (t : Fin cfg0.N) (y) :
    k0_pay1 (iblk m c 0 t) (iblk m c 1 t) y = plain (m ((c : Thread nD τ).loc main_arg0)) (m ((c : Thread nD τ).loc main_arg1)) (((cfg0.win 2).blk t).view.emb y) := by
  pointwise [k0_pay1, plain]
  blk_point [iblk, V, where_at t]

/-- After the run the output array holds the plain result. -/
theorem final (c : Dev nD) : (dats m 0 c).arrAt 2 (cfgs 0).N = plain (m ((c : Thread nD τ).loc main_arg0)) (m ((c : Thread nD τ).loc main_arg1)) := by
  refine (dats m 0 c).arrAt_eq_of_covers 2 _ (by decide +kernel) fun t _ y => ?_
  blk_simp
  rw [after0_2]
  frame_out
  exact stored m c t y

end Cert.OutXIdeal.Product

end
-- ==== Proof.OutW.lean ====
/- Gradient of the output projection's weight: the array the tiled product leaves is the plain product's. -/
module

public import proofs.«01_k».proof.Proof.Gen.OutWIdeal.Value
public import proofs.«01_k».proof.Proof.Gen.OutWReferenceIdeal.Run
public import Idealize.ShloMosaic.Lib.Pipeline.ValueKit

@[expose] public section

set_option maxRecDepth 16384

noncomputable section

namespace Cert.OutWIdeal.Product

open Idealize.ShloMosaic Idealize.ShloMosaic.TcCoe Idealize.ShloMosaic.StableHlo Idealize.SL.Sem
open Cert.OutWIdeal Cert.OutWIdeal.Gen

variable (m : (ℓ : Loc nD τ sig) → Buf (Elt Ideal) ℓ)

/-- The plain gradient of the weight: the input's columns against the cotangent's. -/
abbrev plain (X0 : FVec Ideal Cert.OutWReferenceIdeal.S8192x1024 .bf16) (X1 : FVec Ideal Cert.OutWReferenceIdeal.S8192x1024 .bf16) : FVec Ideal Cert.OutWReferenceIdeal.S1024x1024 .f32 :=
  transpose Cert.OutWReferenceIdeal.S1024x1024 [1, 0] (Host.dotGeneral Cert.OutWReferenceIdeal.dot_S8192x1024_S8192x1024_S1024x1024_0_0_1_1_n_n none (extf .f32 X1 Cert.OutWReferenceIdeal.Gen.bitsLt_bf16_f32) (extf .f32 X0 Cert.OutWReferenceIdeal.Gen.bitsLt_bf16_f32)) Cert.OutWReferenceIdeal.Gen.transposes_S1024x1024_S1024x1024_1_0

/-- Which block each window holds at grid point `t`. -/
theorem where_at : ∀ t : Fin cfg0.N, win0_0.index t = ![t.val % 4, 0] ∧ win0_1.index t = ![t.val % 4, 0] ∧ win0_2.index t = ![0, 0] :=
  (by decide +kernel : ∀ t : Fin grid0.N, _)

/-- One slice's product at an index: a sum over the slice. -/
theorem slice_at (x : FVec Ideal S2048x1024 .bf16) (w : FVec Ideal S2048x1024 .bf16) (j : S1024x1024.Idx) :
    (k0_pay1 (F := Ideal) x w j : EReal) = ∑ k : Fin 2048, (x (ix2 k (j 0)) : EReal) * w (ix2 k (j 1)) := by
  pointwise [k0_pay1]

/-- A later slice adds its product to what is there. -/
theorem later_at (x : FVec Ideal S2048x1024 .bf16) (w : FVec Ideal S2048x1024 .bf16) (v : FVec Ideal S1024x1024 .f32) (j : S1024x1024.Idx) :
    k0_pay2 x w v j = v j + k0_pay1 x w j := by
  pointwise [k0_pay2, k0_pay1]

/-- The plain result at an index: a sum over the whole contracted axis. -/
theorem plain_at (X0 : FVec Ideal Cert.OutWReferenceIdeal.S8192x1024 .bf16) (X1 : FVec Ideal Cert.OutWReferenceIdeal.S8192x1024 .bf16) (j : Cert.OutWReferenceIdeal.S1024x1024.Idx) :
    (plain X0 X1 j : EReal) = ∑ l : Fin 8192, (X0 (ix2 l (j 0)) : EReal) * X1 (ix2 l (j 1)) := by
  pointwise [plain]
  exact Finset.sum_congr rfl fun l _ => mul_comm _ _

/-- After the run the output array holds the plain result. -/
theorem final (c : Dev nD) : (dats m 0 c).arrAt 2 (cfgs 0).N = plain (m ((c : Thread nD τ).loc main_arg0)) (m ((c : Thread nD τ).loc main_arg1)) := by
  refine (dats m 0 c).arrAt_eq_of_covers 2 _ (by decide +kernel) fun t hf y => ?_
  blk_simp
  rw [after0_2, Pipeline.eq_sum_fin_of_reset_step_apply_of_flush (fun n h => outsAt0 m c n h) 4 (fun _ => 0)
    (fun p j => ∑ k : Fin 2048, (show FVec Ideal S2048x1024 .bf16 from iblk m c 0 p) (ix2 k (j 0)) * (show FVec Ideal S2048x1024 .bf16 from iblk m c 1 p) (ix2 k (j 1)))
    (fun t h j => by
      rw [outsAt0_A m c t h (by have b := lt_of_lt_of_eq t.isLt (show cfg0.N = 4 from N_0); omega)]; frame_out
      exact (slice_at _ _ j).trans (zero_add _).symm)
    (fun t h j => by
      rw [outsAt0_B m c t h (by omega)]; frame_out
      exact (later_at _ _ _ j).trans (congrArg _ (slice_at _ _ j)))
    t ((flush0_2 t).mp hf) _, zero_add, plain_at]
  refine Fin.sum_mul_add_congr fun s k hl => ?_
  blk_point [iblk, V, where_at t, where_at ⟨_, Pipeline.run_point_lt_of_flush t ((flush0_2 t).mp hf) s⟩]

end Cert.OutWIdeal.Product

end
-- ==== Proof.Out.lean ====
/- Output projection: the array the tiled product leaves is the plain product's. -/
module

public import proofs.«01_k».proof.Proof.Gen.OutIdeal.Value
public import proofs.«01_k».proof.Proof.Gen.OutReferenceIdeal.Run
public import Idealize.ShloMosaic.Lib.Pipeline.ValueKit

@[expose] public section

set_option maxRecDepth 16384

noncomputable section

namespace Cert.OutIdeal.Product

open Idealize.ShloMosaic Idealize.ShloMosaic.TcCoe Idealize.ShloMosaic.StableHlo Idealize.SL.Sem
open Cert.OutIdeal Cert.OutIdeal.Gen

variable (m : (ℓ : Loc nD τ sig) → Buf (Elt Ideal) ℓ)

/-- The plain product. -/
abbrev plain (X0 : FVec Ideal Cert.OutReferenceIdeal.S8192x1024 .bf16) (X1 : FVec Ideal Cert.OutReferenceIdeal.S1024x1024 .bf16) : FVec Ideal Cert.OutReferenceIdeal.S8192x1024 .f32 :=
  Host.dotGeneral Cert.OutReferenceIdeal.dot_S8192x1024_S1024x1024_S8192x1024_1_0_0_1_n_n none (extf .f32 X0 Cert.OutReferenceIdeal.Gen.bitsLt_bf16_f32) (extf .f32 X1 Cert.OutReferenceIdeal.Gen.bitsLt_bf16_f32)

/-- Which block each window holds at grid point `t`. -/
theorem where_at : ∀ t : Fin cfg0.N, win0_0.index t = ![t.val, 0] ∧ win0_1.index t = ![0, 0] ∧ win0_2.index t = ![t.val, 0] :=
  (by decide +kernel : ∀ t : Fin grid0.N, _)

/-- What grid point `t` stores at `y` is the plain result at `y`'s place in the array. -/
theorem stored (c : Dev nD) (t : Fin cfg0.N) (y) :
    k0_pay1 (iblk m c 0 t) (iblk m c 1 t) y = plain (m ((c : Thread nD τ).loc main_arg0)) (m ((c : Thread nD τ).loc main_arg1)) (((cfg0.win 2).blk t).view.emb y) := by
  pointwise [k0_pay1, plain]
  blk_point [iblk, V, where_at t]

/-- After the run the output array holds the plain result. -/
theorem final (c : Dev nD) : (dats m 0 c).arrAt 2 (cfgs 0).N = plain (m ((c : Thread nD τ).loc main_arg0)) (m ((c : Thread nD τ).loc main_arg1)) := by
  refine (dats m 0 c).arrAt_eq_of_covers 2 _ (by decide +kernel) fun t _ y => ?_
  blk_simp
  rw [after0_2]
  frame_out
  exact stored m c t y

end Cert.OutIdeal.Product

end
-- ==== Proof.Gates.lean ====
/- The sigmoid gates: half a hyperbolic tangent plus a half is the logistic function, and so is the derivative's
   product form, at every extended real. -/
module

public import Idealize.ShloMosaic.Lib.Pipeline.ValueKit

@[expose] public section

noncomputable section

namespace Cert.Gates

open Idealize.ShloMosaic

/-- The single-precision word of one half denotes one half. -/
theorem half_word : Ideal.ofBits .f32 0x3F000000#32 = ((1 / 2 : ℝ) : EReal) := by
  simp [Ideal.ofBits, Ideal.ieee, ← EReal.coe_mul]
  norm_num

/-- On the reals the logistic function is half of one plus the hyperbolic tangent of half the argument. -/
theorem real_gate (r : ℝ) : (1 / 2 : ℝ) * (Real.tanh (1 / 2 * r) + 1) = (1 + Real.exp (-r))⁻¹ := by
  have h1 : 0 < Real.exp (1 / 2 * r) := Real.exp_pos _
  have h2 : Real.exp (-r) = Real.exp (-(1 / 2 * r)) * Real.exp (-(1 / 2 * r)) := by
    rw [← Real.exp_add]; congr 1; ring
  rw [Real.tanh_eq_sinh_div_cosh, Real.sinh_eq, Real.cosh_eq, h2, Real.exp_neg]
  field_simp
  ring

/-- The hyperbolic tangent takes a real value at every extended real. -/
theorem tanh_real (x : EReal) : ∃ t : ℝ, Ideal.tanh x = (t : EReal) := by
  induction x with
  | bot => exact ⟨-1, by simp⟩
  | top => exact ⟨1, by simp⟩
  | coe r => exact ⟨Real.tanh r, rfl⟩

/-- Half of the hyperbolic tangent of half the argument plus one is the logistic function. -/
theorem gate_eq (x : EReal) :
    Ideal.ofBits .f32 0x3F000000#32 * (Ideal.tanh (Ideal.ofBits .f32 0x3F000000#32 * x) + 1) = Ideal.logistic x := by
  rw [half_word]
  induction x with
  | bot =>
    rw [EReal.coe_mul_bot_of_pos (by norm_num), Ideal.tanh_bot, Ideal.logistic_bot]
    have h : (-1 : EReal) + 1 = 0 := by
      rw [← EReal.coe_one, ← EReal.coe_neg, ← EReal.coe_add]
      norm_num
    rw [h, mul_zero]
  | top =>
    rw [EReal.coe_mul_top_of_pos (by norm_num), Ideal.tanh_top, Ideal.logistic_top, ← EReal.coe_one, ← EReal.coe_add, ← EReal.coe_mul]
    norm_num
  | coe r =>
    rw [← EReal.coe_mul, Ideal.tanh_coe, Ideal.logistic_coe, ← EReal.coe_one, ← EReal.coe_add, ← EReal.coe_mul, real_gate]

/-- The logistic function spelt with its division. -/
theorem gate_spelt (x : EReal) : Ideal.div 1 (1 + Ideal.exp (-x)) = Ideal.logistic x := rfl

/-- The derivative of the gate as a product of the hyperbolic tangent, against the logistic function's own. -/
theorem slope_eq (x p : EReal) :
    Ideal.ofBits .f32 0x3F000000#32 * (Ideal.ofBits .f32 0x3F000000#32 * p
      * ((1 + Ideal.tanh (Ideal.ofBits .f32 0x3F000000#32 * x)) * (1 - Ideal.tanh (Ideal.ofBits .f32 0x3F000000#32 * x))))
      = p * (Ideal.logistic x * (1 - Ideal.logistic x)) := by
  rw [← gate_eq x, half_word]
  obtain ⟨t, ht⟩ := tanh_real (((1 / 2 : ℝ) : EReal) * x)
  rw [ht, mul_comm (((1 / 2 : ℝ) : EReal)) p, mul_assoc, mul_left_comm]
  congr 1
  rw [← EReal.coe_one, ← EReal.coe_add, ← EReal.coe_sub, ← EReal.coe_add, ← EReal.coe_mul, ← EReal.coe_mul,
    ← EReal.coe_mul, ← EReal.coe_mul, ← EReal.coe_sub, ← EReal.coe_mul]
  congr 1
  ring

end Cert.Gates

end
-- ==== Proof.MergeX.lean ====
/- Gated merge of the three branches, backward: what the launch leaves is the plain gradients, of the branches, of the
   gates' logits and of the three projections' weights. -/
module

public import proofs.«01_k».proof.Proof.Gates
public import proofs.«01_k».proof.Proof.Gen.MergeXIdeal.Value
public import proofs.«01_k».proof.Proof.Gen.MergeXReferenceIdeal.Run
public import Idealize.ShloMosaic.Lib.Pipeline.ValueKit

@[expose] public section

set_option maxRecDepth 16384

noncomputable section

namespace Cert.MergeXIdeal.Product

open Idealize.ShloMosaic Idealize.ShloMosaic.TcCoe Idealize.ShloMosaic.StableHlo Idealize.SL.Sem
open Cert.MergeXIdeal Cert.MergeXIdeal.Gen

variable (m : (ℓ : Loc nD τ sig) → Buf (Elt Ideal) ℓ)

/-- Which block each window holds at grid point `t`: the row tiles run from the last to the first, the weights and
    their gradients are whole. -/
theorem where_at : ∀ t : Fin cfg0.N, win0_0.index t = ![15 - t.val, 0] ∧ win0_1.index t = ![15 - t.val, 0] ∧ win0_2.index t = ![15 - t.val, 0] ∧ win0_3.index t = ![15 - t.val, 0] ∧ win0_4.index t = ![0, 0] ∧ win0_5.index t = ![0, 0] ∧ win0_6.index t = ![0, 0] ∧ win0_7.index t = ![15 - t.val, 0] ∧ win0_8.index t = ![15 - t.val, 0] ∧ win0_9.index t = ![15 - t.val, 0] ∧ win0_10.index t = ![15 - t.val, 0] ∧ win0_11.index t = ![15 - t.val, 0] ∧ win0_12.index t = ![0, 0] ∧ win0_13.index t = ![0, 0] ∧ win0_14.index t = ![0, 0] :=
  (by decide +kernel : ∀ t : Fin grid0.N, _)

/-- The plain gradient of the first branch. -/
abbrev branch_a (X0 : FVec Ideal Cert.MergeXReferenceIdeal.S8192x512 .f32) (X1 : FVec Ideal Cert.MergeXReferenceIdeal.S8192x512 .f32) (X2 : FVec Ideal Cert.MergeXReferenceIdeal.S8192x512 .f32) (X3 : FVec Ideal Cert.MergeXReferenceIdeal.S8192x3072 .f32) (X4 : FVec Ideal Cert.MergeXReferenceIdeal.S512x1024 .bf16) (X5 : FVec Ideal Cert.MergeXReferenceIdeal.S512x1024 .bf16) (X6 : FVec Ideal Cert.MergeXReferenceIdeal.S512x1024 .bf16) (X7 : FVec Ideal Cert.MergeXReferenceIdeal.S8192x1024 .f32) : FVec Ideal Cert.MergeXReferenceIdeal.S8192x512 .f32 :=
  Host.dotGeneral Cert.MergeXReferenceIdeal.dot_S8192x1024_S512x1024_S8192x512_1_1_0_0_n_n none (mulf (extractStridedSlice Cert.MergeXReferenceIdeal.S8192x1024 ![0, 0] (Host.divf (broadcastInDim Cert.MergeXReferenceIdeal.S8192x3072 ![] Cert.MergeXReferenceIdeal.Gen.bcast_S_S8192x3072 (constant Cert.MergeXReferenceIdeal.S_ .f32 0x3F800000#32)) (addf (broadcastInDim Cert.MergeXReferenceIdeal.S8192x3072 ![] Cert.MergeXReferenceIdeal.Gen.bcast_S_S8192x3072 (constant Cert.MergeXReferenceIdeal.S_ .f32 0x3F800000#32)) (Host.exp (Host.negf X3)))) Cert.MergeXReferenceIdeal.Gen.slices_S8192x3072_S8192x1024_0_0) (shapeCast _ X7 Cert.MergeXReferenceIdeal.Gen.shapeCasts_S8192x1024_S8192x1024)) (extf .f32 X4 Cert.MergeXReferenceIdeal.Gen.bitsLt_bf16_f32)

/-- What grid point `t` stores at `y` is the plain gradient of the first branch at `y`'s place in the array. -/
theorem stored_branch_a (c : Dev nD) (t : Fin cfg0.N) (y) :
    k0_pay28 (k0_pay7 (iblk m c 4 t)) (k0_pay13 (iblk m c 3 t)) (iblk m c 7 t) y = branch_a (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (((cfg0.win 8).blk t).view.emb y) := by
  pointwise [k0_pay28, k0_pay27, k0_pay19, k0_pay7, k0_pay13, k0_pay12, k0_pay10, branch_a]
  simp only [Cert.Gates.gate_eq, Cert.Gates.gate_spelt]
  blk_point [iblk, V, where_at t]

/-- After the run the output array holds the plain gradient of the first branch. -/
theorem final_branch_a (c : Dev nD) : (dats m 0 c).arrAt 8 (cfgs 0).N = branch_a (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  refine (dats m 0 c).arrAt_eq_of_covers 8 _ (by decide +kernel) fun t _ y => ?_
  blk_simp
  rw [after0_8]
  by_cases h : t.val % 16 = 0
  · rw [outsAt0_A m c t h]
    frame_out
    exact stored_branch_a m c t y
  · rw [outsAt0_B m c t h]
    frame_out
    exact stored_branch_a m c t y

/-- The plain gradient of the second branch. -/
abbrev branch_b (X0 : FVec Ideal Cert.MergeXReferenceIdeal.S8192x512 .f32) (X1 : FVec Ideal Cert.MergeXReferenceIdeal.S8192x512 .f32) (X2 : FVec Ideal Cert.MergeXReferenceIdeal.S8192x512 .f32) (X3 : FVec Ideal Cert.MergeXReferenceIdeal.S8192x3072 .f32) (X4 : FVec Ideal Cert.MergeXReferenceIdeal.S512x1024 .bf16) (X5 : FVec Ideal Cert.MergeXReferenceIdeal.S512x1024 .bf16) (X6 : FVec Ideal Cert.MergeXReferenceIdeal.S512x1024 .bf16) (X7 : FVec Ideal Cert.MergeXReferenceIdeal.S8192x1024 .f32) : FVec Ideal Cert.MergeXReferenceIdeal.S8192x512 .f32 :=
  Host.dotGeneral Cert.MergeXReferenceIdeal.dot_S8192x1024_S512x1024_S8192x512_1_1_0_0_n_n none (mulf (extractStridedSlice Cert.MergeXReferenceIdeal.S8192x1024 ![0, 1024] (Host.divf (broadcastInDim Cert.MergeXReferenceIdeal.S8192x3072 ![] Cert.MergeXReferenceIdeal.Gen.bcast_S_S8192x3072 (constant Cert.MergeXReferenceIdeal.S_ .f32 0x3F800000#32)) (addf (broadcastInDim Cert.MergeXReferenceIdeal.S8192x3072 ![] Cert.MergeXReferenceIdeal.Gen.bcast_S_S8192x3072 (constant Cert.MergeXReferenceIdeal.S_ .f32 0x3F800000#32)) (Host.exp (Host.negf X3)))) Cert.MergeXReferenceIdeal.Gen.slices_S8192x3072_S8192x1024_0_1024) (shapeCast _ X7 Cert.MergeXReferenceIdeal.Gen.shapeCasts_S8192x1024_S8192x1024)) (extf .f32 X5 Cert.MergeXReferenceIdeal.Gen.bitsLt_bf16_f32)

/-- What grid point `t` stores at `y` is the plain gradient of the second branch at `y`'s place in the array. -/
theorem stored_branch_b (c : Dev nD) (t : Fin cfg0.N) (y) :
    k0_pay25 (k0_pay8 (iblk m c 5 t)) (k0_pay14 (iblk m c 3 t)) (iblk m c 7 t) y = branch_b (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (((cfg0.win 9).blk t).view.emb y) := by
  pointwise [k0_pay25, k0_pay24, k0_pay19, k0_pay8, k0_pay14, k0_pay12, k0_pay10, branch_b]
  simp only [Cert.Gates.gate_eq, Cert.Gates.gate_spelt]
  blk_point [iblk, V, where_at t]

/-- After the run the output array holds the plain gradient of the second branch. -/
theorem final_branch_b (c : Dev nD) : (dats m 0 c).arrAt 9 (cfgs 0).N = branch_b (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  refine (dats m 0 c).arrAt_eq_of_covers 9 _ (by decide +kernel) fun t _ y => ?_
  blk_simp
  rw [after0_9]
  by_cases h : t.val % 16 = 0
  · rw [outsAt0_A m c t h]
    frame_out
    exact stored_branch_b m c t y
  · rw [outsAt0_B m c t h]
    frame_out
    exact stored_branch_b m c t y

/-- The plain gradient of the third branch. -/
abbrev branch_c (X0 : FVec Ideal Cert.MergeXReferenceIdeal.S8192x512 .f32) (X1 : FVec Ideal Cert.MergeXReferenceIdeal.S8192x512 .f32) (X2 : FVec Ideal Cert.MergeXReferenceIdeal.S8192x512 .f32) (X3 : FVec Ideal Cert.MergeXReferenceIdeal.S8192x3072 .f32) (X4 : FVec Ideal Cert.MergeXReferenceIdeal.S512x1024 .bf16) (X5 : FVec Ideal Cert.MergeXReferenceIdeal.S512x1024 .bf16) (X6 : FVec Ideal Cert.MergeXReferenceIdeal.S512x1024 .bf16) (X7 : FVec Ideal Cert.MergeXReferenceIdeal.S8192x1024 .f32) : FVec Ideal Cert.MergeXReferenceIdeal.S8192x512 .f32 :=
  Host.dotGeneral Cert.MergeXReferenceIdeal.dot_S8192x1024_S512x1024_S8192x512_1_1_0_0_n_n none (mulf (extractStridedSlice Cert.MergeXReferenceIdeal.S8192x1024 ![0, 2048] (Host.divf (broadcastInDim Cert.MergeXReferenceIdeal.S8192x3072 ![] Cert.MergeXReferenceIdeal.Gen.bcast_S_S8192x3072 (constant Cert.MergeXReferenceIdeal.S_ .f32 0x3F800000#32)) (addf (broadcastInDim Cert.MergeXReferenceIdeal.S8192x3072 ![] Cert.MergeXReferenceIdeal.Gen.bcast_S_S8192x3072 (constant Cert.MergeXReferenceIdeal.S_ .f32 0x3F800000#32)) (Host.exp (Host.negf X3)))) Cert.MergeXReferenceIdeal.Gen.slices_S8192x3072_S8192x1024_0_2048) (shapeCast _ X7 Cert.MergeXReferenceIdeal.Gen.shapeCasts_S8192x1024_S8192x1024)) (extf .f32 X6 Cert.MergeXReferenceIdeal.Gen.bitsLt_bf16_f32)

/-- What grid point `t` stores at `y` is the plain gradient of the third branch at `y`'s place in the array. -/
theorem stored_branch_c (c : Dev nD) (t : Fin cfg0.N) (y) :
    k0_pay22 (k0_pay9 (iblk m c 6 t)) (k0_pay15 (iblk m c 3 t)) (iblk m c 7 t) y = branch_c (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (((cfg0.win 10).blk t).view.emb y) := by
  pointwise [k0_pay22, k0_pay21, k0_pay20, k0_pay9, k0_pay15, k0_pay12, k0_pay10, branch_c]
  simp only [Cert.Gates.gate_eq, Cert.Gates.gate_spelt]
  blk_point [iblk, V, where_at t]

/-- After the run the output array holds the plain gradient of the third branch. -/
theorem final_branch_c (c : Dev nD) : (dats m 0 c).arrAt 10 (cfgs 0).N = branch_c (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  refine (dats m 0 c).arrAt_eq_of_covers 10 _ (by decide +kernel) fun t _ y => ?_
  blk_simp
  rw [after0_10]
  by_cases h : t.val % 16 = 0
  · rw [outsAt0_A m c t h]
    frame_out
    exact stored_branch_c m c t y
  · rw [outsAt0_B m c t h]
    frame_out
    exact stored_branch_c m c t y

/-- The plain gradient of the gates' logits. -/
abbrev logits (X0 : FVec Ideal Cert.MergeXReferenceIdeal.S8192x512 .f32) (X1 : FVec Ideal Cert.MergeXReferenceIdeal.S8192x512 .f32) (X2 : FVec Ideal Cert.MergeXReferenceIdeal.S8192x512 .f32) (X3 : FVec Ideal Cert.MergeXReferenceIdeal.S8192x3072 .f32) (X4 : FVec Ideal Cert.MergeXReferenceIdeal.S512x1024 .bf16) (X5 : FVec Ideal Cert.MergeXReferenceIdeal.S512x1024 .bf16) (X6 : FVec Ideal Cert.MergeXReferenceIdeal.S512x1024 .bf16) (X7 : FVec Ideal Cert.MergeXReferenceIdeal.S8192x1024 .f32) : FVec Ideal Cert.MergeXReferenceIdeal.S8192x3072 .bf16 :=
  truncf .bf16 (mulf ((concatenate Cert.MergeXReferenceIdeal.S8192x3072 1 [⟨Cert.MergeXReferenceIdeal.S8192x1024, ((mulf (shapeCast _ X7 Cert.MergeXReferenceIdeal.Gen.shapeCasts_S8192x1024_S8192x1024) (Host.dotGeneral Cert.MergeXReferenceIdeal.dot_S8192x512_S512x1024_S8192x1024_1_0_0_1_n_n none X0 (extf .f32 X4 Cert.MergeXReferenceIdeal.Gen.bitsLt_bf16_f32))) : (⟨Cert.MergeXReferenceIdeal.S8192x1024, .f32⟩ : BufTy).Contents (Elt Ideal))⟩, ⟨Cert.MergeXReferenceIdeal.S8192x1024, ((mulf (shapeCast _ X7 Cert.MergeXReferenceIdeal.Gen.shapeCasts_S8192x1024_S8192x1024) (Host.dotGeneral Cert.MergeXReferenceIdeal.dot_S8192x512_S512x1024_S8192x1024_1_0_0_1_n_n none X1 (extf .f32 X5 Cert.MergeXReferenceIdeal.Gen.bitsLt_bf16_f32))) : (⟨Cert.MergeXReferenceIdeal.S8192x1024, .f32⟩ : BufTy).Contents (Elt Ideal))⟩, ⟨Cert.MergeXReferenceIdeal.S8192x1024, ((mulf (shapeCast _ X7 Cert.MergeXReferenceIdeal.Gen.shapeCasts_S8192x1024_S8192x1024) (Host.dotGeneral Cert.MergeXReferenceIdeal.dot_S8192x512_S512x1024_S8192x1024_1_0_0_1_n_n none X2 (extf .f32 X6 Cert.MergeXReferenceIdeal.Gen.bitsLt_bf16_f32))) : (⟨Cert.MergeXReferenceIdeal.S8192x1024, .f32⟩ : BufTy).Contents (Elt Ideal))⟩] Cert.MergeXReferenceIdeal.Gen.concatenates_S8192x1024_S8192x1024_S8192x1024_S8192x3072_d1 : (⟨Cert.MergeXReferenceIdeal.S8192x3072, .f32⟩ : BufTy).Contents (Elt Ideal))) (mulf (Host.divf (broadcastInDim Cert.MergeXReferenceIdeal.S8192x3072 ![] Cert.MergeXReferenceIdeal.Gen.bcast_S_S8192x3072 (constant Cert.MergeXReferenceIdeal.S_ .f32 0x3F800000#32)) (addf (broadcastInDim Cert.MergeXReferenceIdeal.S8192x3072 ![] Cert.MergeXReferenceIdeal.Gen.bcast_S_S8192x3072 (constant Cert.MergeXReferenceIdeal.S_ .f32 0x3F800000#32)) (Host.exp (Host.negf X3)))) (subf (broadcastInDim Cert.MergeXReferenceIdeal.S8192x3072 ![] Cert.MergeXReferenceIdeal.Gen.bcast_S_S8192x3072 (constant Cert.MergeXReferenceIdeal.S_ .f32 0x3F800000#32)) (Host.divf (broadcastInDim Cert.MergeXReferenceIdeal.S8192x3072 ![] Cert.MergeXReferenceIdeal.Gen.bcast_S_S8192x3072 (constant Cert.MergeXReferenceIdeal.S_ .f32 0x3F800000#32)) (addf (broadcastInDim Cert.MergeXReferenceIdeal.S8192x3072 ![] Cert.MergeXReferenceIdeal.Gen.bcast_S_S8192x3072 (constant Cert.MergeXReferenceIdeal.S_ .f32 0x3F800000#32)) (Host.exp (Host.negf X3))))))) Cert.MergeXReferenceIdeal.Gen.bitsLt_bf16_f32

/-- What grid point `t` stores at `y` is the plain gradient of the gates' logits at `y`'s place in the array. -/
theorem stored_logits (c : Dev nD) (t : Fin cfg0.N) (y) :
    k0_pay30 (k0_pay9 (iblk m c 6 t)) (k0_pay11 (iblk m c 3 t)) (k0_pay16 (iblk m c 0 t) (iblk m c 4 t)) (k0_pay17 (iblk m c 1 t) (iblk m c 5 t)) (k0_pay18 (iblk m c 2 t)) (iblk m c 7 t) y = logits (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (((cfg0.win 11).blk t).view.emb y) := by
  have z0 : (((cfg0.win 11).blk t).view.emb y 0).val = (15 - t.val) * 512 + (y 0).val := by blk_simp [where_at t]
  have z1 : (((cfg0.win 11).blk t).view.emb y 1).val = (y 1).val := by blk_simp [where_at t]
  generalize ((cfg0.win 11).blk t).view.emb y = z at z0 z1 ⊢
  pointwise [k0_pay30, k0_pay9, k0_pay11, k0_pay10, k0_pay16, k0_pay17, k0_pay18, k0_pay7, k0_pay8, k0_pay19, k0_pay20, logits]
  simp only [Cert.Gates.slope_eq, Cert.Gates.gate_spelt, z1]
  blk_point [iblk, V, where_at t]
  all_goals (exfalso; omega)

/-- After the run the output array holds the plain gradient of the gates' logits. -/
theorem final_logits (c : Dev nD) : (dats m 0 c).arrAt 11 (cfgs 0).N = logits (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  refine (dats m 0 c).arrAt_eq_of_covers 11 _ (by decide +kernel) fun t _ y => ?_
  blk_simp
  rw [after0_11]
  by_cases h : t.val % 16 = 0
  · rw [outsAt0_A m c t h]
    frame_out
    exact stored_logits m c t y
  · rw [outsAt0_B m c t h]
    frame_out
    exact stored_logits m c t y

/-- The plain gradient of the first projection's weight. -/
abbrev weight_a (X0 : FVec Ideal Cert.MergeXReferenceIdeal.S8192x512 .f32) (X1 : FVec Ideal Cert.MergeXReferenceIdeal.S8192x512 .f32) (X2 : FVec Ideal Cert.MergeXReferenceIdeal.S8192x512 .f32) (X3 : FVec Ideal Cert.MergeXReferenceIdeal.S8192x3072 .f32) (X4 : FVec Ideal Cert.MergeXReferenceIdeal.S512x1024 .bf16) (X5 : FVec Ideal Cert.MergeXReferenceIdeal.S512x1024 .bf16) (X6 : FVec Ideal Cert.MergeXReferenceIdeal.S512x1024 .bf16) (X7 : FVec Ideal Cert.MergeXReferenceIdeal.S8192x1024 .f32) : FVec Ideal Cert.MergeXReferenceIdeal.S512x1024 .f32 :=
  transpose Cert.MergeXReferenceIdeal.S512x1024 [1, 0] (Host.dotGeneral Cert.MergeXReferenceIdeal.dot_S8192x1024_S8192x512_S1024x512_0_0_1_1_n_n none (mulf (extractStridedSlice Cert.MergeXReferenceIdeal.S8192x1024 ![0, 0] (Host.divf (broadcastInDim Cert.MergeXReferenceIdeal.S8192x3072 ![] Cert.MergeXReferenceIdeal.Gen.bcast_S_S8192x3072 (constant Cert.MergeXReferenceIdeal.S_ .f32 0x3F800000#32)) (addf (broadcastInDim Cert.MergeXReferenceIdeal.S8192x3072 ![] Cert.MergeXReferenceIdeal.Gen.bcast_S_S8192x3072 (constant Cert.MergeXReferenceIdeal.S_ .f32 0x3F800000#32)) (Host.exp (Host.negf X3)))) Cert.MergeXReferenceIdeal.Gen.slices_S8192x3072_S8192x1024_0_0) (shapeCast _ X7 Cert.MergeXReferenceIdeal.Gen.shapeCasts_S8192x1024_S8192x1024)) X0) Cert.MergeXReferenceIdeal.Gen.transposes_S1024x512_S512x1024_1_0

/-- The first weight's gradient from one tile of rows, at an index: a sum over the tile. -/
theorem slice_a (x : FVec Ideal S512x512 .f32) (g : FVec Ideal S512x3072 .f32) (d : FVec Ideal S512x1024 .f32) (j : S512x1024.Idx) :
    (k0_pay29 (F := Ideal) x (k0_pay13 g) d j : EReal)
      = ∑ k : Fin 512, (x (ix2 k (j 0)) : EReal) * (Ideal.logistic (g (ix2 k (⟨0 + (j 1).val, lt_of_lt_of_le (Nat.add_lt_add_left (j 1).isLt 0) (by decide)⟩ : Fin 3072))) * d (ix2 k (j 1))) := by
  pointwise [k0_pay29, k0_pay27, k0_pay19, k0_pay13, k0_pay12, k0_pay10]
  simp only [Cert.Gates.gate_eq]

/-- A tile of rows adds its gradient to what is there. -/
theorem later_a (p v : FVec Ideal S512x1024 .f32) (j : S512x1024.Idx) : k0_pay1 p v j = v j + p j := by
  pointwise [k0_pay1]

/-- The first tile adds its gradient to zero. -/
theorem first_a (p : FVec Ideal S512x1024 .f32) (j : S512x1024.Idx) : k0_pay1 p (k0_pay4 (F := Ideal)) j = 0 + p j := by
  pointwise [k0_pay1, k0_pay4]

/-- The plain gradient of the first weight at an index: a sum over all the rows. -/
theorem plain_a (X0 : FVec Ideal Cert.MergeXReferenceIdeal.S8192x512 .f32) (X1 : FVec Ideal Cert.MergeXReferenceIdeal.S8192x512 .f32) (X2 : FVec Ideal Cert.MergeXReferenceIdeal.S8192x512 .f32) (X3 : FVec Ideal Cert.MergeXReferenceIdeal.S8192x3072 .f32) (X4 : FVec Ideal Cert.MergeXReferenceIdeal.S512x1024 .bf16) (X5 : FVec Ideal Cert.MergeXReferenceIdeal.S512x1024 .bf16) (X6 : FVec Ideal Cert.MergeXReferenceIdeal.S512x1024 .bf16) (X7 : FVec Ideal Cert.MergeXReferenceIdeal.S8192x1024 .f32) (j : Cert.MergeXReferenceIdeal.S512x1024.Idx) :
    (weight_a X0 X1 X2 X3 X4 X5 X6 X7 j : EReal)
      = ∑ l : Fin 8192, (X0 (ix2 l (j 0)) : EReal) * (Ideal.logistic (X3 (ix2 l (⟨0 + (j 1).val, lt_of_lt_of_le (Nat.add_lt_add_left (j 1).isLt 0) (by decide)⟩ : Fin 3072))) * X7 (ix2 l (j 1))) := by
  pointwise [weight_a]
  simp only [Cert.Gates.gate_spelt]
  exact Finset.sum_congr rfl fun l _ => mul_comm _ _

/-- After the run the output array holds the plain gradient of the first weight. -/
theorem final_weight_a (c : Dev nD) : (dats m 0 c).arrAt 12 (cfgs 0).N = weight_a (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  refine (dats m 0 c).arrAt_eq_of_covers 12 _ (by decide +kernel) fun t hf y => ?_
  blk_simp
  rw [after0_12, Pipeline.eq_sum_fin_of_reset_step_apply_of_flush (fun n h => (outsAt0 m c n h).2.2.2.2.1) 16 (fun _ => 0)
    (fun p j => ∑ k : Fin 512, (show FVec Ideal S512x512 .f32 from iblk m c 0 p) (ix2 k (j 0)) * (Ideal.logistic ((show FVec Ideal S512x3072 .f32 from iblk m c 3 p) (ix2 k (⟨0 + (j 1).val, lt_of_lt_of_le (Nat.add_lt_add_left (j 1).isLt 0) (by decide)⟩ : Fin 3072))) * (show FVec Ideal S512x1024 .f32 from iblk m c 7 p) (ix2 k (j 1))))
    (fun t h j => by
      have b := lt_of_lt_of_eq t.isLt (show cfg0.N = 16 from N_0)
      rw [outsAt0_A m c t (by omega)]; frame_out
      exact (first_a _ _).trans (congrArg _ (slice_a _ _ _ j)))
    (fun t h j => by
      rw [outsAt0_B m c t (by omega)]; frame_out
      exact (later_a _ _ j).trans (congrArg _ (slice_a _ _ _ j)))
    t ((flush0_12 t).mp hf) _, zero_add, plain_a]
  refine Eq.trans (α := EReal) (Equiv.sum_comp Fin.revPerm _).symm ?_
  refine Fin.sum_mul_add_congr fun s k hl => ?_
  blk_point [iblk, V, where_at, Fin.revPerm_apply, Fin.val_rev]

/-- The plain gradient of the second projection's weight. -/
abbrev weight_b (X0 : FVec Ideal Cert.MergeXReferenceIdeal.S8192x512 .f32) (X1 : FVec Ideal Cert.MergeXReferenceIdeal.S8192x512 .f32) (X2 : FVec Ideal Cert.MergeXReferenceIdeal.S8192x512 .f32) (X3 : FVec Ideal Cert.MergeXReferenceIdeal.S8192x3072 .f32) (X4 : FVec Ideal Cert.MergeXReferenceIdeal.S512x1024 .bf16) (X5 : FVec Ideal Cert.MergeXReferenceIdeal.S512x1024 .bf16) (X6 : FVec Ideal Cert.MergeXReferenceIdeal.S512x1024 .bf16) (X7 : FVec Ideal Cert.MergeXReferenceIdeal.S8192x1024 .f32) : FVec Ideal Cert.MergeXReferenceIdeal.S512x1024 .f32 :=
  transpose Cert.MergeXReferenceIdeal.S512x1024 [1, 0] (Host.dotGeneral Cert.MergeXReferenceIdeal.dot_S8192x1024_S8192x512_S1024x512_0_0_1_1_n_n none (mulf (extractStridedSlice Cert.MergeXReferenceIdeal.S8192x1024 ![0, 1024] (Host.divf (broadcastInDim Cert.MergeXReferenceIdeal.S8192x3072 ![] Cert.MergeXReferenceIdeal.Gen.bcast_S_S8192x3072 (constant Cert.MergeXReferenceIdeal.S_ .f32 0x3F800000#32)) (addf (broadcastInDim Cert.MergeXReferenceIdeal.S8192x3072 ![] Cert.MergeXReferenceIdeal.Gen.bcast_S_S8192x3072 (constant Cert.MergeXReferenceIdeal.S_ .f32 0x3F800000#32)) (Host.exp (Host.negf X3)))) Cert.MergeXReferenceIdeal.Gen.slices_S8192x3072_S8192x1024_0_1024) (shapeCast _ X7 Cert.MergeXReferenceIdeal.Gen.shapeCasts_S8192x1024_S8192x1024)) X1) Cert.MergeXReferenceIdeal.Gen.transposes_S1024x512_S512x1024_1_0

/-- The second weight's gradient from one tile of rows, at an index: a sum over the tile. -/
theorem slice_b (x : FVec Ideal S512x512 .f32) (g : FVec Ideal S512x3072 .f32) (d : FVec Ideal S512x1024 .f32) (j : S512x1024.Idx) :
    (k0_pay26 (F := Ideal) x (k0_pay14 g) d j : EReal)
      = ∑ k : Fin 512, (x (ix2 k (j 0)) : EReal) * (Ideal.logistic (g (ix2 k (⟨1024 + (j 1).val, lt_of_lt_of_le (Nat.add_lt_add_left (j 1).isLt 1024) (by decide)⟩ : Fin 3072))) * d (ix2 k (j 1))) := by
  pointwise [k0_pay26, k0_pay24, k0_pay19, k0_pay14, k0_pay12, k0_pay10]
  simp only [Cert.Gates.gate_eq]

/-- A tile of rows adds its gradient to what is there. -/
theorem later_b (p v : FVec Ideal S512x1024 .f32) (j : S512x1024.Idx) : k0_pay2 p v j = v j + p j := by
  pointwise [k0_pay2]

/-- The first tile adds its gradient to zero. -/
theorem first_b (p : FVec Ideal S512x1024 .f32) (j : S512x1024.Idx) : k0_pay2 p (k0_pay5 (F := Ideal)) j = 0 + p j := by
  pointwise [k0_pay2, k0_pay5]

/-- The plain gradient of the second weight at an index: a sum over all the rows. -/
theorem plain_b (X0 : FVec Ideal Cert.MergeXReferenceIdeal.S8192x512 .f32) (X1 : FVec Ideal Cert.MergeXReferenceIdeal.S8192x512 .f32) (X2 : FVec Ideal Cert.MergeXReferenceIdeal.S8192x512 .f32) (X3 : FVec Ideal Cert.MergeXReferenceIdeal.S8192x3072 .f32) (X4 : FVec Ideal Cert.MergeXReferenceIdeal.S512x1024 .bf16) (X5 : FVec Ideal Cert.MergeXReferenceIdeal.S512x1024 .bf16) (X6 : FVec Ideal Cert.MergeXReferenceIdeal.S512x1024 .bf16) (X7 : FVec Ideal Cert.MergeXReferenceIdeal.S8192x1024 .f32) (j : Cert.MergeXReferenceIdeal.S512x1024.Idx) :
    (weight_b X0 X1 X2 X3 X4 X5 X6 X7 j : EReal)
      = ∑ l : Fin 8192, (X1 (ix2 l (j 0)) : EReal) * (Ideal.logistic (X3 (ix2 l (⟨1024 + (j 1).val, lt_of_lt_of_le (Nat.add_lt_add_left (j 1).isLt 1024) (by decide)⟩ : Fin 3072))) * X7 (ix2 l (j 1))) := by
  pointwise [weight_b]
  simp only [Cert.Gates.gate_spelt]
  exact Finset.sum_congr rfl fun l _ => mul_comm _ _

/-- After the run the output array holds the plain gradient of the second weight. -/
theorem final_weight_b (c : Dev nD) : (dats m 0 c).arrAt 13 (cfgs 0).N = weight_b (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  refine (dats m 0 c).arrAt_eq_of_covers 13 _ (by decide +kernel) fun t hf y => ?_
  blk_simp
  rw [after0_13, Pipeline.eq_sum_fin_of_reset_step_apply_of_flush (fun n h => (outsAt0 m c n h).2.2.2.2.2.1) 16 (fun _ => 0)
    (fun p j => ∑ k : Fin 512, (show FVec Ideal S512x512 .f32 from iblk m c 1 p) (ix2 k (j 0)) * (Ideal.logistic ((show FVec Ideal S512x3072 .f32 from iblk m c 3 p) (ix2 k (⟨1024 + (j 1).val, lt_of_lt_of_le (Nat.add_lt_add_left (j 1).isLt 1024) (by decide)⟩ : Fin 3072))) * (show FVec Ideal S512x1024 .f32 from iblk m c 7 p) (ix2 k (j 1))))
    (fun t h j => by
      have b := lt_of_lt_of_eq t.isLt (show cfg0.N = 16 from N_0)
      rw [outsAt0_A m c t (by omega)]; frame_out
      exact (first_b _ _).trans (congrArg _ (slice_b _ _ _ j)))
    (fun t h j => by
      rw [outsAt0_B m c t (by omega)]; frame_out
      exact (later_b _ _ j).trans (congrArg _ (slice_b _ _ _ j)))
    t ((flush0_13 t).mp hf) _, zero_add, plain_b]
  refine Eq.trans (α := EReal) (Equiv.sum_comp Fin.revPerm _).symm ?_
  refine Fin.sum_mul_add_congr fun s k hl => ?_
  blk_point [iblk, V, where_at, Fin.revPerm_apply, Fin.val_rev]

/-- The plain gradient of the third projection's weight. -/
abbrev weight_c (X0 : FVec Ideal Cert.MergeXReferenceIdeal.S8192x512 .f32) (X1 : FVec Ideal Cert.MergeXReferenceIdeal.S8192x512 .f32) (X2 : FVec Ideal Cert.MergeXReferenceIdeal.S8192x512 .f32) (X3 : FVec Ideal Cert.MergeXReferenceIdeal.S8192x3072 .f32) (X4 : FVec Ideal Cert.MergeXReferenceIdeal.S512x1024 .bf16) (X5 : FVec Ideal Cert.MergeXReferenceIdeal.S512x1024 .bf16) (X6 : FVec Ideal Cert.MergeXReferenceIdeal.S512x1024 .bf16) (X7 : FVec Ideal Cert.MergeXReferenceIdeal.S8192x1024 .f32) : FVec Ideal Cert.MergeXReferenceIdeal.S512x1024 .f32 :=
  transpose Cert.MergeXReferenceIdeal.S512x1024 [1, 0] (Host.dotGeneral Cert.MergeXReferenceIdeal.dot_S8192x1024_S8192x512_S1024x512_0_0_1_1_n_n none (mulf (extractStridedSlice Cert.MergeXReferenceIdeal.S8192x1024 ![0, 2048] (Host.divf (broadcastInDim Cert.MergeXReferenceIdeal.S8192x3072 ![] Cert.MergeXReferenceIdeal.Gen.bcast_S_S8192x3072 (constant Cert.MergeXReferenceIdeal.S_ .f32 0x3F800000#32)) (addf (broadcastInDim Cert.MergeXReferenceIdeal.S8192x3072 ![] Cert.MergeXReferenceIdeal.Gen.bcast_S_S8192x3072 (constant Cert.MergeXReferenceIdeal.S_ .f32 0x3F800000#32)) (Host.exp (Host.negf X3)))) Cert.MergeXReferenceIdeal.Gen.slices_S8192x3072_S8192x1024_0_2048) (shapeCast _ X7 Cert.MergeXReferenceIdeal.Gen.shapeCasts_S8192x1024_S8192x1024)) X2) Cert.MergeXReferenceIdeal.Gen.transposes_S1024x512_S512x1024_1_0

/-- The third weight's gradient from one tile of rows, at an index: a sum over the tile. -/
theorem slice_c (x : FVec Ideal S512x512 .f32) (g : FVec Ideal S512x3072 .f32) (d : FVec Ideal S512x1024 .f32) (j : S512x1024.Idx) :
    (k0_pay23 (F := Ideal) x (k0_pay15 g) d j : EReal)
      = ∑ k : Fin 512, (x (ix2 k (j 0)) : EReal) * (Ideal.logistic (g (ix2 k (⟨2048 + (j 1).val, lt_of_lt_of_le (Nat.add_lt_add_left (j 1).isLt 2048) (by decide)⟩ : Fin 3072))) * d (ix2 k (j 1))) := by
  pointwise [k0_pay23, k0_pay21, k0_pay20, k0_pay15, k0_pay12, k0_pay10]
  simp only [Cert.Gates.gate_eq]

/-- A tile of rows adds its gradient to what is there. -/
theorem later_c (p v : FVec Ideal S512x1024 .f32) (j : S512x1024.Idx) : k0_pay3 p v j = v j + p j := by
  pointwise [k0_pay3]

/-- The first tile adds its gradient to zero. -/
theorem first_c (p : FVec Ideal S512x1024 .f32) (j : S512x1024.Idx) : k0_pay3 p (k0_pay6 (F := Ideal)) j = 0 + p j := by
  pointwise [k0_pay3, k0_pay6]

/-- The plain gradient of the third weight at an index: a sum over all the rows. -/
theorem plain_c (X0 : FVec Ideal Cert.MergeXReferenceIdeal.S8192x512 .f32) (X1 : FVec Ideal Cert.MergeXReferenceIdeal.S8192x512 .f32) (X2 : FVec Ideal Cert.MergeXReferenceIdeal.S8192x512 .f32) (X3 : FVec Ideal Cert.MergeXReferenceIdeal.S8192x3072 .f32) (X4 : FVec Ideal Cert.MergeXReferenceIdeal.S512x1024 .bf16) (X5 : FVec Ideal Cert.MergeXReferenceIdeal.S512x1024 .bf16) (X6 : FVec Ideal Cert.MergeXReferenceIdeal.S512x1024 .bf16) (X7 : FVec Ideal Cert.MergeXReferenceIdeal.S8192x1024 .f32) (j : Cert.MergeXReferenceIdeal.S512x1024.Idx) :
    (weight_c X0 X1 X2 X3 X4 X5 X6 X7 j : EReal)
      = ∑ l : Fin 8192, (X2 (ix2 l (j 0)) : EReal) * (Ideal.logistic (X3 (ix2 l (⟨2048 + (j 1).val, lt_of_lt_of_le (Nat.add_lt_add_left (j 1).isLt 2048) (by decide)⟩ : Fin 3072))) * X7 (ix2 l (j 1))) := by
  pointwise [weight_c]
  simp only [Cert.Gates.gate_spelt]
  exact Finset.sum_congr rfl fun l _ => mul_comm _ _

/-- After the run the output array holds the plain gradient of the third weight. -/
theorem final_weight_c (c : Dev nD) : (dats m 0 c).arrAt 14 (cfgs 0).N = weight_c (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  refine (dats m 0 c).arrAt_eq_of_covers 14 _ (by decide +kernel) fun t hf y => ?_
  blk_simp
  rw [after0_14, Pipeline.eq_sum_fin_of_reset_step_apply_of_flush (fun n h => (outsAt0 m c n h).2.2.2.2.2.2) 16 (fun _ => 0)
    (fun p j => ∑ k : Fin 512, (show FVec Ideal S512x512 .f32 from iblk m c 2 p) (ix2 k (j 0)) * (Ideal.logistic ((show FVec Ideal S512x3072 .f32 from iblk m c 3 p) (ix2 k (⟨2048 + (j 1).val, lt_of_lt_of_le (Nat.add_lt_add_left (j 1).isLt 2048) (by decide)⟩ : Fin 3072))) * (show FVec Ideal S512x1024 .f32 from iblk m c 7 p) (ix2 k (j 1))))
    (fun t h j => by
      have b := lt_of_lt_of_eq t.isLt (show cfg0.N = 16 from N_0)
      rw [outsAt0_A m c t (by omega)]; frame_out
      exact (first_c _ _).trans (congrArg _ (slice_c _ _ _ j)))
    (fun t h j => by
      rw [outsAt0_B m c t (by omega)]; frame_out
      exact (later_c _ _ j).trans (congrArg _ (slice_c _ _ _ j)))
    t ((flush0_14 t).mp hf) _, zero_add, plain_c]
  refine Eq.trans (α := EReal) (Equiv.sum_comp Fin.revPerm _).symm ?_
  refine Fin.sum_mul_add_congr fun s k hl => ?_
  blk_point [iblk, V, where_at, Fin.revPerm_apply, Fin.val_rev]

end Cert.MergeXIdeal.Product

end
-- ==== Proof.Merge.lean ====
/- Gated merge of the three branches, forward: what the launch leaves is the plain sum of gated projections. -/
module

public import proofs.«01_k».proof.Proof.Gates
public import proofs.«01_k».proof.Proof.Gen.MergeIdeal.Value
public import proofs.«01_k».proof.Proof.Gen.MergeReferenceIdeal.Run
public import Idealize.ShloMosaic.Lib.Pipeline.ValueKit

@[expose] public section

set_option maxRecDepth 16384

noncomputable section

namespace Cert.MergeIdeal.Product

open Idealize.ShloMosaic Idealize.ShloMosaic.TcCoe Idealize.ShloMosaic.StableHlo Idealize.SL.Sem
open Cert.MergeIdeal Cert.MergeIdeal.Gen

variable (m : (ℓ : Loc nD τ sig) → Buf (Elt Ideal) ℓ)

/-- The plain merge: each branch's projection times its sigmoid gate, summed. -/
abbrev plain (X0 : FVec Ideal Cert.MergeReferenceIdeal.S8192x512 .f32) (X1 : FVec Ideal Cert.MergeReferenceIdeal.S8192x512 .f32) (X2 : FVec Ideal Cert.MergeReferenceIdeal.S8192x512 .f32) (X3 : FVec Ideal Cert.MergeReferenceIdeal.S8192x3072 .f32) (X4 : FVec Ideal Cert.MergeReferenceIdeal.S512x1024 .bf16) (X5 : FVec Ideal Cert.MergeReferenceIdeal.S512x1024 .bf16) (X6 : FVec Ideal Cert.MergeReferenceIdeal.S512x1024 .bf16) : FVec Ideal Cert.MergeReferenceIdeal.S8192x1024 .bf16 :=
  truncf .bf16 (addf (addf (mulf (extractStridedSlice Cert.MergeReferenceIdeal.S8192x1024 ![0, 0] (Host.divf (broadcastInDim Cert.MergeReferenceIdeal.S8192x3072 ![] Cert.MergeReferenceIdeal.Gen.bcast_S_S8192x3072 (constant Cert.MergeReferenceIdeal.S_ .f32 0x3F800000#32)) (addf (broadcastInDim Cert.MergeReferenceIdeal.S8192x3072 ![] Cert.MergeReferenceIdeal.Gen.bcast_S_S8192x3072 (constant Cert.MergeReferenceIdeal.S_ .f32 0x3F800000#32)) (Host.exp (Host.negf X3)))) Cert.MergeReferenceIdeal.Gen.slices_S8192x3072_S8192x1024_0_0) (Host.dotGeneral Cert.MergeReferenceIdeal.dot_S8192x512_S512x1024_S8192x1024_1_0_0_1_n_n none X0 (extf .f32 X4 Cert.MergeReferenceIdeal.Gen.bitsLt_bf16_f32))) (mulf (extractStridedSlice Cert.MergeReferenceIdeal.S8192x1024 ![0, 1024] (Host.divf (broadcastInDim Cert.MergeReferenceIdeal.S8192x3072 ![] Cert.MergeReferenceIdeal.Gen.bcast_S_S8192x3072 (constant Cert.MergeReferenceIdeal.S_ .f32 0x3F800000#32)) (addf (broadcastInDim Cert.MergeReferenceIdeal.S8192x3072 ![] Cert.MergeReferenceIdeal.Gen.bcast_S_S8192x3072 (constant Cert.MergeReferenceIdeal.S_ .f32 0x3F800000#32)) (Host.exp (Host.negf X3)))) Cert.MergeReferenceIdeal.Gen.slices_S8192x3072_S8192x1024_0_1024) (Host.dotGeneral Cert.MergeReferenceIdeal.dot_S8192x512_S512x1024_S8192x1024_1_0_0_1_n_n none X1 (extf .f32 X5 Cert.MergeReferenceIdeal.Gen.bitsLt_bf16_f32)))) (mulf (extractStridedSlice Cert.MergeReferenceIdeal.S8192x1024 ![0, 2048] (Host.divf (broadcastInDim Cert.MergeReferenceIdeal.S8192x3072 ![] Cert.MergeReferenceIdeal.Gen.bcast_S_S8192x3072 (constant Cert.MergeReferenceIdeal.S_ .f32 0x3F800000#32)) (addf (broadcastInDim Cert.MergeReferenceIdeal.S8192x3072 ![] Cert.MergeReferenceIdeal.Gen.bcast_S_S8192x3072 (constant Cert.MergeReferenceIdeal.S_ .f32 0x3F800000#32)) (Host.exp (Host.negf X3)))) Cert.MergeReferenceIdeal.Gen.slices_S8192x3072_S8192x1024_0_2048) (Host.dotGeneral Cert.MergeReferenceIdeal.dot_S8192x512_S512x1024_S8192x1024_1_0_0_1_n_n none X2 (extf .f32 X6 Cert.MergeReferenceIdeal.Gen.bitsLt_bf16_f32)))) Cert.MergeReferenceIdeal.Gen.bitsLt_bf16_f32

/-- Which block each window holds at grid point `t`: a tile of rows, the weights whole. -/
theorem where_at : ∀ t : Fin cfg0.N, win0_0.index t = ![t.val, 0] ∧ win0_1.index t = ![t.val, 0] ∧ win0_2.index t = ![t.val, 0] ∧ win0_3.index t = ![t.val, 0] ∧ win0_4.index t = ![0, 0] ∧ win0_5.index t = ![0, 0] ∧ win0_6.index t = ![0, 0] ∧ win0_7.index t = ![t.val, 0] :=
  (by decide +kernel : ∀ t : Fin grid0.N, _)

/-- What grid point `t` stores at `y` is the plain merge at `y`'s place in the array. -/
theorem stored (c : Dev nD) (t : Fin cfg0.N) (y) :
    k0_pay1 (iblk m c 0 t) (iblk m c 1 t) (iblk m c 2 t) (iblk m c 3 t) (iblk m c 4 t) (iblk m c 5 t) (iblk m c 6 t) y = plain (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (((cfg0.win 7).blk t).view.emb y) := by
  pointwise [k0_pay1, plain]
  simp only [Cert.Gates.gate_eq, Cert.Gates.gate_spelt]
  blk_point [iblk, V, where_at t]

/-- After the run the output array holds the plain merge. -/
theorem final (c : Dev nD) : (dats m 0 c).arrAt 7 (cfgs 0).N = plain (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  refine (dats m 0 c).arrAt_eq_of_covers 7 _ (by decide +kernel) fun t _ y => ?_
  blk_simp
  rw [after0_7]
  frame_out
  exact stored m c t y

end Cert.MergeIdeal.Product

end
-- ==== Proof.AdaW.lean ====
/- Gradient of the modulation's weight: the array the product leaves is the plain product's. -/
module

public import proofs.«01_k».proof.Proof.Gen.AdaWIdeal.Value
public import proofs.«01_k».proof.Proof.Gen.AdaWReferenceIdeal.Run
public import Idealize.ShloMosaic.Lib.Pipeline.ValueKit

@[expose] public section

set_option maxRecDepth 16384

noncomputable section

namespace Cert.AdaWIdeal.Product

open Idealize.ShloMosaic Idealize.ShloMosaic.TcCoe Idealize.ShloMosaic.StableHlo Idealize.SL.Sem
open Cert.AdaWIdeal Cert.AdaWIdeal.Gen

variable (m : (ℓ : Loc nD τ sig) → Buf (Elt Ideal) ℓ)

/-- The plain gradient of the weight. -/
abbrev plain (X0 : FVec Ideal Cert.AdaWReferenceIdeal.S8x1024 .f32) (X1 : FVec Ideal Cert.AdaWReferenceIdeal.S8x1536 .f32) : FVec Ideal Cert.AdaWReferenceIdeal.S1024x1536 .f32 :=
  transpose Cert.AdaWReferenceIdeal.S1024x1536 [1, 0] (Host.dotGeneral Cert.AdaWReferenceIdeal.dot_S8x1536_S8x1024_S1536x1024_0_0_1_1_n_n none X1 X0) Cert.AdaWReferenceIdeal.Gen.transposes_S1536x1024_S1024x1536_1_0

/-- Which block each window holds at grid point `t`. -/
theorem where_at : ∀ t : Fin cfg0.N, win0_0.index t = ![0, 0] ∧ win0_1.index t = ![0, 0] ∧ win0_2.index t = ![0, 0] :=
  (by decide +kernel : ∀ t : Fin grid0.N, _)

/-- What grid point `t` stores at `y` is the plain result at `y`'s place in the array. -/
theorem stored (c : Dev nD) (t : Fin cfg0.N) (y) :
    k0_pay1 (iblk m c 0 t) (iblk m c 1 t) y = plain (m ((c : Thread nD τ).loc main_arg0)) (m ((c : Thread nD τ).loc main_arg1)) (((cfg0.win 2).blk t).view.emb y) := by
  pointwise [k0_pay1, plain]
  refine Eq.trans ?_ (Finset.sum_congr rfl fun l _ => mul_comm _ _)
  blk_point [iblk, V, where_at t]

/-- After the run the output array holds the plain result. -/
theorem final (c : Dev nD) : (dats m 0 c).arrAt 2 (cfgs 0).N = plain (m ((c : Thread nD τ).loc main_arg0)) (m ((c : Thread nD τ).loc main_arg1)) := by
  refine (dats m 0 c).arrAt_eq_of_covers 2 _ (by decide +kernel) fun t _ y => ?_
  blk_simp
  rw [after0_2]
  frame_out
  exact stored m c t y

end Cert.AdaWIdeal.Product

end
-- ==== Proof.Mod.lean ====
/- The modulation: the array the product leaves is the plain product's, with its bias. -/
module

public import proofs.«01_k».proof.Proof.Gen.ModIdeal.Value
public import proofs.«01_k».proof.Proof.Gen.ModReferenceIdeal.Run
public import Idealize.ShloMosaic.Lib.Pipeline.ValueKit

@[expose] public section

set_option maxRecDepth 16384

noncomputable section

namespace Cert.ModIdeal.Product

open Idealize.ShloMosaic Idealize.ShloMosaic.TcCoe Idealize.ShloMosaic.StableHlo Idealize.SL.Sem
open Cert.ModIdeal Cert.ModIdeal.Gen

variable (m : (ℓ : Loc nD τ sig) → Buf (Elt Ideal) ℓ)

/-- The plain product, and the bias added to each row. -/
abbrev plain (X0 : FVec Ideal Cert.ModReferenceIdeal.S8x1024 .f32) (X1 : FVec Ideal Cert.ModReferenceIdeal.S1024x6144 .bf16) (X2 : FVec Ideal Cert.ModReferenceIdeal.S1x6144 .f32) : FVec Ideal Cert.ModReferenceIdeal.S8x6144 .f32 :=
  addf (Host.dotGeneral Cert.ModReferenceIdeal.dot_S8x1024_S1024x6144_S8x6144_1_0_0_1_n_n none X0 (extf .f32 X1 Cert.ModReferenceIdeal.Gen.bitsLt_bf16_f32)) (broadcastInDim Cert.ModReferenceIdeal.S8x6144 ![0, 1] Cert.ModReferenceIdeal.Gen.bcast_S1x6144_S8x6144_0_1 X2)

/-- Which block each window holds at grid point `t`. -/
theorem where_at : ∀ t : Fin cfg0.N, win0_0.index t = ![0, 0] ∧ win0_1.index t = ![0, t.val] ∧ win0_2.index t = ![0, t.val] ∧ win0_3.index t = ![0, t.val] :=
  (by decide +kernel : ∀ t : Fin grid0.N, _)

/-- What grid point `t` stores at `y` is the plain result at `y`'s place in the array. -/
theorem stored (c : Dev nD) (t : Fin cfg0.N) (y) :
    k0_pay1 (iblk m c 0 t) (iblk m c 1 t) (iblk m c 2 t) y = plain (m ((c : Thread nD τ).loc main_arg0)) (m ((c : Thread nD τ).loc main_arg1)) (m ((c : Thread nD τ).loc main_arg2)) (((cfg0.win 3).blk t).view.emb y) := by
  pointwise [k0_pay1, plain]
  blk_point [iblk, V, where_at t]

/-- After the run the output array holds the plain result. -/
theorem final (c : Dev nD) : (dats m 0 c).arrAt 3 (cfgs 0).N = plain (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  rw [after0_3]
  frame_out
  exact stored m c t y

end Cert.ModIdeal.Product

end
-- ==== Proof.AdamAda.lean ====
/- The AdamW step of the modulation weights: what the launch leaves is the plain step. -/
module

public import proofs.«01_k».proof.Proof.Gen.AdamAdaIdeal.Value
public import proofs.«01_k».proof.Proof.Gen.AdamAdaReferenceIdeal.Run
public import Idealize.ShloMosaic.Lib.Pipeline.ValueKit

@[expose] public section

set_option maxRecDepth 16384

noncomputable section

namespace Cert.AdamAdaIdeal.Product

open Idealize.ShloMosaic Idealize.ShloMosaic.TcCoe Idealize.ShloMosaic.StableHlo Idealize.SL.Sem
open Cert.AdamAdaIdeal Cert.AdamAdaIdeal.Gen

variable (m : (ℓ : Loc nD τ sig) → Buf (Elt Ideal) ℓ)

/-- The plain update of the weights. -/
abbrev delta (X0 : FVec Ideal Cert.AdamAdaReferenceIdeal.S2x1024x1536 .f32) (X1 : FVec Ideal Cert.AdamAdaReferenceIdeal.S2x1024x1536 .f32) (X2 : FVec Ideal Cert.AdamAdaReferenceIdeal.S2x1024x1536 .f32) (X3 : FVec Ideal Cert.AdamAdaReferenceIdeal.S2x1024x1536 .f32) : FVec Ideal Cert.AdamAdaReferenceIdeal.S2x1024x1536 .f32 :=
  mulf (broadcastInDim Cert.AdamAdaReferenceIdeal.S2x1024x1536 ![] Cert.AdamAdaReferenceIdeal.Gen.bcast_S_S2x1024x1536 (constant Cert.AdamAdaReferenceIdeal.S_ .f32 0xBA83126F#32)) (addf (Host.divf (Host.divf (addf (mulf (broadcastInDim Cert.AdamAdaReferenceIdeal.S2x1024x1536 ![] Cert.AdamAdaReferenceIdeal.Gen.bcast_S_S2x1024x1536 (constant Cert.AdamAdaReferenceIdeal.S_ .f32 0x3F666666#32)) X2) (mulf (broadcastInDim Cert.AdamAdaReferenceIdeal.S2x1024x1536 ![] Cert.AdamAdaReferenceIdeal.Gen.bcast_S_S2x1024x1536 (constant Cert.AdamAdaReferenceIdeal.S_ .f32 0x3DCCCCCD#32)) X0)) (broadcastInDim Cert.AdamAdaReferenceIdeal.S2x1024x1536 ![] Cert.AdamAdaReferenceIdeal.Gen.bcast_S_S2x1024x1536 (constant Cert.AdamAdaReferenceIdeal.S_ .f32 0x3F26BD02#32))) (addf (Host.sqrt (Host.divf (addf (mulf (broadcastInDim Cert.AdamAdaReferenceIdeal.S2x1024x1536 ![] Cert.AdamAdaReferenceIdeal.Gen.bcast_S_S2x1024x1536 (constant Cert.AdamAdaReferenceIdeal.S_ .f32 0x3F7FBE77#32)) X3) (mulf (broadcastInDim Cert.AdamAdaReferenceIdeal.S2x1024x1536 ![] Cert.AdamAdaReferenceIdeal.Gen.bcast_S_S2x1024x1536 (constant Cert.AdamAdaReferenceIdeal.S_ .f32 0x3A83126F#32)) (mulf X0 X0))) (broadcastInDim Cert.AdamAdaReferenceIdeal.S2x1024x1536 ![] Cert.AdamAdaReferenceIdeal.Gen.bcast_S_S2x1024x1536 (constant Cert.AdamAdaReferenceIdeal.S_ .f32 0x3C231ACC#32)))) (broadcastInDim Cert.AdamAdaReferenceIdeal.S2x1024x1536 ![] Cert.AdamAdaReferenceIdeal.Gen.bcast_S_S2x1024x1536 (constant Cert.AdamAdaReferenceIdeal.S_ .f32 0x322BCC77#32)))) (mulf (broadcastInDim Cert.AdamAdaReferenceIdeal.S2x1024x1536 ![] Cert.AdamAdaReferenceIdeal.Gen.bcast_S_S2x1024x1536 (constant Cert.AdamAdaReferenceIdeal.S_ .f32 0x3C23D70A#32)) X1))

/-- The plain first moment. -/
abbrev moment (X0 : FVec Ideal Cert.AdamAdaReferenceIdeal.S2x1024x1536 .f32) (X1 : FVec Ideal Cert.AdamAdaReferenceIdeal.S2x1024x1536 .f32) (X2 : FVec Ideal Cert.AdamAdaReferenceIdeal.S2x1024x1536 .f32) (X3 : FVec Ideal Cert.AdamAdaReferenceIdeal.S2x1024x1536 .f32) : FVec Ideal Cert.AdamAdaReferenceIdeal.S2x1024x1536 .f32 :=
  addf (mulf (broadcastInDim Cert.AdamAdaReferenceIdeal.S2x1024x1536 ![] Cert.AdamAdaReferenceIdeal.Gen.bcast_S_S2x1024x1536 (constant Cert.AdamAdaReferenceIdeal.S_ .f32 0x3F666666#32)) X2) (mulf (broadcastInDim Cert.AdamAdaReferenceIdeal.S2x1024x1536 ![] Cert.AdamAdaReferenceIdeal.Gen.bcast_S_S2x1024x1536 (constant Cert.AdamAdaReferenceIdeal.S_ .f32 0x3DCCCCCD#32)) X0)

/-- The plain second moment. -/
abbrev second (X0 : FVec Ideal Cert.AdamAdaReferenceIdeal.S2x1024x1536 .f32) (X1 : FVec Ideal Cert.AdamAdaReferenceIdeal.S2x1024x1536 .f32) (X2 : FVec Ideal Cert.AdamAdaReferenceIdeal.S2x1024x1536 .f32) (X3 : FVec Ideal Cert.AdamAdaReferenceIdeal.S2x1024x1536 .f32) : FVec Ideal Cert.AdamAdaReferenceIdeal.S2x1024x1536 .f32 :=
  addf (mulf (broadcastInDim Cert.AdamAdaReferenceIdeal.S2x1024x1536 ![] Cert.AdamAdaReferenceIdeal.Gen.bcast_S_S2x1024x1536 (constant Cert.AdamAdaReferenceIdeal.S_ .f32 0x3F7FBE77#32)) X3) (mulf (broadcastInDim Cert.AdamAdaReferenceIdeal.S2x1024x1536 ![] Cert.AdamAdaReferenceIdeal.Gen.bcast_S_S2x1024x1536 (constant Cert.AdamAdaReferenceIdeal.S_ .f32 0x3A83126F#32)) (mulf X0 X0))

/-- The gradient, as it came. -/
abbrev grad (X0 : FVec Ideal Cert.AdamAdaReferenceIdeal.S2x1024x1536 .f32) (X1 : FVec Ideal Cert.AdamAdaReferenceIdeal.S2x1024x1536 .f32) (X2 : FVec Ideal Cert.AdamAdaReferenceIdeal.S2x1024x1536 .f32) (X3 : FVec Ideal Cert.AdamAdaReferenceIdeal.S2x1024x1536 .f32) : FVec Ideal Cert.AdamAdaReferenceIdeal.S2x1024x1536 .f32 :=
  X0

/-- Which block each window holds at grid point `t`. -/
theorem where_at : ∀ t : Fin cfg0.N, win0_0.index t = ![t.val / 4, t.val % 4, 0] ∧ win0_1.index t = ![t.val / 4, t.val % 4, 0] ∧ win0_2.index t = ![t.val / 4, t.val % 4, 0] ∧ win0_3.index t = ![t.val / 4, t.val % 4, 0] ∧ win0_4.index t = ![t.val / 4, t.val % 4, 0] ∧ win0_5.index t = ![t.val / 4, t.val % 4, 0] ∧ win0_6.index t = ![t.val / 4, t.val % 4, 0] ∧ win0_7.index t = ![t.val / 4, t.val % 4, 0] :=
  (by decide +kernel : ∀ t : Fin grid0.N, _)

/-- What grid point `t` stores at `y` is the plain result at `y`'s place in the array. -/
theorem stored_delta (c : Dev nD) (t : Fin cfg0.N) (y) :
    k0_pay1 (k0_pay8 (iblk m c 0 t) (iblk m c 2 t) (iblk m c 3 t) (iblk m c 1 t)) (Scalar.ofBits .f32 0xBA83126F#32) y = delta (m ((c : Thread nD τ).loc main_arg0)) (m ((c : Thread nD τ).loc main_arg1)) (m ((c : Thread nD τ).loc main_arg2)) (m ((c : Thread nD τ).loc main_arg3)) (((cfg0.win 4).blk t).view.emb y) := by
  pointwise [k0_pay1, k0_pay4, k0_pay6, k0_pay7, k0_pay8, delta]
  blk_point [iblk, V, where_at t]

/-- After the run the output array holds the plain result. -/
theorem final_delta (c : Dev nD) : (dats m 0 c).arrAt 4 (cfgs 0).N = delta (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t _ y => ?_
  blk_simp
  rw [after0_4]
  frame_out
  exact stored_delta m c t y

/-- What grid point `t` stores at `y` is the plain result at `y`'s place in the array. -/
theorem stored_moment (c : Dev nD) (t : Fin cfg0.N) (y) :
    k0_pay2 (k0_pay6 (iblk m c 0 t) (iblk m c 2 t)) y = moment (m ((c : Thread nD τ).loc main_arg0)) (m ((c : Thread nD τ).loc main_arg1)) (m ((c : Thread nD τ).loc main_arg2)) (m ((c : Thread nD τ).loc main_arg3)) (((cfg0.win 5).blk t).view.emb y) := by
  pointwise [k0_pay2, k0_pay4, k0_pay6, moment]
  blk_point [iblk, V, where_at t]

/-- After the run the output array holds the plain result. -/
theorem final_moment (c : Dev nD) : (dats m 0 c).arrAt 5 (cfgs 0).N = moment (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t _ y => ?_
  blk_simp
  rw [after0_5]
  frame_out
  exact stored_moment m c t y

/-- What grid point `t` stores at `y` is the plain result at `y`'s place in the array. -/
theorem stored_second (c : Dev nD) (t : Fin cfg0.N) (y) :
    k0_pay3 (k0_pay7 (iblk m c 0 t) (iblk m c 3 t)) y = second (m ((c : Thread nD τ).loc main_arg0)) (m ((c : Thread nD τ).loc main_arg1)) (m ((c : Thread nD τ).loc main_arg2)) (m ((c : Thread nD τ).loc main_arg3)) (((cfg0.win 6).blk t).view.emb y) := by
  pointwise [k0_pay3, k0_pay4, k0_pay7, second]
  blk_point [iblk, V, where_at t]

/-- After the run the output array holds the plain result. -/
theorem final_second (c : Dev nD) : (dats m 0 c).arrAt 6 (cfgs 0).N = second (m ((c : Thread nD τ).loc main_arg0)) (m ((c : Thread nD τ).loc main_arg1)) (m ((c : Thread nD τ).loc main_arg2)) (m ((c : Thread nD τ).loc main_arg3)) := by
  refine (dats m 0 c).arrAt_eq_of_covers 6 _ (by decide +kernel) fun t _ y => ?_
  blk_simp
  rw [after0_6]
  frame_out
  exact stored_second m c t y

/-- What grid point `t` stores at `y` is the plain result at `y`'s place in the array. -/
theorem stored_grad (c : Dev nD) (t : Fin cfg0.N) (y) :
    k0_pay5 (iblk m c 0 t) y = grad (m ((c : Thread nD τ).loc main_arg0)) (m ((c : Thread nD τ).loc main_arg1)) (m ((c : Thread nD τ).loc main_arg2)) (m ((c : Thread nD τ).loc main_arg3)) (((cfg0.win 7).blk t).view.emb y) := by
  pointwise [k0_pay4, k0_pay5, grad]
  blk_point [iblk, V, where_at t]

/-- After the run the output array holds the plain result. -/
theorem final_grad (c : Dev nD) : (dats m 0 c).arrAt 7 (cfgs 0).N = grad (m ((c : Thread nD τ).loc main_arg0)) (m ((c : Thread nD τ).loc main_arg1)) (m ((c : Thread nD τ).loc main_arg2)) (m ((c : Thread nD τ).loc main_arg3)) := by
  refine (dats m 0 c).arrAt_eq_of_covers 7 _ (by decide +kernel) fun t _ y => ?_
  blk_simp
  rw [after0_7]
  frame_out
  exact stored_grad m c t y

end Cert.AdamAdaIdeal.Product

end
-- ==== Proof.AdamIn.lean ====
/- The AdamW step of the in-projection weights: what the launch leaves is the plain step. -/
module

public import proofs.«01_k».proof.Proof.Gen.AdamInIdeal.Value
public import proofs.«01_k».proof.Proof.Gen.AdamInReferenceIdeal.Run
public import Idealize.ShloMosaic.Lib.Pipeline.ValueKit

@[expose] public section

set_option maxRecDepth 16384

noncomputable section

namespace Cert.AdamInIdeal.Product

open Idealize.ShloMosaic Idealize.ShloMosaic.TcCoe Idealize.ShloMosaic.StableHlo Idealize.SL.Sem
open Cert.AdamInIdeal Cert.AdamInIdeal.Gen

variable (m : (ℓ : Loc nD τ sig) → Buf (Elt Ideal) ℓ)

/-- The plain update of the weights. -/
abbrev delta (X0 : FVec Ideal Cert.AdamInReferenceIdeal.S2x1024x1924 .f32) (X1 : FVec Ideal Cert.AdamInReferenceIdeal.S2x1024x1924 .f32) (X2 : FVec Ideal Cert.AdamInReferenceIdeal.S2x1024x1924 .f32) (X3 : FVec Ideal Cert.AdamInReferenceIdeal.S2x1024x1924 .f32) : FVec Ideal Cert.AdamInReferenceIdeal.S2x1024x1924 .f32 :=
  mulf (broadcastInDim Cert.AdamInReferenceIdeal.S2x1024x1924 ![] Cert.AdamInReferenceIdeal.Gen.bcast_S_S2x1024x1924 (constant Cert.AdamInReferenceIdeal.S_ .f32 0xBA83126F#32)) (addf (Host.divf (Host.divf (addf (mulf (broadcastInDim Cert.AdamInReferenceIdeal.S2x1024x1924 ![] Cert.AdamInReferenceIdeal.Gen.bcast_S_S2x1024x1924 (constant Cert.AdamInReferenceIdeal.S_ .f32 0x3F666666#32)) X2) (mulf (broadcastInDim Cert.AdamInReferenceIdeal.S2x1024x1924 ![] Cert.AdamInReferenceIdeal.Gen.bcast_S_S2x1024x1924 (constant Cert.AdamInReferenceIdeal.S_ .f32 0x3DCCCCCD#32)) X0)) (broadcastInDim Cert.AdamInReferenceIdeal.S2x1024x1924 ![] Cert.AdamInReferenceIdeal.Gen.bcast_S_S2x1024x1924 (constant Cert.AdamInReferenceIdeal.S_ .f32 0x3F26BD02#32))) (addf (Host.sqrt (Host.divf (addf (mulf (broadcastInDim Cert.AdamInReferenceIdeal.S2x1024x1924 ![] Cert.AdamInReferenceIdeal.Gen.bcast_S_S2x1024x1924 (constant Cert.AdamInReferenceIdeal.S_ .f32 0x3F7FBE77#32)) X3) (mulf (broadcastInDim Cert.AdamInReferenceIdeal.S2x1024x1924 ![] Cert.AdamInReferenceIdeal.Gen.bcast_S_S2x1024x1924 (constant Cert.AdamInReferenceIdeal.S_ .f32 0x3A83126F#32)) (mulf X0 X0))) (broadcastInDim Cert.AdamInReferenceIdeal.S2x1024x1924 ![] Cert.AdamInReferenceIdeal.Gen.bcast_S_S2x1024x1924 (constant Cert.AdamInReferenceIdeal.S_ .f32 0x3C231ACC#32)))) (broadcastInDim Cert.AdamInReferenceIdeal.S2x1024x1924 ![] Cert.AdamInReferenceIdeal.Gen.bcast_S_S2x1024x1924 (constant Cert.AdamInReferenceIdeal.S_ .f32 0x322BCC77#32)))) (mulf (broadcastInDim Cert.AdamInReferenceIdeal.S2x1024x1924 ![] Cert.AdamInReferenceIdeal.Gen.bcast_S_S2x1024x1924 (constant Cert.AdamInReferenceIdeal.S_ .f32 0x3C23D70A#32)) X1))

/-- The plain first moment. -/
abbrev moment (X0 : FVec Ideal Cert.AdamInReferenceIdeal.S2x1024x1924 .f32) (X1 : FVec Ideal Cert.AdamInReferenceIdeal.S2x1024x1924 .f32) (X2 : FVec Ideal Cert.AdamInReferenceIdeal.S2x1024x1924 .f32) (X3 : FVec Ideal Cert.AdamInReferenceIdeal.S2x1024x1924 .f32) : FVec Ideal Cert.AdamInReferenceIdeal.S2x1024x1924 .f32 :=
  addf (mulf (broadcastInDim Cert.AdamInReferenceIdeal.S2x1024x1924 ![] Cert.AdamInReferenceIdeal.Gen.bcast_S_S2x1024x1924 (constant Cert.AdamInReferenceIdeal.S_ .f32 0x3F666666#32)) X2) (mulf (broadcastInDim Cert.AdamInReferenceIdeal.S2x1024x1924 ![] Cert.AdamInReferenceIdeal.Gen.bcast_S_S2x1024x1924 (constant Cert.AdamInReferenceIdeal.S_ .f32 0x3DCCCCCD#32)) X0)

/-- The plain second moment. -/
abbrev second (X0 : FVec Ideal Cert.AdamInReferenceIdeal.S2x1024x1924 .f32) (X1 : FVec Ideal Cert.AdamInReferenceIdeal.S2x1024x1924 .f32) (X2 : FVec Ideal Cert.AdamInReferenceIdeal.S2x1024x1924 .f32) (X3 : FVec Ideal Cert.AdamInReferenceIdeal.S2x1024x1924 .f32) : FVec Ideal Cert.AdamInReferenceIdeal.S2x1024x1924 .f32 :=
  addf (mulf (broadcastInDim Cert.AdamInReferenceIdeal.S2x1024x1924 ![] Cert.AdamInReferenceIdeal.Gen.bcast_S_S2x1024x1924 (constant Cert.AdamInReferenceIdeal.S_ .f32 0x3F7FBE77#32)) X3) (mulf (broadcastInDim Cert.AdamInReferenceIdeal.S2x1024x1924 ![] Cert.AdamInReferenceIdeal.Gen.bcast_S_S2x1024x1924 (constant Cert.AdamInReferenceIdeal.S_ .f32 0x3A83126F#32)) (mulf X0 X0))

/-- The gradient, as it came. -/
abbrev grad (X0 : FVec Ideal Cert.AdamInReferenceIdeal.S2x1024x1924 .f32) (X1 : FVec Ideal Cert.AdamInReferenceIdeal.S2x1024x1924 .f32) (X2 : FVec Ideal Cert.AdamInReferenceIdeal.S2x1024x1924 .f32) (X3 : FVec Ideal Cert.AdamInReferenceIdeal.S2x1024x1924 .f32) : FVec Ideal Cert.AdamInReferenceIdeal.S2x1024x1924 .f32 :=
  X0

/-- Which block each window holds at grid point `t`. -/
theorem where_at : ∀ t : Fin cfg0.N, win0_0.index t = ![t.val / 4, t.val % 4, 0] ∧ win0_1.index t = ![t.val / 4, t.val % 4, 0] ∧ win0_2.index t = ![t.val / 4, t.val % 4, 0] ∧ win0_3.index t = ![t.val / 4, t.val % 4, 0] ∧ win0_4.index t = ![t.val / 4, t.val % 4, 0] ∧ win0_5.index t = ![t.val / 4, t.val % 4, 0] ∧ win0_6.index t = ![t.val / 4, t.val % 4, 0] ∧ win0_7.index t = ![t.val / 4, t.val % 4, 0] :=
  (by decide +kernel : ∀ t : Fin grid0.N, _)

/-- What grid point `t` stores at `y` is the plain result at `y`'s place in the array. -/
theorem stored_delta (c : Dev nD) (t : Fin cfg0.N) (y) :
    k0_pay1 (k0_pay8 (iblk m c 0 t) (iblk m c 2 t) (iblk m c 3 t) (iblk m c 1 t)) (Scalar.ofBits .f32 0xBA83126F#32) y = delta (m ((c : Thread nD τ).loc main_arg0)) (m ((c : Thread nD τ).loc main_arg1)) (m ((c : Thread nD τ).loc main_arg2)) (m ((c : Thread nD τ).loc main_arg3)) (((cfg0.win 4).blk t).view.emb y) := by
  pointwise [k0_pay1, k0_pay4, k0_pay6, k0_pay7, k0_pay8, delta]
  blk_point [iblk, V, where_at t]

/-- After the run the output array holds the plain result. -/
theorem final_delta (c : Dev nD) : (dats m 0 c).arrAt 4 (cfgs 0).N = delta (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t _ y => ?_
  blk_simp
  rw [after0_4]
  frame_out
  exact stored_delta m c t y

/-- What grid point `t` stores at `y` is the plain result at `y`'s place in the array. -/
theorem stored_moment (c : Dev nD) (t : Fin cfg0.N) (y) :
    k0_pay2 (k0_pay6 (iblk m c 0 t) (iblk m c 2 t)) y = moment (m ((c : Thread nD τ).loc main_arg0)) (m ((c : Thread nD τ).loc main_arg1)) (m ((c : Thread nD τ).loc main_arg2)) (m ((c : Thread nD τ).loc main_arg3)) (((cfg0.win 5).blk t).view.emb y) := by
  pointwise [k0_pay2, k0_pay4, k0_pay6, moment]
  blk_point [iblk, V, where_at t]

/-- After the run the output array holds the plain result. -/
theorem final_moment (c : Dev nD) : (dats m 0 c).arrAt 5 (cfgs 0).N = moment (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t _ y => ?_
  blk_simp
  rw [after0_5]
  frame_out
  exact stored_moment m c t y

/-- What grid point `t` stores at `y` is the plain result at `y`'s place in the array. -/
theorem stored_second (c : Dev nD) (t : Fin cfg0.N) (y) :
    k0_pay3 (k0_pay7 (iblk m c 0 t) (iblk m c 3 t)) y = second (m ((c : Thread nD τ).loc main_arg0)) (m ((c : Thread nD τ).loc main_arg1)) (m ((c : Thread nD τ).loc main_arg2)) (m ((c : Thread nD τ).loc main_arg3)) (((cfg0.win 6).blk t).view.emb y) := by
  pointwise [k0_pay3, k0_pay4, k0_pay7, second]
  blk_point [iblk, V, where_at t]

/-- After the run the output array holds the plain result. -/
theorem final_second (c : Dev nD) : (dats m 0 c).arrAt 6 (cfgs 0).N = second (m ((c : Thread nD τ).loc main_arg0)) (m ((c : Thread nD τ).loc main_arg1)) (m ((c : Thread nD τ).loc main_arg2)) (m ((c : Thread nD τ).loc main_arg3)) := by
  refine (dats m 0 c).arrAt_eq_of_covers 6 _ (by decide +kernel) fun t _ y => ?_
  blk_simp
  rw [after0_6]
  frame_out
  exact stored_second m c t y

/-- What grid point `t` stores at `y` is the plain result at `y`'s place in the array. -/
theorem stored_grad (c : Dev nD) (t : Fin cfg0.N) (y) :
    k0_pay5 (iblk m c 0 t) y = grad (m ((c : Thread nD τ).loc main_arg0)) (m ((c : Thread nD τ).loc main_arg1)) (m ((c : Thread nD τ).loc main_arg2)) (m ((c : Thread nD τ).loc main_arg3)) (((cfg0.win 7).blk t).view.emb y) := by
  pointwise [k0_pay4, k0_pay5, grad]
  blk_point [iblk, V, where_at t]

/-- After the run the output array holds the plain result. -/
theorem final_grad (c : Dev nD) : (dats m 0 c).arrAt 7 (cfgs 0).N = grad (m ((c : Thread nD τ).loc main_arg0)) (m ((c : Thread nD τ).loc main_arg1)) (m ((c : Thread nD τ).loc main_arg2)) (m ((c : Thread nD τ).loc main_arg3)) := by
  refine (dats m 0 c).arrAt_eq_of_covers 7 _ (by decide +kernel) fun t _ y => ?_
  blk_simp
  rw [after0_7]
  frame_out
  exact stored_grad m c t y

end Cert.AdamInIdeal.Product

end
-- ==== Proof.AdamBranch.lean ====
/- The AdamW step of the branch weights: what the launch leaves is the plain step. -/
module

public import proofs.«01_k».proof.Proof.Gen.AdamBranchIdeal.Value
public import proofs.«01_k».proof.Proof.Gen.AdamBranchReferenceIdeal.Run
public import Idealize.ShloMosaic.Lib.Pipeline.ValueKit

@[expose] public section

set_option maxRecDepth 16384

noncomputable section

namespace Cert.AdamBranchIdeal.Product

open Idealize.ShloMosaic Idealize.ShloMosaic.TcCoe Idealize.ShloMosaic.StableHlo Idealize.SL.Sem
open Cert.AdamBranchIdeal Cert.AdamBranchIdeal.Gen

variable (m : (ℓ : Loc nD τ sig) → Buf (Elt Ideal) ℓ)

/-- The plain update of the weights. -/
abbrev delta (X0 : FVec Ideal Cert.AdamBranchReferenceIdeal.S6x512x256 .f32) (X1 : FVec Ideal Cert.AdamBranchReferenceIdeal.S6x512x256 .f32) (X2 : FVec Ideal Cert.AdamBranchReferenceIdeal.S6x512x256 .f32) (X3 : FVec Ideal Cert.AdamBranchReferenceIdeal.S6x512x256 .f32) : FVec Ideal Cert.AdamBranchReferenceIdeal.S6x512x256 .f32 :=
  mulf (broadcastInDim Cert.AdamBranchReferenceIdeal.S6x512x256 ![] Cert.AdamBranchReferenceIdeal.Gen.bcast_S_S6x512x256 (constant Cert.AdamBranchReferenceIdeal.S_ .f32 0xBA83126F#32)) (addf (Host.divf (Host.divf (addf (mulf (broadcastInDim Cert.AdamBranchReferenceIdeal.S6x512x256 ![] Cert.AdamBranchReferenceIdeal.Gen.bcast_S_S6x512x256 (constant Cert.AdamBranchReferenceIdeal.S_ .f32 0x3F666666#32)) X2) (mulf (broadcastInDim Cert.AdamBranchReferenceIdeal.S6x512x256 ![] Cert.AdamBranchReferenceIdeal.Gen.bcast_S_S6x512x256 (constant Cert.AdamBranchReferenceIdeal.S_ .f32 0x3DCCCCCD#32)) X0)) (broadcastInDim Cert.AdamBranchReferenceIdeal.S6x512x256 ![] Cert.AdamBranchReferenceIdeal.Gen.bcast_S_S6x512x256 (constant Cert.AdamBranchReferenceIdeal.S_ .f32 0x3F26BD02#32))) (addf (Host.sqrt (Host.divf (addf (mulf (broadcastInDim Cert.AdamBranchReferenceIdeal.S6x512x256 ![] Cert.AdamBranchReferenceIdeal.Gen.bcast_S_S6x512x256 (constant Cert.AdamBranchReferenceIdeal.S_ .f32 0x3F7FBE77#32)) X3) (mulf (broadcastInDim Cert.AdamBranchReferenceIdeal.S6x512x256 ![] Cert.AdamBranchReferenceIdeal.Gen.bcast_S_S6x512x256 (constant Cert.AdamBranchReferenceIdeal.S_ .f32 0x3A83126F#32)) (mulf X0 X0))) (broadcastInDim Cert.AdamBranchReferenceIdeal.S6x512x256 ![] Cert.AdamBranchReferenceIdeal.Gen.bcast_S_S6x512x256 (constant Cert.AdamBranchReferenceIdeal.S_ .f32 0x3C231ACC#32)))) (broadcastInDim Cert.AdamBranchReferenceIdeal.S6x512x256 ![] Cert.AdamBranchReferenceIdeal.Gen.bcast_S_S6x512x256 (constant Cert.AdamBranchReferenceIdeal.S_ .f32 0x322BCC77#32)))) (mulf (broadcastInDim Cert.AdamBranchReferenceIdeal.S6x512x256 ![] Cert.AdamBranchReferenceIdeal.Gen.bcast_S_S6x512x256 (constant Cert.AdamBranchReferenceIdeal.S_ .f32 0x3C23D70A#32)) X1))

/-- The plain first moment. -/
abbrev moment (X0 : FVec Ideal Cert.AdamBranchReferenceIdeal.S6x512x256 .f32) (X1 : FVec Ideal Cert.AdamBranchReferenceIdeal.S6x512x256 .f32) (X2 : FVec Ideal Cert.AdamBranchReferenceIdeal.S6x512x256 .f32) (X3 : FVec Ideal Cert.AdamBranchReferenceIdeal.S6x512x256 .f32) : FVec Ideal Cert.AdamBranchReferenceIdeal.S6x512x256 .f32 :=
  addf (mulf (broadcastInDim Cert.AdamBranchReferenceIdeal.S6x512x256 ![] Cert.AdamBranchReferenceIdeal.Gen.bcast_S_S6x512x256 (constant Cert.AdamBranchReferenceIdeal.S_ .f32 0x3F666666#32)) X2) (mulf (broadcastInDim Cert.AdamBranchReferenceIdeal.S6x512x256 ![] Cert.AdamBranchReferenceIdeal.Gen.bcast_S_S6x512x256 (constant Cert.AdamBranchReferenceIdeal.S_ .f32 0x3DCCCCCD#32)) X0)

/-- The plain second moment. -/
abbrev second (X0 : FVec Ideal Cert.AdamBranchReferenceIdeal.S6x512x256 .f32) (X1 : FVec Ideal Cert.AdamBranchReferenceIdeal.S6x512x256 .f32) (X2 : FVec Ideal Cert.AdamBranchReferenceIdeal.S6x512x256 .f32) (X3 : FVec Ideal Cert.AdamBranchReferenceIdeal.S6x512x256 .f32) : FVec Ideal Cert.AdamBranchReferenceIdeal.S6x512x256 .f32 :=
  addf (mulf (broadcastInDim Cert.AdamBranchReferenceIdeal.S6x512x256 ![] Cert.AdamBranchReferenceIdeal.Gen.bcast_S_S6x512x256 (constant Cert.AdamBranchReferenceIdeal.S_ .f32 0x3F7FBE77#32)) X3) (mulf (broadcastInDim Cert.AdamBranchReferenceIdeal.S6x512x256 ![] Cert.AdamBranchReferenceIdeal.Gen.bcast_S_S6x512x256 (constant Cert.AdamBranchReferenceIdeal.S_ .f32 0x3A83126F#32)) (mulf X0 X0))

/-- The gradient, as it came. -/
abbrev grad (X0 : FVec Ideal Cert.AdamBranchReferenceIdeal.S6x512x256 .f32) (X1 : FVec Ideal Cert.AdamBranchReferenceIdeal.S6x512x256 .f32) (X2 : FVec Ideal Cert.AdamBranchReferenceIdeal.S6x512x256 .f32) (X3 : FVec Ideal Cert.AdamBranchReferenceIdeal.S6x512x256 .f32) : FVec Ideal Cert.AdamBranchReferenceIdeal.S6x512x256 .f32 :=
  X0

/-- Which block each window holds at grid point `t`. -/
theorem where_at : ∀ t : Fin cfg0.N, win0_0.index t = ![t.val / 2, t.val % 2, 0] ∧ win0_1.index t = ![t.val / 2, t.val % 2, 0] ∧ win0_2.index t = ![t.val / 2, t.val % 2, 0] ∧ win0_3.index t = ![t.val / 2, t.val % 2, 0] ∧ win0_4.index t = ![t.val / 2, t.val % 2, 0] ∧ win0_5.index t = ![t.val / 2, t.val % 2, 0] ∧ win0_6.index t = ![t.val / 2, t.val % 2, 0] ∧ win0_7.index t = ![t.val / 2, t.val % 2, 0] :=
  (by decide +kernel : ∀ t : Fin grid0.N, _)

/-- What grid point `t` stores at `y` is the plain result at `y`'s place in the array. -/
theorem stored_delta (c : Dev nD) (t : Fin cfg0.N) (y) :
    k0_pay1 (k0_pay8 (iblk m c 0 t) (iblk m c 2 t) (iblk m c 3 t) (iblk m c 1 t)) (Scalar.ofBits .f32 0xBA83126F#32) y = delta (m ((c : Thread nD τ).loc main_arg0)) (m ((c : Thread nD τ).loc main_arg1)) (m ((c : Thread nD τ).loc main_arg2)) (m ((c : Thread nD τ).loc main_arg3)) (((cfg0.win 4).blk t).view.emb y) := by
  pointwise [k0_pay1, k0_pay4, k0_pay6, k0_pay7, k0_pay8, delta]
  blk_point [iblk, V, where_at t]

/-- After the run the output array holds the plain result. -/
theorem final_delta (c : Dev nD) : (dats m 0 c).arrAt 4 (cfgs 0).N = delta (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t _ y => ?_
  blk_simp
  rw [after0_4]
  frame_out
  exact stored_delta m c t y

/-- What grid point `t` stores at `y` is the plain result at `y`'s place in the array. -/
theorem stored_moment (c : Dev nD) (t : Fin cfg0.N) (y) :
    k0_pay2 (k0_pay6 (iblk m c 0 t) (iblk m c 2 t)) y = moment (m ((c : Thread nD τ).loc main_arg0)) (m ((c : Thread nD τ).loc main_arg1)) (m ((c : Thread nD τ).loc main_arg2)) (m ((c : Thread nD τ).loc main_arg3)) (((cfg0.win 5).blk t).view.emb y) := by
  pointwise [k0_pay2, k0_pay4, k0_pay6, moment]
  blk_point [iblk, V, where_at t]

/-- After the run the output array holds the plain result. -/
theorem final_moment (c : Dev nD) : (dats m 0 c).arrAt 5 (cfgs 0).N = moment (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t _ y => ?_
  blk_simp
  rw [after0_5]
  frame_out
  exact stored_moment m c t y

/-- What grid point `t` stores at `y` is the plain result at `y`'s place in the array. -/
theorem stored_second (c : Dev nD) (t : Fin cfg0.N) (y) :
    k0_pay3 (k0_pay7 (iblk m c 0 t) (iblk m c 3 t)) y = second (m ((c : Thread nD τ).loc main_arg0)) (m ((c : Thread nD τ).loc main_arg1)) (m ((c : Thread nD τ).loc main_arg2)) (m ((c : Thread nD τ).loc main_arg3)) (((cfg0.win 6).blk t).view.emb y) := by
  pointwise [k0_pay3, k0_pay4, k0_pay7, second]
  blk_point [iblk, V, where_at t]

/-- After the run the output array holds the plain result. -/
theorem final_second (c : Dev nD) : (dats m 0 c).arrAt 6 (cfgs 0).N = second (m ((c : Thread nD τ).loc main_arg0)) (m ((c : Thread nD τ).loc main_arg1)) (m ((c : Thread nD τ).loc main_arg2)) (m ((c : Thread nD τ).loc main_arg3)) := by
  refine (dats m 0 c).arrAt_eq_of_covers 6 _ (by decide +kernel) fun t _ y => ?_
  blk_simp
  rw [after0_6]
  frame_out
  exact stored_second m c t y

/-- What grid point `t` stores at `y` is the plain result at `y`'s place in the array. -/
theorem stored_grad (c : Dev nD) (t : Fin cfg0.N) (y) :
    k0_pay5 (iblk m c 0 t) y = grad (m ((c : Thread nD τ).loc main_arg0)) (m ((c : Thread nD τ).loc main_arg1)) (m ((c : Thread nD τ).loc main_arg2)) (m ((c : Thread nD τ).loc main_arg3)) (((cfg0.win 7).blk t).view.emb y) := by
  pointwise [k0_pay4, k0_pay5, grad]
  blk_point [iblk, V, where_at t]

/-- After the run the output array holds the plain result. -/
theorem final_grad (c : Dev nD) : (dats m 0 c).arrAt 7 (cfgs 0).N = grad (m ((c : Thread nD τ).loc main_arg0)) (m ((c : Thread nD τ).loc main_arg1)) (m ((c : Thread nD τ).loc main_arg2)) (m ((c : Thread nD τ).loc main_arg3)) := by
  refine (dats m 0 c).arrAt_eq_of_covers 7 _ (by decide +kernel) fun t _ y => ?_
  blk_simp
  rw [after0_7]
  frame_out
  exact stored_grad m c t y

end Cert.AdamBranchIdeal.Product

end
-- ==== Proof.AdamOut.lean ====
/- The AdamW step of the output-projection weights: what the launch leaves is the plain step. -/
module

public import proofs.«01_k».proof.Proof.Gen.AdamOutIdeal.Value
public import proofs.«01_k».proof.Proof.Gen.AdamOutReferenceIdeal.Run
public import Idealize.ShloMosaic.Lib.Pipeline.ValueKit

@[expose] public section

set_option maxRecDepth 16384

noncomputable section

namespace Cert.AdamOutIdeal.Product

open Idealize.ShloMosaic Idealize.ShloMosaic.TcCoe Idealize.ShloMosaic.StableHlo Idealize.SL.Sem
open Cert.AdamOutIdeal Cert.AdamOutIdeal.Gen

variable (m : (ℓ : Loc nD τ sig) → Buf (Elt Ideal) ℓ)

/-- The plain update of the weights. -/
abbrev delta (X0 : FVec Ideal Cert.AdamOutReferenceIdeal.S2x256x1024 .f32) (X1 : FVec Ideal Cert.AdamOutReferenceIdeal.S2x256x1024 .f32) (X2 : FVec Ideal Cert.AdamOutReferenceIdeal.S2x256x1024 .f32) (X3 : FVec Ideal Cert.AdamOutReferenceIdeal.S2x256x1024 .f32) : FVec Ideal Cert.AdamOutReferenceIdeal.S2x256x1024 .f32 :=
  mulf (broadcastInDim Cert.AdamOutReferenceIdeal.S2x256x1024 ![] Cert.AdamOutReferenceIdeal.Gen.bcast_S_S2x256x1024 (constant Cert.AdamOutReferenceIdeal.S_ .f32 0xBA83126F#32)) (addf (Host.divf (Host.divf (addf (mulf (broadcastInDim Cert.AdamOutReferenceIdeal.S2x256x1024 ![] Cert.AdamOutReferenceIdeal.Gen.bcast_S_S2x256x1024 (constant Cert.AdamOutReferenceIdeal.S_ .f32 0x3F666666#32)) X2) (mulf (broadcastInDim Cert.AdamOutReferenceIdeal.S2x256x1024 ![] Cert.AdamOutReferenceIdeal.Gen.bcast_S_S2x256x1024 (constant Cert.AdamOutReferenceIdeal.S_ .f32 0x3DCCCCCD#32)) X0)) (broadcastInDim Cert.AdamOutReferenceIdeal.S2x256x1024 ![] Cert.AdamOutReferenceIdeal.Gen.bcast_S_S2x256x1024 (constant Cert.AdamOutReferenceIdeal.S_ .f32 0x3F26BD02#32))) (addf (Host.sqrt (Host.divf (addf (mulf (broadcastInDim Cert.AdamOutReferenceIdeal.S2x256x1024 ![] Cert.AdamOutReferenceIdeal.Gen.bcast_S_S2x256x1024 (constant Cert.AdamOutReferenceIdeal.S_ .f32 0x3F7FBE77#32)) X3) (mulf (broadcastInDim Cert.AdamOutReferenceIdeal.S2x256x1024 ![] Cert.AdamOutReferenceIdeal.Gen.bcast_S_S2x256x1024 (constant Cert.AdamOutReferenceIdeal.S_ .f32 0x3A83126F#32)) (mulf X0 X0))) (broadcastInDim Cert.AdamOutReferenceIdeal.S2x256x1024 ![] Cert.AdamOutReferenceIdeal.Gen.bcast_S_S2x256x1024 (constant Cert.AdamOutReferenceIdeal.S_ .f32 0x3C231ACC#32)))) (broadcastInDim Cert.AdamOutReferenceIdeal.S2x256x1024 ![] Cert.AdamOutReferenceIdeal.Gen.bcast_S_S2x256x1024 (constant Cert.AdamOutReferenceIdeal.S_ .f32 0x322BCC77#32)))) (mulf (broadcastInDim Cert.AdamOutReferenceIdeal.S2x256x1024 ![] Cert.AdamOutReferenceIdeal.Gen.bcast_S_S2x256x1024 (constant Cert.AdamOutReferenceIdeal.S_ .f32 0x3C23D70A#32)) X1))

/-- The plain first moment. -/
abbrev moment (X0 : FVec Ideal Cert.AdamOutReferenceIdeal.S2x256x1024 .f32) (X1 : FVec Ideal Cert.AdamOutReferenceIdeal.S2x256x1024 .f32) (X2 : FVec Ideal Cert.AdamOutReferenceIdeal.S2x256x1024 .f32) (X3 : FVec Ideal Cert.AdamOutReferenceIdeal.S2x256x1024 .f32) : FVec Ideal Cert.AdamOutReferenceIdeal.S2x256x1024 .f32 :=
  addf (mulf (broadcastInDim Cert.AdamOutReferenceIdeal.S2x256x1024 ![] Cert.AdamOutReferenceIdeal.Gen.bcast_S_S2x256x1024 (constant Cert.AdamOutReferenceIdeal.S_ .f32 0x3F666666#32)) X2) (mulf (broadcastInDim Cert.AdamOutReferenceIdeal.S2x256x1024 ![] Cert.AdamOutReferenceIdeal.Gen.bcast_S_S2x256x1024 (constant Cert.AdamOutReferenceIdeal.S_ .f32 0x3DCCCCCD#32)) X0)

/-- The plain second moment. -/
abbrev second (X0 : FVec Ideal Cert.AdamOutReferenceIdeal.S2x256x1024 .f32) (X1 : FVec Ideal Cert.AdamOutReferenceIdeal.S2x256x1024 .f32) (X2 : FVec Ideal Cert.AdamOutReferenceIdeal.S2x256x1024 .f32) (X3 : FVec Ideal Cert.AdamOutReferenceIdeal.S2x256x1024 .f32) : FVec Ideal Cert.AdamOutReferenceIdeal.S2x256x1024 .f32 :=
  addf (mulf (broadcastInDim Cert.AdamOutReferenceIdeal.S2x256x1024 ![] Cert.AdamOutReferenceIdeal.Gen.bcast_S_S2x256x1024 (constant Cert.AdamOutReferenceIdeal.S_ .f32 0x3F7FBE77#32)) X3) (mulf (broadcastInDim Cert.AdamOutReferenceIdeal.S2x256x1024 ![] Cert.AdamOutReferenceIdeal.Gen.bcast_S_S2x256x1024 (constant Cert.AdamOutReferenceIdeal.S_ .f32 0x3A83126F#32)) (mulf X0 X0))

/-- The gradient, as it came. -/
abbrev grad (X0 : FVec Ideal Cert.AdamOutReferenceIdeal.S2x256x1024 .f32) (X1 : FVec Ideal Cert.AdamOutReferenceIdeal.S2x256x1024 .f32) (X2 : FVec Ideal Cert.AdamOutReferenceIdeal.S2x256x1024 .f32) (X3 : FVec Ideal Cert.AdamOutReferenceIdeal.S2x256x1024 .f32) : FVec Ideal Cert.AdamOutReferenceIdeal.S2x256x1024 .f32 :=
  X0

/-- Which block each window holds at grid point `t`. -/
theorem where_at : ∀ t : Fin cfg0.N, win0_0.index t = ![t.val, 0, 0] ∧ win0_1.index t = ![t.val, 0, 0] ∧ win0_2.index t = ![t.val, 0, 0] ∧ win0_3.index t = ![t.val, 0, 0] ∧ win0_4.index t = ![t.val, 0, 0] ∧ win0_5.index t = ![t.val, 0, 0] ∧ win0_6.index t = ![t.val, 0, 0] ∧ win0_7.index t = ![t.val, 0, 0] :=
  (by decide +kernel : ∀ t : Fin grid0.N, _)

/-- What grid point `t` stores at `y` is the plain result at `y`'s place in the array. -/
theorem stored_delta (c : Dev nD) (t : Fin cfg0.N) (y) :
    k0_pay1 (k0_pay8 (iblk m c 0 t) (iblk m c 2 t) (iblk m c 3 t) (iblk m c 1 t)) (Scalar.ofBits .f32 0xBA83126F#32) y = delta (m ((c : Thread nD τ).loc main_arg0)) (m ((c : Thread nD τ).loc main_arg1)) (m ((c : Thread nD τ).loc main_arg2)) (m ((c : Thread nD τ).loc main_arg3)) (((cfg0.win 4).blk t).view.emb y) := by
  pointwise [k0_pay1, k0_pay4, k0_pay6, k0_pay7, k0_pay8, delta]
  blk_point [iblk, V, where_at t]

/-- After the run the output array holds the plain result. -/
theorem final_delta (c : Dev nD) : (dats m 0 c).arrAt 4 (cfgs 0).N = delta (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t _ y => ?_
  blk_simp
  rw [after0_4]
  frame_out
  exact stored_delta m c t y

/-- What grid point `t` stores at `y` is the plain result at `y`'s place in the array. -/
theorem stored_moment (c : Dev nD) (t : Fin cfg0.N) (y) :
    k0_pay2 (k0_pay6 (iblk m c 0 t) (iblk m c 2 t)) y = moment (m ((c : Thread nD τ).loc main_arg0)) (m ((c : Thread nD τ).loc main_arg1)) (m ((c : Thread nD τ).loc main_arg2)) (m ((c : Thread nD τ).loc main_arg3)) (((cfg0.win 5).blk t).view.emb y) := by
  pointwise [k0_pay2, k0_pay4, k0_pay6, moment]
  blk_point [iblk, V, where_at t]

/-- After the run the output array holds the plain result. -/
theorem final_moment (c : Dev nD) : (dats m 0 c).arrAt 5 (cfgs 0).N = moment (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t _ y => ?_
  blk_simp
  rw [after0_5]
  frame_out
  exact stored_moment m c t y

/-- What grid point `t` stores at `y` is the plain result at `y`'s place in the array. -/
theorem stored_second (c : Dev nD) (t : Fin cfg0.N) (y) :
    k0_pay3 (k0_pay7 (iblk m c 0 t) (iblk m c 3 t)) y = second (m ((c : Thread nD τ).loc main_arg0)) (m ((c : Thread nD τ).loc main_arg1)) (m ((c : Thread nD τ).loc main_arg2)) (m ((c : Thread nD τ).loc main_arg3)) (((cfg0.win 6).blk t).view.emb y) := by
  pointwise [k0_pay3, k0_pay4, k0_pay7, second]
  blk_point [iblk, V, where_at t]

/-- After the run the output array holds the plain result. -/
theorem final_second (c : Dev nD) : (dats m 0 c).arrAt 6 (cfgs 0).N = second (m ((c : Thread nD τ).loc main_arg0)) (m ((c : Thread nD τ).loc main_arg1)) (m ((c : Thread nD τ).loc main_arg2)) (m ((c : Thread nD τ).loc main_arg3)) := by
  refine (dats m 0 c).arrAt_eq_of_covers 6 _ (by decide +kernel) fun t _ y => ?_
  blk_simp
  rw [after0_6]
  frame_out
  exact stored_second m c t y

/-- What grid point `t` stores at `y` is the plain result at `y`'s place in the array. -/
theorem stored_grad (c : Dev nD) (t : Fin cfg0.N) (y) :
    k0_pay5 (iblk m c 0 t) y = grad (m ((c : Thread nD τ).loc main_arg0)) (m ((c : Thread nD τ).loc main_arg1)) (m ((c : Thread nD τ).loc main_arg2)) (m ((c : Thread nD τ).loc main_arg3)) (((cfg0.win 7).blk t).view.emb y) := by
  pointwise [k0_pay4, k0_pay5, grad]
  blk_point [iblk, V, where_at t]

/-- After the run the output array holds the plain result. -/
theorem final_grad (c : Dev nD) : (dats m 0 c).arrAt 7 (cfgs 0).N = grad (m ((c : Thread nD τ).loc main_arg0)) (m ((c : Thread nD τ).loc main_arg1)) (m ((c : Thread nD τ).loc main_arg2)) (m ((c : Thread nD τ).loc main_arg3)) := by
  refine (dats m 0 c).arrAt_eq_of_covers 7 _ (by decide +kernel) fun t _ y => ?_
  blk_simp
  rw [after0_7]
  frame_out
  exact stored_grad m c t y

end Cert.AdamOutIdeal.Product

end
-- ==== Proof.AdamUp.lean ====
/- The AdamW step of the up-projection weights: what the launch leaves is the plain step. -/
module

public import proofs.«01_k».proof.Proof.Gen.AdamUpIdeal.Value
public import proofs.«01_k».proof.Proof.Gen.AdamUpReferenceIdeal.Run
public import Idealize.ShloMosaic.Lib.Pipeline.ValueKit

@[expose] public section

set_option maxRecDepth 16384

noncomputable section

namespace Cert.AdamUpIdeal.Product

open Idealize.ShloMosaic Idealize.ShloMosaic.TcCoe Idealize.ShloMosaic.StableHlo Idealize.SL.Sem
open Cert.AdamUpIdeal Cert.AdamUpIdeal.Gen

variable (m : (ℓ : Loc nD τ sig) → Buf (Elt Ideal) ℓ)

/-- The plain update of the weights. -/
abbrev delta (X0 : FVec Ideal Cert.AdamUpReferenceIdeal.S2x1024x1024 .f32) (X1 : FVec Ideal Cert.AdamUpReferenceIdeal.S2x1024x1024 .f32) (X2 : FVec Ideal Cert.AdamUpReferenceIdeal.S2x1024x1024 .f32) (X3 : FVec Ideal Cert.AdamUpReferenceIdeal.S2x1024x1024 .f32) : FVec Ideal Cert.AdamUpReferenceIdeal.S2x1024x1024 .f32 :=
  mulf (broadcastInDim Cert.AdamUpReferenceIdeal.S2x1024x1024 ![] Cert.AdamUpReferenceIdeal.Gen.bcast_S_S2x1024x1024 (constant Cert.AdamUpReferenceIdeal.S_ .f32 0xBA83126F#32)) (addf (Host.divf (Host.divf (addf (mulf (broadcastInDim Cert.AdamUpReferenceIdeal.S2x1024x1024 ![] Cert.AdamUpReferenceIdeal.Gen.bcast_S_S2x1024x1024 (constant Cert.AdamUpReferenceIdeal.S_ .f32 0x3F666666#32)) X2) (mulf (broadcastInDim Cert.AdamUpReferenceIdeal.S2x1024x1024 ![] Cert.AdamUpReferenceIdeal.Gen.bcast_S_S2x1024x1024 (constant Cert.AdamUpReferenceIdeal.S_ .f32 0x3DCCCCCD#32)) X0)) (broadcastInDim Cert.AdamUpReferenceIdeal.S2x1024x1024 ![] Cert.AdamUpReferenceIdeal.Gen.bcast_S_S2x1024x1024 (constant Cert.AdamUpReferenceIdeal.S_ .f32 0x3F26BD02#32))) (addf (Host.sqrt (Host.divf (addf (mulf (broadcastInDim Cert.AdamUpReferenceIdeal.S2x1024x1024 ![] Cert.AdamUpReferenceIdeal.Gen.bcast_S_S2x1024x1024 (constant Cert.AdamUpReferenceIdeal.S_ .f32 0x3F7FBE77#32)) X3) (mulf (broadcastInDim Cert.AdamUpReferenceIdeal.S2x1024x1024 ![] Cert.AdamUpReferenceIdeal.Gen.bcast_S_S2x1024x1024 (constant Cert.AdamUpReferenceIdeal.S_ .f32 0x3A83126F#32)) (mulf X0 X0))) (broadcastInDim Cert.AdamUpReferenceIdeal.S2x1024x1024 ![] Cert.AdamUpReferenceIdeal.Gen.bcast_S_S2x1024x1024 (constant Cert.AdamUpReferenceIdeal.S_ .f32 0x3C231ACC#32)))) (broadcastInDim Cert.AdamUpReferenceIdeal.S2x1024x1024 ![] Cert.AdamUpReferenceIdeal.Gen.bcast_S_S2x1024x1024 (constant Cert.AdamUpReferenceIdeal.S_ .f32 0x322BCC77#32)))) (mulf (broadcastInDim Cert.AdamUpReferenceIdeal.S2x1024x1024 ![] Cert.AdamUpReferenceIdeal.Gen.bcast_S_S2x1024x1024 (constant Cert.AdamUpReferenceIdeal.S_ .f32 0x3C23D70A#32)) X1))

/-- The plain first moment. -/
abbrev moment (X0 : FVec Ideal Cert.AdamUpReferenceIdeal.S2x1024x1024 .f32) (X1 : FVec Ideal Cert.AdamUpReferenceIdeal.S2x1024x1024 .f32) (X2 : FVec Ideal Cert.AdamUpReferenceIdeal.S2x1024x1024 .f32) (X3 : FVec Ideal Cert.AdamUpReferenceIdeal.S2x1024x1024 .f32) : FVec Ideal Cert.AdamUpReferenceIdeal.S2x1024x1024 .f32 :=
  addf (mulf (broadcastInDim Cert.AdamUpReferenceIdeal.S2x1024x1024 ![] Cert.AdamUpReferenceIdeal.Gen.bcast_S_S2x1024x1024 (constant Cert.AdamUpReferenceIdeal.S_ .f32 0x3F666666#32)) X2) (mulf (broadcastInDim Cert.AdamUpReferenceIdeal.S2x1024x1024 ![] Cert.AdamUpReferenceIdeal.Gen.bcast_S_S2x1024x1024 (constant Cert.AdamUpReferenceIdeal.S_ .f32 0x3DCCCCCD#32)) X0)

/-- The plain second moment. -/
abbrev second (X0 : FVec Ideal Cert.AdamUpReferenceIdeal.S2x1024x1024 .f32) (X1 : FVec Ideal Cert.AdamUpReferenceIdeal.S2x1024x1024 .f32) (X2 : FVec Ideal Cert.AdamUpReferenceIdeal.S2x1024x1024 .f32) (X3 : FVec Ideal Cert.AdamUpReferenceIdeal.S2x1024x1024 .f32) : FVec Ideal Cert.AdamUpReferenceIdeal.S2x1024x1024 .f32 :=
  addf (mulf (broadcastInDim Cert.AdamUpReferenceIdeal.S2x1024x1024 ![] Cert.AdamUpReferenceIdeal.Gen.bcast_S_S2x1024x1024 (constant Cert.AdamUpReferenceIdeal.S_ .f32 0x3F7FBE77#32)) X3) (mulf (broadcastInDim Cert.AdamUpReferenceIdeal.S2x1024x1024 ![] Cert.AdamUpReferenceIdeal.Gen.bcast_S_S2x1024x1024 (constant Cert.AdamUpReferenceIdeal.S_ .f32 0x3A83126F#32)) (mulf X0 X0))

/-- The gradient, as it came. -/
abbrev grad (X0 : FVec Ideal Cert.AdamUpReferenceIdeal.S2x1024x1024 .f32) (X1 : FVec Ideal Cert.AdamUpReferenceIdeal.S2x1024x1024 .f32) (X2 : FVec Ideal Cert.AdamUpReferenceIdeal.S2x1024x1024 .f32) (X3 : FVec Ideal Cert.AdamUpReferenceIdeal.S2x1024x1024 .f32) : FVec Ideal Cert.AdamUpReferenceIdeal.S2x1024x1024 .f32 :=
  X0

/-- Which block each window holds at grid point `t`. -/
theorem where_at : ∀ t : Fin cfg0.N, win0_0.index t = ![t.val / 4, t.val % 4, 0] ∧ win0_1.index t = ![t.val / 4, t.val % 4, 0] ∧ win0_2.index t = ![t.val / 4, t.val % 4, 0] ∧ win0_3.index t = ![t.val / 4, t.val % 4, 0] ∧ win0_4.index t = ![t.val / 4, t.val % 4, 0] ∧ win0_5.index t = ![t.val / 4, t.val % 4, 0] ∧ win0_6.index t = ![t.val / 4, t.val % 4, 0] ∧ win0_7.index t = ![t.val / 4, t.val % 4, 0] :=
  (by decide +kernel : ∀ t : Fin grid0.N, _)

/-- What grid point `t` stores at `y` is the plain result at `y`'s place in the array. -/
theorem stored_delta (c : Dev nD) (t : Fin cfg0.N) (y) :
    k0_pay1 (k0_pay8 (iblk m c 0 t) (iblk m c 2 t) (iblk m c 3 t) (iblk m c 1 t)) (Scalar.ofBits .f32 0xBA83126F#32) y = delta (m ((c : Thread nD τ).loc main_arg0)) (m ((c : Thread nD τ).loc main_arg1)) (m ((c : Thread nD τ).loc main_arg2)) (m ((c : Thread nD τ).loc main_arg3)) (((cfg0.win 4).blk t).view.emb y) := by
  pointwise [k0_pay1, k0_pay4, k0_pay6, k0_pay7, k0_pay8, delta]
  blk_point [iblk, V, where_at t]

/-- After the run the output array holds the plain result. -/
theorem final_delta (c : Dev nD) : (dats m 0 c).arrAt 4 (cfgs 0).N = delta (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t _ y => ?_
  blk_simp
  rw [after0_4]
  frame_out
  exact stored_delta m c t y

/-- What grid point `t` stores at `y` is the plain result at `y`'s place in the array. -/
theorem stored_moment (c : Dev nD) (t : Fin cfg0.N) (y) :
    k0_pay2 (k0_pay6 (iblk m c 0 t) (iblk m c 2 t)) y = moment (m ((c : Thread nD τ).loc main_arg0)) (m ((c : Thread nD τ).loc main_arg1)) (m ((c : Thread nD τ).loc main_arg2)) (m ((c : Thread nD τ).loc main_arg3)) (((cfg0.win 5).blk t).view.emb y) := by
  pointwise [k0_pay2, k0_pay4, k0_pay6, moment]
  blk_point [iblk, V, where_at t]

/-- After the run the output array holds the plain result. -/
theorem final_moment (c : Dev nD) : (dats m 0 c).arrAt 5 (cfgs 0).N = moment (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t _ y => ?_
  blk_simp
  rw [after0_5]
  frame_out
  exact stored_moment m c t y

/-- What grid point `t` stores at `y` is the plain result at `y`'s place in the array. -/
theorem stored_second (c : Dev nD) (t : Fin cfg0.N) (y) :
    k0_pay3 (k0_pay7 (iblk m c 0 t) (iblk m c 3 t)) y = second (m ((c : Thread nD τ).loc main_arg0)) (m ((c : Thread nD τ).loc main_arg1)) (m ((c : Thread nD τ).loc main_arg2)) (m ((c : Thread nD τ).loc main_arg3)) (((cfg0.win 6).blk t).view.emb y) := by
  pointwise [k0_pay3, k0_pay4, k0_pay7, second]
  blk_point [iblk, V, where_at t]

/-- After the run the output array holds the plain result. -/
theorem final_second (c : Dev nD) : (dats m 0 c).arrAt 6 (cfgs 0).N = second (m ((c : Thread nD τ).loc main_arg0)) (m ((c : Thread nD τ).loc main_arg1)) (m ((c : Thread nD τ).loc main_arg2)) (m ((c : Thread nD τ).loc main_arg3)) := by
  refine (dats m 0 c).arrAt_eq_of_covers 6 _ (by decide +kernel) fun t _ y => ?_
  blk_simp
  rw [after0_6]
  frame_out
  exact stored_second m c t y

/-- What grid point `t` stores at `y` is the plain result at `y`'s place in the array. -/
theorem stored_grad (c : Dev nD) (t : Fin cfg0.N) (y) :
    k0_pay5 (iblk m c 0 t) y = grad (m ((c : Thread nD τ).loc main_arg0)) (m ((c : Thread nD τ).loc main_arg1)) (m ((c : Thread nD τ).loc main_arg2)) (m ((c : Thread nD τ).loc main_arg3)) (((cfg0.win 7).blk t).view.emb y) := by
  pointwise [k0_pay4, k0_pay5, grad]
  blk_point [iblk, V, where_at t]

/-- After the run the output array holds the plain result. -/
theorem final_grad (c : Dev nD) : (dats m 0 c).arrAt 7 (cfgs 0).N = grad (m ((c : Thread nD τ).loc main_arg0)) (m ((c : Thread nD τ).loc main_arg1)) (m ((c : Thread nD τ).loc main_arg2)) (m ((c : Thread nD τ).loc main_arg3)) := by
  refine (dats m 0 c).arrAt_eq_of_covers 7 _ (by decide +kernel) fun t _ y => ?_
  blk_simp
  rw [after0_7]
  frame_out
  exact stored_grad m c t y

end Cert.AdamUpIdeal.Product

end
-- ==== Proof.AdamSmall.lean ====
/- The AdamW step of the small weights, packed in rows: what the launch leaves is the plain step. -/
module

public import proofs.«01_k».proof.Proof.Gen.AdamSmallIdeal.Value
public import proofs.«01_k».proof.Proof.Gen.AdamSmallReferenceIdeal.Run
public import Idealize.ShloMosaic.Lib.Pipeline.ValueKit

@[expose] public section

set_option maxRecDepth 16384

noncomputable section

namespace Cert.AdamSmallIdeal.Product

open Idealize.ShloMosaic Idealize.ShloMosaic.TcCoe Idealize.ShloMosaic.StableHlo Idealize.SL.Sem
open Cert.AdamSmallIdeal Cert.AdamSmallIdeal.Gen

variable (m : (ℓ : Loc nD τ sig) → Buf (Elt Ideal) ℓ)

/-- The plain update of the weights. -/
abbrev delta (X0 : FVec Ideal Cert.AdamSmallReferenceIdeal.S1x264x1024 .f32) (X1 : FVec Ideal Cert.AdamSmallReferenceIdeal.S1x264x1024 .f32) (X2 : FVec Ideal Cert.AdamSmallReferenceIdeal.S1x264x1024 .f32) (X3 : FVec Ideal Cert.AdamSmallReferenceIdeal.S1x264x1024 .f32) : FVec Ideal Cert.AdamSmallReferenceIdeal.S1x264x1024 .f32 :=
  mulf (broadcastInDim Cert.AdamSmallReferenceIdeal.S1x264x1024 ![] Cert.AdamSmallReferenceIdeal.Gen.bcast_S_S1x264x1024 (constant Cert.AdamSmallReferenceIdeal.S_ .f32 0xBA83126F#32)) (addf (Host.divf (Host.divf (addf (mulf (broadcastInDim Cert.AdamSmallReferenceIdeal.S1x264x1024 ![] Cert.AdamSmallReferenceIdeal.Gen.bcast_S_S1x264x1024 (constant Cert.AdamSmallReferenceIdeal.S_ .f32 0x3F666666#32)) X2) (mulf (broadcastInDim Cert.AdamSmallReferenceIdeal.S1x264x1024 ![] Cert.AdamSmallReferenceIdeal.Gen.bcast_S_S1x264x1024 (constant Cert.AdamSmallReferenceIdeal.S_ .f32 0x3DCCCCCD#32)) X0)) (broadcastInDim Cert.AdamSmallReferenceIdeal.S1x264x1024 ![] Cert.AdamSmallReferenceIdeal.Gen.bcast_S_S1x264x1024 (constant Cert.AdamSmallReferenceIdeal.S_ .f32 0x3F26BD02#32))) (addf (Host.sqrt (Host.divf (addf (mulf (broadcastInDim Cert.AdamSmallReferenceIdeal.S1x264x1024 ![] Cert.AdamSmallReferenceIdeal.Gen.bcast_S_S1x264x1024 (constant Cert.AdamSmallReferenceIdeal.S_ .f32 0x3F7FBE77#32)) X3) (mulf (broadcastInDim Cert.AdamSmallReferenceIdeal.S1x264x1024 ![] Cert.AdamSmallReferenceIdeal.Gen.bcast_S_S1x264x1024 (constant Cert.AdamSmallReferenceIdeal.S_ .f32 0x3A83126F#32)) (mulf X0 X0))) (broadcastInDim Cert.AdamSmallReferenceIdeal.S1x264x1024 ![] Cert.AdamSmallReferenceIdeal.Gen.bcast_S_S1x264x1024 (constant Cert.AdamSmallReferenceIdeal.S_ .f32 0x3C231ACC#32)))) (broadcastInDim Cert.AdamSmallReferenceIdeal.S1x264x1024 ![] Cert.AdamSmallReferenceIdeal.Gen.bcast_S_S1x264x1024 (constant Cert.AdamSmallReferenceIdeal.S_ .f32 0x322BCC77#32)))) (mulf (broadcastInDim Cert.AdamSmallReferenceIdeal.S1x264x1024 ![] Cert.AdamSmallReferenceIdeal.Gen.bcast_S_S1x264x1024 (constant Cert.AdamSmallReferenceIdeal.S_ .f32 0x3C23D70A#32)) X1))

/-- The plain first moment. -/
abbrev moment (X0 : FVec Ideal Cert.AdamSmallReferenceIdeal.S1x264x1024 .f32) (X1 : FVec Ideal Cert.AdamSmallReferenceIdeal.S1x264x1024 .f32) (X2 : FVec Ideal Cert.AdamSmallReferenceIdeal.S1x264x1024 .f32) (X3 : FVec Ideal Cert.AdamSmallReferenceIdeal.S1x264x1024 .f32) : FVec Ideal Cert.AdamSmallReferenceIdeal.S1x264x1024 .f32 :=
  addf (mulf (broadcastInDim Cert.AdamSmallReferenceIdeal.S1x264x1024 ![] Cert.AdamSmallReferenceIdeal.Gen.bcast_S_S1x264x1024 (constant Cert.AdamSmallReferenceIdeal.S_ .f32 0x3F666666#32)) X2) (mulf (broadcastInDim Cert.AdamSmallReferenceIdeal.S1x264x1024 ![] Cert.AdamSmallReferenceIdeal.Gen.bcast_S_S1x264x1024 (constant Cert.AdamSmallReferenceIdeal.S_ .f32 0x3DCCCCCD#32)) X0)

/-- The plain second moment. -/
abbrev second (X0 : FVec Ideal Cert.AdamSmallReferenceIdeal.S1x264x1024 .f32) (X1 : FVec Ideal Cert.AdamSmallReferenceIdeal.S1x264x1024 .f32) (X2 : FVec Ideal Cert.AdamSmallReferenceIdeal.S1x264x1024 .f32) (X3 : FVec Ideal Cert.AdamSmallReferenceIdeal.S1x264x1024 .f32) : FVec Ideal Cert.AdamSmallReferenceIdeal.S1x264x1024 .f32 :=
  addf (mulf (broadcastInDim Cert.AdamSmallReferenceIdeal.S1x264x1024 ![] Cert.AdamSmallReferenceIdeal.Gen.bcast_S_S1x264x1024 (constant Cert.AdamSmallReferenceIdeal.S_ .f32 0x3F7FBE77#32)) X3) (mulf (broadcastInDim Cert.AdamSmallReferenceIdeal.S1x264x1024 ![] Cert.AdamSmallReferenceIdeal.Gen.bcast_S_S1x264x1024 (constant Cert.AdamSmallReferenceIdeal.S_ .f32 0x3A83126F#32)) (mulf X0 X0))

/-- Which block each window holds at grid point `t`. -/
theorem where_at : ∀ t : Fin cfg0.N, win0_0.index t = ![0, t.val, 0] ∧ win0_1.index t = ![0, t.val, 0] ∧ win0_2.index t = ![0, t.val, 0] ∧ win0_3.index t = ![0, t.val, 0] ∧ win0_4.index t = ![0, t.val, 0] ∧ win0_5.index t = ![0, t.val, 0] ∧ win0_6.index t = ![0, t.val, 0] :=
  (by decide +kernel : ∀ t : Fin grid0.N, _)

/-- What grid point `t` stores at `y` is the plain result at `y`'s place in the array. -/
theorem stored_delta (c : Dev nD) (t : Fin cfg0.N) (y) :
    k0_pay1 (k0_pay7 (iblk m c 0 t) (iblk m c 2 t) (iblk m c 3 t) (iblk m c 1 t)) y = delta (m ((c : Thread nD τ).loc main_arg0)) (m ((c : Thread nD τ).loc main_arg1)) (m ((c : Thread nD τ).loc main_arg2)) (m ((c : Thread nD τ).loc main_arg3)) (((cfg0.win 4).blk t).view.emb y) := by
  pointwise [k0_pay1, k0_pay4, k0_pay5, k0_pay6, k0_pay7, delta]
  blk_point [iblk, V, where_at t]

/-- After the run the output array holds the plain result. -/
theorem final_delta (c : Dev nD) : (dats m 0 c).arrAt 4 (cfgs 0).N = delta (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t _ y => ?_
  blk_simp
  rw [after0_4]
  frame_out
  exact stored_delta m c t y

/-- What grid point `t` stores at `y` is the plain result at `y`'s place in the array. -/
theorem stored_moment (c : Dev nD) (t : Fin cfg0.N) (y) :
    k0_pay2 (k0_pay5 (iblk m c 0 t) (iblk m c 2 t)) y = moment (m ((c : Thread nD τ).loc main_arg0)) (m ((c : Thread nD τ).loc main_arg1)) (m ((c : Thread nD τ).loc main_arg2)) (m ((c : Thread nD τ).loc main_arg3)) (((cfg0.win 5).blk t).view.emb y) := by
  pointwise [k0_pay2, k0_pay4, k0_pay5, moment]
  blk_point [iblk, V, where_at t]

/-- After the run the output array holds the plain result. -/
theorem final_moment (c : Dev nD) : (dats m 0 c).arrAt 5 (cfgs 0).N = moment (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t _ y => ?_
  blk_simp
  rw [after0_5]
  frame_out
  exact stored_moment m c t y

/-- What grid point `t` stores at `y` is the plain result at `y`'s place in the array. -/
theorem stored_second (c : Dev nD) (t : Fin cfg0.N) (y) :
    k0_pay3 (k0_pay6 (iblk m c 0 t) (iblk m c 3 t)) y = second (m ((c : Thread nD τ).loc main_arg0)) (m ((c : Thread nD τ).loc main_arg1)) (m ((c : Thread nD τ).loc main_arg2)) (m ((c : Thread nD τ).loc main_arg3)) (((cfg0.win 6).blk t).view.emb y) := by
  pointwise [k0_pay3, k0_pay4, k0_pay6, second]
  blk_point [iblk, V, where_at t]

/-- After the run the output array holds the plain result. -/
theorem final_second (c : Dev nD) : (dats m 0 c).arrAt 6 (cfgs 0).N = second (m ((c : Thread nD τ).loc main_arg0)) (m ((c : Thread nD τ).loc main_arg1)) (m ((c : Thread nD τ).loc main_arg2)) (m ((c : Thread nD τ).loc main_arg3)) := by
  refine (dats m 0 c).arrAt_eq_of_covers 6 _ (by decide +kernel) fun t _ y => ?_
  blk_simp
  rw [after0_6]
  frame_out
  exact stored_second m c t y

end Cert.AdamSmallIdeal.Product

end
-- ==== Proof.AdamConv.lean ====
/- The AdamW step of the convolution weights, packed in rows: what the launch leaves is the plain step. -/
module

public import proofs.«01_k».proof.Proof.Gen.AdamConvIdeal.Value
public import proofs.«01_k».proof.Proof.Gen.AdamConvReferenceIdeal.Run
public import Idealize.ShloMosaic.Lib.Pipeline.ValueKit

@[expose] public section

set_option maxRecDepth 16384

noncomputable section

namespace Cert.AdamConvIdeal.Product

open Idealize.ShloMosaic Idealize.ShloMosaic.TcCoe Idealize.ShloMosaic.StableHlo Idealize.SL.Sem
open Cert.AdamConvIdeal Cert.AdamConvIdeal.Gen

variable (m : (ℓ : Loc nD τ sig) → Buf (Elt Ideal) ℓ)

/-- The plain update of the weights. -/
abbrev delta (X0 : FVec Ideal Cert.AdamConvReferenceIdeal.S1x24x1024 .f32) (X1 : FVec Ideal Cert.AdamConvReferenceIdeal.S1x24x1024 .f32) (X2 : FVec Ideal Cert.AdamConvReferenceIdeal.S1x24x1024 .f32) (X3 : FVec Ideal Cert.AdamConvReferenceIdeal.S1x24x1024 .f32) : FVec Ideal Cert.AdamConvReferenceIdeal.S1x24x1024 .f32 :=
  mulf (broadcastInDim Cert.AdamConvReferenceIdeal.S1x24x1024 ![] Cert.AdamConvReferenceIdeal.Gen.bcast_S_S1x24x1024 (constant Cert.AdamConvReferenceIdeal.S_ .f32 0xBA83126F#32)) (addf (Host.divf (Host.divf (addf (mulf (broadcastInDim Cert.AdamConvReferenceIdeal.S1x24x1024 ![] Cert.AdamConvReferenceIdeal.Gen.bcast_S_S1x24x1024 (constant Cert.AdamConvReferenceIdeal.S_ .f32 0x3F666666#32)) X2) (mulf (broadcastInDim Cert.AdamConvReferenceIdeal.S1x24x1024 ![] Cert.AdamConvReferenceIdeal.Gen.bcast_S_S1x24x1024 (constant Cert.AdamConvReferenceIdeal.S_ .f32 0x3DCCCCCD#32)) X0)) (broadcastInDim Cert.AdamConvReferenceIdeal.S1x24x1024 ![] Cert.AdamConvReferenceIdeal.Gen.bcast_S_S1x24x1024 (constant Cert.AdamConvReferenceIdeal.S_ .f32 0x3F26BD02#32))) (addf (Host.sqrt (Host.divf (addf (mulf (broadcastInDim Cert.AdamConvReferenceIdeal.S1x24x1024 ![] Cert.AdamConvReferenceIdeal.Gen.bcast_S_S1x24x1024 (constant Cert.AdamConvReferenceIdeal.S_ .f32 0x3F7FBE77#32)) X3) (mulf (broadcastInDim Cert.AdamConvReferenceIdeal.S1x24x1024 ![] Cert.AdamConvReferenceIdeal.Gen.bcast_S_S1x24x1024 (constant Cert.AdamConvReferenceIdeal.S_ .f32 0x3A83126F#32)) (mulf X0 X0))) (broadcastInDim Cert.AdamConvReferenceIdeal.S1x24x1024 ![] Cert.AdamConvReferenceIdeal.Gen.bcast_S_S1x24x1024 (constant Cert.AdamConvReferenceIdeal.S_ .f32 0x3C231ACC#32)))) (broadcastInDim Cert.AdamConvReferenceIdeal.S1x24x1024 ![] Cert.AdamConvReferenceIdeal.Gen.bcast_S_S1x24x1024 (constant Cert.AdamConvReferenceIdeal.S_ .f32 0x322BCC77#32)))) (mulf (broadcastInDim Cert.AdamConvReferenceIdeal.S1x24x1024 ![] Cert.AdamConvReferenceIdeal.Gen.bcast_S_S1x24x1024 (constant Cert.AdamConvReferenceIdeal.S_ .f32 0x3C23D70A#32)) X1))

/-- The plain first moment. -/
abbrev moment (X0 : FVec Ideal Cert.AdamConvReferenceIdeal.S1x24x1024 .f32) (X1 : FVec Ideal Cert.AdamConvReferenceIdeal.S1x24x1024 .f32) (X2 : FVec Ideal Cert.AdamConvReferenceIdeal.S1x24x1024 .f32) (X3 : FVec Ideal Cert.AdamConvReferenceIdeal.S1x24x1024 .f32) : FVec Ideal Cert.AdamConvReferenceIdeal.S1x24x1024 .f32 :=
  addf (mulf (broadcastInDim Cert.AdamConvReferenceIdeal.S1x24x1024 ![] Cert.AdamConvReferenceIdeal.Gen.bcast_S_S1x24x1024 (constant Cert.AdamConvReferenceIdeal.S_ .f32 0x3F666666#32)) X2) (mulf (broadcastInDim Cert.AdamConvReferenceIdeal.S1x24x1024 ![] Cert.AdamConvReferenceIdeal.Gen.bcast_S_S1x24x1024 (constant Cert.AdamConvReferenceIdeal.S_ .f32 0x3DCCCCCD#32)) X0)

/-- The plain second moment. -/
abbrev second (X0 : FVec Ideal Cert.AdamConvReferenceIdeal.S1x24x1024 .f32) (X1 : FVec Ideal Cert.AdamConvReferenceIdeal.S1x24x1024 .f32) (X2 : FVec Ideal Cert.AdamConvReferenceIdeal.S1x24x1024 .f32) (X3 : FVec Ideal Cert.AdamConvReferenceIdeal.S1x24x1024 .f32) : FVec Ideal Cert.AdamConvReferenceIdeal.S1x24x1024 .f32 :=
  addf (mulf (broadcastInDim Cert.AdamConvReferenceIdeal.S1x24x1024 ![] Cert.AdamConvReferenceIdeal.Gen.bcast_S_S1x24x1024 (constant Cert.AdamConvReferenceIdeal.S_ .f32 0x3F7FBE77#32)) X3) (mulf (broadcastInDim Cert.AdamConvReferenceIdeal.S1x24x1024 ![] Cert.AdamConvReferenceIdeal.Gen.bcast_S_S1x24x1024 (constant Cert.AdamConvReferenceIdeal.S_ .f32 0x3A83126F#32)) (mulf X0 X0))

/-- Which block each window holds at grid point `t`. -/
theorem where_at : ∀ t : Fin cfg0.N, win0_0.index t = ![0, 0, 0] ∧ win0_1.index t = ![0, 0, 0] ∧ win0_2.index t = ![0, 0, 0] ∧ win0_3.index t = ![0, 0, 0] ∧ win0_4.index t = ![0, 0, 0] ∧ win0_5.index t = ![0, 0, 0] ∧ win0_6.index t = ![0, 0, 0] :=
  (by decide +kernel : ∀ t : Fin grid0.N, _)

/-- What grid point `t` stores at `y` is the plain result at `y`'s place in the array. -/
theorem stored_delta (c : Dev nD) (t : Fin cfg0.N) (y) :
    k0_pay1 (k0_pay7 (iblk m c 0 t) (iblk m c 2 t) (iblk m c 3 t) (iblk m c 1 t)) y = delta (m ((c : Thread nD τ).loc main_arg0)) (m ((c : Thread nD τ).loc main_arg1)) (m ((c : Thread nD τ).loc main_arg2)) (m ((c : Thread nD τ).loc main_arg3)) (((cfg0.win 4).blk t).view.emb y) := by
  pointwise [k0_pay1, k0_pay4, k0_pay5, k0_pay6, k0_pay7, delta]
  blk_point [iblk, V, where_at t]

/-- After the run the output array holds the plain result. -/
theorem final_delta (c : Dev nD) : (dats m 0 c).arrAt 4 (cfgs 0).N = delta (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t _ y => ?_
  blk_simp
  rw [after0_4]
  frame_out
  exact stored_delta m c t y

/-- What grid point `t` stores at `y` is the plain result at `y`'s place in the array. -/
theorem stored_moment (c : Dev nD) (t : Fin cfg0.N) (y) :
    k0_pay2 (k0_pay5 (iblk m c 0 t) (iblk m c 2 t)) y = moment (m ((c : Thread nD τ).loc main_arg0)) (m ((c : Thread nD τ).loc main_arg1)) (m ((c : Thread nD τ).loc main_arg2)) (m ((c : Thread nD τ).loc main_arg3)) (((cfg0.win 5).blk t).view.emb y) := by
  pointwise [k0_pay2, k0_pay4, k0_pay5, moment]
  blk_point [iblk, V, where_at t]

/-- After the run the output array holds the plain result. -/
theorem final_moment (c : Dev nD) : (dats m 0 c).arrAt 5 (cfgs 0).N = moment (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t _ y => ?_
  blk_simp
  rw [after0_5]
  frame_out
  exact stored_moment m c t y

/-- What grid point `t` stores at `y` is the plain result at `y`'s place in the array. -/
theorem stored_second (c : Dev nD) (t : Fin cfg0.N) (y) :
    k0_pay3 (k0_pay6 (iblk m c 0 t) (iblk m c 3 t)) y = second (m ((c : Thread nD τ).loc main_arg0)) (m ((c : Thread nD τ).loc main_arg1)) (m ((c : Thread nD τ).loc main_arg2)) (m ((c : Thread nD τ).loc main_arg3)) (((cfg0.win 6).blk t).view.emb y) := by
  pointwise [k0_pay3, k0_pay4, k0_pay6, second]
  blk_point [iblk, V, where_at t]

/-- After the run the output array holds the plain result. -/
theorem final_second (c : Dev nD) : (dats m 0 c).arrAt 6 (cfgs 0).N = second (m ((c : Thread nD τ).loc main_arg0)) (m ((c : Thread nD τ).loc main_arg1)) (m ((c : Thread nD τ).loc main_arg2)) (m ((c : Thread nD τ).loc main_arg3)) := by
  refine (dats m 0 c).arrAt_eq_of_covers 6 _ (by decide +kernel) fun t _ y => ?_
  blk_simp
  rw [after0_6]
  frame_out
  exact stored_second m c t y

end Cert.AdamConvIdeal.Product

end
-- ==== Proof.Norm1X.lean ====
/- The first norm's backward call: what the launch leaves is the plain result. -/
module

public import proofs.«01_k».proof.Proof.Gates
public import proofs.«01_k».proof.Proof.Gen.Norm1XIdeal.Value
public import proofs.«01_k».proof.Proof.Gen.Norm1XReferenceIdeal.Run
public import Idealize.ShloMosaic.Lib.Pipeline.ValueKit

@[expose] public section

set_option maxRecDepth 16384

noncomputable section

namespace Cert.Norm1XIdeal.Product

open Idealize.ShloMosaic Idealize.ShloMosaic.TcCoe Idealize.ShloMosaic.StableHlo Idealize.SL.Sem
open Cert.Norm1XIdeal Cert.Norm1XIdeal.Gen

variable (m : (ℓ : Loc nD τ sig) → Buf (Elt Ideal) ℓ)

/-- Which block each window holds at grid point `t`. -/
theorem where_at : ∀ t : Fin cfg0.N, win0_0.index t = ![15 - t.val, 0] ∧ win0_1.index t = ![0, 0] ∧ win0_2.index t = ![0, 0] ∧ win0_3.index t = ![0, 0] ∧ win0_4.index t = ![15 - t.val, 0] ∧ win0_5.index t = ![15 - t.val, 0] ∧ win0_6.index t = ![15 - t.val, 0] ∧ win0_7.index t = ![0, 0] ∧ win0_8.index t = ![0, 0] ∧ win0_9.index t = ![0, 0] :=
  (by decide +kernel : ∀ t : Fin grid0.N, _)

/-- The plain gradient of the rows. -/
abbrev d_x (X0 : FVec Ideal Cert.Norm1XReferenceIdeal.S8192x1024 .f32) (X1 : FVec Ideal Cert.Norm1XReferenceIdeal.S1x1024 .f32) (X2 : FVec Ideal Cert.Norm1XReferenceIdeal.S1x1024 .f32) (X3 : FVec Ideal Cert.Norm1XReferenceIdeal.S1x1024 .f32) (X4 : FVec Ideal Cert.Norm1XReferenceIdeal.S8192x1024 .f32) (X5 : FVec Ideal Cert.Norm1XReferenceIdeal.S8192x1024 .f32) : FVec Ideal Cert.Norm1XReferenceIdeal.S8192x1024 .f32 :=
  addf (addf (addf X5 (mulf (mulf (mulf (shapeCast _ X4 Cert.Norm1XReferenceIdeal.Gen.shapeCasts_S8192x1024_S8192x1024) (broadcastInDim Cert.Norm1XReferenceIdeal.S8192x1024 ![0, 1] Cert.Norm1XReferenceIdeal.Gen.bcast_S1x1024_S8192x1024_0_1 (addf (broadcastInDim Cert.Norm1XReferenceIdeal.S1x1024 ![] Cert.Norm1XReferenceIdeal.Gen.bcast_S_S1x1024 (constant Cert.Norm1XReferenceIdeal.S_ .f32 0x3F800000#32)) X2))) (broadcastInDim Cert.Norm1XReferenceIdeal.S8192x1024 ![0, 1] Cert.Norm1XReferenceIdeal.Gen.bcast_S1x1024_S8192x1024_0_1 X1)) (broadcastInDim Cert.Norm1XReferenceIdeal.S8192x1024 ![0, 1] Cert.Norm1XReferenceIdeal.Gen.bcast_S8192x1_S8192x1024_0_1 (Host.rsqrt (addf (Host.divf (broadcastInDim Cert.Norm1XReferenceIdeal.S8192x1 ![0] Cert.Norm1XReferenceIdeal.Gen.bcast_S8192_S8192x1_0 (Host.reduceAdd (mulf X0 X0) (constant Cert.Norm1XReferenceIdeal.S_ .f32 0x00000000#32) Cert.Norm1XReferenceIdeal.Gen.reducesTo_S8192x1024_S8192_d1 Cert.Norm1XReferenceIdeal.Gen.h_S_)) (broadcastInDim Cert.Norm1XReferenceIdeal.S8192x1 ![] Cert.Norm1XReferenceIdeal.Gen.bcast_S_S8192x1 (constant Cert.Norm1XReferenceIdeal.S_ .f32 0x44800000#32))) (broadcastInDim Cert.Norm1XReferenceIdeal.S8192x1 ![] Cert.Norm1XReferenceIdeal.Gen.bcast_S_S8192x1 (constant Cert.Norm1XReferenceIdeal.S_ .f32 0x358637BD#32))))))) (mulf X0 (broadcastInDim Cert.Norm1XReferenceIdeal.S8192x1024 ![0] Cert.Norm1XReferenceIdeal.Gen.bcast_S8192_S8192x1024_0 (Host.reduceAdd (Host.divf (mulf (shapeCast _ (Host.reduceAdd (mulf X0 (mulf (mulf (shapeCast _ X4 Cert.Norm1XReferenceIdeal.Gen.shapeCasts_S8192x1024_S8192x1024) (broadcastInDim Cert.Norm1XReferenceIdeal.S8192x1024 ![0, 1] Cert.Norm1XReferenceIdeal.Gen.bcast_S1x1024_S8192x1024_0_1 (addf (broadcastInDim Cert.Norm1XReferenceIdeal.S1x1024 ![] Cert.Norm1XReferenceIdeal.Gen.bcast_S_S1x1024 (constant Cert.Norm1XReferenceIdeal.S_ .f32 0x3F800000#32)) X2))) (broadcastInDim Cert.Norm1XReferenceIdeal.S8192x1024 ![0, 1] Cert.Norm1XReferenceIdeal.Gen.bcast_S1x1024_S8192x1024_0_1 X1))) (constant Cert.Norm1XReferenceIdeal.S_ .f32 0x00000000#32) Cert.Norm1XReferenceIdeal.Gen.reducesTo_S8192x1024_S8192_d1 Cert.Norm1XReferenceIdeal.Gen.h_S_) Cert.Norm1XReferenceIdeal.Gen.shapeCasts_S8192_S8192x1) (mulf (broadcastInDim Cert.Norm1XReferenceIdeal.S8192x1 ![] Cert.Norm1XReferenceIdeal.Gen.bcast_S_S8192x1 (constant Cert.Norm1XReferenceIdeal.S_ .f32 0xBF000000#32)) (Host.divf (Host.rsqrt (addf (Host.divf (broadcastInDim Cert.Norm1XReferenceIdeal.S8192x1 ![0] Cert.Norm1XReferenceIdeal.Gen.bcast_S8192_S8192x1_0 (Host.reduceAdd (mulf X0 X0) (constant Cert.Norm1XReferenceIdeal.S_ .f32 0x00000000#32) Cert.Norm1XReferenceIdeal.Gen.reducesTo_S8192x1024_S8192_d1 Cert.Norm1XReferenceIdeal.Gen.h_S_)) (broadcastInDim Cert.Norm1XReferenceIdeal.S8192x1 ![] Cert.Norm1XReferenceIdeal.Gen.bcast_S_S8192x1 (constant Cert.Norm1XReferenceIdeal.S_ .f32 0x44800000#32))) (broadcastInDim Cert.Norm1XReferenceIdeal.S8192x1 ![] Cert.Norm1XReferenceIdeal.Gen.bcast_S_S8192x1 (constant Cert.Norm1XReferenceIdeal.S_ .f32 0x358637BD#32)))) (addf (Host.divf (broadcastInDim Cert.Norm1XReferenceIdeal.S8192x1 ![0] Cert.Norm1XReferenceIdeal.Gen.bcast_S8192_S8192x1_0 (Host.reduceAdd (mulf X0 X0) (constant Cert.Norm1XReferenceIdeal.S_ .f32 0x00000000#32) Cert.Norm1XReferenceIdeal.Gen.reducesTo_S8192x1024_S8192_d1 Cert.Norm1XReferenceIdeal.Gen.h_S_)) (broadcastInDim Cert.Norm1XReferenceIdeal.S8192x1 ![] Cert.Norm1XReferenceIdeal.Gen.bcast_S_S8192x1 (constant Cert.Norm1XReferenceIdeal.S_ .f32 0x44800000#32))) (broadcastInDim Cert.Norm1XReferenceIdeal.S8192x1 ![] Cert.Norm1XReferenceIdeal.Gen.bcast_S_S8192x1 (constant Cert.Norm1XReferenceIdeal.S_ .f32 0x358637BD#32)))))) (broadcastInDim Cert.Norm1XReferenceIdeal.S8192x1 ![] Cert.Norm1XReferenceIdeal.Gen.bcast_S_S8192x1 (constant Cert.Norm1XReferenceIdeal.S_ .f32 0x44800000#32))) (constant Cert.Norm1XReferenceIdeal.S_ .f32 0x00000000#32) Cert.Norm1XReferenceIdeal.Gen.reducesTo_S8192x1_S8192_d1 Cert.Norm1XReferenceIdeal.Gen.h_S_)))) (mulf (broadcastInDim Cert.Norm1XReferenceIdeal.S8192x1024 ![0] Cert.Norm1XReferenceIdeal.Gen.bcast_S8192_S8192x1024_0 (Host.reduceAdd (Host.divf (mulf (shapeCast _ (Host.reduceAdd (mulf X0 (mulf (mulf (shapeCast _ X4 Cert.Norm1XReferenceIdeal.Gen.shapeCasts_S8192x1024_S8192x1024) (broadcastInDim Cert.Norm1XReferenceIdeal.S8192x1024 ![0, 1] Cert.Norm1XReferenceIdeal.Gen.bcast_S1x1024_S8192x1024_0_1 (addf (broadcastInDim Cert.Norm1XReferenceIdeal.S1x1024 ![] Cert.Norm1XReferenceIdeal.Gen.bcast_S_S1x1024 (constant Cert.Norm1XReferenceIdeal.S_ .f32 0x3F800000#32)) X2))) (broadcastInDim Cert.Norm1XReferenceIdeal.S8192x1024 ![0, 1] Cert.Norm1XReferenceIdeal.Gen.bcast_S1x1024_S8192x1024_0_1 X1))) (constant Cert.Norm1XReferenceIdeal.S_ .f32 0x00000000#32) Cert.Norm1XReferenceIdeal.Gen.reducesTo_S8192x1024_S8192_d1 Cert.Norm1XReferenceIdeal.Gen.h_S_) Cert.Norm1XReferenceIdeal.Gen.shapeCasts_S8192_S8192x1) (mulf (broadcastInDim Cert.Norm1XReferenceIdeal.S8192x1 ![] Cert.Norm1XReferenceIdeal.Gen.bcast_S_S8192x1 (constant Cert.Norm1XReferenceIdeal.S_ .f32 0xBF000000#32)) (Host.divf (Host.rsqrt (addf (Host.divf (broadcastInDim Cert.Norm1XReferenceIdeal.S8192x1 ![0] Cert.Norm1XReferenceIdeal.Gen.bcast_S8192_S8192x1_0 (Host.reduceAdd (mulf X0 X0) (constant Cert.Norm1XReferenceIdeal.S_ .f32 0x00000000#32) Cert.Norm1XReferenceIdeal.Gen.reducesTo_S8192x1024_S8192_d1 Cert.Norm1XReferenceIdeal.Gen.h_S_)) (broadcastInDim Cert.Norm1XReferenceIdeal.S8192x1 ![] Cert.Norm1XReferenceIdeal.Gen.bcast_S_S8192x1 (constant Cert.Norm1XReferenceIdeal.S_ .f32 0x44800000#32))) (broadcastInDim Cert.Norm1XReferenceIdeal.S8192x1 ![] Cert.Norm1XReferenceIdeal.Gen.bcast_S_S8192x1 (constant Cert.Norm1XReferenceIdeal.S_ .f32 0x358637BD#32)))) (addf (Host.divf (broadcastInDim Cert.Norm1XReferenceIdeal.S8192x1 ![0] Cert.Norm1XReferenceIdeal.Gen.bcast_S8192_S8192x1_0 (Host.reduceAdd (mulf X0 X0) (constant Cert.Norm1XReferenceIdeal.S_ .f32 0x00000000#32) Cert.Norm1XReferenceIdeal.Gen.reducesTo_S8192x1024_S8192_d1 Cert.Norm1XReferenceIdeal.Gen.h_S_)) (broadcastInDim Cert.Norm1XReferenceIdeal.S8192x1 ![] Cert.Norm1XReferenceIdeal.Gen.bcast_S_S8192x1 (constant Cert.Norm1XReferenceIdeal.S_ .f32 0x44800000#32))) (broadcastInDim Cert.Norm1XReferenceIdeal.S8192x1 ![] Cert.Norm1XReferenceIdeal.Gen.bcast_S_S8192x1 (constant Cert.Norm1XReferenceIdeal.S_ .f32 0x358637BD#32)))))) (broadcastInDim Cert.Norm1XReferenceIdeal.S8192x1 ![] Cert.Norm1XReferenceIdeal.Gen.bcast_S_S8192x1 (constant Cert.Norm1XReferenceIdeal.S_ .f32 0x44800000#32))) (constant Cert.Norm1XReferenceIdeal.S_ .f32 0x00000000#32) Cert.Norm1XReferenceIdeal.Gen.reducesTo_S8192x1_S8192_d1 Cert.Norm1XReferenceIdeal.Gen.h_S_)) X0)

/-- After the run the output array holds the plain gradient of the rows. -/
theorem final_d_x (c : Dev nD) : (dats m 0 c).arrAt 6 (cfgs 0).N = d_x (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (dats m 0 c).arrAt_eq_of_covers 6 _ (by decide +kernel) fun t _ y => ?_
  blk_simp
  rw [after0_6]
  by_cases h : t.val % 16 = 0
  · rw [outsAt0_A m c t h]
    frame_out
    pointwise [k0_pay1, k0_pay2, k0_pay3, k0_pay4, k0_pay5, k0_pay6, k0_pay7, k0_pay8, k0_pay9, k0_pay10, k0_pay11, k0_pay12, k0_pay13, k0_pay14, k0_pay15, k0_pay16, k0_pay17, d_x]
    blk_point [iblk, V, where_at t]
  · rw [outsAt0_B m c t h]
    frame_out
    pointwise [k0_pay1, k0_pay2, k0_pay3, k0_pay4, k0_pay5, k0_pay6, k0_pay7, k0_pay8, k0_pay9, k0_pay10, k0_pay11, k0_pay12, k0_pay13, k0_pay14, k0_pay15, k0_pay16, k0_pay17, d_x]
    blk_point [iblk, V, where_at t]

/-- The plain gradient of the norm's weight. -/
abbrev d_norm (X0 : FVec Ideal Cert.Norm1XReferenceIdeal.S8192x1024 .f32) (X1 : FVec Ideal Cert.Norm1XReferenceIdeal.S1x1024 .f32) (X2 : FVec Ideal Cert.Norm1XReferenceIdeal.S1x1024 .f32) (X3 : FVec Ideal Cert.Norm1XReferenceIdeal.S1x1024 .f32) (X4 : FVec Ideal Cert.Norm1XReferenceIdeal.S8192x1024 .f32) (X5 : FVec Ideal Cert.Norm1XReferenceIdeal.S8192x1024 .f32) : FVec Ideal Cert.Norm1XReferenceIdeal.S1x1024 .f32 :=
  shapeCast _ (Host.reduceAdd (mulf (mulf X0 (broadcastInDim Cert.Norm1XReferenceIdeal.S8192x1024 ![0, 1] Cert.Norm1XReferenceIdeal.Gen.bcast_S8192x1_S8192x1024_0_1 (Host.rsqrt (addf (Host.divf (broadcastInDim Cert.Norm1XReferenceIdeal.S8192x1 ![0] Cert.Norm1XReferenceIdeal.Gen.bcast_S8192_S8192x1_0 (Host.reduceAdd (mulf X0 X0) (constant Cert.Norm1XReferenceIdeal.S_ .f32 0x00000000#32) Cert.Norm1XReferenceIdeal.Gen.reducesTo_S8192x1024_S8192_d1 Cert.Norm1XReferenceIdeal.Gen.h_S_)) (broadcastInDim Cert.Norm1XReferenceIdeal.S8192x1 ![] Cert.Norm1XReferenceIdeal.Gen.bcast_S_S8192x1 (constant Cert.Norm1XReferenceIdeal.S_ .f32 0x44800000#32))) (broadcastInDim Cert.Norm1XReferenceIdeal.S8192x1 ![] Cert.Norm1XReferenceIdeal.Gen.bcast_S_S8192x1 (constant Cert.Norm1XReferenceIdeal.S_ .f32 0x358637BD#32)))))) (mulf (shapeCast _ X4 Cert.Norm1XReferenceIdeal.Gen.shapeCasts_S8192x1024_S8192x1024) (broadcastInDim Cert.Norm1XReferenceIdeal.S8192x1024 ![0, 1] Cert.Norm1XReferenceIdeal.Gen.bcast_S1x1024_S8192x1024_0_1 (addf (broadcastInDim Cert.Norm1XReferenceIdeal.S1x1024 ![] Cert.Norm1XReferenceIdeal.Gen.bcast_S_S1x1024 (constant Cert.Norm1XReferenceIdeal.S_ .f32 0x3F800000#32)) X2)))) (constant Cert.Norm1XReferenceIdeal.S_ .f32 0x00000000#32) Cert.Norm1XReferenceIdeal.Gen.reducesTo_S8192x1024_S1024_d0 Cert.Norm1XReferenceIdeal.Gen.h_S_) Cert.Norm1XReferenceIdeal.Gen.shapeCasts_S1024_S1x1024

/-- After the run the output array holds the plain gradient of the norm's weight. -/
theorem final_d_norm (c : Dev nD) : (dats m 0 c).arrAt 7 (cfgs 0).N = d_norm (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (dats m 0 c).arrAt_eq_of_covers 7 _ (by decide +kernel) fun t hf y => ?_
  blk_simp
  rw [after0_7, Pipeline.eq_sum_fin_of_reset_step_apply_of_flush (fun n h => (outsAt0 m c n h).2.1) 16 (fun _ => 0)
    (fun p j => (k0_pay16 (iblk m c 0 p) (iblk m c 2 p) (iblk m c 4 p) j : EReal))
    (fun t h j => by
      have b := lt_of_lt_of_eq t.isLt (show cfg0.N = 16 from N_0)
      rw [outsAt0_A m c t (by omega)]; frame_out
      generalize k0_pay16 (iblk m c 0 t) (iblk m c 2 t) (iblk m c 4 t) = s
      pointwise [k0_pay2, k0_pay5])
    (fun t h j => by
      rw [outsAt0_B m c t (by omega)]; frame_out
      generalize k0_pay16 (iblk m c 0 t) (iblk m c 2 t) (iblk m c 4 t) = s
      pointwise [k0_pay2])
    t ((flush0_7 t).mp hf) _, zero_add]
  pointwise [k0_pay1, k0_pay2, k0_pay3, k0_pay4, k0_pay5, k0_pay6, k0_pay7, k0_pay8, k0_pay9, k0_pay10, k0_pay11, k0_pay12, k0_pay13, k0_pay14, k0_pay15, k0_pay16, k0_pay17, d_norm]
  refine Eq.trans (α := EReal) (Equiv.sum_comp Fin.revPerm _).symm ?_
  refine Fin.sum_mul_add_congr fun s k hl => ?_
  blk_point [iblk, V, where_at, Fin.revPerm_apply, Fin.val_rev]

/-- The plain gradient of the scale. -/
abbrev d_scale (X0 : FVec Ideal Cert.Norm1XReferenceIdeal.S8192x1024 .f32) (X1 : FVec Ideal Cert.Norm1XReferenceIdeal.S1x1024 .f32) (X2 : FVec Ideal Cert.Norm1XReferenceIdeal.S1x1024 .f32) (X3 : FVec Ideal Cert.Norm1XReferenceIdeal.S1x1024 .f32) (X4 : FVec Ideal Cert.Norm1XReferenceIdeal.S8192x1024 .f32) (X5 : FVec Ideal Cert.Norm1XReferenceIdeal.S8192x1024 .f32) : FVec Ideal Cert.Norm1XReferenceIdeal.S1x1024 .f32 :=
  shapeCast _ (Host.reduceAdd (mulf (mulf (mulf X0 (broadcastInDim Cert.Norm1XReferenceIdeal.S8192x1024 ![0, 1] Cert.Norm1XReferenceIdeal.Gen.bcast_S8192x1_S8192x1024_0_1 (Host.rsqrt (addf (Host.divf (broadcastInDim Cert.Norm1XReferenceIdeal.S8192x1 ![0] Cert.Norm1XReferenceIdeal.Gen.bcast_S8192_S8192x1_0 (Host.reduceAdd (mulf X0 X0) (constant Cert.Norm1XReferenceIdeal.S_ .f32 0x00000000#32) Cert.Norm1XReferenceIdeal.Gen.reducesTo_S8192x1024_S8192_d1 Cert.Norm1XReferenceIdeal.Gen.h_S_)) (broadcastInDim Cert.Norm1XReferenceIdeal.S8192x1 ![] Cert.Norm1XReferenceIdeal.Gen.bcast_S_S8192x1 (constant Cert.Norm1XReferenceIdeal.S_ .f32 0x44800000#32))) (broadcastInDim Cert.Norm1XReferenceIdeal.S8192x1 ![] Cert.Norm1XReferenceIdeal.Gen.bcast_S_S8192x1 (constant Cert.Norm1XReferenceIdeal.S_ .f32 0x358637BD#32)))))) (broadcastInDim Cert.Norm1XReferenceIdeal.S8192x1024 ![0, 1] Cert.Norm1XReferenceIdeal.Gen.bcast_S1x1024_S8192x1024_0_1 X1)) (shapeCast _ X4 Cert.Norm1XReferenceIdeal.Gen.shapeCasts_S8192x1024_S8192x1024)) (constant Cert.Norm1XReferenceIdeal.S_ .f32 0x00000000#32) Cert.Norm1XReferenceIdeal.Gen.reducesTo_S8192x1024_S1024_d0 Cert.Norm1XReferenceIdeal.Gen.h_S_) Cert.Norm1XReferenceIdeal.Gen.shapeCasts_S1024_S1x1024

/-- After the run the output array holds the plain gradient of the scale. -/
theorem final_d_scale (c : Dev nD) : (dats m 0 c).arrAt 8 (cfgs 0).N = d_scale (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (dats m 0 c).arrAt_eq_of_covers 8 _ (by decide +kernel) fun t hf y => ?_
  blk_simp
  rw [after0_8, Pipeline.eq_sum_fin_of_reset_step_apply_of_flush (fun n h => (outsAt0 m c n h).2.2.1) 16 (fun _ => 0)
    (fun p j => (k0_pay14 (iblk m c 0 p) (iblk m c 1 p) (iblk m c 4 p) j : EReal))
    (fun t h j => by
      have b := lt_of_lt_of_eq t.isLt (show cfg0.N = 16 from N_0)
      rw [outsAt0_A m c t (by omega)]; frame_out
      generalize k0_pay14 (iblk m c 0 t) (iblk m c 1 t) (iblk m c 4 t) = s
      pointwise [k0_pay3, k0_pay6])
    (fun t h j => by
      rw [outsAt0_B m c t (by omega)]; frame_out
      generalize k0_pay14 (iblk m c 0 t) (iblk m c 1 t) (iblk m c 4 t) = s
      pointwise [k0_pay3])
    t ((flush0_8 t).mp hf) _, zero_add]
  pointwise [k0_pay1, k0_pay2, k0_pay3, k0_pay4, k0_pay5, k0_pay6, k0_pay7, k0_pay8, k0_pay9, k0_pay10, k0_pay11, k0_pay12, k0_pay13, k0_pay14, k0_pay15, k0_pay16, k0_pay17, d_scale]
  refine Eq.trans (α := EReal) (Equiv.sum_comp Fin.revPerm _).symm ?_
  refine Fin.sum_mul_add_congr fun s k hl => ?_
  blk_point [iblk, V, where_at, Fin.revPerm_apply, Fin.val_rev]

/-- The plain gradient of the shift. -/
abbrev d_shift (X0 : FVec Ideal Cert.Norm1XReferenceIdeal.S8192x1024 .f32) (X1 : FVec Ideal Cert.Norm1XReferenceIdeal.S1x1024 .f32) (X2 : FVec Ideal Cert.Norm1XReferenceIdeal.S1x1024 .f32) (X3 : FVec Ideal Cert.Norm1XReferenceIdeal.S1x1024 .f32) (X4 : FVec Ideal Cert.Norm1XReferenceIdeal.S8192x1024 .f32) (X5 : FVec Ideal Cert.Norm1XReferenceIdeal.S8192x1024 .f32) : FVec Ideal Cert.Norm1XReferenceIdeal.S1x1024 .f32 :=
  shapeCast _ (Host.reduceAdd X4 (constant Cert.Norm1XReferenceIdeal.S_ .f32 0x00000000#32) Cert.Norm1XReferenceIdeal.Gen.reducesTo_S8192x1024_S1024_d0 Cert.Norm1XReferenceIdeal.Gen.h_S_) Cert.Norm1XReferenceIdeal.Gen.shapeCasts_S1024_S1x1024

/-- After the run the output array holds the plain gradient of the shift. -/
theorem final_d_shift (c : Dev nD) : (dats m 0 c).arrAt 9 (cfgs 0).N = d_shift (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (dats m 0 c).arrAt_eq_of_covers 9 _ (by decide +kernel) fun t hf y => ?_
  blk_simp
  rw [after0_9, Pipeline.eq_sum_fin_of_reset_step_apply_of_flush (fun n h => (outsAt0 m c n h).2.2.2) 16 (fun _ => 0)
    (fun p j => (k0_pay13 (iblk m c 4 p) j : EReal))
    (fun t h j => by
      have b := lt_of_lt_of_eq t.isLt (show cfg0.N = 16 from N_0)
      rw [outsAt0_A m c t (by omega)]; frame_out
      generalize k0_pay13 (iblk m c 4 t) = s
      pointwise [k0_pay4, k0_pay7])
    (fun t h j => by
      rw [outsAt0_B m c t (by omega)]; frame_out
      generalize k0_pay13 (iblk m c 4 t) = s
      pointwise [k0_pay4])
    t ((flush0_9 t).mp hf) _, zero_add]
  pointwise [k0_pay1, k0_pay2, k0_pay3, k0_pay4, k0_pay5, k0_pay6, k0_pay7, k0_pay8, k0_pay9, k0_pay10, k0_pay11, k0_pay12, k0_pay13, k0_pay14, k0_pay15, k0_pay16, k0_pay17, d_shift]
  refine Eq.trans (α := EReal) (Equiv.sum_comp Fin.revPerm _).symm ?_
  refine Fin.sum_mul_add_congr fun s k hl => ?_
  blk_point [iblk, V, where_at, Fin.revPerm_apply, Fin.val_rev]

end Cert.Norm1XIdeal.Product

end
-- ==== Proof.Norm2X.lean ====
/- The second norm's backward call: what the launch leaves is the plain result. -/
module

public import proofs.«01_k».proof.Proof.Gates
public import proofs.«01_k».proof.Proof.Gen.Norm2XIdeal.Value
public import proofs.«01_k».proof.Proof.Gen.Norm2XReferenceIdeal.Run
public import Idealize.ShloMosaic.Lib.Pipeline.ValueKit

@[expose] public section

set_option maxRecDepth 16384

noncomputable section

namespace Cert.Norm2XIdeal.Product

open Idealize.ShloMosaic Idealize.ShloMosaic.TcCoe Idealize.ShloMosaic.StableHlo Idealize.SL.Sem
open Cert.Norm2XIdeal Cert.Norm2XIdeal.Gen

variable (m : (ℓ : Loc nD τ sig) → Buf (Elt Ideal) ℓ)

/-- Which block each window holds at grid point `t`. -/
theorem where_at : ∀ t : Fin cfg0.N, win0_0.index t = ![15 - t.val, 0] ∧ win0_1.index t = ![15 - t.val, 0] ∧ win0_2.index t = ![0, 0] ∧ win0_3.index t = ![0, 0] ∧ win0_4.index t = ![0, 0] ∧ win0_5.index t = ![0, 0] ∧ win0_6.index t = ![15 - t.val, 0] ∧ win0_7.index t = ![15 - t.val, 0] ∧ win0_8.index t = ![15 - t.val, 0] ∧ win0_9.index t = ![15 - t.val, 0] ∧ win0_10.index t = ![0, 0] ∧ win0_11.index t = ![0, 0] ∧ win0_12.index t = ![0, 0] ∧ win0_13.index t = ![0, 0] :=
  (by decide +kernel : ∀ t : Fin grid0.N, _)

/-- The plain gradient of the rows. -/
abbrev d_x (X0 : FVec Ideal Cert.Norm2XReferenceIdeal.S8192x1024 .f32) (X1 : FVec Ideal Cert.Norm2XReferenceIdeal.S8192x1024 .f32) (X2 : FVec Ideal Cert.Norm2XReferenceIdeal.S1x1024 .f32) (X3 : FVec Ideal Cert.Norm2XReferenceIdeal.S1x1024 .f32) (X4 : FVec Ideal Cert.Norm2XReferenceIdeal.S1x1024 .f32) (X5 : FVec Ideal Cert.Norm2XReferenceIdeal.S1x1024 .f32) (X6 : FVec Ideal Cert.Norm2XReferenceIdeal.S8192x1024 .f32) (X7 : FVec Ideal Cert.Norm2XReferenceIdeal.S8192x1024 .f32) : FVec Ideal Cert.Norm2XReferenceIdeal.S8192x1024 .f32 :=
  addf (addf (addf X7 (mulf (mulf (mulf (shapeCast _ X6 Cert.Norm2XReferenceIdeal.Gen.shapeCasts_S8192x1024_S8192x1024) (broadcastInDim Cert.Norm2XReferenceIdeal.S8192x1024 ![0, 1] Cert.Norm2XReferenceIdeal.Gen.bcast_S1x1024_S8192x1024_0_1 (addf (broadcastInDim Cert.Norm2XReferenceIdeal.S1x1024 ![] Cert.Norm2XReferenceIdeal.Gen.bcast_S_S1x1024 (constant Cert.Norm2XReferenceIdeal.S_ .f32 0x3F800000#32)) X4))) (broadcastInDim Cert.Norm2XReferenceIdeal.S8192x1024 ![0, 1] Cert.Norm2XReferenceIdeal.Gen.bcast_S1x1024_S8192x1024_0_1 X3)) (broadcastInDim Cert.Norm2XReferenceIdeal.S8192x1024 ![0, 1] Cert.Norm2XReferenceIdeal.Gen.bcast_S8192x1_S8192x1024_0_1 (Host.rsqrt (addf (Host.divf (broadcastInDim Cert.Norm2XReferenceIdeal.S8192x1 ![0] Cert.Norm2XReferenceIdeal.Gen.bcast_S8192_S8192x1_0 (Host.reduceAdd (mulf (addf X0 (mulf (broadcastInDim Cert.Norm2XReferenceIdeal.S8192x1024 ![0, 1] Cert.Norm2XReferenceIdeal.Gen.bcast_S1x1024_S8192x1024_0_1 X2) X1)) (addf X0 (mulf (broadcastInDim Cert.Norm2XReferenceIdeal.S8192x1024 ![0, 1] Cert.Norm2XReferenceIdeal.Gen.bcast_S1x1024_S8192x1024_0_1 X2) X1))) (constant Cert.Norm2XReferenceIdeal.S_ .f32 0x00000000#32) Cert.Norm2XReferenceIdeal.Gen.reducesTo_S8192x1024_S8192_d1 Cert.Norm2XReferenceIdeal.Gen.h_S_)) (broadcastInDim Cert.Norm2XReferenceIdeal.S8192x1 ![] Cert.Norm2XReferenceIdeal.Gen.bcast_S_S8192x1 (constant Cert.Norm2XReferenceIdeal.S_ .f32 0x44800000#32))) (broadcastInDim Cert.Norm2XReferenceIdeal.S8192x1 ![] Cert.Norm2XReferenceIdeal.Gen.bcast_S_S8192x1 (constant Cert.Norm2XReferenceIdeal.S_ .f32 0x358637BD#32))))))) (mulf (addf X0 (mulf (broadcastInDim Cert.Norm2XReferenceIdeal.S8192x1024 ![0, 1] Cert.Norm2XReferenceIdeal.Gen.bcast_S1x1024_S8192x1024_0_1 X2) X1)) (broadcastInDim Cert.Norm2XReferenceIdeal.S8192x1024 ![0] Cert.Norm2XReferenceIdeal.Gen.bcast_S8192_S8192x1024_0 (Host.reduceAdd (Host.divf (mulf (shapeCast _ (Host.reduceAdd (mulf (addf X0 (mulf (broadcastInDim Cert.Norm2XReferenceIdeal.S8192x1024 ![0, 1] Cert.Norm2XReferenceIdeal.Gen.bcast_S1x1024_S8192x1024_0_1 X2) X1)) (mulf (mulf (shapeCast _ X6 Cert.Norm2XReferenceIdeal.Gen.shapeCasts_S8192x1024_S8192x1024) (broadcastInDim Cert.Norm2XReferenceIdeal.S8192x1024 ![0, 1] Cert.Norm2XReferenceIdeal.Gen.bcast_S1x1024_S8192x1024_0_1 (addf (broadcastInDim Cert.Norm2XReferenceIdeal.S1x1024 ![] Cert.Norm2XReferenceIdeal.Gen.bcast_S_S1x1024 (constant Cert.Norm2XReferenceIdeal.S_ .f32 0x3F800000#32)) X4))) (broadcastInDim Cert.Norm2XReferenceIdeal.S8192x1024 ![0, 1] Cert.Norm2XReferenceIdeal.Gen.bcast_S1x1024_S8192x1024_0_1 X3))) (constant Cert.Norm2XReferenceIdeal.S_ .f32 0x00000000#32) Cert.Norm2XReferenceIdeal.Gen.reducesTo_S8192x1024_S8192_d1 Cert.Norm2XReferenceIdeal.Gen.h_S_) Cert.Norm2XReferenceIdeal.Gen.shapeCasts_S8192_S8192x1) (mulf (broadcastInDim Cert.Norm2XReferenceIdeal.S8192x1 ![] Cert.Norm2XReferenceIdeal.Gen.bcast_S_S8192x1 (constant Cert.Norm2XReferenceIdeal.S_ .f32 0xBF000000#32)) (Host.divf (Host.rsqrt (addf (Host.divf (broadcastInDim Cert.Norm2XReferenceIdeal.S8192x1 ![0] Cert.Norm2XReferenceIdeal.Gen.bcast_S8192_S8192x1_0 (Host.reduceAdd (mulf (addf X0 (mulf (broadcastInDim Cert.Norm2XReferenceIdeal.S8192x1024 ![0, 1] Cert.Norm2XReferenceIdeal.Gen.bcast_S1x1024_S8192x1024_0_1 X2) X1)) (addf X0 (mulf (broadcastInDim Cert.Norm2XReferenceIdeal.S8192x1024 ![0, 1] Cert.Norm2XReferenceIdeal.Gen.bcast_S1x1024_S8192x1024_0_1 X2) X1))) (constant Cert.Norm2XReferenceIdeal.S_ .f32 0x00000000#32) Cert.Norm2XReferenceIdeal.Gen.reducesTo_S8192x1024_S8192_d1 Cert.Norm2XReferenceIdeal.Gen.h_S_)) (broadcastInDim Cert.Norm2XReferenceIdeal.S8192x1 ![] Cert.Norm2XReferenceIdeal.Gen.bcast_S_S8192x1 (constant Cert.Norm2XReferenceIdeal.S_ .f32 0x44800000#32))) (broadcastInDim Cert.Norm2XReferenceIdeal.S8192x1 ![] Cert.Norm2XReferenceIdeal.Gen.bcast_S_S8192x1 (constant Cert.Norm2XReferenceIdeal.S_ .f32 0x358637BD#32)))) (addf (Host.divf (broadcastInDim Cert.Norm2XReferenceIdeal.S8192x1 ![0] Cert.Norm2XReferenceIdeal.Gen.bcast_S8192_S8192x1_0 (Host.reduceAdd (mulf (addf X0 (mulf (broadcastInDim Cert.Norm2XReferenceIdeal.S8192x1024 ![0, 1] Cert.Norm2XReferenceIdeal.Gen.bcast_S1x1024_S8192x1024_0_1 X2) X1)) (addf X0 (mulf (broadcastInDim Cert.Norm2XReferenceIdeal.S8192x1024 ![0, 1] Cert.Norm2XReferenceIdeal.Gen.bcast_S1x1024_S8192x1024_0_1 X2) X1))) (constant Cert.Norm2XReferenceIdeal.S_ .f32 0x00000000#32) Cert.Norm2XReferenceIdeal.Gen.reducesTo_S8192x1024_S8192_d1 Cert.Norm2XReferenceIdeal.Gen.h_S_)) (broadcastInDim Cert.Norm2XReferenceIdeal.S8192x1 ![] Cert.Norm2XReferenceIdeal.Gen.bcast_S_S8192x1 (constant Cert.Norm2XReferenceIdeal.S_ .f32 0x44800000#32))) (broadcastInDim Cert.Norm2XReferenceIdeal.S8192x1 ![] Cert.Norm2XReferenceIdeal.Gen.bcast_S_S8192x1 (constant Cert.Norm2XReferenceIdeal.S_ .f32 0x358637BD#32)))))) (broadcastInDim Cert.Norm2XReferenceIdeal.S8192x1 ![] Cert.Norm2XReferenceIdeal.Gen.bcast_S_S8192x1 (constant Cert.Norm2XReferenceIdeal.S_ .f32 0x44800000#32))) (constant Cert.Norm2XReferenceIdeal.S_ .f32 0x00000000#32) Cert.Norm2XReferenceIdeal.Gen.reducesTo_S8192x1_S8192_d1 Cert.Norm2XReferenceIdeal.Gen.h_S_)))) (mulf (broadcastInDim Cert.Norm2XReferenceIdeal.S8192x1024 ![0] Cert.Norm2XReferenceIdeal.Gen.bcast_S8192_S8192x1024_0 (Host.reduceAdd (Host.divf (mulf (shapeCast _ (Host.reduceAdd (mulf (addf X0 (mulf (broadcastInDim Cert.Norm2XReferenceIdeal.S8192x1024 ![0, 1] Cert.Norm2XReferenceIdeal.Gen.bcast_S1x1024_S8192x1024_0_1 X2) X1)) (mulf (mulf (shapeCast _ X6 Cert.Norm2XReferenceIdeal.Gen.shapeCasts_S8192x1024_S8192x1024) (broadcastInDim Cert.Norm2XReferenceIdeal.S8192x1024 ![0, 1] Cert.Norm2XReferenceIdeal.Gen.bcast_S1x1024_S8192x1024_0_1 (addf (broadcastInDim Cert.Norm2XReferenceIdeal.S1x1024 ![] Cert.Norm2XReferenceIdeal.Gen.bcast_S_S1x1024 (constant Cert.Norm2XReferenceIdeal.S_ .f32 0x3F800000#32)) X4))) (broadcastInDim Cert.Norm2XReferenceIdeal.S8192x1024 ![0, 1] Cert.Norm2XReferenceIdeal.Gen.bcast_S1x1024_S8192x1024_0_1 X3))) (constant Cert.Norm2XReferenceIdeal.S_ .f32 0x00000000#32) Cert.Norm2XReferenceIdeal.Gen.reducesTo_S8192x1024_S8192_d1 Cert.Norm2XReferenceIdeal.Gen.h_S_) Cert.Norm2XReferenceIdeal.Gen.shapeCasts_S8192_S8192x1) (mulf (broadcastInDim Cert.Norm2XReferenceIdeal.S8192x1 ![] Cert.Norm2XReferenceIdeal.Gen.bcast_S_S8192x1 (constant Cert.Norm2XReferenceIdeal.S_ .f32 0xBF000000#32)) (Host.divf (Host.rsqrt (addf (Host.divf (broadcastInDim Cert.Norm2XReferenceIdeal.S8192x1 ![0] Cert.Norm2XReferenceIdeal.Gen.bcast_S8192_S8192x1_0 (Host.reduceAdd (mulf (addf X0 (mulf (broadcastInDim Cert.Norm2XReferenceIdeal.S8192x1024 ![0, 1] Cert.Norm2XReferenceIdeal.Gen.bcast_S1x1024_S8192x1024_0_1 X2) X1)) (addf X0 (mulf (broadcastInDim Cert.Norm2XReferenceIdeal.S8192x1024 ![0, 1] Cert.Norm2XReferenceIdeal.Gen.bcast_S1x1024_S8192x1024_0_1 X2) X1))) (constant Cert.Norm2XReferenceIdeal.S_ .f32 0x00000000#32) Cert.Norm2XReferenceIdeal.Gen.reducesTo_S8192x1024_S8192_d1 Cert.Norm2XReferenceIdeal.Gen.h_S_)) (broadcastInDim Cert.Norm2XReferenceIdeal.S8192x1 ![] Cert.Norm2XReferenceIdeal.Gen.bcast_S_S8192x1 (constant Cert.Norm2XReferenceIdeal.S_ .f32 0x44800000#32))) (broadcastInDim Cert.Norm2XReferenceIdeal.S8192x1 ![] Cert.Norm2XReferenceIdeal.Gen.bcast_S_S8192x1 (constant Cert.Norm2XReferenceIdeal.S_ .f32 0x358637BD#32)))) (addf (Host.divf (broadcastInDim Cert.Norm2XReferenceIdeal.S8192x1 ![0] Cert.Norm2XReferenceIdeal.Gen.bcast_S8192_S8192x1_0 (Host.reduceAdd (mulf (addf X0 (mulf (broadcastInDim Cert.Norm2XReferenceIdeal.S8192x1024 ![0, 1] Cert.Norm2XReferenceIdeal.Gen.bcast_S1x1024_S8192x1024_0_1 X2) X1)) (addf X0 (mulf (broadcastInDim Cert.Norm2XReferenceIdeal.S8192x1024 ![0, 1] Cert.Norm2XReferenceIdeal.Gen.bcast_S1x1024_S8192x1024_0_1 X2) X1))) (constant Cert.Norm2XReferenceIdeal.S_ .f32 0x00000000#32) Cert.Norm2XReferenceIdeal.Gen.reducesTo_S8192x1024_S8192_d1 Cert.Norm2XReferenceIdeal.Gen.h_S_)) (broadcastInDim Cert.Norm2XReferenceIdeal.S8192x1 ![] Cert.Norm2XReferenceIdeal.Gen.bcast_S_S8192x1 (constant Cert.Norm2XReferenceIdeal.S_ .f32 0x44800000#32))) (broadcastInDim Cert.Norm2XReferenceIdeal.S8192x1 ![] Cert.Norm2XReferenceIdeal.Gen.bcast_S_S8192x1 (constant Cert.Norm2XReferenceIdeal.S_ .f32 0x358637BD#32)))))) (broadcastInDim Cert.Norm2XReferenceIdeal.S8192x1 ![] Cert.Norm2XReferenceIdeal.Gen.bcast_S_S8192x1 (constant Cert.Norm2XReferenceIdeal.S_ .f32 0x44800000#32))) (constant Cert.Norm2XReferenceIdeal.S_ .f32 0x00000000#32) Cert.Norm2XReferenceIdeal.Gen.reducesTo_S8192x1_S8192_d1 Cert.Norm2XReferenceIdeal.Gen.h_S_)) (addf X0 (mulf (broadcastInDim Cert.Norm2XReferenceIdeal.S8192x1024 ![0, 1] Cert.Norm2XReferenceIdeal.Gen.bcast_S1x1024_S8192x1024_0_1 X2) X1)))

/-- After the run the output array holds the plain gradient of the rows. -/
theorem final_d_x (c : Dev nD) : (dats m 0 c).arrAt 8 (cfgs 0).N = d_x (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  refine (dats m 0 c).arrAt_eq_of_covers 8 _ (by decide +kernel) fun t _ y => ?_
  blk_simp
  rw [after0_8]
  by_cases h : t.val % 16 = 0
  · rw [outsAt0_A m c t h]
    frame_out
    pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, d_x]
    blk_point [iblk, V, where_at t]
  · rw [outsAt0_B m c t h]
    frame_out
    pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, d_x]
    blk_point [iblk, V, where_at t]

/-- The plain gradient of the mixer's output. -/
abbrev d_mix (X0 : FVec Ideal Cert.Norm2XReferenceIdeal.S8192x1024 .f32) (X1 : FVec Ideal Cert.Norm2XReferenceIdeal.S8192x1024 .f32) (X2 : FVec Ideal Cert.Norm2XReferenceIdeal.S1x1024 .f32) (X3 : FVec Ideal Cert.Norm2XReferenceIdeal.S1x1024 .f32) (X4 : FVec Ideal Cert.Norm2XReferenceIdeal.S1x1024 .f32) (X5 : FVec Ideal Cert.Norm2XReferenceIdeal.S1x1024 .f32) (X6 : FVec Ideal Cert.Norm2XReferenceIdeal.S8192x1024 .f32) (X7 : FVec Ideal Cert.Norm2XReferenceIdeal.S8192x1024 .f32) : FVec Ideal Cert.Norm2XReferenceIdeal.S8192x1024 .bf16 :=
  truncf .bf16 (mulf (broadcastInDim Cert.Norm2XReferenceIdeal.S8192x1024 ![0, 1] Cert.Norm2XReferenceIdeal.Gen.bcast_S1x1024_S8192x1024_0_1 X2) (shapeCast _ (addf (addf (addf X7 (mulf (mulf (mulf (shapeCast _ X6 Cert.Norm2XReferenceIdeal.Gen.shapeCasts_S8192x1024_S8192x1024) (broadcastInDim Cert.Norm2XReferenceIdeal.S8192x1024 ![0, 1] Cert.Norm2XReferenceIdeal.Gen.bcast_S1x1024_S8192x1024_0_1 (addf (broadcastInDim Cert.Norm2XReferenceIdeal.S1x1024 ![] Cert.Norm2XReferenceIdeal.Gen.bcast_S_S1x1024 (constant Cert.Norm2XReferenceIdeal.S_ .f32 0x3F800000#32)) X4))) (broadcastInDim Cert.Norm2XReferenceIdeal.S8192x1024 ![0, 1] Cert.Norm2XReferenceIdeal.Gen.bcast_S1x1024_S8192x1024_0_1 X3)) (broadcastInDim Cert.Norm2XReferenceIdeal.S8192x1024 ![0, 1] Cert.Norm2XReferenceIdeal.Gen.bcast_S8192x1_S8192x1024_0_1 (Host.rsqrt (addf (Host.divf (broadcastInDim Cert.Norm2XReferenceIdeal.S8192x1 ![0] Cert.Norm2XReferenceIdeal.Gen.bcast_S8192_S8192x1_0 (Host.reduceAdd (mulf (addf X0 (mulf (broadcastInDim Cert.Norm2XReferenceIdeal.S8192x1024 ![0, 1] Cert.Norm2XReferenceIdeal.Gen.bcast_S1x1024_S8192x1024_0_1 X2) X1)) (addf X0 (mulf (broadcastInDim Cert.Norm2XReferenceIdeal.S8192x1024 ![0, 1] Cert.Norm2XReferenceIdeal.Gen.bcast_S1x1024_S8192x1024_0_1 X2) X1))) (constant Cert.Norm2XReferenceIdeal.S_ .f32 0x00000000#32) Cert.Norm2XReferenceIdeal.Gen.reducesTo_S8192x1024_S8192_d1 Cert.Norm2XReferenceIdeal.Gen.h_S_)) (broadcastInDim Cert.Norm2XReferenceIdeal.S8192x1 ![] Cert.Norm2XReferenceIdeal.Gen.bcast_S_S8192x1 (constant Cert.Norm2XReferenceIdeal.S_ .f32 0x44800000#32))) (broadcastInDim Cert.Norm2XReferenceIdeal.S8192x1 ![] Cert.Norm2XReferenceIdeal.Gen.bcast_S_S8192x1 (constant Cert.Norm2XReferenceIdeal.S_ .f32 0x358637BD#32))))))) (mulf (addf X0 (mulf (broadcastInDim Cert.Norm2XReferenceIdeal.S8192x1024 ![0, 1] Cert.Norm2XReferenceIdeal.Gen.bcast_S1x1024_S8192x1024_0_1 X2) X1)) (broadcastInDim Cert.Norm2XReferenceIdeal.S8192x1024 ![0] Cert.Norm2XReferenceIdeal.Gen.bcast_S8192_S8192x1024_0 (Host.reduceAdd (Host.divf (mulf (shapeCast _ (Host.reduceAdd (mulf (addf X0 (mulf (broadcastInDim Cert.Norm2XReferenceIdeal.S8192x1024 ![0, 1] Cert.Norm2XReferenceIdeal.Gen.bcast_S1x1024_S8192x1024_0_1 X2) X1)) (mulf (mulf (shapeCast _ X6 Cert.Norm2XReferenceIdeal.Gen.shapeCasts_S8192x1024_S8192x1024) (broadcastInDim Cert.Norm2XReferenceIdeal.S8192x1024 ![0, 1] Cert.Norm2XReferenceIdeal.Gen.bcast_S1x1024_S8192x1024_0_1 (addf (broadcastInDim Cert.Norm2XReferenceIdeal.S1x1024 ![] Cert.Norm2XReferenceIdeal.Gen.bcast_S_S1x1024 (constant Cert.Norm2XReferenceIdeal.S_ .f32 0x3F800000#32)) X4))) (broadcastInDim Cert.Norm2XReferenceIdeal.S8192x1024 ![0, 1] Cert.Norm2XReferenceIdeal.Gen.bcast_S1x1024_S8192x1024_0_1 X3))) (constant Cert.Norm2XReferenceIdeal.S_ .f32 0x00000000#32) Cert.Norm2XReferenceIdeal.Gen.reducesTo_S8192x1024_S8192_d1 Cert.Norm2XReferenceIdeal.Gen.h_S_) Cert.Norm2XReferenceIdeal.Gen.shapeCasts_S8192_S8192x1) (mulf (broadcastInDim Cert.Norm2XReferenceIdeal.S8192x1 ![] Cert.Norm2XReferenceIdeal.Gen.bcast_S_S8192x1 (constant Cert.Norm2XReferenceIdeal.S_ .f32 0xBF000000#32)) (Host.divf (Host.rsqrt (addf (Host.divf (broadcastInDim Cert.Norm2XReferenceIdeal.S8192x1 ![0] Cert.Norm2XReferenceIdeal.Gen.bcast_S8192_S8192x1_0 (Host.reduceAdd (mulf (addf X0 (mulf (broadcastInDim Cert.Norm2XReferenceIdeal.S8192x1024 ![0, 1] Cert.Norm2XReferenceIdeal.Gen.bcast_S1x1024_S8192x1024_0_1 X2) X1)) (addf X0 (mulf (broadcastInDim Cert.Norm2XReferenceIdeal.S8192x1024 ![0, 1] Cert.Norm2XReferenceIdeal.Gen.bcast_S1x1024_S8192x1024_0_1 X2) X1))) (constant Cert.Norm2XReferenceIdeal.S_ .f32 0x00000000#32) Cert.Norm2XReferenceIdeal.Gen.reducesTo_S8192x1024_S8192_d1 Cert.Norm2XReferenceIdeal.Gen.h_S_)) (broadcastInDim Cert.Norm2XReferenceIdeal.S8192x1 ![] Cert.Norm2XReferenceIdeal.Gen.bcast_S_S8192x1 (constant Cert.Norm2XReferenceIdeal.S_ .f32 0x44800000#32))) (broadcastInDim Cert.Norm2XReferenceIdeal.S8192x1 ![] Cert.Norm2XReferenceIdeal.Gen.bcast_S_S8192x1 (constant Cert.Norm2XReferenceIdeal.S_ .f32 0x358637BD#32)))) (addf (Host.divf (broadcastInDim Cert.Norm2XReferenceIdeal.S8192x1 ![0] Cert.Norm2XReferenceIdeal.Gen.bcast_S8192_S8192x1_0 (Host.reduceAdd (mulf (addf X0 (mulf (broadcastInDim Cert.Norm2XReferenceIdeal.S8192x1024 ![0, 1] Cert.Norm2XReferenceIdeal.Gen.bcast_S1x1024_S8192x1024_0_1 X2) X1)) (addf X0 (mulf (broadcastInDim Cert.Norm2XReferenceIdeal.S8192x1024 ![0, 1] Cert.Norm2XReferenceIdeal.Gen.bcast_S1x1024_S8192x1024_0_1 X2) X1))) (constant Cert.Norm2XReferenceIdeal.S_ .f32 0x00000000#32) Cert.Norm2XReferenceIdeal.Gen.reducesTo_S8192x1024_S8192_d1 Cert.Norm2XReferenceIdeal.Gen.h_S_)) (broadcastInDim Cert.Norm2XReferenceIdeal.S8192x1 ![] Cert.Norm2XReferenceIdeal.Gen.bcast_S_S8192x1 (constant Cert.Norm2XReferenceIdeal.S_ .f32 0x44800000#32))) (broadcastInDim Cert.Norm2XReferenceIdeal.S8192x1 ![] Cert.Norm2XReferenceIdeal.Gen.bcast_S_S8192x1 (constant Cert.Norm2XReferenceIdeal.S_ .f32 0x358637BD#32)))))) (broadcastInDim Cert.Norm2XReferenceIdeal.S8192x1 ![] Cert.Norm2XReferenceIdeal.Gen.bcast_S_S8192x1 (constant Cert.Norm2XReferenceIdeal.S_ .f32 0x44800000#32))) (constant Cert.Norm2XReferenceIdeal.S_ .f32 0x00000000#32) Cert.Norm2XReferenceIdeal.Gen.reducesTo_S8192x1_S8192_d1 Cert.Norm2XReferenceIdeal.Gen.h_S_)))) (mulf (broadcastInDim Cert.Norm2XReferenceIdeal.S8192x1024 ![0] Cert.Norm2XReferenceIdeal.Gen.bcast_S8192_S8192x1024_0 (Host.reduceAdd (Host.divf (mulf (shapeCast _ (Host.reduceAdd (mulf (addf X0 (mulf (broadcastInDim Cert.Norm2XReferenceIdeal.S8192x1024 ![0, 1] Cert.Norm2XReferenceIdeal.Gen.bcast_S1x1024_S8192x1024_0_1 X2) X1)) (mulf (mulf (shapeCast _ X6 Cert.Norm2XReferenceIdeal.Gen.shapeCasts_S8192x1024_S8192x1024) (broadcastInDim Cert.Norm2XReferenceIdeal.S8192x1024 ![0, 1] Cert.Norm2XReferenceIdeal.Gen.bcast_S1x1024_S8192x1024_0_1 (addf (broadcastInDim Cert.Norm2XReferenceIdeal.S1x1024 ![] Cert.Norm2XReferenceIdeal.Gen.bcast_S_S1x1024 (constant Cert.Norm2XReferenceIdeal.S_ .f32 0x3F800000#32)) X4))) (broadcastInDim Cert.Norm2XReferenceIdeal.S8192x1024 ![0, 1] Cert.Norm2XReferenceIdeal.Gen.bcast_S1x1024_S8192x1024_0_1 X3))) (constant Cert.Norm2XReferenceIdeal.S_ .f32 0x00000000#32) Cert.Norm2XReferenceIdeal.Gen.reducesTo_S8192x1024_S8192_d1 Cert.Norm2XReferenceIdeal.Gen.h_S_) Cert.Norm2XReferenceIdeal.Gen.shapeCasts_S8192_S8192x1) (mulf (broadcastInDim Cert.Norm2XReferenceIdeal.S8192x1 ![] Cert.Norm2XReferenceIdeal.Gen.bcast_S_S8192x1 (constant Cert.Norm2XReferenceIdeal.S_ .f32 0xBF000000#32)) (Host.divf (Host.rsqrt (addf (Host.divf (broadcastInDim Cert.Norm2XReferenceIdeal.S8192x1 ![0] Cert.Norm2XReferenceIdeal.Gen.bcast_S8192_S8192x1_0 (Host.reduceAdd (mulf (addf X0 (mulf (broadcastInDim Cert.Norm2XReferenceIdeal.S8192x1024 ![0, 1] Cert.Norm2XReferenceIdeal.Gen.bcast_S1x1024_S8192x1024_0_1 X2) X1)) (addf X0 (mulf (broadcastInDim Cert.Norm2XReferenceIdeal.S8192x1024 ![0, 1] Cert.Norm2XReferenceIdeal.Gen.bcast_S1x1024_S8192x1024_0_1 X2) X1))) (constant Cert.Norm2XReferenceIdeal.S_ .f32 0x00000000#32) Cert.Norm2XReferenceIdeal.Gen.reducesTo_S8192x1024_S8192_d1 Cert.Norm2XReferenceIdeal.Gen.h_S_)) (broadcastInDim Cert.Norm2XReferenceIdeal.S8192x1 ![] Cert.Norm2XReferenceIdeal.Gen.bcast_S_S8192x1 (constant Cert.Norm2XReferenceIdeal.S_ .f32 0x44800000#32))) (broadcastInDim Cert.Norm2XReferenceIdeal.S8192x1 ![] Cert.Norm2XReferenceIdeal.Gen.bcast_S_S8192x1 (constant Cert.Norm2XReferenceIdeal.S_ .f32 0x358637BD#32)))) (addf (Host.divf (broadcastInDim Cert.Norm2XReferenceIdeal.S8192x1 ![0] Cert.Norm2XReferenceIdeal.Gen.bcast_S8192_S8192x1_0 (Host.reduceAdd (mulf (addf X0 (mulf (broadcastInDim Cert.Norm2XReferenceIdeal.S8192x1024 ![0, 1] Cert.Norm2XReferenceIdeal.Gen.bcast_S1x1024_S8192x1024_0_1 X2) X1)) (addf X0 (mulf (broadcastInDim Cert.Norm2XReferenceIdeal.S8192x1024 ![0, 1] Cert.Norm2XReferenceIdeal.Gen.bcast_S1x1024_S8192x1024_0_1 X2) X1))) (constant Cert.Norm2XReferenceIdeal.S_ .f32 0x00000000#32) Cert.Norm2XReferenceIdeal.Gen.reducesTo_S8192x1024_S8192_d1 Cert.Norm2XReferenceIdeal.Gen.h_S_)) (broadcastInDim Cert.Norm2XReferenceIdeal.S8192x1 ![] Cert.Norm2XReferenceIdeal.Gen.bcast_S_S8192x1 (constant Cert.Norm2XReferenceIdeal.S_ .f32 0x44800000#32))) (broadcastInDim Cert.Norm2XReferenceIdeal.S8192x1 ![] Cert.Norm2XReferenceIdeal.Gen.bcast_S_S8192x1 (constant Cert.Norm2XReferenceIdeal.S_ .f32 0x358637BD#32)))))) (broadcastInDim Cert.Norm2XReferenceIdeal.S8192x1 ![] Cert.Norm2XReferenceIdeal.Gen.bcast_S_S8192x1 (constant Cert.Norm2XReferenceIdeal.S_ .f32 0x44800000#32))) (constant Cert.Norm2XReferenceIdeal.S_ .f32 0x00000000#32) Cert.Norm2XReferenceIdeal.Gen.reducesTo_S8192x1_S8192_d1 Cert.Norm2XReferenceIdeal.Gen.h_S_)) (addf X0 (mulf (broadcastInDim Cert.Norm2XReferenceIdeal.S8192x1024 ![0, 1] Cert.Norm2XReferenceIdeal.Gen.bcast_S1x1024_S8192x1024_0_1 X2) X1)))) Cert.Norm2XReferenceIdeal.Gen.shapeCasts_S8192x1024_S8192x1024)) Cert.Norm2XReferenceIdeal.Gen.bitsLt_bf16_f32

/-- After the run the output array holds the plain gradient of the mixer's output. -/
theorem final_d_mix (c : Dev nD) : (dats m 0 c).arrAt 9 (cfgs 0).N = d_mix (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  refine (dats m 0 c).arrAt_eq_of_covers 9 _ (by decide +kernel) fun t _ y => ?_
  blk_simp
  rw [after0_9]
  by_cases h : t.val % 16 = 0
  · rw [outsAt0_A m c t h]
    frame_out
    pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, d_mix]
    blk_point [iblk, V, where_at t]
  · rw [outsAt0_B m c t h]
    frame_out
    pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, d_mix]
    blk_point [iblk, V, where_at t]

/-- The plain gradient of the residual's gate. -/
abbrev d_gate (X0 : FVec Ideal Cert.Norm2XReferenceIdeal.S8192x1024 .f32) (X1 : FVec Ideal Cert.Norm2XReferenceIdeal.S8192x1024 .f32) (X2 : FVec Ideal Cert.Norm2XReferenceIdeal.S1x1024 .f32) (X3 : FVec Ideal Cert.Norm2XReferenceIdeal.S1x1024 .f32) (X4 : FVec Ideal Cert.Norm2XReferenceIdeal.S1x1024 .f32) (X5 : FVec Ideal Cert.Norm2XReferenceIdeal.S1x1024 .f32) (X6 : FVec Ideal Cert.Norm2XReferenceIdeal.S8192x1024 .f32) (X7 : FVec Ideal Cert.Norm2XReferenceIdeal.S8192x1024 .f32) : FVec Ideal Cert.Norm2XReferenceIdeal.S1x1024 .f32 :=
  shapeCast _ (Host.reduceAdd (mulf (shapeCast _ (addf (addf (addf X7 (mulf (mulf (mulf (shapeCast _ X6 Cert.Norm2XReferenceIdeal.Gen.shapeCasts_S8192x1024_S8192x1024) (broadcastInDim Cert.Norm2XReferenceIdeal.S8192x1024 ![0, 1] Cert.Norm2XReferenceIdeal.Gen.bcast_S1x1024_S8192x1024_0_1 (addf (broadcastInDim Cert.Norm2XReferenceIdeal.S1x1024 ![] Cert.Norm2XReferenceIdeal.Gen.bcast_S_S1x1024 (constant Cert.Norm2XReferenceIdeal.S_ .f32 0x3F800000#32)) X4))) (broadcastInDim Cert.Norm2XReferenceIdeal.S8192x1024 ![0, 1] Cert.Norm2XReferenceIdeal.Gen.bcast_S1x1024_S8192x1024_0_1 X3)) (broadcastInDim Cert.Norm2XReferenceIdeal.S8192x1024 ![0, 1] Cert.Norm2XReferenceIdeal.Gen.bcast_S8192x1_S8192x1024_0_1 (Host.rsqrt (addf (Host.divf (broadcastInDim Cert.Norm2XReferenceIdeal.S8192x1 ![0] Cert.Norm2XReferenceIdeal.Gen.bcast_S8192_S8192x1_0 (Host.reduceAdd (mulf (addf X0 (mulf (broadcastInDim Cert.Norm2XReferenceIdeal.S8192x1024 ![0, 1] Cert.Norm2XReferenceIdeal.Gen.bcast_S1x1024_S8192x1024_0_1 X2) X1)) (addf X0 (mulf (broadcastInDim Cert.Norm2XReferenceIdeal.S8192x1024 ![0, 1] Cert.Norm2XReferenceIdeal.Gen.bcast_S1x1024_S8192x1024_0_1 X2) X1))) (constant Cert.Norm2XReferenceIdeal.S_ .f32 0x00000000#32) Cert.Norm2XReferenceIdeal.Gen.reducesTo_S8192x1024_S8192_d1 Cert.Norm2XReferenceIdeal.Gen.h_S_)) (broadcastInDim Cert.Norm2XReferenceIdeal.S8192x1 ![] Cert.Norm2XReferenceIdeal.Gen.bcast_S_S8192x1 (constant Cert.Norm2XReferenceIdeal.S_ .f32 0x44800000#32))) (broadcastInDim Cert.Norm2XReferenceIdeal.S8192x1 ![] Cert.Norm2XReferenceIdeal.Gen.bcast_S_S8192x1 (constant Cert.Norm2XReferenceIdeal.S_ .f32 0x358637BD#32))))))) (mulf (addf X0 (mulf (broadcastInDim Cert.Norm2XReferenceIdeal.S8192x1024 ![0, 1] Cert.Norm2XReferenceIdeal.Gen.bcast_S1x1024_S8192x1024_0_1 X2) X1)) (broadcastInDim Cert.Norm2XReferenceIdeal.S8192x1024 ![0] Cert.Norm2XReferenceIdeal.Gen.bcast_S8192_S8192x1024_0 (Host.reduceAdd (Host.divf (mulf (shapeCast _ (Host.reduceAdd (mulf (addf X0 (mulf (broadcastInDim Cert.Norm2XReferenceIdeal.S8192x1024 ![0, 1] Cert.Norm2XReferenceIdeal.Gen.bcast_S1x1024_S8192x1024_0_1 X2) X1)) (mulf (mulf (shapeCast _ X6 Cert.Norm2XReferenceIdeal.Gen.shapeCasts_S8192x1024_S8192x1024) (broadcastInDim Cert.Norm2XReferenceIdeal.S8192x1024 ![0, 1] Cert.Norm2XReferenceIdeal.Gen.bcast_S1x1024_S8192x1024_0_1 (addf (broadcastInDim Cert.Norm2XReferenceIdeal.S1x1024 ![] Cert.Norm2XReferenceIdeal.Gen.bcast_S_S1x1024 (constant Cert.Norm2XReferenceIdeal.S_ .f32 0x3F800000#32)) X4))) (broadcastInDim Cert.Norm2XReferenceIdeal.S8192x1024 ![0, 1] Cert.Norm2XReferenceIdeal.Gen.bcast_S1x1024_S8192x1024_0_1 X3))) (constant Cert.Norm2XReferenceIdeal.S_ .f32 0x00000000#32) Cert.Norm2XReferenceIdeal.Gen.reducesTo_S8192x1024_S8192_d1 Cert.Norm2XReferenceIdeal.Gen.h_S_) Cert.Norm2XReferenceIdeal.Gen.shapeCasts_S8192_S8192x1) (mulf (broadcastInDim Cert.Norm2XReferenceIdeal.S8192x1 ![] Cert.Norm2XReferenceIdeal.Gen.bcast_S_S8192x1 (constant Cert.Norm2XReferenceIdeal.S_ .f32 0xBF000000#32)) (Host.divf (Host.rsqrt (addf (Host.divf (broadcastInDim Cert.Norm2XReferenceIdeal.S8192x1 ![0] Cert.Norm2XReferenceIdeal.Gen.bcast_S8192_S8192x1_0 (Host.reduceAdd (mulf (addf X0 (mulf (broadcastInDim Cert.Norm2XReferenceIdeal.S8192x1024 ![0, 1] Cert.Norm2XReferenceIdeal.Gen.bcast_S1x1024_S8192x1024_0_1 X2) X1)) (addf X0 (mulf (broadcastInDim Cert.Norm2XReferenceIdeal.S8192x1024 ![0, 1] Cert.Norm2XReferenceIdeal.Gen.bcast_S1x1024_S8192x1024_0_1 X2) X1))) (constant Cert.Norm2XReferenceIdeal.S_ .f32 0x00000000#32) Cert.Norm2XReferenceIdeal.Gen.reducesTo_S8192x1024_S8192_d1 Cert.Norm2XReferenceIdeal.Gen.h_S_)) (broadcastInDim Cert.Norm2XReferenceIdeal.S8192x1 ![] Cert.Norm2XReferenceIdeal.Gen.bcast_S_S8192x1 (constant Cert.Norm2XReferenceIdeal.S_ .f32 0x44800000#32))) (broadcastInDim Cert.Norm2XReferenceIdeal.S8192x1 ![] Cert.Norm2XReferenceIdeal.Gen.bcast_S_S8192x1 (constant Cert.Norm2XReferenceIdeal.S_ .f32 0x358637BD#32)))) (addf (Host.divf (broadcastInDim Cert.Norm2XReferenceIdeal.S8192x1 ![0] Cert.Norm2XReferenceIdeal.Gen.bcast_S8192_S8192x1_0 (Host.reduceAdd (mulf (addf X0 (mulf (broadcastInDim Cert.Norm2XReferenceIdeal.S8192x1024 ![0, 1] Cert.Norm2XReferenceIdeal.Gen.bcast_S1x1024_S8192x1024_0_1 X2) X1)) (addf X0 (mulf (broadcastInDim Cert.Norm2XReferenceIdeal.S8192x1024 ![0, 1] Cert.Norm2XReferenceIdeal.Gen.bcast_S1x1024_S8192x1024_0_1 X2) X1))) (constant Cert.Norm2XReferenceIdeal.S_ .f32 0x00000000#32) Cert.Norm2XReferenceIdeal.Gen.reducesTo_S8192x1024_S8192_d1 Cert.Norm2XReferenceIdeal.Gen.h_S_)) (broadcastInDim Cert.Norm2XReferenceIdeal.S8192x1 ![] Cert.Norm2XReferenceIdeal.Gen.bcast_S_S8192x1 (constant Cert.Norm2XReferenceIdeal.S_ .f32 0x44800000#32))) (broadcastInDim Cert.Norm2XReferenceIdeal.S8192x1 ![] Cert.Norm2XReferenceIdeal.Gen.bcast_S_S8192x1 (constant Cert.Norm2XReferenceIdeal.S_ .f32 0x358637BD#32)))))) (broadcastInDim Cert.Norm2XReferenceIdeal.S8192x1 ![] Cert.Norm2XReferenceIdeal.Gen.bcast_S_S8192x1 (constant Cert.Norm2XReferenceIdeal.S_ .f32 0x44800000#32))) (constant Cert.Norm2XReferenceIdeal.S_ .f32 0x00000000#32) Cert.Norm2XReferenceIdeal.Gen.reducesTo_S8192x1_S8192_d1 Cert.Norm2XReferenceIdeal.Gen.h_S_)))) (mulf (broadcastInDim Cert.Norm2XReferenceIdeal.S8192x1024 ![0] Cert.Norm2XReferenceIdeal.Gen.bcast_S8192_S8192x1024_0 (Host.reduceAdd (Host.divf (mulf (shapeCast _ (Host.reduceAdd (mulf (addf X0 (mulf (broadcastInDim Cert.Norm2XReferenceIdeal.S8192x1024 ![0, 1] Cert.Norm2XReferenceIdeal.Gen.bcast_S1x1024_S8192x1024_0_1 X2) X1)) (mulf (mulf (shapeCast _ X6 Cert.Norm2XReferenceIdeal.Gen.shapeCasts_S8192x1024_S8192x1024) (broadcastInDim Cert.Norm2XReferenceIdeal.S8192x1024 ![0, 1] Cert.Norm2XReferenceIdeal.Gen.bcast_S1x1024_S8192x1024_0_1 (addf (broadcastInDim Cert.Norm2XReferenceIdeal.S1x1024 ![] Cert.Norm2XReferenceIdeal.Gen.bcast_S_S1x1024 (constant Cert.Norm2XReferenceIdeal.S_ .f32 0x3F800000#32)) X4))) (broadcastInDim Cert.Norm2XReferenceIdeal.S8192x1024 ![0, 1] Cert.Norm2XReferenceIdeal.Gen.bcast_S1x1024_S8192x1024_0_1 X3))) (constant Cert.Norm2XReferenceIdeal.S_ .f32 0x00000000#32) Cert.Norm2XReferenceIdeal.Gen.reducesTo_S8192x1024_S8192_d1 Cert.Norm2XReferenceIdeal.Gen.h_S_) Cert.Norm2XReferenceIdeal.Gen.shapeCasts_S8192_S8192x1) (mulf (broadcastInDim Cert.Norm2XReferenceIdeal.S8192x1 ![] Cert.Norm2XReferenceIdeal.Gen.bcast_S_S8192x1 (constant Cert.Norm2XReferenceIdeal.S_ .f32 0xBF000000#32)) (Host.divf (Host.rsqrt (addf (Host.divf (broadcastInDim Cert.Norm2XReferenceIdeal.S8192x1 ![0] Cert.Norm2XReferenceIdeal.Gen.bcast_S8192_S8192x1_0 (Host.reduceAdd (mulf (addf X0 (mulf (broadcastInDim Cert.Norm2XReferenceIdeal.S8192x1024 ![0, 1] Cert.Norm2XReferenceIdeal.Gen.bcast_S1x1024_S8192x1024_0_1 X2) X1)) (addf X0 (mulf (broadcastInDim Cert.Norm2XReferenceIdeal.S8192x1024 ![0, 1] Cert.Norm2XReferenceIdeal.Gen.bcast_S1x1024_S8192x1024_0_1 X2) X1))) (constant Cert.Norm2XReferenceIdeal.S_ .f32 0x00000000#32) Cert.Norm2XReferenceIdeal.Gen.reducesTo_S8192x1024_S8192_d1 Cert.Norm2XReferenceIdeal.Gen.h_S_)) (broadcastInDim Cert.Norm2XReferenceIdeal.S8192x1 ![] Cert.Norm2XReferenceIdeal.Gen.bcast_S_S8192x1 (constant Cert.Norm2XReferenceIdeal.S_ .f32 0x44800000#32))) (broadcastInDim Cert.Norm2XReferenceIdeal.S8192x1 ![] Cert.Norm2XReferenceIdeal.Gen.bcast_S_S8192x1 (constant Cert.Norm2XReferenceIdeal.S_ .f32 0x358637BD#32)))) (addf (Host.divf (broadcastInDim Cert.Norm2XReferenceIdeal.S8192x1 ![0] Cert.Norm2XReferenceIdeal.Gen.bcast_S8192_S8192x1_0 (Host.reduceAdd (mulf (addf X0 (mulf (broadcastInDim Cert.Norm2XReferenceIdeal.S8192x1024 ![0, 1] Cert.Norm2XReferenceIdeal.Gen.bcast_S1x1024_S8192x1024_0_1 X2) X1)) (addf X0 (mulf (broadcastInDim Cert.Norm2XReferenceIdeal.S8192x1024 ![0, 1] Cert.Norm2XReferenceIdeal.Gen.bcast_S1x1024_S8192x1024_0_1 X2) X1))) (constant Cert.Norm2XReferenceIdeal.S_ .f32 0x00000000#32) Cert.Norm2XReferenceIdeal.Gen.reducesTo_S8192x1024_S8192_d1 Cert.Norm2XReferenceIdeal.Gen.h_S_)) (broadcastInDim Cert.Norm2XReferenceIdeal.S8192x1 ![] Cert.Norm2XReferenceIdeal.Gen.bcast_S_S8192x1 (constant Cert.Norm2XReferenceIdeal.S_ .f32 0x44800000#32))) (broadcastInDim Cert.Norm2XReferenceIdeal.S8192x1 ![] Cert.Norm2XReferenceIdeal.Gen.bcast_S_S8192x1 (constant Cert.Norm2XReferenceIdeal.S_ .f32 0x358637BD#32)))))) (broadcastInDim Cert.Norm2XReferenceIdeal.S8192x1 ![] Cert.Norm2XReferenceIdeal.Gen.bcast_S_S8192x1 (constant Cert.Norm2XReferenceIdeal.S_ .f32 0x44800000#32))) (constant Cert.Norm2XReferenceIdeal.S_ .f32 0x00000000#32) Cert.Norm2XReferenceIdeal.Gen.reducesTo_S8192x1_S8192_d1 Cert.Norm2XReferenceIdeal.Gen.h_S_)) (addf X0 (mulf (broadcastInDim Cert.Norm2XReferenceIdeal.S8192x1024 ![0, 1] Cert.Norm2XReferenceIdeal.Gen.bcast_S1x1024_S8192x1024_0_1 X2) X1)))) Cert.Norm2XReferenceIdeal.Gen.shapeCasts_S8192x1024_S8192x1024) X1) (constant Cert.Norm2XReferenceIdeal.S_ .f32 0x00000000#32) Cert.Norm2XReferenceIdeal.Gen.reducesTo_S8192x1024_S1024_d0 Cert.Norm2XReferenceIdeal.Gen.h_S_) Cert.Norm2XReferenceIdeal.Gen.shapeCasts_S1024_S1x1024

/-- After the run the output array holds the plain gradient of the residual's gate. -/
theorem final_d_gate (c : Dev nD) : (dats m 0 c).arrAt 10 (cfgs 0).N = d_gate (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  refine (dats m 0 c).arrAt_eq_of_covers 10 _ (by decide +kernel) fun t hf y => ?_
  blk_simp
  rw [after0_10, Pipeline.eq_sum_fin_of_reset_step_apply_of_flush (fun n h => (outsAt0 m c n h).2.2.1) 16 (fun _ => 0)
    (fun p j => (k0_pay21 (iblk m c 1 p) (iblk m c 3 p) (k0_pay7 (iblk m c 0 p) (iblk m c 1 p) (iblk m c 2 p)) (k0_pay9 (iblk m c 0 p) (iblk m c 1 p) (iblk m c 2 p)) (k0_pay10 (iblk m c 0 p) (iblk m c 1 p) (iblk m c 2 p)) (k0_pay12 (iblk m c 4 p)) (iblk m c 7 p) (k0_pay13 (iblk m c 6 p)) (k0_pay3 (F := Ideal)) j : EReal))
    (fun t h j => by
      have b := lt_of_lt_of_eq t.isLt (show cfg0.N = 16 from N_0)
      rw [outsAt0_A m c t (by omega)]; frame_out
      exact (zero_add (M := EReal) _).symm)
    (fun t h j => by
      rw [outsAt0_B m c t (by omega)]; frame_out
      pointwise [k0_pay21, k0_pay3])
    t ((flush0_10 t).mp hf) _, zero_add]
  pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, d_gate]
  refine Eq.trans (α := EReal) (Equiv.sum_comp Fin.revPerm _).symm ?_
  refine Fin.sum_mul_add_congr fun s k hl => ?_
  blk_point [iblk, V, where_at, Fin.revPerm_apply, Fin.val_rev]

/-- The plain gradient of the norm's weight. -/
abbrev d_norm (X0 : FVec Ideal Cert.Norm2XReferenceIdeal.S8192x1024 .f32) (X1 : FVec Ideal Cert.Norm2XReferenceIdeal.S8192x1024 .f32) (X2 : FVec Ideal Cert.Norm2XReferenceIdeal.S1x1024 .f32) (X3 : FVec Ideal Cert.Norm2XReferenceIdeal.S1x1024 .f32) (X4 : FVec Ideal Cert.Norm2XReferenceIdeal.S1x1024 .f32) (X5 : FVec Ideal Cert.Norm2XReferenceIdeal.S1x1024 .f32) (X6 : FVec Ideal Cert.Norm2XReferenceIdeal.S8192x1024 .f32) (X7 : FVec Ideal Cert.Norm2XReferenceIdeal.S8192x1024 .f32) : FVec Ideal Cert.Norm2XReferenceIdeal.S1x1024 .f32 :=
  shapeCast _ (Host.reduceAdd (mulf (mulf (addf X0 (mulf (broadcastInDim Cert.Norm2XReferenceIdeal.S8192x1024 ![0, 1] Cert.Norm2XReferenceIdeal.Gen.bcast_S1x1024_S8192x1024_0_1 X2) X1)) (broadcastInDim Cert.Norm2XReferenceIdeal.S8192x1024 ![0, 1] Cert.Norm2XReferenceIdeal.Gen.bcast_S8192x1_S8192x1024_0_1 (Host.rsqrt (addf (Host.divf (broadcastInDim Cert.Norm2XReferenceIdeal.S8192x1 ![0] Cert.Norm2XReferenceIdeal.Gen.bcast_S8192_S8192x1_0 (Host.reduceAdd (mulf (addf X0 (mulf (broadcastInDim Cert.Norm2XReferenceIdeal.S8192x1024 ![0, 1] Cert.Norm2XReferenceIdeal.Gen.bcast_S1x1024_S8192x1024_0_1 X2) X1)) (addf X0 (mulf (broadcastInDim Cert.Norm2XReferenceIdeal.S8192x1024 ![0, 1] Cert.Norm2XReferenceIdeal.Gen.bcast_S1x1024_S8192x1024_0_1 X2) X1))) (constant Cert.Norm2XReferenceIdeal.S_ .f32 0x00000000#32) Cert.Norm2XReferenceIdeal.Gen.reducesTo_S8192x1024_S8192_d1 Cert.Norm2XReferenceIdeal.Gen.h_S_)) (broadcastInDim Cert.Norm2XReferenceIdeal.S8192x1 ![] Cert.Norm2XReferenceIdeal.Gen.bcast_S_S8192x1 (constant Cert.Norm2XReferenceIdeal.S_ .f32 0x44800000#32))) (broadcastInDim Cert.Norm2XReferenceIdeal.S8192x1 ![] Cert.Norm2XReferenceIdeal.Gen.bcast_S_S8192x1 (constant Cert.Norm2XReferenceIdeal.S_ .f32 0x358637BD#32)))))) (mulf (shapeCast _ X6 Cert.Norm2XReferenceIdeal.Gen.shapeCasts_S8192x1024_S8192x1024) (broadcastInDim Cert.Norm2XReferenceIdeal.S8192x1024 ![0, 1] Cert.Norm2XReferenceIdeal.Gen.bcast_S1x1024_S8192x1024_0_1 (addf (broadcastInDim Cert.Norm2XReferenceIdeal.S1x1024 ![] Cert.Norm2XReferenceIdeal.Gen.bcast_S_S1x1024 (constant Cert.Norm2XReferenceIdeal.S_ .f32 0x3F800000#32)) X4)))) (constant Cert.Norm2XReferenceIdeal.S_ .f32 0x00000000#32) Cert.Norm2XReferenceIdeal.Gen.reducesTo_S8192x1024_S1024_d0 Cert.Norm2XReferenceIdeal.Gen.h_S_) Cert.Norm2XReferenceIdeal.Gen.shapeCasts_S1024_S1x1024

/-- After the run the output array holds the plain gradient of the norm's weight. -/
theorem final_d_norm (c : Dev nD) : (dats m 0 c).arrAt 11 (cfgs 0).N = d_norm (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  refine (dats m 0 c).arrAt_eq_of_covers 11 _ (by decide +kernel) fun t hf y => ?_
  blk_simp
  rw [after0_11, Pipeline.eq_sum_fin_of_reset_step_apply_of_flush (fun n h => (outsAt0 m c n h).2.2.2.1) 16 (fun _ => 0)
    (fun p j => (k0_pay22 (k0_pay11 (iblk m c 0 p) (iblk m c 1 p) (iblk m c 2 p)) (k0_pay12 (iblk m c 4 p)) (k0_pay13 (iblk m c 6 p)) (k0_pay4 (F := Ideal)) j : EReal))
    (fun t h j => by
      have b := lt_of_lt_of_eq t.isLt (show cfg0.N = 16 from N_0)
      rw [outsAt0_A m c t (by omega)]; frame_out
      exact (zero_add (M := EReal) _).symm)
    (fun t h j => by
      rw [outsAt0_B m c t (by omega)]; frame_out
      pointwise [k0_pay22, k0_pay4])
    t ((flush0_11 t).mp hf) _, zero_add]
  pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, d_norm]
  refine Eq.trans (α := EReal) (Equiv.sum_comp Fin.revPerm _).symm ?_
  refine Fin.sum_mul_add_congr fun s k hl => ?_
  blk_point [iblk, V, where_at, Fin.revPerm_apply, Fin.val_rev]

/-- The plain gradient of the scale. -/
abbrev d_scale (X0 : FVec Ideal Cert.Norm2XReferenceIdeal.S8192x1024 .f32) (X1 : FVec Ideal Cert.Norm2XReferenceIdeal.S8192x1024 .f32) (X2 : FVec Ideal Cert.Norm2XReferenceIdeal.S1x1024 .f32) (X3 : FVec Ideal Cert.Norm2XReferenceIdeal.S1x1024 .f32) (X4 : FVec Ideal Cert.Norm2XReferenceIdeal.S1x1024 .f32) (X5 : FVec Ideal Cert.Norm2XReferenceIdeal.S1x1024 .f32) (X6 : FVec Ideal Cert.Norm2XReferenceIdeal.S8192x1024 .f32) (X7 : FVec Ideal Cert.Norm2XReferenceIdeal.S8192x1024 .f32) : FVec Ideal Cert.Norm2XReferenceIdeal.S1x1024 .f32 :=
  shapeCast _ (Host.reduceAdd (mulf (mulf (mulf (addf X0 (mulf (broadcastInDim Cert.Norm2XReferenceIdeal.S8192x1024 ![0, 1] Cert.Norm2XReferenceIdeal.Gen.bcast_S1x1024_S8192x1024_0_1 X2) X1)) (broadcastInDim Cert.Norm2XReferenceIdeal.S8192x1024 ![0, 1] Cert.Norm2XReferenceIdeal.Gen.bcast_S8192x1_S8192x1024_0_1 (Host.rsqrt (addf (Host.divf (broadcastInDim Cert.Norm2XReferenceIdeal.S8192x1 ![0] Cert.Norm2XReferenceIdeal.Gen.bcast_S8192_S8192x1_0 (Host.reduceAdd (mulf (addf X0 (mulf (broadcastInDim Cert.Norm2XReferenceIdeal.S8192x1024 ![0, 1] Cert.Norm2XReferenceIdeal.Gen.bcast_S1x1024_S8192x1024_0_1 X2) X1)) (addf X0 (mulf (broadcastInDim Cert.Norm2XReferenceIdeal.S8192x1024 ![0, 1] Cert.Norm2XReferenceIdeal.Gen.bcast_S1x1024_S8192x1024_0_1 X2) X1))) (constant Cert.Norm2XReferenceIdeal.S_ .f32 0x00000000#32) Cert.Norm2XReferenceIdeal.Gen.reducesTo_S8192x1024_S8192_d1 Cert.Norm2XReferenceIdeal.Gen.h_S_)) (broadcastInDim Cert.Norm2XReferenceIdeal.S8192x1 ![] Cert.Norm2XReferenceIdeal.Gen.bcast_S_S8192x1 (constant Cert.Norm2XReferenceIdeal.S_ .f32 0x44800000#32))) (broadcastInDim Cert.Norm2XReferenceIdeal.S8192x1 ![] Cert.Norm2XReferenceIdeal.Gen.bcast_S_S8192x1 (constant Cert.Norm2XReferenceIdeal.S_ .f32 0x358637BD#32)))))) (broadcastInDim Cert.Norm2XReferenceIdeal.S8192x1024 ![0, 1] Cert.Norm2XReferenceIdeal.Gen.bcast_S1x1024_S8192x1024_0_1 X3)) (shapeCast _ X6 Cert.Norm2XReferenceIdeal.Gen.shapeCasts_S8192x1024_S8192x1024)) (constant Cert.Norm2XReferenceIdeal.S_ .f32 0x00000000#32) Cert.Norm2XReferenceIdeal.Gen.reducesTo_S8192x1024_S1024_d0 Cert.Norm2XReferenceIdeal.Gen.h_S_) Cert.Norm2XReferenceIdeal.Gen.shapeCasts_S1024_S1x1024

/-- After the run the output array holds the plain gradient of the scale. -/
theorem final_d_scale (c : Dev nD) : (dats m 0 c).arrAt 12 (cfgs 0).N = d_scale (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  refine (dats m 0 c).arrAt_eq_of_covers 12 _ (by decide +kernel) fun t hf y => ?_
  blk_simp
  rw [after0_12, Pipeline.eq_sum_fin_of_reset_step_apply_of_flush (fun n h => (outsAt0 m c n h).2.2.2.2.1) 16 (fun _ => 0)
    (fun p j => (k0_pay16 (k0_pay15 (iblk m c 0 p) (iblk m c 1 p) (iblk m c 2 p) (iblk m c 3 p) (iblk m c 6 p)) j : EReal))
    (fun t h j => by
      have b := lt_of_lt_of_eq t.isLt (show cfg0.N = 16 from N_0)
      rw [outsAt0_A m c t (by omega)]; frame_out
      generalize k0_pay16 (k0_pay15 (iblk m c 0 t) (iblk m c 1 t) (iblk m c 2 t) (iblk m c 3 t) (iblk m c 6 t)) = s
      pointwise [k0_pay1, k0_pay5])
    (fun t h j => by
      rw [outsAt0_B m c t (by omega)]; frame_out
      generalize k0_pay16 (k0_pay15 (iblk m c 0 t) (iblk m c 1 t) (iblk m c 2 t) (iblk m c 3 t) (iblk m c 6 t)) = s
      pointwise [k0_pay1])
    t ((flush0_12 t).mp hf) _, zero_add]
  pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, d_scale]
  refine Eq.trans (α := EReal) (Equiv.sum_comp Fin.revPerm _).symm ?_
  refine Fin.sum_mul_add_congr fun s k hl => ?_
  blk_point [iblk, V, where_at, Fin.revPerm_apply, Fin.val_rev]

/-- The plain gradient of the shift. -/
abbrev d_shift (X0 : FVec Ideal Cert.Norm2XReferenceIdeal.S8192x1024 .f32) (X1 : FVec Ideal Cert.Norm2XReferenceIdeal.S8192x1024 .f32) (X2 : FVec Ideal Cert.Norm2XReferenceIdeal.S1x1024 .f32) (X3 : FVec Ideal Cert.Norm2XReferenceIdeal.S1x1024 .f32) (X4 : FVec Ideal Cert.Norm2XReferenceIdeal.S1x1024 .f32) (X5 : FVec Ideal Cert.Norm2XReferenceIdeal.S1x1024 .f32) (X6 : FVec Ideal Cert.Norm2XReferenceIdeal.S8192x1024 .f32) (X7 : FVec Ideal Cert.Norm2XReferenceIdeal.S8192x1024 .f32) : FVec Ideal Cert.Norm2XReferenceIdeal.S1x1024 .f32 :=
  shapeCast _ (Host.reduceAdd X6 (constant Cert.Norm2XReferenceIdeal.S_ .f32 0x00000000#32) Cert.Norm2XReferenceIdeal.Gen.reducesTo_S8192x1024_S1024_d0 Cert.Norm2XReferenceIdeal.Gen.h_S_) Cert.Norm2XReferenceIdeal.Gen.shapeCasts_S1024_S1x1024

/-- After the run the output array holds the plain gradient of the shift. -/
theorem final_d_shift (c : Dev nD) : (dats m 0 c).arrAt 13 (cfgs 0).N = d_shift (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  refine (dats m 0 c).arrAt_eq_of_covers 13 _ (by decide +kernel) fun t hf y => ?_
  blk_simp
  rw [after0_13, Pipeline.eq_sum_fin_of_reset_step_apply_of_flush (fun n h => (outsAt0 m c n h).2.2.2.2.2) 16 (fun _ => 0)
    (fun p j => (k0_pay14 (iblk m c 6 p) j : EReal))
    (fun t h j => by
      have b := lt_of_lt_of_eq t.isLt (show cfg0.N = 16 from N_0)
      rw [outsAt0_A m c t (by omega)]; frame_out
      generalize k0_pay14 (iblk m c 6 t) = s
      pointwise [k0_pay2, k0_pay6])
    (fun t h j => by
      rw [outsAt0_B m c t (by omega)]; frame_out
      generalize k0_pay14 (iblk m c 6 t) = s
      pointwise [k0_pay2])
    t ((flush0_13 t).mp hf) _, zero_add]
  pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, d_shift]
  refine Eq.trans (α := EReal) (Equiv.sum_comp Fin.revPerm _).symm ?_
  refine Fin.sum_mul_add_congr fun s k hl => ?_
  blk_point [iblk, V, where_at, Fin.revPerm_apply, Fin.val_rev]

end Cert.Norm2XIdeal.Product

end
-- ==== Proof.ResidX.lean ====
/- The residual's backward call: what the launch leaves is the plain result. -/
module

public import proofs.«01_k».proof.Proof.Gates
public import proofs.«01_k».proof.Proof.Gen.ResidXIdeal.Value
public import proofs.«01_k».proof.Proof.Gen.ResidXReferenceIdeal.Run
public import Idealize.ShloMosaic.Lib.Pipeline.ValueKit

@[expose] public section

set_option maxRecDepth 16384

noncomputable section

namespace Cert.ResidXIdeal.Product

open Idealize.ShloMosaic Idealize.ShloMosaic.TcCoe Idealize.ShloMosaic.StableHlo Idealize.SL.Sem
open Cert.ResidXIdeal Cert.ResidXIdeal.Gen

variable (m : (ℓ : Loc nD τ sig) → Buf (Elt Ideal) ℓ)

/-- Which block each window holds at grid point `t`. -/
theorem where_at : ∀ t : Fin cfg0.N, win0_0.index t = ![15 - t.val, 0] ∧ win0_1.index t = ![15 - t.val, 0] ∧ win0_2.index t = ![0, 0] ∧ win0_3.index t = ![15 - t.val, 0] ∧ win0_4.index t = ![15 - t.val, 0] ∧ win0_5.index t = ![15 - t.val, 0] ∧ win0_6.index t = ![0, 0] :=
  (by decide +kernel : ∀ t : Fin grid0.N, _)

/-- The plain gradient of the rows. -/
abbrev d_x (X0 : FVec Ideal Cert.ResidXReferenceIdeal.S8192x1024 .f32) (X1 : FVec Ideal Cert.ResidXReferenceIdeal.S8192x1024 .f32) (X2 : FVec Ideal Cert.ResidXReferenceIdeal.S1x1024 .f32) (X3 : FVec Ideal Cert.ResidXReferenceIdeal.S8192x1024 .f32) : FVec Ideal Cert.ResidXReferenceIdeal.S8192x1024 .f32 :=
  X3

/-- After the run the output array holds the plain gradient of the rows. -/
theorem final_d_x (c : Dev nD) : (dats m 0 c).arrAt 4 (cfgs 0).N = d_x (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t _ y => ?_
  blk_simp
  rw [after0_4]
  by_cases h : t.val % 16 = 0
  · rw [outsAt0_A m c t h]
    frame_out
    pointwise [k0_pay1, k0_pay2, k0_pay3, k0_pay4, d_x]
    blk_point [iblk, V, where_at t]
  · rw [outsAt0_B m c t h]
    frame_out
    pointwise [k0_pay1, k0_pay2, k0_pay3, k0_pay4, d_x]
    blk_point [iblk, V, where_at t]

/-- The plain gradient of the MLP's output. -/
abbrev d_mlp (X0 : FVec Ideal Cert.ResidXReferenceIdeal.S8192x1024 .f32) (X1 : FVec Ideal Cert.ResidXReferenceIdeal.S8192x1024 .f32) (X2 : FVec Ideal Cert.ResidXReferenceIdeal.S1x1024 .f32) (X3 : FVec Ideal Cert.ResidXReferenceIdeal.S8192x1024 .f32) : FVec Ideal Cert.ResidXReferenceIdeal.S8192x1024 .bf16 :=
  truncf .bf16 (mulf (broadcastInDim Cert.ResidXReferenceIdeal.S8192x1024 ![0, 1] Cert.ResidXReferenceIdeal.Gen.bcast_S1x1024_S8192x1024_0_1 X2) (shapeCast _ X3 Cert.ResidXReferenceIdeal.Gen.shapeCasts_S8192x1024_S8192x1024)) Cert.ResidXReferenceIdeal.Gen.bitsLt_bf16_f32

/-- After the run the output array holds the plain gradient of the MLP's output. -/
theorem final_d_mlp (c : Dev nD) : (dats m 0 c).arrAt 5 (cfgs 0).N = d_mlp (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t _ y => ?_
  blk_simp
  rw [after0_5]
  by_cases h : t.val % 16 = 0
  · rw [outsAt0_A m c t h]
    frame_out
    pointwise [k0_pay1, k0_pay2, k0_pay3, k0_pay4, d_mlp]
    blk_point [iblk, V, where_at t]
  · rw [outsAt0_B m c t h]
    frame_out
    pointwise [k0_pay1, k0_pay2, k0_pay3, k0_pay4, d_mlp]
    blk_point [iblk, V, where_at t]

/-- The plain gradient of the residual's gate. -/
abbrev d_gate (X0 : FVec Ideal Cert.ResidXReferenceIdeal.S8192x1024 .f32) (X1 : FVec Ideal Cert.ResidXReferenceIdeal.S8192x1024 .f32) (X2 : FVec Ideal Cert.ResidXReferenceIdeal.S1x1024 .f32) (X3 : FVec Ideal Cert.ResidXReferenceIdeal.S8192x1024 .f32) : FVec Ideal Cert.ResidXReferenceIdeal.S1x1024 .f32 :=
  shapeCast _ (Host.reduceAdd (mulf (shapeCast _ X3 Cert.ResidXReferenceIdeal.Gen.shapeCasts_S8192x1024_S8192x1024) X1) (constant Cert.ResidXReferenceIdeal.S_ .f32 0x00000000#32) Cert.ResidXReferenceIdeal.Gen.reducesTo_S8192x1024_S1024_d0 Cert.ResidXReferenceIdeal.Gen.h_S_) Cert.ResidXReferenceIdeal.Gen.shapeCasts_S1024_S1x1024

/-- After the run the output array holds the plain gradient of the residual's gate. -/
theorem final_d_gate (c : Dev nD) : (dats m 0 c).arrAt 6 (cfgs 0).N = d_gate (m ((c : Thread nD τ).loc main_arg0)) (m ((c : Thread nD τ).loc main_arg1)) (m ((c : Thread nD τ).loc main_arg2)) (m ((c : Thread nD τ).loc main_arg3)) := by
  refine (dats m 0 c).arrAt_eq_of_covers 6 _ (by decide +kernel) fun t hf y => ?_
  blk_simp
  rw [after0_6, Pipeline.eq_sum_fin_of_reset_step_apply_of_flush (fun n h => (outsAt0 m c n h).2.2) 16 (fun _ => 0)
    (fun p j => (k0_pay4 (iblk m c 1 p) (iblk m c 3 p) (k0_pay1 (F := Ideal)) j : EReal))
    (fun t h j => by
      have b := lt_of_lt_of_eq t.isLt (show cfg0.N = 16 from N_0)
      rw [outsAt0_A m c t (by omega)]; frame_out
      exact (zero_add (M := EReal) _).symm)
    (fun t h j => by
      rw [outsAt0_B m c t (by omega)]; frame_out
      pointwise [k0_pay4, k0_pay2, k0_pay1])
    t ((flush0_6 t).mp hf) _, zero_add]
  pointwise [k0_pay1, k0_pay2, k0_pay3, k0_pay4, d_gate]
  refine Eq.trans (α := EReal) (Equiv.sum_comp Fin.revPerm _).symm ?_
  refine Fin.sum_mul_add_congr fun s k hl => ?_
  blk_point [iblk, V, where_at, Fin.revPerm_apply, Fin.val_rev]

end Cert.ResidXIdeal.Product

end
-- ==== Proof.Norm1.lean ====
/- The first norm: what the launch leaves is the plain result. -/
module

public import proofs.«01_k».proof.Proof.Gates
public import proofs.«01_k».proof.Proof.Gen.Norm1Ideal.Value
public import proofs.«01_k».proof.Proof.Gen.Norm1ReferenceIdeal.Run
public import Idealize.ShloMosaic.Lib.Pipeline.ValueKit

@[expose] public section

set_option maxRecDepth 16384

noncomputable section

namespace Cert.Norm1Ideal.Product

open Idealize.ShloMosaic Idealize.ShloMosaic.TcCoe Idealize.ShloMosaic.StableHlo Idealize.SL.Sem
open Cert.Norm1Ideal Cert.Norm1Ideal.Gen

variable (m : (ℓ : Loc nD τ sig) → Buf (Elt Ideal) ℓ)

/-- Which block each window holds at grid point `t`. -/
theorem where_at : ∀ t : Fin cfg0.N, win0_0.index t = ![t.val, 0] ∧ win0_1.index t = ![0, 0] ∧ win0_2.index t = ![0, 0] ∧ win0_3.index t = ![0, 0] ∧ win0_4.index t = ![t.val, 0] :=
  (by decide +kernel : ∀ t : Fin grid0.N, _)

/-- The plain result. -/
abbrev plain (X0 : FVec Ideal Cert.Norm1ReferenceIdeal.S8192x1024 .f32) (X1 : FVec Ideal Cert.Norm1ReferenceIdeal.S1x1024 .f32) (X2 : FVec Ideal Cert.Norm1ReferenceIdeal.S1x1024 .f32) (X3 : FVec Ideal Cert.Norm1ReferenceIdeal.S1x1024 .f32) : FVec Ideal Cert.Norm1ReferenceIdeal.S8192x1024 .bf16 :=
  truncf .bf16 (addf (mulf (mulf (mulf X0 (broadcastInDim Cert.Norm1ReferenceIdeal.S8192x1024 ![0, 1] Cert.Norm1ReferenceIdeal.Gen.bcast_S8192x1_S8192x1024_0_1 (Host.rsqrt (addf (Host.divf (broadcastInDim Cert.Norm1ReferenceIdeal.S8192x1 ![0] Cert.Norm1ReferenceIdeal.Gen.bcast_S8192_S8192x1_0 (Host.reduceAdd (mulf X0 X0) (constant Cert.Norm1ReferenceIdeal.S_ .f32 0x00000000#32) Cert.Norm1ReferenceIdeal.Gen.reducesTo_S8192x1024_S8192_d1 Cert.Norm1ReferenceIdeal.Gen.h_S_)) (broadcastInDim Cert.Norm1ReferenceIdeal.S8192x1 ![] Cert.Norm1ReferenceIdeal.Gen.bcast_S_S8192x1 (constant Cert.Norm1ReferenceIdeal.S_ .f32 0x44800000#32))) (broadcastInDim Cert.Norm1ReferenceIdeal.S8192x1 ![] Cert.Norm1ReferenceIdeal.Gen.bcast_S_S8192x1 (constant Cert.Norm1ReferenceIdeal.S_ .f32 0x358637BD#32)))))) (broadcastInDim Cert.Norm1ReferenceIdeal.S8192x1024 ![0, 1] Cert.Norm1ReferenceIdeal.Gen.bcast_S1x1024_S8192x1024_0_1 X1)) (broadcastInDim Cert.Norm1ReferenceIdeal.S8192x1024 ![0, 1] Cert.Norm1ReferenceIdeal.Gen.bcast_S1x1024_S8192x1024_0_1 (addf (broadcastInDim Cert.Norm1ReferenceIdeal.S1x1024 ![] Cert.Norm1ReferenceIdeal.Gen.bcast_S_S1x1024 (constant Cert.Norm1ReferenceIdeal.S_ .f32 0x3F800000#32)) X2))) (broadcastInDim Cert.Norm1ReferenceIdeal.S8192x1024 ![0, 1] Cert.Norm1ReferenceIdeal.Gen.bcast_S1x1024_S8192x1024_0_1 X3)) Cert.Norm1ReferenceIdeal.Gen.bitsLt_bf16_f32

/-- After the run the output array holds the plain result. -/
theorem final_plain (c : Dev nD) : (dats m 0 c).arrAt 4 (cfgs 0).N = plain (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t _ y => ?_
  blk_simp
  rw [after0_4]
  frame_out
  pointwise [k0_pay1, plain]
  blk_point [iblk, V, where_at t]

end Cert.Norm1Ideal.Product

end
-- ==== Proof.Norm2.lean ====
/- The residual and the second norm: what the launch leaves is the plain result. -/
module

public import proofs.«01_k».proof.Proof.Gates
public import proofs.«01_k».proof.Proof.Gen.Norm2Ideal.Value
public import proofs.«01_k».proof.Proof.Gen.Norm2ReferenceIdeal.Run
public import Idealize.ShloMosaic.Lib.Pipeline.ValueKit

@[expose] public section

set_option maxRecDepth 16384

noncomputable section

namespace Cert.Norm2Ideal.Product

open Idealize.ShloMosaic Idealize.ShloMosaic.TcCoe Idealize.ShloMosaic.StableHlo Idealize.SL.Sem
open Cert.Norm2Ideal Cert.Norm2Ideal.Gen

variable (m : (ℓ : Loc nD τ sig) → Buf (Elt Ideal) ℓ)

/-- Which block each window holds at grid point `t`. -/
theorem where_at : ∀ t : Fin cfg0.N, win0_0.index t = ![t.val, 0] ∧ win0_1.index t = ![t.val, 0] ∧ win0_2.index t = ![0, 0] ∧ win0_3.index t = ![0, 0] ∧ win0_4.index t = ![0, 0] ∧ win0_5.index t = ![0, 0] ∧ win0_6.index t = ![t.val, 0] ∧ win0_7.index t = ![t.val, 0] :=
  (by decide +kernel : ∀ t : Fin grid0.N, _)

/-- The plain result. -/
abbrev normed (X0 : FVec Ideal Cert.Norm2ReferenceIdeal.S8192x1024 .f32) (X1 : FVec Ideal Cert.Norm2ReferenceIdeal.S8192x1024 .f32) (X2 : FVec Ideal Cert.Norm2ReferenceIdeal.S1x1024 .f32) (X3 : FVec Ideal Cert.Norm2ReferenceIdeal.S1x1024 .f32) (X4 : FVec Ideal Cert.Norm2ReferenceIdeal.S1x1024 .f32) (X5 : FVec Ideal Cert.Norm2ReferenceIdeal.S1x1024 .f32) : FVec Ideal Cert.Norm2ReferenceIdeal.S8192x1024 .bf16 :=
  truncf .bf16 (addf (mulf (mulf (mulf (addf X0 (mulf (broadcastInDim Cert.Norm2ReferenceIdeal.S8192x1024 ![0, 1] Cert.Norm2ReferenceIdeal.Gen.bcast_S1x1024_S8192x1024_0_1 X2) X1)) (broadcastInDim Cert.Norm2ReferenceIdeal.S8192x1024 ![0, 1] Cert.Norm2ReferenceIdeal.Gen.bcast_S8192x1_S8192x1024_0_1 (Host.rsqrt (addf (Host.divf (broadcastInDim Cert.Norm2ReferenceIdeal.S8192x1 ![0] Cert.Norm2ReferenceIdeal.Gen.bcast_S8192_S8192x1_0 (Host.reduceAdd (mulf (addf X0 (mulf (broadcastInDim Cert.Norm2ReferenceIdeal.S8192x1024 ![0, 1] Cert.Norm2ReferenceIdeal.Gen.bcast_S1x1024_S8192x1024_0_1 X2) X1)) (addf X0 (mulf (broadcastInDim Cert.Norm2ReferenceIdeal.S8192x1024 ![0, 1] Cert.Norm2ReferenceIdeal.Gen.bcast_S1x1024_S8192x1024_0_1 X2) X1))) (constant Cert.Norm2ReferenceIdeal.S_ .f32 0x00000000#32) Cert.Norm2ReferenceIdeal.Gen.reducesTo_S8192x1024_S8192_d1 Cert.Norm2ReferenceIdeal.Gen.h_S_)) (broadcastInDim Cert.Norm2ReferenceIdeal.S8192x1 ![] Cert.Norm2ReferenceIdeal.Gen.bcast_S_S8192x1 (constant Cert.Norm2ReferenceIdeal.S_ .f32 0x44800000#32))) (broadcastInDim Cert.Norm2ReferenceIdeal.S8192x1 ![] Cert.Norm2ReferenceIdeal.Gen.bcast_S_S8192x1 (constant Cert.Norm2ReferenceIdeal.S_ .f32 0x358637BD#32)))))) (broadcastInDim Cert.Norm2ReferenceIdeal.S8192x1024 ![0, 1] Cert.Norm2ReferenceIdeal.Gen.bcast_S1x1024_S8192x1024_0_1 X3)) (broadcastInDim Cert.Norm2ReferenceIdeal.S8192x1024 ![0, 1] Cert.Norm2ReferenceIdeal.Gen.bcast_S1x1024_S8192x1024_0_1 (addf (broadcastInDim Cert.Norm2ReferenceIdeal.S1x1024 ![] Cert.Norm2ReferenceIdeal.Gen.bcast_S_S1x1024 (constant Cert.Norm2ReferenceIdeal.S_ .f32 0x3F800000#32)) X4))) (broadcastInDim Cert.Norm2ReferenceIdeal.S8192x1024 ![0, 1] Cert.Norm2ReferenceIdeal.Gen.bcast_S1x1024_S8192x1024_0_1 X5)) Cert.Norm2ReferenceIdeal.Gen.bitsLt_bf16_f32

/-- After the run the output array holds the plain result. -/
theorem final_normed (c : Dev nD) : (dats m 0 c).arrAt 6 (cfgs 0).N = normed (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (dats m 0 c).arrAt_eq_of_covers 6 _ (by decide +kernel) fun t _ y => ?_
  blk_simp
  rw [after0_6]
  frame_out
  pointwise [k0_pay1, k0_pay2, normed]
  blk_point [iblk, V, where_at t]

/-- The plain result. -/
abbrev added (X0 : FVec Ideal Cert.Norm2ReferenceIdeal.S8192x1024 .f32) (X1 : FVec Ideal Cert.Norm2ReferenceIdeal.S8192x1024 .f32) (X2 : FVec Ideal Cert.Norm2ReferenceIdeal.S1x1024 .f32) (X3 : FVec Ideal Cert.Norm2ReferenceIdeal.S1x1024 .f32) (X4 : FVec Ideal Cert.Norm2ReferenceIdeal.S1x1024 .f32) (X5 : FVec Ideal Cert.Norm2ReferenceIdeal.S1x1024 .f32) : FVec Ideal Cert.Norm2ReferenceIdeal.S8192x1024 .f32 :=
  addf X0 (mulf (broadcastInDim Cert.Norm2ReferenceIdeal.S8192x1024 ![0, 1] Cert.Norm2ReferenceIdeal.Gen.bcast_S1x1024_S8192x1024_0_1 X2) X1)

/-- After the run the output array holds the plain result. -/
theorem final_added (c : Dev nD) : (dats m 0 c).arrAt 7 (cfgs 0).N = added (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (dats m 0 c).arrAt_eq_of_covers 7 _ (by decide +kernel) fun t _ y => ?_
  blk_simp
  rw [after0_7]
  frame_out
  pointwise [k0_pay1, k0_pay2, added]
  blk_point [iblk, V, where_at t]

end Cert.Norm2Ideal.Product

end
-- ==== Proof.Resid.lean ====
/- The residual: what the launch leaves is the plain result. -/
module

public import proofs.«01_k».proof.Proof.Gates
public import proofs.«01_k».proof.Proof.Gen.ResidIdeal.Value
public import proofs.«01_k».proof.Proof.Gen.ResidReferenceIdeal.Run
public import Idealize.ShloMosaic.Lib.Pipeline.ValueKit

@[expose] public section

set_option maxRecDepth 16384

noncomputable section

namespace Cert.ResidIdeal.Product

open Idealize.ShloMosaic Idealize.ShloMosaic.TcCoe Idealize.ShloMosaic.StableHlo Idealize.SL.Sem
open Cert.ResidIdeal Cert.ResidIdeal.Gen

variable (m : (ℓ : Loc nD τ sig) → Buf (Elt Ideal) ℓ)

/-- Which block each window holds at grid point `t`. -/
theorem where_at : ∀ t : Fin cfg0.N, win0_0.index t = ![t.val, 0] ∧ win0_1.index t = ![t.val, 0] ∧ win0_2.index t = ![0, 0] ∧ win0_3.index t = ![t.val, 0] :=
  (by decide +kernel : ∀ t : Fin grid0.N, _)

/-- The plain result. -/
abbrev plain (X0 : FVec Ideal Cert.ResidReferenceIdeal.S8192x1024 .f32) (X1 : FVec Ideal Cert.ResidReferenceIdeal.S8192x1024 .f32) (X2 : FVec Ideal Cert.ResidReferenceIdeal.S1x1024 .f32) : FVec Ideal Cert.ResidReferenceIdeal.S8192x1024 .f32 :=
  addf X0 (mulf (broadcastInDim Cert.ResidReferenceIdeal.S8192x1024 ![0, 1] Cert.ResidReferenceIdeal.Gen.bcast_S1x1024_S8192x1024_0_1 X2) X1)

/-- After the run the output array holds the plain result. -/
theorem final_plain (c : Dev nD) : (dats m 0 c).arrAt 3 (cfgs 0).N = plain (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  rw [after0_3]
  frame_out
  pointwise [k0_pay1, plain]
  blk_point [iblk, V, where_at t]

end Cert.ResidIdeal.Product

end
-- ==== Proof.LossHead.lean ====
/- The loss head: what the launch leaves is the plain result. -/
module

public import proofs.«01_k».proof.Proof.Gates
public import proofs.«01_k».proof.Proof.Gen.LossHeadIdeal.Value
public import proofs.«01_k».proof.Proof.Gen.LossHeadReferenceIdeal.Run
public import Idealize.ShloMosaic.Lib.Pipeline.ValueKit

@[expose] public section

set_option maxRecDepth 16384

noncomputable section

namespace Cert.LossHeadIdeal.Product

open Idealize.ShloMosaic Idealize.ShloMosaic.TcCoe Idealize.ShloMosaic.StableHlo Idealize.SL.Sem
open Cert.LossHeadIdeal Cert.LossHeadIdeal.Gen

variable (m : (ℓ : Loc nD τ sig) → Buf (Elt Ideal) ℓ)

/-- Which block each window holds at grid point `t`. -/
theorem where_at : ∀ t : Fin cfg0.N, win0_0.index t = ![t.val, 0] ∧ win0_1.index t = ![t.val, 0] ∧ win0_2.index t = ![0, 0] ∧ win0_3.index t = ![0, 0] ∧ win0_4.index t = ![t.val, 0] ∧ win0_5.index t = ![0, 0] :=
  (by decide +kernel : ∀ t : Fin grid0.N, _)

/-- The factor one half comes out of a sum. -/
theorem half_sum {n : ℕ} (g : Fin n → EReal) : ∑ s, Ideal.ofBits .f32 0x3F000000#32 * g s = Ideal.ofBits .f32 0x3F000000#32 * ∑ s, g s := by
  rw [Cert.Gates.half_word]
  exact (map_sum (⟨⟨fun x => ((1 / 2 : ℝ) : EReal) * x, mul_zero _⟩, fun x y => EReal.left_distrib_of_nonneg_of_ne_top (by exact_mod_cast (by norm_num : (0 : ℝ) ≤ 1 / 2)) (EReal.coe_ne_top _) x y⟩ : EReal →+ EReal) g Finset.univ).symm

/-- The derivative of a square: twice the difference times a factor. -/
theorem twice (e a : EReal) : a * (Ideal.ofBits .f32 0x40000000#32 * e) = e * a + a * e := by
  have w : Ideal.ofBits .f32 0x40000000#32 = ((1 + 1 : ℝ) : EReal) := by
    simp [Ideal.ofBits, Ideal.ieee, ← EReal.coe_mul]
    norm_num
    rfl
  rw [mul_left_comm, w, EReal.coe_add, EReal.coe_one, EReal.right_distrib_of_nonneg zero_le_one zero_le_one, one_mul, mul_comm e a]

/-- The plain loss. -/
abbrev loss (X0 : FVec Ideal Cert.LossHeadReferenceIdeal.S8192x1024 .f32) (X1 : FVec Ideal Cert.LossHeadReferenceIdeal.S8192x1024 .f32) (X2 : FVec Ideal Cert.LossHeadReferenceIdeal.S1x1024 .f32) : FVec Ideal Cert.LossHeadReferenceIdeal.S8x128 .f32 :=
  broadcastInDim Cert.LossHeadReferenceIdeal.S8x128 ![] Cert.LossHeadReferenceIdeal.Gen.bcast_S_S8x128 (mulf (constant Cert.LossHeadReferenceIdeal.S_ .f32 0x3F000000#32) (Host.reduceAdd (Host.divf (Host.reduceAdd (mulf (subf (mulf (mulf X0 (broadcastInDim Cert.LossHeadReferenceIdeal.S8192x1024 ![0, 1] Cert.LossHeadReferenceIdeal.Gen.bcast_S8192x1_S8192x1024_0_1 (Host.rsqrt (addf (Host.divf (broadcastInDim Cert.LossHeadReferenceIdeal.S8192x1 ![0] Cert.LossHeadReferenceIdeal.Gen.bcast_S8192_S8192x1_0 (Host.reduceAdd (mulf X0 X0) (constant Cert.LossHeadReferenceIdeal.S_ .f32 0x00000000#32) Cert.LossHeadReferenceIdeal.Gen.reducesTo_S8192x1024_S8192_d1 Cert.LossHeadReferenceIdeal.Gen.h_S_)) (broadcastInDim Cert.LossHeadReferenceIdeal.S8192x1 ![] Cert.LossHeadReferenceIdeal.Gen.bcast_S_S8192x1 (constant Cert.LossHeadReferenceIdeal.S_ .f32 0x44800000#32))) (broadcastInDim Cert.LossHeadReferenceIdeal.S8192x1 ![] Cert.LossHeadReferenceIdeal.Gen.bcast_S_S8192x1 (constant Cert.LossHeadReferenceIdeal.S_ .f32 0x358637BD#32)))))) (broadcastInDim Cert.LossHeadReferenceIdeal.S8192x1024 ![0, 1] Cert.LossHeadReferenceIdeal.Gen.bcast_S1x1024_S8192x1024_0_1 X2)) X1) (subf (mulf (mulf X0 (broadcastInDim Cert.LossHeadReferenceIdeal.S8192x1024 ![0, 1] Cert.LossHeadReferenceIdeal.Gen.bcast_S8192x1_S8192x1024_0_1 (Host.rsqrt (addf (Host.divf (broadcastInDim Cert.LossHeadReferenceIdeal.S8192x1 ![0] Cert.LossHeadReferenceIdeal.Gen.bcast_S8192_S8192x1_0 (Host.reduceAdd (mulf X0 X0) (constant Cert.LossHeadReferenceIdeal.S_ .f32 0x00000000#32) Cert.LossHeadReferenceIdeal.Gen.reducesTo_S8192x1024_S8192_d1 Cert.LossHeadReferenceIdeal.Gen.h_S_)) (broadcastInDim Cert.LossHeadReferenceIdeal.S8192x1 ![] Cert.LossHeadReferenceIdeal.Gen.bcast_S_S8192x1 (constant Cert.LossHeadReferenceIdeal.S_ .f32 0x44800000#32))) (broadcastInDim Cert.LossHeadReferenceIdeal.S8192x1 ![] Cert.LossHeadReferenceIdeal.Gen.bcast_S_S8192x1 (constant Cert.LossHeadReferenceIdeal.S_ .f32 0x358637BD#32)))))) (broadcastInDim Cert.LossHeadReferenceIdeal.S8192x1024 ![0, 1] Cert.LossHeadReferenceIdeal.Gen.bcast_S1x1024_S8192x1024_0_1 X2)) X1)) (constant Cert.LossHeadReferenceIdeal.S_ .f32 0x00000000#32) Cert.LossHeadReferenceIdeal.Gen.reducesTo_S8192x1024_S8192_d1 Cert.LossHeadReferenceIdeal.Gen.h_S_) (broadcastInDim Cert.LossHeadReferenceIdeal.S8192 ![] Cert.LossHeadReferenceIdeal.Gen.bcast_S_S8192 (constant Cert.LossHeadReferenceIdeal.S_ .f32 0x44800000#32))) (constant Cert.LossHeadReferenceIdeal.S_ .f32 0x00000000#32) Cert.LossHeadReferenceIdeal.Gen.reducesTo_S8192_S_d0 Cert.LossHeadReferenceIdeal.Gen.h_S_))

/-- After the run the output array holds the plain loss. -/
theorem final_loss (c : Dev nD) : (dats m 0 c).arrAt 3 (cfgs 0).N = loss (m ((c : Thread nD τ).loc main_arg0)) (m ((c : Thread nD τ).loc main_arg1)) (m ((c : Thread nD τ).loc main_arg2)) := by
  refine (dats m 0 c).arrAt_eq_of_covers 3 _ (by decide +kernel) fun t hf y => ?_
  blk_simp
  rw [after0_3, Pipeline.eq_sum_fin_of_reset_step_apply_of_flush (fun n h => (outsAt0 m c n h).1) 16 (fun _ => 0)
    (fun p j => (k0_pay12 (k0_pay8 (iblk m c 1 p) (iblk m c 0 p) (iblk m c 2 p)) (k0_pay1 (F := Ideal)) j : EReal))
    (fun t h j => by
      have b := lt_of_lt_of_eq t.isLt (show cfg0.N = 16 from N_0)
      rw [outsAt0_A m c t (by omega)]; frame_out
      exact (zero_add (M := EReal) _).symm)
    (fun t h j => by
      rw [outsAt0_B m c t (by omega)]; frame_out
      pointwise [k0_pay12, k0_pay1])
    t ((flush0_3 t).mp hf) _, zero_add]
  pointwise [k0_pay1, k0_pay2, k0_pay3, k0_pay4, k0_pay5, k0_pay6, k0_pay7, k0_pay8, k0_pay9, k0_pay10, k0_pay11, k0_pay12, k0_pay13, loss]
  rw [half_sum]
  refine congrArg (Ideal.ofBits .f32 0x3F000000#32 * ·) ?_
  refine Fin.sum_mul_add_congr fun s k hl => ?_
  blk_point [iblk, V, where_at]

/-- The plain gradient of the rows. -/
abbrev d_x (X0 : FVec Ideal Cert.LossHeadReferenceIdeal.S8192x1024 .f32) (X1 : FVec Ideal Cert.LossHeadReferenceIdeal.S8192x1024 .f32) (X2 : FVec Ideal Cert.LossHeadReferenceIdeal.S1x1024 .f32) : FVec Ideal Cert.LossHeadReferenceIdeal.S8192x1024 .f32 :=
  addf (addf (mulf (mulf (mulf (broadcastInDim Cert.LossHeadReferenceIdeal.S8192x1024 ![0] Cert.LossHeadReferenceIdeal.Gen.bcast_S8192_S8192x1024_0 (Host.divf (broadcastInDim Cert.LossHeadReferenceIdeal.S8192 ![] Cert.LossHeadReferenceIdeal.Gen.bcast_S_S8192 (mulf (constant Cert.LossHeadReferenceIdeal.S_ .f32 0x3F000000#32) (constant Cert.LossHeadReferenceIdeal.S_ .f32 0x3F800000#32))) (broadcastInDim Cert.LossHeadReferenceIdeal.S8192 ![] Cert.LossHeadReferenceIdeal.Gen.bcast_S_S8192 (constant Cert.LossHeadReferenceIdeal.S_ .f32 0x44800000#32)))) (mulf (broadcastInDim Cert.LossHeadReferenceIdeal.S8192x1024 ![] Cert.LossHeadReferenceIdeal.Gen.bcast_S_S8192x1024 (constant Cert.LossHeadReferenceIdeal.S_ .f32 0x40000000#32)) (subf (mulf (mulf X0 (broadcastInDim Cert.LossHeadReferenceIdeal.S8192x1024 ![0, 1] Cert.LossHeadReferenceIdeal.Gen.bcast_S8192x1_S8192x1024_0_1 (Host.rsqrt (addf (Host.divf (broadcastInDim Cert.LossHeadReferenceIdeal.S8192x1 ![0] Cert.LossHeadReferenceIdeal.Gen.bcast_S8192_S8192x1_0 (Host.reduceAdd (mulf X0 X0) (constant Cert.LossHeadReferenceIdeal.S_ .f32 0x00000000#32) Cert.LossHeadReferenceIdeal.Gen.reducesTo_S8192x1024_S8192_d1 Cert.LossHeadReferenceIdeal.Gen.h_S_)) (broadcastInDim Cert.LossHeadReferenceIdeal.S8192x1 ![] Cert.LossHeadReferenceIdeal.Gen.bcast_S_S8192x1 (constant Cert.LossHeadReferenceIdeal.S_ .f32 0x44800000#32))) (broadcastInDim Cert.LossHeadReferenceIdeal.S8192x1 ![] Cert.LossHeadReferenceIdeal.Gen.bcast_S_S8192x1 (constant Cert.LossHeadReferenceIdeal.S_ .f32 0x358637BD#32)))))) (broadcastInDim Cert.LossHeadReferenceIdeal.S8192x1024 ![0, 1] Cert.LossHeadReferenceIdeal.Gen.bcast_S1x1024_S8192x1024_0_1 X2)) X1))) (broadcastInDim Cert.LossHeadReferenceIdeal.S8192x1024 ![0, 1] Cert.LossHeadReferenceIdeal.Gen.bcast_S1x1024_S8192x1024_0_1 X2)) (broadcastInDim Cert.LossHeadReferenceIdeal.S8192x1024 ![0, 1] Cert.LossHeadReferenceIdeal.Gen.bcast_S8192x1_S8192x1024_0_1 (Host.rsqrt (addf (Host.divf (broadcastInDim Cert.LossHeadReferenceIdeal.S8192x1 ![0] Cert.LossHeadReferenceIdeal.Gen.bcast_S8192_S8192x1_0 (Host.reduceAdd (mulf X0 X0) (constant Cert.LossHeadReferenceIdeal.S_ .f32 0x00000000#32) Cert.LossHeadReferenceIdeal.Gen.reducesTo_S8192x1024_S8192_d1 Cert.LossHeadReferenceIdeal.Gen.h_S_)) (broadcastInDim Cert.LossHeadReferenceIdeal.S8192x1 ![] Cert.LossHeadReferenceIdeal.Gen.bcast_S_S8192x1 (constant Cert.LossHeadReferenceIdeal.S_ .f32 0x44800000#32))) (broadcastInDim Cert.LossHeadReferenceIdeal.S8192x1 ![] Cert.LossHeadReferenceIdeal.Gen.bcast_S_S8192x1 (constant Cert.LossHeadReferenceIdeal.S_ .f32 0x358637BD#32)))))) (mulf X0 (broadcastInDim Cert.LossHeadReferenceIdeal.S8192x1024 ![0] Cert.LossHeadReferenceIdeal.Gen.bcast_S8192_S8192x1024_0 (Host.reduceAdd (Host.divf (mulf (shapeCast _ (Host.reduceAdd (mulf X0 (mulf (mulf (broadcastInDim Cert.LossHeadReferenceIdeal.S8192x1024 ![0] Cert.LossHeadReferenceIdeal.Gen.bcast_S8192_S8192x1024_0 (Host.divf (broadcastInDim Cert.LossHeadReferenceIdeal.S8192 ![] Cert.LossHeadReferenceIdeal.Gen.bcast_S_S8192 (mulf (constant Cert.LossHeadReferenceIdeal.S_ .f32 0x3F000000#32) (constant Cert.LossHeadReferenceIdeal.S_ .f32 0x3F800000#32))) (broadcastInDim Cert.LossHeadReferenceIdeal.S8192 ![] Cert.LossHeadReferenceIdeal.Gen.bcast_S_S8192 (constant Cert.LossHeadReferenceIdeal.S_ .f32 0x44800000#32)))) (mulf (broadcastInDim Cert.LossHeadReferenceIdeal.S8192x1024 ![] Cert.LossHeadReferenceIdeal.Gen.bcast_S_S8192x1024 (constant Cert.LossHeadReferenceIdeal.S_ .f32 0x40000000#32)) (subf (mulf (mulf X0 (broadcastInDim Cert.LossHeadReferenceIdeal.S8192x1024 ![0, 1] Cert.LossHeadReferenceIdeal.Gen.bcast_S8192x1_S8192x1024_0_1 (Host.rsqrt (addf (Host.divf (broadcastInDim Cert.LossHeadReferenceIdeal.S8192x1 ![0] Cert.LossHeadReferenceIdeal.Gen.bcast_S8192_S8192x1_0 (Host.reduceAdd (mulf X0 X0) (constant Cert.LossHeadReferenceIdeal.S_ .f32 0x00000000#32) Cert.LossHeadReferenceIdeal.Gen.reducesTo_S8192x1024_S8192_d1 Cert.LossHeadReferenceIdeal.Gen.h_S_)) (broadcastInDim Cert.LossHeadReferenceIdeal.S8192x1 ![] Cert.LossHeadReferenceIdeal.Gen.bcast_S_S8192x1 (constant Cert.LossHeadReferenceIdeal.S_ .f32 0x44800000#32))) (broadcastInDim Cert.LossHeadReferenceIdeal.S8192x1 ![] Cert.LossHeadReferenceIdeal.Gen.bcast_S_S8192x1 (constant Cert.LossHeadReferenceIdeal.S_ .f32 0x358637BD#32)))))) (broadcastInDim Cert.LossHeadReferenceIdeal.S8192x1024 ![0, 1] Cert.LossHeadReferenceIdeal.Gen.bcast_S1x1024_S8192x1024_0_1 X2)) X1))) (broadcastInDim Cert.LossHeadReferenceIdeal.S8192x1024 ![0, 1] Cert.LossHeadReferenceIdeal.Gen.bcast_S1x1024_S8192x1024_0_1 X2))) (constant Cert.LossHeadReferenceIdeal.S_ .f32 0x00000000#32) Cert.LossHeadReferenceIdeal.Gen.reducesTo_S8192x1024_S8192_d1 Cert.LossHeadReferenceIdeal.Gen.h_S_) Cert.LossHeadReferenceIdeal.Gen.shapeCasts_S8192_S8192x1) (mulf (broadcastInDim Cert.LossHeadReferenceIdeal.S8192x1 ![] Cert.LossHeadReferenceIdeal.Gen.bcast_S_S8192x1 (constant Cert.LossHeadReferenceIdeal.S_ .f32 0xBF000000#32)) (Host.divf (Host.rsqrt (addf (Host.divf (broadcastInDim Cert.LossHeadReferenceIdeal.S8192x1 ![0] Cert.LossHeadReferenceIdeal.Gen.bcast_S8192_S8192x1_0 (Host.reduceAdd (mulf X0 X0) (constant Cert.LossHeadReferenceIdeal.S_ .f32 0x00000000#32) Cert.LossHeadReferenceIdeal.Gen.reducesTo_S8192x1024_S8192_d1 Cert.LossHeadReferenceIdeal.Gen.h_S_)) (broadcastInDim Cert.LossHeadReferenceIdeal.S8192x1 ![] Cert.LossHeadReferenceIdeal.Gen.bcast_S_S8192x1 (constant Cert.LossHeadReferenceIdeal.S_ .f32 0x44800000#32))) (broadcastInDim Cert.LossHeadReferenceIdeal.S8192x1 ![] Cert.LossHeadReferenceIdeal.Gen.bcast_S_S8192x1 (constant Cert.LossHeadReferenceIdeal.S_ .f32 0x358637BD#32)))) (addf (Host.divf (broadcastInDim Cert.LossHeadReferenceIdeal.S8192x1 ![0] Cert.LossHeadReferenceIdeal.Gen.bcast_S8192_S8192x1_0 (Host.reduceAdd (mulf X0 X0) (constant Cert.LossHeadReferenceIdeal.S_ .f32 0x00000000#32) Cert.LossHeadReferenceIdeal.Gen.reducesTo_S8192x1024_S8192_d1 Cert.LossHeadReferenceIdeal.Gen.h_S_)) (broadcastInDim Cert.LossHeadReferenceIdeal.S8192x1 ![] Cert.LossHeadReferenceIdeal.Gen.bcast_S_S8192x1 (constant Cert.LossHeadReferenceIdeal.S_ .f32 0x44800000#32))) (broadcastInDim Cert.LossHeadReferenceIdeal.S8192x1 ![] Cert.LossHeadReferenceIdeal.Gen.bcast_S_S8192x1 (constant Cert.LossHeadReferenceIdeal.S_ .f32 0x358637BD#32)))))) (broadcastInDim Cert.LossHeadReferenceIdeal.S8192x1 ![] Cert.LossHeadReferenceIdeal.Gen.bcast_S_S8192x1 (constant Cert.LossHeadReferenceIdeal.S_ .f32 0x44800000#32))) (constant Cert.LossHeadReferenceIdeal.S_ .f32 0x00000000#32) Cert.LossHeadReferenceIdeal.Gen.reducesTo_S8192x1_S8192_d1 Cert.LossHeadReferenceIdeal.Gen.h_S_)))) (mulf (broadcastInDim Cert.LossHeadReferenceIdeal.S8192x1024 ![0] Cert.LossHeadReferenceIdeal.Gen.bcast_S8192_S8192x1024_0 (Host.reduceAdd (Host.divf (mulf (shapeCast _ (Host.reduceAdd (mulf X0 (mulf (mulf (broadcastInDim Cert.LossHeadReferenceIdeal.S8192x1024 ![0] Cert.LossHeadReferenceIdeal.Gen.bcast_S8192_S8192x1024_0 (Host.divf (broadcastInDim Cert.LossHeadReferenceIdeal.S8192 ![] Cert.LossHeadReferenceIdeal.Gen.bcast_S_S8192 (mulf (constant Cert.LossHeadReferenceIdeal.S_ .f32 0x3F000000#32) (constant Cert.LossHeadReferenceIdeal.S_ .f32 0x3F800000#32))) (broadcastInDim Cert.LossHeadReferenceIdeal.S8192 ![] Cert.LossHeadReferenceIdeal.Gen.bcast_S_S8192 (constant Cert.LossHeadReferenceIdeal.S_ .f32 0x44800000#32)))) (mulf (broadcastInDim Cert.LossHeadReferenceIdeal.S8192x1024 ![] Cert.LossHeadReferenceIdeal.Gen.bcast_S_S8192x1024 (constant Cert.LossHeadReferenceIdeal.S_ .f32 0x40000000#32)) (subf (mulf (mulf X0 (broadcastInDim Cert.LossHeadReferenceIdeal.S8192x1024 ![0, 1] Cert.LossHeadReferenceIdeal.Gen.bcast_S8192x1_S8192x1024_0_1 (Host.rsqrt (addf (Host.divf (broadcastInDim Cert.LossHeadReferenceIdeal.S8192x1 ![0] Cert.LossHeadReferenceIdeal.Gen.bcast_S8192_S8192x1_0 (Host.reduceAdd (mulf X0 X0) (constant Cert.LossHeadReferenceIdeal.S_ .f32 0x00000000#32) Cert.LossHeadReferenceIdeal.Gen.reducesTo_S8192x1024_S8192_d1 Cert.LossHeadReferenceIdeal.Gen.h_S_)) (broadcastInDim Cert.LossHeadReferenceIdeal.S8192x1 ![] Cert.LossHeadReferenceIdeal.Gen.bcast_S_S8192x1 (constant Cert.LossHeadReferenceIdeal.S_ .f32 0x44800000#32))) (broadcastInDim Cert.LossHeadReferenceIdeal.S8192x1 ![] Cert.LossHeadReferenceIdeal.Gen.bcast_S_S8192x1 (constant Cert.LossHeadReferenceIdeal.S_ .f32 0x358637BD#32)))))) (broadcastInDim Cert.LossHeadReferenceIdeal.S8192x1024 ![0, 1] Cert.LossHeadReferenceIdeal.Gen.bcast_S1x1024_S8192x1024_0_1 X2)) X1))) (broadcastInDim Cert.LossHeadReferenceIdeal.S8192x1024 ![0, 1] Cert.LossHeadReferenceIdeal.Gen.bcast_S1x1024_S8192x1024_0_1 X2))) (constant Cert.LossHeadReferenceIdeal.S_ .f32 0x00000000#32) Cert.LossHeadReferenceIdeal.Gen.reducesTo_S8192x1024_S8192_d1 Cert.LossHeadReferenceIdeal.Gen.h_S_) Cert.LossHeadReferenceIdeal.Gen.shapeCasts_S8192_S8192x1) (mulf (broadcastInDim Cert.LossHeadReferenceIdeal.S8192x1 ![] Cert.LossHeadReferenceIdeal.Gen.bcast_S_S8192x1 (constant Cert.LossHeadReferenceIdeal.S_ .f32 0xBF000000#32)) (Host.divf (Host.rsqrt (addf (Host.divf (broadcastInDim Cert.LossHeadReferenceIdeal.S8192x1 ![0] Cert.LossHeadReferenceIdeal.Gen.bcast_S8192_S8192x1_0 (Host.reduceAdd (mulf X0 X0) (constant Cert.LossHeadReferenceIdeal.S_ .f32 0x00000000#32) Cert.LossHeadReferenceIdeal.Gen.reducesTo_S8192x1024_S8192_d1 Cert.LossHeadReferenceIdeal.Gen.h_S_)) (broadcastInDim Cert.LossHeadReferenceIdeal.S8192x1 ![] Cert.LossHeadReferenceIdeal.Gen.bcast_S_S8192x1 (constant Cert.LossHeadReferenceIdeal.S_ .f32 0x44800000#32))) (broadcastInDim Cert.LossHeadReferenceIdeal.S8192x1 ![] Cert.LossHeadReferenceIdeal.Gen.bcast_S_S8192x1 (constant Cert.LossHeadReferenceIdeal.S_ .f32 0x358637BD#32)))) (addf (Host.divf (broadcastInDim Cert.LossHeadReferenceIdeal.S8192x1 ![0] Cert.LossHeadReferenceIdeal.Gen.bcast_S8192_S8192x1_0 (Host.reduceAdd (mulf X0 X0) (constant Cert.LossHeadReferenceIdeal.S_ .f32 0x00000000#32) Cert.LossHeadReferenceIdeal.Gen.reducesTo_S8192x1024_S8192_d1 Cert.LossHeadReferenceIdeal.Gen.h_S_)) (broadcastInDim Cert.LossHeadReferenceIdeal.S8192x1 ![] Cert.LossHeadReferenceIdeal.Gen.bcast_S_S8192x1 (constant Cert.LossHeadReferenceIdeal.S_ .f32 0x44800000#32))) (broadcastInDim Cert.LossHeadReferenceIdeal.S8192x1 ![] Cert.LossHeadReferenceIdeal.Gen.bcast_S_S8192x1 (constant Cert.LossHeadReferenceIdeal.S_ .f32 0x358637BD#32)))))) (broadcastInDim Cert.LossHeadReferenceIdeal.S8192x1 ![] Cert.LossHeadReferenceIdeal.Gen.bcast_S_S8192x1 (constant Cert.LossHeadReferenceIdeal.S_ .f32 0x44800000#32))) (constant Cert.LossHeadReferenceIdeal.S_ .f32 0x00000000#32) Cert.LossHeadReferenceIdeal.Gen.reducesTo_S8192x1_S8192_d1 Cert.LossHeadReferenceIdeal.Gen.h_S_)) X0)

/-- After the run the output array holds the plain gradient of the rows. -/
theorem final_d_x (c : Dev nD) : (dats m 0 c).arrAt 4 (cfgs 0).N = d_x (m ((c : Thread nD τ).loc main_arg0)) (m ((c : Thread nD τ).loc main_arg1)) (m ((c : Thread nD τ).loc main_arg2)) := by
  refine (dats m 0 c).arrAt_eq_of_covers 4 _ (by decide +kernel) fun t _ y => ?_
  blk_simp
  rw [after0_4]
  by_cases h : t.val % 16 = 0
  · rw [outsAt0_A m c t h]
    frame_out
    pointwise [k0_pay1, k0_pay2, k0_pay3, k0_pay4, k0_pay5, k0_pay6, k0_pay7, k0_pay8, k0_pay9, k0_pay10, k0_pay11, k0_pay12, k0_pay13, d_x]
    simp only [Finset.univ_unique, Finset.sum_singleton, twice]
    blk_point [iblk, V, where_at t]
  · rw [outsAt0_B m c t h]
    frame_out
    pointwise [k0_pay1, k0_pay2, k0_pay3, k0_pay4, k0_pay5, k0_pay6, k0_pay7, k0_pay8, k0_pay9, k0_pay10, k0_pay11, k0_pay12, k0_pay13, d_x]
    simp only [Finset.univ_unique, Finset.sum_singleton, twice]
    blk_point [iblk, V, where_at t]

/-- The plain gradient of the norm's weight. -/
abbrev d_norm (X0 : FVec Ideal Cert.LossHeadReferenceIdeal.S8192x1024 .f32) (X1 : FVec Ideal Cert.LossHeadReferenceIdeal.S8192x1024 .f32) (X2 : FVec Ideal Cert.LossHeadReferenceIdeal.S1x1024 .f32) : FVec Ideal Cert.LossHeadReferenceIdeal.S1x1024 .f32 :=
  shapeCast _ (Host.reduceAdd (mulf (mulf X0 (broadcastInDim Cert.LossHeadReferenceIdeal.S8192x1024 ![0, 1] Cert.LossHeadReferenceIdeal.Gen.bcast_S8192x1_S8192x1024_0_1 (Host.rsqrt (addf (Host.divf (broadcastInDim Cert.LossHeadReferenceIdeal.S8192x1 ![0] Cert.LossHeadReferenceIdeal.Gen.bcast_S8192_S8192x1_0 (Host.reduceAdd (mulf X0 X0) (constant Cert.LossHeadReferenceIdeal.S_ .f32 0x00000000#32) Cert.LossHeadReferenceIdeal.Gen.reducesTo_S8192x1024_S8192_d1 Cert.LossHeadReferenceIdeal.Gen.h_S_)) (broadcastInDim Cert.LossHeadReferenceIdeal.S8192x1 ![] Cert.LossHeadReferenceIdeal.Gen.bcast_S_S8192x1 (constant Cert.LossHeadReferenceIdeal.S_ .f32 0x44800000#32))) (broadcastInDim Cert.LossHeadReferenceIdeal.S8192x1 ![] Cert.LossHeadReferenceIdeal.Gen.bcast_S_S8192x1 (constant Cert.LossHeadReferenceIdeal.S_ .f32 0x358637BD#32)))))) (mulf (broadcastInDim Cert.LossHeadReferenceIdeal.S8192x1024 ![0] Cert.LossHeadReferenceIdeal.Gen.bcast_S8192_S8192x1024_0 (Host.divf (broadcastInDim Cert.LossHeadReferenceIdeal.S8192 ![] Cert.LossHeadReferenceIdeal.Gen.bcast_S_S8192 (mulf (constant Cert.LossHeadReferenceIdeal.S_ .f32 0x3F000000#32) (constant Cert.LossHeadReferenceIdeal.S_ .f32 0x3F800000#32))) (broadcastInDim Cert.LossHeadReferenceIdeal.S8192 ![] Cert.LossHeadReferenceIdeal.Gen.bcast_S_S8192 (constant Cert.LossHeadReferenceIdeal.S_ .f32 0x44800000#32)))) (mulf (broadcastInDim Cert.LossHeadReferenceIdeal.S8192x1024 ![] Cert.LossHeadReferenceIdeal.Gen.bcast_S_S8192x1024 (constant Cert.LossHeadReferenceIdeal.S_ .f32 0x40000000#32)) (subf (mulf (mulf X0 (broadcastInDim Cert.LossHeadReferenceIdeal.S8192x1024 ![0, 1] Cert.LossHeadReferenceIdeal.Gen.bcast_S8192x1_S8192x1024_0_1 (Host.rsqrt (addf (Host.divf (broadcastInDim Cert.LossHeadReferenceIdeal.S8192x1 ![0] Cert.LossHeadReferenceIdeal.Gen.bcast_S8192_S8192x1_0 (Host.reduceAdd (mulf X0 X0) (constant Cert.LossHeadReferenceIdeal.S_ .f32 0x00000000#32) Cert.LossHeadReferenceIdeal.Gen.reducesTo_S8192x1024_S8192_d1 Cert.LossHeadReferenceIdeal.Gen.h_S_)) (broadcastInDim Cert.LossHeadReferenceIdeal.S8192x1 ![] Cert.LossHeadReferenceIdeal.Gen.bcast_S_S8192x1 (constant Cert.LossHeadReferenceIdeal.S_ .f32 0x44800000#32))) (broadcastInDim Cert.LossHeadReferenceIdeal.S8192x1 ![] Cert.LossHeadReferenceIdeal.Gen.bcast_S_S8192x1 (constant Cert.LossHeadReferenceIdeal.S_ .f32 0x358637BD#32)))))) (broadcastInDim Cert.LossHeadReferenceIdeal.S8192x1024 ![0, 1] Cert.LossHeadReferenceIdeal.Gen.bcast_S1x1024_S8192x1024_0_1 X2)) X1)))) (constant Cert.LossHeadReferenceIdeal.S_ .f32 0x00000000#32) Cert.LossHeadReferenceIdeal.Gen.reducesTo_S8192x1024_S1024_d0 Cert.LossHeadReferenceIdeal.Gen.h_S_) Cert.LossHeadReferenceIdeal.Gen.shapeCasts_S1024_S1x1024

/-- After the run the output array holds the plain gradient of the norm's weight. -/
theorem final_d_norm (c : Dev nD) : (dats m 0 c).arrAt 5 (cfgs 0).N = d_norm (m ((c : Thread nD τ).loc main_arg0)) (m ((c : Thread nD τ).loc main_arg1)) (m ((c : Thread nD τ).loc main_arg2)) := by
  refine (dats m 0 c).arrAt_eq_of_covers 5 _ (by decide +kernel) fun t hf y => ?_
  blk_simp
  rw [after0_5, Pipeline.eq_sum_fin_of_reset_step_apply_of_flush (fun n h => (outsAt0 m c n h).2.2) 16 (fun _ => 0)
    (fun p j => (k0_pay13 (k0_pay6 (iblk m c 0 p)) (k0_pay7 (iblk m c 1 p) (iblk m c 0 p) (iblk m c 2 p)) k0_pay9 (k0_pay2 (F := Ideal)) j : EReal))
    (fun t h j => by
      have b := lt_of_lt_of_eq t.isLt (show cfg0.N = 16 from N_0)
      rw [outsAt0_A m c t (by omega)]; frame_out
      exact (zero_add (M := EReal) _).symm)
    (fun t h j => by
      rw [outsAt0_B m c t (by omega)]; frame_out
      pointwise [k0_pay13, k0_pay2])
    t ((flush0_5 t).mp hf) _, zero_add]
  pointwise [k0_pay1, k0_pay2, k0_pay3, k0_pay4, k0_pay5, k0_pay6, k0_pay7, k0_pay8, k0_pay9, k0_pay10, k0_pay11, k0_pay12, k0_pay13, d_norm]
  simp only [Finset.univ_unique, Finset.sum_singleton, twice]
  refine Fin.sum_mul_add_congr fun s k hl => ?_
  blk_point [iblk, V, where_at]

end Cert.LossHeadIdeal.Product

end
-- ==== Proof.LruOut.lean ====
/- The recurrence's output gate: what the launch leaves is the plain result. -/
module

public import proofs.«01_k».proof.Proof.Gates
public import proofs.«01_k».proof.Proof.Gen.LruOutIdeal.Value
public import proofs.«01_k».proof.Proof.Gen.LruOutReferenceIdeal.Run
public import Idealize.ShloMosaic.Lib.Pipeline.ValueKit

@[expose] public section

set_option maxRecDepth 16384

noncomputable section

namespace Cert.LruOutIdeal.Product

open Idealize.ShloMosaic Idealize.ShloMosaic.TcCoe Idealize.ShloMosaic.StableHlo Idealize.SL.Sem
open Cert.LruOutIdeal Cert.LruOutIdeal.Gen

variable (m : (ℓ : Loc nD τ sig) → Buf (Elt Ideal) ℓ)

/-- Which block each window holds at grid point `t`. -/
theorem where_at : ∀ t : Fin cfg0.N, win0_0.index t = ![t.val, 0] ∧ win0_1.index t = ![t.val, 0] ∧ win0_2.index t = ![t.val, 0] :=
  (by decide +kernel : ∀ t : Fin grid0.N, _)

/-- Half of the argument times a factor, with the half moved to the factor. -/
theorem half_moved (h x t : EReal) : h * x * t = x * (h * t) := by rw [mul_comm h x, mul_assoc]

/-- The plain result. -/
abbrev plain (X0 : FVec Ideal Cert.LruOutReferenceIdeal.S8192x512 .f32) (X1 : FVec Ideal Cert.LruOutReferenceIdeal.S8192x512 .f32) : FVec Ideal Cert.LruOutReferenceIdeal.S8192x512 .f32 :=
  mulf X0 (mulf X1 (mulf (broadcastInDim Cert.LruOutReferenceIdeal.S8192x512 ![] Cert.LruOutReferenceIdeal.Gen.bcast_S_S8192x512 (constant Cert.LruOutReferenceIdeal.S_ .f32 0x3F000000#32)) (addf (broadcastInDim Cert.LruOutReferenceIdeal.S8192x512 ![] Cert.LruOutReferenceIdeal.Gen.bcast_S_S8192x512 (constant Cert.LruOutReferenceIdeal.S_ .f32 0x3F800000#32)) (Host.tanh (mulf (broadcastInDim Cert.LruOutReferenceIdeal.S8192x512 ![] Cert.LruOutReferenceIdeal.Gen.bcast_S_S8192x512 (constant Cert.LruOutReferenceIdeal.S_ .f32 0x3F4C422A#32)) (addf X1 (mulf (broadcastInDim Cert.LruOutReferenceIdeal.S8192x512 ![] Cert.LruOutReferenceIdeal.Gen.bcast_S_S8192x512 (constant Cert.LruOutReferenceIdeal.S_ .f32 0x3D372713#32)) (mulf (mulf X1 X1) X1))))))))

/-- After the run the output array holds the plain result. -/
theorem final_plain (c : Dev nD) : (dats m 0 c).arrAt 2 (cfgs 0).N = plain (m ((c : Thread nD τ).loc main_arg0)) (m ((c : Thread nD τ).loc main_arg1)) := by
  refine (dats m 0 c).arrAt_eq_of_covers 2 _ (by decide +kernel) fun t _ y => ?_
  blk_simp
  rw [after0_2]
  frame_out
  pointwise [k0_pay1, plain]
  simp only [half_moved (Ideal.ofBits .f32 0x3F000000#32)]
  blk_point [iblk, V, where_at t]

end Cert.LruOutIdeal.Product

end
-- ==== Proof.Silu.lean ====
/- The conditioning's activation: what the launch leaves is the plain result. -/
module

public import proofs.«01_k».proof.Proof.Gates
public import proofs.«01_k».proof.Proof.Gen.SiluIdeal.Value
public import proofs.«01_k».proof.Proof.Gen.SiluReferenceIdeal.Run
public import Idealize.ShloMosaic.Lib.Pipeline.ValueKit

@[expose] public section

set_option maxRecDepth 16384

noncomputable section

namespace Cert.SiluIdeal.Product

open Idealize.ShloMosaic Idealize.ShloMosaic.TcCoe Idealize.ShloMosaic.StableHlo Idealize.SL.Sem
open Cert.SiluIdeal Cert.SiluIdeal.Gen

variable (m : (ℓ : Loc nD τ sig) → Buf (Elt Ideal) ℓ)

/-- Which block each window holds at grid point `t`. -/
theorem where_at : ∀ t : Fin cfg0.N, win0_0.index t = ![0, 0] ∧ win0_1.index t = ![0, 0] :=
  (by decide +kernel : ∀ t : Fin grid0.N, _)

/-- The plain result. -/
abbrev plain (X0 : FVec Ideal Cert.SiluReferenceIdeal.S8x1024 .f32) : FVec Ideal Cert.SiluReferenceIdeal.S8x1024 .f32 :=
  mulf X0 (Host.divf (broadcastInDim Cert.SiluReferenceIdeal.S8x1024 ![] Cert.SiluReferenceIdeal.Gen.bcast_S_S8x1024 (constant Cert.SiluReferenceIdeal.S_ .f32 0x3F800000#32)) (addf (broadcastInDim Cert.SiluReferenceIdeal.S8x1024 ![] Cert.SiluReferenceIdeal.Gen.bcast_S_S8x1024 (constant Cert.SiluReferenceIdeal.S_ .f32 0x3F800000#32)) (Host.exp (Host.negf X0))))

/-- After the run the output array holds the plain result. -/
theorem final_plain (c : Dev nD) : (dats m 0 c).arrAt 1 (cfgs 0).N = plain (m ((c : Thread nD τ).loc main_arg0)) := by
  refine (dats m 0 c).arrAt_eq_of_covers 1 _ (by decide +kernel) fun t _ y => ?_
  blk_simp
  rw [after0_1]
  frame_out
  pointwise [k0_pay1, plain]
  simp only [Cert.Gates.gate_eq, Cert.Gates.gate_spelt]
  blk_point [iblk, V, where_at t]

end Cert.SiluIdeal.Product

end
-- ==== Proof.AddSmall.lean ====
/- The sum over the devices: what the launch leaves is the plain result. -/
module

public import proofs.«01_k».proof.Proof.Gates
public import proofs.«01_k».proof.Proof.Gen.AddSmallIdeal.Value
public import proofs.«01_k».proof.Proof.Gen.AddSmallReferenceIdeal.Run
public import Idealize.ShloMosaic.Lib.Pipeline.ValueKit

@[expose] public section

set_option maxRecDepth 16384

noncomputable section

namespace Cert.AddSmallIdeal.Product

open Idealize.ShloMosaic Idealize.ShloMosaic.TcCoe Idealize.ShloMosaic.StableHlo Idealize.SL.Sem
open Cert.AddSmallIdeal Cert.AddSmallIdeal.Gen

variable (m : (ℓ : Loc nD τ sig) → Buf (Elt Ideal) ℓ)

/-- Which block each window holds at grid point `t`. -/
theorem where_at : ∀ t : Fin cfg0.N, win0_0.index t = ![0, 0, 0] ∧ win0_1.index t = ![0, 0] :=
  (by decide +kernel : ∀ t : Fin grid0.N, _)

/-- The plain result. -/
abbrev plain (X0 : FVec Ideal Cert.AddSmallReferenceIdeal.S8x312x1024 .f32) : FVec Ideal Cert.AddSmallReferenceIdeal.S312x1024 .f32 :=
  Host.reduceAdd X0 (constant Cert.AddSmallReferenceIdeal.S_ .f32 0x00000000#32) Cert.AddSmallReferenceIdeal.Gen.reducesTo_S8x312x1024_S312x1024_d0 Cert.AddSmallReferenceIdeal.Gen.h_S_

/-- After the run the output array holds the plain result. -/
theorem final_plain (c : Dev nD) : (dats m 0 c).arrAt 1 (cfgs 0).N = plain (m ((c : Thread nD τ).loc main_arg0)) := by
  refine (dats m 0 c).arrAt_eq_of_covers 1 _ (by decide +kernel) fun t _ y => ?_
  blk_simp
  rw [after0_1]
  frame_out
  pointwise [k0_pay1, plain]
  rw [Fin.sum_univ_eight]
  blk_point [iblk, V, where_at t]

end Cert.AddSmallIdeal.Product

end
-- ==== Proof.Forward.lean ====
/- What one grid point of the forward scan computes, at any float type: the loop over the 64 groups of eight rows of a
   512-row block, each group scanned from the row that the group before it ended with. -/
module

public import proofs.«01_k».proof.Proof.Gen.KernelIdeal.Loops
public import proofs.«01_k».proof.Proof.Gen.KernelIdeal.Points
public import Idealize.ShloMosaic.Lib.WritesUnit
public import Idealize.ShloMosaic.Lib.Pointwise
public import Idealize.ShloMosaic.Lib.Pipeline.FrameBody

@[expose] public section

set_option maxRecDepth 16384

noncomputable section

namespace Cert.KernelIdeal.Scan

open Idealize.ShloMosaic Idealize.ShloMosaic.TcCoe Idealize.ShloMosaic.Tactic
open Cert.KernelIdeal.Gen

variable {F : FTy → Type} [FloatOps F]

/-- The row numbers 0 … 7 of a group. -/
abbrev rowNo : IVec S8x1 32 := iota .tc S8x1 32 [0] iota_S8x1_d0_w32

/-- Rows `8k … 8k + 7` of a block. -/
def rows (k : ℕ) (x : Vec F S512x512 .f32) : Vec F S8x512 .f32 :=
  fun j => x (ix2 (⟨(8 * k + (j 0).val) % 512, Nat.mod_lt _ (by decide)⟩ : Fin 512) (j 1))

/-- One group scanned forward: the eight rows of the state, from the coefficients `a`, the inputs `u` and the state
    `h` before the group. -/
def group (a u : Vec F S8x512 .f32) (h : Vec F S1x512 .f32) : Vec F S8x512 .f32 :=
  k0_pay2 h (k0_pay6 rowNo a u) (k0_pay7 rowNo a) (k0_pay8 rowNo) 4#32

/-- Row `r` of a group, as a one-row array. -/
def pick (r : Fin 8) (g : Vec F S8x512 .f32) : Vec F S1x512 .f32 := fun j => g (ix2 r (j 1))

/-- The state before group `k` of a block. -/
def carry (a u : Vec F S512x512 .f32) (h : Vec F S1x512 .f32) : ℕ → Vec F S1x512 .f32
  | 0 => h
  | k + 1 => pick 7 (group (rows k a) (rows k u) (carry a u h k))

/-- The block of states one grid point leaves. -/
def block (a u : Vec F S512x512 .f32) (h : Vec F S1x512 .f32) : Vec F S512x512 .f32 :=
  fun y => group (rows ((y 0).val / 8) a) (rows ((y 0).val / 8) u) (carry a u h ((y 0).val / 8))
    (ix2 (⟨(y 0).val % 8, Nat.mod_lt _ (by decide)⟩ : Fin 8) (y 1))

theorem ld_rows0 (k : Fin k0_t1_loop.trips) (x : Vec F S512x512 .f32) :
    View.ld (Val := Elt F) (e' := .f32) x (Rect.unit (s := S512x512) (k0_off1 k) S8x512.size (k0_off1_inb k)) = rows k.val x := by
  have hk : k.val < 64 := Nat.lt_of_lt_of_le k.isLt k0_t1_abs.2.1
  funext j
  unfold rows View.ld
  congr 1
  funext a
  have hj : (j 0).val < 8 := (j 0).isLt
  refine Fin.ext ?_
  refine (congrArg (· + 1 * (j a).val) (congrFun (k0_off1_eq k) a)).trans ?_
  fin_cases a
  · show 8 * k.val + 1 * (j 0).val = (8 * k.val + (j 0).val) % 512
    rw [Nat.mod_eq_of_lt (by omega)]; omega
  · show 0 + 1 * (j 1).val = (j 1).val
    omega

section Loop

variable (𝒱 : Variants) (c : Dev nD) (bd : Option 𝒱.V) (i : grid0.Coords)
  (arg1 : Memref sig .tc .vmem S512x512 .f32) (harg1 : arg1.IsWhole) (arg2 : Memref sig .tc .vmem S512x512 .f32) (harg2 : arg2.IsWhole)
  (arg3 : Memref sig .tc .vmem S512x512 .f32) (harg3 : arg3.IsWhole) (arg4 : Memref sig .tc .vmem S1x512 .f32) (harg4 : arg4.IsWhole)
  (X1 : BufTy.Contents (Elt F) arg1.view.ty) (X2 : BufTy.Contents (Elt F) arg2.view.ty) (G3 : BufTy.Contents (Elt F) arg3.view.ty)
  (h : Vec F S1x512 .f32)

/-- What trip `k` stores: the group, at its eight rows. -/
theorem trip_pieces (k : Fin k0_t1_loop.trips) (acc : Vec F S1x512 .f32) (f) :
    tripL_k0_t1 𝒱 c bd i arg1 harg1 arg2 harg2 arg3 harg3 arg4 harg4 rowNo X1 X2 k acc f
      = [⟨Rect.unit (s := S512x512) (k0_off1 k) S8x512.size (k0_off1_inb k),
          group (rows k.val (arg1.view.read (Elt F) X1)) (rows k.val (arg2.view.read (Elt F) X2)) acc⟩] := by
  rw [← ld_rows0, ← ld_rows0]
  unfold tripL_k0_t1 trip_k0_t1
  rfl

/-- What trip `k` hands on: the last row of the group. -/
theorem trip_result (k : Fin k0_t1_loop.trips) (acc : Vec F S1x512 .f32) (f) :
    tripR_k0_t1 𝒱 c bd i arg1 harg1 arg2 harg2 arg3 harg3 arg4 harg4 rowNo X1 X2 k acc f
      = pick 7 (group (rows k.val (arg1.view.read (Elt F) X1)) (rows k.val (arg2.view.read (Elt F) X2)) acc) := by
  have e : tripR_k0_t1 𝒱 c bd i arg1 harg1 arg2 harg2 arg3 harg3 arg4 harg4 rowNo X1 X2 k acc f
      = k0_pay3 (arg3.view.readCov (tripL_k0_t1 𝒱 c bd i arg1 harg1 arg2 harg2 arg3 harg3 arg4 harg4 rowNo X1 X2 k acc f)
          (Rect.unit (s := S512x512) (k0_off2 k) S1x512.size (k0_off2_inb k)).toLoadRect) := by
    unfold tripL_k0_t1 tripR_k0_t1 trip_k0_t1
    rfl
  rw [e, trip_pieces]
  funext j
  have hj : (j 0).val < 1 := (j 0).isLt
  refine (show _ = arg3.view.read (Elt F) (arg3.view.writes (Elt F) arg3.view.junk _)
    ((Rect.unit (s := S512x512) (k0_off2 k) S1x512.size (k0_off2_inb k)).toLoadRect.idx j) from ?_).trans
    (View.read_writes_cons_rows_of_mem arg3.view _ (k0_off1_inb k) _ [] _ (ix2 (7 : Fin 8) (j 1)) (k0_off1_eq k) ?_ ?_)
  · unfold k0_pay3
    rw [shapeCast_self]; rfl
  · show (k0_off2 k) 0 + 1 * (j 0).val = _
    rw [k0_off2_eq]
    show 8 * k.val + 7 + 1 * (j 0).val = 8 * k.val + 7
    omega
  · show (k0_off2 k) 1 + 1 * (j 1).val = _
    rw [k0_off2_eq]
    show 0 + 1 * (j 1).val = (j 1).val
    omega

/-- The loop's state before trip `k`: the carried row, and the rows of the groups already stored. -/
theorem loop_state : ∀ k : ℕ, k ≤ 64 →
    (st_k0_t1 𝒱 c bd i arg1 harg1 arg2 harg2 arg3 harg3 arg4 harg4 rowNo X1 X2 G3 h k).1
        = carry (arg1.view.read (Elt F) X1) (arg2.view.read (Elt F) X2) h k
      ∧ ∀ y : S512x512.Idx, (y 0).val < 8 * k →
          arg3.view.read (Elt F) (arg3.view.writes (Elt F) G3
            (st_k0_t1 𝒱 c bd i arg1 harg1 arg2 harg2 arg3 harg3 arg4 harg4 rowNo X1 X2 G3 h k).2) y
          = block (arg1.view.read (Elt F) X1) (arg2.view.read (Elt F) X2) h y
  | 0, _ => ⟨rfl, fun y hy => absurd hy (by omega)⟩
  | k + 1, hk => by
    obtain ⟨h1, h2⟩ := loop_state k (by omega)
    have hk' : k < k0_t1_loop.trips := by
      have : k0_t1_loop.trips = 64 := by decide +kernel
      omega
    have e := st_k0_t1_succ 𝒱 c bd i arg1 harg1 arg2 harg2 arg3 harg3 arg4 harg4 rowNo X1 X2 G3 h ⟨k, hk'⟩
    simp only [] at e
    rw [e, trip_result, trip_pieces, h1]
    refine ⟨rfl, fun y hy => ?_⟩
    by_cases hlt : (y 0).val < 8 * k
    · rw [← h2 y hlt]
      exact View.read_writes_cons_rows_of_not_mem (W := 8) arg3.view _ (k0_off1_inb ⟨k, hk'⟩) _ _ y (k0_off1_eq ⟨k, hk'⟩) rfl (.inl hlt)
    · have hq : (y 0).val / 8 = k := by omega
      refine (View.read_writes_cons_rows_of_mem arg3.view _ (k0_off1_inb ⟨k, hk'⟩) _ _ y
        (ix2 (⟨(y 0).val % 8, Nat.mod_lt _ (by decide)⟩ : Fin 8) (y 1)) (k0_off1_eq ⟨k, hk'⟩) ?_ ?_).trans ?_
      · show (y 0).val = 8 * k + (y 0).val % 8
        omega
      · rfl
      · unfold block
        rw [hq]

/-- After the loop: the carried row, and the whole block. -/
theorem loop_end :
    (st_k0_t1 𝒱 c bd i arg1 harg1 arg2 harg2 arg3 harg3 arg4 harg4 rowNo X1 X2 G3 h 64).1
        = carry (arg1.view.read (Elt F) X1) (arg2.view.read (Elt F) X2) h 64
      ∧ arg3.view.read (Elt F) (arg3.view.writes (Elt F) G3
            (st_k0_t1 𝒱 c bd i arg1 harg1 arg2 harg2 arg3 harg3 arg4 harg4 rowNo X1 X2 G3 h 64).2)
          = block (arg1.view.read (Elt F) X1) (arg2.view.read (Elt F) X2) h :=
  ⟨(loop_state 𝒱 c bd i arg1 harg1 arg2 harg2 arg3 harg3 arg4 harg4 X1 X2 G3 h 64 le_rfl).1, funext fun y =>
    (loop_state 𝒱 c bd i arg1 harg1 arg2 harg2 arg3 harg3 arg4 harg4 X1 X2 G3 h 64 le_rfl).2 y (y 0).isLt⟩

end Loop

end Cert.KernelIdeal.Scan

end
-- ==== Proof.Backward.lean ====
/- What one grid point of the backward scan computes, at any float type: the loop over the 64 groups of eight rows of a
   512-row block, last group first, each scanned from the product that the group after it handed back. -/
module

public import proofs.«01_k».proof.Proof.Forward

@[expose] public section

set_option maxRecDepth 16384

noncomputable section

namespace Cert.KernelIdeal.Scan

open Idealize.ShloMosaic Idealize.ShloMosaic.TcCoe Idealize.ShloMosaic.Tactic
open Cert.KernelIdeal.Gen

variable {F : FTy → Type} [FloatOps F]

/-- One group scanned backward: the gradients of its eight inputs, from the coefficients `a`, the gradients `d` of the
    states and the product `r` handed back by the group after it. -/
def gradGroup (a d : Vec F S8x512 .f32) (r : Vec F S1x512 .f32) : Vec F S8x512 .f32 :=
  k1_pay11 rowNo r (k1_pay8 rowNo a d) (k1_pay9 rowNo a) (k1_pay10 rowNo a d)

/-- The state before group `q` of a block: the row above it, or `p`, the last state of the block before. -/
def stateBefore (h : Vec F S512x512 .f32) (p : Vec F S1x512 .f32) (q : ℕ) : Vec F S1x512 .f32 :=
  if q = 0 then p else fun j => h (ix2 (⟨(8 * q - 1) % 512, Nat.mod_lt _ (by decide)⟩ : Fin 512) (j 1))

/-- The gradients of the eight coefficients of a group: each gradient of an input times the state before it. -/
def coefGroup (g h : Vec F S8x512 .f32) (p : Vec F S1x512 .f32) : Vec F S8x512 .f32 :=
  k1_pay3 g p (k1_pay13 rowNo) (k1_pay14 (k1_pay6 h))

/-- What `k` groups, counted from the last of the block, hand back to the group before them. -/
def back (a d : Vec F S512x512 .f32) (r : Vec F S1x512 .f32) : ℕ → Vec F S1x512 .f32
  | 0 => r
  | k + 1 => k1_pay4 (pick 0 (rows (63 - k) a)) (pick 0 (gradGroup (rows (63 - k) a) (rows (63 - k) d) (back a d r k)))

/-- The gradients of group `q`'s inputs. -/
def gradAt (a d : Vec F S512x512 .f32) (r : Vec F S1x512 .f32) (q : ℕ) : Vec F S8x512 .f32 :=
  gradGroup (rows q a) (rows q d) (back a d r (63 - q))

/-- The block of input gradients one grid point leaves. -/
def gradBlock (a d : Vec F S512x512 .f32) (r : Vec F S1x512 .f32) : Vec F S512x512 .f32 :=
  fun y => gradAt a d r ((y 0).val / 8) (ix2 (⟨(y 0).val % 8, Nat.mod_lt _ (by decide)⟩ : Fin 8) (y 1))

/-- The block of coefficient gradients one grid point leaves. -/
def coefBlock (a h d : Vec F S512x512 .f32) (p r : Vec F S1x512 .f32) : Vec F S512x512 .f32 :=
  fun y => coefGroup (gradAt a d r ((y 0).val / 8)) (rows ((y 0).val / 8) h) (stateBefore h p ((y 0).val / 8))
    (ix2 (⟨(y 0).val % 8, Nat.mod_lt _ (by decide)⟩ : Fin 8) (y 1))

theorem back_off_eq : ∀ k : Fin k1_t1_loop.trips, k1_off2 k = ![504 - 8 * k.val - 1, 0] := by decide +kernel

theorem ld_rows1 (k : Fin k1_t1_loop.trips) (x : Vec F S512x512 .f32) :
    View.ld (Val := Elt F) (e' := .f32) x (Rect.unit (s := S512x512) (k1_off1 k) S8x512.size (k1_off1_inb k)) = rows (63 - k.val) x := by
  have hk : k.val < 64 := Nat.lt_of_lt_of_le k.isLt k1_t1_abs.2.1
  funext j
  unfold rows View.ld
  congr 1
  funext a
  have hj : (j 0).val < 8 := (j 0).isLt
  refine Fin.ext ?_
  refine (congrArg (· + 1 * (j a).val) (congrFun (k1_off1_eq k) a)).trans ?_
  fin_cases a
  · show 504 - 8 * k.val + 1 * (j 0).val = (8 * (63 - k.val) + (j 0).val) % 512
    rw [Nat.mod_eq_of_lt (by omega)]; omega
  · show 0 + 1 * (j 1).val = (j 1).val
    omega

theorem ld_first (k : Fin k1_t1_loop.trips) (x : Vec F S512x512 .f32) :
    View.ld (Val := Elt F) (e' := .f32) x (Rect.unit (s := S512x512) (k1_off3 k) S1x512.size (k1_off3_inb k))
      = pick 0 (rows (63 - k.val) x) := by
  have hk : k.val < 64 := Nat.lt_of_lt_of_le k.isLt k1_t1_abs.2.1
  funext j
  unfold pick rows View.ld
  congr 1
  funext a
  have hj : (j 0).val < 1 := (j 0).isLt
  refine Fin.ext ?_
  refine (congrArg (· + 1 * (j a).val) (congrFun (k1_off3_eq k) a)).trans ?_
  fin_cases a
  · show 504 - 8 * k.val + 1 * (j 0).val = (8 * (63 - k.val) + 0) % 512
    rw [Nat.mod_eq_of_lt (by omega)]; omega
  · show 0 + 1 * (j 1).val = (j 1).val
    omega

theorem first_group_iff : ∀ k : Fin k1_t1_loop.trips,
    (Scalar.cmpi .eq (Scalar.subi 63#32 (Scf.iv 0#32 1#32 k)) 0#32 = 1) ↔ k.val = 63 := by decide +kernel

theorem before_eq (k : Fin k1_t1_loop.trips) (p : Vec F S1x512 .f32) (x : Vec F S512x512 .f32) :
    k1_pay12 p (Scalar.subi 63#32 (Scf.iv 0#32 1#32 k))
      (View.ld (Val := Elt F) (e' := .f32) x (Rect.unit (s := S512x512) (k1_off2 k) S1x512.size (k1_off2_inb k)))
      = stateBefore x p (63 - k.val) := by
  have hk : k.val < 64 := Nat.lt_of_lt_of_le k.isLt k1_t1_abs.2.1
  unfold k1_pay12 stateBefore
  rw [shapeCast_self]
  by_cases h : k.val = 63
  · rw [if_pos (by omega)]
    show (if _ then _ else _) = _
    rw [if_pos ((first_group_iff k).2 h)]
  · rw [if_neg (by omega)]
    show (if _ then _ else _) = _
    rw [if_neg (fun e => h ((first_group_iff k).1 e))]
    funext j
    unfold View.ld
    congr 1
    funext a
    have hj : (j 0).val < 1 := (j 0).isLt
    refine Fin.ext ?_
    refine (congrArg (· + 1 * (j a).val) (congrFun (back_off_eq k) a)).trans ?_
    fin_cases a
    · show 504 - 8 * k.val - 1 + 1 * (j 0).val = (8 * (63 - k.val) - 1) % 512
      rw [Nat.mod_eq_of_lt (by omega)]; omega
    · show 0 + 1 * (j 1).val = (j 1).val
      omega

section Loop

variable (𝒱 : Variants) (c : Dev nD) (bd : Option 𝒱.V) (i : grid1.Coords)
  (arg1 : Memref sig .tc .vmem S512x512 .f32) (harg1 : arg1.IsWhole) (arg2 : Memref sig .tc .vmem S512x512 .f32) (harg2 : arg2.IsWhole)
  (arg3 : Memref sig .tc .vmem S8x512 .f32) (harg3 : arg3.IsWhole) (arg4 : Memref sig .tc .vmem S512x512 .f32) (harg4 : arg4.IsWhole)
  (arg5 : Memref sig .tc .vmem S512x512 .f32) (harg5 : arg5.IsWhole) (arg6 : Memref sig .tc .vmem S512x512 .f32) (harg6 : arg6.IsWhole)
  (arg7 : Memref sig .tc .vmem S1x512 .f32) (harg7 : arg7.IsWhole) (v5 : Vec F S1x512 .f32)
  (X1 : BufTy.Contents (Elt F) arg1.view.ty) (X2 : BufTy.Contents (Elt F) arg2.view.ty) (X4 : BufTy.Contents (Elt F) arg4.view.ty)
  (G5 : BufTy.Contents (Elt F) arg5.view.ty) (G6 : BufTy.Contents (Elt F) arg6.view.ty) (r : Vec F S1x512 .f32)

/-- What trip `k` stores in the two outputs. -/
theorem back_pieces (k : Fin k1_t1_loop.trips) (acc : Vec F S1x512 .f32) (f g) :
    tripL_k1_t1 𝒱 c bd i arg1 harg1 arg2 harg2 arg3 harg3 arg4 harg4 arg5 harg5 arg6 harg6 arg7 harg7 rowNo v5 X1 X2 X4 k acc f g
      = ([⟨Rect.unit (s := S512x512) (k1_off1 k) S8x512.size (k1_off1_inb k),
          coefGroup (gradGroup (rows (63 - k.val) (arg1.view.read (Elt F) X1)) (rows (63 - k.val) (arg4.view.read (Elt F) X4)) acc)
            (rows (63 - k.val) (arg2.view.read (Elt F) X2))
            (stateBefore (arg2.view.read (Elt F) X2) (k1_pay2 i v5) (63 - k.val))⟩],
         [⟨Rect.unit (s := S512x512) (k1_off1 k) S8x512.size (k1_off1_inb k),
          gradGroup (rows (63 - k.val) (arg1.view.read (Elt F) X1)) (rows (63 - k.val) (arg4.view.read (Elt F) X4)) acc⟩]) := by
  rw [← before_eq, ← ld_rows1, ← ld_rows1, ← ld_rows1]
  unfold tripL_k1_t1 trip_k1_t1
  rfl

/-- What trip `k` hands on. -/
theorem back_result (k : Fin k1_t1_loop.trips) (acc : Vec F S1x512 .f32) (f g) :
    tripR_k1_t1 𝒱 c bd i arg1 harg1 arg2 harg2 arg3 harg3 arg4 harg4 arg5 harg5 arg6 harg6 arg7 harg7 rowNo v5 X1 X2 X4 k acc f g
      = k1_pay4 (pick 0 (rows (63 - k.val) (arg1.view.read (Elt F) X1)))
          (pick 0 (gradGroup (rows (63 - k.val) (arg1.view.read (Elt F) X1)) (rows (63 - k.val) (arg4.view.read (Elt F) X4)) acc)) := by
  have e : tripR_k1_t1 𝒱 c bd i arg1 harg1 arg2 harg2 arg3 harg3 arg4 harg4 arg5 harg5 arg6 harg6 arg7 harg7 rowNo v5 X1 X2 X4 k acc f g
      = k1_pay4 (View.ld (Val := Elt F) (e' := .f32) (arg1.view.read (Elt F) X1) (Rect.unit (s := S512x512) (k1_off3 k) S1x512.size (k1_off3_inb k)))
          (arg6.view.readCov (tripL_k1_t1 𝒱 c bd i arg1 harg1 arg2 harg2 arg3 harg3 arg4 harg4 arg5 harg5 arg6 harg6 arg7 harg7 rowNo v5 X1 X2 X4 k acc f g).2
          (Rect.unit (s := S512x512) (k1_off3 k) S1x512.size (k1_off3_inb k)).toLoadRect) := by
    unfold tripL_k1_t1 tripR_k1_t1 trip_k1_t1
    rfl
  rw [e, back_pieces, ld_first]
  congr 1
  funext j
  have hj : (j 0).val < 1 := (j 0).isLt
  refine View.read_writes_cons_rows_of_mem arg6.view _ (k1_off1_inb k) _ [] _ (ix2 (0 : Fin 8) (j 1)) (k1_off1_eq k) ?_ ?_
  · refine (congrArg (· + 1 * (j 0).val) (congrFun (k1_off3_eq k) 0)).trans ?_
    show 504 - 8 * k.val + 1 * (j 0).val = 504 - 8 * k.val + 0
    omega
  · refine (congrArg (· + 1 * (j 1).val) (congrFun (k1_off3_eq k) 1)).trans ?_
    show 0 + 1 * (j 1).val = (j 1).val
    omega

/-- The loop's state before trip `k`: the carried row, and the rows of the groups already stored. -/
theorem back_state : ∀ k : ℕ, k ≤ 64 →
    (st_k1_t1 𝒱 c bd i arg1 harg1 arg2 harg2 arg3 harg3 arg4 harg4 arg5 harg5 arg6 harg6 arg7 harg7 rowNo v5 X1 X2 X4 G5 G6 r k).1
        = back (arg1.view.read (Elt F) X1) (arg4.view.read (Elt F) X4) r k
      ∧ ∀ y : S512x512.Idx, 512 - 8 * k ≤ (y 0).val →
          arg5.view.read (Elt F) (arg5.view.writes (Elt F) G5
            (st_k1_t1 𝒱 c bd i arg1 harg1 arg2 harg2 arg3 harg3 arg4 harg4 arg5 harg5 arg6 harg6 arg7 harg7 rowNo v5 X1 X2 X4 G5 G6 r k).2.1) y
          = coefBlock (arg1.view.read (Elt F) X1) (arg2.view.read (Elt F) X2) (arg4.view.read (Elt F) X4) (k1_pay2 i v5) r y
          ∧ arg6.view.read (Elt F) (arg6.view.writes (Elt F) G6
            (st_k1_t1 𝒱 c bd i arg1 harg1 arg2 harg2 arg3 harg3 arg4 harg4 arg5 harg5 arg6 harg6 arg7 harg7 rowNo v5 X1 X2 X4 G5 G6 r k).2.2) y
          = gradBlock (arg1.view.read (Elt F) X1) (arg4.view.read (Elt F) X4) r y
  | 0, _ => ⟨rfl, fun y hy => absurd (y 0).isLt (by
      have h512 : S512x512.size 0 = 512 := rfl
      omega)⟩
  | k + 1, hk => by
    obtain ⟨h1, h2⟩ := back_state k (by omega)
    have hk' : k < k1_t1_loop.trips := by
      have : k1_t1_loop.trips = 64 := by decide +kernel
      omega
    have e : st_k1_t1 𝒱 c bd i arg1 harg1 arg2 harg2 arg3 harg3 arg4 harg4 arg5 harg5 arg6 harg6 arg7 harg7 rowNo v5 X1 X2 X4 G5 G6 r (k + 1) = _ :=
      st_k1_t1_succ 𝒱 c bd i arg1 harg1 arg2 harg2 arg3 harg3 arg4 harg4 arg5 harg5 arg6 harg6 arg7 harg7 rowNo v5 X1 X2 X4 G5 G6 r ⟨k, hk'⟩
    rw [e, back_result, back_pieces]
    dsimp only [List.cons_append, List.nil_append]
    rw [h1]
    refine ⟨rfl, fun y hy => ?_⟩
    have hy512 : (y 0).val < 512 := (y 0).isLt
    by_cases hlt : 512 - 8 * k ≤ (y 0).val
    · rw [← (h2 y hlt).1, ← (h2 y hlt).2]
      have hd : 504 - 8 * k + 8 ≤ (y 0).val := by omega
      exact ⟨View.read_writes_cons_rows_of_not_mem (W := 8) arg5.view _ (k1_off1_inb ⟨k, hk'⟩) _ _ y (k1_off1_eq ⟨k, hk'⟩) rfl (.inr hd),
        View.read_writes_cons_rows_of_not_mem (W := 8) arg6.view _ (k1_off1_inb ⟨k, hk'⟩) _ _ y (k1_off1_eq ⟨k, hk'⟩) rfl (.inr hd)⟩
    · have hq : (y 0).val / 8 = 63 - k := by omega
      have hb : 63 - (63 - k) = k := by omega
      have h0 : (y 0).val = 504 - 8 * k + (y 0).val % 8 := by omega
      refine ⟨(View.read_writes_cons_rows_of_mem arg5.view _ (k1_off1_inb ⟨k, hk'⟩) _ _ y
        (ix2 (⟨(y 0).val % 8, Nat.mod_lt _ (by decide)⟩ : Fin 8) (y 1)) (k1_off1_eq ⟨k, hk'⟩) h0 rfl).trans ?_,
        (View.read_writes_cons_rows_of_mem arg6.view _ (k1_off1_inb ⟨k, hk'⟩) _ _ y
        (ix2 (⟨(y 0).val % 8, Nat.mod_lt _ (by decide)⟩ : Fin 8) (y 1)) (k1_off1_eq ⟨k, hk'⟩) h0 rfl).trans ?_⟩
      · unfold coefBlock gradAt
        rw [hq, hb]
      · unfold gradBlock gradAt
        rw [hq, hb]

/-- After the loop: the carried row, and the two whole blocks. -/
theorem back_end :
    (st_k1_t1 𝒱 c bd i arg1 harg1 arg2 harg2 arg3 harg3 arg4 harg4 arg5 harg5 arg6 harg6 arg7 harg7 rowNo v5 X1 X2 X4 G5 G6 r 64).1
        = back (arg1.view.read (Elt F) X1) (arg4.view.read (Elt F) X4) r 64
      ∧ arg5.view.read (Elt F) (arg5.view.writes (Elt F) G5
            (st_k1_t1 𝒱 c bd i arg1 harg1 arg2 harg2 arg3 harg3 arg4 harg4 arg5 harg5 arg6 harg6 arg7 harg7 rowNo v5 X1 X2 X4 G5 G6 r 64).2.1)
          = coefBlock (arg1.view.read (Elt F) X1) (arg2.view.read (Elt F) X2) (arg4.view.read (Elt F) X4) (k1_pay2 i v5) r
      ∧ arg6.view.read (Elt F) (arg6.view.writes (Elt F) G6
            (st_k1_t1 𝒱 c bd i arg1 harg1 arg2 harg2 arg3 harg3 arg4 harg4 arg5 harg5 arg6 harg6 arg7 harg7 rowNo v5 X1 X2 X4 G5 G6 r 64).2.2)
          = gradBlock (arg1.view.read (Elt F) X1) (arg4.view.read (Elt F) X4) r := by
  obtain ⟨h1, h2⟩ := back_state 𝒱 c bd i arg1 harg1 arg2 harg2 arg3 harg3 arg4 harg4 arg5 harg5 arg6 harg6 arg7 harg7 v5 X1 X2 X4 G5 G6 r 64 le_rfl
  exact ⟨h1, funext fun y => (h2 y (Nat.zero_le _)).1, funext fun y => (h2 y (Nat.zero_le _)).2⟩

end Loop

end Cert.KernelIdeal.Scan

end
-- ==== Proof.Bodies.lean ====
/- The two kernel bodies run once, at any float type: from whole staging buffers and the carried row to the blocks and
   the carried row of the next grid point. -/
module

public import proofs.«01_k».proof.Proof.Backward
public import Idealize.ShloMosaic.Lib.Tactic
public import Idealize.ShloMosaic.Lib.WordCmp
public import Idealize.ShloMosaic.Lib.Pipeline.Value

@[expose] public section

set_option maxRecDepth 16384

noncomputable section

namespace Cert.KernelIdeal.Scan

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal.Gen

variable {F : FTy → Type} [FloatOps F]

local notation "𝕄" => MT nD τ sig Unit (Elt F) ℕ (UR sig nD τ) ℕ

/-- Whether a grid point is the first. -/
abbrev atFirst (n : ℕ) : Prop := (Scalar.cmpi .ne (Scalar.extui (Scalar.cmpi .eq (BitVec.ofNat 32 n) 0#32)) 0#32) = 1#1

theorem trips0 : Scf.trips k0_t1_loop.lb k0_t1_loop.ub k0_t1_loop.st = 64 := by decide +kernel
theorem trips1 : Scf.trips k1_t1_loop.lb k1_t1_loop.ub k1_t1_loop.st = 64 := by decide +kernel

/-- A one-row buffer just written whole holds what was written. -/
theorem row_written (v : View sig .tc .vmem S1x512 .f32) (f : v.ty.Contents (Elt F)) (w : Vec F S1x512 .f32) (L) :
    v.read (Elt F) (v.writes (Elt F) f
      ((⟨Rect.unit (s := S1x512) ![0, 0] S1x512.size inb_S1x512_S1x512_0_0, w⟩ : View.Piece (Elt F) S1x512 .f32) :: L)) = w := by
  funext y
  refine View.read_writes_cons_rows_of_mem v f inb_S1x512_S1x512_0_0 w L y y rfl ?_ rfl
  show (y 0).val = 0 + (y 0).val
  omega

/-- So does a read of all of it. -/
theorem row_read (v : View sig .tc .vmem S1x512 .f32) (f : v.ty.Contents (Elt F)) :
    v.readAt (Elt F) (Rect.unit (s := S1x512) ![0, 0] S1x512.size inb_S1x512_S1x512_0_0) f = v.read (Elt F) f :=
  View.ld_unit_zero (by funext a; fin_cases a <;> rfl) inb_S1x512_S1x512_0_0 (v.read (Elt F) f)

theorem row_read_written (v : View sig .tc .vmem S1x512 .f32) (w : Vec F S1x512 .f32) (L) :
    v.readCov ((⟨Rect.unit (s := S1x512) ![0, 0] S1x512.size inb_S1x512_S1x512_0_0, w⟩ : View.Piece (Elt F) S1x512 .f32) :: L)
      (Rect.unit (s := S1x512) ![0, 0] S1x512.size inb_S1x512_S1x512_0_0).toLoadRect = w :=
  (row_read v _).trans (row_written v _ w L)

theorem pay4_eq (w : Vec F S1x512 .f32) : k0_pay4 w = w := by unfold k0_pay4; rw [shapeCast_self]
theorem pay5_eq (w : Vec F S1x512 .f32) : k1_pay5 w = w := by unfold k1_pay5; rw [shapeCast_self]

section Forward

variable (c : Dev nD) (i : grid0.Coords)
    (arg1 : Memref sig .tc .vmem S512x512 .f32) (harg1 : arg1.IsWhole) (arg2 : Memref sig .tc .vmem S512x512 .f32) (harg2 : arg2.IsWhole)
    (arg3 : Memref sig .tc .vmem S512x512 .f32) (harg3 : arg3.IsWhole) (arg4 : Memref sig .tc .vmem S1x512 .f32) (harg4 : arg4.IsWhole)

set_option maxHeartbeats 1000000 in
/-- The forward body at the first grid point: the state starts at zero. -/
theorem fwd_first
    (hc : atFirst (i 0).val) (x1 x2 : Vec F S512x512 .f32) (E : Set ℕ) (K : PUnit → sProp 𝕄) :
    iprop(owns (c : Thread nD τ) arg1 fullShare x1 ∗ owns (c : Thread nD τ) arg2 fullShare x2
        ∗ (∃ d, owns (c : Thread nD τ) arg3 fullShare d) ∗ (∃ d, owns (c : Thread nD τ) arg4 fullShare d)
        ∗ (iprop(owns (c : Thread nD τ) arg1 fullShare x1 ∗ owns (c : Thread nD τ) arg2 fullShare x2
            ∗ owns (c : Thread nD τ) arg3 fullShare (block x1 x2 (k0_pay1 (F := F)))
            ∗ owns (c : Thread nD τ) arg4 fullShare (carry x1 x2 (k0_pay1 (F := F)) 64)) -∗ K ⟨⟩))
      ⊢ wp frame (wpE (defs₀ (F := F)) Variants.none c none) E
          (cc0_lru_scan i arg1 harg1 arg2 harg2 arg3 harg3 arg4 harg4) K := by
  simp only [cc0_lru_scan_eq_skeleton]; unfold cc0_lru_scan_skel
  unfold owns
  iintro ⟨⟨%f1, %hf1, H1⟩, ⟨%f2, %hf2, H2⟩, ⟨%d3, %f3, -, H3⟩, ⟨%d4, %f4, -, H4⟩, Hk⟩
  sl_exec (disch := first | sl_exact hc)
  sl_step
  have hv4 : fwd_first.sl.v4 (F := F) c arg4 = k0_pay1 (F := F) := row_read_written arg4.view _ _
  iapply Hk
  isplitl [H1]
  · iexists _; isplitr; swap; · iexact H1
    ipureintro; exact hf1
  isplitl [H2]
  · iexists _; isplitr; swap; · iexact H2
    ipureintro; exact hf2
  isplitl [H3]
  · iexists _; isplitr; swap; · iexact H3
    ipureintro
    rw [trips0, hv4, ← hf1, ← hf2]
    exact (loop_end Variants.none c none i arg1 harg1 arg2 harg2 arg3 harg3 arg4 harg4 f1 f2 f3 _).2
  · iexists _; isplitr; swap; · iexact H4
    ipureintro
    rw [row_written, pay4_eq, trips0, hv4, ← hf1, ← hf2]
    exact (loop_end Variants.none c none i arg1 harg1 arg2 harg2 arg3 harg3 arg4 harg4 f1 f2 f3 _).1

set_option maxHeartbeats 1000000 in
/-- The forward body at a later grid point: the state goes on from the carried row. -/
theorem fwd_next
    (hc : ¬ atFirst (i 0).val) (x1 x2 : Vec F S512x512 .f32) (h : Vec F S1x512 .f32) (E : Set ℕ) (K : PUnit → sProp 𝕄) :
    iprop(owns (c : Thread nD τ) arg1 fullShare x1 ∗ owns (c : Thread nD τ) arg2 fullShare x2
        ∗ (∃ d, owns (c : Thread nD τ) arg3 fullShare d) ∗ owns (c : Thread nD τ) arg4 fullShare h
        ∗ (iprop(owns (c : Thread nD τ) arg1 fullShare x1 ∗ owns (c : Thread nD τ) arg2 fullShare x2
            ∗ owns (c : Thread nD τ) arg3 fullShare (block x1 x2 h)
            ∗ owns (c : Thread nD τ) arg4 fullShare (carry x1 x2 h 64)) -∗ K ⟨⟩))
      ⊢ wp frame (wpE (defs₀ (F := F)) Variants.none c none) E
          (cc0_lru_scan i arg1 harg1 arg2 harg2 arg3 harg3 arg4 harg4) K := by
  simp only [cc0_lru_scan_eq_skeleton]; unfold cc0_lru_scan_skel
  unfold owns
  iintro ⟨⟨%f1, %hf1, H1⟩, ⟨%f2, %hf2, H2⟩, ⟨%d3, %f3, -, H3⟩, ⟨%f4, %hf4, H4⟩, Hk⟩
  sl_exec (disch := first | sl_exact hc)
  sl_step
  iapply Hk
  isplitl [H1]
  · iexists _; isplitr; swap; · iexact H1
    ipureintro; exact hf1
  isplitl [H2]
  · iexists _; isplitr; swap; · iexact H2
    ipureintro; exact hf2
  isplitl [H3]
  · iexists _; isplitr; swap; · iexact H3
    ipureintro
    rw [trips0, row_read, ← hf1, ← hf2, ← hf4]
    exact (loop_end Variants.none c none i arg1 harg1 arg2 harg2 arg3 harg3 arg4 harg4 f1 f2 f3 _).2
  · iexists _; isplitr; swap; · iexact H4
    ipureintro
    rw [row_written, pay4_eq, trips0, row_read, ← hf1, ← hf2, ← hf4]
    exact (loop_end Variants.none c none i arg1 harg1 arg2 harg2 arg3 harg3 arg4 harg4 f1 f2 f3 _).1

end Forward

/-- The last row of the eight rows of states handed to the backward body. -/
def lastRow (x : Vec F S8x512 .f32) : Vec F S1x512 .f32 := pick 7 x

theorem last_read (x : Vec F S8x512 .f32) :
    View.ld (Val := Elt F) (e' := .f32) x (Rect.unit (s := S8x512) ![7, 0] S1x512.size inb_S8x512_S1x512_7_0) = lastRow x := by
  funext j
  unfold lastRow pick View.ld
  congr 1
  funext a
  have hj : (j 0).val < 1 := (j 0).isLt
  refine Fin.ext ?_
  fin_cases a
  · show 7 + 1 * (j 0).val = 7
    omega
  · show 0 + 1 * (j 1).val = (j 1).val
    omega

section Back

variable (c : Dev nD) (i : grid1.Coords)
  (arg1 : Memref sig .tc .vmem S512x512 .f32) (harg1 : arg1.IsWhole) (arg2 : Memref sig .tc .vmem S512x512 .f32) (harg2 : arg2.IsWhole)
  (arg3 : Memref sig .tc .vmem S8x512 .f32) (harg3 : arg3.IsWhole) (arg4 : Memref sig .tc .vmem S512x512 .f32) (harg4 : arg4.IsWhole)
  (arg5 : Memref sig .tc .vmem S512x512 .f32) (harg5 : arg5.IsWhole) (arg6 : Memref sig .tc .vmem S512x512 .f32) (harg6 : arg6.IsWhole)
  (arg7 : Memref sig .tc .vmem S1x512 .f32) (harg7 : arg7.IsWhole)

set_option maxHeartbeats 1000000 in
/-- The backward body at the first grid point: nothing is handed back to the last block. -/
theorem bwd_first
    (hc : atFirst (i 0).val) (x1 x2 : Vec F S512x512 .f32) (x3 : Vec F S8x512 .f32) (x4 : Vec F S512x512 .f32) (E : Set ℕ) (K : PUnit → sProp 𝕄) :
    iprop(owns (c : Thread nD τ) arg1 fullShare x1 ∗ owns (c : Thread nD τ) arg2 fullShare x2
        ∗ owns (c : Thread nD τ) arg3 fullShare x3 ∗ owns (c : Thread nD τ) arg4 fullShare x4
        ∗ (∃ d, owns (c : Thread nD τ) arg5 fullShare d) ∗ (∃ d, owns (c : Thread nD τ) arg6 fullShare d)
        ∗ (∃ d, owns (c : Thread nD τ) arg7 fullShare d)
        ∗ (iprop(owns (c : Thread nD τ) arg1 fullShare x1 ∗ owns (c : Thread nD τ) arg2 fullShare x2
            ∗ owns (c : Thread nD τ) arg3 fullShare x3 ∗ owns (c : Thread nD τ) arg4 fullShare x4
            ∗ owns (c : Thread nD τ) arg5 fullShare (coefBlock x1 x2 x4 (k1_pay2 i (lastRow x3)) (k1_pay1 (F := F)))
            ∗ owns (c : Thread nD τ) arg6 fullShare (gradBlock x1 x4 (k1_pay1 (F := F)))
            ∗ owns (c : Thread nD τ) arg7 fullShare (back x1 x4 (k1_pay1 (F := F)) 64)) -∗ K ⟨⟩))
      ⊢ wp frame (wpE (defs₀ (F := F)) Variants.none c none) E
          (cc1_b_lru_scan i arg1 harg1 arg2 harg2 arg3 harg3 arg4 harg4 arg5 harg5 arg6 harg6 arg7 harg7) K := by
  simp only [cc1_b_lru_scan_eq_skeleton]; unfold cc1_b_lru_scan_skel
  unfold owns
  iintro ⟨⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, Hk⟩
  sl_exec (disch := first | sl_exact hc)
  sl_step
  have hv9 : bwd_first.sl.v9 (F := F) c arg7 = k1_pay1 (F := F) := row_read_written arg7.view _ _
  have hl : arg3.view.readAt (Elt F) (Rect.unit (s := S8x512) ![7, 0] S1x512.size inb_S8x512_S1x512_7_0) f3 = lastRow x3 :=
    hf3 ▸ last_read (arg3.view.read (Elt F) f3)
  have he := back_end Variants.none c none i arg1 harg1 arg2 harg2 arg3 harg3 arg4 harg4 arg5 harg5 arg6 harg6 arg7 harg7 (lastRow x3) f1 f2 f4 f5 f6 (k1_pay1 (F := F))
  rw [hf1, hf2, hf4] at he
  iapply Hk
  isplitl [H1]
  · iexists _; isplitr; swap; · iexact H1
    ipureintro; exact hf1
  isplitl [H2]
  · iexists _; isplitr; swap; · iexact H2
    ipureintro; exact hf2
  isplitl [H3]
  · iexists _; isplitr; swap; · iexact H3
    ipureintro; exact hf3
  isplitl [H4]
  · iexists _; isplitr; swap; · iexact H4
    ipureintro; exact hf4
  isplitl [H5]
  · iexists _; isplitr; swap; · iexact H5
    ipureintro
    rw [trips1, hv9, hl]
    exact he.2.1
  isplitl [H6]
  · iexists _; isplitr; swap; · iexact H6
    ipureintro
    rw [trips1, hv9, hl]
    exact he.2.2
  · iexists _; isplitr; swap; · iexact H7
    ipureintro
    rw [row_written, pay5_eq, trips1, hv9, hl]
    exact he.1

set_option maxHeartbeats 1000000 in
/-- The backward body at a later grid point: the gradient goes on from the carried row. -/
theorem bwd_next
    (hc : ¬ atFirst (i 0).val) (x1 x2 : Vec F S512x512 .f32) (x3 : Vec F S8x512 .f32) (x4 : Vec F S512x512 .f32) (r : Vec F S1x512 .f32)
    (E : Set ℕ) (K : PUnit → sProp 𝕄) :
    iprop(owns (c : Thread nD τ) arg1 fullShare x1 ∗ owns (c : Thread nD τ) arg2 fullShare x2
        ∗ owns (c : Thread nD τ) arg3 fullShare x3 ∗ owns (c : Thread nD τ) arg4 fullShare x4
        ∗ (∃ d, owns (c : Thread nD τ) arg5 fullShare d) ∗ (∃ d, owns (c : Thread nD τ) arg6 fullShare d)
        ∗ owns (c : Thread nD τ) arg7 fullShare r
        ∗ (iprop(owns (c : Thread nD τ) arg1 fullShare x1 ∗ owns (c : Thread nD τ) arg2 fullShare x2
            ∗ owns (c : Thread nD τ) arg3 fullShare x3 ∗ owns (c : Thread nD τ) arg4 fullShare x4
            ∗ owns (c : Thread nD τ) arg5 fullShare (coefBlock x1 x2 x4 (k1_pay2 i (lastRow x3)) r)
            ∗ owns (c : Thread nD τ) arg6 fullShare (gradBlock x1 x4 r)
            ∗ owns (c : Thread nD τ) arg7 fullShare (back x1 x4 r 64)) -∗ K ⟨⟩))
      ⊢ wp frame (wpE (defs₀ (F := F)) Variants.none c none) E
          (cc1_b_lru_scan i arg1 harg1 arg2 harg2 arg3 harg3 arg4 harg4 arg5 harg5 arg6 harg6 arg7 harg7) K := by
  simp only [cc1_b_lru_scan_eq_skeleton]; unfold cc1_b_lru_scan_skel
  unfold owns
  iintro ⟨⟨%f1, %hf1, H1⟩, ⟨%f2, %hf2, H2⟩, ⟨%f3, %hf3, H3⟩, ⟨%f4, %hf4, H4⟩, ⟨%d5, %f5, -, H5⟩, ⟨%d6, %f6, -, H6⟩, ⟨%f7, %hf7, H7⟩, Hk⟩
  sl_exec (disch := first | sl_exact hc)
  sl_step
  have hl : arg3.view.readAt (Elt F) (Rect.unit (s := S8x512) ![7, 0] S1x512.size inb_S8x512_S1x512_7_0) f3 = lastRow x3 :=
    hf3 ▸ last_read (arg3.view.read (Elt F) f3)
  have he := back_end Variants.none c none i arg1 harg1 arg2 harg2 arg3 harg3 arg4 harg4 arg5 harg5 arg6 harg6 arg7 harg7 (lastRow x3) f1 f2 f4 f5 f6 r
  rw [hf1, hf2, hf4] at he
  iapply Hk
  isplitl [H1]
  · iexists _; isplitr; swap; · iexact H1
    ipureintro; exact hf1
  isplitl [H2]
  · iexists _; isplitr; swap; · iexact H2
    ipureintro; exact hf2
  isplitl [H3]
  · iexists _; isplitr; swap; · iexact H3
    ipureintro; exact hf3
  isplitl [H4]
  · iexists _; isplitr; swap; · iexact H4
    ipureintro; exact hf4
  isplitl [H5]
  · iexists _; isplitr; swap; · iexact H5
    ipureintro
    rw [trips1, row_read, hf7, hl]
    exact he.2.1
  isplitl [H6]
  · iexists _; isplitr; swap; · iexact H6
    ipureintro
    rw [trips1, row_read, hf7, hl]
    exact he.2.2
  · iexists _; isplitr; swap; · iexact H7
    ipureintro
    rw [row_written, pay5_eq, trips1, row_read, hf7, hl]
    exact he.1

end Back

end Cert.KernelIdeal.Scan

end
-- ==== Proof.Tiles.lean ====
/- What the two calls compute over a whole array, block by block: the tiles of an array, the row carried from block to
   block, and the array that a family of blocks makes up. -/
module

public import proofs.«01_k».proof.Proof.Bodies
public import proofs.«01_k».proof.Proof.Gen.KernelIdeal.Launch
public import Idealize.ShloMosaic.Lib.Pipeline.ValueKit

@[expose] public section

set_option maxRecDepth 16384

noncomputable section

namespace Cert.KernelIdeal.Scan

open Idealize.ShloMosaic Idealize.ShloMosaic.TcCoe Idealize.ShloMosaic.Tactic
open Cert.KernelIdeal.Gen

variable {F : FTy → Type} [FloatOps F]

/-- Block `n` of 512 rows. -/
def tile (x : Vec F S8192x512 .f32) (n : ℕ) : Vec F S512x512 .f32 :=
  fun y => x (ix2 (⟨(n * 512 + (y 0).val) % 8192, Nat.mod_lt _ (by decide)⟩ : Fin 8192) (⟨(y 1).val, (y 1).isLt⟩ : Fin 512))

/-- Block `n` of eight rows. -/
def eight (x : Vec F S8192x512 .f32) (n : ℕ) : Vec F S8x512 .f32 :=
  fun y => x (ix2 (⟨(n * 8 + (y 0).val) % 8192, Nat.mod_lt _ (by decide)⟩ : Fin 8192) (⟨(y 1).val, (y 1).isLt⟩ : Fin 512))

/-- The array whose block `n` of 512 rows is `B n`. -/
def stacked (B : ℕ → Vec F S512x512 .f32) : Vec F S8192x512 .f32 :=
  fun j => B ((j 0).val / 512) (ix2 (⟨(j 0).val % 512, Nat.mod_lt _ (by decide)⟩ : Fin 512) (⟨(j 1).val, (j 1).isLt⟩ : Fin 512))

/-- The state before block `n`: zero, then what each block hands on. -/
def stateAt (a u : Vec F S8192x512 .f32) : ℕ → Vec F S1x512 .f32
  | 0 => k0_pay1
  | n + 1 => carry (tile a n) (tile u n) (stateAt a u n) 64

/-- What block `n` leaves of the states. -/
def stateBlock (a u : Vec F S8192x512 .f32) (n : ℕ) : Vec F S512x512 .f32 := block (tile a n) (tile u n) (stateAt a u n)

/-- All the states. -/
def states (a u : Vec F S8192x512 .f32) : Vec F S8192x512 .f32 := stacked (stateBlock a u)

/-- The row handed back before grid point `n`, which works on block `15 - n`. -/
def handed (a d : Vec F S8192x512 .f32) : ℕ → Vec F S1x512 .f32
  | 0 => k1_pay1
  | n + 1 => back (tile a (15 - n)) (tile d (15 - n)) (handed a d n) 64

/-- The eight rows that hold the state before block `n`. -/
def before (h : Vec F S8192x512 .f32) (n : ℕ) : Vec F S8x512 .f32 := eight h (n * 64 - 1)

/-- The state before the block of grid point `i`: zero before the first block. -/
def stateIn (h : Vec F S8192x512 .f32) (i : grid1.Coords) : Vec F S1x512 .f32 := k1_pay2 i (lastRow (before h (15 - (i 0).val)))

/-- The gradient of the inputs, block `n`. -/
def inputGradBlock (a d : Vec F S8192x512 .f32) (n : ℕ) : Vec F S512x512 .f32 := gradBlock (tile a n) (tile d n) (handed a d (15 - n))

theorem idx0 : (∀ t : Fin grid0.N, win0_0.index t = ![t.val, 0]) ∧ (∀ t : Fin grid0.N, win0_1.index t = ![t.val, 0])
    ∧ (∀ t : Fin grid0.N, win0_2.index t = ![t.val, 0]) := by decide +kernel

theorem idx1 : (∀ t : Fin grid1.N, win1_0.index t = ![15 - t.val, 0]) ∧ (∀ t : Fin grid1.N, win1_1.index t = ![15 - t.val, 0])
    ∧ (∀ t : Fin grid1.N, win1_2.index t = ![(15 - t.val) * 64 - 1, 0]) ∧ (∀ t : Fin grid1.N, win1_3.index t = ![15 - t.val, 0])
    ∧ (∀ t : Fin grid1.N, win1_4.index t = ![15 - t.val, 0]) ∧ (∀ t : Fin grid1.N, win1_5.index t = ![15 - t.val, 0]) := by decide +kernel

theorem read0_0 (x : Vec F S8192x512 .f32) (t : Fin cfg0.N) : ((cfg0.win 0).blk t).view.read (Elt F) x = tile x t.val := by
  have hN : t.val < 16 := lt_of_lt_of_eq t.isLt N_0
  funext y
  unfold tile
  blk_ext [idx0.1]
theorem read0_1 (x : Vec F S8192x512 .f32) (t : Fin cfg0.N) : ((cfg0.win 1).blk t).view.read (Elt F) x = tile x t.val := by
  have hN : t.val < 16 := lt_of_lt_of_eq t.isLt N_0
  funext y
  unfold tile
  blk_ext [idx0.2.1]
theorem read1_0 (x : Vec F S8192x512 .f32) (t : Fin cfg1.N) : ((cfg1.win 0).blk t).view.read (Elt F) x = tile x (15 - t.val) := by
  have hN : t.val < 16 := lt_of_lt_of_eq t.isLt N_1
  funext y
  unfold tile
  blk_ext [idx1.1]
theorem read1_1 (x : Vec F S8192x512 .f32) (t : Fin cfg1.N) : ((cfg1.win 1).blk t).view.read (Elt F) x = tile x (15 - t.val) := by
  have hN : t.val < 16 := lt_of_lt_of_eq t.isLt N_1
  funext y
  unfold tile
  blk_ext [idx1.2.1]
theorem read1_2 (x : Vec F S8192x512 .f32) (t : Fin cfg1.N) : ((cfg1.win 2).blk t).view.read (Elt F) x = before x (15 - t.val) := by
  have hN : t.val < 16 := lt_of_lt_of_eq t.isLt N_1
  funext y
  unfold before eight
  blk_ext [idx1.2.2.1]
theorem read1_3 (x : Vec F S8192x512 .f32) (t : Fin cfg1.N) : ((cfg1.win 3).blk t).view.read (Elt F) x = tile x (15 - t.val) := by
  have hN : t.val < 16 := lt_of_lt_of_eq t.isLt N_1
  funext y
  unfold tile
  blk_ext [idx1.2.2.2.1]

end Cert.KernelIdeal.Scan

end
-- ==== Proof.Data.lean ====
/- What each call's staging buffers and its carried row hold from grid point to grid point, and that its body keeps it so. -/
module

public import proofs.«01_k».proof.Proof.Tiles
public import proofs.«01_k».proof.Proof.Gen.KernelIdeal.Points
public import Idealize.ShloMosaic.Lib.Pipeline.FrameBody

@[expose] public section

set_option maxRecDepth 16384

noncomputable section

namespace Cert.KernelIdeal.Scan

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)
open Cert.KernelIdeal.Gen

variable {F : FTy → Type} [FloatOps F]

local notation "𝕄" => MT nD τ sig Unit (Elt F) ℕ (UR sig nD τ) ℕ

variable (V : Valuation τ sig (Elt F)) (c : Dev nD)

/-- An array of 8192 rows as a valuation has it. -/
abbrev arr (r : Ref sig .tc) : Buf (Elt F) ((c : Thread nD τ).loc r) := V (Proc.devRef .tc r)

/-- A scoped buffer of this core, whole, at some contents. -/
abbrev some (r : Ref sig .tc) : sProp 𝕄 := iprop(∃ f : Buf (Elt F) ((c : Thread nD τ).loc r), ((c : Thread nD τ).loc r) ↦{fullShare} f)

/-- The scoped buffers the forward call does not touch. -/
def rest0 : sProp 𝕄 := iprop(some c cc1_stg0_0 ∗ some c cc1_stg0_1 ∗ some c cc1_stg1_0 ∗ some c cc1_stg1_1 ∗ some c cc1_stg2_0
  ∗ some c cc1_stg2_1 ∗ some c cc1_stg3_0 ∗ some c cc1_stg3_1 ∗ some c cc1_stg4_0 ∗ some c cc1_stg4_1 ∗ some c cc1_stg5_0
  ∗ some c cc1_stg5_1 ∗ some c cc1_scratch0)

/-- The scoped buffers the backward call does not touch. -/
def rest1 : sProp 𝕄 := iprop(some c cc0_stg0_0 ∗ some c cc0_stg0_1 ∗ some c cc0_stg1_0 ∗ some c cc0_stg1_1 ∗ some c cc0_stg2_0
  ∗ some c cc0_stg2_1 ∗ some c cc0_scratch0)

/-- The forward call's carried row before grid point `n`: anything before the first, else the state so far. -/
def inv0 (n : ℕ) : sProp 𝕄 := iprop((∃ d, ⌜n ≠ 0 → d = stateAt (arr V c main_arg0) (arr V c main_arg1) n⌝
  ∗ owns (c : Thread nD τ) (Memref.whole cc0_scratch0) fullShare d) ∗ rest0 c)

/-- The backward call's carried row before grid point `n`. -/
def inv1 (n : ℕ) : sProp 𝕄 := iprop((∃ d, ⌜n ≠ 0 → d = handed (arr V c main_arg0) (arr V c main_arg2) n⌝
  ∗ owns (c : Thread nD τ) (Memref.whole cc1_scratch0) fullShare d) ∗ rest1 c)

/-- The forward call: inputs stay, the output holds the block of states. -/
def dat0 : Dat τ (Elt F) Unit ℕ (UR sig nD τ) ℕ cfg0 c where
  A w := V (Proc.devRef .tc (Pipeline.arrRef spec0 w))
  after w t := match w with
    | ⟨0, _⟩ => tile (arr V c main_arg0) t.val
    | ⟨1, _⟩ => tile (arr V c main_arg1) t.val
    | ⟨2, _⟩ => stateBlock (arr V c main_arg0) (arr V c main_arg1) t.val
  Φ t := inv0 V c t.val
  q w := Pipeline.shareOf spec0 w
  owed _ := 0

/-- The two gradients' blocks at grid point `t` of the backward call. -/
def coefAt (a h d : Vec F S8192x512 .f32) (t : Fin grid1.N) : Vec F S512x512 .f32 :=
  coefBlock (tile a (15 - t.val)) (tile h (15 - t.val)) (tile d (15 - t.val)) (k1_pay2 (grid1.coords t) (lastRow (before h (15 - t.val)))) (handed a d t.val)
def inputAt (a d : Vec F S8192x512 .f32) (n : ℕ) : Vec F S512x512 .f32 :=
  gradBlock (tile a (15 - n)) (tile d (15 - n)) (handed a d n)

/-- The backward call: inputs stay, the outputs hold the two gradients' blocks. The states are read through two windows, each
    with its part of the array's share. -/
def dat1 : Dat τ (Elt F) Unit ℕ (UR sig nD τ) ℕ cfg1 c where
  A w := V (Proc.devRef .tc (Pipeline.arrRef spec1 w))
  after w t := match w with
    | ⟨0, _⟩ => tile (arr V c main_arg0) (15 - t.val)
    | ⟨1, _⟩ => tile (arr V c main_v0) (15 - t.val)
    | ⟨2, _⟩ => before (arr V c main_v0) (15 - t.val)
    | ⟨3, _⟩ => tile (arr V c main_arg2) (15 - t.val)
    | ⟨4, _⟩ => coefAt (arr V c main_arg0) (arr V c main_v0) (arr V c main_arg2) t
    | ⟨5, _⟩ => inputAt (arr V c main_arg0) (arr V c main_arg2) t.val
  Φ t := inv1 V c t.val
  q w := Pipeline.shareOf spec1 w
  owed _ := 0

/-! ## The forward call's body -/

theorem before0_0 (t : Fin cfg0.N) (d) : (dat0 V c).before 0 t d = tile (arr V c main_arg0) t.val := by
  unfold Dat.before
  rw [if_pos (fetch0_0 t)]
  exact read0_0 (F := F) _ t
theorem before0_1 (t : Fin cfg0.N) (d) : (dat0 V c).before 1 t d = tile (arr V c main_arg1) t.val := by
  unfold Dat.before
  rw [if_pos (fetch0_1 t)]
  exact read0_1 (F := F) _ t

theorem after0_0 (t : Fin cfg0.N) : (dat0 V c).after 0 t = tile (arr V c main_arg0) t.val := by dsimp only [dat0]
theorem after0_1 (t : Fin cfg0.N) : (dat0 V c).after 1 t = tile (arr V c main_arg1) t.val := by dsimp only [dat0]
theorem after0_2 (t : Fin cfg0.N) : (dat0 V c).after 2 t = stateBlock (arr V c main_arg0) (arr V c main_arg1) t.val := by dsimp only [dat0]

theorem first0 : ∀ t : Fin cfg0.N, atFirst (grid0.coords t 0).val ↔ t.val = 0 :=
  (by decide +kernel : ∀ t : Fin grid0.N, atFirst (grid0.coords t 0).val ↔ t.val = 0)
theorem first1 : ∀ t : Fin cfg1.N, atFirst (grid1.coords t 0).val ↔ t.val = 0 :=
  (by decide +kernel : ∀ t : Fin grid1.N, atFirst (grid1.coords t 0).val ↔ t.val = 0)

/-- The forward body's precondition at grid point `t`, window by window, -/
def pre0 (t : Fin cfg0.N) : sProp 𝕄 :=
  iprop(inv0 V c t.val ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and its postcondition. -/
def post0 (t : Fin cfg0.N) : sProp 𝕄 :=
  iprop(inv0 V c (t.val + 1) ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

theorem sound0 (t : Fin cfg0.N) :
    pre0 V c t ⊢ wp frame (wpE (defs₀ (F := F)) Variants.none c none) Set.univ (bodyAt0 t) (fun _ => post0 V c t) := by
  unfold pre0 post0 bodyAt0 inv0
  simp only [before0_0, before0_1]
  rw [after0_0, after0_1, after0_2, show (dat0 V c).owesAt () t.succ = (dat0 V c).owesAt () t.castSucc from rfl]
  iintro ⟨⟨⟨%s, %hs, HS⟩, HR⟩, Ho, ⟨%d0, H0⟩, ⟨%d1, H1⟩, ⟨%d2, H2⟩⟩
  by_cases h : t.val = 0
  · have hb : block (tile (arr V c main_arg0) t.val) (tile (arr V c main_arg1) t.val) (k0_pay1 (F := F))
        = stateBlock (arr V c main_arg0) (arr V c main_arg1) t.val := by rw [h]; rfl
    have hn : carry (tile (arr V c main_arg0) t.val) (tile (arr V c main_arg1) t.val) (k0_pay1 (F := F)) 64
        = stateAt (arr V c main_arg0) (arr V c main_arg1) (t.val + 1) := by rw [h]; rfl
    iapply (fwd_first c (grid0.coords t) _ _ _ _ _ _ _ _ ((first0 t).mpr h) (tile (arr V c main_arg0) t.val) (tile (arr V c main_arg1) t.val) Set.univ _)
    rw [hb, hn]
    isplitl [H0]; · iexact H0
    isplitl [H1]; · iexact H1
    isplitl [H2]; · iexists _; iexact H2
    isplitl [HS]; · iexists _; iexact HS
    iintro ⟨H0, H1, H2, HS⟩
    isplitl [HS HR]
    · isplitl [HS]
      · iexists _; isplitr; swap; · iexact HS
        ipureintro; exact fun _ => rfl
      iexact HR
    isplitl [Ho]; · iexact Ho
    isplitl [H0]; · iexact H0
    isplitl [H1]; · iexact H1
    iexact H2
  · have hs := hs h
    iapply (fwd_next c (grid0.coords t) _ _ _ _ _ _ _ _ (fun e => h ((first0 t).mp e)) (tile (arr V c main_arg0) t.val) (tile (arr V c main_arg1) t.val) s Set.univ _)
    rw [hs]
    isplitl [H0]; · iexact H0
    isplitl [H1]; · iexact H1
    isplitl [H2]; · iexists _; iexact H2
    isplitl [HS]; · iexact HS
    iintro ⟨H0, H1, H2, HS⟩
    isplitl [HS HR]
    · isplitl [HS]
      · iexists _; isplitr; swap; · iexact HS
        ipureintro; exact fun _ => rfl
      iexact HR
    isplitl [Ho]; · iexact Ho
    isplitl [H0]; · iexact H0
    isplitl [H1]; · iexact H1
    iexact H2

theorem defs₀_row0 (t : Fin cfg0.N) : defs₀ (F := F) .tc cfg0.body (cfg0.bodyArgs t (cfg0.slots t)) = bodyAt0 t := by
  unfold defs₀; rw [Defs.onTc_tc]

/-- The forward body keeps what is stated of its buffers. -/
theorem body0 : BodyObligation (dat0 V c) (defs₀ (F := F)) Variants.none () Set.univ := fun t => by
  rw [bigSep_W0, bigSep_W0, defs₀_row0]
  exact triple_restated (sound0 V c t) rfl .rfl fun _ => .rfl

/-! ## The backward call's body -/

theorem before1_0 (t : Fin cfg1.N) (d) : (dat1 V c).before 0 t d = tile (arr V c main_arg0) (15 - t.val) := by
  unfold Dat.before
  rw [if_pos (fetch1_0 t)]
  exact read1_0 (F := F) _ t
theorem before1_1 (t : Fin cfg1.N) (d) : (dat1 V c).before 1 t d = tile (arr V c main_v0) (15 - t.val) := by
  unfold Dat.before
  rw [if_pos (fetch1_1 t)]
  exact read1_1 (F := F) _ t
theorem before1_2 (t : Fin cfg1.N) (d) : (dat1 V c).before 2 t d = before (arr V c main_v0) (15 - t.val) := by
  unfold Dat.before
  rw [if_pos (fetch1_2 t)]
  exact read1_2 (F := F) _ t
theorem before1_3 (t : Fin cfg1.N) (d) : (dat1 V c).before 3 t d = tile (arr V c main_arg2) (15 - t.val) := by
  unfold Dat.before
  rw [if_pos (fetch1_3 t)]
  exact read1_3 (F := F) _ t

theorem after1_0 (t : Fin cfg1.N) : (dat1 V c).after 0 t = tile (arr V c main_arg0) (15 - t.val) := by dsimp only [dat1]
theorem after1_1 (t : Fin cfg1.N) : (dat1 V c).after 1 t = tile (arr V c main_v0) (15 - t.val) := by dsimp only [dat1]
theorem after1_2 (t : Fin cfg1.N) : (dat1 V c).after 2 t = before (arr V c main_v0) (15 - t.val) := by dsimp only [dat1]
theorem after1_3 (t : Fin cfg1.N) : (dat1 V c).after 3 t = tile (arr V c main_arg2) (15 - t.val) := by dsimp only [dat1]
theorem after1_4 (t : Fin cfg1.N) : (dat1 V c).after 4 t = coefAt (arr V c main_arg0) (arr V c main_v0) (arr V c main_arg2) t := by dsimp only [dat1]
theorem after1_5 (t : Fin cfg1.N) : (dat1 V c).after 5 t = inputAt (arr V c main_arg0) (arr V c main_arg2) t.val := by dsimp only [dat1]

/-- The backward body's precondition at grid point `t`, window by window, -/
def pre1 (t : Fin cfg1.N) : sProp 𝕄 :=
  iprop(inv1 V c t.val ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

/-- and its postcondition. -/
def post1 (t : Fin cfg1.N) : sProp 𝕄 :=
  iprop(inv1 V c (t.val + 1) ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t))

theorem sound1 (t : Fin cfg1.N) :
    pre1 V c t ⊢ wp frame (wpE (defs₀ (F := F)) Variants.none c none) Set.univ (bodyAt1 t) (fun _ => post1 V c t) := by
  unfold pre1 post1 bodyAt1 inv1
  simp only [before1_0, before1_1, before1_2, before1_3]
  rw [after1_0, after1_1, after1_2, after1_3, after1_4, after1_5,
    show (dat1 V c).owesAt () t.succ = (dat1 V c).owesAt () t.castSucc from rfl]
  unfold coefAt inputAt
  iintro ⟨⟨⟨%s, %hs, HS⟩, HR⟩, Ho, ⟨%d0, H0⟩, ⟨%d1, H1⟩, ⟨%d2, H2⟩, ⟨%d3, H3⟩, ⟨%d4, H4⟩, ⟨%d5, H5⟩⟩
  by_cases h : t.val = 0
  · have hz : k1_pay1 (F := F) = handed (arr V c main_arg0) (arr V c main_arg2) t.val := by rw [h]; rfl
    iapply (bwd_first c (grid1.coords t) _ _ _ _ _ _ _ _ _ _ _ _ _ _ ((first1 t).mpr h) (tile (arr V c main_arg0) (15 - t.val)) (tile (arr V c main_v0) (15 - t.val))
      (before (arr V c main_v0) (15 - t.val)) (tile (arr V c main_arg2) (15 - t.val)) Set.univ _)
    rw [hz]
    isplitl [H0]; · iexact H0
    isplitl [H1]; · iexact H1
    isplitl [H2]; · iexact H2
    isplitl [H3]; · iexact H3
    isplitl [H4]; · iexists _; iexact H4
    isplitl [H5]; · iexists _; iexact H5
    isplitl [HS]; · iexists _; iexact HS
    iintro ⟨H0, H1, H2, H3, H4, H5, HS⟩
    isplitl [HS HR]
    · isplitl [HS]
      · iexists _; isplitr; swap; · iexact HS
        ipureintro; exact fun _ => rfl
      iexact HR
    isplitl [Ho]; · iexact Ho
    isplitl [H0]; · iexact H0
    isplitl [H1]; · iexact H1
    isplitl [H2]; · iexact H2
    isplitl [H3]; · iexact H3
    isplitl [H4]; · iexact H4
    iexact H5
  · have hs := hs h
    iapply (bwd_next c (grid1.coords t) _ _ _ _ _ _ _ _ _ _ _ _ _ _ (fun e => h ((first1 t).mp e)) (tile (arr V c main_arg0) (15 - t.val)) (tile (arr V c main_v0) (15 - t.val))
      (before (arr V c main_v0) (15 - t.val)) (tile (arr V c main_arg2) (15 - t.val)) s Set.univ _)
    rw [hs]
    isplitl [H0]; · iexact H0
    isplitl [H1]; · iexact H1
    isplitl [H2]; · iexact H2
    isplitl [H3]; · iexact H3
    isplitl [H4]; · iexists _; iexact H4
    isplitl [H5]; · iexists _; iexact H5
    isplitl [HS]; · iexact HS
    iintro ⟨H0, H1, H2, H3, H4, H5, HS⟩
    isplitl [HS HR]
    · isplitl [HS]
      · iexists _; isplitr; swap; · iexact HS
        ipureintro; exact fun _ => rfl
      iexact HR
    isplitl [Ho]; · iexact Ho
    isplitl [H0]; · iexact H0
    isplitl [H1]; · iexact H1
    isplitl [H2]; · iexact H2
    isplitl [H3]; · iexact H3
    isplitl [H4]; · iexact H4
    iexact H5

theorem defs₀_row1 (t : Fin cfg1.N) : defs₀ (F := F) .tc cfg1.body (cfg1.bodyArgs t (cfg1.slots t)) = bodyAt1 t := by
  unfold defs₀; rw [Defs.onTc_tc]

/-- The backward body keeps what is stated of its buffers. -/
theorem body1 : BodyObligation (dat1 V c) (defs₀ (F := F)) Variants.none () Set.univ := fun t => by
  rw [bigSep_W1, bigSep_W1, defs₀_row1]
  exact triple_restated (sound1 V c t) rfl .rfl fun _ => .rfl

end Cert.KernelIdeal.Scan

end
-- ==== Proof.Run.lean ====
/- The kernel's run: the forward call, then the backward call on the states the forward call left. Every argument ends as
   launched, the three results hold what the two calls wrote, and every semaphore counter is at zero. -/
module

public import proofs.«01_k».proof.Proof.Data
public import proofs.«01_k».proof.Proof.Gen.KernelIdeal.Regions
public import Idealize.ShloMosaic.Lib.Pipeline.Frame
public import Idealize.ShloMosaic.Lib.Pipeline.Regions
public import Idealize.ShloMosaic.Lib.Pipeline.RegionsLoop
public import Idealize.ShloMosaic.Lib.Pipeline.RegionArrays

@[expose] public section

set_option maxRecDepth 16384

noncomputable section

namespace Cert.KernelIdeal.Scan

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation Seg RegionSeg)
open Cert.KernelIdeal.Gen

variable {F : FTy → Type} [FloatOps F]

local notation "𝕄" => MT nD τ sig Unit (Elt F) ℕ (UR sig nD τ) ℕ

variable (m : (ℓ : Loc nD τ sig) → Buf (Elt F) ℓ)

/-! ## The buffers between the calls -/

/-- The buffers at launch, -/
def W0 (c : Dev nD) : Valuation τ sig (Elt F) := fun b => m (c, b)
/-- after the forward call, which writes the states, -/
def W1 (c : Dev nD) : Valuation τ sig (Elt F) := Function.update (W0 m c) main_v0 ((dat0 (W0 m c) c).arrAt 2 cfg0.N)
/-- and after the backward call, which writes the two gradients. -/
def W2 (c : Dev nD) : Valuation τ sig (Elt F) :=
  Function.update (Function.update (W1 m c) main_v1_0 ((dat1 (W1 m c) c).arrAt 4 cfg1.N)) main_v1_1 ((dat1 (W1 m c) c).arrAt 5 cfg1.N)

theorem W1_of (c : Dev nD) (r : Ref sig .tc) (h : r ≠ main_v0) : W1 m c (Proc.devRef .tc r) = W0 m c (Proc.devRef .tc r) :=
  Function.update_of_ne (StableHlo.devRef_ne_of_ne h) _ _
theorem W1_states (c : Dev nD) : W1 m c (Proc.devRef .tc main_v0) = (dat0 (W0 m c) c).arrAt 2 cfg0.N := Function.update_self ..
theorem W2_of (c : Dev nD) (r : Ref sig .tc) (h : r ≠ main_v1_0) (h' : r ≠ main_v1_1) : W2 m c (Proc.devRef .tc r) = W1 m c (Proc.devRef .tc r) :=
  (Function.update_of_ne (StableHlo.devRef_ne_of_ne h') _ _).trans (Function.update_of_ne (StableHlo.devRef_ne_of_ne h) _ _)
theorem W2_coef (c : Dev nD) : W2 m c (Proc.devRef .tc main_v1_0) = (dat1 (W1 m c) c).arrAt 4 cfg1.N :=
  (Function.update_of_ne (StableHlo.devRef_ne_of_ne (by decide)) _ _).trans (Function.update_self ..)
theorem W2_input (c : Dev nD) : W2 m c (Proc.devRef .tc main_v1_1) = (dat1 (W1 m c) c).arrAt 5 cfg1.N := Function.update_self ..

/-! ## The two calls as segments of the program -/

/-- The two calls' proof data. -/
def pdats : (p : Fin 2) → (c : Dev nD) → Dat τ (Elt F) Unit ℕ (UR sig nD τ) ℕ (cfgs p) c
  | ⟨0, _⟩, c => dat0 (W0 m c) c
  | ⟨1, _⟩, c => dat1 (W1 m c) c

/-- Every TensorCore cell carries the one level index. -/
def levels : GSem nD τ sig → Finset Unit := fun g => if g.1.2 = .tc then {()} else ∅

theorem cut (p : Fin 2) : Pipeline.LevelCut (pcfgs (F := F)) adm () levels (fun _ _ => (0 : ℕ)) p (fun _ => 0) (fun _ => 0) where
  hι c w s := by simp [levels]
  hιb c w s := le_rfl
  hD c g i h := absurd h (by simp)

theorem sharedIn0 : Pipeline.SharedIn spec0 := by decide

theorem unsc0 (c : Dev nD) : (Pipeline.scopedRest (Ix := Unit) (Val := Elt F) (Name := ℕ) (U := UR sig nD τ) (Lvl := ℕ) spec0 c : sProp 𝕄)
    = iprop(some c cc0_scratch0 ∗ rest0 c) := by
  rw [scopedRest0_eq]; rfl

theorem in0 (V : Valuation τ sig (Elt F)) (c : Dev nD) :
    iprop(Pipeline.scopedRest (Ix := Unit) (Val := Elt F) (Name := ℕ) (U := UR sig nD τ) (Lvl := ℕ) spec0 c ∗ BI.emp) ⊢ inv0 (F := F) V c 0 := by
  rw [unsc0]; unfold inv0; simp only [owns_whole]
  iintro ⟨⟨⟨%f, Hs⟩, Hr⟩, -⟩
  isplitl [Hs]
  · iexists f; isplitr
    · ipureintro; exact fun h => absurd rfl h
    iexact Hs
  iexact Hr
theorem out0 (V : Valuation τ sig (Elt F)) (c : Dev nD) (n : ℕ) :
    inv0 (F := F) V c n ⊢ iprop(Pipeline.scopedRest (Ix := Unit) (Val := Elt F) (Name := ℕ) (U := UR sig nD τ) (Lvl := ℕ) spec0 c ∗ BI.emp) := by
  rw [unsc0]; unfold inv0; simp only [owns_whole]
  iintro ⟨⟨%d, -, Hs⟩, Hr⟩
  isplitl [Hs Hr]
  · isplitl [Hs]
    · iexists d; iexact Hs
    iexact Hr
  iempintro

theorem in1 (V : Valuation τ sig (Elt F)) (c : Dev nD) :
    iprop(Pipeline.scopedRest (Ix := Unit) (Val := Elt F) (Name := ℕ) (U := UR sig nD τ) (Lvl := ℕ) spec1 c ∗ BI.emp) ⊢ inv1 (F := F) V c 0 := by
  rw [scopedRest1_eq]; unfold inv1 rest1 some; simp only [owns_whole]
  iintro ⟨⟨H0, H1, H2, H3, H4, H5, H6, ⟨%f, Hs⟩⟩, -⟩
  isplitl [Hs]
  · iexists f; isplitr
    · ipureintro; exact fun h => absurd rfl h
    iexact Hs
  isplitl [H0]; · iexact H0
  isplitl [H1]; · iexact H1
  isplitl [H2]; · iexact H2
  isplitl [H3]; · iexact H3
  isplitl [H4]; · iexact H4
  isplitl [H5]; · iexact H5
  iexact H6
theorem out1 (V : Valuation τ sig (Elt F)) (c : Dev nD) (n : ℕ) :
    inv1 (F := F) V c n ⊢ iprop(Pipeline.scopedRest (Ix := Unit) (Val := Elt F) (Name := ℕ) (U := UR sig nD τ) (Lvl := ℕ) spec1 c ∗ BI.emp) := by
  rw [scopedRest1_eq]; unfold inv1 rest1 some; simp only [owns_whole]
  iintro ⟨⟨%d, -, Hs⟩, ⟨H0, H1, H2, H3, H4, H5, H6⟩⟩
  isplitl [H0 H1 H2 H3 H4 H5 H6 Hs]; swap; · iempintro
  isplitl [H0]; · iexact H0
  isplitl [H1]; · iexact H1
  isplitl [H2]; · iexact H2
  isplitl [H3]; · iexact H3
  isplitl [H4]; · iexact H4
  isplitl [H5]; · iexact H5
  isplitl [H6]; · iexact H6
  iexists d; iexact Hs

set_option backward.isDefEq.respectTransparency.types false in
/-- The forward call's segment: beside its arrays it keeps the buffers it has no window on. -/
def seg0 : RegionSeg (pcfgs (F := F)) adm (pdats m) () (defs₀ (F := F)) Variants.none levels (fun _ _ => (0 : ℕ)) 0 :=
  RegionSeg.ofArrays (pcfgs (F := F)) adm (pdats m) () (defs₀ (F := F)) Variants.none levels (fun _ _ => (0 : ℕ)) 0 (fun _ => 0)
    (fun _ => BI.emp) (fun _ => BI.emp) launch0.to₀.toP rfl (fun c => (body0 (W0 m c) c).loose) (fun _ _ => rfl) (fun _ => rfl)
    (fun c => in0 (W0 m c) c) (fun c => out0 (W0 m c) c _) (fun _ => 0) (cut 0)
    (fun c => Pipeline.unscopedRest spec0 c fun b => W0 m c (Proc.devRef .tc b))

set_option backward.isDefEq.respectTransparency.types false in
/-- The backward call's segment. -/
def seg1 : RegionSeg (pcfgs (F := F)) adm (pdats m) () (defs₀ (F := F)) Variants.none levels (fun _ _ => (0 : ℕ)) 1 :=
  RegionSeg.ofArrays (pcfgs (F := F)) adm (pdats m) () (defs₀ (F := F)) Variants.none levels (fun _ _ => (0 : ℕ)) 1 (fun _ => 0)
    (fun _ => BI.emp) (fun _ => BI.emp) launch₀1.toP rfl (fun c => (body1 (W1 m c) c).loose) (fun _ _ => rfl) (fun _ => rfl)
    (fun c => in1 (W1 m c) c) (fun c => out1 (W1 m c) c _) (fun _ => 0) (cut 1)
    (fun c => Pipeline.unscopedRest spec1 c fun b => W1 m c (Proc.devRef .tc b))

/-- What a core holds between the calls: every buffer outside a call at `W`, and nothing owed. -/
def between (W : Valuation τ sig (Elt F)) (c : Dev nD) : sProp 𝕄 :=
  iprop(StableHlo.held (c : Thread nD τ) (Pipeline.ucRefs τ sig) W ∗ ∃ w, owes (c : Thread nD τ) (0 : CellTallies nD τ sig Unit) w)

theorem held0 (c : Dev nD) : ∀ w : Fin 3, (dat0 (W0 m c) c).arrAt w cfg0.N = W1 m c (Proc.devRef .tc (Pipeline.arrRef spec0 w))
  | 0 => ((dat0 (W0 m c) c).arrAt_in 0 rfl _).trans (W1_of m c main_arg0 (by decide)).symm
  | 1 => ((dat0 (W0 m c) c).arrAt_in 1 rfl _).trans (W1_of m c main_arg1 (by decide)).symm
  | 2 => (W1_states m c).symm

theorem held1 (c : Dev nD) : ∀ w : Fin 6, (dat1 (W1 m c) c).arrAt w cfg1.N = W2 m c (Proc.devRef .tc (Pipeline.arrRef spec1 w))
  | 0 => ((dat1 (W1 m c) c).arrAt_in 0 rfl _).trans (W2_of m c main_arg0 (by decide) (by decide)).symm
  | 1 => ((dat1 (W1 m c) c).arrAt_in 1 rfl _).trans (W2_of m c main_v0 (by decide) (by decide)).symm
  | 2 => ((dat1 (W1 m c) c).arrAt_in 2 rfl _).trans (W2_of m c main_v0 (by decide) (by decide)).symm
  | 3 => ((dat1 (W1 m c) c).arrAt_in 3 rfl _).trans (W2_of m c main_arg2 (by decide) (by decide)).symm
  | 4 => (W2_coef m c).symm
  | 5 => (W2_input m c).symm

theorem off0 (c : Dev nD) (b : Ref sig .tc) (hb : b ∉ Finset.univ.image (Pipeline.arrRef spec0)) :
    W1 m c (Proc.devRef .tc b) = W0 m c (Proc.devRef .tc b) :=
  W1_of m c b fun h => hb (Finset.mem_image.mpr ⟨2, Finset.mem_univ _, h.symm⟩)
theorem off1 (c : Dev nD) (b : Ref sig .tc) (hb : b ∉ Finset.univ.image (Pipeline.arrRef spec1)) :
    W2 m c (Proc.devRef .tc b) = W1 m c (Proc.devRef .tc b) :=
  W2_of m c b (fun h => hb (Finset.mem_image.mpr ⟨4, Finset.mem_univ _, h.symm⟩))
    (fun h => hb (Finset.mem_image.mpr ⟨5, Finset.mem_univ _, h.symm⟩))

theorem enter0 (c : Dev nD) : between (W0 m c) c ⊢ (seg0 m).pre c := by
  unfold between
  rw [← Pipeline.unscopedBufs_held (Ix := Unit) (Name := ℕ) (U := UR sig nD τ) (Lvl := ℕ) c (W0 m c)]
  iintro ⟨H, HO⟩
  ihave H' := (Pipeline.arrays_of_unscopedBufs_shared (pcfgs (F := F)) adm (pdats m) (p := 0) winFacts0.to₀ sharedIn0 arr_whole0 c
    (fun _ _ => rfl) (fun b => W0 m c (Proc.devRef .tc b)) (fun _ => rfl)) $$ H
  icases H' with ⟨Ha, Hr⟩
  unfold seg0 RegionSeg.ofArrays
  isplitl [Ha]; · iexact Ha
  isplitr; · iempintro
  isplitl [Hr]; · iexact Hr
  iexact HO

theorem leave0 (c : Dev nD) : (seg0 m).post c ⊢ between (W1 m c) c := by
  have h := Pipeline.unscopedBufs_of_arrays_shared (pcfgs (F := F)) adm (p := 0) winFacts0.to₀ sharedIn0 arr_whole0 c (pdats m)
      (fun _ _ => rfl) (fun b => W0 m c (Proc.devRef .tc b)) (fun b => W1 m c (Proc.devRef .tc b))
      ((pdats m 0 c).arrAt · cfg0.N) (held0 m c) (off0 m c)
  unfold between
  rw [← Pipeline.unscopedBufs_held (Ix := Unit) (Name := ℕ) (U := UR sig nD τ) (Lvl := ℕ) c (W1 m c)]
  unfold seg0 RegionSeg.ofArrays
  iintro ⟨Ha, -, Hr, HO⟩
  isplitr [HO]
  · iapply h
    isplitl [Ha]; · iexact Ha
    iexact Hr
  iexact HO

theorem enter1 (c : Dev nD) : between (W1 m c) c ⊢ (seg1 m).pre c := by
  unfold between
  rw [← Pipeline.unscopedBufs_held (Ix := Unit) (Name := ℕ) (U := UR sig nD τ) (Lvl := ℕ) c (W1 m c)]
  iintro ⟨H, HO⟩
  ihave H' := (Pipeline.arrays_of_unscopedBufs_shared (pcfgs (F := F)) adm (pdats m) (p := 1) winFacts₀1 sharedIn1 arr_whole1 c
    (fun _ _ => rfl) (fun b => W1 m c (Proc.devRef .tc b)) (fun _ => rfl)) $$ H
  icases H' with ⟨Ha, Hr⟩
  unfold seg1 RegionSeg.ofArrays
  isplitl [Ha]; · iexact Ha
  isplitr; · iempintro
  isplitl [Hr]; · iexact Hr
  iexact HO

theorem leave1 (c : Dev nD) : (seg1 m).post c ⊢ between (W2 m c) c := by
  have h := Pipeline.unscopedBufs_of_arrays_shared (pcfgs (F := F)) adm (p := 1) winFacts₀1 sharedIn1 arr_whole1 c (pdats m)
      (fun _ _ => rfl) (fun b => W1 m c (Proc.devRef .tc b)) (fun b => W2 m c (Proc.devRef .tc b))
      ((pdats m 1 c).arrAt · cfg1.N) (held1 m c) (off1 m c)
  unfold between
  rw [← Pipeline.unscopedBufs_held (Ix := Unit) (Name := ℕ) (U := UR sig nD τ) (Lvl := ℕ) c (W2 m c)]
  unfold seg1 RegionSeg.ofArrays
  iintro ⟨Ha, -, Hr, HO⟩
  isplitr [HO]
  · iapply h
    isplitl [Ha]; · iexact Ha
    iexact Hr
  iexact HO

/-! ## The run -/

/-- What the launch hands a core is its buffers as launched and nothing owed. -/
theorem launched (ρ : Dev nD → PrngReg) (c : Dev nD) :
    iprop(iprop(unscopedBufs c (fun b => m ((c.tc : Thread nD τ).loc b)) ∗ unscopedSems0 c
        ∗ owes (c.tc : Thread nD τ) (0 : CellTallies nD τ sig Unit) ∅ ∗ Pipeline.launchCred (fun _ => (0 : CellTallies nD τ sig Unit)) c ∗ prngReg c (ρ c) ∗ BI.emp)
      ∗ levAts levels (fun _ _ => (0 : ℕ))) ⊢ (|={Set.univ}=> between (F := F) (W0 m c) c : sProp 𝕄) := by
  unfold between
  rw [← Pipeline.unscopedBufs_held (Ix := Unit) (Name := ℕ) (U := UR sig nD τ) (Lvl := ℕ) c (W0 m c)]
  iintro ⟨⟨HU, -, HO, -⟩, -⟩
  imodintro
  isplitl [HU]; · iexact HU
  iexists _; iexact HO

/-- At the end every buffer outside the calls is read at the last contents. -/
theorem ended (c : Dev nD) (s' : Phys nD τ sig (Elt F)) :
    iprop(StableHlo.held (c : Thread nD τ) (Pipeline.ucRefs τ sig) (W2 m c) ∗ SI s')
      ⊢ (|={Set.univ}=> iprop(⌜∀ b ∈ Pipeline.ucRefs τ sig, s'.mem.mem (c, b) = W2 m c b⌝ ∗ SI s') : sProp 𝕄) := by
  unfold StableHlo.held
  iintro ⟨Hh, HSI⟩
  imodintro
  iapply (pointsTo_read_all (Pipeline.ucRefs τ sig) (fun b => ((c : Thread nD τ).1, b)) (W2 m c) s')
  isplitl [Hh] <;> iassumption

theorem unscoped (r : Ref sig .tc) (h : r.isScoped = false) : Proc.devRef .tc r ∈ Pipeline.ucRefs τ sig :=
  Finset.mem_filter.mpr ⟨StableHlo.devRef_mem_tcRefs r, by simp [h]⟩

set_option backward.isDefEq.respectTransparency.types false in
/-- Every run ends with every buffer outside the calls at the last contents and every semaphore counter at zero. -/
theorem run (ρ : Dev nD → PrngReg) :
    θ_run defs (onTc (τ := τ) (main (F := F))) ⟨m, fun _ => 0, ρ⟩ (fun r =>
      (∀ (c : Dev nD), ∀ b ∈ Pipeline.ucRefs τ sig, r.2.mem (c, b) = W2 m c b) ∧ r.2.sem = fun _ => 0) := by
  refine Pipeline.θ_run_regions_kit_dev_sems (pcfgs (F := F)) adm (pdats m) () cellOf_inj emb₁ defs₀ Variants.none levels (fun _ _ => (0 : ℕ)) m ρ main
    (fun _ => [.region (seg0 m), .region (seg1 m)])
    (fun c Q => by
      rewrite [main_chain c, Seg.run_eq_chain]
      exact .rfl)
    (fun c => by simp only [Seg.pipes_region, Seg.pipes_nil]; decide) (fun _ => 0) (fun g h => if_neg h)
    (fun _ => BI.emp) (initOf (Pipeline.cells cfgs cellOf_inj) (Pipeline.launchToks cfgs cellOf_inj)) ?_
    (T₀ := fun c => between (W0 m c) c)
    (Tₙ := fun c => StableHlo.held (c : Thread nD τ) (Pipeline.ucRefs τ sig) (W2 m c))
    (hch := fun c => ⟨enter0 m c, (leave0 m c).trans (enter1 m c), leave1 m c⟩)
    (hinit := Pipeline.initEach _ _ (launched m ρ)) (QY := fun c s => ∀ b ∈ Pipeline.ucRefs τ sig, s.mem (c, b) = W2 m c b)
    (hfin := fun c s' => ended m c s') (hQ := fun _ h hz => ⟨h, funext fun g => hz g (.inr (regions_no_unscoped g.2))⟩)
  iintro Hu; imodintro
  isplitl [Hu]
  · iapply (show (ownU _ : sProp 𝕄) ⊢ BI.own (emb₁ (initOf (Pipeline.cells cfgs cellOf_inj) (Pipeline.launchToks cfgs cellOf_inj))) from .rfl); iexact Hu
  iapply (show (BI.emp : sProp 𝕄) ⊢ bigSep Finset.univ (fun _ : Dev nD => (BI.emp : sProp 𝕄)) from by rw [BI.bigSep_emp_const])
  iempintro

end Cert.KernelIdeal.Scan
-- ==== Proof.RefOps.lean ====
/- The plain recurrence with its gradient, as operations: the stretches of host operations that its
   two loops are made of, which buffers each writes, and that the program is the chain of them. -/
module

public import proofs.«01_k».proof.Proof.Gen.ReferenceIdeal
public import Idealize.ShloMosaic.Lib.Pipeline.Regions
public import Idealize.ShloMosaic.Lib.Pipeline.RegionsLoop
public import Idealize.ShloMosaic.Lib.StableHlo.RunLoop
public import Idealize.ShloMosaic.Lib.StableHlo.RunRead
public import Idealize.ShloMosaic.Lib.Scf.ExitTest
public import Idealize.ShloMosaic.Lib.Scf.Counter

@[expose] public section

set_option maxRecDepth 16384

noncomputable section

namespace Cert.ReferenceIdeal.Plainly

open Idealize.ShloMosaic Idealize.ShloMosaic.TcCoe Idealize.ShloMosaic.StableHlo
open Cert.ReferenceIdeal Cert.ReferenceIdeal.Gen
open Idealize.SL Idealize.SL.RA Idealize.SL.BI Idealize.SL.Sem
open scoped Idealize.SL.BI

variable {F : FTy → Type} [FloatOps F]

/-- What comes before the first loop: the zero state, the zero arrays, and the copies of what the loop carries. -/
abbrev startOps : List (HloOp τ sig (Elt F)) :=
  [ StableHlo.nullary main_cst (constant S_ .f32 0x00000000#32),
    StableHlo.unary main_cst main_v0 (broadcastInDim S512 ![] bcast_S_S512 : (⟨S_, .f32⟩ : BufTy).Contents (Elt F) → (⟨S512, .f32⟩ : BufTy).Contents (Elt F)),
    StableHlo.nullary main_cst_0 (constant S_ .f32 0x00000000#32),
    StableHlo.unary main_cst_0 main_v1 (broadcastInDim S8192x512 ![] bcast_S_S8192x512 : (⟨S_, .f32⟩ : BufTy).Contents (Elt F) → (⟨S8192x512, .f32⟩ : BufTy).Contents (Elt F)),
    StableHlo.nullary main_cst_1 (constant S_ .f32 0x00000000#32),
    StableHlo.unary main_cst_1 main_v2 (broadcastInDim S8192x512 ![] bcast_S_S8192x512 : (⟨S_, .f32⟩ : BufTy).Contents (Elt F) → (⟨S8192x512, .f32⟩ : BufTy).Contents (Elt F)),
    StableHlo.nullary main_c (constantI S_ 32 0#32),
    StableHlo.unary main_arg0 main_v3_0 id,
    StableHlo.unary main_arg1 main_v3_1 id,
    StableHlo.unary main_c main_v3_2 id,
    StableHlo.unary main_v0 main_v3_3 id,
    StableHlo.unary main_v1 main_v3_4 id,
    StableHlo.unary main_v2 main_v3_5 id ]

/-- They touch buffers of the TensorCore only. -/
theorem startOps_sub : (startOps : List (HloOp τ sig (Elt F))).Forall fun op => op.bufs ⊆ StableHlo.tcRefs τ sig :=
  ⟨StableHlo.nullary_bufs_sub .., StableHlo.unary_bufs_sub .., StableHlo.nullary_bufs_sub .., StableHlo.unary_bufs_sub .., StableHlo.nullary_bufs_sub .., StableHlo.unary_bufs_sub .., StableHlo.nullary_bufs_sub .., StableHlo.unary_bufs_sub .., StableHlo.unary_bufs_sub .., StableHlo.unary_bufs_sub .., StableHlo.unary_bufs_sub .., StableHlo.unary_bufs_sub .., StableHlo.unary_bufs_sub ..⟩

/-- They allocate nothing. -/
theorem startOps_fresh : (startOps : List (HloOp τ sig (Elt F))).Forall fun op => op.fresh = ∅ :=
  StableHlo.forall_fresh_of_map rfl

/-- The buffers they write. -/
abbrev startOps_W : List (Ref sig .tc) := [main_cst, main_v0, main_cst_0, main_v1, main_cst_1, main_v2, main_c, main_v3_0, main_v3_1, main_v3_2, main_v3_3, main_v3_4, main_v3_5]

/-- They write those only. -/
theorem startOps_writes : (startOps : List (HloOp τ sig (Elt F))).Forall fun op => op.writes ⊆ (startOps_W.map (Proc.devRef (τ := τ) .tc)).toFinset :=
  StableHlo.forall_writes_sub_of_map rfl

/-- Every other buffer keeps its contents. -/
theorem startOps_keeps (V : Valuation τ sig (Elt F)) (r : Ref sig .tc) (h : r ∉ startOps_W) :
    after startOps V (Proc.devRef .tc r) = V (Proc.devRef .tc r) := after_of_writes_sub startOps V startOps_writes h

/-- What comes between the loops. -/
abbrev turnOps : List (HloOp τ sig (Elt F)) :=
  [ StableHlo.nullary main_cst_2 (constant S_ .f32 0x00000000#32),
    StableHlo.unary main_cst_2 main_v4 (broadcastInDim S512 ![] bcast_S_S512 : (⟨S_, .f32⟩ : BufTy).Contents (Elt F) → (⟨S512, .f32⟩ : BufTy).Contents (Elt F)),
    StableHlo.nullary main_cst_3 (constant S_ .f32 0x00000000#32),
    StableHlo.unary main_cst_3 main_v5 (broadcastInDim S512 ![] bcast_S_S512 : (⟨S_, .f32⟩ : BufTy).Contents (Elt F) → (⟨S512, .f32⟩ : BufTy).Contents (Elt F)),
    StableHlo.nullary main_cst_4 (constant S_ .f32 0x00000000#32),
    StableHlo.unary main_cst_4 main_v6 (broadcastInDim S8192x512 ![] bcast_S_S8192x512 : (⟨S_, .f32⟩ : BufTy).Contents (Elt F) → (⟨S8192x512, .f32⟩ : BufTy).Contents (Elt F)),
    StableHlo.nullary main_cst_5 (constant S_ .f32 0x00000000#32),
    StableHlo.unary main_cst_5 main_v7 (broadcastInDim S8192x512 ![] bcast_S_S8192x512 : (⟨S_, .f32⟩ : BufTy).Contents (Elt F) → (⟨S8192x512, .f32⟩ : BufTy).Contents (Elt F)),
    StableHlo.nullary main_c_6 (constantI S_ 32 0#32),
    StableHlo.unary main_arg2 main_v8_0 id,
    StableHlo.unary main_v3_5 main_v8_1 id,
    StableHlo.unary main_arg0 main_v8_2 id,
    StableHlo.unary main_c_6 main_v8_3 id,
    StableHlo.unary main_v5 main_v8_4 id,
    StableHlo.unary main_v6 main_v8_5 id,
    StableHlo.unary main_v7 main_v8_6 id ]

/-- They touch buffers of the TensorCore only. -/
theorem turnOps_sub : (turnOps : List (HloOp τ sig (Elt F))).Forall fun op => op.bufs ⊆ StableHlo.tcRefs τ sig :=
  ⟨StableHlo.nullary_bufs_sub .., StableHlo.unary_bufs_sub .., StableHlo.nullary_bufs_sub .., StableHlo.unary_bufs_sub .., StableHlo.nullary_bufs_sub .., StableHlo.unary_bufs_sub .., StableHlo.nullary_bufs_sub .., StableHlo.unary_bufs_sub .., StableHlo.nullary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub ..⟩

/-- They allocate nothing. -/
theorem turnOps_fresh : (turnOps : List (HloOp τ sig (Elt F))).Forall fun op => op.fresh = ∅ :=
  StableHlo.forall_fresh_of_map rfl

/-- The buffers they write. -/
abbrev turnOps_W : List (Ref sig .tc) := [main_cst_2, main_v4, main_cst_3, main_v5, main_cst_4, main_v6, main_cst_5, main_v7, main_c_6, main_v8_0, main_v8_1, main_v8_2, main_v8_3, main_v8_4, main_v8_5, main_v8_6]

/-- They write those only. -/
theorem turnOps_writes : (turnOps : List (HloOp τ sig (Elt F))).Forall fun op => op.writes ⊆ (turnOps_W.map (Proc.devRef (τ := τ) .tc)).toFinset :=
  StableHlo.forall_writes_sub_of_map rfl

/-- Every other buffer keeps its contents. -/
theorem turnOps_keeps (V : Valuation τ sig (Elt F)) (r : Ref sig .tc) (h : r ∉ turnOps_W) :
    after turnOps V (Proc.devRef .tc r) = V (Proc.devRef .tc r) := after_of_writes_sub turnOps V turnOps_writes h

/-- The first loop's condition: the bound and the comparison. -/
abbrev testOps0 : List (HloOp τ sig (Elt F)) :=
  [ StableHlo.nullary main_while0c_c_12 (constantI S_ 32 8192#32),
    StableHlo.binary main_v3_2 main_while0c_c_12 main_while0c_v9 (cmpi .slt : (⟨S_, .i32⟩ : BufTy).Contents (Elt F) → (⟨S_, .i32⟩ : BufTy).Contents (Elt F) → (⟨S_, .i1⟩ : BufTy).Contents (Elt F)) ]

/-- They touch buffers of the TensorCore only. -/
theorem testOps0_sub : (testOps0 : List (HloOp τ sig (Elt F))).Forall fun op => op.bufs ⊆ StableHlo.tcRefs τ sig :=
  ⟨StableHlo.nullary_bufs_sub .., StableHlo.binary_bufs_sub ..⟩

/-- They allocate nothing. -/
theorem testOps0_fresh : (testOps0 : List (HloOp τ sig (Elt F))).Forall fun op => op.fresh = ∅ :=
  StableHlo.forall_fresh_of_map rfl

/-- The buffers they write. -/
abbrev testOps0_W : List (Ref sig .tc) := [main_while0c_c_12, main_while0c_v9]

/-- They write those only. -/
theorem testOps0_writes : (testOps0 : List (HloOp τ sig (Elt F))).Forall fun op => op.writes ⊆ (testOps0_W.map (Proc.devRef (τ := τ) .tc)).toFinset :=
  StableHlo.forall_writes_sub_of_map rfl

/-- Every other buffer keeps its contents. -/
theorem testOps0_keeps (V : Valuation τ sig (Elt F)) (r : Ref sig .tc) (h : r ∉ testOps0_W) :
    after testOps0 V (Proc.devRef .tc r) = V (Proc.devRef .tc r) := after_of_writes_sub testOps0 V testOps0_writes h

/-- The second loop's condition. -/
abbrev testOps1 : List (HloOp τ sig (Elt F)) :=
  [ StableHlo.nullary main_while1c_c_13 (constantI S_ 32 8192#32),
    StableHlo.binary main_v8_3 main_while1c_c_13 main_while1c_v9 (cmpi .slt : (⟨S_, .i32⟩ : BufTy).Contents (Elt F) → (⟨S_, .i32⟩ : BufTy).Contents (Elt F) → (⟨S_, .i1⟩ : BufTy).Contents (Elt F)) ]

/-- They touch buffers of the TensorCore only. -/
theorem testOps1_sub : (testOps1 : List (HloOp τ sig (Elt F))).Forall fun op => op.bufs ⊆ StableHlo.tcRefs τ sig :=
  ⟨StableHlo.nullary_bufs_sub .., StableHlo.binary_bufs_sub ..⟩

/-- They allocate nothing. -/
theorem testOps1_fresh : (testOps1 : List (HloOp τ sig (Elt F))).Forall fun op => op.fresh = ∅ :=
  StableHlo.forall_fresh_of_map rfl

/-- The buffers they write. -/
abbrev testOps1_W : List (Ref sig .tc) := [main_while1c_c_13, main_while1c_v9]

/-- They write those only. -/
theorem testOps1_writes : (testOps1 : List (HloOp τ sig (Elt F))).Forall fun op => op.writes ⊆ (testOps1_W.map (Proc.devRef (τ := τ) .tc)).toFinset :=
  StableHlo.forall_writes_sub_of_map rfl

/-- Every other buffer keeps its contents. -/
theorem testOps1_keeps (V : Valuation τ sig (Elt F)) (r : Ref sig .tc) (h : r ∉ testOps1_W) :
    after testOps1 V (Proc.devRef .tc r) = V (Proc.devRef .tc r) := after_of_writes_sub testOps1 V testOps1_writes h

/-- Row `k` of the coefficients. -/
abbrev fwd0 : List (HloOp τ sig (Elt F)) :=
  [ StableHlo.TRef.nullary (.of main_while0b_call0_c : StableHlo.TRef sig ⟨S_, .i32⟩) (constantI S_ 32 0#32),
    StableHlo.TRef.unaryIndexed (.of main_v3_0 : StableHlo.TRef sig ⟨S8192x512, .f32⟩) ![(.of main_v3_2 : StableHlo.TRef sig ⟨S_, .i32⟩), (.of main_while0b_call0_c : StableHlo.TRef sig ⟨S_, .i32⟩)] (.of main_while0b_call0_v0 : StableHlo.TRef sig ⟨S1x512, .f32⟩) (fun x i => Host.dynamicSlice S1x512 x (fun k => (i k (Shape.Idx.first h_S_)).toInt) sliceFits_S8192x512_S1x512),
    StableHlo.TRef.reshape (.of main_while0b_call0_v0 : StableHlo.TRef sig ⟨S1x512, .f32⟩) (.of main_while0b_v9 : StableHlo.TRef sig ⟨S512, .f32⟩) (rfl : (.f32 : EltTy) = .f32) shapeCasts_S1x512_S512 ]

/-- They touch buffers of the TensorCore only. -/
theorem fwd0_sub : (fwd0 : List (HloOp τ sig (Elt F))).Forall fun op => op.bufs ⊆ StableHlo.tcRefs τ sig :=
  ⟨StableHlo.nullary_bufs_sub .., StableHlo.unaryIndexed_bufs_sub .., StableHlo.reshape_bufs_sub ..⟩

/-- They allocate nothing. -/
theorem fwd0_fresh : (fwd0 : List (HloOp τ sig (Elt F))).Forall fun op => op.fresh = ∅ :=
  StableHlo.forall_fresh_of_map rfl

/-- The buffers they write. -/
abbrev fwd0_W : List (Ref sig .tc) := [main_while0b_call0_c, main_while0b_call0_v0, main_while0b_v9]

/-- They write those only. -/
theorem fwd0_writes : (fwd0 : List (HloOp τ sig (Elt F))).Forall fun op => op.writes ⊆ (fwd0_W.map (Proc.devRef (τ := τ) .tc)).toFinset :=
  StableHlo.forall_writes_sub_of_map rfl

/-- Every other buffer keeps its contents. -/
theorem fwd0_keeps (V : Valuation τ sig (Elt F)) (r : Ref sig .tc) (h : r ∉ fwd0_W) :
    after fwd0 V (Proc.devRef .tc r) = V (Proc.devRef .tc r) := after_of_writes_sub fwd0 V fwd0_writes h

/-- Row `k` of the inputs. -/
abbrev fwd1 : List (HloOp τ sig (Elt F)) :=
  [ StableHlo.TRef.nullary (.of main_while0b_call1_c : StableHlo.TRef sig ⟨S_, .i32⟩) (constantI S_ 32 0#32),
    StableHlo.TRef.unaryIndexed (.of main_v3_1 : StableHlo.TRef sig ⟨S8192x512, .f32⟩) ![(.of main_v3_2 : StableHlo.TRef sig ⟨S_, .i32⟩), (.of main_while0b_call1_c : StableHlo.TRef sig ⟨S_, .i32⟩)] (.of main_while0b_call1_v0 : StableHlo.TRef sig ⟨S1x512, .f32⟩) (fun x i => Host.dynamicSlice S1x512 x (fun k => (i k (Shape.Idx.first h_S_)).toInt) sliceFits_S8192x512_S1x512),
    StableHlo.TRef.reshape (.of main_while0b_call1_v0 : StableHlo.TRef sig ⟨S1x512, .f32⟩) (.of main_while0b_v10 : StableHlo.TRef sig ⟨S512, .f32⟩) (rfl : (.f32 : EltTy) = .f32) shapeCasts_S1x512_S512 ]

/-- They touch buffers of the TensorCore only. -/
theorem fwd1_sub : (fwd1 : List (HloOp τ sig (Elt F))).Forall fun op => op.bufs ⊆ StableHlo.tcRefs τ sig :=
  ⟨StableHlo.nullary_bufs_sub .., StableHlo.unaryIndexed_bufs_sub .., StableHlo.reshape_bufs_sub ..⟩

/-- They allocate nothing. -/
theorem fwd1_fresh : (fwd1 : List (HloOp τ sig (Elt F))).Forall fun op => op.fresh = ∅ :=
  StableHlo.forall_fresh_of_map rfl

/-- The buffers they write. -/
abbrev fwd1_W : List (Ref sig .tc) := [main_while0b_call1_c, main_while0b_call1_v0, main_while0b_v10]

/-- They write those only. -/
theorem fwd1_writes : (fwd1 : List (HloOp τ sig (Elt F))).Forall fun op => op.writes ⊆ (fwd1_W.map (Proc.devRef (τ := τ) .tc)).toFinset :=
  StableHlo.forall_writes_sub_of_map rfl

/-- Every other buffer keeps its contents. -/
theorem fwd1_keeps (V : Valuation τ sig (Elt F)) (r : Ref sig .tc) (h : r ∉ fwd1_W) :
    after fwd1 V (Proc.devRef .tc r) = V (Proc.devRef .tc r) := after_of_writes_sub fwd1 V fwd1_writes h

/-- The next state. -/
abbrev fwd2 : List (HloOp τ sig (Elt F)) :=
  [ StableHlo.binary main_while0b_v9 main_v3_3 main_while0b_v11 (mulf : (⟨S512, .f32⟩ : BufTy).Contents (Elt F) → (⟨S512, .f32⟩ : BufTy).Contents (Elt F) → (⟨S512, .f32⟩ : BufTy).Contents (Elt F)),
    StableHlo.binary main_while0b_v11 main_while0b_v10 main_while0b_v12 (addf : (⟨S512, .f32⟩ : BufTy).Contents (Elt F) → (⟨S512, .f32⟩ : BufTy).Contents (Elt F) → (⟨S512, .f32⟩ : BufTy).Contents (Elt F)) ]

/-- They touch buffers of the TensorCore only. -/
theorem fwd2_sub : (fwd2 : List (HloOp τ sig (Elt F))).Forall fun op => op.bufs ⊆ StableHlo.tcRefs τ sig :=
  ⟨StableHlo.binary_bufs_sub .., StableHlo.binary_bufs_sub ..⟩

/-- They allocate nothing. -/
theorem fwd2_fresh : (fwd2 : List (HloOp τ sig (Elt F))).Forall fun op => op.fresh = ∅ :=
  StableHlo.forall_fresh_of_map rfl

/-- The buffers they write. -/
abbrev fwd2_W : List (Ref sig .tc) := [main_while0b_v11, main_while0b_v12]

/-- They write those only. -/
theorem fwd2_writes : (fwd2 : List (HloOp τ sig (Elt F))).Forall fun op => op.writes ⊆ (fwd2_W.map (Proc.devRef (τ := τ) .tc)).toFinset :=
  StableHlo.forall_writes_sub_of_map rfl

/-- Every other buffer keeps its contents. -/
theorem fwd2_keeps (V : Valuation τ sig (Elt F)) (r : Ref sig .tc) (h : r ∉ fwd2_W) :
    after fwd2 V (Proc.devRef .tc r) = V (Proc.devRef .tc r) := after_of_writes_sub fwd2 V fwd2_writes h

/-- The next state goes to row `k` of the states. -/
abbrev fwd3 : List (HloOp τ sig (Elt F)) :=
  [ StableHlo.TRef.unary (.of main_while0b_v12 : StableHlo.TRef sig ⟨S512, .f32⟩) (.of main_while0b_call2_v0 : StableHlo.TRef sig ⟨S1x512, .f32⟩) (broadcastInDim S1x512 ![1] bcast_S512_S1x512_1),
    StableHlo.TRef.nullary (.of main_while0b_call2_c : StableHlo.TRef sig ⟨S_, .i32⟩) (constantI S_ 32 0#32),
    StableHlo.TRef.binaryIndexed (.of main_v3_4 : StableHlo.TRef sig ⟨S8192x512, .f32⟩) (.of main_while0b_call2_v0 : StableHlo.TRef sig ⟨S1x512, .f32⟩) ![(.of main_v3_2 : StableHlo.TRef sig ⟨S_, .i32⟩), (.of main_while0b_call2_c : StableHlo.TRef sig ⟨S_, .i32⟩)] (.of main_while0b_v13 : StableHlo.TRef sig ⟨S8192x512, .f32⟩) (fun x u i => Host.dynamicUpdateSlice x u (fun k => (i k (Shape.Idx.first h_S_)).toInt) updateFits_S8192x512_S1x512) ]

/-- They touch buffers of the TensorCore only. -/
theorem fwd3_sub : (fwd3 : List (HloOp τ sig (Elt F))).Forall fun op => op.bufs ⊆ StableHlo.tcRefs τ sig :=
  ⟨StableHlo.unary_bufs_sub .., StableHlo.nullary_bufs_sub .., StableHlo.binaryIndexed_bufs_sub ..⟩

/-- They allocate nothing. -/
theorem fwd3_fresh : (fwd3 : List (HloOp τ sig (Elt F))).Forall fun op => op.fresh = ∅ :=
  StableHlo.forall_fresh_of_map rfl

/-- The buffers they write. -/
abbrev fwd3_W : List (Ref sig .tc) := [main_while0b_call2_v0, main_while0b_call2_c, main_while0b_v13]

/-- They write those only. -/
theorem fwd3_writes : (fwd3 : List (HloOp τ sig (Elt F))).Forall fun op => op.writes ⊆ (fwd3_W.map (Proc.devRef (τ := τ) .tc)).toFinset :=
  StableHlo.forall_writes_sub_of_map rfl

/-- Every other buffer keeps its contents. -/
theorem fwd3_keeps (V : Valuation τ sig (Elt F)) (r : Ref sig .tc) (h : r ∉ fwd3_W) :
    after fwd3 V (Proc.devRef .tc r) = V (Proc.devRef .tc r) := after_of_writes_sub fwd3 V fwd3_writes h

/-- The state before goes to row `k` of the saved states. -/
abbrev fwd4 : List (HloOp τ sig (Elt F)) :=
  [ StableHlo.TRef.unary (.of main_v3_3 : StableHlo.TRef sig ⟨S512, .f32⟩) (.of main_while0b_call3_v0 : StableHlo.TRef sig ⟨S1x512, .f32⟩) (broadcastInDim S1x512 ![1] bcast_S512_S1x512_1),
    StableHlo.TRef.nullary (.of main_while0b_call3_c : StableHlo.TRef sig ⟨S_, .i32⟩) (constantI S_ 32 0#32),
    StableHlo.TRef.binaryIndexed (.of main_v3_5 : StableHlo.TRef sig ⟨S8192x512, .f32⟩) (.of main_while0b_call3_v0 : StableHlo.TRef sig ⟨S1x512, .f32⟩) ![(.of main_v3_2 : StableHlo.TRef sig ⟨S_, .i32⟩), (.of main_while0b_call3_c : StableHlo.TRef sig ⟨S_, .i32⟩)] (.of main_while0b_v14 : StableHlo.TRef sig ⟨S8192x512, .f32⟩) (fun x u i => Host.dynamicUpdateSlice x u (fun k => (i k (Shape.Idx.first h_S_)).toInt) updateFits_S8192x512_S1x512) ]

/-- They touch buffers of the TensorCore only. -/
theorem fwd4_sub : (fwd4 : List (HloOp τ sig (Elt F))).Forall fun op => op.bufs ⊆ StableHlo.tcRefs τ sig :=
  ⟨StableHlo.unary_bufs_sub .., StableHlo.nullary_bufs_sub .., StableHlo.binaryIndexed_bufs_sub ..⟩

/-- They allocate nothing. -/
theorem fwd4_fresh : (fwd4 : List (HloOp τ sig (Elt F))).Forall fun op => op.fresh = ∅ :=
  StableHlo.forall_fresh_of_map rfl

/-- The buffers they write. -/
abbrev fwd4_W : List (Ref sig .tc) := [main_while0b_call3_v0, main_while0b_call3_c, main_while0b_v14]

/-- They write those only. -/
theorem fwd4_writes : (fwd4 : List (HloOp τ sig (Elt F))).Forall fun op => op.writes ⊆ (fwd4_W.map (Proc.devRef (τ := τ) .tc)).toFinset :=
  StableHlo.forall_writes_sub_of_map rfl

/-- Every other buffer keeps its contents. -/
theorem fwd4_keeps (V : Valuation τ sig (Elt F)) (r : Ref sig .tc) (h : r ∉ fwd4_W) :
    after fwd4 V (Proc.devRef .tc r) = V (Proc.devRef .tc r) := after_of_writes_sub fwd4 V fwd4_writes h

/-- The counter, and what the next trip starts from. -/
abbrev fwd5 : List (HloOp τ sig (Elt F)) :=
  [ StableHlo.nullary main_while0b_c_12 (constantI S_ 32 1#32),
    StableHlo.binary main_v3_2 main_while0b_c_12 main_while0b_v15 (addi : (⟨S_, .i32⟩ : BufTy).Contents (Elt F) → (⟨S_, .i32⟩ : BufTy).Contents (Elt F) → (⟨S_, .i32⟩ : BufTy).Contents (Elt F)),
    StableHlo.unary main_while0b_v15 main_v3_2 id,
    StableHlo.unary main_while0b_v12 main_v3_3 id,
    StableHlo.unary main_while0b_v13 main_v3_4 id,
    StableHlo.unary main_while0b_v14 main_v3_5 id ]

/-- They touch buffers of the TensorCore only. -/
theorem fwd5_sub : (fwd5 : List (HloOp τ sig (Elt F))).Forall fun op => op.bufs ⊆ StableHlo.tcRefs τ sig :=
  ⟨StableHlo.nullary_bufs_sub .., StableHlo.binary_bufs_sub .., StableHlo.unary_bufs_sub .., StableHlo.unary_bufs_sub .., StableHlo.unary_bufs_sub .., StableHlo.unary_bufs_sub ..⟩

/-- They allocate nothing. -/
theorem fwd5_fresh : (fwd5 : List (HloOp τ sig (Elt F))).Forall fun op => op.fresh = ∅ :=
  StableHlo.forall_fresh_of_map rfl

/-- The buffers they write. -/
abbrev fwd5_W : List (Ref sig .tc) := [main_while0b_c_12, main_while0b_v15, main_v3_2, main_v3_3, main_v3_4, main_v3_5]

/-- They write those only. -/
theorem fwd5_writes : (fwd5 : List (HloOp τ sig (Elt F))).Forall fun op => op.writes ⊆ (fwd5_W.map (Proc.devRef (τ := τ) .tc)).toFinset :=
  StableHlo.forall_writes_sub_of_map rfl

/-- Every other buffer keeps its contents. -/
theorem fwd5_keeps (V : Valuation τ sig (Elt F)) (r : Ref sig .tc) (h : r ∉ fwd5_W) :
    after fwd5 V (Proc.devRef .tc r) = V (Proc.devRef .tc r) := after_of_writes_sub fwd5 V fwd5_writes h

/-- The row: `8192 - k - 1`. -/
abbrev bwd0 : List (HloOp τ sig (Elt F)) :=
  [ StableHlo.nullary main_while1b_c_13 (constantI S_ 32 8192#32),
    StableHlo.binary main_while1b_c_13 main_v8_3 main_while1b_v9 (subi : (⟨S_, .i32⟩ : BufTy).Contents (Elt F) → (⟨S_, .i32⟩ : BufTy).Contents (Elt F) → (⟨S_, .i32⟩ : BufTy).Contents (Elt F)),
    StableHlo.nullary main_while1b_c_14 (constantI S_ 32 1#32),
    StableHlo.binary main_while1b_v9 main_while1b_c_14 main_while1b_v10 (subi : (⟨S_, .i32⟩ : BufTy).Contents (Elt F) → (⟨S_, .i32⟩ : BufTy).Contents (Elt F) → (⟨S_, .i32⟩ : BufTy).Contents (Elt F)) ]

/-- They touch buffers of the TensorCore only. -/
theorem bwd0_sub : (bwd0 : List (HloOp τ sig (Elt F))).Forall fun op => op.bufs ⊆ StableHlo.tcRefs τ sig :=
  ⟨StableHlo.nullary_bufs_sub .., StableHlo.binary_bufs_sub .., StableHlo.nullary_bufs_sub .., StableHlo.binary_bufs_sub ..⟩

/-- They allocate nothing. -/
theorem bwd0_fresh : (bwd0 : List (HloOp τ sig (Elt F))).Forall fun op => op.fresh = ∅ :=
  StableHlo.forall_fresh_of_map rfl

/-- The buffers they write. -/
abbrev bwd0_W : List (Ref sig .tc) := [main_while1b_c_13, main_while1b_v9, main_while1b_c_14, main_while1b_v10]

/-- They write those only. -/
theorem bwd0_writes : (bwd0 : List (HloOp τ sig (Elt F))).Forall fun op => op.writes ⊆ (bwd0_W.map (Proc.devRef (τ := τ) .tc)).toFinset :=
  StableHlo.forall_writes_sub_of_map rfl

/-- Every other buffer keeps its contents. -/
theorem bwd0_keeps (V : Valuation τ sig (Elt F)) (r : Ref sig .tc) (h : r ∉ bwd0_W) :
    after bwd0 V (Proc.devRef .tc r) = V (Proc.devRef .tc r) := after_of_writes_sub bwd0 V bwd0_writes h

/-- That row of the cotangents. -/
abbrev bwd1 : List (HloOp τ sig (Elt F)) :=
  [ StableHlo.TRef.nullary (.of main_while1b_call4_c : StableHlo.TRef sig ⟨S_, .i32⟩) (constantI S_ 32 0#32),
    StableHlo.TRef.unaryIndexed (.of main_v8_0 : StableHlo.TRef sig ⟨S8192x512, .f32⟩) ![(.of main_while1b_v10 : StableHlo.TRef sig ⟨S_, .i32⟩), (.of main_while1b_call4_c : StableHlo.TRef sig ⟨S_, .i32⟩)] (.of main_while1b_call4_v0 : StableHlo.TRef sig ⟨S1x512, .f32⟩) (fun x i => Host.dynamicSlice S1x512 x (fun k => (i k (Shape.Idx.first h_S_)).toInt) sliceFits_S8192x512_S1x512),
    StableHlo.TRef.reshape (.of main_while1b_call4_v0 : StableHlo.TRef sig ⟨S1x512, .f32⟩) (.of main_while1b_v11 : StableHlo.TRef sig ⟨S512, .f32⟩) (rfl : (.f32 : EltTy) = .f32) shapeCasts_S1x512_S512 ]

/-- They touch buffers of the TensorCore only. -/
theorem bwd1_sub : (bwd1 : List (HloOp τ sig (Elt F))).Forall fun op => op.bufs ⊆ StableHlo.tcRefs τ sig :=
  ⟨StableHlo.nullary_bufs_sub .., StableHlo.unaryIndexed_bufs_sub .., StableHlo.reshape_bufs_sub ..⟩

/-- They allocate nothing. -/
theorem bwd1_fresh : (bwd1 : List (HloOp τ sig (Elt F))).Forall fun op => op.fresh = ∅ :=
  StableHlo.forall_fresh_of_map rfl

/-- The buffers they write. -/
abbrev bwd1_W : List (Ref sig .tc) := [main_while1b_call4_c, main_while1b_call4_v0, main_while1b_v11]

/-- They write those only. -/
theorem bwd1_writes : (bwd1 : List (HloOp τ sig (Elt F))).Forall fun op => op.writes ⊆ (bwd1_W.map (Proc.devRef (τ := τ) .tc)).toFinset :=
  StableHlo.forall_writes_sub_of_map rfl

/-- Every other buffer keeps its contents. -/
theorem bwd1_keeps (V : Valuation τ sig (Elt F)) (r : Ref sig .tc) (h : r ∉ bwd1_W) :
    after bwd1 V (Proc.devRef .tc r) = V (Proc.devRef .tc r) := after_of_writes_sub bwd1 V bwd1_writes h

/-- That row of the saved states. -/
abbrev bwd2 : List (HloOp τ sig (Elt F)) :=
  [ StableHlo.TRef.nullary (.of main_while1b_call5_c : StableHlo.TRef sig ⟨S_, .i32⟩) (constantI S_ 32 0#32),
    StableHlo.TRef.unaryIndexed (.of main_v8_1 : StableHlo.TRef sig ⟨S8192x512, .f32⟩) ![(.of main_while1b_v10 : StableHlo.TRef sig ⟨S_, .i32⟩), (.of main_while1b_call5_c : StableHlo.TRef sig ⟨S_, .i32⟩)] (.of main_while1b_call5_v0 : StableHlo.TRef sig ⟨S1x512, .f32⟩) (fun x i => Host.dynamicSlice S1x512 x (fun k => (i k (Shape.Idx.first h_S_)).toInt) sliceFits_S8192x512_S1x512),
    StableHlo.TRef.reshape (.of main_while1b_call5_v0 : StableHlo.TRef sig ⟨S1x512, .f32⟩) (.of main_while1b_v12 : StableHlo.TRef sig ⟨S512, .f32⟩) (rfl : (.f32 : EltTy) = .f32) shapeCasts_S1x512_S512 ]

/-- They touch buffers of the TensorCore only. -/
theorem bwd2_sub : (bwd2 : List (HloOp τ sig (Elt F))).Forall fun op => op.bufs ⊆ StableHlo.tcRefs τ sig :=
  ⟨StableHlo.nullary_bufs_sub .., StableHlo.unaryIndexed_bufs_sub .., StableHlo.reshape_bufs_sub ..⟩

/-- They allocate nothing. -/
theorem bwd2_fresh : (bwd2 : List (HloOp τ sig (Elt F))).Forall fun op => op.fresh = ∅ :=
  StableHlo.forall_fresh_of_map rfl

/-- The buffers they write. -/
abbrev bwd2_W : List (Ref sig .tc) := [main_while1b_call5_c, main_while1b_call5_v0, main_while1b_v12]

/-- They write those only. -/
theorem bwd2_writes : (bwd2 : List (HloOp τ sig (Elt F))).Forall fun op => op.writes ⊆ (bwd2_W.map (Proc.devRef (τ := τ) .tc)).toFinset :=
  StableHlo.forall_writes_sub_of_map rfl

/-- Every other buffer keeps its contents. -/
theorem bwd2_keeps (V : Valuation τ sig (Elt F)) (r : Ref sig .tc) (h : r ∉ bwd2_W) :
    after bwd2 V (Proc.devRef .tc r) = V (Proc.devRef .tc r) := after_of_writes_sub bwd2 V bwd2_writes h

/-- That row of the coefficients. -/
abbrev bwd3 : List (HloOp τ sig (Elt F)) :=
  [ StableHlo.TRef.nullary (.of main_while1b_call6_c : StableHlo.TRef sig ⟨S_, .i32⟩) (constantI S_ 32 0#32),
    StableHlo.TRef.unaryIndexed (.of main_v8_2 : StableHlo.TRef sig ⟨S8192x512, .f32⟩) ![(.of main_while1b_v10 : StableHlo.TRef sig ⟨S_, .i32⟩), (.of main_while1b_call6_c : StableHlo.TRef sig ⟨S_, .i32⟩)] (.of main_while1b_call6_v0 : StableHlo.TRef sig ⟨S1x512, .f32⟩) (fun x i => Host.dynamicSlice S1x512 x (fun k => (i k (Shape.Idx.first h_S_)).toInt) sliceFits_S8192x512_S1x512),
    StableHlo.TRef.reshape (.of main_while1b_call6_v0 : StableHlo.TRef sig ⟨S1x512, .f32⟩) (.of main_while1b_v13 : StableHlo.TRef sig ⟨S512, .f32⟩) (rfl : (.f32 : EltTy) = .f32) shapeCasts_S1x512_S512 ]

/-- They touch buffers of the TensorCore only. -/
theorem bwd3_sub : (bwd3 : List (HloOp τ sig (Elt F))).Forall fun op => op.bufs ⊆ StableHlo.tcRefs τ sig :=
  ⟨StableHlo.nullary_bufs_sub .., StableHlo.unaryIndexed_bufs_sub .., StableHlo.reshape_bufs_sub ..⟩

/-- They allocate nothing. -/
theorem bwd3_fresh : (bwd3 : List (HloOp τ sig (Elt F))).Forall fun op => op.fresh = ∅ :=
  StableHlo.forall_fresh_of_map rfl

/-- The buffers they write. -/
abbrev bwd3_W : List (Ref sig .tc) := [main_while1b_call6_c, main_while1b_call6_v0, main_while1b_v13]

/-- They write those only. -/
theorem bwd3_writes : (bwd3 : List (HloOp τ sig (Elt F))).Forall fun op => op.writes ⊆ (bwd3_W.map (Proc.devRef (τ := τ) .tc)).toFinset :=
  StableHlo.forall_writes_sub_of_map rfl

/-- Every other buffer keeps its contents. -/
theorem bwd3_keeps (V : Valuation τ sig (Elt F)) (r : Ref sig .tc) (h : r ∉ bwd3_W) :
    after bwd3 V (Proc.devRef .tc r) = V (Proc.devRef .tc r) := after_of_writes_sub bwd3 V bwd3_writes h

/-- The row's gradients. -/
abbrev bwd4 : List (HloOp τ sig (Elt F)) :=
  [ StableHlo.binary main_v8_4 main_while1b_v11 main_while1b_v14 (addf : (⟨S512, .f32⟩ : BufTy).Contents (Elt F) → (⟨S512, .f32⟩ : BufTy).Contents (Elt F) → (⟨S512, .f32⟩ : BufTy).Contents (Elt F)),
    StableHlo.binary main_while1b_v13 main_while1b_v14 main_while1b_v15 (mulf : (⟨S512, .f32⟩ : BufTy).Contents (Elt F) → (⟨S512, .f32⟩ : BufTy).Contents (Elt F) → (⟨S512, .f32⟩ : BufTy).Contents (Elt F)),
    StableHlo.binary main_while1b_v14 main_while1b_v12 main_while1b_v16 (mulf : (⟨S512, .f32⟩ : BufTy).Contents (Elt F) → (⟨S512, .f32⟩ : BufTy).Contents (Elt F) → (⟨S512, .f32⟩ : BufTy).Contents (Elt F)) ]

/-- They touch buffers of the TensorCore only. -/
theorem bwd4_sub : (bwd4 : List (HloOp τ sig (Elt F))).Forall fun op => op.bufs ⊆ StableHlo.tcRefs τ sig :=
  ⟨StableHlo.binary_bufs_sub .., StableHlo.binary_bufs_sub .., StableHlo.binary_bufs_sub ..⟩

/-- They allocate nothing. -/
theorem bwd4_fresh : (bwd4 : List (HloOp τ sig (Elt F))).Forall fun op => op.fresh = ∅ :=
  StableHlo.forall_fresh_of_map rfl

/-- The buffers they write. -/
abbrev bwd4_W : List (Ref sig .tc) := [main_while1b_v14, main_while1b_v15, main_while1b_v16]

/-- They write those only. -/
theorem bwd4_writes : (bwd4 : List (HloOp τ sig (Elt F))).Forall fun op => op.writes ⊆ (bwd4_W.map (Proc.devRef (τ := τ) .tc)).toFinset :=
  StableHlo.forall_writes_sub_of_map rfl

/-- Every other buffer keeps its contents. -/
theorem bwd4_keeps (V : Valuation τ sig (Elt F)) (r : Ref sig .tc) (h : r ∉ bwd4_W) :
    after bwd4 V (Proc.devRef .tc r) = V (Proc.devRef .tc r) := after_of_writes_sub bwd4 V bwd4_writes h

/-- The coefficient's gradient goes to its row. -/
abbrev bwd5 : List (HloOp τ sig (Elt F)) :=
  [ StableHlo.TRef.unary (.of main_while1b_v16 : StableHlo.TRef sig ⟨S512, .f32⟩) (.of main_while1b_call7_v0 : StableHlo.TRef sig ⟨S1x512, .f32⟩) (broadcastInDim S1x512 ![1] bcast_S512_S1x512_1),
    StableHlo.TRef.nullary (.of main_while1b_call7_c : StableHlo.TRef sig ⟨S_, .i32⟩) (constantI S_ 32 0#32),
    StableHlo.TRef.binaryIndexed (.of main_v8_5 : StableHlo.TRef sig ⟨S8192x512, .f32⟩) (.of main_while1b_call7_v0 : StableHlo.TRef sig ⟨S1x512, .f32⟩) ![(.of main_while1b_v10 : StableHlo.TRef sig ⟨S_, .i32⟩), (.of main_while1b_call7_c : StableHlo.TRef sig ⟨S_, .i32⟩)] (.of main_while1b_v17 : StableHlo.TRef sig ⟨S8192x512, .f32⟩) (fun x u i => Host.dynamicUpdateSlice x u (fun k => (i k (Shape.Idx.first h_S_)).toInt) updateFits_S8192x512_S1x512) ]

/-- They touch buffers of the TensorCore only. -/
theorem bwd5_sub : (bwd5 : List (HloOp τ sig (Elt F))).Forall fun op => op.bufs ⊆ StableHlo.tcRefs τ sig :=
  ⟨StableHlo.unary_bufs_sub .., StableHlo.nullary_bufs_sub .., StableHlo.binaryIndexed_bufs_sub ..⟩

/-- They allocate nothing. -/
theorem bwd5_fresh : (bwd5 : List (HloOp τ sig (Elt F))).Forall fun op => op.fresh = ∅ :=
  StableHlo.forall_fresh_of_map rfl

/-- The buffers they write. -/
abbrev bwd5_W : List (Ref sig .tc) := [main_while1b_call7_v0, main_while1b_call7_c, main_while1b_v17]

/-- They write those only. -/
theorem bwd5_writes : (bwd5 : List (HloOp τ sig (Elt F))).Forall fun op => op.writes ⊆ (bwd5_W.map (Proc.devRef (τ := τ) .tc)).toFinset :=
  StableHlo.forall_writes_sub_of_map rfl

/-- Every other buffer keeps its contents. -/
theorem bwd5_keeps (V : Valuation τ sig (Elt F)) (r : Ref sig .tc) (h : r ∉ bwd5_W) :
    after bwd5 V (Proc.devRef .tc r) = V (Proc.devRef .tc r) := after_of_writes_sub bwd5 V bwd5_writes h

/-- The input's gradient goes to its row. -/
abbrev bwd6 : List (HloOp τ sig (Elt F)) :=
  [ StableHlo.TRef.unary (.of main_while1b_v14 : StableHlo.TRef sig ⟨S512, .f32⟩) (.of main_while1b_call8_v0 : StableHlo.TRef sig ⟨S1x512, .f32⟩) (broadcastInDim S1x512 ![1] bcast_S512_S1x512_1),
    StableHlo.TRef.nullary (.of main_while1b_call8_c : StableHlo.TRef sig ⟨S_, .i32⟩) (constantI S_ 32 0#32),
    StableHlo.TRef.binaryIndexed (.of main_v8_6 : StableHlo.TRef sig ⟨S8192x512, .f32⟩) (.of main_while1b_call8_v0 : StableHlo.TRef sig ⟨S1x512, .f32⟩) ![(.of main_while1b_v10 : StableHlo.TRef sig ⟨S_, .i32⟩), (.of main_while1b_call8_c : StableHlo.TRef sig ⟨S_, .i32⟩)] (.of main_while1b_v18 : StableHlo.TRef sig ⟨S8192x512, .f32⟩) (fun x u i => Host.dynamicUpdateSlice x u (fun k => (i k (Shape.Idx.first h_S_)).toInt) updateFits_S8192x512_S1x512) ]

/-- They touch buffers of the TensorCore only. -/
theorem bwd6_sub : (bwd6 : List (HloOp τ sig (Elt F))).Forall fun op => op.bufs ⊆ StableHlo.tcRefs τ sig :=
  ⟨StableHlo.unary_bufs_sub .., StableHlo.nullary_bufs_sub .., StableHlo.binaryIndexed_bufs_sub ..⟩

/-- They allocate nothing. -/
theorem bwd6_fresh : (bwd6 : List (HloOp τ sig (Elt F))).Forall fun op => op.fresh = ∅ :=
  StableHlo.forall_fresh_of_map rfl

/-- The buffers they write. -/
abbrev bwd6_W : List (Ref sig .tc) := [main_while1b_call8_v0, main_while1b_call8_c, main_while1b_v18]

/-- They write those only. -/
theorem bwd6_writes : (bwd6 : List (HloOp τ sig (Elt F))).Forall fun op => op.writes ⊆ (bwd6_W.map (Proc.devRef (τ := τ) .tc)).toFinset :=
  StableHlo.forall_writes_sub_of_map rfl

/-- Every other buffer keeps its contents. -/
theorem bwd6_keeps (V : Valuation τ sig (Elt F)) (r : Ref sig .tc) (h : r ∉ bwd6_W) :
    after bwd6 V (Proc.devRef .tc r) = V (Proc.devRef .tc r) := after_of_writes_sub bwd6 V bwd6_writes h

/-- The counter, and what the next trip starts from. -/
abbrev bwd7 : List (HloOp τ sig (Elt F)) :=
  [ StableHlo.nullary main_while1b_c_15 (constantI S_ 32 1#32),
    StableHlo.binary main_v8_3 main_while1b_c_15 main_while1b_v19 (addi : (⟨S_, .i32⟩ : BufTy).Contents (Elt F) → (⟨S_, .i32⟩ : BufTy).Contents (Elt F) → (⟨S_, .i32⟩ : BufTy).Contents (Elt F)),
    StableHlo.unary main_while1b_v19 main_v8_3 id,
    StableHlo.unary main_while1b_v15 main_v8_4 id,
    StableHlo.unary main_while1b_v17 main_v8_5 id,
    StableHlo.unary main_while1b_v18 main_v8_6 id ]

/-- They touch buffers of the TensorCore only. -/
theorem bwd7_sub : (bwd7 : List (HloOp τ sig (Elt F))).Forall fun op => op.bufs ⊆ StableHlo.tcRefs τ sig :=
  ⟨StableHlo.nullary_bufs_sub .., StableHlo.binary_bufs_sub .., StableHlo.unary_bufs_sub .., StableHlo.unary_bufs_sub .., StableHlo.unary_bufs_sub .., StableHlo.unary_bufs_sub ..⟩

/-- They allocate nothing. -/
theorem bwd7_fresh : (bwd7 : List (HloOp τ sig (Elt F))).Forall fun op => op.fresh = ∅ :=
  StableHlo.forall_fresh_of_map rfl

/-- The buffers they write. -/
abbrev bwd7_W : List (Ref sig .tc) := [main_while1b_c_15, main_while1b_v19, main_v8_3, main_v8_4, main_v8_5, main_v8_6]

/-- They write those only. -/
theorem bwd7_writes : (bwd7 : List (HloOp τ sig (Elt F))).Forall fun op => op.writes ⊆ (bwd7_W.map (Proc.devRef (τ := τ) .tc)).toFinset :=
  StableHlo.forall_writes_sub_of_map rfl

/-- Every other buffer keeps its contents. -/
theorem bwd7_keeps (V : Valuation τ sig (Elt F)) (r : Ref sig .tc) (h : r ∉ bwd7_W) :
    after bwd7 V (Proc.devRef .tc r) = V (Proc.devRef .tc r) := after_of_writes_sub bwd7 V bwd7_writes h

/-- The program is its chain: the start, the first loop, the turn, the second loop. -/
theorem program_chain (c : Dev nD) : main (F := F) c = (Pipeline.chain
  [ StableHlo.seq startOps, HostLoop.enter 0, StableHlo.seq turnOps, HostLoop.enter 1 ] : Prog (TpuEff nD τ sig (Elt F) (HostLoop.Sig (Pipeline.Sig Λ₀ (Fin 0) fun p => (pcfgs (F := F) p).Adm) 2) .tc) PUnit) := by
  rewrite [StableHlo.chain_seq_cons, Pipeline.chain_cons, StableHlo.chain_seq_cons, Pipeline.chain_cons]
  chain_rfl

/-- The first loop's body, stretch by stretch. -/
abbrev body0 : List (List (HloOp τ sig (Elt F))) := [fwd0, fwd1, fwd2, fwd3, fwd4, fwd5]

/-- No stretch allocates. -/
theorem body0_plain : Plain (body0 (F := F)) :=
  Plain.cons fwd0_sub (hf := List.forall_iff_forall_mem.mp fwd0_fresh) <|
  Plain.cons fwd1_sub (hf := List.forall_iff_forall_mem.mp fwd1_fresh) <|
  Plain.cons fwd2_sub (hf := List.forall_iff_forall_mem.mp fwd2_fresh) <|
  Plain.cons fwd3_sub (hf := List.forall_iff_forall_mem.mp fwd3_fresh) <|
  Plain.cons fwd4_sub (hf := List.forall_iff_forall_mem.mp fwd4_fresh) <|
  Plain.cons fwd5_sub (hf := List.forall_iff_forall_mem.mp fwd5_fresh) <|
  .nil

/-- The first loop's body is the chain of its stretches. -/
theorem body0_chain : main_while0_body (F := F) = (Pipeline.chain (body0.map fun ops => (StableHlo.seq ops : Prog (TpuEff nD τ sig (Elt F) (HostLoop.Sig (Pipeline.Sig Λ₀ (Fin 0) fun p => (pcfgs (F := F) p).Adm) 2) .tc) PUnit))) := by
  show _ = (Pipeline.chain [ StableHlo.seq fwd0, StableHlo.seq fwd1, StableHlo.seq fwd2, StableHlo.seq fwd3, StableHlo.seq fwd4, StableHlo.seq fwd5 ] : Prog (TpuEff nD τ sig (Elt F) (HostLoop.Sig (Pipeline.Sig Λ₀ (Fin 0) fun p => (pcfgs (F := F) p).Adm) 2) .tc) PUnit)
  rewrite [Pipeline.chain_cons, Pipeline.chain_cons, StableHlo.chain_seq_cons, Pipeline.chain_cons, Pipeline.chain_cons, StableHlo.chain_seq_cons]
  chain_rfl

/-- The second loop's body, stretch by stretch. -/
abbrev body1 : List (List (HloOp τ sig (Elt F))) := [bwd0, bwd1, bwd2, bwd3, bwd4, bwd5, bwd6, bwd7]

/-- No stretch allocates. -/
theorem body1_plain : Plain (body1 (F := F)) :=
  Plain.cons bwd0_sub (hf := List.forall_iff_forall_mem.mp bwd0_fresh) <|
  Plain.cons bwd1_sub (hf := List.forall_iff_forall_mem.mp bwd1_fresh) <|
  Plain.cons bwd2_sub (hf := List.forall_iff_forall_mem.mp bwd2_fresh) <|
  Plain.cons bwd3_sub (hf := List.forall_iff_forall_mem.mp bwd3_fresh) <|
  Plain.cons bwd4_sub (hf := List.forall_iff_forall_mem.mp bwd4_fresh) <|
  Plain.cons bwd5_sub (hf := List.forall_iff_forall_mem.mp bwd5_fresh) <|
  Plain.cons bwd6_sub (hf := List.forall_iff_forall_mem.mp bwd6_fresh) <|
  Plain.cons bwd7_sub (hf := List.forall_iff_forall_mem.mp bwd7_fresh) <|
  .nil

/-- The second loop's body is the chain of its stretches. -/
theorem body1_chain : main_while1_body (F := F) = (Pipeline.chain (body1.map fun ops => (StableHlo.seq ops : Prog (TpuEff nD τ sig (Elt F) (HostLoop.Sig (Pipeline.Sig Λ₀ (Fin 0) fun p => (pcfgs (F := F) p).Adm) 2) .tc) PUnit))) := by
  show _ = (Pipeline.chain [ StableHlo.seq bwd0, StableHlo.seq bwd1, StableHlo.seq bwd2, StableHlo.seq bwd3, StableHlo.seq bwd4, StableHlo.seq bwd5, StableHlo.seq bwd6, StableHlo.seq bwd7 ] : Prog (TpuEff nD τ sig (Elt F) (HostLoop.Sig (Pipeline.Sig Λ₀ (Fin 0) fun p => (pcfgs (F := F) p).Adm) 2) .tc) PUnit)
  rewrite [StableHlo.chain_seq_cons, Pipeline.chain_cons, Pipeline.chain_cons, Pipeline.chain_cons, StableHlo.chain_seq_cons, Pipeline.chain_cons, Pipeline.chain_cons, StableHlo.chain_seq_cons]
  chain_rfl

end Cert.ReferenceIdeal.Plainly

end
-- ==== Proof.RefRun.lean ====
/- The plain recurrence with its gradient, run: both loops' conditions hold for 8192 trips, and every run ends with every
   buffer at the contents that the stretches of operations make, one after the other. -/
module

public import proofs.«01_k».proof.Proof.RefOps

@[expose] public section

set_option maxRecDepth 16384

noncomputable section

namespace Cert.ReferenceIdeal.Plainly

open Idealize.ShloMosaic Idealize.ShloMosaic.TcCoe Idealize.ShloMosaic.StableHlo
open Idealize.ShloMosaic.Pipeline (ucRefs sub_ucRefs)
open Cert.ReferenceIdeal Cert.ReferenceIdeal.Gen
open Idealize.SL Idealize.SL.RA Idealize.SL.BI Idealize.SL.Sem
open scoped Idealize.SL.BI
open Idealize.SL.BI.BIBase

variable {F : FTy → Type} [FloatOps F]
variable (m : (ℓ : Loc nD τ sig) → Buf (Elt F) ℓ)

local notation "𝕄" => MT nD τ sig Unit (Elt F) ℕ (Option PUnit) ℕ

/-- The contents at launch, at the first loop's entry, before its trip `k`, at its exit, at the second loop's entry, before
    its trip `k`, and at the end. -/
abbrev atLaunch (c : Dev nD) : Valuation τ sig (Elt F) := launchContents m c
abbrev entry0 (c : Dev nD) : Valuation τ sig (Elt F) := after startOps (atLaunch m c)
abbrev trip0 (k : ℕ) (c : Dev nD) : Valuation τ sig (Elt F) := atTrip testOps0 body0 (entry0 m) k c
abbrev exit0 (c : Dev nD) : Valuation τ sig (Elt F) := after testOps0 (trip0 m 8192 c)
abbrev entry1 (c : Dev nD) : Valuation τ sig (Elt F) := after turnOps (exit0 m c)
abbrev trip1 (k : ℕ) (c : Dev nD) : Valuation τ sig (Elt F) := atTrip testOps1 body1 (entry1 m) k c
abbrev atEnd (c : Dev nD) : Valuation τ sig (Elt F) := after testOps1 (trip1 m 8192 c)

/-! ## The first loop's counter and condition -/

/-- A trip of the first loop counts one on. -/
theorem counts0 (X : Valuation τ sig (Elt F)) :
    after fwd5 X (Proc.devRef .tc main_v3_2) = addi (X (Proc.devRef .tc main_v3_2)) (constantI S_ 32 1#32) := by
  after_results
  rfl

/-- It starts from 0. -/
theorem starts0 (V : Valuation τ sig (Elt F)) : after startOps V (Proc.devRef .tc main_v3_2) = fun _ => (0#32 : BitVec 32) := by
  after_results
  rfl

/-- Before trip `k` the counter is at `k`. -/
theorem counter0 (c : Dev nD) : ∀ k, trip0 m k c (Proc.devRef .tc main_v3_2) = fun _ => Scf.iv 0#32 1#32 k
  | 0 => by exact (starts0 (atLaunch m c)).trans (by rw [Scf.iv_zero])
  | k + 1 => by
    rw [show trip0 m (k + 1) c = afterL body0 (after testOps0 (trip0 m k c)) from rfl]
    simp only [afterL_cons, afterL_nil]
    rw [counts0, fwd4_keeps _ _ (by decide), fwd3_keeps _ _ (by decide), fwd2_keeps _ _ (by decide), fwd1_keeps _ _ (by decide), fwd0_keeps _ _ (by decide), testOps0_keeps _ _ (by decide), counter0 c k, Scf.iv_succ]
    rfl

set_option backward.isDefEq.respectTransparency.types false in
/-- The first loop goes on exactly while `k < 8192`. -/
theorem goes_on0 (R : Dev nD → sProp 𝕄) :
    LoopCond (pcfgs (F := F)) defs₀ Variants.none loops R (main_while0_cond (F := F)) testOps0 body0 (entry0 m) 8192 := by
  intro k hk c bd
  have hctr := counter0 m c k
  unfold main_while0_cond
  rw [wp_bind]
  iintro ⟨Hb, Hh, HR⟩
  iapply (wp_hlo_within (Variants.lift Variants.none) (c : Thread nD τ) bd Set.univ (sub_ucRefs _ (nullary_bufs_sub ..))) $$ [Hb Hh]
  · isplitl [Hb]; · iexact Hb
    iexact Hh
  iintro ⟨Hb, Hh⟩
  rw [wp_ret]; imodintro
  iapply (wp_hlo_within (Variants.lift Variants.none) (c : Thread nD τ) bd Set.univ (sub_ucRefs _ (binary_bufs_sub ..))) $$ [Hb Hh]
  · isplitl [Hb]; · iexact Hb
    iexact Hh
  iintro ⟨Hb, Hh⟩
  rw [HostLoop.elt_apply, wp_ret]; imodintro
  isplitr
  · ipureintro
    show Iff (IntOp.cmpi .slt (HloOp.result _ (trip0 m k c) main_v3_2 HostLoop.idx0)
        (HloOp.result _ (trip0 m k c) main_while0c_c_12 HostLoop.idx0) = 1#1) (k < 8192)
    rw [nullary_result_ne _ _ _ _ (by decide), nullary_result, hctr]
    exact Scf.cmpi_slt_iv_ub_iff (lb := 0#32) (ub := 8192#32) (st := 1#32) (by decide) (show k ≤ Scf.trips 0#32 8192#32 1#32 from hk)
  isplitl [Hb]; · iexact Hb
  isplitl [Hh]; · rw [after_cons, after_cons, after_nil]; iexact Hh
  iexact HR

/-! ## The second loop's counter and condition -/

/-- A trip of the second loop counts one on. -/
theorem counts1 (X : Valuation τ sig (Elt F)) :
    after bwd7 X (Proc.devRef .tc main_v8_3) = addi (X (Proc.devRef .tc main_v8_3)) (constantI S_ 32 1#32) := by
  after_results
  rfl

/-- It starts from 0. -/
theorem starts1 (V : Valuation τ sig (Elt F)) : after turnOps V (Proc.devRef .tc main_v8_3) = fun _ => (0#32 : BitVec 32) := by
  after_results
  rfl

/-- Before trip `k` the counter is at `k`. -/
theorem counter1 (c : Dev nD) : ∀ k, trip1 m k c (Proc.devRef .tc main_v8_3) = fun _ => Scf.iv 0#32 1#32 k
  | 0 => by exact (starts1 (exit0 m c)).trans (by rw [Scf.iv_zero])
  | k + 1 => by
    rw [show trip1 m (k + 1) c = afterL body1 (after testOps1 (trip1 m k c)) from rfl]
    simp only [afterL_cons, afterL_nil]
    rw [counts1, bwd6_keeps _ _ (by decide), bwd5_keeps _ _ (by decide), bwd4_keeps _ _ (by decide), bwd3_keeps _ _ (by decide), bwd2_keeps _ _ (by decide), bwd1_keeps _ _ (by decide), bwd0_keeps _ _ (by decide), testOps1_keeps _ _ (by decide), counter1 c k, Scf.iv_succ]
    rfl

set_option backward.isDefEq.respectTransparency.types false in
/-- The second loop goes on exactly while `k < 8192`. -/
theorem goes_on1 (R : Dev nD → sProp 𝕄) :
    LoopCond (pcfgs (F := F)) defs₀ Variants.none loops R (main_while1_cond (F := F)) testOps1 body1 (entry1 m) 8192 := by
  intro k hk c bd
  have hctr := counter1 m c k
  unfold main_while1_cond
  rw [wp_bind]
  iintro ⟨Hb, Hh, HR⟩
  iapply (wp_hlo_within (Variants.lift Variants.none) (c : Thread nD τ) bd Set.univ (sub_ucRefs _ (nullary_bufs_sub ..))) $$ [Hb Hh]
  · isplitl [Hb]; · iexact Hb
    iexact Hh
  iintro ⟨Hb, Hh⟩
  rw [wp_ret]; imodintro
  iapply (wp_hlo_within (Variants.lift Variants.none) (c : Thread nD τ) bd Set.univ (sub_ucRefs _ (binary_bufs_sub ..))) $$ [Hb Hh]
  · isplitl [Hb]; · iexact Hb
    iexact Hh
  iintro ⟨Hb, Hh⟩
  rw [HostLoop.elt_apply, wp_ret]; imodintro
  isplitr
  · ipureintro
    show Iff (IntOp.cmpi .slt (HloOp.result _ (trip1 m k c) main_v8_3 HostLoop.idx0)
        (HloOp.result _ (trip1 m k c) main_while1c_c_13 HostLoop.idx0) = 1#1) (k < 8192)
    rw [nullary_result_ne _ _ _ _ (by decide), nullary_result, hctr]
    exact Scf.cmpi_slt_iv_ub_iff (lb := 0#32) (ub := 8192#32) (st := 1#32) (by decide) (show k ≤ Scf.trips 0#32 8192#32 1#32 from hk)
  isplitl [Hb]; · iexact Hb
  isplitl [Hh]; · rw [after_cons, after_cons, after_nil]; iexact Hh
  iexact HR

/-! ## The run -/

/-- Beside its buffers a device owes nothing. -/
abbrev idle (c : Dev nD) : sProp 𝕄 := iprop(∃ w, owes (c : Thread nD τ) (0 : CellTallies nD τ sig Unit) w)

abbrev noCells : (p : Fin 0) → (pcfgs (F := F) p).Adm := fun p => p.elim0
abbrev noTickets : Fin 0 → Pipeline.Ticket (Ix := Unit) (Name := ℕ) (U := Option PUnit) (Lvl := ℕ) (nD := nD) (τ := τ) (pcfgs (F := F)) noCells := fun j => j.elim0
abbrev noLevels : GSem nD τ sig → Finset Unit := fun _ => ∅

abbrev Segment : Type 1 :=
  Pipeline.CSeg (Ix := Unit) (Name := ℕ) (U := Option PUnit) (Lvl := ℕ) (pcfgs (F := F)) noCells defs₀ Variants.none noLevels (fun _ _ => (0 : ℕ)) loops noTickets

abbrev startSeg : Segment (F := F) :=
  Pipeline.CSeg.ofOps _ _ _ _ _ _ _ _ (ucRefs τ sig) startOps
    (fun op h => sub_ucRefs op ((List.forall_iff_forall_mem.mp startOps_sub) op h))
    (fun op h => (List.forall_iff_forall_mem.mp startOps_fresh) op h) (atLaunch m) idle
abbrev loop0Seg : Segment (F := F) :=
  loopSeg _ _ _ _ _ _ _ _ 0 (main_while0_cond (F := F)) (main_while0_body (F := F)) rfl testOps0 body0 body0_plain
    body0_chain 8192 (entry0 m) idle (goes_on0 m idle)
abbrev turnSeg : Segment (F := F) :=
  Pipeline.CSeg.ofOps _ _ _ _ _ _ _ _ (ucRefs τ sig) turnOps
    (fun op h => sub_ucRefs op ((List.forall_iff_forall_mem.mp turnOps_sub) op h))
    (fun op h => (List.forall_iff_forall_mem.mp turnOps_fresh) op h) (exit0 m) idle
abbrev loop1Seg : Segment (F := F) :=
  loopSeg _ _ _ _ _ _ _ _ 1 (main_while1_cond (F := F)) (main_while1_body (F := F)) rfl testOps1 body1 body1_plain
    body1_chain 8192 (entry1 m) idle (goes_on1 m idle)

/-- The program's four segments. -/
abbrev segments : List (Segment (F := F)) := [startSeg m, loop0Seg m, turnSeg m, loop1Seg m]

theorem program_run (c : Dev nD) : main (F := F) c = Pipeline.CSeg.runL (segments m) := (program_chain c).trans (by chain_rfl)

theorem no_cells : Function.Injective (Pipeline.cellOf (nD := nD) (τ := τ) (Pipeline.pin (pcfgs (F := F)) noCells)) := fun p _ _ => p.1.elim0

set_option backward.isDefEq.respectTransparency.types false in
/-- Every run ends with every buffer at the last contents and every semaphore counter at zero. -/
theorem run (ρ : Dev nD → PrngReg) :
    θ_run defs (onTc (τ := τ) (main (F := F))) ⟨m, fun _ => 0, ρ⟩ (fun r =>
      (∀ (c : Dev nD), ∀ b ∈ ucRefs τ sig, r.2.mem (c, b) = atEnd m c b) ∧ r.2.sem = fun _ => 0) :=
  Pipeline.θ_run_regions_loop_kit_sems (Ix := Unit) (Name := ℕ) (U := Option PUnit) (Lvl := ℕ) (pcfgs (F := F)) noCells no_cells defs₀ Variants.none
    noLevels (fun _ _ => (0 : ℕ)) loops noTickets m ρ main (segments m)
    (fun c Q => by rw [program_run m c])
    (Pipeline.CSeg.pairwise_disjoint_of_T_empty _ fun s _ => Finset.eq_empty_of_isEmpty s.T)
    (O₀ := 0) (hL := fun _ _ => rfl) (G := fun _ => BI.emp) (u₀ := 1)
    (hu₀ := by
      iintro -; imodintro
      isplitl []
      · rw [Finset.univ_eq_empty, BI.bigSep_empty]; iempintro
      · iapply (show (BI.emp : sProp 𝕄) ⊢ bigSep Finset.univ (fun _ : Dev nD => (BI.emp : sProp 𝕄)) from by rw [BI.bigSep_emp_const])
        iempintro)
    (T₀ := fun c => iprop(held (c : Thread nD τ) (ucRefs τ sig) (atLaunch m c) ∗ idle c))
    (Tₙ := fun c => held (c : Thread nD τ) (ucRefs τ sig) (atEnd m c))
    (hch := ⟨fun _ => .rfl, fun _ => .rfl, fun _ => .rfl, fun _ => .rfl, fun _ => .rfl⟩)
    (hinit := by
      refine Pipeline.initEach noLevels (fun _ _ => (0 : ℕ)) fun c => ?_
      rw [show unscopedBufs c (fun b => m ((c : Thread nD τ).loc b)) = held (c : Thread nD τ) (ucRefs τ sig) (atLaunch m c) from Pipeline.unscopedBufs_held c (atLaunch m c)]
      iintro ⟨⟨Hh, -, HO, -, -, -⟩, -⟩
      imodintro
      isplitl [Hh]; · iexact Hh
      iexists ∅; iexact HO)
    (QY := fun c s => ∀ b ∈ ucRefs τ sig, s.mem (c, b) = atEnd m c b)
    (hfin := fun c s' => by
      unfold held
      iintro ⟨Hh, HSI⟩
      ihave Hr := (pointsTo_read_all (ucRefs τ sig) (fun b => ((c : Dev nD), b)) (fun b => atEnd m c b) s') $$ [Hh HSI]
      · isplitl [Hh] <;> iassumption
      icases Hr with ⟨%h, HSI⟩
      imodintro
      isplitr; · ipureintro; exact h
      iexact HSI)
    (hQ := fun s h hs => ⟨h, sem_eq_zero hs fun c sm hsm => by
      have hl : ∀ sm : SemLoc sig, sm.isScoped .tc = true := by decide
      rw [hl sm] at hsm; cases hsm⟩)

end Cert.ReferenceIdeal.Plainly

end
-- ==== Proof.RefValues.lean ====
/- What the plain recurrence and its gradient leave in the result arrays: row `t` of the states is the recurrence's `t`-th
   state, and the gradients' rows are those of the recurrence run back from the last row. -/
module

public import proofs.«01_k».proof.Proof.RefRun
public import Idealize.ShloMosaic.Lib.Pipeline.ValueKit
public import Idealize.ShloMosaic.Lib.StableHlo.RunClose

@[expose] public section

set_option maxRecDepth 16384

noncomputable section

namespace Cert.ReferenceIdeal.Plainly

open Idealize.ShloMosaic Idealize.ShloMosaic.TcCoe Idealize.ShloMosaic.StableHlo
open Cert.ReferenceIdeal Cert.ReferenceIdeal.Gen
open Idealize.SL.Sem

variable {F : FTy → Type} [FloatOps F]

/-! ## Rows of an array -/

abbrev Arr (F : FTy → Type) [FloatOps F] : Type := (⟨S8192x512, .f32⟩ : BufTy).Contents (Elt F)
abbrev Lane (F : FTy → Type) [FloatOps F] : Type := (⟨S512, .f32⟩ : BufTy).Contents (Elt F)
abbrev Count (F : FTy → Type) [FloatOps F] : Type := (⟨S_, .i32⟩ : BufTy).Contents (Elt F)

/-- The index of row `n`, column `l`. -/
def at2 (n : ℕ) (l : Fin 512) : S8192x512.Idx := ix2 (⟨n % 8192, Nat.mod_lt _ (by decide)⟩ : Fin 8192) l

/-- The index of column `l`. -/
def at1 (l : Fin 512) : S512.Idx := ix1 l

/-- Row `n`. -/
def row (x : Arr F) (n : ℕ) : Lane F := fun j => x (at2 n (j 0))

/-- The array with row `n` replaced. -/
def setRow (x : Arr F) (n : ℕ) (v : Lane F) : Arr F := fun j => if (j 0).val = n then v (at1 (j 1)) else x j

theorem toInt_small (n : ℕ) (hn : n < 8192) : (BitVec.ofNat 32 n).toInt = (n : ℤ) := by
  rw [BitVec.toInt_eq_toNat_of_lt (by simp; omega)]; simp; omega

/-- Where a window of one row starts. -/
theorem start_row (i : Fin 2 → Count F) (n : ℕ) (hn : n < 8192) (h0 : i 0 = fun _ => BitVec.ofNat 32 n) (h : S1x512.rank = S8192x512.rank) :
    Host.clampedStart S8192x512 S1x512 h (fun k : Fin 2 => ((i k (Shape.Idx.first h_S_) : BitVec 32)).toInt) 0 = n :=
  Host.clampedStart_of_le h _ _ n ((congrArg BitVec.toInt (congrFun h0 _)).trans (toInt_small n hn)) (show n + 1 ≤ 8192 by omega)

theorem start_lane (i : Fin 2 → Count F) (h1 : i 1 = constantI S_ 32 0#32) (h : S1x512.rank = S8192x512.rank) :
    Host.clampedStart S8192x512 S1x512 h (fun k : Fin 2 => ((i k (Shape.Idx.first h_S_) : BitVec 32)).toInt) 1 = 0 :=
  Host.clampedStart_of_le h _ _ 0 ((congrArg BitVec.toInt (congrFun h1 _)).trans (by decide)) (show 0 + 512 ≤ 512 by omega)

/-- A row read at a counter is that row. -/
theorem row_read (x : Arr F) (i : Fin 2 → Count F) (n : ℕ) (hn : n < 8192) (h0 : i 0 = fun _ => BitVec.ofNat 32 n)
    (h1 : i 1 = constantI S_ 32 0#32) (hs : S8192x512.Slices (fun _ => 0) S1x512) (hc : S1x512.ShapeCasts S512) :
    shapeCast S512 (Host.dynamicSlice S1x512 x (fun k => ((i k (Shape.Idx.first h_S_) : BitVec 32)).toInt) hs) hc = row x n := by
  funext j
  refine (shapeCast_dropUnit_apply ![512] _ hc j).trans ?_
  rw [Host.dynamicSlice_apply]
  unfold row at2
  refine congrArg x (funext fun a => Fin.ext ?_)
  fin_cases a
  · refine (congrArg (· + 0) (start_row i n hn h0 hs.1)).trans ?_
    exact (Nat.mod_eq_of_lt hn).symm
  · refine (congrArg (· + (j 0).val) (start_lane i h1 hs.1)).trans ?_
    show 0 + (j 0).val = (j 0).val
    omega

/-- A row written at a counter replaces that row. -/
theorem row_write (x : Arr F) (v : Lane F) (i : Fin 2 → Count F) (n : ℕ) (hn : n < 8192) (h0 : i 0 = fun _ => BitVec.ofNat 32 n)
    (h1 : i 1 = constantI S_ 32 0#32) (hs : S8192x512.Slices (fun _ => 0) S1x512)
    (hb : S512.BroadcastsInDim S1x512 (![1] : Fin 1 → Fin S1x512.rank)) :
    Host.dynamicUpdateSlice x (broadcastInDim S1x512 ![1] hb v) (fun k => ((i k (Shape.Idx.first h_S_) : BitVec 32)).toInt) hs = setRow x n v := by
  funext j
  rw [Host.dynamicUpdateSlice_apply]
  have e0 := start_row i n hn h0 hs.1
  have e1 := start_lane i h1 hs.1
  have hj : (j 1).val < 512 := (j 1).isLt
  unfold setRow
  by_cases h : (j 0).val = n
  · rw [if_pos h, dif_pos]
    · unfold broadcastInDim at1
      refine congrArg v (funext fun a => Fin.ext ?_)
      fin_cases a
      show (j 1).val - Host.clampedStart _ _ _ _ 1 = (j 1).val
      rw [e1]; rfl
    · intro a
      fin_cases a
      · refine ⟨le_of_eq_of_le e0 h.ge, lt_of_lt_of_eq ?_ (congrArg (· + 1) e0).symm⟩
        show (j 0).val < n + 1
        omega
      · refine ⟨le_of_eq_of_le e1 (Nat.zero_le _), lt_of_lt_of_eq ?_ (congrArg (· + 512) e1).symm⟩
        show (j 1).val < 0 + 512
        omega
  · rw [if_neg h, dif_neg]
    intro hin
    have h0' := hin 0
    have e2 : Host.clampedStart S8192x512 S1x512 hs.1 (fun k : Fin 2 => ((i k (Shape.Idx.first h_S_) : BitVec 32)).toInt) 0 + 1 = n + 1 := by rw [e0]
    exact h (Nat.le_antisymm (Nat.lt_succ_iff.mp (lt_of_lt_of_eq h0'.2 e2)) (le_of_eq_of_le e0.symm h0'.1))

/-! ## One stretch's values -/

section Stretches

variable (X : Valuation τ sig (Elt F)) (n : ℕ)

theorem fwd0_reads (hn : n < 8192) (h : X (Proc.devRef .tc main_v3_2) = fun _ => BitVec.ofNat 32 n) :
    after fwd0 X (Proc.devRef .tc main_while0b_v9) = row (X (Proc.devRef .tc main_v3_0)) n := by
  refine Eq.trans ?_ (row_read (X (Proc.devRef .tc main_v3_0)) ![X (Proc.devRef .tc main_v3_2), constantI S_ 32 0#32] n hn ((Matrix.cons_val_zero _ _).trans h) (by rfl)
    sliceFits_S8192x512_S1x512 shapeCasts_S1x512_S512)
  after_results_entrywise [cast_eq]

theorem fwd1_reads (hn : n < 8192) (h : X (Proc.devRef .tc main_v3_2) = fun _ => BitVec.ofNat 32 n) :
    after fwd1 X (Proc.devRef .tc main_while0b_v10) = row (X (Proc.devRef .tc main_v3_1)) n := by
  refine Eq.trans ?_ (row_read (X (Proc.devRef .tc main_v3_1)) ![X (Proc.devRef .tc main_v3_2), constantI S_ 32 0#32] n hn ((Matrix.cons_val_zero _ _).trans h) (by rfl)
    sliceFits_S8192x512_S1x512 shapeCasts_S1x512_S512)
  after_results_entrywise [cast_eq]

theorem fwd2_state : after fwd2 X (Proc.devRef .tc main_while0b_v12) = (addf (mulf (X (Proc.devRef .tc main_while0b_v9)) (X (Proc.devRef .tc main_v3_3)) : Lane F) (X (Proc.devRef .tc main_while0b_v10)) : Lane F) := by
  after_results

theorem fwd3_writes_row (hn : n < 8192) (h : X (Proc.devRef .tc main_v3_2) = fun _ => BitVec.ofNat 32 n) :
    after fwd3 X (Proc.devRef .tc main_while0b_v13) = setRow (X (Proc.devRef .tc main_v3_4)) n (X (Proc.devRef .tc main_while0b_v12)) := by
  refine Eq.trans ?_ (row_write (X (Proc.devRef .tc main_v3_4)) (X (Proc.devRef .tc main_while0b_v12)) ![X (Proc.devRef .tc main_v3_2), constantI S_ 32 0#32] n hn ((Matrix.cons_val_zero _ _).trans h) (by rfl)
    updateFits_S8192x512_S1x512 bcast_S512_S1x512_1)
  after_results_entrywise [cast_eq]

theorem fwd4_writes_row (hn : n < 8192) (h : X (Proc.devRef .tc main_v3_2) = fun _ => BitVec.ofNat 32 n) :
    after fwd4 X (Proc.devRef .tc main_while0b_v14) = setRow (X (Proc.devRef .tc main_v3_5)) n (X (Proc.devRef .tc main_v3_3)) := by
  refine Eq.trans ?_ (row_write (X (Proc.devRef .tc main_v3_5)) (X (Proc.devRef .tc main_v3_3)) ![X (Proc.devRef .tc main_v3_2), constantI S_ 32 0#32] n hn ((Matrix.cons_val_zero _ _).trans h) (by rfl)
    updateFits_S8192x512_S1x512 bcast_S512_S1x512_1)
  after_results_entrywise [cast_eq]

theorem fwd5_v3_3 : after fwd5 X (Proc.devRef .tc main_v3_3) = (X (Proc.devRef .tc main_while0b_v12)) := by
  after_results
  rfl

theorem fwd5_v3_4 : after fwd5 X (Proc.devRef .tc main_v3_4) = (X (Proc.devRef .tc main_while0b_v13)) := by
  after_results
  rfl

theorem fwd5_v3_5 : after fwd5 X (Proc.devRef .tc main_v3_5) = (X (Proc.devRef .tc main_while0b_v14)) := by
  after_results
  rfl

theorem bwd0_row (k : ℕ) (hk : k < 8192) (h : X (Proc.devRef .tc main_v8_3) = fun _ => BitVec.ofNat 32 k) :
    after bwd0 X (Proc.devRef .tc main_while1b_v10) = fun _ => BitVec.ofNat 32 (8191 - k) := by
  have e : after bwd0 X (Proc.devRef .tc main_while1b_v10) = (subi (subi (constantI S_ 32 8192#32) (X (Proc.devRef .tc main_v8_3)) : Count F) (constantI S_ 32 1#32) : Count F) := by
    after_results
  rw [e, h]
  funext j
  show (8192#32 - BitVec.ofNat 32 k) - 1#32 = BitVec.ofNat 32 (8191 - k)
  bv_omega

theorem bwd1_reads (hn : n < 8192) (h : X (Proc.devRef .tc main_while1b_v10) = fun _ => BitVec.ofNat 32 n) :
    after bwd1 X (Proc.devRef .tc main_while1b_v11) = row (X (Proc.devRef .tc main_v8_0)) n := by
  refine Eq.trans ?_ (row_read (X (Proc.devRef .tc main_v8_0)) ![X (Proc.devRef .tc main_while1b_v10), constantI S_ 32 0#32] n hn ((Matrix.cons_val_zero _ _).trans h) (by rfl)
    sliceFits_S8192x512_S1x512 shapeCasts_S1x512_S512)
  after_results_entrywise [cast_eq]

theorem bwd2_reads (hn : n < 8192) (h : X (Proc.devRef .tc main_while1b_v10) = fun _ => BitVec.ofNat 32 n) :
    after bwd2 X (Proc.devRef .tc main_while1b_v12) = row (X (Proc.devRef .tc main_v8_1)) n := by
  refine Eq.trans ?_ (row_read (X (Proc.devRef .tc main_v8_1)) ![X (Proc.devRef .tc main_while1b_v10), constantI S_ 32 0#32] n hn ((Matrix.cons_val_zero _ _).trans h) (by rfl)
    sliceFits_S8192x512_S1x512 shapeCasts_S1x512_S512)
  after_results_entrywise [cast_eq]

theorem bwd3_reads (hn : n < 8192) (h : X (Proc.devRef .tc main_while1b_v10) = fun _ => BitVec.ofNat 32 n) :
    after bwd3 X (Proc.devRef .tc main_while1b_v13) = row (X (Proc.devRef .tc main_v8_2)) n := by
  refine Eq.trans ?_ (row_read (X (Proc.devRef .tc main_v8_2)) ![X (Proc.devRef .tc main_while1b_v10), constantI S_ 32 0#32] n hn ((Matrix.cons_val_zero _ _).trans h) (by rfl)
    sliceFits_S8192x512_S1x512 shapeCasts_S1x512_S512)
  after_results_entrywise [cast_eq]

theorem bwd4_sum : after bwd4 X (Proc.devRef .tc main_while1b_v14) = (addf (X (Proc.devRef .tc main_v8_4)) (X (Proc.devRef .tc main_while1b_v11)) : Lane F) := by
  after_results

theorem bwd4_back : after bwd4 X (Proc.devRef .tc main_while1b_v15) = (mulf (X (Proc.devRef .tc main_while1b_v13)) (addf (X (Proc.devRef .tc main_v8_4)) (X (Proc.devRef .tc main_while1b_v11)) : Lane F) : Lane F) := by
  after_results

theorem bwd4_coef : after bwd4 X (Proc.devRef .tc main_while1b_v16) = (mulf (addf (X (Proc.devRef .tc main_v8_4)) (X (Proc.devRef .tc main_while1b_v11)) : Lane F) (X (Proc.devRef .tc main_while1b_v12)) : Lane F) := by
  after_results

theorem bwd5_writes_row (hn : n < 8192) (h : X (Proc.devRef .tc main_while1b_v10) = fun _ => BitVec.ofNat 32 n) :
    after bwd5 X (Proc.devRef .tc main_while1b_v17) = setRow (X (Proc.devRef .tc main_v8_5)) n (X (Proc.devRef .tc main_while1b_v16)) := by
  refine Eq.trans ?_ (row_write (X (Proc.devRef .tc main_v8_5)) (X (Proc.devRef .tc main_while1b_v16)) ![X (Proc.devRef .tc main_while1b_v10), constantI S_ 32 0#32] n hn ((Matrix.cons_val_zero _ _).trans h) (by rfl)
    updateFits_S8192x512_S1x512 bcast_S512_S1x512_1)
  after_results_entrywise [cast_eq]

theorem bwd6_writes_row (hn : n < 8192) (h : X (Proc.devRef .tc main_while1b_v10) = fun _ => BitVec.ofNat 32 n) :
    after bwd6 X (Proc.devRef .tc main_while1b_v18) = setRow (X (Proc.devRef .tc main_v8_6)) n (X (Proc.devRef .tc main_while1b_v14)) := by
  refine Eq.trans ?_ (row_write (X (Proc.devRef .tc main_v8_6)) (X (Proc.devRef .tc main_while1b_v14)) ![X (Proc.devRef .tc main_while1b_v10), constantI S_ 32 0#32] n hn ((Matrix.cons_val_zero _ _).trans h) (by rfl)
    updateFits_S8192x512_S1x512 bcast_S512_S1x512_1)
  after_results_entrywise [cast_eq]

theorem bwd7_v8_4 : after bwd7 X (Proc.devRef .tc main_v8_4) = (X (Proc.devRef .tc main_while1b_v15)) := by
  after_results
  rfl

theorem bwd7_v8_5 : after bwd7 X (Proc.devRef .tc main_v8_5) = (X (Proc.devRef .tc main_while1b_v17)) := by
  after_results
  rfl

theorem bwd7_v8_6 : after bwd7 X (Proc.devRef .tc main_v8_6) = (X (Proc.devRef .tc main_while1b_v18)) := by
  after_results
  rfl

end Stretches

end Cert.ReferenceIdeal.Plainly

end
-- ==== Proof.RefTotal.lean ====
/- The two loops of the plain recurrence, from first trip to last: what their carried arrays hold before trip `k`, and the
   three results. -/
module

public import proofs.«01_k».proof.Proof.RefValues

@[expose] public section

set_option maxRecDepth 16384

noncomputable section

namespace Cert.ReferenceIdeal.Plainly

open Idealize.ShloMosaic Idealize.ShloMosaic.TcCoe Idealize.ShloMosaic.StableHlo
open Cert.ReferenceIdeal Cert.ReferenceIdeal.Gen
open Idealize.SL.Sem

variable {F : FTy → Type} [FloatOps F]

/-- The zero row. -/
def zeroLane : Lane F := broadcastInDim S512 ![] bcast_S_S512 (constant S_ .f32 0x00000000#32)

/-- The zero array. -/
def zeroArr : Arr F := broadcastInDim S8192x512 ![] bcast_S_S8192x512 (constant S_ .f32 0x00000000#32)

/-- The state before row `n`: zero, then coefficient times state plus input. -/
def stateOf (a u : Arr F) : ℕ → Lane F
  | 0 => zeroLane
  | n + 1 => addf (mulf (row a n) (stateOf a u n)) (row u n)

/-- What the rows after the last `k` hand back: zero, then coefficient times (that plus the row's cotangent). -/
def backOf (a d : Arr F) : ℕ → Lane F
  | 0 => zeroLane
  | k + 1 => mulf (row a (8191 - k)) (addf (backOf a d k) (row d (8191 - k)))

/-- The gradient of the input of row `n`. -/
def inputGrad (a d : Arr F) (n : ℕ) : Lane F := addf (backOf a d (8191 - n)) (row d n)

/-- The gradient of the coefficient of row `n`. -/
def coefGrad (a u d : Arr F) (n : ℕ) : Lane F := mulf (inputGrad a d n) (stateOf a u n)

/-- The array whose row `n` is `f n`. -/
def made (f : ℕ → Lane F) : Arr F := fun j => f (j 0).val (at1 (j 1))

/-- Its rows below `k`, zero from `k` on. -/
def below (f : ℕ → Lane F) (k : ℕ) : Arr F := fun j => if (j 0).val < k then made f j else zeroArr j

/-- Its last `k` rows, zero before. -/
def last (f : ℕ → Lane F) (k : ℕ) : Arr F := fun j => if 8192 - k ≤ (j 0).val then made f j else zeroArr j

theorem below_zero (f : ℕ → Lane F) : below f 0 = zeroArr := funext fun j => if_neg (Nat.not_lt_zero _)
theorem last_zero (f : ℕ → Lane F) : last f 0 = zeroArr := funext fun j => if_neg (Nat.not_le.mpr (j 0).isLt)
theorem below_all (f : ℕ → Lane F) : below f 8192 = made f := funext fun j => if_pos (j 0).isLt
theorem last_all (f : ℕ → Lane F) : last f 8192 = made f := funext fun j => if_pos (Nat.zero_le _)

theorem below_succ (f : ℕ → Lane F) (k : ℕ) : setRow (below f k) k (f k) = below f (k + 1) := by
  funext j
  unfold setRow below made
  by_cases h : (j 0).val = k
  · rw [if_pos h, if_pos (by omega), h]
  · rw [if_neg h]
    by_cases h' : (j 0).val < k
    · rw [if_pos h', if_pos (by omega)]
    · rw [if_neg h', if_neg (by omega)]

theorem last_succ (f : ℕ → Lane F) (k : ℕ) (hk : k < 8192) : setRow (last f k) (8191 - k) (f (8191 - k)) = last f (k + 1) := by
  funext j
  unfold setRow last made
  by_cases h : (j 0).val = 8191 - k
  · rw [if_pos h, if_pos (by omega), h]
  · rw [if_neg h]
    by_cases h' : 8192 - k ≤ (j 0).val
    · rw [if_pos h', if_pos (by omega)]
    · rw [if_neg h', if_neg (by omega)]

theorem row_made (f : ℕ → Lane F) (n : ℕ) (hn : n < 8192) : row (made f) n = f n := by
  funext j
  unfold row made at2 at1
  show f (n % 8192) (ix1 (j 0)) = f n j
  rw [Nat.mod_eq_of_lt hn]
  congr 1
  funext a
  fin_cases a
  rfl

/-! ## The first loop -/

/-- What the first loop carries before trip `k`. -/
structure Carried0 (a u : Arr F) (k : ℕ) (V : Valuation τ sig (Elt F)) : Prop where
  coefs : V (Proc.devRef .tc main_v3_0) = a
  inputs : V (Proc.devRef .tc main_v3_1) = u
  count : V (Proc.devRef .tc main_v3_2) = fun _ => BitVec.ofNat 32 k
  state : V (Proc.devRef .tc main_v3_3) = stateOf a u k
  states : V (Proc.devRef .tc main_v3_4) = below (fun n => stateOf a u (n + 1)) k
  saved : V (Proc.devRef .tc main_v3_5) = below (stateOf a u) k

/-- The first loop's start. -/
theorem carried0_zero (V : Valuation τ sig (Elt F)) :
    Carried0 (V (Proc.devRef .tc main_arg0)) (V (Proc.devRef .tc main_arg1)) 0 (after startOps V) where
  coefs := by after_results; rfl
  inputs := by after_results; rfl
  count := starts0 V
  state := by after_results; rfl
  states := by rw [below_zero]; after_results; rfl
  saved := by rw [below_zero]; after_results; rfl

theorem ofNat_next (k : ℕ) : (addi (fun _ => BitVec.ofNat 32 k) (constantI S_ 32 1#32) : Count F) = fun _ => BitVec.ofNat 32 (k + 1) := by
  funext j
  show BitVec.ofNat 32 k + 1#32 = BitVec.ofNat 32 (k + 1)
  rw [show (1#32 : BitVec 32) = BitVec.ofNat 32 1 from rfl, ← BitVec.ofNat_add]

/-- One trip of the first loop. -/
theorem carried0_succ (a u : Arr F) (k : ℕ) (hk : k < 8192) (V : Valuation τ sig (Elt F)) (h : Carried0 a u k V) :
    Carried0 a u (k + 1) (afterL body0 (after testOps0 V)) := by
  simp only [afterL_cons, afterL_nil]
  have X0 (r : Ref sig .tc) (hr : r ∉ testOps0_W) := testOps0_keeps V r hr
  generalize after testOps0 V = X at X0 ⊢
  have hc : X (Proc.devRef .tc main_v3_2) = fun _ => BitVec.ofNat 32 k := (X0 _ (by decide)).trans h.count
  have ha := (X0 main_v3_0 (by decide)).trans h.coefs
  have hu := (X0 main_v3_1 (by decide)).trans h.inputs
  have hs := (X0 main_v3_3 (by decide)).trans h.state
  have hy := (X0 main_v3_4 (by decide)).trans h.states
  have hp := (X0 main_v3_5 (by decide)).trans h.saved
  -- the row of the coefficients
  have A (r : Ref sig .tc) (hr : r ∉ fwd0_W) := fwd0_keeps X r hr
  have vA := (fwd0_reads X k hk hc).trans (congrArg (row · k) ha)
  generalize after fwd0 X = Y at A vA ⊢
  have B (r : Ref sig .tc) (hr : r ∉ fwd1_W) := fwd1_keeps Y r hr
  have vB := (fwd1_reads Y k hk ((A _ (by decide)).trans hc)).trans (congrArg (row · k) ((A _ (by decide)).trans hu))
  generalize after fwd1 Y = Z at B vB ⊢
  -- the next state
  have C (r : Ref sig .tc) (hr : r ∉ fwd2_W) := fwd2_keeps Z r hr
  have vC : after fwd2 Z (Proc.devRef .tc main_while0b_v12) = stateOf a u (k + 1) := by
    rw [fwd2_state, vB, (B main_while0b_v9 (by decide)).trans vA, (B main_v3_3 (by decide)).trans ((A _ (by decide)).trans hs)]
    rfl
  generalize after fwd2 Z = P at C vC ⊢
  have k1 (r : Ref sig .tc) (h0 : r ∉ fwd0_W) (h1 : r ∉ fwd1_W) (h2 : r ∉ fwd2_W) : P (Proc.devRef .tc r) = X (Proc.devRef .tc r) :=
    (C r h2).trans ((B r h1).trans (A r h0))
  have cP : P (Proc.devRef .tc main_v3_2) = fun _ => BitVec.ofNat 32 k := (k1 _ (by decide) (by decide) (by decide)).trans hc
  have G (r : Ref sig .tc) (hr : r ∉ fwd3_W) := fwd3_keeps P r hr
  have vG : after fwd3 P (Proc.devRef .tc main_while0b_v13) = below (fun n => stateOf a u (n + 1)) (k + 1) := by
    rw [fwd3_writes_row P k hk cP, vC, (k1 main_v3_4 (by decide) (by decide) (by decide)).trans hy, ← below_succ]
  generalize after fwd3 P = Q at G vG ⊢
  have H (r : Ref sig .tc) (hr : r ∉ fwd4_W) := fwd4_keeps Q r hr
  have vH : after fwd4 Q (Proc.devRef .tc main_while0b_v14) = below (stateOf a u) (k + 1) := by
    rw [fwd4_writes_row Q k hk ((G _ (by decide)).trans cP), (G main_v3_3 (by decide)).trans ((k1 _ (by decide) (by decide) (by decide)).trans hs),
      (G main_v3_5 (by decide)).trans ((k1 _ (by decide) (by decide) (by decide)).trans hp), ← below_succ]
  generalize after fwd4 Q = R at H vH ⊢
  have k2 (r : Ref sig .tc) (h3 : r ∉ fwd3_W) (h4 : r ∉ fwd4_W) : R (Proc.devRef .tc r) = P (Proc.devRef .tc r) :=
    (H r h4).trans (G r h3)
  exact
    { coefs := (fwd5_keeps R main_v3_0 (by decide)).trans ((k2 _ (by decide) (by decide)).trans ((k1 _ (by decide) (by decide) (by decide)).trans ha))
      inputs := (fwd5_keeps R main_v3_1 (by decide)).trans ((k2 _ (by decide) (by decide)).trans ((k1 _ (by decide) (by decide) (by decide)).trans hu))
      count := by rw [counts0, (k2 main_v3_2 (by decide) (by decide)).trans cP]; exact ofNat_next k
      state := (fwd5_v3_3 R).trans ((k2 _ (by decide) (by decide)).trans vC)
      states := (fwd5_v3_4 R).trans ((H _ (by decide)).trans vG)
      saved := (fwd5_v3_5 R).trans vH }

/-! ## The second loop -/

/-- What the second loop carries before trip `k`. -/
structure Carried1 (a u d : Arr F) (k : ℕ) (V : Valuation τ sig (Elt F)) : Prop where
  cotangents : V (Proc.devRef .tc main_v8_0) = d
  saved : V (Proc.devRef .tc main_v8_1) = made (stateOf a u)
  coefs : V (Proc.devRef .tc main_v8_2) = a
  count : V (Proc.devRef .tc main_v8_3) = fun _ => BitVec.ofNat 32 k
  back : V (Proc.devRef .tc main_v8_4) = backOf a d k
  coefGrads : V (Proc.devRef .tc main_v8_5) = last (coefGrad a u d) k
  inputGrads : V (Proc.devRef .tc main_v8_6) = last (inputGrad a d) k

/-- The second loop's start. -/
theorem carried1_zero (a u d : Arr F) (V : Valuation τ sig (Elt F)) (ha : V (Proc.devRef .tc main_arg0) = a) (hd : V (Proc.devRef .tc main_arg2) = d)
    (hs : V (Proc.devRef .tc main_v3_5) = made (stateOf a u)) : Carried1 a u d 0 (after turnOps V) where
  cotangents := by rw [← hd]; after_results; rfl
  saved := by rw [← hs]; after_results; rfl
  coefs := by rw [← ha]; after_results; rfl
  count := starts1 V
  back := by after_results; rfl
  coefGrads := by rw [last_zero]; after_results; rfl
  inputGrads := by rw [last_zero]; after_results; rfl

/-- One trip of the second loop. -/
theorem carried1_succ (a u d : Arr F) (k : ℕ) (hk : k < 8192) (V : Valuation τ sig (Elt F)) (h : Carried1 a u d k V) :
    Carried1 a u d (k + 1) (afterL body1 (after testOps1 V)) := by
  simp only [afterL_cons, afterL_nil]
  have X0 (r : Ref sig .tc) (hr : r ∉ testOps1_W) := testOps1_keeps V r hr
  generalize after testOps1 V = X at X0 ⊢
  have hn : 8191 - k < 8192 := by omega
  have hc : X (Proc.devRef .tc main_v8_3) = fun _ => BitVec.ofNat 32 k := (X0 _ (by decide)).trans h.count
  have hd := (X0 main_v8_0 (by decide)).trans h.cotangents
  have hs := (X0 main_v8_1 (by decide)).trans h.saved
  have ha := (X0 main_v8_2 (by decide)).trans h.coefs
  have hb := (X0 main_v8_4 (by decide)).trans h.back
  have hg := (X0 main_v8_5 (by decide)).trans h.coefGrads
  have hi := (X0 main_v8_6 (by decide)).trans h.inputGrads
  -- the row number and the three rows
  have A (r : Ref sig .tc) (hr : r ∉ bwd0_W) := bwd0_keeps X r hr
  have vA := bwd0_row X k hk hc
  generalize after bwd0 X = Y at A vA ⊢
  have B (r : Ref sig .tc) (hr : r ∉ bwd1_W) := bwd1_keeps Y r hr
  have vB := (bwd1_reads Y _ hn vA).trans (congrArg (row · _) ((A _ (by decide)).trans hd))
  generalize after bwd1 Y = Z at B vB ⊢
  have C (r : Ref sig .tc) (hr : r ∉ bwd2_W) := bwd2_keeps Z r hr
  have vC := ((bwd2_reads Z _ hn ((B _ (by decide)).trans vA)).trans (congrArg (row · _) ((B _ (by decide)).trans ((A _ (by decide)).trans hs)))).trans (row_made _ _ hn)
  generalize after bwd2 Z = P at C vC ⊢
  have rP : P (Proc.devRef .tc main_while1b_v10) = fun _ => BitVec.ofNat 32 (8191 - k) := (C _ (by decide)).trans ((B _ (by decide)).trans vA)
  have G (r : Ref sig .tc) (hr : r ∉ bwd3_W) := bwd3_keeps P r hr
  have vG := (bwd3_reads P _ hn rP).trans (congrArg (row · _) ((C _ (by decide)).trans ((B _ (by decide)).trans ((A _ (by decide)).trans ha))))
  generalize after bwd3 P = Q at G vG ⊢
  have k1 (r : Ref sig .tc) (h0 : r ∉ bwd0_W) (h1 : r ∉ bwd1_W) (h2 : r ∉ bwd2_W) (h3 : r ∉ bwd3_W) : Q (Proc.devRef .tc r) = X (Proc.devRef .tc r) :=
    (G r h3).trans ((C r h2).trans ((B r h1).trans (A r h0)))
  -- the row's gradients
  have H (r : Ref sig .tc) (hr : r ∉ bwd4_W) := bwd4_keeps Q r hr
  have qd : Q (Proc.devRef .tc main_while1b_v11) = row d (8191 - k) := (G _ (by decide)).trans ((C _ (by decide)).trans vB)
  have qb : Q (Proc.devRef .tc main_v8_4) = backOf a d k := (k1 _ (by decide) (by decide) (by decide) (by decide)).trans hb
  have e : addf (backOf a d k) (row d (8191 - k)) = inputGrad a d (8191 - k) := by
    unfold inputGrad
    rw [show 8191 - (8191 - k) = k by omega]
  have v14 : after bwd4 Q (Proc.devRef .tc main_while1b_v14) = inputGrad a d (8191 - k) := by rw [bwd4_sum, qd, qb, e]
  have v15 : after bwd4 Q (Proc.devRef .tc main_while1b_v15) = backOf a d (k + 1) := by rw [bwd4_back, qd, qb, vG]; rfl
  have v16 : after bwd4 Q (Proc.devRef .tc main_while1b_v16) = coefGrad a u d (8191 - k) := by
    rw [bwd4_coef, qd, qb, (G main_while1b_v12 (by decide)).trans vC, e]; rfl
  generalize after bwd4 Q = R at H v14 v15 v16 ⊢
  have rR : R (Proc.devRef .tc main_while1b_v10) = fun _ => BitVec.ofNat 32 (8191 - k) := (H _ (by decide)).trans ((G _ (by decide)).trans rP)
  have gR : R (Proc.devRef .tc main_v8_5) = last (coefGrad a u d) k := (H _ (by decide)).trans ((k1 _ (by decide) (by decide) (by decide) (by decide)).trans hg)
  have iR : R (Proc.devRef .tc main_v8_6) = last (inputGrad a d) k := (H _ (by decide)).trans ((k1 _ (by decide) (by decide) (by decide) (by decide)).trans hi)
  have J (r : Ref sig .tc) (hr : r ∉ bwd5_W) := bwd5_keeps R r hr
  have v17 : after bwd5 R (Proc.devRef .tc main_while1b_v17) = last (coefGrad a u d) (k + 1) := by
    rw [bwd5_writes_row R _ hn rR, v16, gR, last_succ _ _ hk]
  generalize after bwd5 R = S at J v17 ⊢
  have K (r : Ref sig .tc) (hr : r ∉ bwd6_W) := bwd6_keeps S r hr
  have v18 : after bwd6 S (Proc.devRef .tc main_while1b_v18) = last (inputGrad a d) (k + 1) := by
    rw [bwd6_writes_row S _ hn ((J _ (by decide)).trans rR), (J main_while1b_v14 (by decide)).trans v14, (J main_v8_6 (by decide)).trans iR, last_succ _ _ hk]
  generalize after bwd6 S = T at K v18 ⊢
  have k2 (r : Ref sig .tc) (h4 : r ∉ bwd4_W) (h5 : r ∉ bwd5_W) (h6 : r ∉ bwd6_W) : T (Proc.devRef .tc r) = Q (Proc.devRef .tc r) :=
    (K r h6).trans ((J r h5).trans (H r h4))
  have k3 (r : Ref sig .tc) (h0 : r ∉ bwd0_W) (h1 : r ∉ bwd1_W) (h2 : r ∉ bwd2_W) (h3 : r ∉ bwd3_W) (h4 : r ∉ bwd4_W) (h5 : r ∉ bwd5_W) (h6 : r ∉ bwd6_W) :
      T (Proc.devRef .tc r) = X (Proc.devRef .tc r) := (k2 r h4 h5 h6).trans (k1 r h0 h1 h2 h3)
  exact
    { cotangents := (bwd7_keeps T main_v8_0 (by decide)).trans ((k3 _ (by decide) (by decide) (by decide) (by decide) (by decide) (by decide) (by decide)).trans hd)
      saved := (bwd7_keeps T main_v8_1 (by decide)).trans ((k3 _ (by decide) (by decide) (by decide) (by decide) (by decide) (by decide) (by decide)).trans hs)
      coefs := (bwd7_keeps T main_v8_2 (by decide)).trans ((k3 _ (by decide) (by decide) (by decide) (by decide) (by decide) (by decide) (by decide)).trans ha)
      count := by
        rw [counts1, (k3 main_v8_3 (by decide) (by decide) (by decide) (by decide) (by decide) (by decide) (by decide)).trans hc]; exact ofNat_next k
      back := (bwd7_v8_4 T).trans ((K _ (by decide)).trans ((J _ (by decide)).trans v15))
      coefGrads := (bwd7_v8_5 T).trans ((K _ (by decide)).trans v17)
      inputGrads := (bwd7_v8_6 T).trans v18 }

/-! ## The whole program -/

variable (m : (ℓ : Loc nD τ sig) → Buf (Elt F) ℓ) (c : Dev nD)

/-- The three arguments on device `c`. -/
abbrev argA : Arr F := m ((c.tc : Thread nD τ).loc main_arg0)
abbrev argU : Arr F := m ((c.tc : Thread nD τ).loc main_arg1)
abbrev argD : Arr F := m ((c.tc : Thread nD τ).loc main_arg2)

theorem carried0_all : ∀ k, k ≤ 8192 → Carried0 (argA m c) (argU m c) k (trip0 m k c)
  | 0, _ => carried0_zero (atLaunch m c)
  | k + 1, hk => carried0_succ _ _ k (by omega) _ (carried0_all k (by omega))

/-- A buffer that no stretch of the first part writes. -/
theorem entry1_keeps (r : Ref sig .tc) (hs : r ∉ startOps_W) (hb : r ∉ fwd0_W ++ fwd1_W ++ fwd2_W ++ fwd3_W ++ fwd4_W ++ fwd5_W) (ht : r ∉ testOps0_W) :
    exit0 m c (Proc.devRef .tc r) = atLaunch m c (Proc.devRef .tc r) := by
  simp only [List.mem_append, not_or] at hb
  obtain ⟨⟨⟨⟨⟨h0, h1⟩, h2⟩, h3⟩, h4⟩, h5⟩ := hb
  refine (testOps0_keeps _ r ht).trans ?_
  have : ∀ k, trip0 m k c (Proc.devRef .tc r) = atLaunch m c (Proc.devRef .tc r) := by
    intro k
    induction k with
    | zero => exact startOps_keeps _ r hs
    | succ k ih =>
      rw [show trip0 m (k + 1) c = afterL body0 (after testOps0 (trip0 m k c)) from rfl]
      simp only [afterL_cons, afterL_nil]
      rw [fwd5_keeps _ r h5, fwd4_keeps _ r h4, fwd3_keeps _ r h3, fwd2_keeps _ r h2, fwd1_keeps _ r h1, fwd0_keeps _ r h0, testOps0_keeps _ r ht, ih]
  exact this 8192

/-- A buffer that no stretch of the second part writes. -/
theorem atEnd_keeps (r : Ref sig .tc) (hs : r ∉ turnOps_W) (hb : r ∉ bwd0_W ++ bwd1_W ++ bwd2_W ++ bwd3_W ++ bwd4_W ++ bwd5_W ++ bwd6_W ++ bwd7_W) (ht : r ∉ testOps1_W) :
    atEnd m c (Proc.devRef .tc r) = exit0 m c (Proc.devRef .tc r) := by
  simp only [List.mem_append, not_or] at hb
  obtain ⟨⟨⟨⟨⟨⟨⟨h0, h1⟩, h2⟩, h3⟩, h4⟩, h5⟩, h6⟩, h7⟩ := hb
  refine (testOps1_keeps _ r ht).trans ?_
  have : ∀ k, trip1 m k c (Proc.devRef .tc r) = exit0 m c (Proc.devRef .tc r) := by
    intro k
    induction k with
    | zero => exact turnOps_keeps _ r hs
    | succ k ih =>
      rw [show trip1 m (k + 1) c = afterL body1 (after testOps1 (trip1 m k c)) from rfl]
      simp only [afterL_cons, afterL_nil]
      rw [bwd7_keeps _ r h7, bwd6_keeps _ r h6, bwd5_keeps _ r h5, bwd4_keeps _ r h4, bwd3_keeps _ r h3, bwd2_keeps _ r h2, bwd1_keeps _ r h1, bwd0_keeps _ r h0,
        testOps1_keeps _ r ht, ih]
  exact this 8192

theorem carried1_all : ∀ k, k ≤ 8192 → Carried1 (argA m c) (argU m c) (argD m c) k (trip1 m k c)
  | 0, _ => carried1_zero _ _ _ (exit0 m c) (entry1_keeps m c main_arg0 (by decide) (by decide) (by decide))
      (entry1_keeps m c main_arg2 (by decide) (by decide) (by decide))
      (((testOps0_keeps _ main_v3_5 (by decide)).trans (carried0_all m c 8192 le_rfl).saved).trans (below_all _))
  | k + 1, hk => carried1_succ _ _ _ k (by omega) _ (carried1_all k (by omega))

/-- Row `n` of the first result is the state after row `n`. -/
theorem end_states : atEnd m c (Proc.devRef .tc main_v3_4) = made fun n => stateOf (argA m c) (argU m c) (n + 1) :=
  (atEnd_keeps m c main_v3_4 (by decide) (by decide) (by decide)).trans
    (((testOps0_keeps _ main_v3_4 (by decide)).trans (carried0_all m c 8192 le_rfl).states).trans (below_all _))

/-- The second result is the coefficients' gradient. -/
theorem end_coefGrads : atEnd m c (Proc.devRef .tc main_v8_5) = made (coefGrad (argA m c) (argU m c) (argD m c)) :=
  ((testOps1_keeps _ main_v8_5 (by decide)).trans (carried1_all m c 8192 le_rfl).coefGrads).trans (last_all _)

/-- The third result is the inputs' gradient. -/
theorem end_inputGrads : atEnd m c (Proc.devRef .tc main_v8_6) = made (inputGrad (argA m c) (argD m c)) :=
  ((testOps1_keeps _ main_v8_6 (by decide)).trans (carried1_all m c 8192 le_rfl).inputGrads).trans (last_all _)

/-- The arguments are kept. -/
theorem end_args (r : Ref sig .tc) (hr : r ∈ [main_arg0, main_arg1, main_arg2]) : atEnd m c (Proc.devRef .tc r) = m ((c.tc : Thread nD τ).loc r) := by
  have h : ∀ r ∈ [main_arg0, main_arg1, main_arg2], r ∉ turnOps_W
      ∧ r ∉ bwd0_W ++ bwd1_W ++ bwd2_W ++ bwd3_W ++ bwd4_W ++ bwd5_W ++ bwd6_W ++ bwd7_W ∧ r ∉ testOps1_W
      ∧ r ∉ startOps_W ∧ r ∉ fwd0_W ++ fwd1_W ++ fwd2_W ++ fwd3_W ++ fwd4_W ++ fwd5_W ∧ r ∉ testOps0_W := by decide
  obtain ⟨h1, h2, h3, h4, h5, h6⟩ := h r hr
  exact (atEnd_keeps m c r h1 h2 h3).trans (entry1_keeps m c r h4 h5 h6)

end Cert.ReferenceIdeal.Plainly

end
-- ==== Proof.Totals.lean ====
/- What the two calls leave in the three result arrays, as whole arrays: every block is written back, and block `n` is what
   its grid point computed. -/
module

public import proofs.«01_k».proof.Proof.Run

@[expose] public section

set_option maxRecDepth 16384

noncomputable section

namespace Cert.KernelIdeal.Scan

open Idealize.ShloMosaic Idealize.ShloMosaic.TcCoe Idealize.ShloMosaic.Tactic
open Idealize.SL.Sem
open Idealize.ShloMosaic.Pipeline (Dat)
open Cert.KernelIdeal.Gen

variable {F : FTy → Type} [FloatOps F]
variable (V : Valuation τ sig (Elt F)) (c : Dev nD)

/-- An entry of the stacked array is its block's entry. -/
theorem stacked_at (B : ℕ → Vec F S512x512 .f32) (n : ℕ) (y : S512x512.Idx) (j : S8192x512.Idx) (h0 : (j 0).val = n * 512 + (y 0).val)
    (h1 : (j 1).val = (y 1).val) : stacked B j = B n y := by
  have hy : (y 0).val < 512 := (y 0).isLt
  unfold stacked
  rw [show (j 0).val / 512 = n by omega]
  refine congrArg (B n) (funext fun a => Fin.ext ?_)
  fin_cases a
  · show (j 0).val % 512 = (y 0).val
    omega
  · exact h1

/-- The states as the forward call leaves them. -/
theorem total_states : (dat0 V c).arrAt 2 cfg0.N = states (arr V c main_arg0) (arr V c main_arg1) := by
  refine (dat0 V c).arrAt_eq_of_covers 2 _ (by decide +kernel) fun t hf y => ?_
  have hN : t.val < 16 := lt_of_lt_of_eq t.isLt N_0
  rw [after0_2]
  unfold states
  refine Eq.trans (by rfl) (stacked_at (F := F) (stateBlock (arr V c main_arg0) (arr V c main_arg1)) t.val y _ ?_ ?_).symm
  · blk_simp [idx0.2.2]
  · blk_simp [idx0.2.2]

/-- The coefficients' gradient at block `n`, which grid point `15 - n` computes. -/
def coefBlockAt (a h d : Vec F S8192x512 .f32) (n : ℕ) : Vec F S512x512 .f32 :=
  coefBlock (tile a n) (tile h n) (tile d n) (if n = 0 then fun _ => FloatOps.ofBits .f32 0#32 else lastRow (before h n)) (handed a d (15 - n))

/-- The coefficients' gradient. -/
def coefGrads (a h d : Vec F S8192x512 .f32) : Vec F S8192x512 .f32 := stacked (coefBlockAt a h d)

/-- The inputs' gradient. -/
def inputGrads (a d : Vec F S8192x512 .f32) : Vec F S8192x512 .f32 := stacked (inputGradBlock a d)

/-- Before the first block the state is zero. -/
theorem state_in (t : Fin grid1.N) (h : Vec F S8192x512 .f32) :
    k1_pay2 (grid1.coords t) (lastRow (before h (15 - t.val)))
      = if 15 - t.val = 0 then fun _ => FloatOps.ofBits .f32 0#32 else lastRow (before h (15 - t.val)) := by
  have e : ∀ t : Fin grid1.N, Scalar.cmpi .eq (BitVec.ofNat 32 (grid1.coords t 0).val) 15#32 = if 15 - t.val = 0 then 1#1 else 0#1 := by decide +kernel
  unfold k1_pay2
  simp only [e t, shapeCast_self]
  by_cases h0 : 15 - t.val = 0
  · rw [if_pos h0, if_pos h0]; rfl
  · rw [if_neg h0, if_neg h0]; rfl

/-- The coefficients' gradient as the backward call leaves it. -/
theorem total_coef : (dat1 V c).arrAt 4 cfg1.N = coefGrads (arr V c main_arg0) (arr V c main_v0) (arr V c main_arg2) := by
  refine (dat1 V c).arrAt_eq_of_covers 4 _ (by decide +kernel) fun t hf y => ?_
  have hN : t.val < 16 := lt_of_lt_of_eq t.isLt N_1
  rw [after1_4]
  unfold coefGrads
  refine Eq.trans ?_ (stacked_at (F := F) _ (15 - t.val) y _ ?_ ?_).symm
  · unfold coefAt coefBlockAt
    rw [state_in, show 15 - (15 - t.val) = t.val by omega]
    rfl
  · blk_simp [idx1.2.2.2.2.1]
  · blk_simp [idx1.2.2.2.2.1]

/-- The inputs' gradient as the backward call leaves it. -/
theorem total_input : (dat1 V c).arrAt 5 cfg1.N = inputGrads (arr V c main_arg0) (arr V c main_arg2) := by
  refine (dat1 V c).arrAt_eq_of_covers 5 _ (by decide +kernel) fun t hf y => ?_
  have hN : t.val < 16 := lt_of_lt_of_eq t.isLt N_1
  rw [after1_5]
  unfold inputGrads
  refine Eq.trans ?_ (stacked_at (F := F) _ (15 - t.val) y _ ?_ ?_).symm
  · unfold inputAt inputGradBlock
    rw [show 15 - (15 - t.val) = t.val by omega]
    rfl
  · blk_simp [idx1.2.2.2.2.2]
  · blk_simp [idx1.2.2.2.2.2]

end Cert.KernelIdeal.Scan

end
-- ==== Proof.Lanes.lean ====
/- One lane of a group of eight rows, in real numbers: the shifted copies the group scans with, and that the scan over a
   group computes the plain recurrence. -/
module

public import proofs.«01_k».proof.Proof.Totals
public import Idealize.ShloMosaic.Lib.KernelVsHost
public import Idealize.ShloMosaic.Lib.IdealHost

@[expose] public section

set_option maxRecDepth 16384

noncomputable section

namespace Cert.KernelIdeal.Scan

open Idealize.ShloMosaic Idealize.ShloMosaic.TcCoe Idealize.ShloMosaic.Tactic
open Cert.KernelIdeal.Gen

section Shifts

variable {α : Type} (x : S8x512.Idx → α) (z : α) (r : Fin 8) (l : Fin 512)

/-- Rows moved down by 1, filled with `z`. -/
theorem down1 :
    select (broadcastTo S8x512 (shapeCast S8x1 (cmpi .sge rowNo (broadcast S8x1 1#32)) shapeCasts_S8x1_S8x1) broadcasts_S8x1_S8x512)
      (dynamicRotate 0 1#32 none x rotates_S8x512_d0) (broadcast S8x512 z) (ix2 r l)
    = if 1 ≤ r.val then x (ix2 (⟨r.val - 1, by omega⟩ : Fin 8) l) else z := by
  rw [shapeCast_self]
  simp only [pointwise]
  fin_cases r <;> rfl

/-- Rows moved down by 2, filled with `z`. -/
theorem down2 :
    select (broadcastTo S8x512 (shapeCast S8x1 (cmpi .sge rowNo (broadcast S8x1 2#32)) shapeCasts_S8x1_S8x1) broadcasts_S8x1_S8x512)
      (dynamicRotate 0 2#32 none x rotates_S8x512_d0) (broadcast S8x512 z) (ix2 r l)
    = if 2 ≤ r.val then x (ix2 (⟨r.val - 2, by omega⟩ : Fin 8) l) else z := by
  rw [shapeCast_self]
  simp only [pointwise]
  fin_cases r <;> rfl

/-- Rows moved down by 4, filled with `z`. -/
theorem down4 :
    select (broadcastTo S8x512 (shapeCast S8x1 (cmpi .sge rowNo (broadcast S8x1 4#32)) shapeCasts_S8x1_S8x1) broadcasts_S8x1_S8x512)
      (dynamicRotate 0 4#32 none x rotates_S8x512_d0) (broadcast S8x512 z) (ix2 r l)
    = if 4 ≤ r.val then x (ix2 (⟨r.val - 4, by omega⟩ : Fin 8) l) else z := by
  rw [shapeCast_self]
  simp only [pointwise]
  fin_cases r <;> rfl

/-- Rows moved up by 1, filled with `z`. -/
theorem up1 :
    select (broadcastTo S8x512 (shapeCast S8x1 (cmpi .slt rowNo (broadcast S8x1 7#32)) shapeCasts_S8x1_S8x1) broadcasts_S8x1_S8x512)
      (dynamicRotate 0 7#32 none x rotates_S8x512_d0) (broadcast S8x512 z) (ix2 r l)
    = if h : r.val < 7 then x (ix2 (⟨r.val + 1, by omega⟩ : Fin 8) l) else z := by
  rw [shapeCast_self]
  simp only [pointwise]
  fin_cases r <;> rfl

/-- Rows moved up by 2, filled with `z`. -/
theorem up2 :
    select (broadcastTo S8x512 (shapeCast S8x1 (cmpi .slt rowNo (broadcast S8x1 6#32)) shapeCasts_S8x1_S8x1) broadcasts_S8x1_S8x512)
      (dynamicRotate 0 6#32 none x rotates_S8x512_d0) (broadcast S8x512 z) (ix2 r l)
    = if h : r.val < 6 then x (ix2 (⟨r.val + 2, by omega⟩ : Fin 8) l) else z := by
  rw [shapeCast_self]
  simp only [pointwise]
  fin_cases r <;> rfl

/-- Rows moved up by 4, filled with `z`. -/
theorem up4 :
    select (broadcastTo S8x512 (shapeCast S8x1 (cmpi .slt rowNo (broadcast S8x1 4#32)) shapeCasts_S8x1_S8x1) broadcasts_S8x1_S8x512)
      (dynamicRotate 0 4#32 none x rotates_S8x512_d0) (broadcast S8x512 z) (ix2 r l)
    = if h : r.val < 4 then x (ix2 (⟨r.val + 4, by omega⟩ : Fin 8) l) else z := by
  rw [shapeCast_self]
  simp only [pointwise]
  fin_cases r <;> rfl

/-- One row spread over eight. -/
theorem spread (h : S1x512.Idx → α) : broadcastTo S8x512 h broadcasts_S1x512_S8x512 (ix2 r l) = h (ix2 0 l) := by
  simp only [pointwise]
  rfl

end Shifts

/-- A real number as an idealized float. -/
abbrev up (x : ℝ) : Ideal .f32 := (x : EReal)

/-- The recurrence over real numbers: zero steps give `h`, each step coefficient times state plus input. -/
def scan (a u : ℕ → ℝ) (h : ℝ) : ℕ → ℝ
  | 0 => h
  | n + 1 => a n * scan a u h n + u n

/-- What the last `n` of `N` rows hand back to the row before them, from what came in after the last row. -/
def scanBack (a d : ℕ → ℝ) (c : ℝ) (N : ℕ) : ℕ → ℝ
  | 0 => c
  | n + 1 => a (N - 1 - n) * (scanBack a d c N n + d (N - 1 - n))

/-- Lane `l` of a group holds the real numbers `f`. -/
def At (l : Fin 512) (x : FVec Ideal S8x512 .f32) (f : ℕ → ℝ) : Prop := ∀ r : Fin 8, x (ix2 r l) = up (f r.val)

section Lane

variable {l : Fin 512} {x y : FVec Ideal S8x512 .f32} {f g : ℕ → ℝ}

theorem At.mul (hx : At l x f) (hy : At l y g) : At l (mulf x y) (fun r => f r * g r) := fun r => by
  show FloatOps.mulf (x _) (y _) = _
  rw [hx r, hy r, Ideal.mulf_def, up, up, ← EReal.coe_mul]

theorem At.add (hx : At l x f) (hy : At l y g) : At l (addf x y) (fun r => f r + g r) := fun r => by
  show FloatOps.addf (x _) (y _) = _
  rw [hx r, hy r, Ideal.addf_def, up, up, ← EReal.coe_add]

theorem At.spread {h : FVec Ideal S1x512 .f32} {c : ℝ} (hh : h (ix2 0 l) = up c) :
    At l (broadcastTo S8x512 h broadcasts_S1x512_S8x512) (fun _ => c) := fun r => (Scan.spread r l h).trans hh

theorem one_up : (Scalar.ofBits .f32 0x3F800000#32 : Ideal .f32) = up 1 := Ideal.ofBits_one_f32
theorem zero_up : (Scalar.ofBits .f32 0x00000000#32 : Ideal .f32) = up 0 := Ideal.ofBits_zero_f32

theorem At.down1 {z : Ideal .f32} {c : ℝ} (hx : At l x f) (hz : z = up c) :
    At l (select (broadcastTo S8x512 (shapeCast S8x1 (cmpi .sge rowNo (broadcast S8x1 1#32)) shapeCasts_S8x1_S8x1) broadcasts_S8x1_S8x512)
      (dynamicRotate 0 1#32 none x rotates_S8x512_d0) (broadcast S8x512 z)) (fun r => if 1 ≤ r then f (r - 1) else c) := fun r => by
  refine (Scan.down1 x z r l).trans ?_
  by_cases h : 1 ≤ r.val <;> simp only [h, if_true, if_false, hz, hx _]

theorem At.up1 {z : Ideal .f32} {c : ℝ} (hx : At l x f) (hz : z = up c) :
    At l (select (broadcastTo S8x512 (shapeCast S8x1 (cmpi .slt rowNo (broadcast S8x1 7#32)) shapeCasts_S8x1_S8x1) broadcasts_S8x1_S8x512)
      (dynamicRotate 0 7#32 none x rotates_S8x512_d0) (broadcast S8x512 z)) (fun r => if r < 7 then f (r + 1) else c) := fun r => by
  refine (Scan.up1 x z r l).trans ?_
  by_cases h : r.val < 7 <;> simp only [h, dif_pos, dif_neg, not_false_eq_true, if_true, if_false, hz, hx _]

theorem At.down2 {z : Ideal .f32} {c : ℝ} (hx : At l x f) (hz : z = up c) :
    At l (select (broadcastTo S8x512 (shapeCast S8x1 (cmpi .sge rowNo (broadcast S8x1 2#32)) shapeCasts_S8x1_S8x1) broadcasts_S8x1_S8x512)
      (dynamicRotate 0 2#32 none x rotates_S8x512_d0) (broadcast S8x512 z)) (fun r => if 2 ≤ r then f (r - 2) else c) := fun r => by
  refine (Scan.down2 x z r l).trans ?_
  by_cases h : 2 ≤ r.val <;> simp only [h, if_true, if_false, hz, hx _]

theorem At.up2 {z : Ideal .f32} {c : ℝ} (hx : At l x f) (hz : z = up c) :
    At l (select (broadcastTo S8x512 (shapeCast S8x1 (cmpi .slt rowNo (broadcast S8x1 6#32)) shapeCasts_S8x1_S8x1) broadcasts_S8x1_S8x512)
      (dynamicRotate 0 6#32 none x rotates_S8x512_d0) (broadcast S8x512 z)) (fun r => if r < 6 then f (r + 2) else c) := fun r => by
  refine (Scan.up2 x z r l).trans ?_
  by_cases h : r.val < 6 <;> simp only [h, dif_pos, dif_neg, not_false_eq_true, if_true, if_false, hz, hx _]

theorem At.down4 {z : Ideal .f32} {c : ℝ} (hx : At l x f) (hz : z = up c) :
    At l (select (broadcastTo S8x512 (shapeCast S8x1 (cmpi .sge rowNo (broadcast S8x1 4#32)) shapeCasts_S8x1_S8x1) broadcasts_S8x1_S8x512)
      (dynamicRotate 0 4#32 none x rotates_S8x512_d0) (broadcast S8x512 z)) (fun r => if 4 ≤ r then f (r - 4) else c) := fun r => by
  refine (Scan.down4 x z r l).trans ?_
  by_cases h : 4 ≤ r.val <;> simp only [h, if_true, if_false, hz, hx _]

theorem At.up4 {z : Ideal .f32} {c : ℝ} (hx : At l x f) (hz : z = up c) :
    At l (select (broadcastTo S8x512 (shapeCast S8x1 (cmpi .slt rowNo (broadcast S8x1 4#32)) shapeCasts_S8x1_S8x1) broadcasts_S8x1_S8x512)
      (dynamicRotate 0 4#32 none x rotates_S8x512_d0) (broadcast S8x512 z)) (fun r => if r < 4 then f (r + 4) else c) := fun r => by
  refine (Scan.up4 x z r l).trans ?_
  by_cases h : r.val < 4 <;> simp only [h, dif_pos, dif_neg, not_false_eq_true, if_true, if_false, hz, hx _]

end Lane

/-- A group of eight rows scanned forward, one lane: the plain recurrence. -/
theorem group_real {a u : FVec Ideal S8x512 .f32} {h : FVec Ideal S1x512 .f32} {l : Fin 512} {ar ur : ℕ → ℝ} {c : ℝ}
    (ha : At l a ar) (hu : At l u ur) (hh : h (ix2 0 l) = up c) :
    At l (group (F := Ideal) a u h) (fun r => scan ar ur c (r + 1)) := by
  have p5 : At l (k0_pay5 rowNo a) _ := ha.mul (ha.down1 one_up)
  have v24 := hu.add (ha.mul (hu.down1 zero_up))
  have p6 : At l (k0_pay6 rowNo a u) _ := v24.add (p5.mul (v24.down2 zero_up))
  have p7 : At l (k0_pay7 rowNo a) _ := p5.mul (p5.down2 one_up)
  have p2 : At l (group (F := Ideal) a u h) _ := ((p7.mul (p7.down4 one_up)).mul (At.spread hh)).add (p6.add (p7.mul (p6.down4 zero_up)))
  intro r
  refine (p2 r).trans (congrArg up ?_)
  fin_cases r <;> simp [scan] <;> ring

/-- A group of eight rows scanned back, one lane: each row's own gradient and what the rows after it hand back. -/
theorem gradGroup_real {a d : FVec Ideal S8x512 .f32} {h : FVec Ideal S1x512 .f32} {l : Fin 512} {ar dr : ℕ → ℝ} {c : ℝ}
    (ha : At l a ar) (hd : At l d dr) (hh : h (ix2 0 l) = up c) :
    At l (gradGroup (F := Ideal) a d h) (fun r => scanBack ar dr c 8 (7 - r) + dr r) := by
  have p7 : At l (k1_pay7 rowNo a) _ := ha.up1 one_up
  have p8 : At l (k1_pay8 rowNo a d) _ := hd.add (p7.mul (hd.up1 zero_up))
  have p9 : At l (k1_pay9 rowNo a) _ := p7.mul (p7.up1 one_up)
  have p10 : At l (k1_pay10 rowNo a d) _ := p9.mul (p8.up2 zero_up)
  have v57 := p8.add p10
  have v65 := p9.mul (p9.up2 one_up)
  have p11 : At l (gradGroup (F := Ideal) a d h) _ := (v57.add (v65.mul (v57.up4 zero_up))).add ((v65.mul (v65.up4 one_up)).mul (At.spread hh))
  intro r
  refine (p11 r).trans (congrArg up ?_)
  fin_cases r <;> simp [scanBack] <;> ring

/-- The gradients of a group's coefficients, one lane: each gradient times the state before its row. -/
theorem coefGroup_real {g h : FVec Ideal S8x512 .f32} {p : FVec Ideal S1x512 .f32} {l : Fin 512} {gr hr : ℕ → ℝ} {c : ℝ}
    (hg : At l g gr) (hh : At l h hr) (hp : p (ix2 0 l) = up c) :
    At l (coefGroup (F := Ideal) g h p) (fun r => gr r * (if r = 0 then c else hr (r - 1))) := by
  intro r
  have hs := At.spread hp r
  have hd : _ = _ := hh.down1 zero_up r
  have e : coefGroup (F := Ideal) g h p (ix2 r l) = FloatOps.mulf (g (ix2 r l))
      (if r = 0 then (broadcastTo S8x512 p broadcasts_S1x512_S8x512) (ix2 r l) else
        select (broadcastTo S8x512 (shapeCast S8x1 (cmpi .sge rowNo (broadcast S8x1 1#32)) shapeCasts_S8x1_S8x1) broadcasts_S8x1_S8x512)
      (dynamicRotate 0 1#32 none h rotates_S8x512_d0) (broadcast S8x512 (Scalar.ofBits .f32 0x00000000#32 : Ideal .f32)) (ix2 r l)) := by
    unfold coefGroup k1_pay3 k1_pay13 k1_pay14 k1_pay6
    simp only [shapeCast_self]
    simp only [pointwise]
    fin_cases r <;> rfl
  rw [e, hs, hd, hg r]
  by_cases h0 : r = 0
  · subst h0
    simp [Ideal.mulf_def, up]
  · have h1 : r.val ≠ 0 := fun h => h0 (Fin.ext h)
    have h2 : 1 ≤ r.val := by omega
    simp [Ideal.mulf_def, up, h0, h1, h2]

end Cert.KernelIdeal.Scan

end
-- ==== Proof.Columns.lean ====
/- One lane of the whole arrays, in real numbers: what the two launches compute is the plain recurrence over the 8192 rows,
   its reverse, and their products. -/
module

public import proofs.«01_k».proof.Proof.Lanes

@[expose] public section

set_option maxRecDepth 16384

noncomputable section

namespace Cert.KernelIdeal.Scan

open Idealize.ShloMosaic Idealize.ShloMosaic.TcCoe Idealize.ShloMosaic.Tactic
open Cert.KernelIdeal.Gen

/-- Going on from row `o` is the recurrence that went on from the start. -/
theorem scan_from (a u : ℕ → ℝ) (c : ℝ) (o k : ℕ) :
    scan (fun r => a (o + r)) (fun r => u (o + r)) (scan a u c o) k = scan a u c (o + k) := by
  induction k with
  | zero => rfl
  | succ k ih => rw [scan, ih]; rfl

/-- Going back through `M` rows from row `o` is part of going back through all `N`. -/
theorem scanBack_from (a d : ℕ → ℝ) (c : ℝ) (N o M k : ℕ) (hM : o + M ≤ N) (hk : k ≤ M) :
    scanBack (fun r => a (o + r)) (fun r => d (o + r)) (scanBack a d c N (N - o - M)) M k = scanBack a d c N (N - o - M + k) := by
  induction k with
  | zero => rfl
  | succ k ih =>
    rw [scanBack, ih (by omega)]
    have e : N - 1 - (N - o - M + k) = o + (M - 1 - k) := by omega
    show _ = scanBack a d c N ((N - o - M + k) + 1)
    rw [scanBack, e]

/-- Lane `l` of an array holds the real numbers `f`. -/
def Col (l : Fin 512) (x : Vec Ideal S8192x512 .f32) (f : ℕ → ℝ) : Prop := ∀ n : Fin 8192, x (ix2 n l) = up (f n.val)

variable {l : Fin 512}

theorem rows_tile {x : Vec Ideal S8192x512 .f32} {f : ℕ → ℝ} (hx : Col l x f) {n q : ℕ} (hn : n < 16) (hq : q < 64) :
    At l (rows (F := Ideal) q (tile x n)) (fun r => f (512 * n + 8 * q + r)) := fun r => by
  have hr := r.isLt
  refine (hx (⟨(n * 512 + (8 * q + r.val) % 512) % 8192, Nat.mod_lt _ (by decide)⟩ : Fin 8192)).trans (congrArg (fun k => up (f k)) ?_)
  show (n * 512 + (8 * q + r.val) % 512) % 8192 = 512 * n + 8 * q + r.val
  omega

section Forward

variable {a u : Vec Ideal S8192x512 .f32} {ar ur : ℕ → ℝ}

theorem carry_col (ha : Col l a ar) (hu : Col l u ur) {n : ℕ} (hn : n < 16) {h : Vec Ideal S1x512 .f32}
    (hh : h (ix2 0 l) = up (scan ar ur 0 (512 * n))) (k : ℕ) (hk : k ≤ 64) :
    carry (F := Ideal) (tile a n) (tile u n) h k (ix2 0 l) = up (scan ar ur 0 (512 * n + 8 * k)) := by
  induction k with
  | zero => exact hh
  | succ k ih =>
    have g := group_real (rows_tile ha hn (by omega : k < 64)) (rows_tile hu hn (by omega : k < 64)) (ih (by omega)) 7
    exact g.trans (congrArg up (scan_from ar ur 0 (512 * n + 8 * k) 8))

theorem stateAt_col (ha : Col l a ar) (hu : Col l u ur) (n : ℕ) (hn : n ≤ 16) :
    stateAt (F := Ideal) a u n (ix2 0 l) = up (scan ar ur 0 (512 * n)) := by
  induction n with
  | zero => exact zero_up
  | succ n ih => exact carry_col ha hu (by omega) (ih (by omega)) 64 (le_refl _)

/-- The states are the plain recurrence. -/
theorem states_col (ha : Col l a ar) (hu : Col l u ur) : Col l (states (F := Ideal) a u) (fun n => scan ar ur 0 (n + 1)) := fun m => by
  have hm := m.isLt
  have hn : m.val / 512 < 16 := by omega
  have hq : m.val % 512 / 8 < 64 := by omega
  have g := group_real (rows_tile ha hn hq) (rows_tile hu hn hq) (carry_col ha hu hn (stateAt_col ha hu _ (by omega)) (m.val % 512 / 8) (by omega))
    (⟨m.val % 512 % 8, Nat.mod_lt _ (by decide)⟩ : Fin 8)
  refine Eq.trans (by rfl) (g.trans (congrArg up ((scan_from ar ur 0 _ _).trans (congrArg (scan ar ur 0) ?_))))
  show 512 * (m.val / 512) + 8 * (m.val % 512 / 8) + (m.val % 512 % 8 + 1) = m.val + 1
  omega

end Forward

section Backward

variable {a d : Vec Ideal S8192x512 .f32} {ar dr : ℕ → ℝ}

/-- A group's gradients from what comes back to it. -/
theorem grad_col (ha : Col l a ar) (hd : Col l d dr) {n q : ℕ} (hn : n < 16) (hq : q < 64) {h : Vec Ideal S1x512 .f32}
    (hh : h (ix2 0 l) = up (scanBack ar dr 0 8192 (8192 - (512 * n + 8 * q) - 8))) :
    At l (gradGroup (F := Ideal) (rows q (tile a n)) (rows q (tile d n)) h)
      (fun r => scanBack ar dr 0 8192 (8192 - (512 * n + 8 * q) - 8 + (7 - r)) + dr (512 * n + 8 * q + r)) := fun r => by
  refine (gradGroup_real (rows_tile ha hn hq) (rows_tile hd hn hq) hh r).trans (congrArg up ?_)
  exact congrArg (· + dr (512 * n + 8 * q + r.val)) (scanBack_from ar dr 0 8192 (512 * n + 8 * q) 8 (7 - r.val) (by omega) (by omega))

theorem back_col (ha : Col l a ar) (hd : Col l d dr) {n : ℕ} (hn : n < 16) {h : Vec Ideal S1x512 .f32}
    (hh : h (ix2 0 l) = up (scanBack ar dr 0 8192 (8192 - 512 * (n + 1)))) (k : ℕ) (hk : k ≤ 64) :
    back (F := Ideal) (tile a n) (tile d n) h k (ix2 0 l) = up (scanBack ar dr 0 8192 (8192 - 512 * (n + 1) + 8 * k)) := by
  induction k with
  | zero => exact hh
  | succ k ih =>
    have e : 8192 - (512 * n + 8 * (63 - k)) - 8 = 8192 - 512 * (n + 1) + 8 * k := by omega
    have g := grad_col ha hd hn (by omega : 63 - k < 64) ((ih (by omega)).trans (by rw [e])) 0
    have g0 := rows_tile ha hn (by omega : 63 - k < 64) 0
    have w : back (F := Ideal) (tile a n) (tile d n) h (k + 1) (ix2 0 l)
        = FloatOps.mulf (F := Ideal) (φ := .f32) (rows (F := Ideal) (63 - k) (tile a n) (ix2 0 l))
          (gradGroup (F := Ideal) (rows (63 - k) (tile a n)) (rows (63 - k) (tile d n)) (back (tile a n) (tile d n) h k) (ix2 0 l)) := by
      rw [back, k1_pay4]
      simp only [shapeCast_self]
      rfl
    rw [w, g, g0, Ideal.mulf_def, up, up, ← EReal.coe_mul]
    refine congrArg up ?_
    have e2 : 8192 - 512 * (n + 1) + 8 * (k + 1) = (8192 - (512 * n + 8 * (63 - k)) - 8 + 7) + 1 := by omega
    have e3 : 8192 - 1 - (8192 - (512 * n + 8 * (63 - k)) - 8 + 7) = 512 * n + 8 * (63 - k) + 0 := by omega
    rw [e2, scanBack, e3]
    rfl

theorem handed_col (ha : Col l a ar) (hd : Col l d dr) (n : ℕ) (hn : n ≤ 16) :
    handed (F := Ideal) a d n (ix2 0 l) = up (scanBack ar dr 0 8192 (512 * n)) := by
  induction n with
  | zero =>
    show k1_pay1 (F := Ideal) (ix2 0 l) = _
    rw [k1_pay1]
    simp only [shapeCast_self]
    exact zero_up
  | succ n ih =>
    have e : 8192 - 512 * (15 - n + 1) = 512 * n := by omega
    have b := back_col ha hd (by omega : 15 - n < 16) ((ih (by omega)).trans (by rw [e])) 64 (le_refl _)
    exact b.trans (congrArg (fun k => up (scanBack ar dr 0 8192 k)) (by omega))

/-- A group's gradients in the whole array. -/
theorem gradAt_col (ha : Col l a ar) (hd : Col l d dr) {n q : ℕ} (hn : n < 16) (hq : q < 64) :
    At l (gradAt (F := Ideal) (tile a n) (tile d n) (handed a d (15 - n)) q)
      (fun r => scanBack ar dr 0 8192 (8192 - (512 * n + 8 * q) - 8 + (7 - r)) + dr (512 * n + 8 * q + r)) := by
  have h := handed_col ha hd (15 - n) (by omega)
  have e : 512 * (15 - n) = 8192 - 512 * (n + 1) := by omega
  have b := back_col ha hd hn (h.trans (by rw [e])) (63 - q) (by omega)
  exact grad_col ha hd hn hq (b.trans (congrArg (fun k => up (scanBack ar dr 0 8192 k)) (by omega)))

/-- The gradients of the inputs are the recurrence back. -/
theorem inputGrads_col (ha : Col l a ar) (hd : Col l d dr) :
    Col l (inputGrads (F := Ideal) a d) (fun n => scanBack ar dr 0 8192 (8191 - n) + dr n) := fun m => by
  have hm := m.isLt
  have hn : m.val / 512 < 16 := by omega
  have hq : m.val % 512 / 8 < 64 := by omega
  have g := gradAt_col ha hd hn hq (⟨m.val % 512 % 8, Nat.mod_lt _ (by decide)⟩ : Fin 8)
  refine Eq.trans (by rfl) (g.trans (congrArg up ?_))
  have e1 : 512 * (m.val / 512) + 8 * (m.val % 512 / 8) + m.val % 512 % 8 = m.val := by omega
  have e2 : 8192 - (512 * (m.val / 512) + 8 * (m.val % 512 / 8)) - 8 + (7 - m.val % 512 % 8) = 8191 - m.val := by omega
  show scanBack ar dr 0 8192 (8192 - (512 * (m.val / 512) + 8 * (m.val % 512 / 8)) - 8 + (7 - m.val % 512 % 8))
    + dr (512 * (m.val / 512) + 8 * (m.val % 512 / 8) + m.val % 512 % 8) = _
  rw [e1, e2]

/-- The gradients of the coefficients: each gradient of an input times the state before its row. -/
theorem coefGrads_col {h : Vec Ideal S8192x512 .f32} {st : ℕ → ℝ} (ha : Col l a ar) (hh : Col l h (fun n => st (n + 1))) (hst : st 0 = 0)
    (hd : Col l d dr) :
    Col l (coefGrads (F := Ideal) a h d) (fun n => (scanBack ar dr 0 8192 (8191 - n) + dr n) * st n) := fun m => by
  have hm := m.isLt
  have hn : m.val / 512 < 16 := by omega
  have hq : m.val % 512 / 8 < 64 := by omega
  generalize en : m.val / 512 = n at hn
  generalize eq : m.val % 512 / 8 = q at hq
  have g := gradAt_col ha hd hn hq
  have hp : (if n = 0 then fun _ => FloatOps.ofBits (F := Ideal) .f32 0#32 else lastRow (before h n) : Vec Ideal S1x512 .f32) (ix2 0 l) = up (st (512 * n)) := by
    by_cases h0 : n = 0
    · subst h0
      rw [if_pos rfl, hst]
      exact zero_up
    · rw [if_neg h0]
      refine (hh (⟨((n * 64 - 1) * 8 + 7) % 8192, Nat.mod_lt _ (by decide)⟩ : Fin 8192)).trans (congrArg (fun k => up (st k)) ?_)
      show ((n * 64 - 1) * 8 + 7) % 8192 + 1 = 512 * n
      omega
  have hb : stateBefore (F := Ideal) (tile h n) (if n = 0 then fun _ => FloatOps.ofBits (F := Ideal) .f32 0#32 else lastRow (before h n)) q (ix2 0 l)
      = up (st (512 * n + 8 * q)) := by
    rw [stateBefore]
    by_cases h0 : q = 0
    · subst h0
      rw [if_pos rfl]
      exact hp
    · rw [if_neg h0]
      refine (hh (⟨(n * 512 + (8 * q - 1) % 512) % 8192, Nat.mod_lt _ (by decide)⟩ : Fin 8192)).trans (congrArg (fun k => up (st k)) ?_)
      show (n * 512 + (8 * q - 1) % 512) % 8192 + 1 = 512 * n + 8 * q
      omega
  have c := coefGroup_real g (rows_tile hh hn hq) hb (⟨m.val % 512 % 8, Nat.mod_lt _ (by decide)⟩ : Fin 8)
  have w : coefGrads (F := Ideal) a h d (ix2 m l)
      = coefGroup (F := Ideal) (gradAt (tile a n) (tile d n) (handed a d (15 - n)) q) (rows q (tile h n))
          (stateBefore (tile h n) (if n = 0 then fun _ => FloatOps.ofBits (F := Ideal) .f32 0#32 else lastRow (before h n)) q)
          (ix2 (⟨m.val % 512 % 8, Nat.mod_lt _ (by decide)⟩ : Fin 8) l) := by
    subst en eq
    rfl
  refine w.trans (c.trans (congrArg up ?_))
  have e1 : 512 * n + 8 * q + m.val % 512 % 8 = m.val := by omega
  have e2 : 8192 - (512 * n + 8 * q) - 8 + (7 - m.val % 512 % 8) = 8191 - m.val := by omega
  show (scanBack ar dr 0 8192 (8192 - (512 * n + 8 * q) - 8 + (7 - m.val % 512 % 8)) + dr (512 * n + 8 * q + m.val % 512 % 8))
    * (if m.val % 512 % 8 = 0 then st (512 * n + 8 * q) else st (512 * n + 8 * q + (m.val % 512 % 8 - 1) + 1)) = _
  rw [e1, e2]
  refine congrArg (fun x : ℝ => (scanBack ar dr 0 8192 (8191 - m.val) + dr m.val) * x) ?_
  by_cases h0 : m.val % 512 % 8 = 0
  · rw [if_pos h0]
    exact congrArg st (by omega)
  · rw [if_neg h0]
    exact congrArg st (by omega)

end Backward

end Cert.KernelIdeal.Scan

end
-- ==== Proof.RefColumns.lean ====
/- One lane of the reference's arrays, in real numbers: the plain recurrence, its reverse, and their products. -/
module

public import proofs.«01_k».proof.Proof.RefTotal
public import proofs.«01_k».proof.Proof.Columns

@[expose] public section

set_option maxRecDepth 16384

noncomputable section

namespace Cert.ReferenceIdeal.Plainly

open Idealize.ShloMosaic Idealize.ShloMosaic.TcCoe Idealize.ShloMosaic.Tactic
open Cert.ReferenceIdeal.Gen
open Cert.KernelIdeal.Scan (up scan scanBack)

/-- Lane `l` of an array holds the real numbers `f`. -/
def Col (l : Fin 512) (x : Arr Ideal) (f : ℕ → ℝ) : Prop := ∀ n : Fin 8192, x (ix2 n l) = up (f n.val)

variable {l : Fin 512} {a u d : Arr Ideal} {ar ur dr : ℕ → ℝ}

theorem row_col (ha : Col l a ar) {n : ℕ} (hn : n < 8192) : row a n (ix1 l) = up (ar n) :=
  (ha (⟨n % 8192, Nat.mod_lt _ (by decide)⟩ : Fin 8192)).trans (congrArg (fun k => up (ar k)) (Nat.mod_eq_of_lt hn))

theorem zeroLane_col : zeroLane (F := Ideal) (ix1 l) = up 0 := Ideal.ofBits_zero_f32

theorem stateOf_col (ha : Col l a ar) (hu : Col l u ur) (n : ℕ) (hn : n ≤ 8192) : stateOf a u n (ix1 l) = up (scan ar ur 0 n) := by
  induction n with
  | zero => exact zeroLane_col
  | succ n ih =>
    show FloatOps.addf (F := Ideal) (φ := .f32) (FloatOps.mulf (F := Ideal) (φ := .f32) (row a n (ix1 l)) (stateOf a u n (ix1 l))) (row u n (ix1 l)) = _
    rw [ih (by omega), row_col ha (by omega), row_col hu (by omega), Ideal.mulf_def, Ideal.addf_def, up, up, up, ← EReal.coe_mul, ← EReal.coe_add]
    rfl

theorem backOf_col (ha : Col l a ar) (hd : Col l d dr) (n : ℕ) (hn : n ≤ 8192) : backOf a d n (ix1 l) = up (scanBack ar dr 0 8192 n) := by
  induction n with
  | zero => exact zeroLane_col
  | succ n ih =>
    show FloatOps.mulf (F := Ideal) (φ := .f32) (row a (8191 - n) (ix1 l))
      (FloatOps.addf (F := Ideal) (φ := .f32) (backOf a d n (ix1 l)) (row d (8191 - n) (ix1 l))) = _
    rw [ih (by omega), row_col ha (by omega), row_col hd (by omega), Ideal.mulf_def, Ideal.addf_def, up, up, up, ← EReal.coe_add, ← EReal.coe_mul]
    rfl

theorem inputGrad_col (ha : Col l a ar) (hd : Col l d dr) (n : ℕ) (hn : n < 8192) :
    inputGrad a d n (ix1 l) = up (scanBack ar dr 0 8192 (8191 - n) + dr n) := by
  show FloatOps.addf (F := Ideal) (φ := .f32) (backOf a d (8191 - n) (ix1 l)) (row d n (ix1 l)) = _
  rw [backOf_col ha hd _ (by omega), row_col hd hn, Ideal.addf_def, up, up, ← EReal.coe_add]

theorem coefGrad_col (ha : Col l a ar) (hu : Col l u ur) (hd : Col l d dr) (n : ℕ) (hn : n < 8192) :
    coefGrad a u d n (ix1 l) = up ((scanBack ar dr 0 8192 (8191 - n) + dr n) * scan ar ur 0 n) := by
  show FloatOps.mulf (F := Ideal) (φ := .f32) (inputGrad a d n (ix1 l)) (stateOf a u n (ix1 l)) = _
  rw [inputGrad_col ha hd n hn, stateOf_col ha hu n (by omega), Ideal.mulf_def, up, up, ← EReal.coe_mul]

/-- The same words of the kernel's arrays. -/
theorem Col.same {x : Arr Ideal} {f : ℕ → ℝ} (h : Col l x f) : Cert.KernelIdeal.Scan.Col l x f := h

section Tie

variable (fa : ∀ j, a j ≠ ⊤ ∧ a j ≠ ⊥) (fu : ∀ j, u j ≠ ⊤ ∧ u j ≠ ⊥) (fd : ∀ j, d j ≠ ⊤ ∧ d j ≠ ⊥)

/-- A finite array's lanes are real numbers. -/
theorem finite_col {x : Arr Ideal} (fx : ∀ j, x j ≠ ⊤ ∧ x j ≠ ⊥) (l : Fin 512) :
    Col l x (fun n => EReal.toReal (x (ix2 (⟨n % 8192, Nat.mod_lt _ (by decide)⟩ : Fin 8192) l))) := fun n => by
  have e : (⟨n.val % 8192, Nat.mod_lt _ (by decide)⟩ : Fin 8192) = n := Fin.ext (Nat.mod_eq_of_lt n.isLt)
  show _ = up (EReal.toReal (x (ix2 (⟨n.val % 8192, Nat.mod_lt _ (by decide)⟩ : Fin 8192) l)))
  rw [e]
  exact (EReal.coe_toReal (fx _).1 (fx _).2).symm

theorem made_at (f : ℕ → Lane Ideal) (n : Fin 8192) (l : Fin 512) : made f (ix2 n l) = f n.val (ix1 l) := rfl

include fa fu in
/-- The states the blocked scan leaves are the reference's. -/
theorem states_eq : Cert.KernelIdeal.Scan.states (F := Ideal) a u = made fun n => stateOf a u (n + 1) := by
  funext j
  obtain ⟨n, l, rfl⟩ : ∃ (n : Fin 8192) (l : Fin 512), j = ix2 n l := ⟨j 0, j 1, by funext i; fin_cases i <;> rfl⟩
  have ha := finite_col fa l
  have ka := ha.same
  have hu := finite_col fu l
  have ku := hu.same
  exact (Cert.KernelIdeal.Scan.states_col ka ku n).trans (stateOf_col ha hu (n.val + 1) n.isLt).symm

include fa fd in
/-- The gradients of the inputs are the reference's. -/
theorem inputGrads_eq : Cert.KernelIdeal.Scan.inputGrads (F := Ideal) a d = made (inputGrad a d) := by
  funext j
  obtain ⟨n, l, rfl⟩ : ∃ (n : Fin 8192) (l : Fin 512), j = ix2 n l := ⟨j 0, j 1, by funext i; fin_cases i <;> rfl⟩
  have ha := finite_col fa l
  have ka := ha.same
  have hd := finite_col fd l
  have kd := hd.same
  exact (Cert.KernelIdeal.Scan.inputGrads_col ka kd n).trans (inputGrad_col ha hd n.val n.isLt).symm

include fa fu fd in
/-- The gradients of the coefficients, from the states the forward launch left, are the reference's. -/
theorem coefGrads_eq : Cert.KernelIdeal.Scan.coefGrads (F := Ideal) a (Cert.KernelIdeal.Scan.states a u) d = made (coefGrad a u d) := by
  funext j
  obtain ⟨n, l, rfl⟩ : ∃ (n : Fin 8192) (l : Fin 512), j = ix2 n l := ⟨j 0, j 1, by funext i; fin_cases i <;> rfl⟩
  have ha := finite_col fa l
  have ka := ha.same
  have hu := finite_col fu l
  have ku := hu.same
  have hd := finite_col fd l
  have kd := hd.same
  exact (Cert.KernelIdeal.Scan.coefGrads_col ka (Cert.KernelIdeal.Scan.states_col ka ku) rfl kd n).trans (coefGrad_col ha hu hd n.val n.isLt).symm

end Tie

end Cert.ReferenceIdeal.Plainly

end
-- ==== Proof.Finite.lean ====
/- What the precondition says: every entry of the three arrays is a real number. -/
module

public import proofs.«01_k».proof.Defs
public import proofs.«01_k».proof.Proof.Gen.Pre_finite
public import Idealize.ShloMosaic.Lib.IdealHost
public import Idealize.ShloMosaic.Lib.StableHlo.Predicate

@[expose] public section

noncomputable section

namespace Cert.Proof

open Idealize.ShloMosaic

/-- The pattern of infinity is the largest extended real. -/
theorem inf_top : Ideal.ofBits .f32 0x7F800000#32 = (⊤ : EReal) := by
  simp [Ideal.ofBits, Ideal.ieee]

/-- An absolute value below infinity is a real number's. -/
theorem real_of_below {x : EReal} (h : max x (-x) < ⊤) : x ≠ ⊤ ∧ x ≠ ⊥ := by
  constructor
  · rintro rfl; simp at h
  · rintro rfl; simp at h

/-- The precondition at one entry of each array. -/
theorem finite_of {a u d : FVec Ideal Cert.Pre_finite.S8192x512 .f32} (h : Cert.Pre_finite.fn (F := Ideal) a u d = fun _ => 1#1)
    (j : Cert.Pre_finite.S8192x512.Idx) : (a j ≠ ⊤ ∧ a j ≠ ⊥) ∧ (u j ≠ ⊤ ∧ u j ≠ ⊥) ∧ (d j ≠ ⊤ ∧ d j ≠ ⊥) := by
  have e : IntOp.andi (IntOp.andi (Ideal.cmp .olt (max (a j) (-(a j))) (Ideal.ofBits .f32 0x7F800000#32))
      (Ideal.cmp .olt (max (u j) (-(u j))) (Ideal.ofBits .f32 0x7F800000#32)))
      (Ideal.cmp .olt (max (d j) (-(d j))) (Ideal.ofBits .f32 0x7F800000#32)) = 1#1 := congrFun h j
  rw [inf_top, IntOp.andi_eq_one, IntOp.andi_eq_one] at e
  have b : ∀ x : EReal, Ideal.cmp .olt (max x (-x)) ⊤ = 1#1 → x ≠ ⊤ ∧ x ≠ ⊥ := fun x hx =>
    real_of_below (of_decide_eq_true ((StableHlo.Predicate.ofBool_eq_one_iff _).mp hx))
  exact ⟨b _ e.1.1, b _ e.1.2, b _ e.2⟩

end Cert.Proof

end
-- ==== Proof.SameText.lean ====
/- The kernel and its idealization are one text: their tables of bodies are the same. -/
module

public import proofs.«01_k».proof.Proof.Gen.Kernel
public import proofs.«01_k».proof.Proof.Gen.KernelIdeal

@[expose] public section

noncomputable section

namespace Cert.Proof

open Idealize.ShloMosaic Idealize.SL.Sem

variable {F : FTy → Type} [FloatOps F]

/-- The kernels' bodies, label by label. -/
theorem same_bodies : Cert.Kernel.defs₀ (F := F) = Cert.KernelIdeal.defs₀ (F := F) := by
  unfold Cert.Kernel.defs₀ Cert.KernelIdeal.defs₀
  refine congrArg Defs.onTc ?_
  funext k ts
  match k, ts with
  | ⟨0, _⟩, (t, s) => rfl
  | ⟨1, _⟩, (t, s) => rfl
  | ⟨n + 2, h⟩, _ => exact absurd h (Nat.not_lt.2 (Nat.le_add_left _ _))

/-- The whole tables. -/
theorem same_defs : Cert.Kernel.defs (F := F) = Cert.KernelIdeal.defs (F := F) :=
  congrArg (Pipeline.defs (Cert.KernelIdeal.pcfgs (F := F))) same_bodies

end Cert.Proof

end
-- ==== Proof.lean ====
module

public import proofs.«01_k».proof.Proof.Gen.DownX
public import proofs.«01_k».proof.Proof.Gen.DownX.Frame
public import proofs.«01_k».proof.Proof.Gen.DownXIdeal
public import proofs.«01_k».proof.Proof.Gen.DownXIdeal.Value
public import proofs.«01_k».proof.Proof.Gen.DownXReferenceIdeal
public import proofs.«01_k».proof.Proof.Gen.DownXReferenceIdeal.Run
public import proofs.«01_k».proof.Proof.DownX
public import proofs.«01_k».proof.Proof.Gen.DownW
public import proofs.«01_k».proof.Proof.Gen.DownW.Frame
public import proofs.«01_k».proof.Proof.Gen.DownWIdeal
public import proofs.«01_k».proof.Proof.Gen.DownWIdeal.Value
public import proofs.«01_k».proof.Proof.Gen.DownWReferenceIdeal
public import proofs.«01_k».proof.Proof.Gen.DownWReferenceIdeal.Run
public import proofs.«01_k».proof.Proof.DownW
public import proofs.«01_k».proof.Proof.Gen.UpX
public import proofs.«01_k».proof.Proof.Gen.UpX.Frame
public import proofs.«01_k».proof.Proof.Gen.UpXIdeal
public import proofs.«01_k».proof.Proof.Gen.UpXIdeal.Value
public import proofs.«01_k».proof.Proof.Gen.UpXReferenceIdeal
public import proofs.«01_k».proof.Proof.Gen.UpXReferenceIdeal.Run
public import proofs.«01_k».proof.Proof.UpX
public import proofs.«01_k».proof.Proof.Gen.UpW
public import proofs.«01_k».proof.Proof.Gen.UpW.Frame
public import proofs.«01_k».proof.Proof.Gen.UpWIdeal
public import proofs.«01_k».proof.Proof.Gen.UpWIdeal.Value
public import proofs.«01_k».proof.Proof.Gen.UpWReferenceIdeal
public import proofs.«01_k».proof.Proof.Gen.UpWReferenceIdeal.Run
public import proofs.«01_k».proof.Proof.UpW
public import proofs.«01_k».proof.Proof.Gen.Up
public import proofs.«01_k».proof.Proof.Gen.Up.Frame
public import proofs.«01_k».proof.Proof.Gen.UpIdeal
public import proofs.«01_k».proof.Proof.Gen.UpIdeal.Value
public import proofs.«01_k».proof.Proof.Gen.UpReferenceIdeal
public import proofs.«01_k».proof.Proof.Gen.UpReferenceIdeal.Run
public import proofs.«01_k».proof.Proof.Up
public import proofs.«01_k».proof.Proof.Gen.Down
public import proofs.«01_k».proof.Proof.Gen.Down.Frame
public import proofs.«01_k».proof.Proof.Gen.DownIdeal
public import proofs.«01_k».proof.Proof.Gen.DownIdeal.Value
public import proofs.«01_k».proof.Proof.Gen.DownReferenceIdeal
public import proofs.«01_k».proof.Proof.Gen.DownReferenceIdeal.Run
public import proofs.«01_k».proof.Proof.Down
public import proofs.«01_k».proof.Proof.Gen.GdnW
public import proofs.«01_k».proof.Proof.Gen.GdnW.Frame
public import proofs.«01_k».proof.Proof.Gen.GdnWIdeal
public import proofs.«01_k».proof.Proof.Gen.GdnWIdeal.Value
public import proofs.«01_k».proof.Proof.Gen.GdnWReferenceIdeal
public import proofs.«01_k».proof.Proof.Gen.GdnWReferenceIdeal.Run
public import proofs.«01_k».proof.Proof.GdnW
public import proofs.«01_k».proof.Proof.Gen.SsdW
public import proofs.«01_k».proof.Proof.Gen.SsdW.Frame
public import proofs.«01_k».proof.Proof.Gen.SsdWIdeal
public import proofs.«01_k».proof.Proof.Gen.SsdWIdeal.Value
public import proofs.«01_k».proof.Proof.Gen.SsdWReferenceIdeal
public import proofs.«01_k».proof.Proof.Gen.SsdWReferenceIdeal.Run
public import proofs.«01_k».proof.Proof.SsdW
public import proofs.«01_k».proof.Proof.Gen.LruW
public import proofs.«01_k».proof.Proof.Gen.LruW.Frame
public import proofs.«01_k».proof.Proof.Gen.LruWIdeal
public import proofs.«01_k».proof.Proof.Gen.LruWIdeal.Value
public import proofs.«01_k».proof.Proof.Gen.LruWReferenceIdeal
public import proofs.«01_k».proof.Proof.Gen.LruWReferenceIdeal.Run
public import proofs.«01_k».proof.Proof.LruW
public import proofs.«01_k».proof.Proof.Gen.GateW
public import proofs.«01_k».proof.Proof.Gen.GateW.Frame
public import proofs.«01_k».proof.Proof.Gen.GateWIdeal
public import proofs.«01_k».proof.Proof.Gen.GateWIdeal.Value
public import proofs.«01_k».proof.Proof.Gen.GateWReferenceIdeal
public import proofs.«01_k».proof.Proof.Gen.GateWReferenceIdeal.Run
public import proofs.«01_k».proof.Proof.GateW
public import proofs.«01_k».proof.Proof.Gen.GdnX
public import proofs.«01_k».proof.Proof.Gen.GdnX.Frame
public import proofs.«01_k».proof.Proof.Gen.GdnXIdeal
public import proofs.«01_k».proof.Proof.Gen.GdnXIdeal.Value
public import proofs.«01_k».proof.Proof.Gen.GdnXReferenceIdeal
public import proofs.«01_k».proof.Proof.Gen.GdnXReferenceIdeal.Run
public import proofs.«01_k».proof.Proof.GdnX
public import proofs.«01_k».proof.Proof.Gen.GdnBiasX
public import proofs.«01_k».proof.Proof.Gen.GdnBiasX.Frame
public import proofs.«01_k».proof.Proof.Gen.GdnBiasXIdeal
public import proofs.«01_k».proof.Proof.Gen.GdnBiasXIdeal.Value
public import proofs.«01_k».proof.Proof.Gen.GdnBiasXReferenceIdeal
public import proofs.«01_k».proof.Proof.Gen.GdnBiasXReferenceIdeal.Run
public import proofs.«01_k».proof.Proof.GdnBiasX
public import proofs.«01_k».proof.Proof.Gen.SsdX
public import proofs.«01_k».proof.Proof.Gen.SsdX.Frame
public import proofs.«01_k».proof.Proof.Gen.SsdXIdeal
public import proofs.«01_k».proof.Proof.Gen.SsdXIdeal.Value
public import proofs.«01_k».proof.Proof.Gen.SsdXReferenceIdeal
public import proofs.«01_k».proof.Proof.Gen.SsdXReferenceIdeal.Run
public import proofs.«01_k».proof.Proof.SsdX
public import proofs.«01_k».proof.Proof.Gen.LruX
public import proofs.«01_k».proof.Proof.Gen.LruX.Frame
public import proofs.«01_k».proof.Proof.Gen.LruXIdeal
public import proofs.«01_k».proof.Proof.Gen.LruXIdeal.Value
public import proofs.«01_k».proof.Proof.Gen.LruXReferenceIdeal
public import proofs.«01_k».proof.Proof.Gen.LruXReferenceIdeal.Run
public import proofs.«01_k».proof.Proof.LruX
public import proofs.«01_k».proof.Proof.Gen.GateX
public import proofs.«01_k».proof.Proof.Gen.GateX.Frame
public import proofs.«01_k».proof.Proof.Gen.GateXIdeal
public import proofs.«01_k».proof.Proof.Gen.GateXIdeal.Value
public import proofs.«01_k».proof.Proof.Gen.GateXReferenceIdeal
public import proofs.«01_k».proof.Proof.Gen.GateXReferenceIdeal.Run
public import proofs.«01_k».proof.Proof.GateX
public import proofs.«01_k».proof.Proof.Gen.GdnIn
public import proofs.«01_k».proof.Proof.Gen.GdnIn.Frame
public import proofs.«01_k».proof.Proof.Gen.GdnInIdeal
public import proofs.«01_k».proof.Proof.Gen.GdnInIdeal.Value
public import proofs.«01_k».proof.Proof.Gen.GdnInReferenceIdeal
public import proofs.«01_k».proof.Proof.Gen.GdnInReferenceIdeal.Run
public import proofs.«01_k».proof.Proof.GdnIn
public import proofs.«01_k».proof.Proof.Gen.SsdIn
public import proofs.«01_k».proof.Proof.Gen.SsdIn.Frame
public import proofs.«01_k».proof.Proof.Gen.SsdInIdeal
public import proofs.«01_k».proof.Proof.Gen.SsdInIdeal.Value
public import proofs.«01_k».proof.Proof.Gen.SsdInReferenceIdeal
public import proofs.«01_k».proof.Proof.Gen.SsdInReferenceIdeal.Run
public import proofs.«01_k».proof.Proof.SsdIn
public import proofs.«01_k».proof.Proof.Gen.LruIn
public import proofs.«01_k».proof.Proof.Gen.LruIn.Frame
public import proofs.«01_k».proof.Proof.Gen.LruInIdeal
public import proofs.«01_k».proof.Proof.Gen.LruInIdeal.Value
public import proofs.«01_k».proof.Proof.Gen.LruInReferenceIdeal
public import proofs.«01_k».proof.Proof.Gen.LruInReferenceIdeal.Run
public import proofs.«01_k».proof.Proof.LruIn
public import proofs.«01_k».proof.Proof.Gen.GateIn
public import proofs.«01_k».proof.Proof.Gen.GateIn.Frame
public import proofs.«01_k».proof.Proof.Gen.GateInIdeal
public import proofs.«01_k».proof.Proof.Gen.GateInIdeal.Value
public import proofs.«01_k».proof.Proof.Gen.GateInReferenceIdeal
public import proofs.«01_k».proof.Proof.Gen.GateInReferenceIdeal.Run
public import proofs.«01_k».proof.Proof.GateIn
public import proofs.«01_k».proof.Proof.Gen.OutX
public import proofs.«01_k».proof.Proof.Gen.OutX.Frame
public import proofs.«01_k».proof.Proof.Gen.OutXIdeal
public import proofs.«01_k».proof.Proof.Gen.OutXIdeal.Value
public import proofs.«01_k».proof.Proof.Gen.OutXReferenceIdeal
public import proofs.«01_k».proof.Proof.Gen.OutXReferenceIdeal.Run
public import proofs.«01_k».proof.Proof.OutX
public import proofs.«01_k».proof.Proof.Gen.OutW
public import proofs.«01_k».proof.Proof.Gen.OutW.Frame
public import proofs.«01_k».proof.Proof.Gen.OutWIdeal
public import proofs.«01_k».proof.Proof.Gen.OutWIdeal.Value
public import proofs.«01_k».proof.Proof.Gen.OutWReferenceIdeal
public import proofs.«01_k».proof.Proof.Gen.OutWReferenceIdeal.Run
public import proofs.«01_k».proof.Proof.OutW
public import proofs.«01_k».proof.Proof.Gen.Out
public import proofs.«01_k».proof.Proof.Gen.Out.Frame
public import proofs.«01_k».proof.Proof.Gen.OutIdeal
public import proofs.«01_k».proof.Proof.Gen.OutIdeal.Value
public import proofs.«01_k».proof.Proof.Gen.OutReferenceIdeal
public import proofs.«01_k».proof.Proof.Gen.OutReferenceIdeal.Run
public import proofs.«01_k».proof.Proof.Out
public import proofs.«01_k».proof.Proof.Gen.MergeX
public import proofs.«01_k».proof.Proof.Gen.MergeX.Frame
public import proofs.«01_k».proof.Proof.Gen.MergeXIdeal
public import proofs.«01_k».proof.Proof.Gen.MergeXIdeal.Value
public import proofs.«01_k».proof.Proof.Gen.MergeXReferenceIdeal
public import proofs.«01_k».proof.Proof.Gen.MergeXReferenceIdeal.Run
public import proofs.«01_k».proof.Proof.MergeX
public import proofs.«01_k».proof.Proof.Gen.Merge
public import proofs.«01_k».proof.Proof.Gen.Merge.Frame
public import proofs.«01_k».proof.Proof.Gen.MergeIdeal
public import proofs.«01_k».proof.Proof.Gen.MergeIdeal.Value
public import proofs.«01_k».proof.Proof.Gen.MergeReferenceIdeal
public import proofs.«01_k».proof.Proof.Gen.MergeReferenceIdeal.Run
public import proofs.«01_k».proof.Proof.Merge
public import proofs.«01_k».proof.Proof.Gen.AdaW
public import proofs.«01_k».proof.Proof.Gen.AdaW.Frame
public import proofs.«01_k».proof.Proof.Gen.AdaWIdeal
public import proofs.«01_k».proof.Proof.Gen.AdaWIdeal.Value
public import proofs.«01_k».proof.Proof.Gen.AdaWReferenceIdeal
public import proofs.«01_k».proof.Proof.Gen.AdaWReferenceIdeal.Run
public import proofs.«01_k».proof.Proof.AdaW
public import proofs.«01_k».proof.Proof.Gen.Mod
public import proofs.«01_k».proof.Proof.Gen.Mod.Frame
public import proofs.«01_k».proof.Proof.Gen.ModIdeal
public import proofs.«01_k».proof.Proof.Gen.ModIdeal.Value
public import proofs.«01_k».proof.Proof.Gen.ModReferenceIdeal
public import proofs.«01_k».proof.Proof.Gen.ModReferenceIdeal.Run
public import proofs.«01_k».proof.Proof.Mod
public import proofs.«01_k».proof.Proof.Gen.AdamAda
public import proofs.«01_k».proof.Proof.Gen.AdamAda.Frame
public import proofs.«01_k».proof.Proof.Gen.AdamAdaIdeal
public import proofs.«01_k».proof.Proof.Gen.AdamAdaIdeal.Value
public import proofs.«01_k».proof.Proof.Gen.AdamAdaReferenceIdeal
public import proofs.«01_k».proof.Proof.Gen.AdamAdaReferenceIdeal.Run
public import proofs.«01_k».proof.Proof.AdamAda
public import proofs.«01_k».proof.Proof.Gen.AdamIn
public import proofs.«01_k».proof.Proof.Gen.AdamIn.Frame
public import proofs.«01_k».proof.Proof.Gen.AdamInIdeal
public import proofs.«01_k».proof.Proof.Gen.AdamInIdeal.Value
public import proofs.«01_k».proof.Proof.Gen.AdamInReferenceIdeal
public import proofs.«01_k».proof.Proof.Gen.AdamInReferenceIdeal.Run
public import proofs.«01_k».proof.Proof.AdamIn
public import proofs.«01_k».proof.Proof.Gen.AdamBranch
public import proofs.«01_k».proof.Proof.Gen.AdamBranch.Frame
public import proofs.«01_k».proof.Proof.Gen.AdamBranchIdeal
public import proofs.«01_k».proof.Proof.Gen.AdamBranchIdeal.Value
public import proofs.«01_k».proof.Proof.Gen.AdamBranchReferenceIdeal
public import proofs.«01_k».proof.Proof.Gen.AdamBranchReferenceIdeal.Run
public import proofs.«01_k».proof.Proof.AdamBranch
public import proofs.«01_k».proof.Proof.Gen.AdamOut
public import proofs.«01_k».proof.Proof.Gen.AdamOut.Frame
public import proofs.«01_k».proof.Proof.Gen.AdamOutIdeal
public import proofs.«01_k».proof.Proof.Gen.AdamOutIdeal.Value
public import proofs.«01_k».proof.Proof.Gen.AdamOutReferenceIdeal
public import proofs.«01_k».proof.Proof.Gen.AdamOutReferenceIdeal.Run
public import proofs.«01_k».proof.Proof.AdamOut
public import proofs.«01_k».proof.Proof.Gen.AdamUp
public import proofs.«01_k».proof.Proof.Gen.AdamUp.Frame
public import proofs.«01_k».proof.Proof.Gen.AdamUpIdeal
public import proofs.«01_k».proof.Proof.Gen.AdamUpIdeal.Value
public import proofs.«01_k».proof.Proof.Gen.AdamUpReferenceIdeal
public import proofs.«01_k».proof.Proof.Gen.AdamUpReferenceIdeal.Run
public import proofs.«01_k».proof.Proof.AdamUp
public import proofs.«01_k».proof.Proof.Gen.AdamSmall
public import proofs.«01_k».proof.Proof.Gen.AdamSmall.Frame
public import proofs.«01_k».proof.Proof.Gen.AdamSmallIdeal
public import proofs.«01_k».proof.Proof.Gen.AdamSmallIdeal.Value
public import proofs.«01_k».proof.Proof.Gen.AdamSmallReferenceIdeal
public import proofs.«01_k».proof.Proof.Gen.AdamSmallReferenceIdeal.Run
public import proofs.«01_k».proof.Proof.AdamSmall
public import proofs.«01_k».proof.Proof.Gen.AdamConv
public import proofs.«01_k».proof.Proof.Gen.AdamConv.Frame
public import proofs.«01_k».proof.Proof.Gen.AdamConvIdeal
public import proofs.«01_k».proof.Proof.Gen.AdamConvIdeal.Value
public import proofs.«01_k».proof.Proof.Gen.AdamConvReferenceIdeal
public import proofs.«01_k».proof.Proof.Gen.AdamConvReferenceIdeal.Run
public import proofs.«01_k».proof.Proof.AdamConv
public import proofs.«01_k».proof.Proof.Gen.Norm1X
public import proofs.«01_k».proof.Proof.Gen.Norm1X.Frame
public import proofs.«01_k».proof.Proof.Gen.Norm1XIdeal
public import proofs.«01_k».proof.Proof.Gen.Norm1XIdeal.Value
public import proofs.«01_k».proof.Proof.Gen.Norm1XReferenceIdeal
public import proofs.«01_k».proof.Proof.Gen.Norm1XReferenceIdeal.Run
public import proofs.«01_k».proof.Proof.Norm1X
public import proofs.«01_k».proof.Proof.Gen.Norm2X
public import proofs.«01_k».proof.Proof.Gen.Norm2X.Frame
public import proofs.«01_k».proof.Proof.Gen.Norm2XIdeal
public import proofs.«01_k».proof.Proof.Gen.Norm2XIdeal.Value
public import proofs.«01_k».proof.Proof.Gen.Norm2XReferenceIdeal
public import proofs.«01_k».proof.Proof.Gen.Norm2XReferenceIdeal.Run
public import proofs.«01_k».proof.Proof.Norm2X
public import proofs.«01_k».proof.Proof.Gen.ResidX
public import proofs.«01_k».proof.Proof.Gen.ResidX.Frame
public import proofs.«01_k».proof.Proof.Gen.ResidXIdeal
public import proofs.«01_k».proof.Proof.Gen.ResidXIdeal.Value
public import proofs.«01_k».proof.Proof.Gen.ResidXReferenceIdeal
public import proofs.«01_k».proof.Proof.Gen.ResidXReferenceIdeal.Run
public import proofs.«01_k».proof.Proof.ResidX
public import proofs.«01_k».proof.Proof.Gen.Norm1
public import proofs.«01_k».proof.Proof.Gen.Norm1.Frame
public import proofs.«01_k».proof.Proof.Gen.Norm1Ideal
public import proofs.«01_k».proof.Proof.Gen.Norm1Ideal.Value
public import proofs.«01_k».proof.Proof.Gen.Norm1ReferenceIdeal
public import proofs.«01_k».proof.Proof.Gen.Norm1ReferenceIdeal.Run
public import proofs.«01_k».proof.Proof.Norm1
public import proofs.«01_k».proof.Proof.Gen.Norm2
public import proofs.«01_k».proof.Proof.Gen.Norm2.Frame
public import proofs.«01_k».proof.Proof.Gen.Norm2Ideal
public import proofs.«01_k».proof.Proof.Gen.Norm2Ideal.Value
public import proofs.«01_k».proof.Proof.Gen.Norm2ReferenceIdeal
public import proofs.«01_k».proof.Proof.Gen.Norm2ReferenceIdeal.Run
public import proofs.«01_k».proof.Proof.Norm2
public import proofs.«01_k».proof.Proof.Gen.Resid
public import proofs.«01_k».proof.Proof.Gen.Resid.Frame
public import proofs.«01_k».proof.Proof.Gen.ResidIdeal
public import proofs.«01_k».proof.Proof.Gen.ResidIdeal.Value
public import proofs.«01_k».proof.Proof.Gen.ResidReferenceIdeal
public import proofs.«01_k».proof.Proof.Gen.ResidReferenceIdeal.Run
public import proofs.«01_k».proof.Proof.Resid
public import proofs.«01_k».proof.Proof.Gen.LossHead
public import proofs.«01_k».proof.Proof.Gen.LossHead.Frame
public import proofs.«01_k».proof.Proof.Gen.LossHeadIdeal
public import proofs.«01_k».proof.Proof.Gen.LossHeadIdeal.Value
public import proofs.«01_k».proof.Proof.Gen.LossHeadReferenceIdeal
public import proofs.«01_k».proof.Proof.Gen.LossHeadReferenceIdeal.Run
public import proofs.«01_k».proof.Proof.LossHead
public import proofs.«01_k».proof.Proof.Gen.LruOut
public import proofs.«01_k».proof.Proof.Gen.LruOut.Frame
public import proofs.«01_k».proof.Proof.Gen.LruOutIdeal
public import proofs.«01_k».proof.Proof.Gen.LruOutIdeal.Value
public import proofs.«01_k».proof.Proof.Gen.LruOutReferenceIdeal
public import proofs.«01_k».proof.Proof.Gen.LruOutReferenceIdeal.Run
public import proofs.«01_k».proof.Proof.LruOut
public import proofs.«01_k».proof.Proof.Gen.Silu
public import proofs.«01_k».proof.Proof.Gen.Silu.Frame
public import proofs.«01_k».proof.Proof.Gen.SiluIdeal
public import proofs.«01_k».proof.Proof.Gen.SiluIdeal.Value
public import proofs.«01_k».proof.Proof.Gen.SiluReferenceIdeal
public import proofs.«01_k».proof.Proof.Gen.SiluReferenceIdeal.Run
public import proofs.«01_k».proof.Proof.Silu
public import proofs.«01_k».proof.Proof.Gen.AddSmall
public import proofs.«01_k».proof.Proof.Gen.AddSmall.Frame
public import proofs.«01_k».proof.Proof.Gen.AddSmallIdeal
public import proofs.«01_k».proof.Proof.Gen.AddSmallIdeal.Value
public import proofs.«01_k».proof.Proof.Gen.AddSmallReferenceIdeal
public import proofs.«01_k».proof.Proof.Gen.AddSmallReferenceIdeal.Run
public import proofs.«01_k».proof.Proof.AddSmall
public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Gen.Pre_finite
public import proofs.«01_k».proof.Proof.Run
public import proofs.«01_k».proof.Proof.RefRun
public import proofs.«01_k».proof.Proof.RefColumns
public import proofs.«01_k».proof.Proof.Finite
public import proofs.«01_k».proof.Proof.SameText
public import Idealize.ShloMosaic.Adequacy
public import Idealize.ShloMosaic.Init

@[expose] public section

noncomputable section

namespace Cert.Proof

open Idealize.ShloMosaic Idealize.SL.Sem

/-! ## The two calls and the reference: the arguments at the end -/

section Ends

open Cert.KernelIdeal.Scan

variable {F : FTy → Type} [FloatOps F]

/-- The launches leave the three arguments as they were. -/
theorem kept (m : (ℓ : Loc Cert.KernelIdeal.nD Cert.KernelIdeal.τ Cert.KernelIdeal.sig) → Buf (Elt F) ℓ) (c : Dev Cert.KernelIdeal.nD)
    (r : Ref Cert.KernelIdeal.sig .tc) (h0 : r ≠ Cert.KernelIdeal.main_v0) (h1 : r ≠ Cert.KernelIdeal.main_v1_0)
    (h2 : r ≠ Cert.KernelIdeal.main_v1_1) : W2 m c (Proc.devRef .tc r) = m ((c.tc : Thread _ _).loc r) :=
  (W2_of m c r h1 h2).trans (W1_of m c r h0)

/-- What the run leaves on one device: the three results, and the arguments unchanged. -/
theorem ends (m : (ℓ : Loc Cert.KernelIdeal.nD Cert.KernelIdeal.τ Cert.KernelIdeal.sig) → Buf (Elt F) ℓ) (c : Dev Cert.KernelIdeal.nD)
    (mem : (ℓ : Loc Cert.KernelIdeal.nD Cert.KernelIdeal.τ Cert.KernelIdeal.sig) → Buf (Elt F) ℓ)
    (h : ∀ b ∈ Pipeline.ucRefs Cert.KernelIdeal.τ Cert.KernelIdeal.sig, mem (c, b) = W2 m c b) :
    mem ((c.tc : Thread _ _).loc Cert.KernelIdeal.main_v0) = W2 m c (Proc.devRef .tc Cert.KernelIdeal.main_v0)
    ∧ mem ((c.tc : Thread _ _).loc Cert.KernelIdeal.main_v1_0) = W2 m c (Proc.devRef .tc Cert.KernelIdeal.main_v1_0)
    ∧ mem ((c.tc : Thread _ _).loc Cert.KernelIdeal.main_v1_1) = W2 m c (Proc.devRef .tc Cert.KernelIdeal.main_v1_1)
    ∧ mem ((c.tc : Thread _ _).loc Cert.KernelIdeal.main_arg0) = m ((c.tc : Thread _ _).loc Cert.KernelIdeal.main_arg0)
    ∧ mem ((c.tc : Thread _ _).loc Cert.KernelIdeal.main_arg1) = m ((c.tc : Thread _ _).loc Cert.KernelIdeal.main_arg1)
    ∧ mem ((c.tc : Thread _ _).loc Cert.KernelIdeal.main_arg2) = m ((c.tc : Thread _ _).loc Cert.KernelIdeal.main_arg2) :=
  ⟨h _ (unscoped Cert.KernelIdeal.main_v0 rfl), h _ (unscoped Cert.KernelIdeal.main_v1_0 rfl), h _ (unscoped Cert.KernelIdeal.main_v1_1 rfl),
    (h _ (unscoped Cert.KernelIdeal.main_arg0 rfl)).trans (kept m c _ (by decide) (by decide) (by decide)),
    (h _ (unscoped Cert.KernelIdeal.main_arg1 rfl)).trans (kept m c _ (by decide) (by decide) (by decide)),
    (h _ (unscoped Cert.KernelIdeal.main_arg2 rfl)).trans (kept m c _ (by decide) (by decide) (by decide))⟩

/-- The states the forward launch leaves. -/
theorem left_states (m : (ℓ : Loc Cert.KernelIdeal.nD Cert.KernelIdeal.τ Cert.KernelIdeal.sig) → Buf (Elt F) ℓ) (c : Dev Cert.KernelIdeal.nD) :
    W2 m c (Proc.devRef .tc Cert.KernelIdeal.main_v0)
      = states (m ((c.tc : Thread _ _).loc Cert.KernelIdeal.main_arg0)) (m ((c.tc : Thread _ _).loc Cert.KernelIdeal.main_arg1)) :=
  (W2_of m c _ (by decide) (by decide)).trans ((W1_states m c).trans (total_states _ c))

/-- The gradients of the coefficients the backward launch leaves. -/
theorem left_coef (m : (ℓ : Loc Cert.KernelIdeal.nD Cert.KernelIdeal.τ Cert.KernelIdeal.sig) → Buf (Elt F) ℓ) (c : Dev Cert.KernelIdeal.nD) :
    W2 m c (Proc.devRef .tc Cert.KernelIdeal.main_v1_0)
      = coefGrads (m ((c.tc : Thread _ _).loc Cert.KernelIdeal.main_arg0))
          (states (m ((c.tc : Thread _ _).loc Cert.KernelIdeal.main_arg0)) (m ((c.tc : Thread _ _).loc Cert.KernelIdeal.main_arg1)))
          (m ((c.tc : Thread _ _).loc Cert.KernelIdeal.main_arg2)) := by
  have h0 : arr (W1 m c) c Cert.KernelIdeal.main_arg0 = m ((c.tc : Thread _ _).loc Cert.KernelIdeal.main_arg0) := W1_of m c _ (by decide)
  have h2 : arr (W1 m c) c Cert.KernelIdeal.main_arg2 = m ((c.tc : Thread _ _).loc Cert.KernelIdeal.main_arg2) := W1_of m c _ (by decide)
  have h1 : arr (W1 m c) c Cert.KernelIdeal.main_v0
      = states (m ((c.tc : Thread _ _).loc Cert.KernelIdeal.main_arg0)) (m ((c.tc : Thread _ _).loc Cert.KernelIdeal.main_arg1)) :=
    (W1_states m c).trans (total_states _ c)
  refine (W2_coef m c).trans ((total_coef _ c).trans ?_)
  rw [h0, h1, h2]

/-- The gradients of the inputs the backward launch leaves. -/
theorem left_input (m : (ℓ : Loc Cert.KernelIdeal.nD Cert.KernelIdeal.τ Cert.KernelIdeal.sig) → Buf (Elt F) ℓ) (c : Dev Cert.KernelIdeal.nD) :
    W2 m c (Proc.devRef .tc Cert.KernelIdeal.main_v1_1)
      = inputGrads (m ((c.tc : Thread _ _).loc Cert.KernelIdeal.main_arg0)) (m ((c.tc : Thread _ _).loc Cert.KernelIdeal.main_arg2)) := by
  have h0 : arr (W1 m c) c Cert.KernelIdeal.main_arg0 = m ((c.tc : Thread _ _).loc Cert.KernelIdeal.main_arg0) := W1_of m c _ (by decide)
  have h2 : arr (W1 m c) c Cert.KernelIdeal.main_arg2 = m ((c.tc : Thread _ _).loc Cert.KernelIdeal.main_arg2) := W1_of m c _ (by decide)
  refine (W2_input m c).trans ((total_input _ c).trans ?_)
  rw [h0, h2]

end Ends

section RefEnds

open Cert.ReferenceIdeal.Plainly

variable {F : FTy → Type} [FloatOps F]

/-- A buffer of the reference's program. -/
theorem ref_unscoped (r : Ref Cert.ReferenceIdeal.sig .tc) (h : r.isScoped = false) :
    Proc.devRef .tc r ∈ Pipeline.ucRefs Cert.ReferenceIdeal.τ Cert.ReferenceIdeal.sig :=
  Finset.mem_filter.mpr ⟨StableHlo.devRef_mem_tcRefs r, by simp [h]⟩

/-- What the reference leaves on one device: the plain recurrence, its gradients, and the arguments unchanged. -/
theorem ref_ends (m : (ℓ : Loc Cert.ReferenceIdeal.nD Cert.ReferenceIdeal.τ Cert.ReferenceIdeal.sig) → Buf (Elt F) ℓ) (c : Dev Cert.ReferenceIdeal.nD)
    (mem : (ℓ : Loc Cert.ReferenceIdeal.nD Cert.ReferenceIdeal.τ Cert.ReferenceIdeal.sig) → Buf (Elt F) ℓ)
    (h : ∀ b ∈ Pipeline.ucRefs Cert.ReferenceIdeal.τ Cert.ReferenceIdeal.sig, mem (c, b) = atEnd m c b) :
    mem ((c.tc : Thread _ _).loc Cert.ReferenceIdeal.main_v3_4) = (made fun n => stateOf (argA m c) (argU m c) (n + 1))
    ∧ mem ((c.tc : Thread _ _).loc Cert.ReferenceIdeal.main_v8_5) = made (coefGrad (argA m c) (argU m c) (argD m c))
    ∧ mem ((c.tc : Thread _ _).loc Cert.ReferenceIdeal.main_v8_6) = made (inputGrad (argA m c) (argD m c))
    ∧ mem ((c.tc : Thread _ _).loc Cert.ReferenceIdeal.main_arg0) = m ((c.tc : Thread _ _).loc Cert.ReferenceIdeal.main_arg0)
    ∧ mem ((c.tc : Thread _ _).loc Cert.ReferenceIdeal.main_arg1) = m ((c.tc : Thread _ _).loc Cert.ReferenceIdeal.main_arg1)
    ∧ mem ((c.tc : Thread _ _).loc Cert.ReferenceIdeal.main_arg2) = m ((c.tc : Thread _ _).loc Cert.ReferenceIdeal.main_arg2) :=
  ⟨(h _ (ref_unscoped Cert.ReferenceIdeal.main_v3_4 rfl)).trans (end_states m c),
    (h _ (ref_unscoped Cert.ReferenceIdeal.main_v8_5 rfl)).trans (end_coefGrads m c),
    (h _ (ref_unscoped Cert.ReferenceIdeal.main_v8_6 rfl)).trans (end_inputGrads m c),
    (h _ (ref_unscoped Cert.ReferenceIdeal.main_arg0 rfl)).trans (end_args m c _ (by simp)),
    (h _ (ref_unscoped Cert.ReferenceIdeal.main_arg1 rfl)).trans (end_args m c _ (by simp)),
    (h _ (ref_unscoped Cert.ReferenceIdeal.main_arg2 rfl)).trans (end_args m c _ (by simp))⟩

end RefEnds

/-! ## The claims -/

/-- The two calls run and end quiescent, their arguments unchanged, at any float type. -/
theorem text_frame {F : FTy → Type} [FloatOps F] (m : (ℓ : Loc Cert.KernelIdeal.nD Cert.KernelIdeal.τ Cert.KernelIdeal.sig) → Buf (Elt F) ℓ)
    (ρ : Dev Cert.KernelIdeal.nD → PrngReg) :
    θ_run (Cert.KernelIdeal.defs (F := F)) (onTc (τ := Cert.KernelIdeal.τ) (Cert.KernelIdeal.main (F := F))) ⟨m, fun _ => 0, ρ⟩ (fun r =>
      (∀ c : Dev Cert.KernelIdeal.nD,
        r.2.mem ((c.tc : Thread _ _).loc Cert.KernelIdeal.main_arg0) = m ((c.tc : Thread _ _).loc Cert.KernelIdeal.main_arg0)
        ∧ r.2.mem ((c.tc : Thread _ _).loc Cert.KernelIdeal.main_arg1) = m ((c.tc : Thread _ _).loc Cert.KernelIdeal.main_arg1)
        ∧ r.2.mem ((c.tc : Thread _ _).loc Cert.KernelIdeal.main_arg2) = m ((c.tc : Thread _ _).loc Cert.KernelIdeal.main_arg2))
      ∧ r.2.sem = fun _ => 0) :=
  (θ_run Cert.KernelIdeal.defs _ _).mono (fun _ h => ⟨fun c => (ends m c _ (h.1 c)).2.2.2, h.2⟩) (Cert.KernelIdeal.Scan.run m ρ)

/-- The kernel on the machine's floats. -/
theorem kernel_frame : Cert.quiescent_Kernel := fun m ρ _ => by
  rw [same_defs]
  exact text_frame (F := Bits) m ρ

/-- Its idealization. -/
theorem ideal_frame : Cert.quiescent_KernelIdeal := fun m ρ _ => text_frame (F := Ideal) m ρ

/-- And the reference. -/
theorem reference_frame : Cert.quiescent_ReferenceIdeal := fun m ρ _ =>
  (θ_run Cert.ReferenceIdeal.defs _ _).mono (fun _ h => ⟨fun c => (ref_ends m c _ (h.1 c)).2.2.2, h.2⟩)
    (Cert.ReferenceIdeal.Plainly.run (F := Ideal) m ρ)

/-- On real-numbered arguments the kernel leaves the reference's results. -/
theorem same_results : Cert.algebraic_KernelIdeal_ReferenceIdeal_pre_finite := by
  intro m ρ m' ρ' hfin hargs
  refine ⟨fun c => Cert.KernelIdeal.Scan.W2 m c (Proc.devRef .tc Cert.KernelIdeal.main_v0),
    fun c => Cert.KernelIdeal.Scan.W2 m c (Proc.devRef .tc Cert.KernelIdeal.main_v1_0),
    fun c => Cert.KernelIdeal.Scan.W2 m c (Proc.devRef .tc Cert.KernelIdeal.main_v1_1),
    (θ_run Cert.KernelIdeal.defs _ _).mono (fun _ h c => ends m c _ (h.1 c)) (Cert.KernelIdeal.Scan.run (F := Ideal) m ρ),
    (θ_run Cert.ReferenceIdeal.defs _ _).mono (fun r h c => ?_) (Cert.ReferenceIdeal.Plainly.run (F := Ideal) m' ρ')⟩
  obtain ⟨hs, hc, hi, hk⟩ := ref_ends m' c _ (h.1 c)
  obtain ⟨e0, e1, e2⟩ := hargs c
  have fin := finite_of (hfin c)
  refine ⟨hs.trans ?_, hc.trans ?_, hi.trans ?_, hk⟩
  · refine Eq.trans ?_ (left_states m c).symm
    rw [Cert.ReferenceIdeal.Plainly.argA, Cert.ReferenceIdeal.Plainly.argU, e0, e1]
    exact (Cert.ReferenceIdeal.Plainly.states_eq (fun j => (fin j).1) (fun j => (fin j).2.1)).symm
  · refine Eq.trans ?_ (left_coef m c).symm
    rw [Cert.ReferenceIdeal.Plainly.argA, Cert.ReferenceIdeal.Plainly.argU, Cert.ReferenceIdeal.Plainly.argD, e0, e1, e2]
    exact (Cert.ReferenceIdeal.Plainly.coefGrads_eq (fun j => (fin j).1) (fun j => (fin j).2.1) (fun j => (fin j).2.2)).symm
  · refine Eq.trans ?_ (left_input m c).symm
    rw [Cert.ReferenceIdeal.Plainly.argA, Cert.ReferenceIdeal.Plainly.argD, e0, e2]
    exact (Cert.ReferenceIdeal.Plainly.inputGrads_eq (fun j => (fin j).1) (fun j => (fin j).2.2)).symm

/-! ## The products -/

/-- Gradient of the MLP's pre-activation: the call on the machine's floats runs and leaves its arguments alone. -/
theorem downX_kernel : Cert.quiescent_DownX := fun m ρ _ => Cert.DownX.Gen.frame m ρ

/-- Gradient of the MLP's pre-activation: so does the idealized call. -/
theorem downX_ideal : Cert.quiescent_DownXIdeal := fun m ρ _ => Cert.DownXIdeal.Gen.frame m ρ

/-- Gradient of the MLP's pre-activation: so does the reference. -/
theorem downX_reference : Cert.quiescent_DownXReferenceIdeal := fun m ρ _ =>
  (θ_run Cert.DownXReferenceIdeal.defs _ _).mono (fun r h => ⟨fun c => (h c).2, sem_eq_zero_of_no_sems rfl r.2⟩)
    (Cert.DownXReferenceIdeal.Value.run m ρ)

/-- Gradient of the MLP's pre-activation: the call leaves what the reference leaves. -/
theorem downX_same : Cert.algebraic_DownXIdeal_DownXReferenceIdeal := by
  intro m ρ m' ρ' _ hargs
  refine ⟨fun c => (Cert.DownXIdeal.Gen.dats m 0 c).arrAt 3 (Cert.DownXIdeal.cfgs 0).N, Cert.DownXIdeal.Value.run_blocks m ρ,
    (θ_run Cert.DownXReferenceIdeal.defs _ _).mono (fun r h c => ?_) (Cert.DownXReferenceIdeal.Value.run m' ρ')⟩
  obtain ⟨v, k⟩ := h c
  obtain ⟨e0, e1, e2⟩ := hargs c
  refine ⟨v.trans ?_, k⟩
  rw [e0, e1, e2]
  exact (Cert.DownXIdeal.Product.final m c).symm

/-- Gradient of the down-projection's weight: the call on the machine's floats runs and leaves its arguments alone. -/
theorem downW_kernel : Cert.quiescent_DownW := fun m ρ _ => Cert.DownW.Gen.frame m ρ

/-- Gradient of the down-projection's weight: so does the idealized call. -/
theorem downW_ideal : Cert.quiescent_DownWIdeal := fun m ρ _ => Cert.DownWIdeal.Gen.frame m ρ

/-- Gradient of the down-projection's weight: so does the reference. -/
theorem downW_reference : Cert.quiescent_DownWReferenceIdeal := fun m ρ _ =>
  (θ_run Cert.DownWReferenceIdeal.defs _ _).mono (fun r h => ⟨fun c => (h c).2, sem_eq_zero_of_no_sems rfl r.2⟩)
    (Cert.DownWReferenceIdeal.Value.run m ρ)

/-- Gradient of the down-projection's weight: the call leaves what the reference leaves. -/
theorem downW_same : Cert.algebraic_DownWIdeal_DownWReferenceIdeal := by
  intro m ρ m' ρ' _ hargs
  refine ⟨fun c => (Cert.DownWIdeal.Gen.dats m 0 c).arrAt 2 (Cert.DownWIdeal.cfgs 0).N, Cert.DownWIdeal.Value.run_blocks m ρ,
    (θ_run Cert.DownWReferenceIdeal.defs _ _).mono (fun r h c => ?_) (Cert.DownWReferenceIdeal.Value.run m' ρ')⟩
  obtain ⟨v, k⟩ := h c
  obtain ⟨e0, e1⟩ := hargs c
  refine ⟨v.trans ?_, k⟩
  rw [e0, e1]
  exact (Cert.DownWIdeal.Product.final m c).symm

/-- Gradient of the up-projection's input: the call on the machine's floats runs and leaves its arguments alone. -/
theorem upX_kernel : Cert.quiescent_UpX := fun m ρ _ => Cert.UpX.Gen.frame m ρ

/-- Gradient of the up-projection's input: so does the idealized call. -/
theorem upX_ideal : Cert.quiescent_UpXIdeal := fun m ρ _ => Cert.UpXIdeal.Gen.frame m ρ

/-- Gradient of the up-projection's input: so does the reference. -/
theorem upX_reference : Cert.quiescent_UpXReferenceIdeal := fun m ρ _ =>
  (θ_run Cert.UpXReferenceIdeal.defs _ _).mono (fun r h => ⟨fun c => (h c).2, sem_eq_zero_of_no_sems rfl r.2⟩)
    (Cert.UpXReferenceIdeal.Value.run m ρ)

/-- Gradient of the up-projection's input: the call leaves what the reference leaves. -/
theorem upX_same : Cert.algebraic_UpXIdeal_UpXReferenceIdeal := by
  intro m ρ m' ρ' _ hargs
  refine ⟨fun c => (Cert.UpXIdeal.Gen.dats m 0 c).arrAt 2 (Cert.UpXIdeal.cfgs 0).N, Cert.UpXIdeal.Value.run_blocks m ρ,
    (θ_run Cert.UpXReferenceIdeal.defs _ _).mono (fun r h c => ?_) (Cert.UpXReferenceIdeal.Value.run m' ρ')⟩
  obtain ⟨v, k⟩ := h c
  obtain ⟨e0, e1⟩ := hargs c
  refine ⟨v.trans ?_, k⟩
  rw [e0, e1]
  exact (Cert.UpXIdeal.Product.final m c).symm

/-- Gradient of the up-projection's weight: the call on the machine's floats runs and leaves its arguments alone. -/
theorem upW_kernel : Cert.quiescent_UpW := fun m ρ _ => Cert.UpW.Gen.frame m ρ

/-- Gradient of the up-projection's weight: so does the idealized call. -/
theorem upW_ideal : Cert.quiescent_UpWIdeal := fun m ρ _ => Cert.UpWIdeal.Gen.frame m ρ

/-- Gradient of the up-projection's weight: so does the reference. -/
theorem upW_reference : Cert.quiescent_UpWReferenceIdeal := fun m ρ _ =>
  (θ_run Cert.UpWReferenceIdeal.defs _ _).mono (fun r h => ⟨fun c => (h c).2, sem_eq_zero_of_no_sems rfl r.2⟩)
    (Cert.UpWReferenceIdeal.Value.run m ρ)

/-- Gradient of the up-projection's weight: the call leaves what the reference leaves. -/
theorem upW_same : Cert.algebraic_UpWIdeal_UpWReferenceIdeal := by
  intro m ρ m' ρ' _ hargs
  refine ⟨fun c => (Cert.UpWIdeal.Gen.dats m 0 c).arrAt 2 (Cert.UpWIdeal.cfgs 0).N, Cert.UpWIdeal.Value.run_blocks m ρ,
    (θ_run Cert.UpWReferenceIdeal.defs _ _).mono (fun r h c => ?_) (Cert.UpWReferenceIdeal.Value.run m' ρ')⟩
  obtain ⟨v, k⟩ := h c
  obtain ⟨e0, e1⟩ := hargs c
  refine ⟨v.trans ?_, k⟩
  rw [e0, e1]
  exact (Cert.UpWIdeal.Product.final m c).symm

/-- Up-projection and its activation: the call on the machine's floats runs and leaves its arguments alone. -/
theorem up_kernel : Cert.quiescent_Up := fun m ρ _ => Cert.Up.Gen.frame m ρ

/-- Up-projection and its activation: so does the idealized call. -/
theorem up_ideal : Cert.quiescent_UpIdeal := fun m ρ _ => Cert.UpIdeal.Gen.frame m ρ

/-- Up-projection and its activation: so does the reference. -/
theorem up_reference : Cert.quiescent_UpReferenceIdeal := fun m ρ _ =>
  (θ_run Cert.UpReferenceIdeal.defs _ _).mono (fun r h => ⟨fun c => (h c).2.2, sem_eq_zero_of_no_sems rfl r.2⟩)
    (Cert.UpReferenceIdeal.Value.run m ρ)

/-- Up-projection and its activation: the call leaves what the reference leaves. -/
theorem up_same : Cert.algebraic_UpIdeal_UpReferenceIdeal := by
  intro m ρ m' ρ' _ hargs
  refine ⟨fun c => (Cert.UpIdeal.Gen.dats m 0 c).arrAt 2 (Cert.UpIdeal.cfgs 0).N,
    fun c => (Cert.UpIdeal.Gen.dats m 0 c).arrAt 3 (Cert.UpIdeal.cfgs 0).N, Cert.UpIdeal.Value.run_blocks m ρ,
    (θ_run Cert.UpReferenceIdeal.defs _ _).mono (fun r h c => ?_) (Cert.UpReferenceIdeal.Value.run m' ρ')⟩
  obtain ⟨v, w, k⟩ := h c
  obtain ⟨e0, e1⟩ := hargs c
  refine ⟨v.trans ?_, w.trans ?_, k⟩
  · rw [e0, e1]
    exact (Cert.UpIdeal.Product.final m c).symm
  · rw [e0, e1]
    exact (Cert.UpIdeal.Product.final_act m c).symm

/-- Down-projection: the call on the machine's floats runs and leaves its arguments alone. -/
theorem down_kernel : Cert.quiescent_Down := fun m ρ _ => Cert.Down.Gen.frame m ρ

/-- Down-projection: so does the idealized call. -/
theorem down_ideal : Cert.quiescent_DownIdeal := fun m ρ _ => Cert.DownIdeal.Gen.frame m ρ

/-- Down-projection: so does the reference. -/
theorem down_reference : Cert.quiescent_DownReferenceIdeal := fun m ρ _ =>
  (θ_run Cert.DownReferenceIdeal.defs _ _).mono (fun r h => ⟨fun c => (h c).2, sem_eq_zero_of_no_sems rfl r.2⟩)
    (Cert.DownReferenceIdeal.Value.run m ρ)

/-- Down-projection: the call leaves what the reference leaves. -/
theorem down_same : Cert.algebraic_DownIdeal_DownReferenceIdeal := by
  intro m ρ m' ρ' _ hargs
  refine ⟨fun c => (Cert.DownIdeal.Gen.dats m 0 c).arrAt 2 (Cert.DownIdeal.cfgs 0).N, Cert.DownIdeal.Value.run_blocks m ρ,
    (θ_run Cert.DownReferenceIdeal.defs _ _).mono (fun r h c => ?_) (Cert.DownReferenceIdeal.Value.run m' ρ')⟩
  obtain ⟨v, k⟩ := h c
  obtain ⟨e0, e1⟩ := hargs c
  refine ⟨v.trans ?_, k⟩
  rw [e0, e1]
  exact (Cert.DownIdeal.Product.final m c).symm

/-- Gradient of the in-projection's weight, delta-rule columns: the call on the machine's floats runs and leaves its arguments alone. -/
theorem gdnW_kernel : Cert.quiescent_GdnW := fun m ρ _ => Cert.GdnW.Gen.frame m ρ

/-- Gradient of the in-projection's weight, delta-rule columns: so does the idealized call. -/
theorem gdnW_ideal : Cert.quiescent_GdnWIdeal := fun m ρ _ => Cert.GdnWIdeal.Gen.frame m ρ

/-- Gradient of the in-projection's weight, delta-rule columns: so does the reference. -/
theorem gdnW_reference : Cert.quiescent_GdnWReferenceIdeal := fun m ρ _ =>
  (θ_run Cert.GdnWReferenceIdeal.defs _ _).mono (fun r h => ⟨fun c => (h c).2, sem_eq_zero_of_no_sems rfl r.2⟩)
    (Cert.GdnWReferenceIdeal.Value.run m ρ)

/-- Gradient of the in-projection's weight, delta-rule columns: the call leaves what the reference leaves. -/
theorem gdnW_same : Cert.algebraic_GdnWIdeal_GdnWReferenceIdeal := by
  intro m ρ m' ρ' _ hargs
  refine ⟨fun c => (Cert.GdnWIdeal.Gen.dats m 0 c).arrAt 2 (Cert.GdnWIdeal.cfgs 0).N, Cert.GdnWIdeal.Value.run_blocks m ρ,
    (θ_run Cert.GdnWReferenceIdeal.defs _ _).mono (fun r h c => ?_) (Cert.GdnWReferenceIdeal.Value.run m' ρ')⟩
  obtain ⟨v, k⟩ := h c
  obtain ⟨e0, e1⟩ := hargs c
  refine ⟨v.trans ?_, k⟩
  rw [e0, e1]
  exact (Cert.GdnWIdeal.Product.final m c).symm

/-- Gradient of the in-projection's weight, state-space columns: the call on the machine's floats runs and leaves its arguments alone. -/
theorem ssdW_kernel : Cert.quiescent_SsdW := fun m ρ _ => Cert.SsdW.Gen.frame m ρ

/-- Gradient of the in-projection's weight, state-space columns: so does the idealized call. -/
theorem ssdW_ideal : Cert.quiescent_SsdWIdeal := fun m ρ _ => Cert.SsdWIdeal.Gen.frame m ρ

/-- Gradient of the in-projection's weight, state-space columns: so does the reference. -/
theorem ssdW_reference : Cert.quiescent_SsdWReferenceIdeal := fun m ρ _ =>
  (θ_run Cert.SsdWReferenceIdeal.defs _ _).mono (fun r h => ⟨fun c => (h c).2, sem_eq_zero_of_no_sems rfl r.2⟩)
    (Cert.SsdWReferenceIdeal.Value.run m ρ)

/-- Gradient of the in-projection's weight, state-space columns: the call leaves what the reference leaves. -/
theorem ssdW_same : Cert.algebraic_SsdWIdeal_SsdWReferenceIdeal := by
  intro m ρ m' ρ' _ hargs
  refine ⟨fun c => (Cert.SsdWIdeal.Gen.dats m 0 c).arrAt 2 (Cert.SsdWIdeal.cfgs 0).N, Cert.SsdWIdeal.Value.run_blocks m ρ,
    (θ_run Cert.SsdWReferenceIdeal.defs _ _).mono (fun r h c => ?_) (Cert.SsdWReferenceIdeal.Value.run m' ρ')⟩
  obtain ⟨v, k⟩ := h c
  obtain ⟨e0, e1⟩ := hargs c
  refine ⟨v.trans ?_, k⟩
  rw [e0, e1]
  exact (Cert.SsdWIdeal.Product.final m c).symm

/-- Gradient of the in-projection's weight, linear-recurrence columns: the call on the machine's floats runs and leaves its arguments alone. -/
theorem lruW_kernel : Cert.quiescent_LruW := fun m ρ _ => Cert.LruW.Gen.frame m ρ

/-- Gradient of the in-projection's weight, linear-recurrence columns: so does the idealized call. -/
theorem lruW_ideal : Cert.quiescent_LruWIdeal := fun m ρ _ => Cert.LruWIdeal.Gen.frame m ρ

/-- Gradient of the in-projection's weight, linear-recurrence columns: so does the reference. -/
theorem lruW_reference : Cert.quiescent_LruWReferenceIdeal := fun m ρ _ =>
  (θ_run Cert.LruWReferenceIdeal.defs _ _).mono (fun r h => ⟨fun c => (h c).2, sem_eq_zero_of_no_sems rfl r.2⟩)
    (Cert.LruWReferenceIdeal.Value.run m ρ)

/-- Gradient of the in-projection's weight, linear-recurrence columns: the call leaves what the reference leaves. -/
theorem lruW_same : Cert.algebraic_LruWIdeal_LruWReferenceIdeal := by
  intro m ρ m' ρ' _ hargs
  refine ⟨fun c => (Cert.LruWIdeal.Gen.dats m 0 c).arrAt 2 (Cert.LruWIdeal.cfgs 0).N, Cert.LruWIdeal.Value.run_blocks m ρ,
    (θ_run Cert.LruWReferenceIdeal.defs _ _).mono (fun r h c => ?_) (Cert.LruWReferenceIdeal.Value.run m' ρ')⟩
  obtain ⟨v, k⟩ := h c
  obtain ⟨e0, e1⟩ := hargs c
  refine ⟨v.trans ?_, k⟩
  rw [e0, e1]
  exact (Cert.LruWIdeal.Product.final m c).symm

/-- Gradient of the in-projection's weight, gate columns: the call on the machine's floats runs and leaves its arguments alone. -/
theorem gateW_kernel : Cert.quiescent_GateW := fun m ρ _ => Cert.GateW.Gen.frame m ρ

/-- Gradient of the in-projection's weight, gate columns: so does the idealized call. -/
theorem gateW_ideal : Cert.quiescent_GateWIdeal := fun m ρ _ => Cert.GateWIdeal.Gen.frame m ρ

/-- Gradient of the in-projection's weight, gate columns: so does the reference. -/
theorem gateW_reference : Cert.quiescent_GateWReferenceIdeal := fun m ρ _ =>
  (θ_run Cert.GateWReferenceIdeal.defs _ _).mono (fun r h => ⟨fun c => (h c).2, sem_eq_zero_of_no_sems rfl r.2⟩)
    (Cert.GateWReferenceIdeal.Value.run m ρ)

/-- Gradient of the in-projection's weight, gate columns: the call leaves what the reference leaves. -/
theorem gateW_same : Cert.algebraic_GateWIdeal_GateWReferenceIdeal := by
  intro m ρ m' ρ' _ hargs
  refine ⟨fun c => (Cert.GateWIdeal.Gen.dats m 0 c).arrAt 2 (Cert.GateWIdeal.cfgs 0).N, Cert.GateWIdeal.Value.run_blocks m ρ,
    (θ_run Cert.GateWReferenceIdeal.defs _ _).mono (fun r h c => ?_) (Cert.GateWReferenceIdeal.Value.run m' ρ')⟩
  obtain ⟨v, k⟩ := h c
  obtain ⟨e0, e1⟩ := hargs c
  refine ⟨v.trans ?_, k⟩
  rw [e0, e1]
  exact (Cert.GateWIdeal.Product.final m c).symm

/-- Gradient of the in-projection's input, delta-rule columns: the call on the machine's floats runs and leaves its arguments alone. -/
theorem gdnX_kernel : Cert.quiescent_GdnX := fun m ρ _ => Cert.GdnX.Gen.frame m ρ

/-- Gradient of the in-projection's input, delta-rule columns: so does the idealized call. -/
theorem gdnX_ideal : Cert.quiescent_GdnXIdeal := fun m ρ _ => Cert.GdnXIdeal.Gen.frame m ρ

/-- Gradient of the in-projection's input, delta-rule columns: so does the reference. -/
theorem gdnX_reference : Cert.quiescent_GdnXReferenceIdeal := fun m ρ _ =>
  (θ_run Cert.GdnXReferenceIdeal.defs _ _).mono (fun r h => ⟨fun c => (h c).2, sem_eq_zero_of_no_sems rfl r.2⟩)
    (Cert.GdnXReferenceIdeal.Value.run m ρ)

/-- Gradient of the in-projection's input, delta-rule columns: the call leaves what the reference leaves. -/
theorem gdnX_same : Cert.algebraic_GdnXIdeal_GdnXReferenceIdeal := by
  intro m ρ m' ρ' _ hargs
  refine ⟨fun c => (Cert.GdnXIdeal.Gen.dats m 0 c).arrAt 2 (Cert.GdnXIdeal.cfgs 0).N, Cert.GdnXIdeal.Value.run_blocks m ρ,
    (θ_run Cert.GdnXReferenceIdeal.defs _ _).mono (fun r h c => ?_) (Cert.GdnXReferenceIdeal.Value.run m' ρ')⟩
  obtain ⟨v, k⟩ := h c
  obtain ⟨e0, e1⟩ := hargs c
  refine ⟨v.trans ?_, k⟩
  rw [e0, e1]
  exact (Cert.GdnXIdeal.Product.final m c).symm

/-- Gradient of the in-projection's input, delta-rule columns, with a row added: the call on the machine's floats runs and leaves its arguments alone. -/
theorem gdnBiasX_kernel : Cert.quiescent_GdnBiasX := fun m ρ _ => Cert.GdnBiasX.Gen.frame m ρ

/-- Gradient of the in-projection's input, delta-rule columns, with a row added: so does the idealized call. -/
theorem gdnBiasX_ideal : Cert.quiescent_GdnBiasXIdeal := fun m ρ _ => Cert.GdnBiasXIdeal.Gen.frame m ρ

/-- Gradient of the in-projection's input, delta-rule columns, with a row added: so does the reference. -/
theorem gdnBiasX_reference : Cert.quiescent_GdnBiasXReferenceIdeal := fun m ρ _ =>
  (θ_run Cert.GdnBiasXReferenceIdeal.defs _ _).mono (fun r h => ⟨fun c => (h c).2, sem_eq_zero_of_no_sems rfl r.2⟩)
    (Cert.GdnBiasXReferenceIdeal.Value.run m ρ)

/-- Gradient of the in-projection's input, delta-rule columns, with a row added: the call leaves what the reference leaves. -/
theorem gdnBiasX_same : Cert.algebraic_GdnBiasXIdeal_GdnBiasXReferenceIdeal := by
  intro m ρ m' ρ' _ hargs
  refine ⟨fun c => (Cert.GdnBiasXIdeal.Gen.dats m 0 c).arrAt 3 (Cert.GdnBiasXIdeal.cfgs 0).N, Cert.GdnBiasXIdeal.Value.run_blocks m ρ,
    (θ_run Cert.GdnBiasXReferenceIdeal.defs _ _).mono (fun r h c => ?_) (Cert.GdnBiasXReferenceIdeal.Value.run m' ρ')⟩
  obtain ⟨v, k⟩ := h c
  obtain ⟨e0, e1, e2⟩ := hargs c
  refine ⟨v.trans ?_, k⟩
  rw [e0, e1, e2]
  exact (Cert.GdnBiasXIdeal.Product.final m c).symm

/-- Gradient of the in-projection's input, state-space columns: the call on the machine's floats runs and leaves its arguments alone. -/
theorem ssdX_kernel : Cert.quiescent_SsdX := fun m ρ _ => Cert.SsdX.Gen.frame m ρ

/-- Gradient of the in-projection's input, state-space columns: so does the idealized call. -/
theorem ssdX_ideal : Cert.quiescent_SsdXIdeal := fun m ρ _ => Cert.SsdXIdeal.Gen.frame m ρ

/-- Gradient of the in-projection's input, state-space columns: so does the reference. -/
theorem ssdX_reference : Cert.quiescent_SsdXReferenceIdeal := fun m ρ _ =>
  (θ_run Cert.SsdXReferenceIdeal.defs _ _).mono (fun r h => ⟨fun c => (h c).2, sem_eq_zero_of_no_sems rfl r.2⟩)
    (Cert.SsdXReferenceIdeal.Value.run m ρ)

/-- Gradient of the in-projection's input, state-space columns: the call leaves what the reference leaves. -/
theorem ssdX_same : Cert.algebraic_SsdXIdeal_SsdXReferenceIdeal := by
  intro m ρ m' ρ' _ hargs
  refine ⟨fun c => (Cert.SsdXIdeal.Gen.dats m 0 c).arrAt 3 (Cert.SsdXIdeal.cfgs 0).N, Cert.SsdXIdeal.Value.run_blocks m ρ,
    (θ_run Cert.SsdXReferenceIdeal.defs _ _).mono (fun r h c => ?_) (Cert.SsdXReferenceIdeal.Value.run m' ρ')⟩
  obtain ⟨v, k⟩ := h c
  obtain ⟨e0, e1, e2⟩ := hargs c
  refine ⟨v.trans ?_, k⟩
  rw [e0, e1, e2]
  exact (Cert.SsdXIdeal.Product.final m c).symm

/-- Gradient of the in-projection's input, linear-recurrence columns: the call on the machine's floats runs and leaves its arguments alone. -/
theorem lruX_kernel : Cert.quiescent_LruX := fun m ρ _ => Cert.LruX.Gen.frame m ρ

/-- Gradient of the in-projection's input, linear-recurrence columns: so does the idealized call. -/
theorem lruX_ideal : Cert.quiescent_LruXIdeal := fun m ρ _ => Cert.LruXIdeal.Gen.frame m ρ

/-- Gradient of the in-projection's input, linear-recurrence columns: so does the reference. -/
theorem lruX_reference : Cert.quiescent_LruXReferenceIdeal := fun m ρ _ =>
  (θ_run Cert.LruXReferenceIdeal.defs _ _).mono (fun r h => ⟨fun c => (h c).2, sem_eq_zero_of_no_sems rfl r.2⟩)
    (Cert.LruXReferenceIdeal.Value.run m ρ)

/-- Gradient of the in-projection's input, linear-recurrence columns: the call leaves what the reference leaves. -/
theorem lruX_same : Cert.algebraic_LruXIdeal_LruXReferenceIdeal := by
  intro m ρ m' ρ' _ hargs
  refine ⟨fun c => (Cert.LruXIdeal.Gen.dats m 0 c).arrAt 3 (Cert.LruXIdeal.cfgs 0).N, Cert.LruXIdeal.Value.run_blocks m ρ,
    (θ_run Cert.LruXReferenceIdeal.defs _ _).mono (fun r h c => ?_) (Cert.LruXReferenceIdeal.Value.run m' ρ')⟩
  obtain ⟨v, k⟩ := h c
  obtain ⟨e0, e1, e2⟩ := hargs c
  refine ⟨v.trans ?_, k⟩
  rw [e0, e1, e2]
  exact (Cert.LruXIdeal.Product.final m c).symm

/-- Gradient of the in-projection's input, gate columns: the call on the machine's floats runs and leaves its arguments alone. -/
theorem gateX_kernel : Cert.quiescent_GateX := fun m ρ _ => Cert.GateX.Gen.frame m ρ

/-- Gradient of the in-projection's input, gate columns: so does the idealized call. -/
theorem gateX_ideal : Cert.quiescent_GateXIdeal := fun m ρ _ => Cert.GateXIdeal.Gen.frame m ρ

/-- Gradient of the in-projection's input, gate columns: so does the reference. -/
theorem gateX_reference : Cert.quiescent_GateXReferenceIdeal := fun m ρ _ =>
  (θ_run Cert.GateXReferenceIdeal.defs _ _).mono (fun r h => ⟨fun c => (h c).2, sem_eq_zero_of_no_sems rfl r.2⟩)
    (Cert.GateXReferenceIdeal.Value.run m ρ)

/-- Gradient of the in-projection's input, gate columns: the call leaves what the reference leaves. -/
theorem gateX_same : Cert.algebraic_GateXIdeal_GateXReferenceIdeal := by
  intro m ρ m' ρ' _ hargs
  refine ⟨fun c => (Cert.GateXIdeal.Gen.dats m 0 c).arrAt 3 (Cert.GateXIdeal.cfgs 0).N, Cert.GateXIdeal.Value.run_blocks m ρ,
    (θ_run Cert.GateXReferenceIdeal.defs _ _).mono (fun r h c => ?_) (Cert.GateXReferenceIdeal.Value.run m' ρ')⟩
  obtain ⟨v, k⟩ := h c
  obtain ⟨e0, e1, e2⟩ := hargs c
  refine ⟨v.trans ?_, k⟩
  rw [e0, e1, e2]
  exact (Cert.GateXIdeal.Product.final m c).symm

/-- In-projection, delta-rule columns: the call on the machine's floats runs and leaves its arguments alone. -/
theorem gdnIn_kernel : Cert.quiescent_GdnIn := fun m ρ _ => Cert.GdnIn.Gen.frame m ρ

/-- In-projection, delta-rule columns: so does the idealized call. -/
theorem gdnIn_ideal : Cert.quiescent_GdnInIdeal := fun m ρ _ => Cert.GdnInIdeal.Gen.frame m ρ

/-- In-projection, delta-rule columns: so does the reference. -/
theorem gdnIn_reference : Cert.quiescent_GdnInReferenceIdeal := fun m ρ _ =>
  (θ_run Cert.GdnInReferenceIdeal.defs _ _).mono (fun r h => ⟨fun c => (h c).2, sem_eq_zero_of_no_sems rfl r.2⟩)
    (Cert.GdnInReferenceIdeal.Value.run m ρ)

/-- In-projection, delta-rule columns: the call leaves what the reference leaves. -/
theorem gdnIn_same : Cert.algebraic_GdnInIdeal_GdnInReferenceIdeal := by
  intro m ρ m' ρ' _ hargs
  refine ⟨fun c => (Cert.GdnInIdeal.Gen.dats m 0 c).arrAt 2 (Cert.GdnInIdeal.cfgs 0).N, Cert.GdnInIdeal.Value.run_blocks m ρ,
    (θ_run Cert.GdnInReferenceIdeal.defs _ _).mono (fun r h c => ?_) (Cert.GdnInReferenceIdeal.Value.run m' ρ')⟩
  obtain ⟨v, k⟩ := h c
  obtain ⟨e0, e1⟩ := hargs c
  refine ⟨v.trans ?_, k⟩
  rw [e0, e1]
  exact (Cert.GdnInIdeal.Product.final m c).symm

/-- In-projection, state-space columns: the call on the machine's floats runs and leaves its arguments alone. -/
theorem ssdIn_kernel : Cert.quiescent_SsdIn := fun m ρ _ => Cert.SsdIn.Gen.frame m ρ

/-- In-projection, state-space columns: so does the idealized call. -/
theorem ssdIn_ideal : Cert.quiescent_SsdInIdeal := fun m ρ _ => Cert.SsdInIdeal.Gen.frame m ρ

/-- In-projection, state-space columns: so does the reference. -/
theorem ssdIn_reference : Cert.quiescent_SsdInReferenceIdeal := fun m ρ _ =>
  (θ_run Cert.SsdInReferenceIdeal.defs _ _).mono (fun r h => ⟨fun c => (h c).2, sem_eq_zero_of_no_sems rfl r.2⟩)
    (Cert.SsdInReferenceIdeal.Value.run m ρ)

/-- In-projection, state-space columns: the call leaves what the reference leaves. -/
theorem ssdIn_same : Cert.algebraic_SsdInIdeal_SsdInReferenceIdeal := by
  intro m ρ m' ρ' _ hargs
  refine ⟨fun c => (Cert.SsdInIdeal.Gen.dats m 0 c).arrAt 2 (Cert.SsdInIdeal.cfgs 0).N, Cert.SsdInIdeal.Value.run_blocks m ρ,
    (θ_run Cert.SsdInReferenceIdeal.defs _ _).mono (fun r h c => ?_) (Cert.SsdInReferenceIdeal.Value.run m' ρ')⟩
  obtain ⟨v, k⟩ := h c
  obtain ⟨e0, e1⟩ := hargs c
  refine ⟨v.trans ?_, k⟩
  rw [e0, e1]
  exact (Cert.SsdInIdeal.Product.final m c).symm

/-- In-projection, linear-recurrence columns: the call on the machine's floats runs and leaves its arguments alone. -/
theorem lruIn_kernel : Cert.quiescent_LruIn := fun m ρ _ => Cert.LruIn.Gen.frame m ρ

/-- In-projection, linear-recurrence columns: so does the idealized call. -/
theorem lruIn_ideal : Cert.quiescent_LruInIdeal := fun m ρ _ => Cert.LruInIdeal.Gen.frame m ρ

/-- In-projection, linear-recurrence columns: so does the reference. -/
theorem lruIn_reference : Cert.quiescent_LruInReferenceIdeal := fun m ρ _ =>
  (θ_run Cert.LruInReferenceIdeal.defs _ _).mono (fun r h => ⟨fun c => (h c).2, sem_eq_zero_of_no_sems rfl r.2⟩)
    (Cert.LruInReferenceIdeal.Value.run m ρ)

/-- In-projection, linear-recurrence columns: the call leaves what the reference leaves. -/
theorem lruIn_same : Cert.algebraic_LruInIdeal_LruInReferenceIdeal := by
  intro m ρ m' ρ' _ hargs
  refine ⟨fun c => (Cert.LruInIdeal.Gen.dats m 0 c).arrAt 2 (Cert.LruInIdeal.cfgs 0).N, Cert.LruInIdeal.Value.run_blocks m ρ,
    (θ_run Cert.LruInReferenceIdeal.defs _ _).mono (fun r h c => ?_) (Cert.LruInReferenceIdeal.Value.run m' ρ')⟩
  obtain ⟨v, k⟩ := h c
  obtain ⟨e0, e1⟩ := hargs c
  refine ⟨v.trans ?_, k⟩
  rw [e0, e1]
  exact (Cert.LruInIdeal.Product.final m c).symm

/-- In-projection, gate columns: the call on the machine's floats runs and leaves its arguments alone. -/
theorem gateIn_kernel : Cert.quiescent_GateIn := fun m ρ _ => Cert.GateIn.Gen.frame m ρ

/-- In-projection, gate columns: so does the idealized call. -/
theorem gateIn_ideal : Cert.quiescent_GateInIdeal := fun m ρ _ => Cert.GateInIdeal.Gen.frame m ρ

/-- In-projection, gate columns: so does the reference. -/
theorem gateIn_reference : Cert.quiescent_GateInReferenceIdeal := fun m ρ _ =>
  (θ_run Cert.GateInReferenceIdeal.defs _ _).mono (fun r h => ⟨fun c => (h c).2, sem_eq_zero_of_no_sems rfl r.2⟩)
    (Cert.GateInReferenceIdeal.Value.run m ρ)

/-- In-projection, gate columns: the call leaves what the reference leaves. -/
theorem gateIn_same : Cert.algebraic_GateInIdeal_GateInReferenceIdeal := by
  intro m ρ m' ρ' _ hargs
  refine ⟨fun c => (Cert.GateInIdeal.Gen.dats m 0 c).arrAt 2 (Cert.GateInIdeal.cfgs 0).N, Cert.GateInIdeal.Value.run_blocks m ρ,
    (θ_run Cert.GateInReferenceIdeal.defs _ _).mono (fun r h c => ?_) (Cert.GateInReferenceIdeal.Value.run m' ρ')⟩
  obtain ⟨v, k⟩ := h c
  obtain ⟨e0, e1⟩ := hargs c
  refine ⟨v.trans ?_, k⟩
  rw [e0, e1]
  exact (Cert.GateInIdeal.Product.final m c).symm

/-- Gradient of the output projection's input: the call on the machine's floats runs and leaves its arguments alone. -/
theorem outX_kernel : Cert.quiescent_OutX := fun m ρ _ => Cert.OutX.Gen.frame m ρ

/-- Gradient of the output projection's input: so does the idealized call. -/
theorem outX_ideal : Cert.quiescent_OutXIdeal := fun m ρ _ => Cert.OutXIdeal.Gen.frame m ρ

/-- Gradient of the output projection's input: so does the reference. -/
theorem outX_reference : Cert.quiescent_OutXReferenceIdeal := fun m ρ _ =>
  (θ_run Cert.OutXReferenceIdeal.defs _ _).mono (fun r h => ⟨fun c => (h c).2, sem_eq_zero_of_no_sems rfl r.2⟩)
    (Cert.OutXReferenceIdeal.Value.run m ρ)

/-- Gradient of the output projection's input: the call leaves what the reference leaves. -/
theorem outX_same : Cert.algebraic_OutXIdeal_OutXReferenceIdeal := by
  intro m ρ m' ρ' _ hargs
  refine ⟨fun c => (Cert.OutXIdeal.Gen.dats m 0 c).arrAt 2 (Cert.OutXIdeal.cfgs 0).N, Cert.OutXIdeal.Value.run_blocks m ρ,
    (θ_run Cert.OutXReferenceIdeal.defs _ _).mono (fun r h c => ?_) (Cert.OutXReferenceIdeal.Value.run m' ρ')⟩
  obtain ⟨v, k⟩ := h c
  obtain ⟨e0, e1⟩ := hargs c
  refine ⟨v.trans ?_, k⟩
  rw [e0, e1]
  exact (Cert.OutXIdeal.Product.final m c).symm

/-- Gradient of the output projection's weight: the call on the machine's floats runs and leaves its arguments alone. -/
theorem outW_kernel : Cert.quiescent_OutW := fun m ρ _ => Cert.OutW.Gen.frame m ρ

/-- Gradient of the output projection's weight: so does the idealized call. -/
theorem outW_ideal : Cert.quiescent_OutWIdeal := fun m ρ _ => Cert.OutWIdeal.Gen.frame m ρ

/-- Gradient of the output projection's weight: so does the reference. -/
theorem outW_reference : Cert.quiescent_OutWReferenceIdeal := fun m ρ _ =>
  (θ_run Cert.OutWReferenceIdeal.defs _ _).mono (fun r h => ⟨fun c => (h c).2, sem_eq_zero_of_no_sems rfl r.2⟩)
    (Cert.OutWReferenceIdeal.Value.run m ρ)

/-- Gradient of the output projection's weight: the call leaves what the reference leaves. -/
theorem outW_same : Cert.algebraic_OutWIdeal_OutWReferenceIdeal := by
  intro m ρ m' ρ' _ hargs
  refine ⟨fun c => (Cert.OutWIdeal.Gen.dats m 0 c).arrAt 2 (Cert.OutWIdeal.cfgs 0).N, Cert.OutWIdeal.Value.run_blocks m ρ,
    (θ_run Cert.OutWReferenceIdeal.defs _ _).mono (fun r h c => ?_) (Cert.OutWReferenceIdeal.Value.run m' ρ')⟩
  obtain ⟨v, k⟩ := h c
  obtain ⟨e0, e1⟩ := hargs c
  refine ⟨v.trans ?_, k⟩
  rw [e0, e1]
  exact (Cert.OutWIdeal.Product.final m c).symm

/-- Output projection: the call on the machine's floats runs and leaves its arguments alone. -/
theorem out_kernel : Cert.quiescent_Out := fun m ρ _ => Cert.Out.Gen.frame m ρ

/-- Output projection: so does the idealized call. -/
theorem out_ideal : Cert.quiescent_OutIdeal := fun m ρ _ => Cert.OutIdeal.Gen.frame m ρ

/-- Output projection: so does the reference. -/
theorem out_reference : Cert.quiescent_OutReferenceIdeal := fun m ρ _ =>
  (θ_run Cert.OutReferenceIdeal.defs _ _).mono (fun r h => ⟨fun c => (h c).2, sem_eq_zero_of_no_sems rfl r.2⟩)
    (Cert.OutReferenceIdeal.Value.run m ρ)

/-- Output projection: the call leaves what the reference leaves. -/
theorem out_same : Cert.algebraic_OutIdeal_OutReferenceIdeal := by
  intro m ρ m' ρ' _ hargs
  refine ⟨fun c => (Cert.OutIdeal.Gen.dats m 0 c).arrAt 2 (Cert.OutIdeal.cfgs 0).N, Cert.OutIdeal.Value.run_blocks m ρ,
    (θ_run Cert.OutReferenceIdeal.defs _ _).mono (fun r h c => ?_) (Cert.OutReferenceIdeal.Value.run m' ρ')⟩
  obtain ⟨v, k⟩ := h c
  obtain ⟨e0, e1⟩ := hargs c
  refine ⟨v.trans ?_, k⟩
  rw [e0, e1]
  exact (Cert.OutIdeal.Product.final m c).symm

/-! ## The merge, the modulation and the optimizer -/

/-- Gated merge, backward: the call on the machine's floats runs and leaves its arguments alone. -/
theorem mergeX_kernel : Cert.quiescent_MergeX := fun m ρ _ => Cert.MergeX.Gen.frame m ρ

/-- Gated merge, backward: so does the idealized call. -/
theorem mergeX_ideal : Cert.quiescent_MergeXIdeal := fun m ρ _ => Cert.MergeXIdeal.Gen.frame m ρ

/-- Gated merge, backward: so does the reference. -/
theorem mergeX_reference : Cert.quiescent_MergeXReferenceIdeal := fun m ρ _ =>
  (θ_run Cert.MergeXReferenceIdeal.defs _ _).mono (fun r h => ⟨fun c => (h c).2.2.2.2.2.2.2, sem_eq_zero_of_no_sems rfl r.2⟩)
    (Cert.MergeXReferenceIdeal.Value.run m ρ)

/-- Gated merge, backward: the call leaves what the reference leaves. -/
theorem mergeX_same : Cert.algebraic_MergeXIdeal_MergeXReferenceIdeal := by
  intro m ρ m' ρ' _ hargs
  refine ⟨fun c => (Cert.MergeXIdeal.Gen.dats m 0 c).arrAt 8 (Cert.MergeXIdeal.cfgs 0).N,
    fun c => (Cert.MergeXIdeal.Gen.dats m 0 c).arrAt 9 (Cert.MergeXIdeal.cfgs 0).N,
    fun c => (Cert.MergeXIdeal.Gen.dats m 0 c).arrAt 10 (Cert.MergeXIdeal.cfgs 0).N,
    fun c => (Cert.MergeXIdeal.Gen.dats m 0 c).arrAt 11 (Cert.MergeXIdeal.cfgs 0).N,
    fun c => (Cert.MergeXIdeal.Gen.dats m 0 c).arrAt 12 (Cert.MergeXIdeal.cfgs 0).N,
    fun c => (Cert.MergeXIdeal.Gen.dats m 0 c).arrAt 13 (Cert.MergeXIdeal.cfgs 0).N,
    fun c => (Cert.MergeXIdeal.Gen.dats m 0 c).arrAt 14 (Cert.MergeXIdeal.cfgs 0).N,
    Cert.MergeXIdeal.Value.run_blocks m ρ,
    (θ_run Cert.MergeXReferenceIdeal.defs _ _).mono (fun r h c => ?_) (Cert.MergeXReferenceIdeal.Value.run m' ρ')⟩
  obtain ⟨v0, v1, v2, v3, v4, v5, v6, k⟩ := h c
  obtain ⟨e0, e1, e2, e3, e4, e5, e6, e7⟩ := hargs c
  refine ⟨v0.trans ?_, v1.trans ?_, v2.trans ?_, v3.trans ?_, v4.trans ?_, v5.trans ?_, v6.trans ?_, k⟩
  · rw [e3, e4, e7]
    exact (Cert.MergeXIdeal.Product.final_branch_a m c).symm
  · rw [e3, e5, e7]
    exact (Cert.MergeXIdeal.Product.final_branch_b m c).symm
  · rw [e3, e6, e7]
    exact (Cert.MergeXIdeal.Product.final_branch_c m c).symm
  · rw [e0, e1, e2, e3, e4, e5, e6, e7]
    exact (Cert.MergeXIdeal.Product.final_logits m c).symm
  · rw [e0, e3, e7]
    exact (Cert.MergeXIdeal.Product.final_weight_a m c).symm
  · rw [e1, e3, e7]
    exact (Cert.MergeXIdeal.Product.final_weight_b m c).symm
  · rw [e2, e3, e7]
    exact (Cert.MergeXIdeal.Product.final_weight_c m c).symm

/-- Gated merge, forward: the call on the machine's floats runs and leaves its arguments alone. -/
theorem merge_kernel : Cert.quiescent_Merge := fun m ρ _ => Cert.Merge.Gen.frame m ρ

/-- Gated merge, forward: so does the idealized call. -/
theorem merge_ideal : Cert.quiescent_MergeIdeal := fun m ρ _ => Cert.MergeIdeal.Gen.frame m ρ

/-- Gated merge, forward: so does the reference. -/
theorem merge_reference : Cert.quiescent_MergeReferenceIdeal := fun m ρ _ =>
  (θ_run Cert.MergeReferenceIdeal.defs _ _).mono (fun r h => ⟨fun c => (h c).2, sem_eq_zero_of_no_sems rfl r.2⟩)
    (Cert.MergeReferenceIdeal.Value.run m ρ)

/-- Gated merge, forward: the call leaves what the reference leaves. -/
theorem merge_same : Cert.algebraic_MergeIdeal_MergeReferenceIdeal := by
  intro m ρ m' ρ' _ hargs
  refine ⟨fun c => (Cert.MergeIdeal.Gen.dats m 0 c).arrAt 7 (Cert.MergeIdeal.cfgs 0).N,
    Cert.MergeIdeal.Value.run_blocks m ρ,
    (θ_run Cert.MergeReferenceIdeal.defs _ _).mono (fun r h c => ?_) (Cert.MergeReferenceIdeal.Value.run m' ρ')⟩
  obtain ⟨v0, k⟩ := h c
  obtain ⟨e0, e1, e2, e3, e4, e5, e6⟩ := hargs c
  refine ⟨v0.trans ?_, k⟩
  · rw [e0, e1, e2, e3, e4, e5, e6]
    exact (Cert.MergeIdeal.Product.final m c).symm

/-- Gradient of the modulation's weight: the call on the machine's floats runs and leaves its arguments alone. -/
theorem adaW_kernel : Cert.quiescent_AdaW := fun m ρ _ => Cert.AdaW.Gen.frame m ρ

/-- Gradient of the modulation's weight: so does the idealized call. -/
theorem adaW_ideal : Cert.quiescent_AdaWIdeal := fun m ρ _ => Cert.AdaWIdeal.Gen.frame m ρ

/-- Gradient of the modulation's weight: so does the reference. -/
theorem adaW_reference : Cert.quiescent_AdaWReferenceIdeal := fun m ρ _ =>
  (θ_run Cert.AdaWReferenceIdeal.defs _ _).mono (fun r h => ⟨fun c => (h c).2, sem_eq_zero_of_no_sems rfl r.2⟩)
    (Cert.AdaWReferenceIdeal.Value.run m ρ)

/-- Gradient of the modulation's weight: the call leaves what the reference leaves. -/
theorem adaW_same : Cert.algebraic_AdaWIdeal_AdaWReferenceIdeal := by
  intro m ρ m' ρ' _ hargs
  refine ⟨fun c => (Cert.AdaWIdeal.Gen.dats m 0 c).arrAt 2 (Cert.AdaWIdeal.cfgs 0).N,
    Cert.AdaWIdeal.Value.run_blocks m ρ,
    (θ_run Cert.AdaWReferenceIdeal.defs _ _).mono (fun r h c => ?_) (Cert.AdaWReferenceIdeal.Value.run m' ρ')⟩
  obtain ⟨v0, k⟩ := h c
  obtain ⟨e0, e1⟩ := hargs c
  refine ⟨v0.trans ?_, k⟩
  · rw [e0, e1]
    exact (Cert.AdaWIdeal.Product.final m c).symm

/-- Modulation, forward: the call on the machine's floats runs and leaves its arguments alone. -/
theorem mod_kernel : Cert.quiescent_Mod := fun m ρ _ => Cert.Mod.Gen.frame m ρ

/-- Modulation, forward: so does the idealized call. -/
theorem mod_ideal : Cert.quiescent_ModIdeal := fun m ρ _ => Cert.ModIdeal.Gen.frame m ρ

/-- Modulation, forward: so does the reference. -/
theorem mod_reference : Cert.quiescent_ModReferenceIdeal := fun m ρ _ =>
  (θ_run Cert.ModReferenceIdeal.defs _ _).mono (fun r h => ⟨fun c => (h c).2, sem_eq_zero_of_no_sems rfl r.2⟩)
    (Cert.ModReferenceIdeal.Value.run m ρ)

/-- Modulation, forward: the call leaves what the reference leaves. -/
theorem mod_same : Cert.algebraic_ModIdeal_ModReferenceIdeal := by
  intro m ρ m' ρ' _ hargs
  refine ⟨fun c => (Cert.ModIdeal.Gen.dats m 0 c).arrAt 3 (Cert.ModIdeal.cfgs 0).N,
    Cert.ModIdeal.Value.run_blocks m ρ,
    (θ_run Cert.ModReferenceIdeal.defs _ _).mono (fun r h c => ?_) (Cert.ModReferenceIdeal.Value.run m' ρ')⟩
  obtain ⟨v0, k⟩ := h c
  obtain ⟨e0, e1, e2⟩ := hargs c
  refine ⟨v0.trans ?_, k⟩
  · rw [e0, e1, e2]
    exact (Cert.ModIdeal.Product.final m c).symm

/-- AdamW of the modulation's weight: the call on the machine's floats runs and leaves its arguments alone. -/
theorem adamAda_kernel : Cert.quiescent_AdamAda := fun m ρ _ => Cert.AdamAda.Gen.frame m ρ

/-- AdamW of the modulation's weight: so does the idealized call. -/
theorem adamAda_ideal : Cert.quiescent_AdamAdaIdeal := fun m ρ _ => Cert.AdamAdaIdeal.Gen.frame m ρ

/-- AdamW of the modulation's weight: so does the reference. -/
theorem adamAda_reference : Cert.quiescent_AdamAdaReferenceIdeal := fun m ρ _ =>
  (θ_run Cert.AdamAdaReferenceIdeal.defs _ _).mono (fun r h => ⟨fun c => (h c).2.2.2.2, sem_eq_zero_of_no_sems rfl r.2⟩)
    (Cert.AdamAdaReferenceIdeal.Value.run m ρ)

/-- AdamW of the modulation's weight: the call leaves what the reference leaves. -/
theorem adamAda_same : Cert.algebraic_AdamAdaIdeal_AdamAdaReferenceIdeal := by
  intro m ρ m' ρ' _ hargs
  refine ⟨fun c => (Cert.AdamAdaIdeal.Gen.dats m 0 c).arrAt 4 (Cert.AdamAdaIdeal.cfgs 0).N,
    fun c => (Cert.AdamAdaIdeal.Gen.dats m 0 c).arrAt 5 (Cert.AdamAdaIdeal.cfgs 0).N,
    fun c => (Cert.AdamAdaIdeal.Gen.dats m 0 c).arrAt 6 (Cert.AdamAdaIdeal.cfgs 0).N,
    fun c => (Cert.AdamAdaIdeal.Gen.dats m 0 c).arrAt 7 (Cert.AdamAdaIdeal.cfgs 0).N,
    Cert.AdamAdaIdeal.Value.run_blocks m ρ,
    (θ_run Cert.AdamAdaReferenceIdeal.defs _ _).mono (fun r h c => ?_) (Cert.AdamAdaReferenceIdeal.Value.run m' ρ')⟩
  obtain ⟨v0, v1, v2, v3, k⟩ := h c
  obtain ⟨e0, e1, e2, e3⟩ := hargs c
  refine ⟨v0.trans ?_, v1.trans ?_, v2.trans ?_, v3.trans ?_, k⟩
  · rw [e0, e1, e2, e3]
    exact (Cert.AdamAdaIdeal.Product.final_delta m c).symm
  · rw [e0, e2]
    exact (Cert.AdamAdaIdeal.Product.final_moment m c).symm
  · rw [e0, e3]
    exact (Cert.AdamAdaIdeal.Product.final_second m c).symm
  · rw [e0]
    exact (Cert.AdamAdaIdeal.Product.final_grad m c).symm

/-- AdamW of the in-projection: the call on the machine's floats runs and leaves its arguments alone. -/
theorem adamIn_kernel : Cert.quiescent_AdamIn := fun m ρ _ => Cert.AdamIn.Gen.frame m ρ

/-- AdamW of the in-projection: so does the idealized call. -/
theorem adamIn_ideal : Cert.quiescent_AdamInIdeal := fun m ρ _ => Cert.AdamInIdeal.Gen.frame m ρ

/-- AdamW of the in-projection: so does the reference. -/
theorem adamIn_reference : Cert.quiescent_AdamInReferenceIdeal := fun m ρ _ =>
  (θ_run Cert.AdamInReferenceIdeal.defs _ _).mono (fun r h => ⟨fun c => (h c).2.2.2.2, sem_eq_zero_of_no_sems rfl r.2⟩)
    (Cert.AdamInReferenceIdeal.Value.run m ρ)

/-- AdamW of the in-projection: the call leaves what the reference leaves. -/
theorem adamIn_same : Cert.algebraic_AdamInIdeal_AdamInReferenceIdeal := by
  intro m ρ m' ρ' _ hargs
  refine ⟨fun c => (Cert.AdamInIdeal.Gen.dats m 0 c).arrAt 4 (Cert.AdamInIdeal.cfgs 0).N,
    fun c => (Cert.AdamInIdeal.Gen.dats m 0 c).arrAt 5 (Cert.AdamInIdeal.cfgs 0).N,
    fun c => (Cert.AdamInIdeal.Gen.dats m 0 c).arrAt 6 (Cert.AdamInIdeal.cfgs 0).N,
    fun c => (Cert.AdamInIdeal.Gen.dats m 0 c).arrAt 7 (Cert.AdamInIdeal.cfgs 0).N,
    Cert.AdamInIdeal.Value.run_blocks m ρ,
    (θ_run Cert.AdamInReferenceIdeal.defs _ _).mono (fun r h c => ?_) (Cert.AdamInReferenceIdeal.Value.run m' ρ')⟩
  obtain ⟨v0, v1, v2, v3, k⟩ := h c
  obtain ⟨e0, e1, e2, e3⟩ := hargs c
  refine ⟨v0.trans ?_, v1.trans ?_, v2.trans ?_, v3.trans ?_, k⟩
  · rw [e0, e1, e2, e3]
    exact (Cert.AdamInIdeal.Product.final_delta m c).symm
  · rw [e0, e2]
    exact (Cert.AdamInIdeal.Product.final_moment m c).symm
  · rw [e0, e3]
    exact (Cert.AdamInIdeal.Product.final_second m c).symm
  · rw [e0]
    exact (Cert.AdamInIdeal.Product.final_grad m c).symm

/-- AdamW of the branches' projections: the call on the machine's floats runs and leaves its arguments alone. -/
theorem adamBranch_kernel : Cert.quiescent_AdamBranch := fun m ρ _ => Cert.AdamBranch.Gen.frame m ρ

/-- AdamW of the branches' projections: so does the idealized call. -/
theorem adamBranch_ideal : Cert.quiescent_AdamBranchIdeal := fun m ρ _ => Cert.AdamBranchIdeal.Gen.frame m ρ

/-- AdamW of the branches' projections: so does the reference. -/
theorem adamBranch_reference : Cert.quiescent_AdamBranchReferenceIdeal := fun m ρ _ =>
  (θ_run Cert.AdamBranchReferenceIdeal.defs _ _).mono (fun r h => ⟨fun c => (h c).2.2.2.2, sem_eq_zero_of_no_sems rfl r.2⟩)
    (Cert.AdamBranchReferenceIdeal.Value.run m ρ)

/-- AdamW of the branches' projections: the call leaves what the reference leaves. -/
theorem adamBranch_same : Cert.algebraic_AdamBranchIdeal_AdamBranchReferenceIdeal := by
  intro m ρ m' ρ' _ hargs
  refine ⟨fun c => (Cert.AdamBranchIdeal.Gen.dats m 0 c).arrAt 4 (Cert.AdamBranchIdeal.cfgs 0).N,
    fun c => (Cert.AdamBranchIdeal.Gen.dats m 0 c).arrAt 5 (Cert.AdamBranchIdeal.cfgs 0).N,
    fun c => (Cert.AdamBranchIdeal.Gen.dats m 0 c).arrAt 6 (Cert.AdamBranchIdeal.cfgs 0).N,
    fun c => (Cert.AdamBranchIdeal.Gen.dats m 0 c).arrAt 7 (Cert.AdamBranchIdeal.cfgs 0).N,
    Cert.AdamBranchIdeal.Value.run_blocks m ρ,
    (θ_run Cert.AdamBranchReferenceIdeal.defs _ _).mono (fun r h c => ?_) (Cert.AdamBranchReferenceIdeal.Value.run m' ρ')⟩
  obtain ⟨v0, v1, v2, v3, k⟩ := h c
  obtain ⟨e0, e1, e2, e3⟩ := hargs c
  refine ⟨v0.trans ?_, v1.trans ?_, v2.trans ?_, v3.trans ?_, k⟩
  · rw [e0, e1, e2, e3]
    exact (Cert.AdamBranchIdeal.Product.final_delta m c).symm
  · rw [e0, e2]
    exact (Cert.AdamBranchIdeal.Product.final_moment m c).symm
  · rw [e0, e3]
    exact (Cert.AdamBranchIdeal.Product.final_second m c).symm
  · rw [e0]
    exact (Cert.AdamBranchIdeal.Product.final_grad m c).symm

/-- AdamW of the output projection: the call on the machine's floats runs and leaves its arguments alone. -/
theorem adamOut_kernel : Cert.quiescent_AdamOut := fun m ρ _ => Cert.AdamOut.Gen.frame m ρ

/-- AdamW of the output projection: so does the idealized call. -/
theorem adamOut_ideal : Cert.quiescent_AdamOutIdeal := fun m ρ _ => Cert.AdamOutIdeal.Gen.frame m ρ

/-- AdamW of the output projection: so does the reference. -/
theorem adamOut_reference : Cert.quiescent_AdamOutReferenceIdeal := fun m ρ _ =>
  (θ_run Cert.AdamOutReferenceIdeal.defs _ _).mono (fun r h => ⟨fun c => (h c).2.2.2.2, sem_eq_zero_of_no_sems rfl r.2⟩)
    (Cert.AdamOutReferenceIdeal.Value.run m ρ)

/-- AdamW of the output projection: the call leaves what the reference leaves. -/
theorem adamOut_same : Cert.algebraic_AdamOutIdeal_AdamOutReferenceIdeal := by
  intro m ρ m' ρ' _ hargs
  refine ⟨fun c => (Cert.AdamOutIdeal.Gen.dats m 0 c).arrAt 4 (Cert.AdamOutIdeal.cfgs 0).N,
    fun c => (Cert.AdamOutIdeal.Gen.dats m 0 c).arrAt 5 (Cert.AdamOutIdeal.cfgs 0).N,
    fun c => (Cert.AdamOutIdeal.Gen.dats m 0 c).arrAt 6 (Cert.AdamOutIdeal.cfgs 0).N,
    fun c => (Cert.AdamOutIdeal.Gen.dats m 0 c).arrAt 7 (Cert.AdamOutIdeal.cfgs 0).N,
    Cert.AdamOutIdeal.Value.run_blocks m ρ,
    (θ_run Cert.AdamOutReferenceIdeal.defs _ _).mono (fun r h c => ?_) (Cert.AdamOutReferenceIdeal.Value.run m' ρ')⟩
  obtain ⟨v0, v1, v2, v3, k⟩ := h c
  obtain ⟨e0, e1, e2, e3⟩ := hargs c
  refine ⟨v0.trans ?_, v1.trans ?_, v2.trans ?_, v3.trans ?_, k⟩
  · rw [e0, e1, e2, e3]
    exact (Cert.AdamOutIdeal.Product.final_delta m c).symm
  · rw [e0, e2]
    exact (Cert.AdamOutIdeal.Product.final_moment m c).symm
  · rw [e0, e3]
    exact (Cert.AdamOutIdeal.Product.final_second m c).symm
  · rw [e0]
    exact (Cert.AdamOutIdeal.Product.final_grad m c).symm

/-- AdamW of an MLP weight: the call on the machine's floats runs and leaves its arguments alone. -/
theorem adamUp_kernel : Cert.quiescent_AdamUp := fun m ρ _ => Cert.AdamUp.Gen.frame m ρ

/-- AdamW of an MLP weight: so does the idealized call. -/
theorem adamUp_ideal : Cert.quiescent_AdamUpIdeal := fun m ρ _ => Cert.AdamUpIdeal.Gen.frame m ρ

/-- AdamW of an MLP weight: so does the reference. -/
theorem adamUp_reference : Cert.quiescent_AdamUpReferenceIdeal := fun m ρ _ =>
  (θ_run Cert.AdamUpReferenceIdeal.defs _ _).mono (fun r h => ⟨fun c => (h c).2.2.2.2, sem_eq_zero_of_no_sems rfl r.2⟩)
    (Cert.AdamUpReferenceIdeal.Value.run m ρ)

/-- AdamW of an MLP weight: the call leaves what the reference leaves. -/
theorem adamUp_same : Cert.algebraic_AdamUpIdeal_AdamUpReferenceIdeal := by
  intro m ρ m' ρ' _ hargs
  refine ⟨fun c => (Cert.AdamUpIdeal.Gen.dats m 0 c).arrAt 4 (Cert.AdamUpIdeal.cfgs 0).N,
    fun c => (Cert.AdamUpIdeal.Gen.dats m 0 c).arrAt 5 (Cert.AdamUpIdeal.cfgs 0).N,
    fun c => (Cert.AdamUpIdeal.Gen.dats m 0 c).arrAt 6 (Cert.AdamUpIdeal.cfgs 0).N,
    fun c => (Cert.AdamUpIdeal.Gen.dats m 0 c).arrAt 7 (Cert.AdamUpIdeal.cfgs 0).N,
    Cert.AdamUpIdeal.Value.run_blocks m ρ,
    (θ_run Cert.AdamUpReferenceIdeal.defs _ _).mono (fun r h c => ?_) (Cert.AdamUpReferenceIdeal.Value.run m' ρ')⟩
  obtain ⟨v0, v1, v2, v3, k⟩ := h c
  obtain ⟨e0, e1, e2, e3⟩ := hargs c
  refine ⟨v0.trans ?_, v1.trans ?_, v2.trans ?_, v3.trans ?_, k⟩
  · rw [e0, e1, e2, e3]
    exact (Cert.AdamUpIdeal.Product.final_delta m c).symm
  · rw [e0, e2]
    exact (Cert.AdamUpIdeal.Product.final_moment m c).symm
  · rw [e0, e3]
    exact (Cert.AdamUpIdeal.Product.final_second m c).symm
  · rw [e0]
    exact (Cert.AdamUpIdeal.Product.final_grad m c).symm

/-- AdamW of the small weights: the call on the machine's floats runs and leaves its arguments alone. -/
theorem adamSmall_kernel : Cert.quiescent_AdamSmall := fun m ρ _ => Cert.AdamSmall.Gen.frame m ρ

/-- AdamW of the small weights: so does the idealized call. -/
theorem adamSmall_ideal : Cert.quiescent_AdamSmallIdeal := fun m ρ _ => Cert.AdamSmallIdeal.Gen.frame m ρ

/-- AdamW of the small weights: so does the reference. -/
theorem adamSmall_reference : Cert.quiescent_AdamSmallReferenceIdeal := fun m ρ _ =>
  (θ_run Cert.AdamSmallReferenceIdeal.defs _ _).mono (fun r h => ⟨fun c => (h c).2.2.2, sem_eq_zero_of_no_sems rfl r.2⟩)
    (Cert.AdamSmallReferenceIdeal.Value.run m ρ)

/-- AdamW of the small weights: the call leaves what the reference leaves. -/
theorem adamSmall_same : Cert.algebraic_AdamSmallIdeal_AdamSmallReferenceIdeal := by
  intro m ρ m' ρ' _ hargs
  refine ⟨fun c => (Cert.AdamSmallIdeal.Gen.dats m 0 c).arrAt 4 (Cert.AdamSmallIdeal.cfgs 0).N,
    fun c => (Cert.AdamSmallIdeal.Gen.dats m 0 c).arrAt 5 (Cert.AdamSmallIdeal.cfgs 0).N,
    fun c => (Cert.AdamSmallIdeal.Gen.dats m 0 c).arrAt 6 (Cert.AdamSmallIdeal.cfgs 0).N,
    Cert.AdamSmallIdeal.Value.run_blocks m ρ,
    (θ_run Cert.AdamSmallReferenceIdeal.defs _ _).mono (fun r h c => ?_) (Cert.AdamSmallReferenceIdeal.Value.run m' ρ')⟩
  obtain ⟨v0, v1, v2, k⟩ := h c
  obtain ⟨e0, e1, e2, e3⟩ := hargs c
  refine ⟨v0.trans ?_, v1.trans ?_, v2.trans ?_, k⟩
  · rw [e0, e1, e2, e3]
    exact (Cert.AdamSmallIdeal.Product.final_delta m c).symm
  · rw [e0, e2]
    exact (Cert.AdamSmallIdeal.Product.final_moment m c).symm
  · rw [e0, e3]
    exact (Cert.AdamSmallIdeal.Product.final_second m c).symm

/-- AdamW of the convolution weights: the call on the machine's floats runs and leaves its arguments alone. -/
theorem adamConv_kernel : Cert.quiescent_AdamConv := fun m ρ _ => Cert.AdamConv.Gen.frame m ρ

/-- AdamW of the convolution weights: so does the idealized call. -/
theorem adamConv_ideal : Cert.quiescent_AdamConvIdeal := fun m ρ _ => Cert.AdamConvIdeal.Gen.frame m ρ

/-- AdamW of the convolution weights: so does the reference. -/
theorem adamConv_reference : Cert.quiescent_AdamConvReferenceIdeal := fun m ρ _ =>
  (θ_run Cert.AdamConvReferenceIdeal.defs _ _).mono (fun r h => ⟨fun c => (h c).2.2.2, sem_eq_zero_of_no_sems rfl r.2⟩)
    (Cert.AdamConvReferenceIdeal.Value.run m ρ)

/-- AdamW of the convolution weights: the call leaves what the reference leaves. -/
theorem adamConv_same : Cert.algebraic_AdamConvIdeal_AdamConvReferenceIdeal := by
  intro m ρ m' ρ' _ hargs
  refine ⟨fun c => (Cert.AdamConvIdeal.Gen.dats m 0 c).arrAt 4 (Cert.AdamConvIdeal.cfgs 0).N,
    fun c => (Cert.AdamConvIdeal.Gen.dats m 0 c).arrAt 5 (Cert.AdamConvIdeal.cfgs 0).N,
    fun c => (Cert.AdamConvIdeal.Gen.dats m 0 c).arrAt 6 (Cert.AdamConvIdeal.cfgs 0).N,
    Cert.AdamConvIdeal.Value.run_blocks m ρ,
    (θ_run Cert.AdamConvReferenceIdeal.defs _ _).mono (fun r h c => ?_) (Cert.AdamConvReferenceIdeal.Value.run m' ρ')⟩
  obtain ⟨v0, v1, v2, k⟩ := h c
  obtain ⟨e0, e1, e2, e3⟩ := hargs c
  refine ⟨v0.trans ?_, v1.trans ?_, v2.trans ?_, k⟩
  · rw [e0, e1, e2, e3]
    exact (Cert.AdamConvIdeal.Product.final_delta m c).symm
  · rw [e0, e2]
    exact (Cert.AdamConvIdeal.Product.final_moment m c).symm
  · rw [e0, e3]
    exact (Cert.AdamConvIdeal.Product.final_second m c).symm

/-! ## The norms, the residuals, the loss head and the gates -/

/-- The first norm, backward: the call on the machine's floats runs and leaves its arguments alone. -/
theorem norm1X_kernel : Cert.quiescent_Norm1X := fun m ρ _ => Cert.Norm1X.Gen.frame m ρ

/-- The first norm, backward: so does the idealized call. -/
theorem norm1X_ideal : Cert.quiescent_Norm1XIdeal := fun m ρ _ => Cert.Norm1XIdeal.Gen.frame m ρ

/-- The first norm, backward: so does the reference. -/
theorem norm1X_reference : Cert.quiescent_Norm1XReferenceIdeal := fun m ρ _ =>
  (θ_run Cert.Norm1XReferenceIdeal.defs _ _).mono (fun r h => ⟨fun c => (h c).2.2.2.2, sem_eq_zero_of_no_sems rfl r.2⟩)
    (Cert.Norm1XReferenceIdeal.Value.run m ρ)

/-- The first norm, backward: the call leaves what the reference leaves. -/
theorem norm1X_same : Cert.algebraic_Norm1XIdeal_Norm1XReferenceIdeal := by
  intro m ρ m' ρ' _ hargs
  refine ⟨fun c => (Cert.Norm1XIdeal.Gen.dats m 0 c).arrAt 6 (Cert.Norm1XIdeal.cfgs 0).N,
    fun c => (Cert.Norm1XIdeal.Gen.dats m 0 c).arrAt 7 (Cert.Norm1XIdeal.cfgs 0).N,
    fun c => (Cert.Norm1XIdeal.Gen.dats m 0 c).arrAt 8 (Cert.Norm1XIdeal.cfgs 0).N,
    fun c => (Cert.Norm1XIdeal.Gen.dats m 0 c).arrAt 9 (Cert.Norm1XIdeal.cfgs 0).N,
    Cert.Norm1XIdeal.Value.run_blocks m ρ,
    (θ_run Cert.Norm1XReferenceIdeal.defs _ _).mono (fun r h c => ?_) (Cert.Norm1XReferenceIdeal.Value.run m' ρ')⟩
  obtain ⟨v0, v1, v2, v3, k⟩ := h c
  obtain ⟨e0, e1, e2, e3, e4, e5⟩ := hargs c
  refine ⟨v0.trans ?_, v1.trans ?_, v2.trans ?_, v3.trans ?_, k⟩
  · unfold Cert.Norm1XReferenceIdeal.Value.res_main_v48
    rw [e0, e1, e2, e4, e5]
    exact (Cert.Norm1XIdeal.Product.final_d_x m c).symm
  · rw [e0, e2, e4]
    exact (Cert.Norm1XIdeal.Product.final_d_norm m c).symm
  · rw [e0, e1, e4]
    exact (Cert.Norm1XIdeal.Product.final_d_scale m c).symm
  · rw [e4]
    exact (Cert.Norm1XIdeal.Product.final_d_shift m c).symm

/-- The second norm and the residual before it, backward: the call on the machine's floats runs and leaves its arguments alone. -/
theorem norm2X_kernel : Cert.quiescent_Norm2X := fun m ρ _ => Cert.Norm2X.Gen.frame m ρ

/-- The second norm and the residual before it, backward: so does the idealized call. -/
theorem norm2X_ideal : Cert.quiescent_Norm2XIdeal := fun m ρ _ => Cert.Norm2XIdeal.Gen.frame m ρ

/-- The second norm and the residual before it, backward: so does the reference. -/
theorem norm2X_reference : Cert.quiescent_Norm2XReferenceIdeal := fun m ρ _ =>
  (θ_run Cert.Norm2XReferenceIdeal.defs _ _).mono (fun r h => ⟨fun c => (h c).2.2.2.2.2.2, sem_eq_zero_of_no_sems rfl r.2⟩)
    (Cert.Norm2XReferenceIdeal.Value.run m ρ)

set_option maxHeartbeats 8000000 in
/-- The second norm and the residual before it, backward: the call leaves what the reference leaves. -/
theorem norm2X_same : Cert.algebraic_Norm2XIdeal_Norm2XReferenceIdeal := by
  intro m ρ m' ρ' _ hargs
  refine ⟨fun c => (Cert.Norm2XIdeal.Gen.dats m 0 c).arrAt 8 (Cert.Norm2XIdeal.cfgs 0).N,
    fun c => (Cert.Norm2XIdeal.Gen.dats m 0 c).arrAt 9 (Cert.Norm2XIdeal.cfgs 0).N,
    fun c => (Cert.Norm2XIdeal.Gen.dats m 0 c).arrAt 10 (Cert.Norm2XIdeal.cfgs 0).N,
    fun c => (Cert.Norm2XIdeal.Gen.dats m 0 c).arrAt 11 (Cert.Norm2XIdeal.cfgs 0).N,
    fun c => (Cert.Norm2XIdeal.Gen.dats m 0 c).arrAt 12 (Cert.Norm2XIdeal.cfgs 0).N,
    fun c => (Cert.Norm2XIdeal.Gen.dats m 0 c).arrAt 13 (Cert.Norm2XIdeal.cfgs 0).N,
    Cert.Norm2XIdeal.Value.run_blocks m ρ,
    (θ_run Cert.Norm2XReferenceIdeal.defs _ _).mono (fun r h c => ?_) (Cert.Norm2XReferenceIdeal.Value.run m' ρ')⟩
  obtain ⟨v0, v1, v2, v3, v4, v5, k⟩ := h c
  obtain ⟨e0, e1, e2, e3, e4, e5, e6, e7⟩ := hargs c
  refine ⟨v0.trans ?_, v1.trans ?_, v2.trans ?_, v3.trans ?_, v4.trans ?_, v5.trans ?_, k⟩
  · unfold Cert.Norm2XReferenceIdeal.Value.res_main_v51
    rw [e0, e1, e2, e3, e4, e6, e7]
    exact (Cert.Norm2XIdeal.Product.final_d_x m c).symm
  · unfold Cert.Norm2XReferenceIdeal.Value.res_main_v58
    rw [e0, e1, e2, e3, e4, e6, e7]
    exact (Cert.Norm2XIdeal.Product.final_d_mix m c).symm
  · unfold Cert.Norm2XReferenceIdeal.Value.res_main_v57
    rw [e0, e1, e2, e3, e4, e6, e7]
    exact (Cert.Norm2XIdeal.Product.final_d_gate m c).symm
  · rw [e0, e1, e2, e4, e6]
    exact (Cert.Norm2XIdeal.Product.final_d_norm m c).symm
  · rw [e0, e1, e2, e3, e6]
    exact (Cert.Norm2XIdeal.Product.final_d_scale m c).symm
  · rw [e6]
    exact (Cert.Norm2XIdeal.Product.final_d_shift m c).symm

/-- The last residual, backward: the call on the machine's floats runs and leaves its arguments alone. -/
theorem residX_kernel : Cert.quiescent_ResidX := fun m ρ _ => Cert.ResidX.Gen.frame m ρ

/-- The last residual, backward: so does the idealized call. -/
theorem residX_ideal : Cert.quiescent_ResidXIdeal := fun m ρ _ => Cert.ResidXIdeal.Gen.frame m ρ

/-- The last residual, backward: so does the reference. -/
theorem residX_reference : Cert.quiescent_ResidXReferenceIdeal := fun m ρ _ =>
  (θ_run Cert.ResidXReferenceIdeal.defs _ _).mono (fun r h => ⟨fun c => (h c).2.2.2, sem_eq_zero_of_no_sems rfl r.2⟩)
    (Cert.ResidXReferenceIdeal.Value.run m ρ)

/-- The last residual, backward: the call leaves what the reference leaves. -/
theorem residX_same : Cert.algebraic_ResidXIdeal_ResidXReferenceIdeal := by
  intro m ρ m' ρ' _ hargs
  refine ⟨fun c => (Cert.ResidXIdeal.Gen.dats m 0 c).arrAt 4 (Cert.ResidXIdeal.cfgs 0).N,
    fun c => (Cert.ResidXIdeal.Gen.dats m 0 c).arrAt 5 (Cert.ResidXIdeal.cfgs 0).N,
    fun c => (Cert.ResidXIdeal.Gen.dats m 0 c).arrAt 6 (Cert.ResidXIdeal.cfgs 0).N,
    Cert.ResidXIdeal.Value.run_blocks m ρ,
    (θ_run Cert.ResidXReferenceIdeal.defs _ _).mono (fun r h c => ?_) (Cert.ResidXReferenceIdeal.Value.run m' ρ')⟩
  obtain ⟨v0, v1, v2, k⟩ := h c
  obtain ⟨e0, e1, e2, e3⟩ := hargs c
  refine ⟨v0.trans ?_, v1.trans ?_, v2.trans ?_, k⟩
  · rw [e3]
    exact (Cert.ResidXIdeal.Product.final_d_x m c).symm
  · rw [e2, e3]
    exact (Cert.ResidXIdeal.Product.final_d_mlp m c).symm
  · rw [e1, e3]
    exact (Cert.ResidXIdeal.Product.final_d_gate m c).symm

/-- The first norm: the call on the machine's floats runs and leaves its arguments alone. -/
theorem norm1_kernel : Cert.quiescent_Norm1 := fun m ρ _ => Cert.Norm1.Gen.frame m ρ

/-- The first norm: so does the idealized call. -/
theorem norm1_ideal : Cert.quiescent_Norm1Ideal := fun m ρ _ => Cert.Norm1Ideal.Gen.frame m ρ

/-- The first norm: so does the reference. -/
theorem norm1_reference : Cert.quiescent_Norm1ReferenceIdeal := fun m ρ _ =>
  (θ_run Cert.Norm1ReferenceIdeal.defs _ _).mono (fun r h => ⟨fun c => (h c).2, sem_eq_zero_of_no_sems rfl r.2⟩)
    (Cert.Norm1ReferenceIdeal.Value.run m ρ)

/-- The first norm: the call leaves what the reference leaves. -/
theorem norm1_same : Cert.algebraic_Norm1Ideal_Norm1ReferenceIdeal := by
  intro m ρ m' ρ' _ hargs
  refine ⟨fun c => (Cert.Norm1Ideal.Gen.dats m 0 c).arrAt 4 (Cert.Norm1Ideal.cfgs 0).N,
    Cert.Norm1Ideal.Value.run_blocks m ρ,
    (θ_run Cert.Norm1ReferenceIdeal.defs _ _).mono (fun r h c => ?_) (Cert.Norm1ReferenceIdeal.Value.run m' ρ')⟩
  obtain ⟨v0, k⟩ := h c
  obtain ⟨e0, e1, e2, e3⟩ := hargs c
  refine ⟨v0.trans ?_, k⟩
  · rw [e0, e1, e2, e3]
    exact (Cert.Norm1Ideal.Product.final_plain m c).symm

/-- The residual and the second norm: the call on the machine's floats runs and leaves its arguments alone. -/
theorem norm2_kernel : Cert.quiescent_Norm2 := fun m ρ _ => Cert.Norm2.Gen.frame m ρ

/-- The residual and the second norm: so does the idealized call. -/
theorem norm2_ideal : Cert.quiescent_Norm2Ideal := fun m ρ _ => Cert.Norm2Ideal.Gen.frame m ρ

/-- The residual and the second norm: so does the reference. -/
theorem norm2_reference : Cert.quiescent_Norm2ReferenceIdeal := fun m ρ _ =>
  (θ_run Cert.Norm2ReferenceIdeal.defs _ _).mono (fun r h => ⟨fun c => (h c).2.2, sem_eq_zero_of_no_sems rfl r.2⟩)
    (Cert.Norm2ReferenceIdeal.Value.run m ρ)

/-- The residual and the second norm: the call leaves what the reference leaves. -/
theorem norm2_same : Cert.algebraic_Norm2Ideal_Norm2ReferenceIdeal := by
  intro m ρ m' ρ' _ hargs
  refine ⟨fun c => (Cert.Norm2Ideal.Gen.dats m 0 c).arrAt 6 (Cert.Norm2Ideal.cfgs 0).N,
    fun c => (Cert.Norm2Ideal.Gen.dats m 0 c).arrAt 7 (Cert.Norm2Ideal.cfgs 0).N,
    Cert.Norm2Ideal.Value.run_blocks m ρ,
    (θ_run Cert.Norm2ReferenceIdeal.defs _ _).mono (fun r h c => ?_) (Cert.Norm2ReferenceIdeal.Value.run m' ρ')⟩
  obtain ⟨v0, v1, k⟩ := h c
  obtain ⟨e0, e1, e2, e3, e4, e5⟩ := hargs c
  refine ⟨v0.trans ?_, v1.trans ?_, k⟩
  · rw [e0, e1, e2, e3, e4, e5]
    exact (Cert.Norm2Ideal.Product.final_normed m c).symm
  · rw [e0, e1, e2]
    exact (Cert.Norm2Ideal.Product.final_added m c).symm

/-- The last residual: the call on the machine's floats runs and leaves its arguments alone. -/
theorem resid_kernel : Cert.quiescent_Resid := fun m ρ _ => Cert.Resid.Gen.frame m ρ

/-- The last residual: so does the idealized call. -/
theorem resid_ideal : Cert.quiescent_ResidIdeal := fun m ρ _ => Cert.ResidIdeal.Gen.frame m ρ

/-- The last residual: so does the reference. -/
theorem resid_reference : Cert.quiescent_ResidReferenceIdeal := fun m ρ _ =>
  (θ_run Cert.ResidReferenceIdeal.defs _ _).mono (fun r h => ⟨fun c => (h c).2, sem_eq_zero_of_no_sems rfl r.2⟩)
    (Cert.ResidReferenceIdeal.Value.run m ρ)

/-- The last residual: the call leaves what the reference leaves. -/
theorem resid_same : Cert.algebraic_ResidIdeal_ResidReferenceIdeal := by
  intro m ρ m' ρ' _ hargs
  refine ⟨fun c => (Cert.ResidIdeal.Gen.dats m 0 c).arrAt 3 (Cert.ResidIdeal.cfgs 0).N,
    Cert.ResidIdeal.Value.run_blocks m ρ,
    (θ_run Cert.ResidReferenceIdeal.defs _ _).mono (fun r h c => ?_) (Cert.ResidReferenceIdeal.Value.run m' ρ')⟩
  obtain ⟨v0, k⟩ := h c
  obtain ⟨e0, e1, e2⟩ := hargs c
  refine ⟨v0.trans ?_, k⟩
  · rw [e0, e1, e2]
    exact (Cert.ResidIdeal.Product.final_plain m c).symm

/-- The loss head: the call on the machine's floats runs and leaves its arguments alone. -/
theorem lossHead_kernel : Cert.quiescent_LossHead := fun m ρ _ => Cert.LossHead.Gen.frame m ρ

/-- The loss head: so does the idealized call. -/
theorem lossHead_ideal : Cert.quiescent_LossHeadIdeal := fun m ρ _ => Cert.LossHeadIdeal.Gen.frame m ρ

/-- The loss head: so does the reference. -/
theorem lossHead_reference : Cert.quiescent_LossHeadReferenceIdeal := fun m ρ _ =>
  (θ_run Cert.LossHeadReferenceIdeal.defs _ _).mono (fun r h => ⟨fun c => (h c).2.2.2, sem_eq_zero_of_no_sems rfl r.2⟩)
    (Cert.LossHeadReferenceIdeal.Value.run m ρ)

/-- The loss head: the call leaves what the reference leaves. -/
theorem lossHead_same : Cert.algebraic_LossHeadIdeal_LossHeadReferenceIdeal := by
  intro m ρ m' ρ' _ hargs
  refine ⟨fun c => (Cert.LossHeadIdeal.Gen.dats m 0 c).arrAt 3 (Cert.LossHeadIdeal.cfgs 0).N,
    fun c => (Cert.LossHeadIdeal.Gen.dats m 0 c).arrAt 4 (Cert.LossHeadIdeal.cfgs 0).N,
    fun c => (Cert.LossHeadIdeal.Gen.dats m 0 c).arrAt 5 (Cert.LossHeadIdeal.cfgs 0).N,
    Cert.LossHeadIdeal.Value.run_blocks m ρ,
    (θ_run Cert.LossHeadReferenceIdeal.defs _ _).mono (fun r h c => ?_) (Cert.LossHeadReferenceIdeal.Value.run m' ρ')⟩
  obtain ⟨v0, v1, v2, k⟩ := h c
  obtain ⟨e0, e1, e2⟩ := hargs c
  refine ⟨v0.trans ?_, v1.trans ?_, v2.trans ?_, k⟩
  · rw [e0, e1, e2]
    exact (Cert.LossHeadIdeal.Product.final_loss m c).symm
  · unfold Cert.LossHeadReferenceIdeal.Value.res_main_v49
    rw [e0, e1, e2]
    exact (Cert.LossHeadIdeal.Product.final_d_x m c).symm
  · rw [e0, e1, e2]
    exact (Cert.LossHeadIdeal.Product.final_d_norm m c).symm

/-- The recurrence's output gate: the call on the machine's floats runs and leaves its arguments alone. -/
theorem lruOut_kernel : Cert.quiescent_LruOut := fun m ρ _ => Cert.LruOut.Gen.frame m ρ

/-- The recurrence's output gate: so does the idealized call. -/
theorem lruOut_ideal : Cert.quiescent_LruOutIdeal := fun m ρ _ => Cert.LruOutIdeal.Gen.frame m ρ

/-- The recurrence's output gate: so does the reference. -/
theorem lruOut_reference : Cert.quiescent_LruOutReferenceIdeal := fun m ρ _ =>
  (θ_run Cert.LruOutReferenceIdeal.defs _ _).mono (fun r h => ⟨fun c => (h c).2, sem_eq_zero_of_no_sems rfl r.2⟩)
    (Cert.LruOutReferenceIdeal.Value.run m ρ)

/-- The recurrence's output gate: the call leaves what the reference leaves. -/
theorem lruOut_same : Cert.algebraic_LruOutIdeal_LruOutReferenceIdeal := by
  intro m ρ m' ρ' _ hargs
  refine ⟨fun c => (Cert.LruOutIdeal.Gen.dats m 0 c).arrAt 2 (Cert.LruOutIdeal.cfgs 0).N,
    Cert.LruOutIdeal.Value.run_blocks m ρ,
    (θ_run Cert.LruOutReferenceIdeal.defs _ _).mono (fun r h c => ?_) (Cert.LruOutReferenceIdeal.Value.run m' ρ')⟩
  obtain ⟨v0, k⟩ := h c
  obtain ⟨e0, e1⟩ := hargs c
  refine ⟨v0.trans ?_, k⟩
  · rw [e0, e1]
    exact (Cert.LruOutIdeal.Product.final_plain m c).symm

/-- The conditioning's activation: the call on the machine's floats runs and leaves its arguments alone. -/
theorem silu_kernel : Cert.quiescent_Silu := fun m ρ _ => Cert.Silu.Gen.frame m ρ

/-- The conditioning's activation: so does the idealized call. -/
theorem silu_ideal : Cert.quiescent_SiluIdeal := fun m ρ _ => Cert.SiluIdeal.Gen.frame m ρ

/-- The conditioning's activation: so does the reference. -/
theorem silu_reference : Cert.quiescent_SiluReferenceIdeal := fun m ρ _ =>
  (θ_run Cert.SiluReferenceIdeal.defs _ _).mono (fun r h => ⟨fun c => (h c).2, sem_eq_zero_of_no_sems rfl r.2⟩)
    (Cert.SiluReferenceIdeal.Value.run m ρ)

/-- The conditioning's activation: the call leaves what the reference leaves. -/
theorem silu_same : Cert.algebraic_SiluIdeal_SiluReferenceIdeal := by
  intro m ρ m' ρ' _ hargs
  refine ⟨fun c => (Cert.SiluIdeal.Gen.dats m 0 c).arrAt 1 (Cert.SiluIdeal.cfgs 0).N,
    Cert.SiluIdeal.Value.run_blocks m ρ,
    (θ_run Cert.SiluReferenceIdeal.defs _ _).mono (fun r h c => ?_) (Cert.SiluReferenceIdeal.Value.run m' ρ')⟩
  obtain ⟨v0, k⟩ := h c
  have e0 := hargs c
  refine ⟨v0.trans ?_, k⟩
  · rw [e0]
    exact (Cert.SiluIdeal.Product.final_plain m c).symm

/-- The sum over the devices: the call on the machine's floats runs and leaves its arguments alone. -/
theorem addSmall_kernel : Cert.quiescent_AddSmall := fun m ρ _ => Cert.AddSmall.Gen.frame m ρ

/-- The sum over the devices: so does the idealized call. -/
theorem addSmall_ideal : Cert.quiescent_AddSmallIdeal := fun m ρ _ => Cert.AddSmallIdeal.Gen.frame m ρ

/-- The sum over the devices: so does the reference. -/
theorem addSmall_reference : Cert.quiescent_AddSmallReferenceIdeal := fun m ρ _ =>
  (θ_run Cert.AddSmallReferenceIdeal.defs _ _).mono (fun r h => ⟨fun c => (h c).2, sem_eq_zero_of_no_sems rfl r.2⟩)
    (Cert.AddSmallReferenceIdeal.Value.run m ρ)

/-- The sum over the devices: the call leaves what the reference leaves. -/
theorem addSmall_same : Cert.algebraic_AddSmallIdeal_AddSmallReferenceIdeal := by
  intro m ρ m' ρ' _ hargs
  refine ⟨fun c => (Cert.AddSmallIdeal.Gen.dats m 0 c).arrAt 1 (Cert.AddSmallIdeal.cfgs 0).N,
    Cert.AddSmallIdeal.Value.run_blocks m ρ,
    (θ_run Cert.AddSmallReferenceIdeal.defs _ _).mono (fun r h c => ?_) (Cert.AddSmallReferenceIdeal.Value.run m' ρ')⟩
  obtain ⟨v0, k⟩ := h c
  have e0 := hargs c
  refine ⟨v0.trans ?_, k⟩
  · rw [e0]
    exact (Cert.AddSmallIdeal.Product.final_plain m c).symm

theorem claim : Cert.Claim := ⟨Cert.Kernel.Gen.facts,
  Cert.KernelIdeal.Gen.facts,
  Cert.ReferenceIdeal.Gen.facts,
  Cert.DownX.Gen.facts,
  Cert.DownXIdeal.Gen.facts,
  Cert.DownXReferenceIdeal.Gen.facts,
  Cert.DownW.Gen.facts,
  Cert.DownWIdeal.Gen.facts,
  Cert.DownWReferenceIdeal.Gen.facts,
  Cert.UpX.Gen.facts,
  Cert.UpXIdeal.Gen.facts,
  Cert.UpXReferenceIdeal.Gen.facts,
  Cert.UpW.Gen.facts,
  Cert.UpWIdeal.Gen.facts,
  Cert.UpWReferenceIdeal.Gen.facts,
  Cert.Up.Gen.facts,
  Cert.UpIdeal.Gen.facts,
  Cert.UpReferenceIdeal.Gen.facts,
  Cert.Down.Gen.facts,
  Cert.DownIdeal.Gen.facts,
  Cert.DownReferenceIdeal.Gen.facts,
  Cert.GdnW.Gen.facts,
  Cert.GdnWIdeal.Gen.facts,
  Cert.GdnWReferenceIdeal.Gen.facts,
  Cert.SsdW.Gen.facts,
  Cert.SsdWIdeal.Gen.facts,
  Cert.SsdWReferenceIdeal.Gen.facts,
  Cert.LruW.Gen.facts,
  Cert.LruWIdeal.Gen.facts,
  Cert.LruWReferenceIdeal.Gen.facts,
  Cert.GateW.Gen.facts,
  Cert.GateWIdeal.Gen.facts,
  Cert.GateWReferenceIdeal.Gen.facts,
  Cert.GdnX.Gen.facts,
  Cert.GdnXIdeal.Gen.facts,
  Cert.GdnXReferenceIdeal.Gen.facts,
  Cert.GdnBiasX.Gen.facts,
  Cert.GdnBiasXIdeal.Gen.facts,
  Cert.GdnBiasXReferenceIdeal.Gen.facts,
  Cert.SsdX.Gen.facts,
  Cert.SsdXIdeal.Gen.facts,
  Cert.SsdXReferenceIdeal.Gen.facts,
  Cert.LruX.Gen.facts,
  Cert.LruXIdeal.Gen.facts,
  Cert.LruXReferenceIdeal.Gen.facts,
  Cert.GateX.Gen.facts,
  Cert.GateXIdeal.Gen.facts,
  Cert.GateXReferenceIdeal.Gen.facts,
  Cert.GdnIn.Gen.facts,
  Cert.GdnInIdeal.Gen.facts,
  Cert.GdnInReferenceIdeal.Gen.facts,
  Cert.SsdIn.Gen.facts,
  Cert.SsdInIdeal.Gen.facts,
  Cert.SsdInReferenceIdeal.Gen.facts,
  Cert.LruIn.Gen.facts,
  Cert.LruInIdeal.Gen.facts,
  Cert.LruInReferenceIdeal.Gen.facts,
  Cert.GateIn.Gen.facts,
  Cert.GateInIdeal.Gen.facts,
  Cert.GateInReferenceIdeal.Gen.facts,
  Cert.OutX.Gen.facts,
  Cert.OutXIdeal.Gen.facts,
  Cert.OutXReferenceIdeal.Gen.facts,
  Cert.OutW.Gen.facts,
  Cert.OutWIdeal.Gen.facts,
  Cert.OutWReferenceIdeal.Gen.facts,
  Cert.Out.Gen.facts,
  Cert.OutIdeal.Gen.facts,
  Cert.OutReferenceIdeal.Gen.facts,
  Cert.MergeX.Gen.facts,
  Cert.MergeXIdeal.Gen.facts,
  Cert.MergeXReferenceIdeal.Gen.facts,
  Cert.Merge.Gen.facts,
  Cert.MergeIdeal.Gen.facts,
  Cert.MergeReferenceIdeal.Gen.facts,
  Cert.AdaW.Gen.facts,
  Cert.AdaWIdeal.Gen.facts,
  Cert.AdaWReferenceIdeal.Gen.facts,
  Cert.Mod.Gen.facts,
  Cert.ModIdeal.Gen.facts,
  Cert.ModReferenceIdeal.Gen.facts,
  Cert.AdamAda.Gen.facts,
  Cert.AdamAdaIdeal.Gen.facts,
  Cert.AdamAdaReferenceIdeal.Gen.facts,
  Cert.AdamIn.Gen.facts,
  Cert.AdamInIdeal.Gen.facts,
  Cert.AdamInReferenceIdeal.Gen.facts,
  Cert.AdamBranch.Gen.facts,
  Cert.AdamBranchIdeal.Gen.facts,
  Cert.AdamBranchReferenceIdeal.Gen.facts,
  Cert.AdamOut.Gen.facts,
  Cert.AdamOutIdeal.Gen.facts,
  Cert.AdamOutReferenceIdeal.Gen.facts,
  Cert.AdamUp.Gen.facts,
  Cert.AdamUpIdeal.Gen.facts,
  Cert.AdamUpReferenceIdeal.Gen.facts,
  Cert.AdamSmall.Gen.facts,
  Cert.AdamSmallIdeal.Gen.facts,
  Cert.AdamSmallReferenceIdeal.Gen.facts,
  Cert.AdamConv.Gen.facts,
  Cert.AdamConvIdeal.Gen.facts,
  Cert.AdamConvReferenceIdeal.Gen.facts,
  Cert.Norm1X.Gen.facts,
  Cert.Norm1XIdeal.Gen.facts,
  Cert.Norm1XReferenceIdeal.Gen.facts,
  Cert.Norm2X.Gen.facts,
  Cert.Norm2XIdeal.Gen.facts,
  Cert.Norm2XReferenceIdeal.Gen.facts,
  Cert.ResidX.Gen.facts,
  Cert.ResidXIdeal.Gen.facts,
  Cert.ResidXReferenceIdeal.Gen.facts,
  Cert.Norm1.Gen.facts,
  Cert.Norm1Ideal.Gen.facts,
  Cert.Norm1ReferenceIdeal.Gen.facts,
  Cert.Norm2.Gen.facts,
  Cert.Norm2Ideal.Gen.facts,
  Cert.Norm2ReferenceIdeal.Gen.facts,
  Cert.Resid.Gen.facts,
  Cert.ResidIdeal.Gen.facts,
  Cert.ResidReferenceIdeal.Gen.facts,
  Cert.LossHead.Gen.facts,
  Cert.LossHeadIdeal.Gen.facts,
  Cert.LossHeadReferenceIdeal.Gen.facts,
  Cert.LruOut.Gen.facts,
  Cert.LruOutIdeal.Gen.facts,
  Cert.LruOutReferenceIdeal.Gen.facts,
  Cert.Silu.Gen.facts,
  Cert.SiluIdeal.Gen.facts,
  Cert.SiluReferenceIdeal.Gen.facts,
  Cert.AddSmall.Gen.facts,
  Cert.AddSmallIdeal.Gen.facts,
  Cert.AddSmallReferenceIdeal.Gen.facts,
  Cert.Pre_finite.Gen.facts,
  kernel_frame,
  ideal_frame,
  fun m ρ _ => ideal_frame m ρ trivial,
  reference_frame,
  fun m ρ _ => reference_frame m ρ trivial,
  downX_kernel,
  downX_ideal,
  downX_reference,
  downW_kernel,
  downW_ideal,
  downW_reference,
  upX_kernel,
  upX_ideal,
  upX_reference,
  upW_kernel,
  upW_ideal,
  upW_reference,
  up_kernel,
  up_ideal,
  up_reference,
  down_kernel,
  down_ideal,
  down_reference,
  gdnW_kernel,
  gdnW_ideal,
  gdnW_reference,
  ssdW_kernel,
  ssdW_ideal,
  ssdW_reference,
  lruW_kernel,
  lruW_ideal,
  lruW_reference,
  gateW_kernel,
  gateW_ideal,
  gateW_reference,
  gdnX_kernel,
  gdnX_ideal,
  gdnX_reference,
  gdnBiasX_kernel,
  gdnBiasX_ideal,
  gdnBiasX_reference,
  ssdX_kernel,
  ssdX_ideal,
  ssdX_reference,
  lruX_kernel,
  lruX_ideal,
  lruX_reference,
  gateX_kernel,
  gateX_ideal,
  gateX_reference,
  gdnIn_kernel,
  gdnIn_ideal,
  gdnIn_reference,
  ssdIn_kernel,
  ssdIn_ideal,
  ssdIn_reference,
  lruIn_kernel,
  lruIn_ideal,
  lruIn_reference,
  gateIn_kernel,
  gateIn_ideal,
  gateIn_reference,
  outX_kernel,
  outX_ideal,
  outX_reference,
  outW_kernel,
  outW_ideal,
  outW_reference,
  out_kernel,
  out_ideal,
  out_reference,
  mergeX_kernel,
  mergeX_ideal,
  mergeX_reference,
  merge_kernel,
  merge_ideal,
  merge_reference,
  adaW_kernel,
  adaW_ideal,
  adaW_reference,
  mod_kernel,
  mod_ideal,
  mod_reference,
  adamAda_kernel,
  adamAda_ideal,
  adamAda_reference,
  adamIn_kernel,
  adamIn_ideal,
  adamIn_reference,
  adamBranch_kernel,
  adamBranch_ideal,
  adamBranch_reference,
  adamOut_kernel,
  adamOut_ideal,
  adamOut_reference,
  adamUp_kernel,
  adamUp_ideal,
  adamUp_reference,
  adamSmall_kernel,
  adamSmall_ideal,
  adamSmall_reference,
  adamConv_kernel,
  adamConv_ideal,
  adamConv_reference,
  norm1X_kernel,
  norm1X_ideal,
  norm1X_reference,
  norm2X_kernel,
  norm2X_ideal,
  norm2X_reference,
  residX_kernel,
  residX_ideal,
  residX_reference,
  norm1_kernel,
  norm1_ideal,
  norm1_reference,
  norm2_kernel,
  norm2_ideal,
  norm2_reference,
  resid_kernel,
  resid_ideal,
  resid_reference,
  lossHead_kernel,
  lossHead_ideal,
  lossHead_reference,
  lruOut_kernel,
  lruOut_ideal,
  lruOut_reference,
  silu_kernel,
  silu_ideal,
  silu_reference,
  addSmall_kernel,
  addSmall_ideal,
  addSmall_reference,
  trivial,
  same_results,
  trivial,
  downX_same,
  trivial,
  downW_same,
  trivial,
  upX_same,
  trivial,
  upW_same,
  trivial,
  up_same,
  trivial,
  down_same,
  trivial,
  gdnW_same,
  trivial,
  ssdW_same,
  trivial,
  lruW_same,
  trivial,
  gateW_same,
  trivial,
  gdnX_same,
  trivial,
  gdnBiasX_same,
  trivial,
  ssdX_same,
  trivial,
  lruX_same,
  trivial,
  gateX_same,
  trivial,
  gdnIn_same,
  trivial,
  ssdIn_same,
  trivial,
  lruIn_same,
  trivial,
  gateIn_same,
  trivial,
  outX_same,
  trivial,
  outW_same,
  trivial,
  out_same,
  trivial,
  mergeX_same,
  trivial,
  merge_same,
  trivial,
  adaW_same,
  trivial,
  mod_same,
  trivial,
  adamAda_same,
  trivial,
  adamIn_same,
  trivial,
  adamBranch_same,
  trivial,
  adamOut_same,
  trivial,
  adamUp_same,
  trivial,
  adamSmall_same,
  trivial,
  adamConv_same,
  trivial,
  norm1X_same,
  trivial,
  norm2X_same,
  trivial,
  residX_same,
  trivial,
  norm1_same,
  trivial,
  norm2_same,
  trivial,
  resid_same,
  trivial,
  lossHead_same,
  trivial,
  lruOut_same,
  trivial,
  silu_same,
  trivial,
  addSmall_same⟩

end Cert.Proof

end
